-- ==== Defs.lean ====
def Pre_Rglru (m : (ℓ : Loc Cert.Rglru.nD Cert.Rglru.τ Cert.Rglru.sig) → Buf (Elt Bits) ℓ) : Prop :=
  True

def Pre_RglruIdeal (m : (ℓ : Loc Cert.RglruIdeal.nD Cert.RglruIdeal.τ Cert.RglruIdeal.sig) → Buf (Elt Ideal) ℓ) : Prop :=
  True

def Pre_RglruRefIdeal (m : (ℓ : Loc Cert.RglruRefIdeal.nD Cert.RglruRefIdeal.τ Cert.RglruRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnRefIdeal (m : (ℓ : Loc Cert.MemAttnRefIdeal.nD Cert.MemAttnRefIdeal.τ Cert.MemAttnRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_CmpK (m : (ℓ : Loc Cert.CmpK.nD Cert.CmpK.τ Cert.CmpK.sig) → Buf (Elt Bits) ℓ) : Prop :=
  True

def Pre_CmpKIdeal (m : (ℓ : Loc Cert.CmpKIdeal.nD Cert.CmpKIdeal.τ Cert.CmpKIdeal.sig) → Buf (Elt Ideal) ℓ) : Prop :=
  True

def Pre_CmpKRefIdeal (m : (ℓ : Loc Cert.CmpKRefIdeal.nD Cert.CmpKRefIdeal.τ Cert.CmpKRefIdeal.sig) → Buf (Elt Ideal) ℓ) : Prop :=
  True

def Pre_CmpV (m : (ℓ : Loc Cert.CmpV.nD Cert.CmpV.τ Cert.CmpV.sig) → Buf (Elt Bits) ℓ) : Prop :=
  True

def Pre_CmpVIdeal (m : (ℓ : Loc Cert.CmpVIdeal.nD Cert.CmpVIdeal.τ Cert.CmpVIdeal.sig) → Buf (Elt Ideal) ℓ) : Prop :=
  True

def Pre_CmpVRefIdeal (m : (ℓ : Loc Cert.CmpVRefIdeal.nD Cert.CmpVRefIdeal.τ Cert.CmpVRefIdeal.sig) → Buf (Elt Ideal) ℓ) : Prop :=
  True

def Pre_MNorm (m : (ℓ : Loc Cert.MNorm.nD Cert.MNorm.τ Cert.MNorm.sig) → Buf (Elt Bits) ℓ) : Prop :=
  True

def Pre_MNormIdeal (m : (ℓ : Loc Cert.MNormIdeal.nD Cert.MNormIdeal.τ Cert.MNormIdeal.sig) → Buf (Elt Ideal) ℓ) : Prop :=
  True

def Pre_MNormRefIdeal (m : (ℓ : Loc Cert.MNormRefIdeal.nD Cert.MNormRefIdeal.τ Cert.MNormRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_RopeT (m : (ℓ : Loc Cert.RopeT.nD Cert.RopeT.τ Cert.RopeT.sig) → Buf (Elt Bits) ℓ) : Prop :=
  True

def Pre_RopeTIdeal (m : (ℓ : Loc Cert.RopeTIdeal.nD Cert.RopeTIdeal.τ Cert.RopeTIdeal.sig) → Buf (Elt Ideal) ℓ) : Prop :=
  True

def Pre_RopeTRefIdeal (m : (ℓ : Loc Cert.RopeTRefIdeal.nD Cert.RopeTRefIdeal.τ Cert.RopeTRefIdeal.sig) → Buf (Elt Ideal) ℓ) : Prop :=
  True

def Pre_RopeC (m : (ℓ : Loc Cert.RopeC.nD Cert.RopeC.τ Cert.RopeC.sig) → Buf (Elt Bits) ℓ) : Prop :=
  True

def Pre_RopeCIdeal (m : (ℓ : Loc Cert.RopeCIdeal.nD Cert.RopeCIdeal.τ Cert.RopeCIdeal.sig) → Buf (Elt Ideal) ℓ) : Prop :=
  True

def Pre_RopeCRefIdeal (m : (ℓ : Loc Cert.RopeCRefIdeal.nD Cert.RopeCRefIdeal.τ Cert.RopeCRefIdeal.sig) → Buf (Elt Ideal) ℓ) : Prop :=
  True

def Pre_KvPrep (m : (ℓ : Loc Cert.KvPrep.nD Cert.KvPrep.τ Cert.KvPrep.sig) → Buf (Elt Bits) ℓ) : Prop :=
  True

def Pre_KvPrepIdeal (m : (ℓ : Loc Cert.KvPrepIdeal.nD Cert.KvPrepIdeal.τ Cert.KvPrepIdeal.sig) → Buf (Elt Ideal) ℓ) : Prop :=
  True

def Pre_KvPrepRefIdeal (m : (ℓ : Loc Cert.KvPrepRefIdeal.nD Cert.KvPrepRefIdeal.τ Cert.KvPrepRefIdeal.sig) → Buf (Elt Ideal) ℓ) : Prop :=
  True

def quiescent_Rglru [hRglru : Cert.Rglru.Facts] : Prop :=
  ∀ (m : (ℓ : Loc Cert.Rglru.nD Cert.Rglru.τ Cert.Rglru.sig) → Buf (Elt Bits) ℓ) (g : Dev Cert.Rglru.nD → PrngReg), Pre_Rglru m →
    θ_run (Cert.Rglru.defs (F := Bits)) (onTc (τ := Cert.Rglru.τ) (Cert.Rglru.main (F := Bits))) ⟨m, fun _ => 0, g⟩ (fun r => (∀ c : Dev Cert.Rglru.nD,
      r.2.mem ((c.tc : Thread Cert.Rglru.nD Cert.Rglru.τ).loc Cert.Rglru.main_arg0) = m ((c.tc : Thread Cert.Rglru.nD Cert.Rglru.τ).loc Cert.Rglru.main_arg0)
      ∧ r.2.mem ((c.tc : Thread Cert.Rglru.nD Cert.Rglru.τ).loc Cert.Rglru.main_arg1) = m ((c.tc : Thread Cert.Rglru.nD Cert.Rglru.τ).loc Cert.Rglru.main_arg1)
      ∧ r.2.mem ((c.tc : Thread Cert.Rglru.nD Cert.Rglru.τ).loc Cert.Rglru.main_arg2) = m ((c.tc : Thread Cert.Rglru.nD Cert.Rglru.τ).loc Cert.Rglru.main_arg2)
      ∧ r.2.mem ((c.tc : Thread Cert.Rglru.nD Cert.Rglru.τ).loc Cert.Rglru.main_arg3) = m ((c.tc : Thread Cert.Rglru.nD Cert.Rglru.τ).loc Cert.Rglru.main_arg3)
      ∧ r.2.mem ((c.tc : Thread Cert.Rglru.nD Cert.Rglru.τ).loc Cert.Rglru.main_arg4) = m ((c.tc : Thread Cert.Rglru.nD Cert.Rglru.τ).loc Cert.Rglru.main_arg4)
      ∧ r.2.mem ((c.tc : Thread Cert.Rglru.nD Cert.Rglru.τ).loc Cert.Rglru.main_arg5) = m ((c.tc : Thread Cert.Rglru.nD Cert.Rglru.τ).loc Cert.Rglru.main_arg5)
      ∧ r.2.mem ((c.tc : Thread Cert.Rglru.nD Cert.Rglru.τ).loc Cert.Rglru.main_arg6) = m ((c.tc : Thread Cert.Rglru.nD Cert.Rglru.τ).loc Cert.Rglru.main_arg6)
      ∧ r.2.mem ((c.tc : Thread Cert.Rglru.nD Cert.Rglru.τ).loc Cert.Rglru.main_arg7) = m ((c.tc : Thread Cert.Rglru.nD Cert.Rglru.τ).loc Cert.Rglru.main_arg7))
      ∧ r.2.sem = fun _ => 0)

def quiescent_RglruIdeal [hRglruIdeal : Cert.RglruIdeal.Facts] : Prop :=
  ∀ (m : (ℓ : Loc Cert.RglruIdeal.nD Cert.RglruIdeal.τ Cert.RglruIdeal.sig) → Buf (Elt Ideal) ℓ) (g : Dev Cert.RglruIdeal.nD → PrngReg), Pre_RglruIdeal m →
    θ_run (Cert.RglruIdeal.defs (F := Ideal)) (onTc (τ := Cert.RglruIdeal.τ) (Cert.RglruIdeal.main (F := Ideal))) ⟨m, fun _ => 0, g⟩ (fun r => (∀ c : Dev Cert.RglruIdeal.nD,
      r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
      ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
      ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
      ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
      ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
      ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
      ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
      ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7))
      ∧ r.2.sem = fun _ => 0)

def quiescent_RglruRefIdeal [hRglruRefIdeal : Cert.RglruRefIdeal.Facts] : Prop :=
  ∀ (m : (ℓ : Loc Cert.RglruRefIdeal.nD Cert.RglruRefIdeal.τ Cert.RglruRefIdeal.sig) → Buf (Elt Ideal) ℓ) (g : Dev Cert.RglruRefIdeal.nD → PrngReg), Pre_RglruRefIdeal m →
    θ_run (Cert.RglruRefIdeal.defs (F := Ideal)) (onTc (τ := Cert.RglruRefIdeal.τ) (Cert.RglruRefIdeal.main (F := Ideal))) ⟨m, fun _ => 0, g⟩ (fun r => (∀ c : Dev Cert.RglruRefIdeal.nD,
      r.2.mem ((c.tc : Thread Cert.RglruRefIdeal.nD Cert.RglruRefIdeal.τ).loc Cert.RglruRefIdeal.main_arg0) = m ((c.tc : Thread Cert.RglruRefIdeal.nD Cert.RglruRefIdeal.τ).loc Cert.RglruRefIdeal.main_arg0)
      ∧ r.2.mem ((c.tc : Thread Cert.RglruRefIdeal.nD Cert.RglruRefIdeal.τ).loc Cert.RglruRefIdeal.main_arg1) = m ((c.tc : Thread Cert.RglruRefIdeal.nD Cert.RglruRefIdeal.τ).loc Cert.RglruRefIdeal.main_arg1)
      ∧ r.2.mem ((c.tc : Thread Cert.RglruRefIdeal.nD Cert.RglruRefIdeal.τ).loc Cert.RglruRefIdeal.main_arg2) = m ((c.tc : Thread Cert.RglruRefIdeal.nD Cert.RglruRefIdeal.τ).loc Cert.RglruRefIdeal.main_arg2)
      ∧ r.2.mem ((c.tc : Thread Cert.RglruRefIdeal.nD Cert.RglruRefIdeal.τ).loc Cert.RglruRefIdeal.main_arg3) = m ((c.tc : Thread Cert.RglruRefIdeal.nD Cert.RglruRefIdeal.τ).loc Cert.RglruRefIdeal.main_arg3)
      ∧ r.2.mem ((c.tc : Thread Cert.RglruRefIdeal.nD Cert.RglruRefIdeal.τ).loc Cert.RglruRefIdeal.main_arg4) = m ((c.tc : Thread Cert.RglruRefIdeal.nD Cert.RglruRefIdeal.τ).loc Cert.RglruRefIdeal.main_arg4)
      ∧ r.2.mem ((c.tc : Thread Cert.RglruRefIdeal.nD Cert.RglruRefIdeal.τ).loc Cert.RglruRefIdeal.main_arg5) = m ((c.tc : Thread Cert.RglruRefIdeal.nD Cert.RglruRefIdeal.τ).loc Cert.RglruRefIdeal.main_arg5)
      ∧ r.2.mem ((c.tc : Thread Cert.RglruRefIdeal.nD Cert.RglruRefIdeal.τ).loc Cert.RglruRefIdeal.main_arg6) = m ((c.tc : Thread Cert.RglruRefIdeal.nD Cert.RglruRefIdeal.τ).loc Cert.RglruRefIdeal.main_arg6)
      ∧ r.2.mem ((c.tc : Thread Cert.RglruRefIdeal.nD Cert.RglruRefIdeal.τ).loc Cert.RglruRefIdeal.main_arg7) = m ((c.tc : Thread Cert.RglruRefIdeal.nD Cert.RglruRefIdeal.τ).loc Cert.RglruRefIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_CmpK [hCmpK : Cert.CmpK.Facts] : Prop :=
  ∀ (m : (ℓ : Loc Cert.CmpK.nD Cert.CmpK.τ Cert.CmpK.sig) → Buf (Elt Bits) ℓ) (g : Dev Cert.CmpK.nD → PrngReg), Pre_CmpK m →
    θ_run (Cert.CmpK.defs (F := Bits)) (onTc (τ := Cert.CmpK.τ) (Cert.CmpK.main (F := Bits))) ⟨m, fun _ => 0, g⟩ (fun r => (∀ c : Dev Cert.CmpK.nD,
      r.2.mem ((c.tc : Thread Cert.CmpK.nD Cert.CmpK.τ).loc Cert.CmpK.main_arg0) = m ((c.tc : Thread Cert.CmpK.nD Cert.CmpK.τ).loc Cert.CmpK.main_arg0)
      ∧ r.2.mem ((c.tc : Thread Cert.CmpK.nD Cert.CmpK.τ).loc Cert.CmpK.main_arg1) = m ((c.tc : Thread Cert.CmpK.nD Cert.CmpK.τ).loc Cert.CmpK.main_arg1)
      ∧ r.2.mem ((c.tc : Thread Cert.CmpK.nD Cert.CmpK.τ).loc Cert.CmpK.main_arg2) = m ((c.tc : Thread Cert.CmpK.nD Cert.CmpK.τ).loc Cert.CmpK.main_arg2)
      ∧ r.2.mem ((c.tc : Thread Cert.CmpK.nD Cert.CmpK.τ).loc Cert.CmpK.main_arg3) = m ((c.tc : Thread Cert.CmpK.nD Cert.CmpK.τ).loc Cert.CmpK.main_arg3)
      ∧ r.2.mem ((c.tc : Thread Cert.CmpK.nD Cert.CmpK.τ).loc Cert.CmpK.main_arg4) = m ((c.tc : Thread Cert.CmpK.nD Cert.CmpK.τ).loc Cert.CmpK.main_arg4)
      ∧ r.2.mem ((c.tc : Thread Cert.CmpK.nD Cert.CmpK.τ).loc Cert.CmpK.main_arg5) = m ((c.tc : Thread Cert.CmpK.nD Cert.CmpK.τ).loc Cert.CmpK.main_arg5)
      ∧ r.2.mem ((c.tc : Thread Cert.CmpK.nD Cert.CmpK.τ).loc Cert.CmpK.main_arg6) = m ((c.tc : Thread Cert.CmpK.nD Cert.CmpK.τ).loc Cert.CmpK.main_arg6))
      ∧ r.2.sem = fun _ => 0)

def quiescent_CmpKIdeal [hCmpKIdeal : Cert.CmpKIdeal.Facts] : Prop :=
  ∀ (m : (ℓ : Loc Cert.CmpKIdeal.nD Cert.CmpKIdeal.τ Cert.CmpKIdeal.sig) → Buf (Elt Ideal) ℓ) (g : Dev Cert.CmpKIdeal.nD → PrngReg), Pre_CmpKIdeal m →
    θ_run (Cert.CmpKIdeal.defs (F := Ideal)) (onTc (τ := Cert.CmpKIdeal.τ) (Cert.CmpKIdeal.main (F := Ideal))) ⟨m, fun _ => 0, g⟩ (fun r => (∀ c : Dev Cert.CmpKIdeal.nD,
      r.2.mem ((c.tc : Thread Cert.CmpKIdeal.nD Cert.CmpKIdeal.τ).loc Cert.CmpKIdeal.main_arg0) = m ((c.tc : Thread Cert.CmpKIdeal.nD Cert.CmpKIdeal.τ).loc Cert.CmpKIdeal.main_arg0)
      ∧ r.2.mem ((c.tc : Thread Cert.CmpKIdeal.nD Cert.CmpKIdeal.τ).loc Cert.CmpKIdeal.main_arg1) = m ((c.tc : Thread Cert.CmpKIdeal.nD Cert.CmpKIdeal.τ).loc Cert.CmpKIdeal.main_arg1)
      ∧ r.2.mem ((c.tc : Thread Cert.CmpKIdeal.nD Cert.CmpKIdeal.τ).loc Cert.CmpKIdeal.main_arg2) = m ((c.tc : Thread Cert.CmpKIdeal.nD Cert.CmpKIdeal.τ).loc Cert.CmpKIdeal.main_arg2)
      ∧ r.2.mem ((c.tc : Thread Cert.CmpKIdeal.nD Cert.CmpKIdeal.τ).loc Cert.CmpKIdeal.main_arg3) = m ((c.tc : Thread Cert.CmpKIdeal.nD Cert.CmpKIdeal.τ).loc Cert.CmpKIdeal.main_arg3)
      ∧ r.2.mem ((c.tc : Thread Cert.CmpKIdeal.nD Cert.CmpKIdeal.τ).loc Cert.CmpKIdeal.main_arg4) = m ((c.tc : Thread Cert.CmpKIdeal.nD Cert.CmpKIdeal.τ).loc Cert.CmpKIdeal.main_arg4)
      ∧ r.2.mem ((c.tc : Thread Cert.CmpKIdeal.nD Cert.CmpKIdeal.τ).loc Cert.CmpKIdeal.main_arg5) = m ((c.tc : Thread Cert.CmpKIdeal.nD Cert.CmpKIdeal.τ).loc Cert.CmpKIdeal.main_arg5)
      ∧ r.2.mem ((c.tc : Thread Cert.CmpKIdeal.nD Cert.CmpKIdeal.τ).loc Cert.CmpKIdeal.main_arg6) = m ((c.tc : Thread Cert.CmpKIdeal.nD Cert.CmpKIdeal.τ).loc Cert.CmpKIdeal.main_arg6))
      ∧ r.2.sem = fun _ => 0)

def quiescent_CmpKRefIdeal [hCmpKRefIdeal : Cert.CmpKRefIdeal.Facts] : Prop :=
  ∀ (m : (ℓ : Loc Cert.CmpKRefIdeal.nD Cert.CmpKRefIdeal.τ Cert.CmpKRefIdeal.sig) → Buf (Elt Ideal) ℓ) (g : Dev Cert.CmpKRefIdeal.nD → PrngReg), Pre_CmpKRefIdeal m →
    θ_run (Cert.CmpKRefIdeal.defs (F := Ideal)) (onTc (τ := Cert.CmpKRefIdeal.τ) (Cert.CmpKRefIdeal.main (F := Ideal))) ⟨m, fun _ => 0, g⟩ (fun r => (∀ c : Dev Cert.CmpKRefIdeal.nD,
      r.2.mem ((c.tc : Thread Cert.CmpKRefIdeal.nD Cert.CmpKRefIdeal.τ).loc Cert.CmpKRefIdeal.main_arg0) = m ((c.tc : Thread Cert.CmpKRefIdeal.nD Cert.CmpKRefIdeal.τ).loc Cert.CmpKRefIdeal.main_arg0)
      ∧ r.2.mem ((c.tc : Thread Cert.CmpKRefIdeal.nD Cert.CmpKRefIdeal.τ).loc Cert.CmpKRefIdeal.main_arg1) = m ((c.tc : Thread Cert.CmpKRefIdeal.nD Cert.CmpKRefIdeal.τ).loc Cert.CmpKRefIdeal.main_arg1)
      ∧ r.2.mem ((c.tc : Thread Cert.CmpKRefIdeal.nD Cert.CmpKRefIdeal.τ).loc Cert.CmpKRefIdeal.main_arg2) = m ((c.tc : Thread Cert.CmpKRefIdeal.nD Cert.CmpKRefIdeal.τ).loc Cert.CmpKRefIdeal.main_arg2)
      ∧ r.2.mem ((c.tc : Thread Cert.CmpKRefIdeal.nD Cert.CmpKRefIdeal.τ).loc Cert.CmpKRefIdeal.main_arg3) = m ((c.tc : Thread Cert.CmpKRefIdeal.nD Cert.CmpKRefIdeal.τ).loc Cert.CmpKRefIdeal.main_arg3)
      ∧ r.2.mem ((c.tc : Thread Cert.CmpKRefIdeal.nD Cert.CmpKRefIdeal.τ).loc Cert.CmpKRefIdeal.main_arg4) = m ((c.tc : Thread Cert.CmpKRefIdeal.nD Cert.CmpKRefIdeal.τ).loc Cert.CmpKRefIdeal.main_arg4)
      ∧ r.2.mem ((c.tc : Thread Cert.CmpKRefIdeal.nD Cert.CmpKRefIdeal.τ).loc Cert.CmpKRefIdeal.main_arg5) = m ((c.tc : Thread Cert.CmpKRefIdeal.nD Cert.CmpKRefIdeal.τ).loc Cert.CmpKRefIdeal.main_arg5)
      ∧ r.2.mem ((c.tc : Thread Cert.CmpKRefIdeal.nD Cert.CmpKRefIdeal.τ).loc Cert.CmpKRefIdeal.main_arg6) = m ((c.tc : Thread Cert.CmpKRefIdeal.nD Cert.CmpKRefIdeal.τ).loc Cert.CmpKRefIdeal.main_arg6))
      ∧ r.2.sem = fun _ => 0)

def quiescent_CmpV [hCmpV : Cert.CmpV.Facts] : Prop :=
  ∀ (m : (ℓ : Loc Cert.CmpV.nD Cert.CmpV.τ Cert.CmpV.sig) → Buf (Elt Bits) ℓ) (g : Dev Cert.CmpV.nD → PrngReg), Pre_CmpV m →
    θ_run (Cert.CmpV.defs (F := Bits)) (onTc (τ := Cert.CmpV.τ) (Cert.CmpV.main (F := Bits))) ⟨m, fun _ => 0, g⟩ (fun r => (∀ c : Dev Cert.CmpV.nD,
      r.2.mem ((c.tc : Thread Cert.CmpV.nD Cert.CmpV.τ).loc Cert.CmpV.main_arg0) = m ((c.tc : Thread Cert.CmpV.nD Cert.CmpV.τ).loc Cert.CmpV.main_arg0)
      ∧ r.2.mem ((c.tc : Thread Cert.CmpV.nD Cert.CmpV.τ).loc Cert.CmpV.main_arg1) = m ((c.tc : Thread Cert.CmpV.nD Cert.CmpV.τ).loc Cert.CmpV.main_arg1)
      ∧ r.2.mem ((c.tc : Thread Cert.CmpV.nD Cert.CmpV.τ).loc Cert.CmpV.main_arg2) = m ((c.tc : Thread Cert.CmpV.nD Cert.CmpV.τ).loc Cert.CmpV.main_arg2)
      ∧ r.2.mem ((c.tc : Thread Cert.CmpV.nD Cert.CmpV.τ).loc Cert.CmpV.main_arg3) = m ((c.tc : Thread Cert.CmpV.nD Cert.CmpV.τ).loc Cert.CmpV.main_arg3)
      ∧ r.2.mem ((c.tc : Thread Cert.CmpV.nD Cert.CmpV.τ).loc Cert.CmpV.main_arg4) = m ((c.tc : Thread Cert.CmpV.nD Cert.CmpV.τ).loc Cert.CmpV.main_arg4)
      ∧ r.2.mem ((c.tc : Thread Cert.CmpV.nD Cert.CmpV.τ).loc Cert.CmpV.main_arg5) = m ((c.tc : Thread Cert.CmpV.nD Cert.CmpV.τ).loc Cert.CmpV.main_arg5)
      ∧ r.2.mem ((c.tc : Thread Cert.CmpV.nD Cert.CmpV.τ).loc Cert.CmpV.main_arg6) = m ((c.tc : Thread Cert.CmpV.nD Cert.CmpV.τ).loc Cert.CmpV.main_arg6))
      ∧ r.2.sem = fun _ => 0)

def quiescent_CmpVIdeal [hCmpVIdeal : Cert.CmpVIdeal.Facts] : Prop :=
  ∀ (m : (ℓ : Loc Cert.CmpVIdeal.nD Cert.CmpVIdeal.τ Cert.CmpVIdeal.sig) → Buf (Elt Ideal) ℓ) (g : Dev Cert.CmpVIdeal.nD → PrngReg), Pre_CmpVIdeal m →
    θ_run (Cert.CmpVIdeal.defs (F := Ideal)) (onTc (τ := Cert.CmpVIdeal.τ) (Cert.CmpVIdeal.main (F := Ideal))) ⟨m, fun _ => 0, g⟩ (fun r => (∀ c : Dev Cert.CmpVIdeal.nD,
      r.2.mem ((c.tc : Thread Cert.CmpVIdeal.nD Cert.CmpVIdeal.τ).loc Cert.CmpVIdeal.main_arg0) = m ((c.tc : Thread Cert.CmpVIdeal.nD Cert.CmpVIdeal.τ).loc Cert.CmpVIdeal.main_arg0)
      ∧ r.2.mem ((c.tc : Thread Cert.CmpVIdeal.nD Cert.CmpVIdeal.τ).loc Cert.CmpVIdeal.main_arg1) = m ((c.tc : Thread Cert.CmpVIdeal.nD Cert.CmpVIdeal.τ).loc Cert.CmpVIdeal.main_arg1)
      ∧ r.2.mem ((c.tc : Thread Cert.CmpVIdeal.nD Cert.CmpVIdeal.τ).loc Cert.CmpVIdeal.main_arg2) = m ((c.tc : Thread Cert.CmpVIdeal.nD Cert.CmpVIdeal.τ).loc Cert.CmpVIdeal.main_arg2)
      ∧ r.2.mem ((c.tc : Thread Cert.CmpVIdeal.nD Cert.CmpVIdeal.τ).loc Cert.CmpVIdeal.main_arg3) = m ((c.tc : Thread Cert.CmpVIdeal.nD Cert.CmpVIdeal.τ).loc Cert.CmpVIdeal.main_arg3)
      ∧ r.2.mem ((c.tc : Thread Cert.CmpVIdeal.nD Cert.CmpVIdeal.τ).loc Cert.CmpVIdeal.main_arg4) = m ((c.tc : Thread Cert.CmpVIdeal.nD Cert.CmpVIdeal.τ).loc Cert.CmpVIdeal.main_arg4)
      ∧ r.2.mem ((c.tc : Thread Cert.CmpVIdeal.nD Cert.CmpVIdeal.τ).loc Cert.CmpVIdeal.main_arg5) = m ((c.tc : Thread Cert.CmpVIdeal.nD Cert.CmpVIdeal.τ).loc Cert.CmpVIdeal.main_arg5)
      ∧ r.2.mem ((c.tc : Thread Cert.CmpVIdeal.nD Cert.CmpVIdeal.τ).loc Cert.CmpVIdeal.main_arg6) = m ((c.tc : Thread Cert.CmpVIdeal.nD Cert.CmpVIdeal.τ).loc Cert.CmpVIdeal.main_arg6))
      ∧ r.2.sem = fun _ => 0)

def quiescent_CmpVRefIdeal [hCmpVRefIdeal : Cert.CmpVRefIdeal.Facts] : Prop :=
  ∀ (m : (ℓ : Loc Cert.CmpVRefIdeal.nD Cert.CmpVRefIdeal.τ Cert.CmpVRefIdeal.sig) → Buf (Elt Ideal) ℓ) (g : Dev Cert.CmpVRefIdeal.nD → PrngReg), Pre_CmpVRefIdeal m →
    θ_run (Cert.CmpVRefIdeal.defs (F := Ideal)) (onTc (τ := Cert.CmpVRefIdeal.τ) (Cert.CmpVRefIdeal.main (F := Ideal))) ⟨m, fun _ => 0, g⟩ (fun r => (∀ c : Dev Cert.CmpVRefIdeal.nD,
      r.2.mem ((c.tc : Thread Cert.CmpVRefIdeal.nD Cert.CmpVRefIdeal.τ).loc Cert.CmpVRefIdeal.main_arg0) = m ((c.tc : Thread Cert.CmpVRefIdeal.nD Cert.CmpVRefIdeal.τ).loc Cert.CmpVRefIdeal.main_arg0)
      ∧ r.2.mem ((c.tc : Thread Cert.CmpVRefIdeal.nD Cert.CmpVRefIdeal.τ).loc Cert.CmpVRefIdeal.main_arg1) = m ((c.tc : Thread Cert.CmpVRefIdeal.nD Cert.CmpVRefIdeal.τ).loc Cert.CmpVRefIdeal.main_arg1)
      ∧ r.2.mem ((c.tc : Thread Cert.CmpVRefIdeal.nD Cert.CmpVRefIdeal.τ).loc Cert.CmpVRefIdeal.main_arg2) = m ((c.tc : Thread Cert.CmpVRefIdeal.nD Cert.CmpVRefIdeal.τ).loc Cert.CmpVRefIdeal.main_arg2)
      ∧ r.2.mem ((c.tc : Thread Cert.CmpVRefIdeal.nD Cert.CmpVRefIdeal.τ).loc Cert.CmpVRefIdeal.main_arg3) = m ((c.tc : Thread Cert.CmpVRefIdeal.nD Cert.CmpVRefIdeal.τ).loc Cert.CmpVRefIdeal.main_arg3)
      ∧ r.2.mem ((c.tc : Thread Cert.CmpVRefIdeal.nD Cert.CmpVRefIdeal.τ).loc Cert.CmpVRefIdeal.main_arg4) = m ((c.tc : Thread Cert.CmpVRefIdeal.nD Cert.CmpVRefIdeal.τ).loc Cert.CmpVRefIdeal.main_arg4)
      ∧ r.2.mem ((c.tc : Thread Cert.CmpVRefIdeal.nD Cert.CmpVRefIdeal.τ).loc Cert.CmpVRefIdeal.main_arg5) = m ((c.tc : Thread Cert.CmpVRefIdeal.nD Cert.CmpVRefIdeal.τ).loc Cert.CmpVRefIdeal.main_arg5)
      ∧ r.2.mem ((c.tc : Thread Cert.CmpVRefIdeal.nD Cert.CmpVRefIdeal.τ).loc Cert.CmpVRefIdeal.main_arg6) = m ((c.tc : Thread Cert.CmpVRefIdeal.nD Cert.CmpVRefIdeal.τ).loc Cert.CmpVRefIdeal.main_arg6))
      ∧ r.2.sem = fun _ => 0)

def quiescent_MNorm [hMNorm : Cert.MNorm.Facts] : Prop :=
  ∀ (m : (ℓ : Loc Cert.MNorm.nD Cert.MNorm.τ Cert.MNorm.sig) → Buf (Elt Bits) ℓ) (g : Dev Cert.MNorm.nD → PrngReg), Pre_MNorm m →
    θ_run (Cert.MNorm.defs (F := Bits)) (onTc (τ := Cert.MNorm.τ) (Cert.MNorm.main (F := Bits))) ⟨m, fun _ => 0, g⟩ (fun r => (∀ c : Dev Cert.MNorm.nD,
      r.2.mem ((c.tc : Thread Cert.MNorm.nD Cert.MNorm.τ).loc Cert.MNorm.main_arg0) = m ((c.tc : Thread Cert.MNorm.nD Cert.MNorm.τ).loc Cert.MNorm.main_arg0)
      ∧ r.2.mem ((c.tc : Thread Cert.MNorm.nD Cert.MNorm.τ).loc Cert.MNorm.main_arg1) = m ((c.tc : Thread Cert.MNorm.nD Cert.MNorm.τ).loc Cert.MNorm.main_arg1))
      ∧ r.2.sem = fun _ => 0)

def quiescent_MNormIdeal [hMNormIdeal : Cert.MNormIdeal.Facts] : Prop :=
  ∀ (m : (ℓ : Loc Cert.MNormIdeal.nD Cert.MNormIdeal.τ Cert.MNormIdeal.sig) → Buf (Elt Ideal) ℓ) (g : Dev Cert.MNormIdeal.nD → PrngReg), Pre_MNormIdeal m →
    θ_run (Cert.MNormIdeal.defs (F := Ideal)) (onTc (τ := Cert.MNormIdeal.τ) (Cert.MNormIdeal.main (F := Ideal))) ⟨m, fun _ => 0, g⟩ (fun r => (∀ c : Dev Cert.MNormIdeal.nD,
      r.2.mem ((c.tc : Thread Cert.MNormIdeal.nD Cert.MNormIdeal.τ).loc Cert.MNormIdeal.main_arg0) = m ((c.tc : Thread Cert.MNormIdeal.nD Cert.MNormIdeal.τ).loc Cert.MNormIdeal.main_arg0)
      ∧ r.2.mem ((c.tc : Thread Cert.MNormIdeal.nD Cert.MNormIdeal.τ).loc Cert.MNormIdeal.main_arg1) = m ((c.tc : Thread Cert.MNormIdeal.nD Cert.MNormIdeal.τ).loc Cert.MNormIdeal.main_arg1))
      ∧ r.2.sem = fun _ => 0)

def quiescent_MNormRefIdeal [hMNormRefIdeal : Cert.MNormRefIdeal.Facts] : Prop :=
  ∀ (m : (ℓ : Loc Cert.MNormRefIdeal.nD Cert.MNormRefIdeal.τ Cert.MNormRefIdeal.sig) → Buf (Elt Ideal) ℓ) (g : Dev Cert.MNormRefIdeal.nD → PrngReg), Pre_MNormRefIdeal m →
    θ_run (Cert.MNormRefIdeal.defs (F := Ideal)) (onTc (τ := Cert.MNormRefIdeal.τ) (Cert.MNormRefIdeal.main (F := Ideal))) ⟨m, fun _ => 0, g⟩ (fun r => (∀ c : Dev Cert.MNormRefIdeal.nD,
      r.2.mem ((c.tc : Thread Cert.MNormRefIdeal.nD Cert.MNormRefIdeal.τ).loc Cert.MNormRefIdeal.main_arg0) = m ((c.tc : Thread Cert.MNormRefIdeal.nD Cert.MNormRefIdeal.τ).loc Cert.MNormRefIdeal.main_arg0)
      ∧ r.2.mem ((c.tc : Thread Cert.MNormRefIdeal.nD Cert.MNormRefIdeal.τ).loc Cert.MNormRefIdeal.main_arg1) = m ((c.tc : Thread Cert.MNormRefIdeal.nD Cert.MNormRefIdeal.τ).loc Cert.MNormRefIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_RopeT [hRopeT : Cert.RopeT.Facts] : Prop :=
  ∀ (m : (ℓ : Loc Cert.RopeT.nD Cert.RopeT.τ Cert.RopeT.sig) → Buf (Elt Bits) ℓ) (g : Dev Cert.RopeT.nD → PrngReg), Pre_RopeT m →
    θ_run (Cert.RopeT.defs (F := Bits)) (onTc (τ := Cert.RopeT.τ) (Cert.RopeT.main (F := Bits))) ⟨m, fun _ => 0, g⟩ (fun r => (∀ c : Dev Cert.RopeT.nD,
      r.2.mem ((c.tc : Thread Cert.RopeT.nD Cert.RopeT.τ).loc Cert.RopeT.main_arg0) = m ((c.tc : Thread Cert.RopeT.nD Cert.RopeT.τ).loc Cert.RopeT.main_arg0))
      ∧ r.2.sem = fun _ => 0)

def quiescent_RopeTIdeal [hRopeTIdeal : Cert.RopeTIdeal.Facts] : Prop :=
  ∀ (m : (ℓ : Loc Cert.RopeTIdeal.nD Cert.RopeTIdeal.τ Cert.RopeTIdeal.sig) → Buf (Elt Ideal) ℓ) (g : Dev Cert.RopeTIdeal.nD → PrngReg), Pre_RopeTIdeal m →
    θ_run (Cert.RopeTIdeal.defs (F := Ideal)) (onTc (τ := Cert.RopeTIdeal.τ) (Cert.RopeTIdeal.main (F := Ideal))) ⟨m, fun _ => 0, g⟩ (fun r => (∀ c : Dev Cert.RopeTIdeal.nD,
      r.2.mem ((c.tc : Thread Cert.RopeTIdeal.nD Cert.RopeTIdeal.τ).loc Cert.RopeTIdeal.main_arg0) = m ((c.tc : Thread Cert.RopeTIdeal.nD Cert.RopeTIdeal.τ).loc Cert.RopeTIdeal.main_arg0))
      ∧ r.2.sem = fun _ => 0)

def quiescent_RopeTRefIdeal [hRopeTRefIdeal : Cert.RopeTRefIdeal.Facts] : Prop :=
  ∀ (m : (ℓ : Loc Cert.RopeTRefIdeal.nD Cert.RopeTRefIdeal.τ Cert.RopeTRefIdeal.sig) → Buf (Elt Ideal) ℓ) (g : Dev Cert.RopeTRefIdeal.nD → PrngReg), Pre_RopeTRefIdeal m →
    θ_run (Cert.RopeTRefIdeal.defs (F := Ideal)) (onTc (τ := Cert.RopeTRefIdeal.τ) (Cert.RopeTRefIdeal.main (F := Ideal))) ⟨m, fun _ => 0, g⟩ (fun r => (∀ c : Dev Cert.RopeTRefIdeal.nD,
      r.2.mem ((c.tc : Thread Cert.RopeTRefIdeal.nD Cert.RopeTRefIdeal.τ).loc Cert.RopeTRefIdeal.main_arg0) = m ((c.tc : Thread Cert.RopeTRefIdeal.nD Cert.RopeTRefIdeal.τ).loc Cert.RopeTRefIdeal.main_arg0))
      ∧ r.2.sem = fun _ => 0)

def quiescent_RopeC [hRopeC : Cert.RopeC.Facts] : Prop :=
  ∀ (m : (ℓ : Loc Cert.RopeC.nD Cert.RopeC.τ Cert.RopeC.sig) → Buf (Elt Bits) ℓ) (g : Dev Cert.RopeC.nD → PrngReg), Pre_RopeC m →
    θ_run (Cert.RopeC.defs (F := Bits)) (onTc (τ := Cert.RopeC.τ) (Cert.RopeC.main (F := Bits))) ⟨m, fun _ => 0, g⟩ (fun r => (∀ c : Dev Cert.RopeC.nD,
      r.2.mem ((c.tc : Thread Cert.RopeC.nD Cert.RopeC.τ).loc Cert.RopeC.main_arg0) = m ((c.tc : Thread Cert.RopeC.nD Cert.RopeC.τ).loc Cert.RopeC.main_arg0))
      ∧ r.2.sem = fun _ => 0)

def quiescent_RopeCIdeal [hRopeCIdeal : Cert.RopeCIdeal.Facts] : Prop :=
  ∀ (m : (ℓ : Loc Cert.RopeCIdeal.nD Cert.RopeCIdeal.τ Cert.RopeCIdeal.sig) → Buf (Elt Ideal) ℓ) (g : Dev Cert.RopeCIdeal.nD → PrngReg), Pre_RopeCIdeal m →
    θ_run (Cert.RopeCIdeal.defs (F := Ideal)) (onTc (τ := Cert.RopeCIdeal.τ) (Cert.RopeCIdeal.main (F := Ideal))) ⟨m, fun _ => 0, g⟩ (fun r => (∀ c : Dev Cert.RopeCIdeal.nD,
      r.2.mem ((c.tc : Thread Cert.RopeCIdeal.nD Cert.RopeCIdeal.τ).loc Cert.RopeCIdeal.main_arg0) = m ((c.tc : Thread Cert.RopeCIdeal.nD Cert.RopeCIdeal.τ).loc Cert.RopeCIdeal.main_arg0))
      ∧ r.2.sem = fun _ => 0)

def quiescent_RopeCRefIdeal [hRopeCRefIdeal : Cert.RopeCRefIdeal.Facts] : Prop :=
  ∀ (m : (ℓ : Loc Cert.RopeCRefIdeal.nD Cert.RopeCRefIdeal.τ Cert.RopeCRefIdeal.sig) → Buf (Elt Ideal) ℓ) (g : Dev Cert.RopeCRefIdeal.nD → PrngReg), Pre_RopeCRefIdeal m →
    θ_run (Cert.RopeCRefIdeal.defs (F := Ideal)) (onTc (τ := Cert.RopeCRefIdeal.τ) (Cert.RopeCRefIdeal.main (F := Ideal))) ⟨m, fun _ => 0, g⟩ (fun r => (∀ c : Dev Cert.RopeCRefIdeal.nD,
      r.2.mem ((c.tc : Thread Cert.RopeCRefIdeal.nD Cert.RopeCRefIdeal.τ).loc Cert.RopeCRefIdeal.main_arg0) = m ((c.tc : Thread Cert.RopeCRefIdeal.nD Cert.RopeCRefIdeal.τ).loc Cert.RopeCRefIdeal.main_arg0))
      ∧ r.2.sem = fun _ => 0)

def quiescent_KvPrep [hKvPrep : Cert.KvPrep.Facts] : Prop :=
  ∀ (m : (ℓ : Loc Cert.KvPrep.nD Cert.KvPrep.τ Cert.KvPrep.sig) → Buf (Elt Bits) ℓ) (g : Dev Cert.KvPrep.nD → PrngReg), Pre_KvPrep m →
    θ_run (Cert.KvPrep.defs (F := Bits)) (onTc (τ := Cert.KvPrep.τ) (Cert.KvPrep.main (F := Bits))) ⟨m, fun _ => 0, g⟩ (fun r => (∀ c : Dev Cert.KvPrep.nD,
      r.2.mem ((c.tc : Thread Cert.KvPrep.nD Cert.KvPrep.τ).loc Cert.KvPrep.main_arg0) = m ((c.tc : Thread Cert.KvPrep.nD Cert.KvPrep.τ).loc Cert.KvPrep.main_arg0)
      ∧ r.2.mem ((c.tc : Thread Cert.KvPrep.nD Cert.KvPrep.τ).loc Cert.KvPrep.main_arg1) = m ((c.tc : Thread Cert.KvPrep.nD Cert.KvPrep.τ).loc Cert.KvPrep.main_arg1)
      ∧ r.2.mem ((c.tc : Thread Cert.KvPrep.nD Cert.KvPrep.τ).loc Cert.KvPrep.main_arg2) = m ((c.tc : Thread Cert.KvPrep.nD Cert.KvPrep.τ).loc Cert.KvPrep.main_arg2))
      ∧ r.2.sem = fun _ => 0)

def quiescent_KvPrepIdeal [hKvPrepIdeal : Cert.KvPrepIdeal.Facts] : Prop :=
  ∀ (m : (ℓ : Loc Cert.KvPrepIdeal.nD Cert.KvPrepIdeal.τ Cert.KvPrepIdeal.sig) → Buf (Elt Ideal) ℓ) (g : Dev Cert.KvPrepIdeal.nD → PrngReg), Pre_KvPrepIdeal m →
    θ_run (Cert.KvPrepIdeal.defs (F := Ideal)) (onTc (τ := Cert.KvPrepIdeal.τ) (Cert.KvPrepIdeal.main (F := Ideal))) ⟨m, fun _ => 0, g⟩ (fun r => (∀ c : Dev Cert.KvPrepIdeal.nD,
      r.2.mem ((c.tc : Thread Cert.KvPrepIdeal.nD Cert.KvPrepIdeal.τ).loc Cert.KvPrepIdeal.main_arg0) = m ((c.tc : Thread Cert.KvPrepIdeal.nD Cert.KvPrepIdeal.τ).loc Cert.KvPrepIdeal.main_arg0)
      ∧ r.2.mem ((c.tc : Thread Cert.KvPrepIdeal.nD Cert.KvPrepIdeal.τ).loc Cert.KvPrepIdeal.main_arg1) = m ((c.tc : Thread Cert.KvPrepIdeal.nD Cert.KvPrepIdeal.τ).loc Cert.KvPrepIdeal.main_arg1)
      ∧ r.2.mem ((c.tc : Thread Cert.KvPrepIdeal.nD Cert.KvPrepIdeal.τ).loc Cert.KvPrepIdeal.main_arg2) = m ((c.tc : Thread Cert.KvPrepIdeal.nD Cert.KvPrepIdeal.τ).loc Cert.KvPrepIdeal.main_arg2))
      ∧ r.2.sem = fun _ => 0)

def quiescent_KvPrepRefIdeal [hKvPrepRefIdeal : Cert.KvPrepRefIdeal.Facts] : Prop :=
  ∀ (m : (ℓ : Loc Cert.KvPrepRefIdeal.nD Cert.KvPrepRefIdeal.τ Cert.KvPrepRefIdeal.sig) → Buf (Elt Ideal) ℓ) (g : Dev Cert.KvPrepRefIdeal.nD → PrngReg), Pre_KvPrepRefIdeal m →
    θ_run (Cert.KvPrepRefIdeal.defs (F := Ideal)) (onTc (τ := Cert.KvPrepRefIdeal.τ) (Cert.KvPrepRefIdeal.main (F := Ideal))) ⟨m, fun _ => 0, g⟩ (fun r => (∀ c : Dev Cert.KvPrepRefIdeal.nD,
      r.2.mem ((c.tc : Thread Cert.KvPrepRefIdeal.nD Cert.KvPrepRefIdeal.τ).loc Cert.KvPrepRefIdeal.main_arg0) = m ((c.tc : Thread Cert.KvPrepRefIdeal.nD Cert.KvPrepRefIdeal.τ).loc Cert.KvPrepRefIdeal.main_arg0)
      ∧ r.2.mem ((c.tc : Thread Cert.KvPrepRefIdeal.nD Cert.KvPrepRefIdeal.τ).loc Cert.KvPrepRefIdeal.main_arg1) = m ((c.tc : Thread Cert.KvPrepRefIdeal.nD Cert.KvPrepRefIdeal.τ).loc Cert.KvPrepRefIdeal.main_arg1)
      ∧ r.2.mem ((c.tc : Thread Cert.KvPrepRefIdeal.nD Cert.KvPrepRefIdeal.τ).loc Cert.KvPrepRefIdeal.main_arg2) = m ((c.tc : Thread Cert.KvPrepRefIdeal.nD Cert.KvPrepRefIdeal.τ).loc Cert.KvPrepRefIdeal.main_arg2))
      ∧ r.2.sem = fun _ => 0)

def preserves_Rglru_RglruIdeal : Prop :=
  True

def algebraic_RglruIdeal_RglruRefIdeal [hRglruIdeal : Cert.RglruIdeal.Facts] [hRglruRefIdeal : Cert.RglruRefIdeal.Facts] : Prop :=
  ∀ (m : (ℓ : Loc Cert.RglruIdeal.nD Cert.RglruIdeal.τ Cert.RglruIdeal.sig) → Buf (Elt Ideal) ℓ) (g : Dev Cert.RglruIdeal.nD → PrngReg)
    (m' : (ℓ : Loc Cert.RglruRefIdeal.nD Cert.RglruRefIdeal.τ Cert.RglruRefIdeal.sig) → Buf (Elt Ideal) ℓ) (g' : Dev Cert.RglruRefIdeal.nD → PrngReg), Pre_RglruIdeal m →
    (∀ c : Dev Cert.RglruIdeal.nD,
      m' ((c.tc : Thread Cert.RglruRefIdeal.nD Cert.RglruRefIdeal.τ).loc Cert.RglruRefIdeal.main_arg0) = m ((c.tc : Thread Cert.RglruIdeal.nD Cert.RglruIdeal.τ).loc Cert.RglruIdeal.main_arg0)
      ∧ m' ((c.tc : Thread Cert.RglruRefIdeal.nD Cert.RglruRefIdeal.τ).loc Cert.RglruRefIdeal.main_arg1) = m ((c.tc : Thread Cert.RglruIdeal.nD Cert.RglruIdeal.τ).loc Cert.RglruIdeal.main_arg1)
      ∧ m' ((c.tc : Thread Cert.RglruRefIdeal.nD Cert.RglruRefIdeal.τ).loc Cert.RglruRefIdeal.main_arg2) = m ((c.tc : Thread Cert.RglruIdeal.nD Cert.RglruIdeal.τ).loc Cert.RglruIdeal.main_arg2)
      ∧ m' ((c.tc : Thread Cert.RglruRefIdeal.nD Cert.RglruRefIdeal.τ).loc Cert.RglruRefIdeal.main_arg3) = m ((c.tc : Thread Cert.RglruIdeal.nD Cert.RglruIdeal.τ).loc Cert.RglruIdeal.main_arg3)
      ∧ m' ((c.tc : Thread Cert.RglruRefIdeal.nD Cert.RglruRefIdeal.τ).loc Cert.RglruRefIdeal.main_arg4) = m ((c.tc : Thread Cert.RglruIdeal.nD Cert.RglruIdeal.τ).loc Cert.RglruIdeal.main_arg4)
      ∧ m' ((c.tc : Thread Cert.RglruRefIdeal.nD Cert.RglruRefIdeal.τ).loc Cert.RglruRefIdeal.main_arg5) = m ((c.tc : Thread Cert.RglruIdeal.nD Cert.RglruIdeal.τ).loc Cert.RglruIdeal.main_arg5)
      ∧ m' ((c.tc : Thread Cert.RglruRefIdeal.nD Cert.RglruRefIdeal.τ).loc Cert.RglruRefIdeal.main_arg6) = m ((c.tc : Thread Cert.RglruIdeal.nD Cert.RglruIdeal.τ).loc Cert.RglruIdeal.main_arg6)
      ∧ m' ((c.tc : Thread Cert.RglruRefIdeal.nD Cert.RglruRefIdeal.τ).loc Cert.RglruRefIdeal.main_arg7) = m ((c.tc : Thread Cert.RglruIdeal.nD Cert.RglruIdeal.τ).loc Cert.RglruIdeal.main_arg7)) →
    ∃ (v0 : (c : Dev Cert.RglruIdeal.nD) → Buf (Elt Ideal) ((c.tc : Thread Cert.RglruIdeal.nD Cert.RglruIdeal.τ).loc Cert.RglruIdeal.main_v17)),
      θ_run (Cert.RglruIdeal.defs (F := Ideal)) (onTc (τ := Cert.RglruIdeal.τ) (Cert.RglruIdeal.main (F := Ideal))) ⟨m, fun _ => 0, g⟩ (fun r => ∀ c : Dev Cert.RglruIdeal.nD,
          r.2.mem ((c.tc : Thread Cert.RglruIdeal.nD Cert.RglruIdeal.τ).loc Cert.RglruIdeal.main_v17) = v0 c
          ∧ r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
          ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
          ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
          ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
          ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
          ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
          ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
          ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7))
      ∧ θ_run (Cert.RglruRefIdeal.defs (F := Ideal)) (onTc (τ := Cert.RglruRefIdeal.τ) (Cert.RglruRefIdeal.main (F := Ideal))) ⟨m', fun _ => 0, g'⟩ (fun r => ∀ c : Dev Cert.RglruRefIdeal.nD,
          r.2.mem ((c.tc : Thread Cert.RglruRefIdeal.nD Cert.RglruRefIdeal.τ).loc Cert.RglruRefIdeal.main_v95) = v0 c
          ∧ r.2.mem ((c.tc : Thread Cert.RglruRefIdeal.nD Cert.RglruRefIdeal.τ).loc Cert.RglruRefIdeal.main_arg0) = m' ((c.tc : Thread Cert.RglruRefIdeal.nD Cert.RglruRefIdeal.τ).loc Cert.RglruRefIdeal.main_arg0)
          ∧ r.2.mem ((c.tc : Thread Cert.RglruRefIdeal.nD Cert.RglruRefIdeal.τ).loc Cert.RglruRefIdeal.main_arg1) = m' ((c.tc : Thread Cert.RglruRefIdeal.nD Cert.RglruRefIdeal.τ).loc Cert.RglruRefIdeal.main_arg1)
          ∧ r.2.mem ((c.tc : Thread Cert.RglruRefIdeal.nD Cert.RglruRefIdeal.τ).loc Cert.RglruRefIdeal.main_arg2) = m' ((c.tc : Thread Cert.RglruRefIdeal.nD Cert.RglruRefIdeal.τ).loc Cert.RglruRefIdeal.main_arg2)
          ∧ r.2.mem ((c.tc : Thread Cert.RglruRefIdeal.nD Cert.RglruRefIdeal.τ).loc Cert.RglruRefIdeal.main_arg3) = m' ((c.tc : Thread Cert.RglruRefIdeal.nD Cert.RglruRefIdeal.τ).loc Cert.RglruRefIdeal.main_arg3)
          ∧ r.2.mem ((c.tc : Thread Cert.RglruRefIdeal.nD Cert.RglruRefIdeal.τ).loc Cert.RglruRefIdeal.main_arg4) = m' ((c.tc : Thread Cert.RglruRefIdeal.nD Cert.RglruRefIdeal.τ).loc Cert.RglruRefIdeal.main_arg4)
          ∧ r.2.mem ((c.tc : Thread Cert.RglruRefIdeal.nD Cert.RglruRefIdeal.τ).loc Cert.RglruRefIdeal.main_arg5) = m' ((c.tc : Thread Cert.RglruRefIdeal.nD Cert.RglruRefIdeal.τ).loc Cert.RglruRefIdeal.main_arg5)
          ∧ r.2.mem ((c.tc : Thread Cert.RglruRefIdeal.nD Cert.RglruRefIdeal.τ).loc Cert.RglruRefIdeal.main_arg6) = m' ((c.tc : Thread Cert.RglruRefIdeal.nD Cert.RglruRefIdeal.τ).loc Cert.RglruRefIdeal.main_arg6)
          ∧ r.2.mem ((c.tc : Thread Cert.RglruRefIdeal.nD Cert.RglruRefIdeal.τ).loc Cert.RglruRefIdeal.main_arg7) = m' ((c.tc : Thread Cert.RglruRefIdeal.nD Cert.RglruRefIdeal.τ).loc Cert.RglruRefIdeal.main_arg7))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v11_0)) (v1 : (c : Dev Cert.MlpIdeal.nD) → Buf (Elt Ideal) ((c.tc : Thread Cert.MlpIdeal.nD Cert.MlpIdeal.τ).loc Cert.MlpIdeal.main_v11_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v11_0) = v0 c
          ∧ r.2.mem ((c.tc : Thread Cert.MlpIdeal.nD Cert.MlpIdeal.τ).loc Cert.MlpIdeal.main_v11_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v39) = v0 c
          ∧ r.2.mem ((c.tc : Thread Cert.MlpRefIdeal.nD Cert.MlpRefIdeal.τ).loc Cert.MlpRefIdeal.main_v41) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v12)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v12) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v28_0)) (v1 : (c : Dev Cert.MergeIdeal.nD) → Buf (Elt Ideal) ((c.tc : Thread Cert.MergeIdeal.nD Cert.MergeIdeal.τ).loc Cert.MergeIdeal.main_v28_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v28_0) = v0 c
          ∧ r.2.mem ((c.tc : Thread Cert.MergeIdeal.nD Cert.MergeIdeal.τ).loc Cert.MergeIdeal.main_v28_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v58) = v0 c
          ∧ r.2.mem ((c.tc : Thread Cert.MergeRefIdeal.nD Cert.MergeRefIdeal.τ).loc Cert.MergeRefIdeal.main_v60) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_MemAttn_MemAttnIdeal : Prop :=
  True

def algebraic_MemAttnIdeal_MemAttnRefIdeal [hMemAttnIdeal : Cert.MemAttnIdeal.Facts] [hMemAttnRefIdeal : Cert.MemAttnRefIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)) →
    ∃ (v0 : (c : Dev Cert.MemAttnIdeal.nD) → Buf (Elt Ideal) ((c.tc : Thread Cert.MemAttnIdeal.nD Cert.MemAttnIdeal.τ).loc Cert.MemAttnIdeal.main_v12)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v12) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v24) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v16) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v4) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_CmpK_CmpKIdeal : Prop :=
  True

def algebraic_CmpKIdeal_CmpKRefIdeal [hCmpKIdeal : Cert.CmpKIdeal.Facts] [hCmpKRefIdeal : Cert.CmpKRefIdeal.Facts] : Prop :=
  ∀ (m : (ℓ : Loc Cert.CmpKIdeal.nD Cert.CmpKIdeal.τ Cert.CmpKIdeal.sig) → Buf (Elt Ideal) ℓ) (g : Dev Cert.CmpKIdeal.nD → PrngReg)
    (m' : (ℓ : Loc Cert.CmpKRefIdeal.nD Cert.CmpKRefIdeal.τ Cert.CmpKRefIdeal.sig) → Buf (Elt Ideal) ℓ) (g' : Dev Cert.CmpKRefIdeal.nD → PrngReg), Pre_CmpKIdeal m →
    (∀ c : Dev Cert.CmpKIdeal.nD,
      m' ((c.tc : Thread Cert.CmpKRefIdeal.nD Cert.CmpKRefIdeal.τ).loc Cert.CmpKRefIdeal.main_arg0) = m ((c.tc : Thread Cert.CmpKIdeal.nD Cert.CmpKIdeal.τ).loc Cert.CmpKIdeal.main_arg0)
      ∧ m' ((c.tc : Thread Cert.CmpKRefIdeal.nD Cert.CmpKRefIdeal.τ).loc Cert.CmpKRefIdeal.main_arg1) = m ((c.tc : Thread Cert.CmpKIdeal.nD Cert.CmpKIdeal.τ).loc Cert.CmpKIdeal.main_arg1)
      ∧ m' ((c.tc : Thread Cert.CmpKRefIdeal.nD Cert.CmpKRefIdeal.τ).loc Cert.CmpKRefIdeal.main_arg2) = m ((c.tc : Thread Cert.CmpKIdeal.nD Cert.CmpKIdeal.τ).loc Cert.CmpKIdeal.main_arg2)
      ∧ m' ((c.tc : Thread Cert.CmpKRefIdeal.nD Cert.CmpKRefIdeal.τ).loc Cert.CmpKRefIdeal.main_arg3) = m ((c.tc : Thread Cert.CmpKIdeal.nD Cert.CmpKIdeal.τ).loc Cert.CmpKIdeal.main_arg3)
      ∧ m' ((c.tc : Thread Cert.CmpKRefIdeal.nD Cert.CmpKRefIdeal.τ).loc Cert.CmpKRefIdeal.main_arg4) = m ((c.tc : Thread Cert.CmpKIdeal.nD Cert.CmpKIdeal.τ).loc Cert.CmpKIdeal.main_arg4)
      ∧ m' ((c.tc : Thread Cert.CmpKRefIdeal.nD Cert.CmpKRefIdeal.τ).loc Cert.CmpKRefIdeal.main_arg5) = m ((c.tc : Thread Cert.CmpKIdeal.nD Cert.CmpKIdeal.τ).loc Cert.CmpKIdeal.main_arg5)
      ∧ m' ((c.tc : Thread Cert.CmpKRefIdeal.nD Cert.CmpKRefIdeal.τ).loc Cert.CmpKRefIdeal.main_arg6) = m ((c.tc : Thread Cert.CmpKIdeal.nD Cert.CmpKIdeal.τ).loc Cert.CmpKIdeal.main_arg6)) →
    ∃ (v0 : (c : Dev Cert.CmpKIdeal.nD) → Buf (Elt Ideal) ((c.tc : Thread Cert.CmpKIdeal.nD Cert.CmpKIdeal.τ).loc Cert.CmpKIdeal.main_v11)),
      θ_run (Cert.CmpKIdeal.defs (F := Ideal)) (onTc (τ := Cert.CmpKIdeal.τ) (Cert.CmpKIdeal.main (F := Ideal))) ⟨m, fun _ => 0, g⟩ (fun r => ∀ c : Dev Cert.CmpKIdeal.nD,
          r.2.mem ((c.tc : Thread Cert.CmpKIdeal.nD Cert.CmpKIdeal.τ).loc Cert.CmpKIdeal.main_v11) = v0 c
          ∧ r.2.mem ((c.tc : Thread Cert.CmpKIdeal.nD Cert.CmpKIdeal.τ).loc Cert.CmpKIdeal.main_arg0) = m ((c.tc : Thread Cert.CmpKIdeal.nD Cert.CmpKIdeal.τ).loc Cert.CmpKIdeal.main_arg0)
          ∧ r.2.mem ((c.tc : Thread Cert.CmpKIdeal.nD Cert.CmpKIdeal.τ).loc Cert.CmpKIdeal.main_arg1) = m ((c.tc : Thread Cert.CmpKIdeal.nD Cert.CmpKIdeal.τ).loc Cert.CmpKIdeal.main_arg1)
          ∧ r.2.mem ((c.tc : Thread Cert.CmpKIdeal.nD Cert.CmpKIdeal.τ).loc Cert.CmpKIdeal.main_arg2) = m ((c.tc : Thread Cert.CmpKIdeal.nD Cert.CmpKIdeal.τ).loc Cert.CmpKIdeal.main_arg2)
          ∧ r.2.mem ((c.tc : Thread Cert.CmpKIdeal.nD Cert.CmpKIdeal.τ).loc Cert.CmpKIdeal.main_arg3) = m ((c.tc : Thread Cert.CmpKIdeal.nD Cert.CmpKIdeal.τ).loc Cert.CmpKIdeal.main_arg3)
          ∧ r.2.mem ((c.tc : Thread Cert.CmpKIdeal.nD Cert.CmpKIdeal.τ).loc Cert.CmpKIdeal.main_arg4) = m ((c.tc : Thread Cert.CmpKIdeal.nD Cert.CmpKIdeal.τ).loc Cert.CmpKIdeal.main_arg4)
          ∧ r.2.mem ((c.tc : Thread Cert.CmpKIdeal.nD Cert.CmpKIdeal.τ).loc Cert.CmpKIdeal.main_arg5) = m ((c.tc : Thread Cert.CmpKIdeal.nD Cert.CmpKIdeal.τ).loc Cert.CmpKIdeal.main_arg5)
          ∧ r.2.mem ((c.tc : Thread Cert.CmpKIdeal.nD Cert.CmpKIdeal.τ).loc Cert.CmpKIdeal.main_arg6) = m ((c.tc : Thread Cert.CmpKIdeal.nD Cert.CmpKIdeal.τ).loc Cert.CmpKIdeal.main_arg6))
      ∧ θ_run (Cert.CmpKRefIdeal.defs (F := Ideal)) (onTc (τ := Cert.CmpKRefIdeal.τ) (Cert.CmpKRefIdeal.main (F := Ideal))) ⟨m', fun _ => 0, g'⟩ (fun r => ∀ c : Dev Cert.CmpKRefIdeal.nD,
          r.2.mem ((c.tc : Thread Cert.CmpKRefIdeal.nD Cert.CmpKRefIdeal.τ).loc Cert.CmpKRefIdeal.main_v53) = v0 c
          ∧ r.2.mem ((c.tc : Thread Cert.CmpKRefIdeal.nD Cert.CmpKRefIdeal.τ).loc Cert.CmpKRefIdeal.main_arg0) = m' ((c.tc : Thread Cert.CmpKRefIdeal.nD Cert.CmpKRefIdeal.τ).loc Cert.CmpKRefIdeal.main_arg0)
          ∧ r.2.mem ((c.tc : Thread Cert.CmpKRefIdeal.nD Cert.CmpKRefIdeal.τ).loc Cert.CmpKRefIdeal.main_arg1) = m' ((c.tc : Thread Cert.CmpKRefIdeal.nD Cert.CmpKRefIdeal.τ).loc Cert.CmpKRefIdeal.main_arg1)
          ∧ r.2.mem ((c.tc : Thread Cert.CmpKRefIdeal.nD Cert.CmpKRefIdeal.τ).loc Cert.CmpKRefIdeal.main_arg2) = m' ((c.tc : Thread Cert.CmpKRefIdeal.nD Cert.CmpKRefIdeal.τ).loc Cert.CmpKRefIdeal.main_arg2)
          ∧ r.2.mem ((c.tc : Thread Cert.CmpKRefIdeal.nD Cert.CmpKRefIdeal.τ).loc Cert.CmpKRefIdeal.main_arg3) = m' ((c.tc : Thread Cert.CmpKRefIdeal.nD Cert.CmpKRefIdeal.τ).loc Cert.CmpKRefIdeal.main_arg3)
          ∧ r.2.mem ((c.tc : Thread Cert.CmpKRefIdeal.nD Cert.CmpKRefIdeal.τ).loc Cert.CmpKRefIdeal.main_arg4) = m' ((c.tc : Thread Cert.CmpKRefIdeal.nD Cert.CmpKRefIdeal.τ).loc Cert.CmpKRefIdeal.main_arg4)
          ∧ r.2.mem ((c.tc : Thread Cert.CmpKRefIdeal.nD Cert.CmpKRefIdeal.τ).loc Cert.CmpKRefIdeal.main_arg5) = m' ((c.tc : Thread Cert.CmpKRefIdeal.nD Cert.CmpKRefIdeal.τ).loc Cert.CmpKRefIdeal.main_arg5)
          ∧ r.2.mem ((c.tc : Thread Cert.CmpKRefIdeal.nD Cert.CmpKRefIdeal.τ).loc Cert.CmpKRefIdeal.main_arg6) = m' ((c.tc : Thread Cert.CmpKRefIdeal.nD Cert.CmpKRefIdeal.τ).loc Cert.CmpKRefIdeal.main_arg6))

def preserves_CmpV_CmpVIdeal : Prop :=
  True

def algebraic_CmpVIdeal_CmpVRefIdeal [hCmpVIdeal : Cert.CmpVIdeal.Facts] [hCmpVRefIdeal : Cert.CmpVRefIdeal.Facts] : Prop :=
  ∀ (m : (ℓ : Loc Cert.CmpVIdeal.nD Cert.CmpVIdeal.τ Cert.CmpVIdeal.sig) → Buf (Elt Ideal) ℓ) (g : Dev Cert.CmpVIdeal.nD → PrngReg)
    (m' : (ℓ : Loc Cert.CmpVRefIdeal.nD Cert.CmpVRefIdeal.τ Cert.CmpVRefIdeal.sig) → Buf (Elt Ideal) ℓ) (g' : Dev Cert.CmpVRefIdeal.nD → PrngReg), Pre_CmpVIdeal m →
    (∀ c : Dev Cert.CmpVIdeal.nD,
      m' ((c.tc : Thread Cert.CmpVRefIdeal.nD Cert.CmpVRefIdeal.τ).loc Cert.CmpVRefIdeal.main_arg0) = m ((c.tc : Thread Cert.CmpVIdeal.nD Cert.CmpVIdeal.τ).loc Cert.CmpVIdeal.main_arg0)
      ∧ m' ((c.tc : Thread Cert.CmpVRefIdeal.nD Cert.CmpVRefIdeal.τ).loc Cert.CmpVRefIdeal.main_arg1) = m ((c.tc : Thread Cert.CmpVIdeal.nD Cert.CmpVIdeal.τ).loc Cert.CmpVIdeal.main_arg1)
      ∧ m' ((c.tc : Thread Cert.CmpVRefIdeal.nD Cert.CmpVRefIdeal.τ).loc Cert.CmpVRefIdeal.main_arg2) = m ((c.tc : Thread Cert.CmpVIdeal.nD Cert.CmpVIdeal.τ).loc Cert.CmpVIdeal.main_arg2)
      ∧ m' ((c.tc : Thread Cert.CmpVRefIdeal.nD Cert.CmpVRefIdeal.τ).loc Cert.CmpVRefIdeal.main_arg3) = m ((c.tc : Thread Cert.CmpVIdeal.nD Cert.CmpVIdeal.τ).loc Cert.CmpVIdeal.main_arg3)
      ∧ m' ((c.tc : Thread Cert.CmpVRefIdeal.nD Cert.CmpVRefIdeal.τ).loc Cert.CmpVRefIdeal.main_arg4) = m ((c.tc : Thread Cert.CmpVIdeal.nD Cert.CmpVIdeal.τ).loc Cert.CmpVIdeal.main_arg4)
      ∧ m' ((c.tc : Thread Cert.CmpVRefIdeal.nD Cert.CmpVRefIdeal.τ).loc Cert.CmpVRefIdeal.main_arg5) = m ((c.tc : Thread Cert.CmpVIdeal.nD Cert.CmpVIdeal.τ).loc Cert.CmpVIdeal.main_arg5)
      ∧ m' ((c.tc : Thread Cert.CmpVRefIdeal.nD Cert.CmpVRefIdeal.τ).loc Cert.CmpVRefIdeal.main_arg6) = m ((c.tc : Thread Cert.CmpVIdeal.nD Cert.CmpVIdeal.τ).loc Cert.CmpVIdeal.main_arg6)) →
    ∃ (v0 : (c : Dev Cert.CmpVIdeal.nD) → Buf (Elt Ideal) ((c.tc : Thread Cert.CmpVIdeal.nD Cert.CmpVIdeal.τ).loc Cert.CmpVIdeal.main_v11)),
      θ_run (Cert.CmpVIdeal.defs (F := Ideal)) (onTc (τ := Cert.CmpVIdeal.τ) (Cert.CmpVIdeal.main (F := Ideal))) ⟨m, fun _ => 0, g⟩ (fun r => ∀ c : Dev Cert.CmpVIdeal.nD,
          r.2.mem ((c.tc : Thread Cert.CmpVIdeal.nD Cert.CmpVIdeal.τ).loc Cert.CmpVIdeal.main_v11) = v0 c
          ∧ r.2.mem ((c.tc : Thread Cert.CmpVIdeal.nD Cert.CmpVIdeal.τ).loc Cert.CmpVIdeal.main_arg0) = m ((c.tc : Thread Cert.CmpVIdeal.nD Cert.CmpVIdeal.τ).loc Cert.CmpVIdeal.main_arg0)
          ∧ r.2.mem ((c.tc : Thread Cert.CmpVIdeal.nD Cert.CmpVIdeal.τ).loc Cert.CmpVIdeal.main_arg1) = m ((c.tc : Thread Cert.CmpVIdeal.nD Cert.CmpVIdeal.τ).loc Cert.CmpVIdeal.main_arg1)
          ∧ r.2.mem ((c.tc : Thread Cert.CmpVIdeal.nD Cert.CmpVIdeal.τ).loc Cert.CmpVIdeal.main_arg2) = m ((c.tc : Thread Cert.CmpVIdeal.nD Cert.CmpVIdeal.τ).loc Cert.CmpVIdeal.main_arg2)
          ∧ r.2.mem ((c.tc : Thread Cert.CmpVIdeal.nD Cert.CmpVIdeal.τ).loc Cert.CmpVIdeal.main_arg3) = m ((c.tc : Thread Cert.CmpVIdeal.nD Cert.CmpVIdeal.τ).loc Cert.CmpVIdeal.main_arg3)
          ∧ r.2.mem ((c.tc : Thread Cert.CmpVIdeal.nD Cert.CmpVIdeal.τ).loc Cert.CmpVIdeal.main_arg4) = m ((c.tc : Thread Cert.CmpVIdeal.nD Cert.CmpVIdeal.τ).loc Cert.CmpVIdeal.main_arg4)
          ∧ r.2.mem ((c.tc : Thread Cert.CmpVIdeal.nD Cert.CmpVIdeal.τ).loc Cert.CmpVIdeal.main_arg5) = m ((c.tc : Thread Cert.CmpVIdeal.nD Cert.CmpVIdeal.τ).loc Cert.CmpVIdeal.main_arg5)
          ∧ r.2.mem ((c.tc : Thread Cert.CmpVIdeal.nD Cert.CmpVIdeal.τ).loc Cert.CmpVIdeal.main_arg6) = m ((c.tc : Thread Cert.CmpVIdeal.nD Cert.CmpVIdeal.τ).loc Cert.CmpVIdeal.main_arg6))
      ∧ θ_run (Cert.CmpVRefIdeal.defs (F := Ideal)) (onTc (τ := Cert.CmpVRefIdeal.τ) (Cert.CmpVRefIdeal.main (F := Ideal))) ⟨m', fun _ => 0, g'⟩ (fun r => ∀ c : Dev Cert.CmpVRefIdeal.nD,
          r.2.mem ((c.tc : Thread Cert.CmpVRefIdeal.nD Cert.CmpVRefIdeal.τ).loc Cert.CmpVRefIdeal.main_v38) = v0 c
          ∧ r.2.mem ((c.tc : Thread Cert.CmpVRefIdeal.nD Cert.CmpVRefIdeal.τ).loc Cert.CmpVRefIdeal.main_arg0) = m' ((c.tc : Thread Cert.CmpVRefIdeal.nD Cert.CmpVRefIdeal.τ).loc Cert.CmpVRefIdeal.main_arg0)
          ∧ r.2.mem ((c.tc : Thread Cert.CmpVRefIdeal.nD Cert.CmpVRefIdeal.τ).loc Cert.CmpVRefIdeal.main_arg1) = m' ((c.tc : Thread Cert.CmpVRefIdeal.nD Cert.CmpVRefIdeal.τ).loc Cert.CmpVRefIdeal.main_arg1)
          ∧ r.2.mem ((c.tc : Thread Cert.CmpVRefIdeal.nD Cert.CmpVRefIdeal.τ).loc Cert.CmpVRefIdeal.main_arg2) = m' ((c.tc : Thread Cert.CmpVRefIdeal.nD Cert.CmpVRefIdeal.τ).loc Cert.CmpVRefIdeal.main_arg2)
          ∧ r.2.mem ((c.tc : Thread Cert.CmpVRefIdeal.nD Cert.CmpVRefIdeal.τ).loc Cert.CmpVRefIdeal.main_arg3) = m' ((c.tc : Thread Cert.CmpVRefIdeal.nD Cert.CmpVRefIdeal.τ).loc Cert.CmpVRefIdeal.main_arg3)
          ∧ r.2.mem ((c.tc : Thread Cert.CmpVRefIdeal.nD Cert.CmpVRefIdeal.τ).loc Cert.CmpVRefIdeal.main_arg4) = m' ((c.tc : Thread Cert.CmpVRefIdeal.nD Cert.CmpVRefIdeal.τ).loc Cert.CmpVRefIdeal.main_arg4)
          ∧ r.2.mem ((c.tc : Thread Cert.CmpVRefIdeal.nD Cert.CmpVRefIdeal.τ).loc Cert.CmpVRefIdeal.main_arg5) = m' ((c.tc : Thread Cert.CmpVRefIdeal.nD Cert.CmpVRefIdeal.τ).loc Cert.CmpVRefIdeal.main_arg5)
          ∧ r.2.mem ((c.tc : Thread Cert.CmpVRefIdeal.nD Cert.CmpVRefIdeal.τ).loc Cert.CmpVRefIdeal.main_arg6) = m' ((c.tc : Thread Cert.CmpVRefIdeal.nD Cert.CmpVRefIdeal.τ).loc Cert.CmpVRefIdeal.main_arg6))

def preserves_MNorm_MNormIdeal : Prop :=
  True

def algebraic_MNormIdeal_MNormRefIdeal [hMNormIdeal : Cert.MNormIdeal.Facts] [hMNormRefIdeal : Cert.MNormRefIdeal.Facts] : Prop :=
  ∀ (m : (ℓ : Loc Cert.MNormIdeal.nD Cert.MNormIdeal.τ Cert.MNormIdeal.sig) → Buf (Elt Ideal) ℓ) (g : Dev Cert.MNormIdeal.nD → PrngReg)
    (m' : (ℓ : Loc Cert.MNormRefIdeal.nD Cert.MNormRefIdeal.τ Cert.MNormRefIdeal.sig) → Buf (Elt Ideal) ℓ) (g' : Dev Cert.MNormRefIdeal.nD → PrngReg), Pre_MNormIdeal m →
    (∀ c : Dev Cert.MNormIdeal.nD,
      m' ((c.tc : Thread Cert.MNormRefIdeal.nD Cert.MNormRefIdeal.τ).loc Cert.MNormRefIdeal.main_arg0) = m ((c.tc : Thread Cert.MNormIdeal.nD Cert.MNormIdeal.τ).loc Cert.MNormIdeal.main_arg0)
      ∧ m' ((c.tc : Thread Cert.MNormRefIdeal.nD Cert.MNormRefIdeal.τ).loc Cert.MNormRefIdeal.main_arg1) = m ((c.tc : Thread Cert.MNormIdeal.nD Cert.MNormIdeal.τ).loc Cert.MNormIdeal.main_arg1)) →
    ∃ (v0 : (c : Dev Cert.MNormIdeal.nD) → Buf (Elt Ideal) ((c.tc : Thread Cert.MNormIdeal.nD Cert.MNormIdeal.τ).loc Cert.MNormIdeal.main_v4)),
      θ_run (Cert.MNormIdeal.defs (F := Ideal)) (onTc (τ := Cert.MNormIdeal.τ) (Cert.MNormIdeal.main (F := Ideal))) ⟨m, fun _ => 0, g⟩ (fun r => ∀ c : Dev Cert.MNormIdeal.nD,
          r.2.mem ((c.tc : Thread Cert.MNormIdeal.nD Cert.MNormIdeal.τ).loc Cert.MNormIdeal.main_v4) = v0 c
          ∧ r.2.mem ((c.tc : Thread Cert.MNormIdeal.nD Cert.MNormIdeal.τ).loc Cert.MNormIdeal.main_arg0) = m ((c.tc : Thread Cert.MNormIdeal.nD Cert.MNormIdeal.τ).loc Cert.MNormIdeal.main_arg0)
          ∧ r.2.mem ((c.tc : Thread Cert.MNormIdeal.nD Cert.MNormIdeal.τ).loc Cert.MNormIdeal.main_arg1) = m ((c.tc : Thread Cert.MNormIdeal.nD Cert.MNormIdeal.τ).loc Cert.MNormIdeal.main_arg1))
      ∧ θ_run (Cert.MNormRefIdeal.defs (F := Ideal)) (onTc (τ := Cert.MNormRefIdeal.τ) (Cert.MNormRefIdeal.main (F := Ideal))) ⟨m', fun _ => 0, g'⟩ (fun r => ∀ c : Dev Cert.MNormRefIdeal.nD,
          r.2.mem ((c.tc : Thread Cert.MNormRefIdeal.nD Cert.MNormRefIdeal.τ).loc Cert.MNormRefIdeal.main_v16) = v0 c
          ∧ r.2.mem ((c.tc : Thread Cert.MNormRefIdeal.nD Cert.MNormRefIdeal.τ).loc Cert.MNormRefIdeal.main_arg0) = m' ((c.tc : Thread Cert.MNormRefIdeal.nD Cert.MNormRefIdeal.τ).loc Cert.MNormRefIdeal.main_arg0)
          ∧ r.2.mem ((c.tc : Thread Cert.MNormRefIdeal.nD Cert.MNormRefIdeal.τ).loc Cert.MNormRefIdeal.main_arg1) = m' ((c.tc : Thread Cert.MNormRefIdeal.nD Cert.MNormRefIdeal.τ).loc Cert.MNormRefIdeal.main_arg1))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v14_0)) (v1 : (c : Dev Cert.RopeIdeal.nD) → Buf (Elt Ideal) ((c.tc : Thread Cert.RopeIdeal.nD Cert.RopeIdeal.τ).loc Cert.RopeIdeal.main_v14_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v14_0) = v0 c
          ∧ r.2.mem ((c.tc : Thread Cert.RopeIdeal.nD Cert.RopeIdeal.τ).loc Cert.RopeIdeal.main_v14_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v20) = v0 c
          ∧ r.2.mem ((c.tc : Thread Cert.RopeRefIdeal.nD Cert.RopeRefIdeal.τ).loc Cert.RopeRefIdeal.main_v21) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_RopeT_RopeTIdeal : Prop :=
  True

def algebraic_RopeTIdeal_RopeTRefIdeal [hRopeTIdeal : Cert.RopeTIdeal.Facts] [hRopeTRefIdeal : Cert.RopeTRefIdeal.Facts] : Prop :=
  ∀ (m : (ℓ : Loc Cert.RopeTIdeal.nD Cert.RopeTIdeal.τ Cert.RopeTIdeal.sig) → Buf (Elt Ideal) ℓ) (g : Dev Cert.RopeTIdeal.nD → PrngReg)
    (m' : (ℓ : Loc Cert.RopeTRefIdeal.nD Cert.RopeTRefIdeal.τ Cert.RopeTRefIdeal.sig) → Buf (Elt Ideal) ℓ) (g' : Dev Cert.RopeTRefIdeal.nD → PrngReg), Pre_RopeTIdeal m →
    (∀ c : Dev Cert.RopeTIdeal.nD,
      m' ((c.tc : Thread Cert.RopeTRefIdeal.nD Cert.RopeTRefIdeal.τ).loc Cert.RopeTRefIdeal.main_arg0) = m ((c.tc : Thread Cert.RopeTIdeal.nD Cert.RopeTIdeal.τ).loc Cert.RopeTIdeal.main_arg0)) →
    ∃ (v0 : (c : Dev Cert.RopeTIdeal.nD) → Buf (Elt Ideal) ((c.tc : Thread Cert.RopeTIdeal.nD Cert.RopeTIdeal.τ).loc Cert.RopeTIdeal.main_v10_0)) (v1 : (c : Dev Cert.RopeTIdeal.nD) → Buf (Elt Ideal) ((c.tc : Thread Cert.RopeTIdeal.nD Cert.RopeTIdeal.τ).loc Cert.RopeTIdeal.main_v10_1)),
      θ_run (Cert.RopeTIdeal.defs (F := Ideal)) (onTc (τ := Cert.RopeTIdeal.τ) (Cert.RopeTIdeal.main (F := Ideal))) ⟨m, fun _ => 0, g⟩ (fun r => ∀ c : Dev Cert.RopeTIdeal.nD,
          r.2.mem ((c.tc : Thread Cert.RopeTIdeal.nD Cert.RopeTIdeal.τ).loc Cert.RopeTIdeal.main_v10_0) = v0 c
          ∧ r.2.mem ((c.tc : Thread Cert.RopeTIdeal.nD Cert.RopeTIdeal.τ).loc Cert.RopeTIdeal.main_v10_1) = v1 c
          ∧ r.2.mem ((c.tc : Thread Cert.RopeTIdeal.nD Cert.RopeTIdeal.τ).loc Cert.RopeTIdeal.main_arg0) = m ((c.tc : Thread Cert.RopeTIdeal.nD Cert.RopeTIdeal.τ).loc Cert.RopeTIdeal.main_arg0))
      ∧ θ_run (Cert.RopeTRefIdeal.defs (F := Ideal)) (onTc (τ := Cert.RopeTRefIdeal.τ) (Cert.RopeTRefIdeal.main (F := Ideal))) ⟨m', fun _ => 0, g'⟩ (fun r => ∀ c : Dev Cert.RopeTRefIdeal.nD,
          r.2.mem ((c.tc : Thread Cert.RopeTRefIdeal.nD Cert.RopeTRefIdeal.τ).loc Cert.RopeTRefIdeal.main_v15) = v0 c
          ∧ r.2.mem ((c.tc : Thread Cert.RopeTRefIdeal.nD Cert.RopeTRefIdeal.τ).loc Cert.RopeTRefIdeal.main_v17) = v1 c
          ∧ r.2.mem ((c.tc : Thread Cert.RopeTRefIdeal.nD Cert.RopeTRefIdeal.τ).loc Cert.RopeTRefIdeal.main_arg0) = m' ((c.tc : Thread Cert.RopeTRefIdeal.nD Cert.RopeTRefIdeal.τ).loc Cert.RopeTRefIdeal.main_arg0))

def preserves_RopeC_RopeCIdeal : Prop :=
  True

def algebraic_RopeCIdeal_RopeCRefIdeal [hRopeCIdeal : Cert.RopeCIdeal.Facts] [hRopeCRefIdeal : Cert.RopeCRefIdeal.Facts] : Prop :=
  ∀ (m : (ℓ : Loc Cert.RopeCIdeal.nD Cert.RopeCIdeal.τ Cert.RopeCIdeal.sig) → Buf (Elt Ideal) ℓ) (g : Dev Cert.RopeCIdeal.nD → PrngReg)
    (m' : (ℓ : Loc Cert.RopeCRefIdeal.nD Cert.RopeCRefIdeal.τ Cert.RopeCRefIdeal.sig) → Buf (Elt Ideal) ℓ) (g' : Dev Cert.RopeCRefIdeal.nD → PrngReg), Pre_RopeCIdeal m →
    (∀ c : Dev Cert.RopeCIdeal.nD,
      m' ((c.tc : Thread Cert.RopeCRefIdeal.nD Cert.RopeCRefIdeal.τ).loc Cert.RopeCRefIdeal.main_arg0) = m ((c.tc : Thread Cert.RopeCIdeal.nD Cert.RopeCIdeal.τ).loc Cert.RopeCIdeal.main_arg0)) →
    ∃ (v0 : (c : Dev Cert.RopeCIdeal.nD) → Buf (Elt Ideal) ((c.tc : Thread Cert.RopeCIdeal.nD Cert.RopeCIdeal.τ).loc Cert.RopeCIdeal.main_v16_0)) (v1 : (c : Dev Cert.RopeCIdeal.nD) → Buf (Elt Ideal) ((c.tc : Thread Cert.RopeCIdeal.nD Cert.RopeCIdeal.τ).loc Cert.RopeCIdeal.main_v16_1)),
      θ_run (Cert.RopeCIdeal.defs (F := Ideal)) (onTc (τ := Cert.RopeCIdeal.τ) (Cert.RopeCIdeal.main (F := Ideal))) ⟨m, fun _ => 0, g⟩ (fun r => ∀ c : Dev Cert.RopeCIdeal.nD,
          r.2.mem ((c.tc : Thread Cert.RopeCIdeal.nD Cert.RopeCIdeal.τ).loc Cert.RopeCIdeal.main_v16_0) = v0 c
          ∧ r.2.mem ((c.tc : Thread Cert.RopeCIdeal.nD Cert.RopeCIdeal.τ).loc Cert.RopeCIdeal.main_v16_1) = v1 c
          ∧ r.2.mem ((c.tc : Thread Cert.RopeCIdeal.nD Cert.RopeCIdeal.τ).loc Cert.RopeCIdeal.main_arg0) = m ((c.tc : Thread Cert.RopeCIdeal.nD Cert.RopeCIdeal.τ).loc Cert.RopeCIdeal.main_arg0))
      ∧ θ_run (Cert.RopeCRefIdeal.defs (F := Ideal)) (onTc (τ := Cert.RopeCRefIdeal.τ) (Cert.RopeCRefIdeal.main (F := Ideal))) ⟨m', fun _ => 0, g'⟩ (fun r => ∀ c : Dev Cert.RopeCRefIdeal.nD,
          r.2.mem ((c.tc : Thread Cert.RopeCRefIdeal.nD Cert.RopeCRefIdeal.τ).loc Cert.RopeCRefIdeal.main_v23) = v0 c
          ∧ r.2.mem ((c.tc : Thread Cert.RopeCRefIdeal.nD Cert.RopeCRefIdeal.τ).loc Cert.RopeCRefIdeal.main_v24) = v1 c
          ∧ r.2.mem ((c.tc : Thread Cert.RopeCRefIdeal.nD Cert.RopeCRefIdeal.τ).loc Cert.RopeCRefIdeal.main_arg0) = m' ((c.tc : Thread Cert.RopeCRefIdeal.nD Cert.RopeCRefIdeal.τ).loc Cert.RopeCRefIdeal.main_arg0))

def preserves_KvPrep_KvPrepIdeal : Prop :=
  True

def algebraic_KvPrepIdeal_KvPrepRefIdeal [hKvPrepIdeal : Cert.KvPrepIdeal.Facts] [hKvPrepRefIdeal : Cert.KvPrepRefIdeal.Facts] : Prop :=
  ∀ (m : (ℓ : Loc Cert.KvPrepIdeal.nD Cert.KvPrepIdeal.τ Cert.KvPrepIdeal.sig) → Buf (Elt Ideal) ℓ) (g : Dev Cert.KvPrepIdeal.nD → PrngReg)
    (m' : (ℓ : Loc Cert.KvPrepRefIdeal.nD Cert.KvPrepRefIdeal.τ Cert.KvPrepRefIdeal.sig) → Buf (Elt Ideal) ℓ) (g' : Dev Cert.KvPrepRefIdeal.nD → PrngReg), Pre_KvPrepIdeal m →
    (∀ c : Dev Cert.KvPrepIdeal.nD,
      m' ((c.tc : Thread Cert.KvPrepRefIdeal.nD Cert.KvPrepRefIdeal.τ).loc Cert.KvPrepRefIdeal.main_arg0) = m ((c.tc : Thread Cert.KvPrepIdeal.nD Cert.KvPrepIdeal.τ).loc Cert.KvPrepIdeal.main_arg0)
      ∧ m' ((c.tc : Thread Cert.KvPrepRefIdeal.nD Cert.KvPrepRefIdeal.τ).loc Cert.KvPrepRefIdeal.main_arg1) = m ((c.tc : Thread Cert.KvPrepIdeal.nD Cert.KvPrepIdeal.τ).loc Cert.KvPrepIdeal.main_arg1)
      ∧ m' ((c.tc : Thread Cert.KvPrepRefIdeal.nD Cert.KvPrepRefIdeal.τ).loc Cert.KvPrepRefIdeal.main_arg2) = m ((c.tc : Thread Cert.KvPrepIdeal.nD Cert.KvPrepIdeal.τ).loc Cert.KvPrepIdeal.main_arg2)) →
    ∃ (v0 : (c : Dev Cert.KvPrepIdeal.nD) → Buf (Elt Ideal) ((c.tc : Thread Cert.KvPrepIdeal.nD Cert.KvPrepIdeal.τ).loc Cert.KvPrepIdeal.main_v17_0)) (v1 : (c : Dev Cert.KvPrepIdeal.nD) → Buf (Elt Ideal) ((c.tc : Thread Cert.KvPrepIdeal.nD Cert.KvPrepIdeal.τ).loc Cert.KvPrepIdeal.main_v17_1)) (v2 : (c : Dev Cert.KvPrepIdeal.nD) → Buf (Elt Ideal) ((c.tc : Thread Cert.KvPrepIdeal.nD Cert.KvPrepIdeal.τ).loc Cert.KvPrepIdeal.main_v17_2)) (v3 : (c : Dev Cert.KvPrepIdeal.nD) → Buf (Elt Ideal) ((c.tc : Thread Cert.KvPrepIdeal.nD Cert.KvPrepIdeal.τ).loc Cert.KvPrepIdeal.main_v17_3)) (v4 : (c : Dev Cert.KvPrepIdeal.nD) → Buf (Elt Ideal) ((c.tc : Thread Cert.KvPrepIdeal.nD Cert.KvPrepIdeal.τ).loc Cert.KvPrepIdeal.main_v17_4)) (v5 : (c : Dev Cert.KvPrepIdeal.nD) → Buf (Elt Ideal) ((c.tc : Thread Cert.KvPrepIdeal.nD Cert.KvPrepIdeal.τ).loc Cert.KvPrepIdeal.main_v17_5)),
      θ_run (Cert.KvPrepIdeal.defs (F := Ideal)) (onTc (τ := Cert.KvPrepIdeal.τ) (Cert.KvPrepIdeal.main (F := Ideal))) ⟨m, fun _ => 0, g⟩ (fun r => ∀ c : Dev Cert.KvPrepIdeal.nD,
          r.2.mem ((c.tc : Thread Cert.KvPrepIdeal.nD Cert.KvPrepIdeal.τ).loc Cert.KvPrepIdeal.main_v17_0) = v0 c
          ∧ r.2.mem ((c.tc : Thread Cert.KvPrepIdeal.nD Cert.KvPrepIdeal.τ).loc Cert.KvPrepIdeal.main_v17_1) = v1 c
          ∧ r.2.mem ((c.tc : Thread Cert.KvPrepIdeal.nD Cert.KvPrepIdeal.τ).loc Cert.KvPrepIdeal.main_v17_2) = v2 c
          ∧ r.2.mem ((c.tc : Thread Cert.KvPrepIdeal.nD Cert.KvPrepIdeal.τ).loc Cert.KvPrepIdeal.main_v17_3) = v3 c
          ∧ r.2.mem ((c.tc : Thread Cert.KvPrepIdeal.nD Cert.KvPrepIdeal.τ).loc Cert.KvPrepIdeal.main_v17_4) = v4 c
          ∧ r.2.mem ((c.tc : Thread Cert.KvPrepIdeal.nD Cert.KvPrepIdeal.τ).loc Cert.KvPrepIdeal.main_v17_5) = v5 c
          ∧ r.2.mem ((c.tc : Thread Cert.KvPrepIdeal.nD Cert.KvPrepIdeal.τ).loc Cert.KvPrepIdeal.main_arg0) = m ((c.tc : Thread Cert.KvPrepIdeal.nD Cert.KvPrepIdeal.τ).loc Cert.KvPrepIdeal.main_arg0)
          ∧ r.2.mem ((c.tc : Thread Cert.KvPrepIdeal.nD Cert.KvPrepIdeal.τ).loc Cert.KvPrepIdeal.main_arg1) = m ((c.tc : Thread Cert.KvPrepIdeal.nD Cert.KvPrepIdeal.τ).loc Cert.KvPrepIdeal.main_arg1)
          ∧ r.2.mem ((c.tc : Thread Cert.KvPrepIdeal.nD Cert.KvPrepIdeal.τ).loc Cert.KvPrepIdeal.main_arg2) = m ((c.tc : Thread Cert.KvPrepIdeal.nD Cert.KvPrepIdeal.τ).loc Cert.KvPrepIdeal.main_arg2))
      ∧ θ_run (Cert.KvPrepRefIdeal.defs (F := Ideal)) (onTc (τ := Cert.KvPrepRefIdeal.τ) (Cert.KvPrepRefIdeal.main (F := Ideal))) ⟨m', fun _ => 0, g'⟩ (fun r => ∀ c : Dev Cert.KvPrepRefIdeal.nD,
          r.2.mem ((c.tc : Thread Cert.KvPrepRefIdeal.nD Cert.KvPrepRefIdeal.τ).loc Cert.KvPrepRefIdeal.main_v15) = v0 c
          ∧ r.2.mem ((c.tc : Thread Cert.KvPrepRefIdeal.nD Cert.KvPrepRefIdeal.τ).loc Cert.KvPrepRefIdeal.main_v17) = v1 c
          ∧ r.2.mem ((c.tc : Thread Cert.KvPrepRefIdeal.nD Cert.KvPrepRefIdeal.τ).loc Cert.KvPrepRefIdeal.main_v37) = v2 c
          ∧ r.2.mem ((c.tc : Thread Cert.KvPrepRefIdeal.nD Cert.KvPrepRefIdeal.τ).loc Cert.KvPrepRefIdeal.main_v42) = v3 c
          ∧ r.2.mem ((c.tc : Thread Cert.KvPrepRefIdeal.nD Cert.KvPrepRefIdeal.τ).loc Cert.KvPrepRefIdeal.main_v62) = v4 c
          ∧ r.2.mem ((c.tc : Thread Cert.KvPrepRefIdeal.nD Cert.KvPrepRefIdeal.τ).loc Cert.KvPrepRefIdeal.main_v67) = v5 c
          ∧ r.2.mem ((c.tc : Thread Cert.KvPrepRefIdeal.nD Cert.KvPrepRefIdeal.τ).loc Cert.KvPrepRefIdeal.main_arg0) = m' ((c.tc : Thread Cert.KvPrepRefIdeal.nD Cert.KvPrepRefIdeal.τ).loc Cert.KvPrepRefIdeal.main_arg0)
          ∧ r.2.mem ((c.tc : Thread Cert.KvPrepRefIdeal.nD Cert.KvPrepRefIdeal.τ).loc Cert.KvPrepRefIdeal.main_arg1) = m' ((c.tc : Thread Cert.KvPrepRefIdeal.nD Cert.KvPrepRefIdeal.τ).loc Cert.KvPrepRefIdeal.main_arg1)
          ∧ r.2.mem ((c.tc : Thread Cert.KvPrepRefIdeal.nD Cert.KvPrepRefIdeal.τ).loc Cert.KvPrepRefIdeal.main_arg2) = m' ((c.tc : Thread Cert.KvPrepRefIdeal.nD Cert.KvPrepRefIdeal.τ).loc Cert.KvPrepRefIdeal.main_arg2))

def Claim : Prop :=
  ∃ (hRglru : Cert.Rglru.Facts) (hRglruIdeal : Cert.RglruIdeal.Facts) (hRglruRefIdeal : Cert.RglruRefIdeal.Facts) (hMlp : Cert.Mlp.Facts) (hMlpIdeal : Cert.MlpIdeal.Facts) (hMlpRefIdeal : Cert.MlpRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hMemAttn : Cert.MemAttn.Facts) (hMemAttnIdeal : Cert.MemAttnIdeal.Facts) (hMemAttnRefIdeal : Cert.MemAttnRefIdeal.Facts) (hNorm : Cert.Norm.Facts) (hNormIdeal : Cert.NormIdeal.Facts) (hNormRefIdeal : Cert.NormRefIdeal.Facts) (hMemKv : Cert.MemKv.Facts) (hMemKvIdeal : Cert.MemKvIdeal.Facts) (hMemKvRefIdeal : Cert.MemKvRefIdeal.Facts) (hCmpK : Cert.CmpK.Facts) (hCmpKIdeal : Cert.CmpKIdeal.Facts) (hCmpKRefIdeal : Cert.CmpKRefIdeal.Facts) (hCmpV : Cert.CmpV.Facts) (hCmpVIdeal : Cert.CmpVIdeal.Facts) (hCmpVRefIdeal : Cert.CmpVRefIdeal.Facts) (hMNorm : Cert.MNorm.Facts) (hMNormIdeal : Cert.MNormIdeal.Facts) (hMNormRefIdeal : Cert.MNormRefIdeal.Facts) (hRope : Cert.Rope.Facts) (hRopeIdeal : Cert.RopeIdeal.Facts) (hRopeRefIdeal : Cert.RopeRefIdeal.Facts) (hRopeT : Cert.RopeT.Facts) (hRopeTIdeal : Cert.RopeTIdeal.Facts) (hRopeTRefIdeal : Cert.RopeTRefIdeal.Facts) (hRopeC : Cert.RopeC.Facts) (hRopeCIdeal : Cert.RopeCIdeal.Facts) (hRopeCRefIdeal : Cert.RopeCRefIdeal.Facts) (hKvPrep : Cert.KvPrep.Facts) (hKvPrepIdeal : Cert.KvPrepIdeal.Facts) (hKvPrepRefIdeal : Cert.KvPrepRefIdeal.Facts),
    quiescent_Rglru (hRglru := hRglru)
    ∧ quiescent_RglruIdeal (hRglruIdeal := hRglruIdeal)
    ∧ quiescent_RglruRefIdeal (hRglruRefIdeal := hRglruRefIdeal)
    ∧ quiescent_Mlp (hMlp := hMlp)
    ∧ quiescent_MlpIdeal (hMlpIdeal := hMlpIdeal)
    ∧ quiescent_MlpRefIdeal (hMlpRefIdeal := hMlpRefIdeal)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_MemAttn (hMemAttn := hMemAttn)
    ∧ quiescent_MemAttnIdeal (hMemAttnIdeal := hMemAttnIdeal)
    ∧ quiescent_MemAttnRefIdeal (hMemAttnRefIdeal := hMemAttnRefIdeal)
    ∧ quiescent_Norm (hNorm := hNorm)
    ∧ quiescent_NormIdeal (hNormIdeal := hNormIdeal)
    ∧ quiescent_NormRefIdeal (hNormRefIdeal := hNormRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_CmpK (hCmpK := hCmpK)
    ∧ quiescent_CmpKIdeal (hCmpKIdeal := hCmpKIdeal)
    ∧ quiescent_CmpKRefIdeal (hCmpKRefIdeal := hCmpKRefIdeal)
    ∧ quiescent_CmpV (hCmpV := hCmpV)
    ∧ quiescent_CmpVIdeal (hCmpVIdeal := hCmpVIdeal)
    ∧ quiescent_CmpVRefIdeal (hCmpVRefIdeal := hCmpVRefIdeal)
    ∧ quiescent_MNorm (hMNorm := hMNorm)
    ∧ quiescent_MNormIdeal (hMNormIdeal := hMNormIdeal)
    ∧ quiescent_MNormRefIdeal (hMNormRefIdeal := hMNormRefIdeal)
    ∧ quiescent_Rope (hRope := hRope)
    ∧ quiescent_RopeIdeal (hRopeIdeal := hRopeIdeal)
    ∧ quiescent_RopeRefIdeal (hRopeRefIdeal := hRopeRefIdeal)
    ∧ quiescent_RopeT (hRopeT := hRopeT)
    ∧ quiescent_RopeTIdeal (hRopeTIdeal := hRopeTIdeal)
    ∧ quiescent_RopeTRefIdeal (hRopeTRefIdeal := hRopeTRefIdeal)
    ∧ quiescent_RopeC (hRopeC := hRopeC)
    ∧ quiescent_RopeCIdeal (hRopeCIdeal := hRopeCIdeal)
    ∧ quiescent_RopeCRefIdeal (hRopeCRefIdeal := hRopeCRefIdeal)
    ∧ quiescent_KvPrep (hKvPrep := hKvPrep)
    ∧ quiescent_KvPrepIdeal (hKvPrepIdeal := hKvPrepIdeal)
    ∧ quiescent_KvPrepRefIdeal (hKvPrepRefIdeal := hKvPrepRefIdeal)
    ∧ preserves_Rglru_RglruIdeal
    ∧ algebraic_RglruIdeal_RglruRefIdeal (hRglruIdeal := hRglruIdeal) (hRglruRefIdeal := hRglruRefIdeal)
    ∧ preserves_Mlp_MlpIdeal
    ∧ algebraic_MlpIdeal_MlpRefIdeal (hMlpIdeal := hMlpIdeal) (hMlpRefIdeal := hMlpRefIdeal)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_MemAttn_MemAttnIdeal
    ∧ algebraic_MemAttnIdeal_MemAttnRefIdeal (hMemAttnIdeal := hMemAttnIdeal) (hMemAttnRefIdeal := hMemAttnRefIdeal)
    ∧ preserves_Norm_NormIdeal
    ∧ algebraic_NormIdeal_NormRefIdeal (hNormIdeal := hNormIdeal) (hNormRefIdeal := hNormRefIdeal)
    ∧ preserves_MemKv_MemKvIdeal
    ∧ algebraic_MemKvIdeal_MemKvRefIdeal (hMemKvIdeal := hMemKvIdeal) (hMemKvRefIdeal := hMemKvRefIdeal)
    ∧ preserves_CmpK_CmpKIdeal
    ∧ algebraic_CmpKIdeal_CmpKRefIdeal (hCmpKIdeal := hCmpKIdeal) (hCmpKRefIdeal := hCmpKRefIdeal)
    ∧ preserves_CmpV_CmpVIdeal
    ∧ algebraic_CmpVIdeal_CmpVRefIdeal (hCmpVIdeal := hCmpVIdeal) (hCmpVRefIdeal := hCmpVRefIdeal)
    ∧ preserves_MNorm_MNormIdeal
    ∧ algebraic_MNormIdeal_MNormRefIdeal (hMNormIdeal := hMNormIdeal) (hMNormRefIdeal := hMNormRefIdeal)
    ∧ preserves_Rope_RopeIdeal
    ∧ algebraic_RopeIdeal_RopeRefIdeal (hRopeIdeal := hRopeIdeal) (hRopeRefIdeal := hRopeRefIdeal)
    ∧ preserves_RopeT_RopeTIdeal
    ∧ algebraic_RopeTIdeal_RopeTRefIdeal (hRopeTIdeal := hRopeTIdeal) (hRopeTRefIdeal := hRopeTRefIdeal)
    ∧ preserves_RopeC_RopeCIdeal
    ∧ algebraic_RopeCIdeal_RopeCRefIdeal (hRopeCIdeal := hRopeCIdeal) (hRopeCRefIdeal := hRopeCRefIdeal)
    ∧ preserves_KvPrep_KvPrepIdeal
    ∧ algebraic_KvPrepIdeal_KvPrepRefIdeal (hKvPrepIdeal := hKvPrepIdeal) (hKvPrepRefIdeal := hKvPrepRefIdeal)
-- ==== Rglru.lean ====
abbrev S2x8192x8752 : Shape := ⟨3, ![2, 8192, 8752]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S2x8192x48 : Shape := ⟨3, ![2, 8192, 48]⟩
abbrev S2x8192x4x12 : Shape := ⟨4, ![2, 8192, 4, 12]⟩
abbrev S_ : Shape := ⟨0, ![]⟩
abbrev S2x8192x4x128 : Shape := ⟨4, ![2, 8192, 4, 128]⟩
abbrev S2x8192x512 : Shape := ⟨3, ![2, 8192, 512]⟩
abbrev S2x8192x3072 : Shape := ⟨3, ![2, 8192, 3072]⟩
abbrev S2x8192x1024 : Shape := ⟨3, ![2, 8192, 1024]⟩
abbrev S2x8192x1536 : Shape := ⟨3, ![2, 8192, 1536]⟩
abbrev S2x8192x9216 : Shape := ⟨3, ![2, 8192, 9216]⟩
abbrev S16384x9216 : Shape := ⟨2, ![16384, 9216]⟩
abbrev S1x1024 : Shape := ⟨2, ![1, 1024]⟩
abbrev S16384x1024 : Shape := ⟨2, ![16384, 1024]⟩
abbrev S256x1024 : Shape := ⟨2, ![256, 1024]⟩
abbrev S8x1024 : Shape := ⟨2, ![8, 1024]⟩
abbrev S248x1024 : Shape := ⟨2, ![248, 1024]⟩
abbrev S256x128 : Shape := ⟨2, ![256, 128]⟩
abbrev S1x128x128 : Shape := ⟨3, ![1, 128, 128]⟩
abbrev S128x128 : Shape := ⟨2, ![128, 128]⟩

abbrev nBuf : Space → Nat
  | .hbm => 28
  | .vmem => 15
  | .smem => 0
  | _ => 0

abbrev bufTy : (tb : Table) → Fin (tcTables nBuf tb) → BufTy
  | .hbm, ⟨0, _⟩ => ⟨S2x8192x8752, .f32⟩
  | .hbm, ⟨1, _⟩ => ⟨S4x1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S8x128x128, .f32⟩
  | .hbm, ⟨6, _⟩ => ⟨S8x128, .f32⟩
  | .hbm, ⟨7, _⟩ => ⟨S1024, .f32⟩
  | .hbm, ⟨8, _⟩ => ⟨S2x8192x48, .f32⟩
  | .hbm, ⟨9, _⟩ => ⟨S2x8192x4x12, .f32⟩
  | .hbm, ⟨10, _⟩ => ⟨S_, .i32⟩
  | .hbm, ⟨11, _⟩ => ⟨S_, .f32⟩
  | .hbm, ⟨12, _⟩ => ⟨S2x8192x4x128, .f32⟩
  | .hbm, ⟨13, _⟩ => ⟨S2x8192x512, .f32⟩
  | .hbm, ⟨14, _⟩ => ⟨S2x8192x3072, .f32⟩
  | .hbm, ⟨15, _⟩ => ⟨S2x8192x1024, .f32⟩
  | .hbm, ⟨16, _⟩ => ⟨S2x8192x3072, .f32⟩
  | .hbm, ⟨17, _⟩ => ⟨S2x8192x1536, .f32⟩
  | .hbm, ⟨18, _⟩ => ⟨S2x8192x9216, .f32⟩
  | .hbm, ⟨19, _⟩ => ⟨S2x8192x9216, .bf16⟩
  | .hbm, ⟨20, _⟩ => ⟨S16384x9216, .bf16⟩
  | .hbm, ⟨21, _⟩ => ⟨S8x128x128, .bf16⟩
  | .hbm, ⟨22, _⟩ => ⟨S8x128x128, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S4x1024, .f32⟩
  | .local _ .vmem, ⟨5, _⟩ => ⟨S1x1024, .f32⟩
  | .local _ .vmem, ⟨6, _⟩ => ⟨S8x128x128, .bf16⟩
  | .local _ .vmem, ⟨7, _⟩ => ⟨S1x1024, .f32⟩
  | .local _ .vmem, ⟨8, _⟩ => ⟨S8x128x128, .bf16⟩
  | .local _ .vmem, ⟨9, _⟩ => ⟨S1x1024, .f32⟩
  | .local _ .vmem, ⟨10, _⟩ => ⟨S1x1024, .f32⟩
  | .local _ .vmem, ⟨11, _⟩ => ⟨S256x1024, .bf16⟩
  | .local _ .vmem, ⟨12, _⟩ => ⟨S256x1024, .bf16⟩
  | .local _ .vmem, ⟨13, _⟩ => ⟨S8x1024, .f32⟩
  | .local _ .vmem, ⟨14, _⟩ => ⟨S8x1024, .f32⟩
  | _, _ => ⟨S2x8192x8752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RglruRefIdeal.lean ====
abbrev S2x8192x8752 : Shape := ⟨3, ![2, 8192, 8752]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S2x8192x1024 : Shape := ⟨3, ![2, 8192, 1024]⟩
abbrev S_ : Shape := ⟨0, ![]⟩
abbrev S2x8195x1024 : Shape := ⟨3, ![2, 8195, 1024]⟩
abbrev S1x1024 : Shape := ⟨2, ![1, 1024]⟩
abbrev S1x1x1024 : Shape := ⟨3, ![1, 1, 1024]⟩
abbrev S2x8192x8x128 : Shape := ⟨4, ![2, 8192, 8, 128]⟩
abbrev S8x128x2x8192 : Shape := ⟨4, ![8, 128, 2, 8192]⟩
abbrev S1x1x8x128 : Shape := ⟨4, ![1, 1, 8, 128]⟩
abbrev S2x1024 : Shape := ⟨2, ![2, 1024]⟩
abbrev S8192x2x1024 : Shape := ⟨3, ![8192, 2, 1024]⟩
abbrev S1x2x1024 : Shape := ⟨3, ![1, 2, 1024]⟩
abbrev S16384x1024 : Shape := ⟨2, ![16384, 1024]⟩

abbrev nBuf : Space → Nat
  | .hbm => 154
  | .vmem => 0
  | .smem => 0
  | _ => 0

abbrev hbmTy0_0 (i : Nat) : BufTy := match i % 128 with
  | 0 => ⟨S2x8192x8752, .f32⟩
  | 1 => ⟨S4x1024, .f32⟩
  | 2 => ⟨S1024, .f32⟩
  | 3 => ⟨S8x128x128, .f32⟩
  | 4 => ⟨S8x128, .f32⟩
  | 5 => ⟨S8x128x128, .f32⟩
  | 6 => ⟨S8x128, .f32⟩
  | 7 => ⟨S1024, .f32⟩
  | 8 => ⟨S2x8192x1024, .f32⟩
  | 9 => ⟨S_, .i32⟩
  | 10 => ⟨S_, .f32⟩
  | 11 => ⟨S2x8195x1024, .f32⟩
  | 12 => ⟨S1x1024, .f32⟩
  | 13 => ⟨S1024, .f32⟩
  | 14 => ⟨S2x8192x1024, .f32⟩
  | 15 => ⟨S1x1x1024, .f32⟩
  | 16 => ⟨S2x8192x1024, .f32⟩
  | 17 => ⟨S2x8192x1024, .f32⟩
  | 18 => ⟨S1x1024, .f32⟩
  | 19 => ⟨S1024, .f32⟩
  | 20 => ⟨S2x8192x1024, .f32⟩
  | 21 => ⟨S1x1x1024, .f32⟩
  | 22 => ⟨S2x8192x1024, .f32⟩
  | 23 => ⟨S2x8192x1024, .f32⟩
  | 24 => ⟨S2x8192x1024, .f32⟩
  | 25 => ⟨S1x1024, .f32⟩
  | 26 => ⟨S1024, .f32⟩
  | 27 => ⟨S2x8192x1024, .f32⟩
  | 28 => ⟨S1x1x1024, .f32⟩
  | 29 => ⟨S2x8192x1024, .f32⟩
  | 30 => ⟨S2x8192x1024, .f32⟩
  | 31 => ⟨S2x8192x1024, .f32⟩
  | 32 => ⟨S1x1024, .f32⟩
  | 33 => ⟨S1024, .f32⟩
  | 34 => ⟨S2x8192x1024, .f32⟩
  | 35 => ⟨S1x1x1024, .f32⟩
  | 36 => ⟨S2x8192x1024, .f32⟩
  | 37 => ⟨S2x8192x1024, .f32⟩
  | 38 => ⟨S2x8192x1024, .f32⟩
  | 39 => ⟨S1x1x1024, .f32⟩
  | 40 => ⟨S2x8192x1024, .f32⟩
  | 41 => ⟨S2x8192x1024, .f32⟩
  | 42 => ⟨S2x8192x8x128, .f32⟩
  | 43 => ⟨S8x128x2x8192, .f32⟩
  | 44 => ⟨S2x8192x8x128, .f32⟩
  | 45 => ⟨S1x1x8x128, .f32⟩
  | 46 => ⟨S2x8192x8x128, .f32⟩
  | 47 => ⟨S2x8192x8x128, .f32⟩
  | 48 => ⟨S2x8192x1024, .f32⟩
  | 49 => ⟨S2x8192x1024, .f32⟩
  | 50 => ⟨S2x8192x1024, .f32⟩
  | 51 => ⟨S_, .f32⟩
  | 52 => ⟨S2x8192x1024, .f32⟩
  | 53 => ⟨S2x8192x1024, .f32⟩
  | 54 => ⟨S_, .f32⟩
  | 55 => ⟨S2x8192x1024, .f32⟩
  | 56 => ⟨S2x8192x1024, .f32⟩
  | 57 => ⟨S2x8192x8x128, .f32⟩
  | 58 => ⟨S8x128x2x8192, .f32⟩
  | 59 => ⟨S2x8192x8x128, .f32⟩
  | 60 => ⟨S1x1x8x128, .f32⟩
  | 61 => ⟨S2x8192x8x128, .f32⟩
  | 62 => ⟨S2x8192x8x128, .f32⟩
  | 63 => ⟨S2x8192x1024, .f32⟩
  | 64 => ⟨S2x8192x1024, .f32⟩
  | 65 => ⟨S2x8192x1024, .f32⟩
  | 66 => ⟨S_, .f32⟩
  | 67 => ⟨S2x8192x1024, .f32⟩
  | 68 => ⟨S2x8192x1024, .f32⟩
  | 69 => ⟨S_, .f32⟩
  | 70 => ⟨S2x8192x1024, .f32⟩
  | 71 => ⟨S2x8192x1024, .f32⟩
  | 72 => ⟨S1024, .f32⟩
  | 73 => ⟨S_, .f32⟩
  | 74 => ⟨S1024, .f32⟩
  | 75 => ⟨S1024, .f32⟩
  | 76 => ⟨S1024, .f32⟩
  | 77 => ⟨S1024, .f32⟩
  | 78 => ⟨S1024, .i1⟩
  | 79 => ⟨S1024, .f32⟩
  | 80 => ⟨S1024, .f32⟩
  | 81 => ⟨S1024, .f32⟩
  | 82 => ⟨S1024, .f32⟩
  | 83 => ⟨S1024, .f32⟩
  | 84 => ⟨S1024, .f32⟩
  | 85 => ⟨S1024, .f32⟩
  | 86 => ⟨S1024, .f32⟩
  | 87 => ⟨S_, .f32⟩
  | 88 => ⟨S1024, .f32⟩
  | 89 => ⟨S1024, .f32⟩
  | 90 => ⟨S1x1x1024, .f32⟩
  | 91 => ⟨S2x8192x1024, .f32⟩
  | 92 => ⟨S2x8192x1024, .f32⟩
  | 93 => ⟨S2x8192x1024, .f32⟩
  | 94 => ⟨S_, .f32⟩
  | 95 => ⟨S2x8192x1024, .f32⟩
  | 96 => ⟨S2x8192x1024, .f32⟩
  | 97 => ⟨S2x8192x1024, .f32⟩
  | 98 => ⟨S2x8192x1024, .f32⟩
  | 99 => ⟨S2x8192x1024, .f32⟩
  | 100 => ⟨S2x8192x1024, .f32⟩
  | 101 => ⟨S2x8192x1024, .f32⟩
  | 102 => ⟨S_, .f32⟩
  | 103 => ⟨S2x1024, .f32⟩
  | 104 => ⟨S8192x2x1024, .f32⟩
  | 105 => ⟨S8192x2x1024, .f32⟩
  | 106 => ⟨S_, .f32⟩
  | 107 => ⟨S8192x2x1024, .f32⟩
  | 108 => ⟨S_, .i32⟩
  | 109 => ⟨S8192x2x1024, .f32⟩
  | 110 => ⟨S8192x2x1024, .f32⟩
  | 111 => ⟨S_, .i32⟩
  | 112 => ⟨S2x1024, .f32⟩
  | 113 => ⟨S8192x2x1024, .f32⟩
  | 114 => ⟨S_, .i32⟩
  | 115 => ⟨S_, .i1⟩
  | 116 => ⟨S_, .i32⟩
  | 117 => ⟨S_, .i32⟩
  | 118 => ⟨S1x2x1024, .f32⟩
  | 119 => ⟨S2x1024, .f32⟩
  | 120 => ⟨S_, .i32⟩
  | 121 => ⟨S_, .i32⟩
  | 122 => ⟨S1x2x1024, .f32⟩
  | 123 => ⟨S2x1024, .f32⟩
  | 124 => ⟨S2x1024, .f32⟩
  | 125 => ⟨S2x1024, .f32⟩
  | 126 => ⟨S1x2x1024, .f32⟩
  | 127 => ⟨S_, .i32⟩
  | _ => ⟨S2x8192x8752, .f32⟩

abbrev hbmTy0_1 (i : Nat) : BufTy := match i % 128 with
  | 0 => ⟨S_, .i32⟩
  | 1 => ⟨S8192x2x1024, .f32⟩
  | 2 => ⟨S_, .i32⟩
  | 3 => ⟨S_, .i32⟩
  | 4 => ⟨S2x8192x1024, .f32⟩
  | 5 => ⟨S2x8192x1024, .f32⟩
  | 6 => ⟨S2x8192x1024, .f32⟩
  | 7 => ⟨S2x8192x1024, .f32⟩
  | 8 => ⟨S_, .f32⟩
  | 9 => ⟨S2x8192x1024, .f32⟩
  | 10 => ⟨S2x8192x1024, .f32⟩
  | 11 => ⟨S2x8192x1024, .f32⟩
  | 12 => ⟨S_, .f32⟩
  | 13 => ⟨S2x8192x1024, .f32⟩
  | 14 => ⟨S2x8192x1024, .f32⟩
  | 15 => ⟨S2x8192x1024, .f32⟩
  | 16 => ⟨S_, .f32⟩
  | 17 => ⟨S2x8192x1024, .f32⟩
  | 18 => ⟨S2x8192x1024, .f32⟩
  | 19 => ⟨S_, .f32⟩
  | 20 => ⟨S2x8192x1024, .f32⟩
  | 21 => ⟨S2x8192x1024, .f32⟩
  | 22 => ⟨S2x8192x1024, .f32⟩
  | 23 => ⟨S2x8192x1024, .f32⟩
  | 24 => ⟨S16384x1024, .f32⟩
  | 25 => ⟨S16384x1024, .bf16⟩
  | _ => ⟨S2x8192x8752, .f32⟩

abbrev hbmTy (i : Nat) : BufTy := match i / 128 with
  | 0 => hbmTy0_0 i
  | 1 => hbmTy0_1 i
  | _ => ⟨S2x8192x8752, .f32⟩

abbrev bufTy : (tb : Table) → Fin (tcTables nBuf tb) → BufTy
  | .hbm, ⟨i, _⟩ => hbmTy i
  | _, _ => ⟨S2x8192x8752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst : Ref sig .tc := ⟨.hbm, 51, rfl⟩
abbrev main_v41 : Ref sig .tc := ⟨.hbm, 52, rfl⟩
abbrev main_v42 : Ref sig .tc := ⟨.hbm, 53, rfl⟩
abbrev main_cst_0 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_1 : Ref sig .tc := ⟨.hbm, 66, rfl⟩
abbrev main_v54 : Ref sig .tc := ⟨.hbm, 67, rfl⟩
abbrev main_v55 : Ref sig .tc := ⟨.hbm, 68, rfl⟩
abbrev main_cst_2 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_v59 : Ref sig .tc := ⟨.hbm, 86, rfl⟩
abbrev main_cst_3 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_4 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_5 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_6 : Ref sig .tc := ⟨.hbm, 106, rfl⟩
abbrev main_v76 : Ref sig .tc := ⟨.hbm, 107, rfl⟩
abbrev main_c_7 : Ref sig .tc := ⟨.hbm, 108, rfl⟩
abbrev main_v77_0 : Ref sig .tc := ⟨.hbm, 109, rfl⟩
abbrev main_v77_1 : Ref sig .tc := ⟨.hbm, 110, rfl⟩
abbrev main_v77_2 : Ref sig .tc := ⟨.hbm, 111, rfl⟩
abbrev main_v77_3 : Ref sig .tc := ⟨.hbm, 112, rfl⟩
abbrev main_v77_4 : Ref sig .tc := ⟨.hbm, 113, rfl⟩
abbrev main_while0c_c_16 : Ref sig .tc := ⟨.hbm, 114, rfl⟩
abbrev main_while0c_v96 : Ref sig .tc := ⟨.hbm, 115, rfl⟩
abbrev main_while0b_call2_c : Ref sig .tc := ⟨.hbm, 116, rfl⟩
abbrev main_while0b_call2_c_0 : Ref sig .tc := ⟨.hbm, 117, rfl⟩
abbrev main_while0b_call2_v0 : Ref sig .tc := ⟨.hbm, 118, rfl⟩
abbrev main_while0b_v96 : Ref sig .tc := ⟨.hbm, 119, rfl⟩
abbrev main_while0b_call3_c : Ref sig .tc := ⟨.hbm, 120, rfl⟩
abbrev main_while0b_call3_c_0 : Ref sig .tc := ⟨.hbm, 121, rfl⟩
abbrev main_while0b_call3_v0 : Ref sig .tc := ⟨.hbm, 122, rfl⟩
abbrev main_while0b_v97 : Ref sig .tc := ⟨.hbm, 123, rfl⟩
abbrev main_while0b_v98 : Ref sig .tc := ⟨.hbm, 124, rfl⟩
abbrev main_while0b_v99 : Ref sig .tc := ⟨.hbm, 125, rfl⟩
abbrev main_while0b_call4_v0 : Ref sig .tc := ⟨.hbm, 126, rfl⟩
abbrev main_while0b_call4_c : Ref sig .tc := ⟨.hbm, 127, rfl⟩
abbrev main_while0b_call4_c_0 : Ref sig .tc := ⟨.hbm, 128, rfl⟩
abbrev main_while0b_v100 : Ref sig .tc := ⟨.hbm, 129, rfl⟩
abbrev main_while0b_c_16 : Ref sig .tc := ⟨.hbm, 130, rfl⟩
abbrev main_while0b_v101 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_cst_8 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_9 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_10 : Ref sig .tc := ⟨.hbm, 144, rfl⟩
abbrev main_v88 : Ref sig .tc := ⟨.hbm, 145, rfl⟩
abbrev main_v89 : Ref sig .tc := ⟨.hbm, 146, rfl⟩
abbrev main_cst_11 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩

abbrev nD : Nat := 1
abbrev τ : Topo := Topo.v7x

variable {F : FTy → Type} [FloatOps F]

abbrev main_while0_count : Scf.Loop 32 := ⟨0#32, 8192#32, 1#32⟩
-- ==== Mlp.lean ====
abbrev S2x8192x1024 : Shape := ⟨3, ![2, 8192, 1024]⟩
abbrev S4x1024x4096 : Shape := ⟨3, ![4, 1024, 4096]⟩
abbrev S4x4096x1024 : Shape := ⟨3, ![4, 4096, 1024]⟩
abbrev S4x1024 : Shape := ⟨2, ![4, 1024]⟩
abbrev S16384x1024 : Shape := ⟨2, ![16384, 1024]⟩
abbrev S1x1024 : Shape := ⟨2, ![1, 1024]⟩
abbrev S1024 : Shape := ⟨1, ![1024]⟩
abbrev S1024x1024 : Shape := ⟨2, ![1024, 1024]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1024x1 : Shape := ⟨2, ![1024, 1]⟩

abbrev nBuf : Space → Nat
  | .hbm => 19
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S4x1024x4096, .f32⟩
  | .hbm, ⟨3, _⟩ => ⟨S4x4096x1024, .f32⟩
  | .hbm, ⟨4, _⟩ => ⟨S4x1024, .f32⟩
  | .hbm, ⟨5, _⟩ => ⟨S4x1024, .f32⟩
  | .hbm, ⟨6, _⟩ => ⟨S4x1024x4096, .bf16⟩
  | .hbm, ⟨7, _⟩ => ⟨S4x4096x1024, .bf16⟩
  | .hbm, ⟨8, _⟩ => ⟨S16384x1024, .f32⟩
  | .hbm, ⟨9, _⟩ => ⟨S16384x1024, .bf16⟩
  | .hbm, ⟨10, _⟩ => ⟨S1x1024, .f32⟩
  | .hbm, ⟨11, _⟩ => ⟨S1024, .f32⟩
  | .hbm, ⟨12, _⟩ => ⟨S16384x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x4096, .bf16⟩
  | .local _ .vmem, ⟨3, _⟩ => ⟨S1x4096x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlpRefIdeal.lean ====
abbrev S2x8192x1024 : Shape := ⟨3, ![2, 8192, 1024]⟩
abbrev S4x1024x4096 : Shape := ⟨3, ![4, 1024, 4096]⟩
abbrev S4x4096x1024 : Shape := ⟨3, ![4, 4096, 1024]⟩
abbrev S4x1024 : Shape := ⟨2, ![4, 1024]⟩
abbrev S1x1024x4096 : Shape := ⟨3, ![1, 1024, 4096]⟩
abbrev S1024x4096 : Shape := ⟨2, ![1024, 4096]⟩
abbrev S2x8192x4096 : Shape := ⟨3, ![2, 8192, 4096]⟩
abbrev S_ : Shape := ⟨0, ![]⟩
abbrev S1x4096x1024 : Shape := ⟨3, ![1, 4096, 1024]⟩
abbrev S4096x1024 : Shape := ⟨2, ![4096, 1024]⟩
abbrev S1x1024 : Shape := ⟨2, ![1, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S4x1024x4096, .f32⟩
  | .hbm, ⟨3, _⟩ => ⟨S4x4096x1024, .f32⟩
  | .hbm, ⟨4, _⟩ => ⟨S4x1024, .f32⟩
  | .hbm, ⟨5, _⟩ => ⟨S4x1024, .f32⟩
  | .hbm, ⟨6, _⟩ => ⟨S1x1024x4096, .f32⟩
  | .hbm, ⟨7, _⟩ => ⟨S1024x4096, .f32⟩
  | .hbm, ⟨8, _⟩ => ⟨S2x8192x4096, .f32⟩
  | .hbm, ⟨9, _⟩ => ⟨S_, .f32⟩
  | .hbm, ⟨10, _⟩ => ⟨S2x8192x4096, .f32⟩
  | .hbm, ⟨11, _⟩ => ⟨S2x8192x4096, .f32⟩
  | .hbm, ⟨12, _⟩ => ⟨S2x8192x4096, .f32⟩
  | .hbm, ⟨13, _⟩ => ⟨S1x4096x1024, .f32⟩
  | .hbm, ⟨14, _⟩ => ⟨S4096x1024, .f32⟩
  | .hbm, ⟨15, _⟩ => ⟨S2x8192x1024, .f32⟩
  | .hbm, ⟨16, _⟩ => ⟨S1x1024, .f32⟩
  | .hbm, ⟨17, _⟩ => ⟨S1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S1x1x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S1x1024, .f32⟩
  | .hbm, ⟨36, _⟩ => ⟨S1024, .f32⟩
  | .hbm, ⟨37, _⟩ => ⟨S2x8192x1024, .f32⟩
  | .hbm, ⟨38, _⟩ => ⟨S_, .f32⟩
  | .hbm, ⟨39, _⟩ => ⟨S2x8192, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S_, .f32⟩
  | .hbm, ⟨45, _⟩ => ⟨S2x8192x1, .f32⟩
  | .hbm, ⟨46, _⟩ => ⟨S2x8192x1, .f32⟩
  | .hbm, ⟨47, _⟩ => ⟨S2x8192x1, .f32⟩
  | .hbm, ⟨48, _⟩ => ⟨S2x8192x1024, .f32⟩
  | .hbm, ⟨49, _⟩ => ⟨S2x8192x1024, .f32⟩
  | .hbm, ⟨50, _⟩ => ⟨S1x1x1024, .f32⟩
  | .hbm, ⟨51, _⟩ => ⟨S2x8192x1024, .f32⟩
  | .hbm, ⟨52, _⟩ => ⟨S2x8192x1024, .f32⟩
  | .hbm, ⟨53, _⟩ => ⟨S16384x1024, .f32⟩
  | .hbm, ⟨54, _⟩ => ⟨S16384x1024, .f32⟩
  | .hbm, ⟨55, _⟩ => ⟨S16384x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== InProj.lean ====
abbrev S2x8192x1024 : Shape := ⟨3, ![2, 8192, 1024]⟩
abbrev S4x1024x8752 : Shape := ⟨3, ![4, 1024, 8752]⟩
abbrev S16384x1024 : Shape := ⟨2, ![16384, 1024]⟩
abbrev S4x1024x48 : Shape := ⟨3, ![4, 1024, 48]⟩
abbrev S4x1024x4x12 : Shape := ⟨4, ![4, 1024, 4, 12]⟩
abbrev S_ : Shape := ⟨0, ![]⟩
abbrev S4x1024x4x128 : Shape := ⟨4, ![4, 1024, 4, 128]⟩
abbrev S4x1024x512 : Shape := ⟨3, ![4, 1024, 512]⟩
abbrev S4x1024x3072 : Shape := ⟨3, ![4, 1024, 3072]⟩
abbrev S4x1024x1024 : Shape := ⟨3, ![4, 1024, 1024]⟩
abbrev S4x1024x1536 : Shape := ⟨3, ![4, 1024, 1536]⟩
abbrev S4x1024x9216 : Shape := ⟨3, ![4, 1024, 9216]⟩
abbrev S16384x9216 : Shape := ⟨2, ![16384, 9216]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 17
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S4x1024x8752, .f32⟩
  | .hbm, ⟨2, _⟩ => ⟨S16384x1024, .f32⟩
  | .hbm, ⟨3, _⟩ => ⟨S16384x1024, .bf16⟩
  | .hbm, ⟨4, _⟩ => ⟨S4x1024x8752, .bf16⟩
  | .hbm, ⟨5, _⟩ => ⟨S4x1024x48, .bf16⟩
  | .hbm, ⟨6, _⟩ => ⟨S4x1024x4x12, .bf16⟩
  | .hbm, ⟨7, _⟩ => ⟨S_, .i32⟩
  | .hbm, ⟨8, _⟩ => ⟨S_, .bf16⟩
  | .hbm, ⟨9, _⟩ => ⟨S4x1024x4x128, .bf16⟩
  | .hbm, ⟨10, _⟩ => ⟨S4x1024x512, .bf16⟩
  | .hbm, ⟨11, _⟩ => ⟨S4x1024x3072, .bf16⟩
  | .hbm, ⟨12, _⟩ => ⟨S4x1024x1024, .bf16⟩
  | .hbm, ⟨13, _⟩ => ⟨S4x1024x3072, .bf16⟩
  | .hbm, ⟨14, _⟩ => ⟨S4x1024x1536, .bf16⟩
  | .hbm, ⟨15, _⟩ => ⟨S4x1024x9216, .bf16⟩
  | .hbm, ⟨16, _⟩ => ⟨S16384x9216, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S2x8192x1024 : Shape := ⟨3, ![2, 8192, 1024]⟩
abbrev S4x1024x8752 : Shape := ⟨3, ![4, 1024, 8752]⟩
abbrev S1x1024x8752 : Shape := ⟨3, ![1, 1024, 8752]⟩
abbrev S1024x8752 : Shape := ⟨2, ![1024, 8752]⟩
abbrev S2x8192x8752 : Shape := ⟨3, ![2, 8192, 8752]⟩
abbrev S2x8192x3072 : Shape := ⟨3, ![2, 8192, 3072]⟩
abbrev S2x8192x1536 : Shape := ⟨3, ![2, 8192, 1536]⟩
abbrev S2x8192x48 : Shape := ⟨3, ![2, 8192, 48]⟩
abbrev S2x8192x4096 : Shape := ⟨3, ![2, 8192, 4096]⟩
abbrev S2x8192x4x12 : Shape := ⟨4, ![2, 8192, 4, 12]⟩
abbrev S_ : Shape := ⟨0, ![]⟩
abbrev S2x8192x4x116 : Shape := ⟨4, ![2, 8192, 4, 116]⟩
abbrev S2x8192x4x128 : Shape := ⟨4, ![2, 8192, 4, 128]⟩
abbrev S2x8192x512 : Shape := ⟨3, ![2, 8192, 512]⟩
abbrev S2x8192x7168 : Shape := ⟨3, ![2, 8192, 7168]⟩
abbrev S2x8192x2048 : Shape := ⟨3, ![2, 8192, 2048]⟩
abbrev S2x8192x9216 : Shape := ⟨3, ![2, 8192, 9216]⟩
abbrev S16384x9216 : Shape := ⟨2, ![16384, 9216]⟩

abbrev nBuf : Space → Nat
  | .hbm => 19
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x1024x8752, .f32⟩
  | .hbm, ⟨2, _⟩ => ⟨S1x1024x8752, .f32⟩
  | .hbm, ⟨3, _⟩ => ⟨S1024x8752, .f32⟩
  | .hbm, ⟨4, _⟩ => ⟨S2x8192x8752, .f32⟩
  | .hbm, ⟨5, _⟩ => ⟨S2x8192x3072, .f32⟩
  | .hbm, ⟨6, _⟩ => ⟨S2x8192x1536, .f32⟩
  | .hbm, ⟨7, _⟩ => ⟨S2x8192x48, .f32⟩
  | .hbm, ⟨8, _⟩ => ⟨S2x8192x4096, .f32⟩
  | .hbm, ⟨9, _⟩ => ⟨S2x8192x4x12, .f32⟩
  | .hbm, ⟨10, _⟩ => ⟨S_, .f32⟩
  | .hbm, ⟨11, _⟩ => ⟨S2x8192x4x116, .f32⟩
  | .hbm, ⟨12, _⟩ => ⟨S2x8192x4x128, .f32⟩
  | .hbm, ⟨13, _⟩ => ⟨S2x8192x512, .f32⟩
  | .hbm, ⟨14, _⟩ => ⟨S2x8192x7168, .f32⟩
  | .hbm, ⟨15, _⟩ => ⟨S2x8192x2048, .f32⟩
  | .hbm, ⟨16, _⟩ => ⟨S2x8192x9216, .f32⟩
  | .hbm, ⟨17, _⟩ => ⟨S16384x9216, .f32⟩
  | .hbm, ⟨18, _⟩ => ⟨S16384x9216, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Merge.lean ====
abbrev S2x8192x1024 : Shape := ⟨3, ![2, 8192, 1024]⟩
abbrev S2x8192x8752 : Shape := ⟨3, ![2, 8192, 8752]⟩
abbrev S4x1024x1024 : Shape := ⟨3, ![4, 1024, 1024]⟩
abbrev S4x1024 : Shape := ⟨2, ![4, 1024]⟩
abbrev S16384x1024 : Shape := ⟨2, ![16384, 1024]⟩
abbrev S2x8192x48 : Shape := ⟨3, ![2, 8192, 48]⟩
abbrev S2x8192x4x12 : Shape := ⟨4, ![2, 8192, 4, 12]⟩
abbrev S_ : Shape := ⟨0, ![]⟩
abbrev S2x8192x4x128 : Shape := ⟨4, ![2, 8192, 4, 128]⟩
abbrev S2x8192x512 : Shape := ⟨3, ![2, 8192, 512]⟩
abbrev S2x8192x3072 : Shape := ⟨3, ![2, 8192, 3072]⟩
abbrev S2x8192x1536 : Shape := ⟨3, ![2, 8192, 1536]⟩
abbrev S2x8192x9216 : Shape := ⟨3, ![2, 8192, 9216]⟩
abbrev S16384x9216 : Shape := ⟨2, ![16384, 9216]⟩
abbrev S1x1024 : Shape := ⟨2, ![1, 1024]⟩
abbrev S1024 : Shape := ⟨1, ![1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 43
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S2x8192x8752, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S4x1024, .f32⟩
  | .hbm, ⟨9, _⟩ => ⟨S2x8192x1024, .f32⟩
  | .hbm, ⟨10, _⟩ => ⟨S4x1024, .f32⟩
  | .hbm, ⟨11, _⟩ => ⟨S4x1024x1024, .bf16⟩
  | .hbm, ⟨12, _⟩ => ⟨S4x1024x1024, .bf16⟩
  | .hbm, ⟨13, _⟩ => ⟨S4x1024x1024, .bf16⟩
  | .hbm, ⟨14, _⟩ => ⟨S4x1024x1024, .bf16⟩
  | .hbm, ⟨15, _⟩ => ⟨S16384x1024, .f32⟩
  | .hbm, ⟨16, _⟩ => ⟨S16384x1024, .bf16⟩
  | .hbm, ⟨17, _⟩ => ⟨S16384x1024, .f32⟩
  | .hbm, ⟨18, _⟩ => ⟨S16384x1024, .bf16⟩
  | .hbm, ⟨19, _⟩ => ⟨S16384x1024, .f32⟩
  | .hbm, ⟨20, _⟩ => ⟨S16384x1024, .bf16⟩
  | .hbm, ⟨21, _⟩ => ⟨S2x8192x48, .f32⟩
  | .hbm, ⟨22, _⟩ => ⟨S2x8192x4x12, .f32⟩
  | .hbm, ⟨23, _⟩ => ⟨S_, .i32⟩
  | .hbm, ⟨24, _⟩ => ⟨S_, .f32⟩
  | .hbm, ⟨25, _⟩ => ⟨S2x8192x4x128, .f32⟩
  | .hbm, ⟨26, _⟩ => ⟨S2x8192x512, .f32⟩
  | .hbm, ⟨27, _⟩ => ⟨S2x8192x3072, .f32⟩
  | .hbm, ⟨28, _⟩ => ⟨S2x8192x1024, .f32⟩
  | .hbm, ⟨29, _⟩ => ⟨S2x8192x3072, .f32⟩
  | .hbm, ⟨30, _⟩ => ⟨S2x8192x1536, .f32⟩
  | .hbm, ⟨31, _⟩ => ⟨S2x8192x9216, .f32⟩
  | .hbm, ⟨32, _⟩ => ⟨S2x8192x9216, .bf16⟩
  | .hbm, ⟨33, _⟩ => ⟨S16384x9216, .bf16⟩
  | .hbm, ⟨34, _⟩ => ⟨S1x1024, .f32⟩
  | .hbm, ⟨35, _⟩ => ⟨S1024, .f32⟩
  | .hbm, ⟨36, _⟩ => ⟨S16384x1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S1x1024, .f32⟩
  | .hbm, ⟨41, _⟩ => ⟨S16384x1024, .f32⟩
  | .hbm, ⟨42, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S2x8192x1024 : Shape := ⟨3, ![2, 8192, 1024]⟩
abbrev S2x8192x8752 : Shape := ⟨3, ![2, 8192, 8752]⟩
abbrev S4x1024x1024 : Shape := ⟨3, ![4, 1024, 1024]⟩
abbrev S4x1024 : Shape := ⟨2, ![4, 1024]⟩
abbrev S2x8192x3072 : Shape := ⟨3, ![2, 8192, 3072]⟩
abbrev S_ : Shape := ⟨0, ![]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 80
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S2x8192x8752, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S4x1024, .f32⟩
  | .hbm, ⟨9, _⟩ => ⟨S2x8192x1024, .f32⟩
  | .hbm, ⟨10, _⟩ => ⟨S4x1024, .f32⟩
  | .hbm, ⟨11, _⟩ => ⟨S2x8192x3072, .f32⟩
  | .hbm, ⟨12, _⟩ => ⟨S2x8192x3072, .f32⟩
  | .hbm, ⟨13, _⟩ => ⟨S2x8192x3072, .f32⟩
  | .hbm, ⟨14, _⟩ => ⟨S_, .f32⟩
  | .hbm, ⟨15, _⟩ => ⟨S2x8192x3072, .f32⟩
  | .hbm, ⟨16, _⟩ => ⟨S2x8192x3072, .f32⟩
  | .hbm, ⟨17, _⟩ => ⟨S_, .f32⟩
  | .hbm, ⟨18, _⟩ => ⟨S2x8192x3072, .f32⟩
  | .hbm, ⟨19, _⟩ => ⟨S2x8192x3072, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S1x1024x1024, .f32⟩
  | .hbm, ⟨24, _⟩ => ⟨S1024x1024, .f32⟩
  | .hbm, ⟨25, _⟩ => ⟨S2x8192x1024, .f32⟩
  | .hbm, ⟨26, _⟩ => ⟨S2x8192x1024, .f32⟩
  | .hbm, ⟨27, _⟩ => ⟨S1x1024x1024, .f32⟩
  | .hbm, ⟨28, _⟩ => ⟨S1024x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S1x1024x1024, .f32⟩
  | .hbm, ⟨33, _⟩ => ⟨S1024x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S1x1024x1024, .f32⟩
  | .hbm, ⟨38, _⟩ => ⟨S1024x1024, .f32⟩
  | .hbm, ⟨39, _⟩ => ⟨S2x8192x1024, .f32⟩
  | .hbm, ⟨40, _⟩ => ⟨S1x1024, .f32⟩
  | .hbm, ⟨41, _⟩ => ⟨S1024, .f32⟩
  | .hbm, ⟨42, _⟩ => ⟨S2x8192x1024, .f32⟩
  | .hbm, ⟨43, _⟩ => ⟨S_, .f32⟩
  | .hbm, ⟨44, _⟩ => ⟨S2x8192, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S_, .f32⟩
  | .hbm, ⟨50, _⟩ => ⟨S2x8192x1, .f32⟩
  | .hbm, ⟨51, _⟩ => ⟨S2x8192x1, .f32⟩
  | .hbm, ⟨52, _⟩ => ⟨S2x8192x1, .f32⟩
  | .hbm, ⟨53, _⟩ => ⟨S2x8192x1024, .f32⟩
  | .hbm, ⟨54, _⟩ => ⟨S2x8192x1024, .f32⟩
  | .hbm, ⟨55, _⟩ => ⟨S1x1x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S1x1024, .f32⟩
  | .hbm, ⟨60, _⟩ => ⟨S1024, .f32⟩
  | .hbm, ⟨61, _⟩ => ⟨S2x8192x1024, .f32⟩
  | .hbm, ⟨62, _⟩ => ⟨S_, .f32⟩
  | .hbm, ⟨63, _⟩ => ⟨S2x8192, .f32⟩
  | .hbm, ⟨64, _⟩ => ⟨S2x8192x1, .f32⟩
  | .hbm, ⟨65, _⟩ => ⟨S_, .f32⟩
  | .hbm, ⟨66, _⟩ => ⟨S2x8192x1, .f32⟩
  | .hbm, ⟨67, _⟩ => ⟨S2x8192x1, .f32⟩
  | .hbm, ⟨68, _⟩ => ⟨S_, .f32⟩
  | .hbm, ⟨69, _⟩ => ⟨S2x8192x1, .f32⟩
  | .hbm, ⟨70, _⟩ => ⟨S2x8192x1, .f32⟩
  | .hbm, ⟨71, _⟩ => ⟨S2x8192x1, .f32⟩
  | .hbm, ⟨72, _⟩ => ⟨S2x8192x1024, .f32⟩
  | .hbm, ⟨73, _⟩ => ⟨S2x8192x1024, .f32⟩
  | .hbm, ⟨74, _⟩ => ⟨S1x1x1024, .f32⟩
  | .hbm, ⟨75, _⟩ => ⟨S2x8192x1024, .f32⟩
  | .hbm, ⟨76, _⟩ => ⟨S2x8192x1024, .f32⟩
  | .hbm, ⟨77, _⟩ => ⟨S16384x1024, .f32⟩
  | .hbm, ⟨78, _⟩ => ⟨S16384x1024, .f32⟩
  | .hbm, ⟨79, _⟩ => ⟨S16384x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== MemAttn.lean ====
abbrev S2x8192x8752 : Shape := ⟨3, ![2, 8192, 8752]⟩
abbrev S2x256x2048 : Shape := ⟨3, ![2, 256, 2048]⟩
abbrev S2x8192x48 : Shape := ⟨3, ![2, 8192, 48]⟩
abbrev S2x8192x4x12 : Shape := ⟨4, ![2, 8192, 4, 12]⟩
abbrev S_ : Shape := ⟨0, ![]⟩
abbrev S2x8192x4x128 : Shape := ⟨4, ![2, 8192, 4, 128]⟩
abbrev S2x8192x512 : Shape := ⟨3, ![2, 8192, 512]⟩
abbrev S2x8192x3072 : Shape := ⟨3, ![2, 8192, 3072]⟩
abbrev S2x8192x1024 : Shape := ⟨3, ![2, 8192, 1024]⟩
abbrev S2x8192x1536 : Shape := ⟨3, ![2, 8192, 1536]⟩
abbrev S2x8192x9216 : Shape := ⟨3, ![2, 8192, 9216]⟩
abbrev S16384x9216 : Shape := ⟨2, ![16384, 9216]⟩
abbrev S16384x1024 : Shape := ⟨2, ![16384, 1024]⟩
abbrev S512x1024 : Shape := ⟨2, ![512, 1024]⟩
abbrev S1x256x2048 : Shape := ⟨3, ![1, 256, 2048]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 17
  | .vmem => 6
  | .smem => 0
  | _ => 0

abbrev bufTy : (tb : Table) → Fin (tcTables nBuf tb) → BufTy
  | .hbm, ⟨0, _⟩ => ⟨S2x8192x8752, .f32⟩
  | .hbm, ⟨1, _⟩ => ⟨S2x256x2048, .f32⟩
  | .hbm, ⟨2, _⟩ => ⟨S2x8192x48, .f32⟩
  | .hbm, ⟨3, _⟩ => ⟨S2x8192x4x12, .f32⟩
  | .hbm, ⟨4, _⟩ => ⟨S_, .i32⟩
  | .hbm, ⟨5, _⟩ => ⟨S_, .f32⟩
  | .hbm, ⟨6, _⟩ => ⟨S2x8192x4x128, .f32⟩
  | .hbm, ⟨7, _⟩ => ⟨S2x8192x512, .f32⟩
  | .hbm, ⟨8, _⟩ => ⟨S2x8192x3072, .f32⟩
  | .hbm, ⟨9, _⟩ => ⟨S2x8192x1024, .f32⟩
  | .hbm, ⟨10, _⟩ => ⟨S2x8192x3072, .f32⟩
  | .hbm, ⟨11, _⟩ => ⟨S2x8192x1536, .f32⟩
  | .hbm, ⟨12, _⟩ => ⟨S2x8192x9216, .f32⟩
  | .hbm, ⟨13, _⟩ => ⟨S2x8192x9216, .bf16⟩
  | .hbm, ⟨14, _⟩ => ⟨S16384x9216, .bf16⟩
  | .hbm, ⟨15, _⟩ => ⟨S2x256x2048, .bf16⟩
  | .hbm, ⟨16, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1x256x2048, .bf16⟩
  | .local _ .vmem, ⟨3, _⟩ => ⟨S1x256x2048, .bf16⟩
  | .local _ .vmem, ⟨4, _⟩ => ⟨S512x1024, .bf16⟩
  | .local _ .vmem, ⟨5, _⟩ => ⟨S512x1024, .bf16⟩
  | _, _ => ⟨S2x8192x8752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemAttnRefIdeal.lean ====
abbrev S2x8192x8752 : Shape := ⟨3, ![2, 8192, 8752]⟩
abbrev S2x256x2048 : Shape := ⟨3, ![2, 256, 2048]⟩
abbrev S2x8192x1024 : Shape := ⟨3, ![2, 8192, 1024]⟩
abbrev S2x8192x4x256 : Shape := ⟨4, ![2, 8192, 4, 256]⟩
abbrev S2x256x2x4x256 : Shape := ⟨5, ![2, 256, 2, 4, 256]⟩
abbrev S2x256x1x4x256 : Shape := ⟨5, ![2, 256, 1, 4, 256]⟩
abbrev S2x256x4x256 : Shape := ⟨4, ![2, 256, 4, 256]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩
abbrev S16384x1024 : Shape := ⟨2, ![16384, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x8752, .f32⟩
  | .hbm, ⟨1, _⟩ => ⟨S2x256x2048, .f32⟩
  | .hbm, ⟨2, _⟩ => ⟨S2x8192x1024, .f32⟩
  | .hbm, ⟨3, _⟩ => ⟨S2x8192x4x256, .f32⟩
  | .hbm, ⟨4, _⟩ => ⟨S2x256x2x4x256, .f32⟩
  | .hbm, ⟨5, _⟩ => ⟨S2x256x1x4x256, .f32⟩
  | .hbm, ⟨6, _⟩ => ⟨S2x256x4x256, .f32⟩
  | .hbm, ⟨7, _⟩ => ⟨S2x256x1x4x256, .f32⟩
  | .hbm, ⟨8, _⟩ => ⟨S2x256x4x256, .f32⟩
  | .hbm, ⟨9, _⟩ => ⟨S2x4x8192x256, .f32⟩
  | .hbm, ⟨10, _⟩ => ⟨S_, .f32⟩
  | .hbm, ⟨11, _⟩ => ⟨S2x4x8192x256, .f32⟩
  | .hbm, ⟨12, _⟩ => ⟨S2x4x8192x256, .f32⟩
  | .hbm, ⟨13, _⟩ => ⟨S_, .f32⟩
  | .hbm, ⟨14, _⟩ => ⟨S2x4x8192, .f32⟩
  | .hbm, ⟨15, _⟩ => ⟨S_, .f32⟩
  | .hbm, ⟨16, _⟩ => ⟨S2x4x8192, .f32⟩
  | .hbm, ⟨17, _⟩ => ⟨S2x4x8192, .f32⟩
  | .hbm, ⟨18, _⟩ => ⟨S2x4x8192x1, .f32⟩
  | .hbm, ⟨19, _⟩ => ⟨S2x4x8192x256, .f32⟩
  | .hbm, ⟨20, _⟩ => ⟨S2x4x8192x256, .f32⟩
  | .hbm, ⟨21, _⟩ => ⟨S2x4x8192x256, .f32⟩
  | .hbm, ⟨22, _⟩ => ⟨S_, .f32⟩
  | .hbm, ⟨23, _⟩ => ⟨S2x4x8192, .f32⟩
  | .hbm, ⟨24, _⟩ => ⟨S2x4x8192x1, .f32⟩
  | .hbm, ⟨25, _⟩ => ⟨S2x4x8192x256, .f32⟩
  | .hbm, ⟨26, _⟩ => ⟨S2x4x8192x256, .f32⟩
  | .hbm, ⟨27, _⟩ => ⟨S2x4x256x8192, .f32⟩
  | .hbm, ⟨28, _⟩ => ⟨S2x8192x4x256, .f32⟩
  | .hbm, ⟨29, _⟩ => ⟨S16384x1024, .f32⟩
  | .hbm, ⟨30, _⟩ => ⟨S16384x1024, .bf16⟩
  | _, _ => ⟨S2x8192x8752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Norm.lean ====
abbrev S2x8192x1024 : Shape := ⟨3, ![2, 8192, 1024]⟩
abbrev S4x1024 : Shape := ⟨2, ![4, 1024]⟩
abbrev S16384x1024 : Shape := ⟨2, ![16384, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S16384x1024, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2x8192x1024 : Shape := ⟨3, ![2, 8192, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S1x1024, .f32⟩
  | .hbm, ⟨3, _⟩ => ⟨S1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S16384x1024, .f32⟩
  | .hbm, ⟨21, _⟩ => ⟨S16384x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== MemKv.lean ====
abbrev S2x256x1024 : Shape := ⟨3, ![2, 256, 1024]⟩
abbrev S4x1024x2048 : Shape := ⟨3, ![4, 1024, 2048]⟩
abbrev S512x1024 : Shape := ⟨2, ![512, 1024]⟩
abbrev S512x2048 : Shape := ⟨2, ![512, 2048]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S4x1024x2048, .f32⟩
  | .hbm, ⟨2, _⟩ => ⟨S512x1024, .f32⟩
  | .hbm, ⟨3, _⟩ => ⟨S512x1024, .bf16⟩
  | .hbm, ⟨4, _⟩ => ⟨S4x1024x2048, .bf16⟩
  | .hbm, ⟨5, _⟩ => ⟨S512x2048, .bf16⟩
  | .local _ .vmem, ⟨0, _⟩ => ⟨S256x1024, .bf16⟩
  | .local _ .vmem, ⟨1, _⟩ => ⟨S256x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S256x1024, .bf16⟩
  | .local _ .vmem, ⟨5, _⟩ => ⟨S256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemKvRefIdeal.lean ====
abbrev S2x256x1024 : Shape := ⟨3, ![2, 256, 1024]⟩
abbrev S4x1024x2048 : Shape := ⟨3, ![4, 1024, 2048]⟩
abbrev S1x1024x2048 : Shape := ⟨3, ![1, 1024, 2048]⟩
abbrev S1024x2048 : Shape := ⟨2, ![1024, 2048]⟩
abbrev S2x256x2048 : Shape := ⟨3, ![2, 256, 2048]⟩
abbrev S512x2048 : Shape := ⟨2, ![512, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S4x1024x2048, .f32⟩
  | .hbm, ⟨2, _⟩ => ⟨S1x1024x2048, .f32⟩
  | .hbm, ⟨3, _⟩ => ⟨S1024x2048, .f32⟩
  | .hbm, ⟨4, _⟩ => ⟨S2x256x2048, .f32⟩
  | .hbm, ⟨5, _⟩ => ⟨S512x2048, .f32⟩
  | .hbm, ⟨6, _⟩ => ⟨S512x2048, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== CmpK.lean ====
abbrev S2x8192x4x64 : Shape := ⟨4, ![2, 8192, 4, 64]⟩
abbrev S2x512x32 : Shape := ⟨3, ![2, 512, 32]⟩
abbrev S2x32x64 : Shape := ⟨3, ![2, 32, 64]⟩
abbrev S2x2048x256 : Shape := ⟨3, ![2, 2048, 256]⟩
abbrev S2x256 : Shape := ⟨2, ![2, 256]⟩
abbrev S2x256x64 : Shape := ⟨3, ![2, 256, 64]⟩
abbrev S2x4x8192x64 : Shape := ⟨4, ![2, 4, 8192, 64]⟩
abbrev S8x512x1024 : Shape := ⟨3, ![8, 512, 1024]⟩
abbrev S2x2x1024 : Shape := ⟨3, ![2, 2, 1024]⟩
abbrev S2x512x128 : Shape := ⟨3, ![2, 512, 128]⟩
abbrev S2x1x256 : Shape := ⟨3, ![2, 1, 256]⟩
abbrev S8x512x64 : Shape := ⟨3, ![8, 512, 64]⟩
abbrev S1x512x1024 : Shape := ⟨3, ![1, 512, 1024]⟩
abbrev S1x2x1024 : Shape := ⟨3, ![1, 2, 1024]⟩
abbrev S1x2048x256 : Shape := ⟨3, ![1, 2048, 256]⟩
abbrev S1x1x256 : Shape := ⟨3, ![1, 1, 256]⟩
abbrev S1x256x64 : Shape := ⟨3, ![1, 256, 64]⟩
abbrev S1x512x128 : Shape := ⟨3, ![1, 512, 128]⟩
abbrev S1x512x64 : Shape := ⟨3, ![1, 512, 64]⟩
abbrev S512x1024 : Shape := ⟨2, ![512, 1024]⟩
abbrev S2x1024 : Shape := ⟨2, ![2, 1024]⟩
abbrev S2048x256 : Shape := ⟨2, ![2048, 256]⟩
abbrev S1x1024 : Shape := ⟨2, ![1, 1024]⟩
abbrev S1024x256 : Shape := ⟨2, ![1024, 256]⟩
abbrev S512x256 : Shape := ⟨2, ![512, 256]⟩
abbrev S1x256 : Shape := ⟨2, ![1, 256]⟩
abbrev S256x64 : Shape := ⟨2, ![256, 64]⟩
abbrev S512x64 : Shape := ⟨2, ![512, 64]⟩
abbrev S512x32 : Shape := ⟨2, ![512, 32]⟩
abbrev S512x128 : Shape := ⟨2, ![512, 128]⟩

abbrev nBuf : Space → Nat
  | .hbm => 19
  | .vmem => 12
  | .smem => 0
  | _ => 0

abbrev bufTy : (tb : Table) → Fin (tcTables nBuf tb) → BufTy
  | .hbm, ⟨0, _⟩ => ⟨S2x8192x4x64, .f32⟩
  | .hbm, ⟨1, _⟩ => ⟨S2x512x32, .f32⟩
  | .hbm, ⟨2, _⟩ => ⟨S2x512x32, .f32⟩
  | .hbm, ⟨3, _⟩ => ⟨S2x32x64, .f32⟩
  | .hbm, ⟨4, _⟩ => ⟨S2x2048x256, .f32⟩
  | .hbm, ⟨5, _⟩ => ⟨S2x256, .f32⟩
  | .hbm, ⟨6, _⟩ => ⟨S2x256x64, .f32⟩
  | .hbm, ⟨7, _⟩ => ⟨S2x4x8192x64, .f32⟩
  | .hbm, ⟨8, _⟩ => ⟨S8x512x1024, .f32⟩
  | .hbm, ⟨9, _⟩ => ⟨S8x512x1024, .bf16⟩
  | .hbm, ⟨10, _⟩ => ⟨S2x2x1024, .f32⟩
  | .hbm, ⟨11, _⟩ => ⟨S2x512x128, .f32⟩
  | .hbm, ⟨12, _⟩ => ⟨S2x512x32, .f32⟩
  | .hbm, ⟨13, _⟩ => ⟨S2x512x32, .f32⟩
  | .hbm, ⟨14, _⟩ => ⟨S2x512x128, .f32⟩
  | .hbm, ⟨15, _⟩ => ⟨S2x2048x256, .bf16⟩
  | .hbm, ⟨16, _⟩ => ⟨S2x1x256, .f32⟩
  | .hbm, ⟨17, _⟩ => ⟨S2x256x64, .bf16⟩
  | .hbm, ⟨18, _⟩ => ⟨S8x512x64, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x2x1024, .f32⟩
  | .local _ .vmem, ⟨3, _⟩ => ⟨S1x2048x256, .bf16⟩
  | .local _ .vmem, ⟨4, _⟩ => ⟨S1x1x256, .f32⟩
  | .local _ .vmem, ⟨5, _⟩ => ⟨S1x256x64, .bf16⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x64, .bf16⟩
  | .local _ .vmem, ⟨11, _⟩ => ⟨S1x512x64, .bf16⟩
  | _, _ => ⟨S2x8192x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CmpKRefIdeal.lean ====
abbrev S2x8192x4x64 : Shape := ⟨4, ![2, 8192, 4, 64]⟩
abbrev S2x512x32 : Shape := ⟨3, ![2, 512, 32]⟩
abbrev S2x32x64 : Shape := ⟨3, ![2, 32, 64]⟩
abbrev S2x2048x256 : Shape := ⟨3, ![2, 2048, 256]⟩
abbrev S2x256 : Shape := ⟨2, ![2, 256]⟩
abbrev S2x256x64 : Shape := ⟨3, ![2, 256, 64]⟩
abbrev S2x512x16x4x64 : Shape := ⟨5, ![2, 512, 16, 4, 64]⟩
abbrev S2x511x16x4x64 : Shape := ⟨5, ![2, 511, 16, 4, 64]⟩
abbrev S2x1x16x4x64 : Shape := ⟨5, ![2, 1, 16, 4, 64]⟩
abbrev S2x512x32x4x64 : Shape := ⟨5, ![2, 512, 32, 4, 64]⟩
abbrev S1x32x64 : Shape := ⟨3, ![1, 32, 64]⟩
abbrev S32x64 : Shape := ⟨2, ![32, 64]⟩
abbrev S1x1x32x1x64 : Shape := ⟨5, ![1, 1, 32, 1, 64]⟩
abbrev S2x512x4x32x64 : Shape := ⟨5, ![2, 512, 4, 32, 64]⟩
abbrev S2x512x4x2048 : Shape := ⟨4, ![2, 512, 4, 2048]⟩
abbrev S1x2048x256 : Shape := ⟨3, ![1, 2048, 256]⟩
abbrev S2048x256 : Shape := ⟨2, ![2048, 256]⟩
abbrev S2x512x4x256 : Shape := ⟨4, ![2, 512, 4, 256]⟩
abbrev S1x256 : Shape := ⟨2, ![1, 256]⟩
abbrev S256 : Shape := ⟨1, ![256]⟩
abbrev S1x1x1x256 : Shape := ⟨4, ![1, 1, 1, 256]⟩
abbrev S_ : Shape := ⟨0, ![]⟩
abbrev S1x256x64 : Shape := ⟨3, ![1, 256, 64]⟩
abbrev S256x64 : Shape := ⟨2, ![256, 64]⟩
abbrev S2x512x4x64 : Shape := ⟨4, ![2, 512, 4, 64]⟩
abbrev S2x512x1x32 : Shape := ⟨4, ![2, 512, 1, 32]⟩
abbrev S2x512x4x32 : Shape := ⟨4, ![2, 512, 4, 32]⟩
abbrev S2x4x512x64 : Shape := ⟨4, ![2, 4, 512, 64]⟩
abbrev S8x512x64 : Shape := ⟨3, ![8, 512, 64]⟩

abbrev nBuf : Space → Nat
  | .hbm => 65
  | .vmem => 0
  | .smem => 0
  | _ => 0

abbrev bufTy : (tb : Table) → Fin (tcTables nBuf tb) → BufTy
  | .hbm, ⟨0, _⟩ => ⟨S2x8192x4x64, .f32⟩
  | .hbm, ⟨1, _⟩ => ⟨S2x512x32, .f32⟩
  | .hbm, ⟨2, _⟩ => ⟨S2x512x32, .f32⟩
  | .hbm, ⟨3, _⟩ => ⟨S2x32x64, .f32⟩
  | .hbm, ⟨4, _⟩ => ⟨S2x2048x256, .f32⟩
  | .hbm, ⟨5, _⟩ => ⟨S2x256, .f32⟩
  | .hbm, ⟨6, _⟩ => ⟨S2x256x64, .f32⟩
  | .hbm, ⟨7, _⟩ => ⟨S2x512x16x4x64, .f32⟩
  | .hbm, ⟨8, _⟩ => ⟨S2x511x16x4x64, .f32⟩
  | .hbm, ⟨9, _⟩ => ⟨S2x1x16x4x64, .f32⟩
  | .hbm, ⟨10, _⟩ => ⟨S2x512x16x4x64, .f32⟩
  | .hbm, ⟨11, _⟩ => ⟨S2x512x32x4x64, .f32⟩
  | .hbm, ⟨12, _⟩ => ⟨S1x32x64, .f32⟩
  | .hbm, ⟨13, _⟩ => ⟨S32x64, .f32⟩
  | .hbm, ⟨14, _⟩ => ⟨S1x1x32x1x64, .f32⟩
  | .hbm, ⟨15, _⟩ => ⟨S2x512x32x4x64, .f32⟩
  | .hbm, ⟨16, _⟩ => ⟨S2x512x32x4x64, .f32⟩
  | .hbm, ⟨17, _⟩ => ⟨S2x512x4x32x64, .f32⟩
  | .hbm, ⟨18, _⟩ => ⟨S2x512x4x2048, .f32⟩
  | .hbm, ⟨19, _⟩ => ⟨S1x2048x256, .f32⟩
  | .hbm, ⟨20, _⟩ => ⟨S2048x256, .f32⟩
  | .hbm, ⟨21, _⟩ => ⟨S2x512x4x256, .f32⟩
  | .hbm, ⟨22, _⟩ => ⟨S1x256, .f32⟩
  | .hbm, ⟨23, _⟩ => ⟨S256, .f32⟩
  | .hbm, ⟨24, _⟩ => ⟨S1x1x1x256, .f32⟩
  | .hbm, ⟨25, _⟩ => ⟨S2x512x4x256, .f32⟩
  | .hbm, ⟨26, _⟩ => ⟨S2x512x4x256, .f32⟩
  | .hbm, ⟨27, _⟩ => ⟨S2x512x4x256, .f32⟩
  | .hbm, ⟨28, _⟩ => ⟨S2x512x4x256, .f32⟩
  | .hbm, ⟨29, _⟩ => ⟨S_, .f32⟩
  | .hbm, ⟨30, _⟩ => ⟨S2x512x4x256, .f32⟩
  | .hbm, ⟨31, _⟩ => ⟨S2x512x4x256, .f32⟩
  | .hbm, ⟨32, _⟩ => ⟨S2x512x4x256, .f32⟩
  | .hbm, ⟨33, _⟩ => ⟨S_, .f32⟩
  | .hbm, ⟨34, _⟩ => ⟨S2x512x4x256, .f32⟩
  | .hbm, ⟨35, _⟩ => ⟨S2x512x4x256, .f32⟩
  | .hbm, ⟨36, _⟩ => ⟨S2x512x4x256, .f32⟩
  | .hbm, ⟨37, _⟩ => ⟨S_, .f32⟩
  | .hbm, ⟨38, _⟩ => ⟨S2x512x4x256, .f32⟩
  | .hbm, ⟨39, _⟩ => ⟨S2x512x4x256, .f32⟩
  | .hbm, ⟨40, _⟩ => ⟨S_, .f32⟩
  | .hbm, ⟨41, _⟩ => ⟨S2x512x4x256, .f32⟩
  | .hbm, ⟨42, _⟩ => ⟨S2x512x4x256, .f32⟩
  | .hbm, ⟨43, _⟩ => ⟨S2x512x4x256, .f32⟩
  | .hbm, ⟨44, _⟩ => ⟨S1x256x64, .f32⟩
  | .hbm, ⟨45, _⟩ => ⟨S256x64, .f32⟩
  | .hbm, ⟨46, _⟩ => ⟨S2x512x4x64, .f32⟩
  | .hbm, ⟨47, _⟩ => ⟨S2x512x1x32, .f32⟩
  | .hbm, ⟨48, _⟩ => ⟨S2x512x1x32, .f32⟩
  | .hbm, ⟨49, _⟩ => ⟨S2x512x4x32, .f32⟩
  | .hbm, ⟨50, _⟩ => ⟨S2x512x4x32, .f32⟩
  | .hbm, ⟨51, _⟩ => ⟨S2x512x4x32, .f32⟩
  | .hbm, ⟨52, _⟩ => ⟨S2x512x4x32, .f32⟩
  | .hbm, ⟨53, _⟩ => ⟨S2x512x4x32, .f32⟩
  | .hbm, ⟨54, _⟩ => ⟨S2x512x4x32, .f32⟩
  | .hbm, ⟨55, _⟩ => ⟨S2x512x4x32, .f32⟩
  | .hbm, ⟨56, _⟩ => ⟨S2x512x4x32, .f32⟩
  | .hbm, ⟨57, _⟩ => ⟨S2x512x4x32, .f32⟩
  | .hbm, ⟨58, _⟩ => ⟨S2x512x4x32, .f32⟩
  | .hbm, ⟨59, _⟩ => ⟨S2x512x4x32, .f32⟩
  | .hbm, ⟨60, _⟩ => ⟨S2x512x4x32, .f32⟩
  | .hbm, ⟨61, _⟩ => ⟨S2x512x4x64, .f32⟩
  | .hbm, ⟨62, _⟩ => ⟨S2x4x512x64, .f32⟩
  | .hbm, ⟨63, _⟩ => ⟨S8x512x64, .f32⟩
  | .hbm, ⟨64, _⟩ => ⟨S8x512x64, .bf16⟩
  | _, _ => ⟨S2x8192x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== CmpV.lean ====
abbrev S2x8192x4x64 : Shape := ⟨4, ![2, 8192, 4, 64]⟩
abbrev S2x512x32 : Shape := ⟨3, ![2, 512, 32]⟩
abbrev S2x32x64 : Shape := ⟨3, ![2, 32, 64]⟩
abbrev S2x2048x256 : Shape := ⟨3, ![2, 2048, 256]⟩
abbrev S2x256 : Shape := ⟨2, ![2, 256]⟩
abbrev S2x256x64 : Shape := ⟨3, ![2, 256, 64]⟩
abbrev S2x4x8192x64 : Shape := ⟨4, ![2, 4, 8192, 64]⟩
abbrev S8x512x1024 : Shape := ⟨3, ![8, 512, 1024]⟩
abbrev S2x2x1024 : Shape := ⟨3, ![2, 2, 1024]⟩
abbrev S2x512x128 : Shape := ⟨3, ![2, 512, 128]⟩
abbrev S2x1x256 : Shape := ⟨3, ![2, 1, 256]⟩
abbrev S8x512x64 : Shape := ⟨3, ![8, 512, 64]⟩
abbrev S1x512x1024 : Shape := ⟨3, ![1, 512, 1024]⟩
abbrev S1x2x1024 : Shape := ⟨3, ![1, 2, 1024]⟩
abbrev S1x2048x256 : Shape := ⟨3, ![1, 2048, 256]⟩
abbrev S1x1x256 : Shape := ⟨3, ![1, 1, 256]⟩
abbrev S1x256x64 : Shape := ⟨3, ![1, 256, 64]⟩
abbrev S1x512x128 : Shape := ⟨3, ![1, 512, 128]⟩
abbrev S1x512x64 : Shape := ⟨3, ![1, 512, 64]⟩
abbrev S512x1024 : Shape := ⟨2, ![512, 1024]⟩
abbrev S2x1024 : Shape := ⟨2, ![2, 1024]⟩
abbrev S2048x256 : Shape := ⟨2, ![2048, 256]⟩
abbrev S1x1024 : Shape := ⟨2, ![1, 1024]⟩
abbrev S1024x256 : Shape := ⟨2, ![1024, 256]⟩
abbrev S512x256 : Shape := ⟨2, ![512, 256]⟩
abbrev S1x256 : Shape := ⟨2, ![1, 256]⟩
abbrev S256x64 : Shape := ⟨2, ![256, 64]⟩
abbrev S512x64 : Shape := ⟨2, ![512, 64]⟩

abbrev nBuf : Space → Nat
  | .hbm => 19
  | .vmem => 12
  | .smem => 0
  | _ => 0

abbrev bufTy : (tb : Table) → Fin (tcTables nBuf tb) → BufTy
  | .hbm, ⟨0, _⟩ => ⟨S2x8192x4x64, .f32⟩
  | .hbm, ⟨1, _⟩ => ⟨S2x512x32, .f32⟩
  | .hbm, ⟨2, _⟩ => ⟨S2x512x32, .f32⟩
  | .hbm, ⟨3, _⟩ => ⟨S2x32x64, .f32⟩
  | .hbm, ⟨4, _⟩ => ⟨S2x2048x256, .f32⟩
  | .hbm, ⟨5, _⟩ => ⟨S2x256, .f32⟩
  | .hbm, ⟨6, _⟩ => ⟨S2x256x64, .f32⟩
  | .hbm, ⟨7, _⟩ => ⟨S2x4x8192x64, .f32⟩
  | .hbm, ⟨8, _⟩ => ⟨S8x512x1024, .f32⟩
  | .hbm, ⟨9, _⟩ => ⟨S8x512x1024, .bf16⟩
  | .hbm, ⟨10, _⟩ => ⟨S2x2x1024, .f32⟩
  | .hbm, ⟨11, _⟩ => ⟨S2x512x128, .f32⟩
  | .hbm, ⟨12, _⟩ => ⟨S2x512x32, .f32⟩
  | .hbm, ⟨13, _⟩ => ⟨S2x512x32, .f32⟩
  | .hbm, ⟨14, _⟩ => ⟨S2x512x128, .f32⟩
  | .hbm, ⟨15, _⟩ => ⟨S2x2048x256, .bf16⟩
  | .hbm, ⟨16, _⟩ => ⟨S2x1x256, .f32⟩
  | .hbm, ⟨17, _⟩ => ⟨S2x256x64, .bf16⟩
  | .hbm, ⟨18, _⟩ => ⟨S8x512x64, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x2x1024, .f32⟩
  | .local _ .vmem, ⟨3, _⟩ => ⟨S1x2048x256, .bf16⟩
  | .local _ .vmem, ⟨4, _⟩ => ⟨S1x1x256, .f32⟩
  | .local _ .vmem, ⟨5, _⟩ => ⟨S1x256x64, .bf16⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x64, .bf16⟩
  | .local _ .vmem, ⟨11, _⟩ => ⟨S1x512x64, .bf16⟩
  | _, _ => ⟨S2x8192x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CmpVRefIdeal.lean ====
abbrev S2x8192x4x64 : Shape := ⟨4, ![2, 8192, 4, 64]⟩
abbrev S2x512x32 : Shape := ⟨3, ![2, 512, 32]⟩
abbrev S2x32x64 : Shape := ⟨3, ![2, 32, 64]⟩
abbrev S2x2048x256 : Shape := ⟨3, ![2, 2048, 256]⟩
abbrev S2x256 : Shape := ⟨2, ![2, 256]⟩
abbrev S2x256x64 : Shape := ⟨3, ![2, 256, 64]⟩
abbrev S2x512x16x4x64 : Shape := ⟨5, ![2, 512, 16, 4, 64]⟩
abbrev S2x511x16x4x64 : Shape := ⟨5, ![2, 511, 16, 4, 64]⟩
abbrev S2x1x16x4x64 : Shape := ⟨5, ![2, 1, 16, 4, 64]⟩
abbrev S2x512x32x4x64 : Shape := ⟨5, ![2, 512, 32, 4, 64]⟩
abbrev S1x32x64 : Shape := ⟨3, ![1, 32, 64]⟩
abbrev S32x64 : Shape := ⟨2, ![32, 64]⟩
abbrev S1x1x32x1x64 : Shape := ⟨5, ![1, 1, 32, 1, 64]⟩
abbrev S2x512x4x32x64 : Shape := ⟨5, ![2, 512, 4, 32, 64]⟩
abbrev S2x512x4x2048 : Shape := ⟨4, ![2, 512, 4, 2048]⟩
abbrev S1x2048x256 : Shape := ⟨3, ![1, 2048, 256]⟩
abbrev S2048x256 : Shape := ⟨2, ![2048, 256]⟩
abbrev S2x512x4x256 : Shape := ⟨4, ![2, 512, 4, 256]⟩
abbrev S1x256 : Shape := ⟨2, ![1, 256]⟩
abbrev S256 : Shape := ⟨1, ![256]⟩
abbrev S1x1x1x256 : Shape := ⟨4, ![1, 1, 1, 256]⟩
abbrev S_ : Shape := ⟨0, ![]⟩
abbrev S1x256x64 : Shape := ⟨3, ![1, 256, 64]⟩
abbrev S256x64 : Shape := ⟨2, ![256, 64]⟩
abbrev S2x512x4x64 : Shape := ⟨4, ![2, 512, 4, 64]⟩
abbrev S2x4x512x64 : Shape := ⟨4, ![2, 4, 512, 64]⟩
abbrev S8x512x64 : Shape := ⟨3, ![8, 512, 64]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x4x64, .f32⟩
  | .hbm, ⟨1, _⟩ => ⟨S2x512x32, .f32⟩
  | .hbm, ⟨2, _⟩ => ⟨S2x512x32, .f32⟩
  | .hbm, ⟨3, _⟩ => ⟨S2x32x64, .f32⟩
  | .hbm, ⟨4, _⟩ => ⟨S2x2048x256, .f32⟩
  | .hbm, ⟨5, _⟩ => ⟨S2x256, .f32⟩
  | .hbm, ⟨6, _⟩ => ⟨S2x256x64, .f32⟩
  | .hbm, ⟨7, _⟩ => ⟨S2x512x16x4x64, .f32⟩
  | .hbm, ⟨8, _⟩ => ⟨S2x511x16x4x64, .f32⟩
  | .hbm, ⟨9, _⟩ => ⟨S2x1x16x4x64, .f32⟩
  | .hbm, ⟨10, _⟩ => ⟨S2x512x16x4x64, .f32⟩
  | .hbm, ⟨11, _⟩ => ⟨S2x512x32x4x64, .f32⟩
  | .hbm, ⟨12, _⟩ => ⟨S1x32x64, .f32⟩
  | .hbm, ⟨13, _⟩ => ⟨S32x64, .f32⟩
  | .hbm, ⟨14, _⟩ => ⟨S1x1x32x1x64, .f32⟩
  | .hbm, ⟨15, _⟩ => ⟨S2x512x32x4x64, .f32⟩
  | .hbm, ⟨16, _⟩ => ⟨S2x512x32x4x64, .f32⟩
  | .hbm, ⟨17, _⟩ => ⟨S2x512x4x32x64, .f32⟩
  | .hbm, ⟨18, _⟩ => ⟨S2x512x4x2048, .f32⟩
  | .hbm, ⟨19, _⟩ => ⟨S1x2048x256, .f32⟩
  | .hbm, ⟨20, _⟩ => ⟨S2048x256, .f32⟩
  | .hbm, ⟨21, _⟩ => ⟨S2x512x4x256, .f32⟩
  | .hbm, ⟨22, _⟩ => ⟨S1x256, .f32⟩
  | .hbm, ⟨23, _⟩ => ⟨S256, .f32⟩
  | .hbm, ⟨24, _⟩ => ⟨S1x1x1x256, .f32⟩
  | .hbm, ⟨25, _⟩ => ⟨S2x512x4x256, .f32⟩
  | .hbm, ⟨26, _⟩ => ⟨S2x512x4x256, .f32⟩
  | .hbm, ⟨27, _⟩ => ⟨S2x512x4x256, .f32⟩
  | .hbm, ⟨28, _⟩ => ⟨S2x512x4x256, .f32⟩
  | .hbm, ⟨29, _⟩ => ⟨S_, .f32⟩
  | .hbm, ⟨30, _⟩ => ⟨S2x512x4x256, .f32⟩
  | .hbm, ⟨31, _⟩ => ⟨S2x512x4x256, .f32⟩
  | .hbm, ⟨32, _⟩ => ⟨S2x512x4x256, .f32⟩
  | .hbm, ⟨33, _⟩ => ⟨S_, .f32⟩
  | .hbm, ⟨34, _⟩ => ⟨S2x512x4x256, .f32⟩
  | .hbm, ⟨35, _⟩ => ⟨S2x512x4x256, .f32⟩
  | .hbm, ⟨36, _⟩ => ⟨S2x512x4x256, .f32⟩
  | .hbm, ⟨37, _⟩ => ⟨S_, .f32⟩
  | .hbm, ⟨38, _⟩ => ⟨S2x512x4x256, .f32⟩
  | .hbm, ⟨39, _⟩ => ⟨S2x512x4x256, .f32⟩
  | .hbm, ⟨40, _⟩ => ⟨S_, .f32⟩
  | .hbm, ⟨41, _⟩ => ⟨S2x512x4x256, .f32⟩
  | .hbm, ⟨42, _⟩ => ⟨S2x512x4x256, .f32⟩
  | .hbm, ⟨43, _⟩ => ⟨S2x512x4x256, .f32⟩
  | .hbm, ⟨44, _⟩ => ⟨S1x256x64, .f32⟩
  | .hbm, ⟨45, _⟩ => ⟨S256x64, .f32⟩
  | .hbm, ⟨46, _⟩ => ⟨S2x512x4x64, .f32⟩
  | .hbm, ⟨47, _⟩ => ⟨S2x4x512x64, .f32⟩
  | .hbm, ⟨48, _⟩ => ⟨S8x512x64, .f32⟩
  | .hbm, ⟨49, _⟩ => ⟨S8x512x64, .bf16⟩
  | _, _ => ⟨S2x8192x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== MNorm.lean ====
abbrev S2x256x1024 : Shape := ⟨3, ![2, 256, 1024]⟩
abbrev S4x1024 : Shape := ⟨2, ![4, 1024]⟩
abbrev S512x1024 : Shape := ⟨2, ![512, 1024]⟩
abbrev S1x1024 : Shape := ⟨2, ![1, 1024]⟩
abbrev S1024 : Shape := ⟨1, ![1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 5
  | .smem => 0
  | _ => 0

abbrev bufTy : (tb : Table) → Fin (tcTables nBuf tb) → BufTy
  | .hbm, ⟨0, _⟩ => ⟨S2x256x1024, .f32⟩
  | .hbm, ⟨1, _⟩ => ⟨S4x1024, .f32⟩
  | .hbm, ⟨2, _⟩ => ⟨S512x1024, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S512x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MNormRefIdeal.lean ====
abbrev S2x256x1024 : Shape := ⟨3, ![2, 256, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S512x1024 : Shape := ⟨2, ![512, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S4x1024, .f32⟩
  | .hbm, ⟨2, _⟩ => ⟨S1x1024, .f32⟩
  | .hbm, ⟨3, _⟩ => ⟨S1024, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S512x1024, .f32⟩
  | .hbm, ⟨21, _⟩ => ⟨S512x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Rope.lean ====
abbrev S2x8192 : Shape := ⟨2, ![2, 8192]⟩
abbrev S16384 : Shape := ⟨1, ![16384]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S16384x1 : Shape := ⟨2, ![16384, 1]⟩
abbrev S16384x128 : Shape := ⟨2, ![16384, 128]⟩
abbrev S512x1 : Shape := ⟨2, ![512, 1]⟩
abbrev S512x128 : Shape := ⟨2, ![512, 128]⟩

abbrev nBuf : Space → Nat
  | .hbm => 20
  | .vmem => 7
  | .smem => 0
  | _ => 0

abbrev bufTy : (tb : Table) → Fin (tcTables nBuf tb) → BufTy
  | .hbm, ⟨0, _⟩ => ⟨S2x8192, .i32⟩
  | .hbm, ⟨1, _⟩ => ⟨S16384, .i32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S1x32, .f32⟩
  | .hbm, ⟨14, _⟩ => ⟨S4x32, .f32⟩
  | .hbm, ⟨15, _⟩ => ⟨S128, .f32⟩
  | .hbm, ⟨16, _⟩ => ⟨S1x128, .f32⟩
  | .hbm, ⟨17, _⟩ => ⟨S16384x1, .i32⟩
  | .hbm, ⟨18, _⟩ => ⟨S16384x128, .f32⟩
  | .hbm, ⟨19, _⟩ => ⟨S16384x128, .f32⟩
  | .local _ .vmem, ⟨0, _⟩ => ⟨S512x1, .i32⟩
  | .local _ .vmem, ⟨1, _⟩ => ⟨S512x1, .i32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S2x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeRefIdeal.lean ====
abbrev S2x8192 : Shape := ⟨2, ![2, 8192]⟩
abbrev S32 : Shape := ⟨1, ![32]⟩
abbrev S_ : Shape := ⟨0, ![]⟩
abbrev S2x8192x1 : Shape := ⟨3, ![2, 8192, 1]⟩
abbrev S1x1x32 : Shape := ⟨3, ![1, 1, 32]⟩
abbrev S2x8192x32 : Shape := ⟨3, ![2, 8192, 32]⟩
abbrev S2x8192x128 : Shape := ⟨3, ![2, 8192, 128]⟩
abbrev S16384x128 : Shape := ⟨2, ![16384, 128]⟩

abbrev nBuf : Space → Nat
  | .hbm => 26
  | .vmem => 0
  | .smem => 0
  | _ => 0

abbrev bufTy : (tb : Table) → Fin (tcTables nBuf tb) → BufTy
  | .hbm, ⟨0, _⟩ => ⟨S2x8192, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2x8192x1, .i32⟩
  | .hbm, ⟨13, _⟩ => ⟨S2x8192x1, .f32⟩
  | .hbm, ⟨14, _⟩ => ⟨S1x1x32, .f32⟩
  | .hbm, ⟨15, _⟩ => ⟨S2x8192x32, .f32⟩
  | .hbm, ⟨16, _⟩ => ⟨S2x8192x32, .f32⟩
  | .hbm, ⟨17, _⟩ => ⟨S2x8192x32, .f32⟩
  | .hbm, ⟨18, _⟩ => ⟨S2x8192x32, .f32⟩
  | .hbm, ⟨19, _⟩ => ⟨S2x8192x32, .f32⟩
  | .hbm, ⟨20, _⟩ => ⟨S2x8192x128, .f32⟩
  | .hbm, ⟨21, _⟩ => ⟨S2x8192x32, .f32⟩
  | .hbm, ⟨22, _⟩ => ⟨S2x8192x32, .f32⟩
  | .hbm, ⟨23, _⟩ => ⟨S2x8192x128, .f32⟩
  | .hbm, ⟨24, _⟩ => ⟨S16384x128, .f32⟩
  | .hbm, ⟨25, _⟩ => ⟨S16384x128, .f32⟩
  | _, _ => ⟨S2x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== RopeT.lean ====
abbrev S2x8192 : Shape := ⟨2, ![2, 8192]⟩
abbrev S32 : Shape := ⟨1, ![32]⟩
abbrev S_ : Shape := ⟨0, ![]⟩
abbrev S32x1 : Shape := ⟨2, ![32, 1]⟩
abbrev S2x1x8192 : Shape := ⟨3, ![2, 1, 8192]⟩
abbrev S2x32x8192 : Shape := ⟨3, ![2, 32, 8192]⟩
abbrev S1x1x512 : Shape := ⟨3, ![1, 1, 512]⟩
abbrev S1x32x512 : Shape := ⟨3, ![1, 32, 512]⟩
abbrev S1x512 : Shape := ⟨2, ![1, 512]⟩
abbrev S32x512 : Shape := ⟨2, ![32, 512]⟩

abbrev nBuf : Space → Nat
  | .hbm => 16
  | .vmem => 7
  | .smem => 0
  | _ => 0

abbrev bufTy : (tb : Table) → Fin (tcTables nBuf tb) → BufTy
  | .hbm, ⟨0, _⟩ => ⟨S2x8192, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32x1, .f32⟩
  | .hbm, ⟨13, _⟩ => ⟨S2x1x8192, .i32⟩
  | .hbm, ⟨14, _⟩ => ⟨S2x32x8192, .f32⟩
  | .hbm, ⟨15, _⟩ => ⟨S2x32x8192, .f32⟩
  | .local _ .vmem, ⟨0, _⟩ => ⟨S1x1x512, .i32⟩
  | .local _ .vmem, ⟨1, _⟩ => ⟨S1x1x512, .i32⟩
  | .local _ .vmem, ⟨2, _⟩ => ⟨S32x1, .f32⟩
  | .local _ .vmem, ⟨3, _⟩ => ⟨S1x32x512, .f32⟩
  | .local _ .vmem, ⟨4, _⟩ => ⟨S1x32x512, .f32⟩
  | .local _ .vmem, ⟨5, _⟩ => ⟨S1x32x512, .f32⟩
  | .local _ .vmem, ⟨6, _⟩ => ⟨S1x32x512, .f32⟩
  | _, _ => ⟨S2x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RopeTRefIdeal.lean ====
abbrev S2x8192 : Shape := ⟨2, ![2, 8192]⟩
abbrev S32 : Shape := ⟨1, ![32]⟩
abbrev S_ : Shape := ⟨0, ![]⟩
abbrev S2x8192x1 : Shape := ⟨3, ![2, 8192, 1]⟩
abbrev S1x1x32 : Shape := ⟨3, ![1, 1, 32]⟩
abbrev S2x8192x32 : Shape := ⟨3, ![2, 8192, 32]⟩
abbrev S2x32x8192 : Shape := ⟨3, ![2, 32, 8192]⟩

abbrev nBuf : Space → Nat
  | .hbm => 22
  | .vmem => 0
  | .smem => 0
  | _ => 0

abbrev bufTy : (tb : Table) → Fin (tcTables nBuf tb) → BufTy
  | .hbm, ⟨0, _⟩ => ⟨S2x8192, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2x8192x1, .i32⟩
  | .hbm, ⟨13, _⟩ => ⟨S2x8192x1, .f32⟩
  | .hbm, ⟨14, _⟩ => ⟨S1x1x32, .f32⟩
  | .hbm, ⟨15, _⟩ => ⟨S2x8192x32, .f32⟩
  | .hbm, ⟨16, _⟩ => ⟨S2x8192x32, .f32⟩
  | .hbm, ⟨17, _⟩ => ⟨S2x8192x32, .f32⟩
  | .hbm, ⟨18, _⟩ => ⟨S2x8192x32, .f32⟩
  | .hbm, ⟨19, _⟩ => ⟨S2x32x8192, .f32⟩
  | .hbm, ⟨20, _⟩ => ⟨S2x8192x32, .f32⟩
  | .hbm, ⟨21, _⟩ => ⟨S2x32x8192, .f32⟩
  | _, _ => ⟨S2x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== RopeC.lean ====
abbrev S2x8192 : Shape := ⟨2, ![2, 8192]⟩
abbrev S2x511 : Shape := ⟨2, ![2, 511]⟩
abbrev S_ : Shape := ⟨0, ![]⟩
abbrev S2x512 : Shape := ⟨2, ![2, 512]⟩
abbrev S1024 : Shape := ⟨1, ![1024]⟩
abbrev S32 : Shape := ⟨1, ![32]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S1024x1 : Shape := ⟨2, ![1024, 1]⟩
abbrev S1024x128 : Shape := ⟨2, ![1024, 128]⟩
abbrev S512x1 : Shape := ⟨2, ![512, 1]⟩
abbrev S512x128 : Shape := ⟨2, ![512, 128]⟩

abbrev nBuf : Space → Nat
  | .hbm => 24
  | .vmem => 7
  | .smem => 0
  | _ => 0

abbrev bufTy : (tb : Table) → Fin (tcTables nBuf tb) → BufTy
  | .hbm, ⟨0, _⟩ => ⟨S2x8192, .i32⟩
  | .hbm, ⟨1, _⟩ => ⟨S2x511, .i32⟩
  | .hbm, ⟨2, _⟩ => ⟨S_, .i32⟩
  | .hbm, ⟨3, _⟩ => ⟨S_, .i32⟩
  | .hbm, ⟨4, _⟩ => ⟨S2x512, .i32⟩
  | .hbm, ⟨5, _⟩ => ⟨S1024, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S1x32, .f32⟩
  | .hbm, ⟨18, _⟩ => ⟨S4x32, .f32⟩
  | .hbm, ⟨19, _⟩ => ⟨S128, .f32⟩
  | .hbm, ⟨20, _⟩ => ⟨S1x128, .f32⟩
  | .hbm, ⟨21, _⟩ => ⟨S1024x1, .i32⟩
  | .hbm, ⟨22, _⟩ => ⟨S1024x128, .f32⟩
  | .hbm, ⟨23, _⟩ => ⟨S1024x128, .f32⟩
  | .local _ .vmem, ⟨0, _⟩ => ⟨S512x1, .i32⟩
  | .local _ .vmem, ⟨1, _⟩ => ⟨S512x1, .i32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S2x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeCRefIdeal.lean ====
abbrev S2x8192 : Shape := ⟨2, ![2, 8192]⟩
abbrev S2x511 : Shape := ⟨2, ![2, 511]⟩
abbrev S_ : Shape := ⟨0, ![]⟩
abbrev S2x1 : Shape := ⟨2, ![2, 1]⟩
abbrev S2x512 : Shape := ⟨2, ![2, 512]⟩
abbrev S32 : Shape := ⟨1, ![32]⟩
abbrev S2x512x1 : Shape := ⟨3, ![2, 512, 1]⟩
abbrev S1x1x32 : Shape := ⟨3, ![1, 1, 32]⟩
abbrev S2x512x32 : Shape := ⟨3, ![2, 512, 32]⟩
abbrev S2x512x128 : Shape := ⟨3, ![2, 512, 128]⟩
abbrev S1024x128 : Shape := ⟨2, ![1024, 128]⟩

abbrev nBuf : Space → Nat
  | .hbm => 30
  | .vmem => 0
  | .smem => 0
  | _ => 0

abbrev bufTy : (tb : Table) → Fin (tcTables nBuf tb) → BufTy
  | .hbm, ⟨0, _⟩ => ⟨S2x8192, .i32⟩
  | .hbm, ⟨1, _⟩ => ⟨S2x511, .i32⟩
  | .hbm, ⟨2, _⟩ => ⟨S_, .i32⟩
  | .hbm, ⟨3, _⟩ => ⟨S2x1, .i32⟩
  | .hbm, ⟨4, _⟩ => ⟨S2x512, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S2x512x1, .i32⟩
  | .hbm, ⟨17, _⟩ => ⟨S2x512x1, .f32⟩
  | .hbm, ⟨18, _⟩ => ⟨S1x1x32, .f32⟩
  | .hbm, ⟨19, _⟩ => ⟨S2x512x32, .f32⟩
  | .hbm, ⟨20, _⟩ => ⟨S2x512x32, .f32⟩
  | .hbm, ⟨21, _⟩ => ⟨S2x512x32, .f32⟩
  | .hbm, ⟨22, _⟩ => ⟨S2x512x32, .f32⟩
  | .hbm, ⟨23, _⟩ => ⟨S2x512x32, .f32⟩
  | .hbm, ⟨24, _⟩ => ⟨S2x512x128, .f32⟩
  | .hbm, ⟨25, _⟩ => ⟨S2x512x32, .f32⟩
  | .hbm, ⟨26, _⟩ => ⟨S2x512x32, .f32⟩
  | .hbm, ⟨27, _⟩ => ⟨S2x512x128, .f32⟩
  | .hbm, ⟨28, _⟩ => ⟨S1024x128, .f32⟩
  | .hbm, ⟨29, _⟩ => ⟨S1024x128, .f32⟩
  | _, _ => ⟨S2x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== KvPrep.lean ====
abbrev S2x8192x8752 : Shape := ⟨3, ![2, 8192, 8752]⟩
abbrev S2x8192x32 : Shape := ⟨3, ![2, 8192, 32]⟩
abbrev S2x8192x128 : Shape := ⟨3, ![2, 8192, 128]⟩
abbrev S16384x128 : Shape := ⟨2, ![16384, 128]⟩
abbrev S2x8192x48 : Shape := ⟨3, ![2, 8192, 48]⟩
abbrev S2x8192x4x12 : Shape := ⟨4, ![2, 8192, 4, 12]⟩
abbrev S_ : Shape := ⟨0, ![]⟩
abbrev S2x8192x4x128 : Shape := ⟨4, ![2, 8192, 4, 128]⟩
abbrev S2x8192x512 : Shape := ⟨3, ![2, 8192, 512]⟩
abbrev S2x8192x3072 : Shape := ⟨3, ![2, 8192, 3072]⟩
abbrev S2x8192x1024 : Shape := ⟨3, ![2, 8192, 1024]⟩
abbrev S2x8192x1536 : Shape := ⟨3, ![2, 8192, 1536]⟩
abbrev S2x8192x9216 : Shape := ⟨3, ![2, 8192, 9216]⟩
abbrev S16384x9216 : Shape := ⟨2, ![16384, 9216]⟩
abbrev S2x4x8192x64 : Shape := ⟨4, ![2, 4, 8192, 64]⟩
abbrev S2x4x8192x128 : Shape := ⟨4, ![2, 4, 8192, 128]⟩
abbrev S2x4x80x8192 : Shape := ⟨4, ![2, 4, 80, 8192]⟩
abbrev S512x512 : Shape := ⟨2, ![512, 512]⟩
abbrev S512x128 : Shape := ⟨2, ![512, 128]⟩
abbrev S1x4x512x64 : Shape := ⟨4, ![1, 4, 512, 64]⟩
abbrev S1x4x512x128 : Shape := ⟨4, ![1, 4, 512, 128]⟩
abbrev S1x4x80x512 : Shape := ⟨4, ![1, 4, 80, 512]⟩
abbrev S512x64 : Shape := ⟨2, ![512, 64]⟩
abbrev S1x1x512x64 : Shape := ⟨4, ![1, 1, 512, 64]⟩
abbrev S16x512 : Shape := ⟨2, ![16, 512]⟩
abbrev S512x256 : Shape := ⟨2, ![512, 256]⟩
abbrev S256x512 : Shape := ⟨2, ![256, 512]⟩
abbrev S1x1x512x128 : Shape := ⟨4, ![1, 1, 512, 128]⟩
abbrev S64x512 : Shape := ⟨2, ![64, 512]⟩
abbrev S1x1x64x512 : Shape := ⟨4, ![1, 1, 64, 512]⟩
abbrev S1x1x16x512 : Shape := ⟨4, ![1, 1, 16, 512]⟩

abbrev nBuf : Space → Nat
  | .hbm => 28
  | .vmem => 22
  | .smem => 0
  | _ => 0

abbrev bufTy : (tb : Table) → Fin (tcTables nBuf tb) → BufTy
  | .hbm, ⟨0, _⟩ => ⟨S2x8192x8752, .f32⟩
  | .hbm, ⟨1, _⟩ => ⟨S2x8192x32, .f32⟩
  | .hbm, ⟨2, _⟩ => ⟨S2x8192x32, .f32⟩
  | .hbm, ⟨3, _⟩ => ⟨S2x8192x128, .f32⟩
  | .hbm, ⟨4, _⟩ => ⟨S16384x128, .f32⟩
  | .hbm, ⟨5, _⟩ => ⟨S2x8192x32, .f32⟩
  | .hbm, ⟨6, _⟩ => ⟨S2x8192x32, .f32⟩
  | .hbm, ⟨7, _⟩ => ⟨S2x8192x128, .f32⟩
  | .hbm, ⟨8, _⟩ => ⟨S16384x128, .f32⟩
  | .hbm, ⟨9, _⟩ => ⟨S2x8192x48, .f32⟩
  | .hbm, ⟨10, _⟩ => ⟨S2x8192x4x12, .f32⟩
  | .hbm, ⟨11, _⟩ => ⟨S_, .i32⟩
  | .hbm, ⟨12, _⟩ => ⟨S_, .f32⟩
  | .hbm, ⟨13, _⟩ => ⟨S2x8192x4x128, .f32⟩
  | .hbm, ⟨14, _⟩ => ⟨S2x8192x512, .f32⟩
  | .hbm, ⟨15, _⟩ => ⟨S2x8192x3072, .f32⟩
  | .hbm, ⟨16, _⟩ => ⟨S2x8192x1024, .f32⟩
  | .hbm, ⟨17, _⟩ => ⟨S2x8192x3072, .f32⟩
  | .hbm, ⟨18, _⟩ => ⟨S2x8192x1536, .f32⟩
  | .hbm, ⟨19, _⟩ => ⟨S2x8192x9216, .f32⟩
  | .hbm, ⟨20, _⟩ => ⟨S2x8192x9216, .bf16⟩
  | .hbm, ⟨21, _⟩ => ⟨S16384x9216, .bf16⟩
  | .hbm, ⟨22, _⟩ => ⟨S2x4x8192x64, .bf16⟩
  | .hbm, ⟨23, _⟩ => ⟨S2x4x8192x64, .bf16⟩
  | .hbm, ⟨24, _⟩ => ⟨S2x4x8192x128, .bf16⟩
  | .hbm, ⟨25, _⟩ => ⟨S2x4x80x8192, .bf16⟩
  | .hbm, ⟨26, _⟩ => ⟨S2x4x8192x128, .bf16⟩
  | .hbm, ⟨27, _⟩ => ⟨S2x4x80x8192, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x4x512x64, .bf16⟩
  | .local _ .vmem, ⟨11, _⟩ => ⟨S1x4x512x64, .bf16⟩
  | .local _ .vmem, ⟨12, _⟩ => ⟨S1x4x512x64, .bf16⟩
  | .local _ .vmem, ⟨13, _⟩ => ⟨S1x4x512x64, .bf16⟩
  | .local _ .vmem, ⟨14, _⟩ => ⟨S1x4x512x128, .bf16⟩
  | .local _ .vmem, ⟨15, _⟩ => ⟨S1x4x512x128, .bf16⟩
  | .local _ .vmem, ⟨16, _⟩ => ⟨S1x4x80x512, .bf16⟩
  | .local _ .vmem, ⟨17, _⟩ => ⟨S1x4x80x512, .bf16⟩
  | .local _ .vmem, ⟨18, _⟩ => ⟨S1x4x512x128, .bf16⟩
  | .local _ .vmem, ⟨19, _⟩ => ⟨S1x4x512x128, .bf16⟩
  | .local _ .vmem, ⟨20, _⟩ => ⟨S1x4x80x512, .bf16⟩
  | .local _ .vmem, ⟨21, _⟩ => ⟨S1x4x80x512, .bf16⟩
  | _, _ => ⟨S2x8192x8752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev main_v17_3 : Ref sig .tc := ⟨.hbm, 25, rfl⟩
abbrev main_v17_4 : Ref sig .tc := ⟨.hbm, 26, rfl⟩
abbrev main_v17_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c14_i32 : BitVec 32 := 14#32
  let c0_i32 : BitVec 32 := 0#32
  ![v1.toNat, c14_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c15_i32 : BitVec 32 := 15#32
  let c0_i32 : BitVec 32 := 0#32
  ![v1.toNat, c15_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let c0_i32 : BitVec 32 := 0#32
  ![v1.toNat, c16_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x80x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x80x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KvPrepRefIdeal.lean ====
abbrev S2x8192x8752 : Shape := ⟨3, ![2, 8192, 8752]⟩
abbrev S2x8192x32 : Shape := ⟨3, ![2, 8192, 32]⟩
abbrev S2x8192x1536 : Shape := ⟨3, ![2, 8192, 1536]⟩
abbrev S2x8192x6x4x64 : Shape := ⟨5, ![2, 8192, 6, 4, 64]⟩
abbrev S2x8192x1x4x64 : Shape := ⟨5, ![2, 8192, 1, 4, 64]⟩
abbrev S2x8192x4x64 : Shape := ⟨4, ![2, 8192, 4, 64]⟩
abbrev S2x4x8192x64 : Shape := ⟨4, ![2, 4, 8192, 64]⟩
abbrev S2x8192x1x32 : Shape := ⟨4, ![2, 8192, 1, 32]⟩
abbrev S2x8192x4x32 : Shape := ⟨4, ![2, 8192, 4, 32]⟩
abbrev S_ : Shape := ⟨0, ![]⟩
abbrev S2x4x8192x1 : Shape := ⟨4, ![2, 4, 8192, 1]⟩
abbrev S2x4x8192x63 : Shape := ⟨4, ![2, 4, 8192, 63]⟩
abbrev S2x4x8192x128 : Shape := ⟨4, ![2, 4, 8192, 128]⟩
abbrev S2x4x64x8192 : Shape := ⟨4, ![2, 4, 64, 8192]⟩
abbrev S2x4x1x8192 : Shape := ⟨4, ![2, 4, 1, 8192]⟩
abbrev S2x4x15x8192 : Shape := ⟨4, ![2, 4, 15, 8192]⟩
abbrev S2x4x80x8192 : Shape := ⟨4, ![2, 4, 80, 8192]⟩

abbrev nBuf : Space → Nat
  | .hbm => 79
  | .vmem => 0
  | .smem => 0
  | _ => 0

abbrev bufTy : (tb : Table) → Fin (tcTables nBuf tb) → BufTy
  | .hbm, ⟨0, _⟩ => ⟨S2x8192x8752, .f32⟩
  | .hbm, ⟨1, _⟩ => ⟨S2x8192x32, .f32⟩
  | .hbm, ⟨2, _⟩ => ⟨S2x8192x32, .f32⟩
  | .hbm, ⟨3, _⟩ => ⟨S2x8192x1536, .f32⟩
  | .hbm, ⟨4, _⟩ => ⟨S2x8192x6x4x64, .f32⟩
  | .hbm, ⟨5, _⟩ => ⟨S2x8192x1x4x64, .f32⟩
  | .hbm, ⟨6, _⟩ => ⟨S2x8192x4x64, .f32⟩
  | .hbm, ⟨7, _⟩ => ⟨S2x8192x1x4x64, .f32⟩
  | .hbm, ⟨8, _⟩ => ⟨S2x8192x4x64, .f32⟩
  | .hbm, ⟨9, _⟩ => ⟨S2x8192x1x4x64, .f32⟩
  | .hbm, ⟨10, _⟩ => ⟨S2x8192x4x64, .f32⟩
  | .hbm, ⟨11, _⟩ => ⟨S2x8192x1x4x64, .f32⟩
  | .hbm, ⟨12, _⟩ => ⟨S2x8192x4x64, .f32⟩
  | .hbm, ⟨13, _⟩ => ⟨S2x8192x1x4x64, .f32⟩
  | .hbm, ⟨14, _⟩ => ⟨S2x8192x4x64, .f32⟩
  | .hbm, ⟨15, _⟩ => ⟨S2x8192x1x4x64, .f32⟩
  | .hbm, ⟨16, _⟩ => ⟨S2x8192x4x64, .f32⟩
  | .hbm, ⟨17, _⟩ => ⟨S2x4x8192x64, .f32⟩
  | .hbm, ⟨18, _⟩ => ⟨S2x4x8192x64, .bf16⟩
  | .hbm, ⟨19, _⟩ => ⟨S2x4x8192x64, .f32⟩
  | .hbm, ⟨20, _⟩ => ⟨S2x4x8192x64, .bf16⟩
  | .hbm, ⟨21, _⟩ => ⟨S2x8192x1x32, .f32⟩
  | .hbm, ⟨22, _⟩ => ⟨S2x8192x1x32, .f32⟩
  | .hbm, ⟨23, _⟩ => ⟨S2x8192x4x32, .f32⟩
  | .hbm, ⟨24, _⟩ => ⟨S2x8192x4x32, .f32⟩
  | .hbm, ⟨25, _⟩ => ⟨S2x8192x4x32, .f32⟩
  | .hbm, ⟨26, _⟩ => ⟨S2x8192x4x32, .f32⟩
  | .hbm, ⟨27, _⟩ => ⟨S2x8192x4x32, .f32⟩
  | .hbm, ⟨28, _⟩ => ⟨S2x8192x4x32, .f32⟩
  | .hbm, ⟨29, _⟩ => ⟨S2x8192x4x32, .f32⟩
  | .hbm, ⟨30, _⟩ => ⟨S2x8192x4x32, .f32⟩
  | .hbm, ⟨31, _⟩ => ⟨S2x8192x4x32, .f32⟩
  | .hbm, ⟨32, _⟩ => ⟨S2x8192x4x32, .f32⟩
  | .hbm, ⟨33, _⟩ => ⟨S2x8192x4x32, .f32⟩
  | .hbm, ⟨34, _⟩ => ⟨S2x8192x4x32, .f32⟩
  | .hbm, ⟨35, _⟩ => ⟨S2x8192x4x64, .f32⟩
  | .hbm, ⟨36, _⟩ => ⟨S2x4x8192x64, .f32⟩
  | .hbm, ⟨37, _⟩ => ⟨S_, .f32⟩
  | .hbm, ⟨38, _⟩ => ⟨S2x4x8192x1, .f32⟩
  | .hbm, ⟨39, _⟩ => ⟨S_, .f32⟩
  | .hbm, ⟨40, _⟩ => ⟨S2x4x8192x63, .f32⟩
  | .hbm, ⟨41, _⟩ => ⟨S2x4x8192x128, .f32⟩
  | .hbm, ⟨42, _⟩ => ⟨S2x4x8192x128, .bf16⟩
  | .hbm, ⟨43, _⟩ => ⟨S2x4x64x8192, .f32⟩
  | .hbm, ⟨44, _⟩ => ⟨S_, .f32⟩
  | .hbm, ⟨45, _⟩ => ⟨S2x4x1x8192, .f32⟩
  | .hbm, ⟨46, _⟩ => ⟨S_, .f32⟩
  | .hbm, ⟨47, _⟩ => ⟨S2x4x15x8192, .f32⟩
  | .hbm, ⟨48, _⟩ => ⟨S2x4x80x8192, .f32⟩
  | .hbm, ⟨49, _⟩ => ⟨S2x4x80x8192, .bf16⟩
  | .hbm, ⟨50, _⟩ => ⟨S2x8192x1x32, .f32⟩
  | .hbm, ⟨51, _⟩ => ⟨S2x8192x1x32, .f32⟩
  | .hbm, ⟨52, _⟩ => ⟨S2x8192x4x32, .f32⟩
  | .hbm, ⟨53, _⟩ => ⟨S2x8192x4x32, .f32⟩
  | .hbm, ⟨54, _⟩ => ⟨S2x8192x4x32, .f32⟩
  | .hbm, ⟨55, _⟩ => ⟨S2x8192x4x32, .f32⟩
  | .hbm, ⟨56, _⟩ => ⟨S2x8192x4x32, .f32⟩
  | .hbm, ⟨57, _⟩ => ⟨S2x8192x4x32, .f32⟩
  | .hbm, ⟨58, _⟩ => ⟨S2x8192x4x32, .f32⟩
  | .hbm, ⟨59, _⟩ => ⟨S2x8192x4x32, .f32⟩
  | .hbm, ⟨60, _⟩ => ⟨S2x8192x4x32, .f32⟩
  | .hbm, ⟨61, _⟩ => ⟨S2x8192x4x32, .f32⟩
  | .hbm, ⟨62, _⟩ => ⟨S2x8192x4x32, .f32⟩
  | .hbm, ⟨63, _⟩ => ⟨S2x8192x4x32, .f32⟩
  | .hbm, ⟨64, _⟩ => ⟨S2x8192x4x64, .f32⟩
  | .hbm, ⟨65, _⟩ => ⟨S2x4x8192x64, .f32⟩
  | .hbm, ⟨66, _⟩ => ⟨S_, .f32⟩
  | .hbm, ⟨67, _⟩ => ⟨S2x4x8192x1, .f32⟩
  | .hbm, ⟨68, _⟩ => ⟨S_, .f32⟩
  | .hbm, ⟨69, _⟩ => ⟨S2x4x8192x63, .f32⟩
  | .hbm, ⟨70, _⟩ => ⟨S2x4x8192x128, .f32⟩
  | .hbm, ⟨71, _⟩ => ⟨S2x4x8192x128, .bf16⟩
  | .hbm, ⟨72, _⟩ => ⟨S2x4x64x8192, .f32⟩
  | .hbm, ⟨73, _⟩ => ⟨S_, .f32⟩
  | .hbm, ⟨74, _⟩ => ⟨S2x4x1x8192, .f32⟩
  | .hbm, ⟨75, _⟩ => ⟨S_, .f32⟩
  | .hbm, ⟨76, _⟩ => ⟨S2x4x15x8192, .f32⟩
  | .hbm, ⟨77, _⟩ => ⟨S2x4x80x8192, .f32⟩
  | .hbm, ⟨78, _⟩ => ⟨S2x4x80x8192, .bf16⟩
  | _, _ => ⟨S2x8192x8752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_cst : Ref sig .tc := ⟨.hbm, 37, rfl⟩
abbrev main_v34 : Ref sig .tc := ⟨.hbm, 38, rfl⟩
abbrev main_cst_0 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_1 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_cst_3 : Ref sig .tc := ⟨.hbm, 66, rfl⟩
abbrev main_v59 : Ref sig .tc := ⟨.hbm, 67, rfl⟩
abbrev main_cst_4 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_5 : Ref sig .tc := ⟨.hbm, 73, rfl⟩
abbrev main_v64 : Ref sig .tc := ⟨.hbm, 74, rfl⟩
abbrev main_cst_6 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩

abbrev nD : Nat := 1
abbrev τ : Topo := Topo.v7x

variable {F : FTy → Type} [FloatOps F]
-- ==== Proof.Rglru.RefRun.lean ====
/- The reference's loop, one trip after another: its results as fields of state number 8192. -/
module

public import proofs.«01_k».proof.Proof.Gen.RglruRefIdeal.Run
public import proofs.«01_k».proof.Proof.Gen.RglruRefIdeal.Step

@[expose] public section

noncomputable section

namespace Cert.Rglru.RefRun

open Idealize.ShloMosaic Idealize.ShloMosaic.TcCoe Idealize.SL.Sem Idealize.ShloMosaic.StableHlo
open Cert.RglruRefIdeal Cert.RglruRefIdeal.Gen Cert.RglruRefIdeal.Value
open Cert.RglruRefIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v77_3) = s.main_v77_3
  f_4 : V0 (Proc.devRef .tc main_v77_4) = s.main_v77_4
  f_0 : V0 (Proc.devRef .tc main_v77_0) = s.main_v77_0
  f_1 : V0 (Proc.devRef .tc main_v77_1) = s.main_v77_1
  n_2 : V0 (Proc.devRef .tc main_v77_2) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.RglruRefIdeal.Step.b0 j s := by
  unfold Cert.RglruRefIdeal.Step.b0
  rfl
set_option maxRecDepth 8192 in
theorem al_1 (h : Holds V0 s j) : (constantI S_ 32 0#32 : (Proc.devRef .tc main_while0b_call2_c_0 : DevRef τ sig).ty.Contents (Elt F)) = Cert.RglruRefIdeal.Step.b1 j s := by
  unfold Cert.RglruRefIdeal.Step.b1
  rfl
set_option maxRecDepth 8192 in
theorem al_2 (h : Holds V0 s j) : (Host.dynamicSlice S1x2x1024 (V0 (Proc.devRef .tc main_v77_0)) (fun k => (((![V0 (Proc.devRef .tc main_v77_2), constantI S_ 32 0#32, constantI S_ 32 0#32] : Fin 3 → (⟨S_, .i32⟩ : BufTy).Contents (Elt F))) k (Shape.Idx.first h_S_)).toInt) sliceFits_S8192x2x1024_S1x2x1024 : (Proc.devRef .tc main_while0b_call2_v0 : DevRef τ sig).ty.Contents (Elt F)) = Cert.RglruRefIdeal.Step.b2 j s := by
  unfold Cert.RglruRefIdeal.Step.b2
  rw [← al_0 h, ← al_1 h, h.f_0, h.n_2]
  try rfl
set_option maxRecDepth 8192 in
theorem al_3 (h : Holds V0 s j) : (shapeCast S2x1024 (Host.dynamicSlice S1x2x1024 (V0 (Proc.devRef .tc main_v77_0)) (fun k => (((![V0 (Proc.devRef .tc main_v77_2), constantI S_ 32 0#32, constantI S_ 32 0#32] : Fin 3 → (⟨S_, .i32⟩ : BufTy).Contents (Elt F))) k (Shape.Idx.first h_S_)).toInt) sliceFits_S8192x2x1024_S1x2x1024) shapeCasts_S1x2x1024_S2x1024 : (Proc.devRef .tc main_while0b_v96 : DevRef τ sig).ty.Contents (Elt F)) = Cert.RglruRefIdeal.Step.b3 j s := by
  unfold Cert.RglruRefIdeal.Step.b3
  rw [← al_2 h]
  try rfl
set_option maxRecDepth 8192 in
theorem al_4 (h : Holds V0 s j) : (constantI S_ 32 0#32 : (Proc.devRef .tc main_while0b_call3_c : DevRef τ sig).ty.Contents (Elt F)) = Cert.RglruRefIdeal.Step.b4 j s := by
  unfold Cert.RglruRefIdeal.Step.b4
  rfl
set_option maxRecDepth 8192 in
theorem al_5 (h : Holds V0 s j) : (constantI S_ 32 0#32 : (Proc.devRef .tc main_while0b_call3_c_0 : DevRef τ sig).ty.Contents (Elt F)) = Cert.RglruRefIdeal.Step.b5 j s := by
  unfold Cert.RglruRefIdeal.Step.b5
  rfl
set_option maxRecDepth 8192 in
theorem al_6 (h : Holds V0 s j) : (Host.dynamicSlice S1x2x1024 (V0 (Proc.devRef .tc main_v77_1)) (fun k => (((![V0 (Proc.devRef .tc main_v77_2), constantI S_ 32 0#32, constantI S_ 32 0#32] : Fin 3 → (⟨S_, .i32⟩ : BufTy).Contents (Elt F))) k (Shape.Idx.first h_S_)).toInt) sliceFits_S8192x2x1024_S1x2x1024 : (Proc.devRef .tc main_while0b_call3_v0 : DevRef τ sig).ty.Contents (Elt F)) = Cert.RglruRefIdeal.Step.b6 j s := by
  unfold Cert.RglruRefIdeal.Step.b6
  rw [← al_4 h, ← al_5 h, h.f_1, h.n_2]
  try rfl
set_option maxRecDepth 8192 in
theorem al_7 (h : Holds V0 s j) : (shapeCast S2x1024 (Host.dynamicSlice S1x2x1024 (V0 (Proc.devRef .tc main_v77_1)) (fun k => (((![V0 (Proc.devRef .tc main_v77_2), constantI S_ 32 0#32, constantI S_ 32 0#32] : Fin 3 → (⟨S_, .i32⟩ : BufTy).Contents (Elt F))) k (Shape.Idx.first h_S_)).toInt) sliceFits_S8192x2x1024_S1x2x1024) shapeCasts_S1x2x1024_S2x1024 : (Proc.devRef .tc main_while0b_v97 : DevRef τ sig).ty.Contents (Elt F)) = Cert.RglruRefIdeal.Step.b7 j s := by
  unfold Cert.RglruRefIdeal.Step.b7
  rw [← al_6 h]
  try rfl
set_option maxRecDepth 8192 in
theorem al_8 (h : Holds V0 s j) : (mulf (shapeCast S2x1024 (Host.dynamicSlice S1x2x1024 (V0 (Proc.devRef .tc main_v77_0)) (fun k => (((![V0 (Proc.devRef .tc main_v77_2), constantI S_ 32 0#32, constantI S_ 32 0#32] : Fin 3 → (⟨S_, .i32⟩ : BufTy).Contents (Elt F))) k (Shape.Idx.first h_S_)).toInt) sliceFits_S8192x2x1024_S1x2x1024) shapeCasts_S1x2x1024_S2x1024) (V0 (Proc.devRef .tc main_v77_3)) : (Proc.devRef .tc main_while0b_v98 : DevRef τ sig).ty.Contents (Elt F)) = Cert.RglruRefIdeal.Step.b8 j s := by
  unfold Cert.RglruRefIdeal.Step.b8
  rw [← al_3 h, h.f_3]
  try rfl
set_option maxRecDepth 8192 in
theorem al_9 (h : Holds V0 s j) : (res_main_while0b_v99 V0 : (Proc.devRef .tc main_while0b_v99 : DevRef τ sig).ty.Contents (Elt F)) = Cert.RglruRefIdeal.Step.b9 j s := by
  unfold res_main_while0b_v99 Cert.RglruRefIdeal.Step.b9
  rw [← al_8 h, ← al_7 h]
  try rfl
set_option maxRecDepth 8192 in
theorem al_10 (h : Holds V0 s j) : (broadcastInDim S1x2x1024 ![1, 2] bcast_S2x1024_S1x2x1024_1_2 (res_main_while0b_v99 V0) : (Proc.devRef .tc main_while0b_call4_v0 : DevRef τ sig).ty.Contents (Elt F)) = Cert.RglruRefIdeal.Step.b10 j s := by
  unfold Cert.RglruRefIdeal.Step.b10
  rw [← al_9 h]
  try rfl
set_option maxRecDepth 8192 in
theorem al_11 (h : Holds V0 s j) : (constantI S_ 32 0#32 : (Proc.devRef .tc main_while0b_call4_c : DevRef τ sig).ty.Contents (Elt F)) = Cert.RglruRefIdeal.Step.b11 j s := by
  unfold Cert.RglruRefIdeal.Step.b11
  rfl
set_option maxRecDepth 8192 in
theorem al_12 (h : Holds V0 s j) : (constantI S_ 32 0#32 : (Proc.devRef .tc main_while0b_call4_c_0 : DevRef τ sig).ty.Contents (Elt F)) = Cert.RglruRefIdeal.Step.b12 j s := by
  unfold Cert.RglruRefIdeal.Step.b12
  rfl
set_option maxRecDepth 8192 in
theorem al_13 (h : Holds V0 s j) : (Host.dynamicUpdateSlice (V0 (Proc.devRef .tc main_v77_4)) (broadcastInDim S1x2x1024 ![1, 2] bcast_S2x1024_S1x2x1024_1_2 (res_main_while0b_v99 V0)) (fun k => (((![V0 (Proc.devRef .tc main_v77_2), constantI S_ 32 0#32, constantI S_ 32 0#32] : Fin 3 → (⟨S_, .i32⟩ : BufTy).Contents (Elt F))) k (Shape.Idx.first h_S_)).toInt) updateFits_S8192x2x1024_S1x2x1024 : (Proc.devRef .tc main_while0b_v100 : DevRef τ sig).ty.Contents (Elt F)) = Cert.RglruRefIdeal.Step.b13 j s := by
  unfold Cert.RglruRefIdeal.Step.b13
  rw [← al_10 h, ← al_11 h, ← al_12 h, h.f_4, h.n_2]
  try rfl

/-! One trip's step of the carried values is `step`, field by field; a counter steps to the next number. -/

theorem step_3 (h : Holds V0 s j) : step_main_v77_3 V0 = (step j s).main_v77_3 := by
  unfold step_main_v77_3 Cert.RglruRefIdeal.Step.step
  show id (res_main_while0b_v99 V0) = _
  rw [al_9 h]
  try rfl
theorem step_4 (h : Holds V0 s j) : step_main_v77_4 V0 = (step j s).main_v77_4 := by
  unfold step_main_v77_4 Cert.RglruRefIdeal.Step.step
  exact al_13 h
theorem step_2 (h : Holds V0 s j) : step_main_v77_2 V0 = constantI S_ 32 (BitVec.ofNat 32 (j + 1)) := by
  unfold step_main_v77_2
  rw [h.n_2]
  funext i
  show BitVec.ofNat 32 j + 1#32 = BitVec.ofNat 32 (j + 1)
  simp only [BitVec.ofNat_add]

set_option maxRecDepth 8192 in
theorem out_main_v95_holds (h : Holds V0 s j) {x_main_arg0 : (⟨S2x8192x8752, .f32⟩ : BufTy).Contents (Elt F)} (h_main_arg0 : V0 (Proc.devRef .tc main_arg0) = x_main_arg0) : out_main_v95 V0 = Cert.RglruRefIdeal.Step.R_main_v95 s x_main_arg0 := by
  unfold out_main_v95 Cert.RglruRefIdeal.Step.R_main_v95
  rw [h.f_4, h_main_arg0]
  try rfl

/-- One trip keeps the valuation holding: `step` of the state, the same set-up values, the next number. -/
theorem holds_step (h : Holds V0 s j) : Holds (STEP V0) (step j s) (j + 1) where
  f_3 := (STEP_main_v77_3 V0).trans (step_3 h)
  f_4 := (STEP_main_v77_4 V0).trans (step_4 h)
  n_2 := (STEP_main_v77_2 V0).trans (step_2 h)
  f_0 := (STEP_main_v77_0 V0).trans h.f_0
  f_1 := (STEP_main_v77_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `RglruRefIdeal` terminates with each result at its field of state
    number 8192 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v95) = Cert.RglruRefIdeal.Step.R_main_v95 (it c 8192) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 8192
    ⟨(h c).1.trans (out_main_v95_holds hk (iter_main_arg0 m c 8192)), (h c).2.1, (h c).2.2.1, (h c).2.2.2.1, (h c).2.2.2.2.1, (h c).2.2.2.2.2.1, (h c).2.2.2.2.2.2.1, (h c).2.2.2.2.2.2.2.1, (h c).2.2.2.2.2.2.2.2⟩) (Value.run m ρ)

end Cert.Rglru.RefRun

end
-- ==== Proof.Rglru.Input.lean ====
module

public import proofs.«01_k».proof.Proof.Gen.RglruIdeal.Value
public import Idealize.ShloMosaic.Lib.Pointwise

@[expose] public section

noncomputable section

namespace Cert.Rglru.Input

open Idealize.ShloMosaic Idealize.ShloMosaic.TcCoe Idealize.SL.Sem
open Cert.RglruIdeal Cert.RglruIdeal.Gen

variable (m : (ℓ : Loc nD τ sig) → Buf (Elt Ideal) ℓ)

theorem V_v11 (c : Dev nD) : (V m c main_v11 : (⟨S8x128x128, .bf16⟩ : BufTy).Contents (Elt Ideal)) = truncf (F := Ideal) .bf16 (m ((c : Thread nD τ).loc main_arg3) : (⟨S8x128x128, .f32⟩ : BufTy).Contents (Elt Ideal)) bitsLt_bf16_f32 := by
  show StableHlo.after (List.flatten [hostOps0, hostOps0_1, hostOps0_2]) _ (Proc.devRef .tc main_v11) = _
  simp only [hostOps0, hostOps0_1, hostOps0_2, List.flatten_cons, List.flatten_nil, List.append_nil, List.cons_append, List.nil_append]
  after_results

theorem V_v12 (c : Dev nD) : (V m c main_v12 : (⟨S8x128x128, .bf16⟩ : BufTy).Contents (Elt Ideal)) = truncf (F := Ideal) .bf16 (m ((c : Thread nD τ).loc main_arg5) : (⟨S8x128x128, .f32⟩ : BufTy).Contents (Elt Ideal)) bitsLt_bf16_f32 := by
  show StableHlo.after (List.flatten [hostOps0, hostOps0_1, hostOps0_2]) _ (Proc.devRef .tc main_v12) = _
  simp only [hostOps0, hostOps0_1, hostOps0_2, List.flatten_cons, List.flatten_nil, List.append_nil, List.cons_append, List.nil_append]
  after_results

theorem V_v13 (c : Dev nD) : (V m c main_v13 : (⟨S1x1024, .f32⟩ : BufTy).Contents (Elt Ideal)) = shapeCast S1x1024 (m ((c : Thread nD τ).loc main_arg2) : (⟨S1024, .f32⟩ : BufTy).Contents (Elt Ideal)) shapeCasts_S1024_S1x1024 := by
  show StableHlo.after (List.flatten [hostOps0, hostOps0_1, hostOps0_2]) _ (Proc.devRef .tc main_v13) = _
  simp only [hostOps0, hostOps0_1, hostOps0_2, List.flatten_cons, List.flatten_nil, List.append_nil, List.cons_append, List.nil_append]
  after_results
  rfl

theorem V_v14 (c : Dev nD) : (V m c main_v14 : (⟨S1x1024, .f32⟩ : BufTy).Contents (Elt Ideal)) = shapeCast S1x1024 (m ((c : Thread nD τ).loc main_arg4) : (⟨S8x128, .f32⟩ : BufTy).Contents (Elt Ideal)) shapeCasts_S8x128_S1x1024 := by
  show StableHlo.after (List.flatten [hostOps0, hostOps0_1, hostOps0_2]) _ (Proc.devRef .tc main_v14) = _
  simp only [hostOps0, hostOps0_1, hostOps0_2, List.flatten_cons, List.flatten_nil, List.append_nil, List.cons_append, List.nil_append]
  after_results
  rfl

theorem V_v15 (c : Dev nD) : (V m c main_v15 : (⟨S1x1024, .f32⟩ : BufTy).Contents (Elt Ideal)) = shapeCast S1x1024 (m ((c : Thread nD τ).loc main_arg6) : (⟨S8x128, .f32⟩ : BufTy).Contents (Elt Ideal)) shapeCasts_S8x128_S1x1024 := by
  show StableHlo.after (List.flatten [hostOps0, hostOps0_1, hostOps0_2]) _ (Proc.devRef .tc main_v15) = _
  simp only [hostOps0, hostOps0_1, hostOps0_2, List.flatten_cons, List.flatten_nil, List.append_nil, List.cons_append, List.nil_append]
  after_results
  rfl

theorem V_v16 (c : Dev nD) : (V m c main_v16 : (⟨S1x1024, .f32⟩ : BufTy).Contents (Elt Ideal)) = shapeCast S1x1024 (m ((c : Thread nD τ).loc main_arg7) : (⟨S1024, .f32⟩ : BufTy).Contents (Elt Ideal)) shapeCasts_S1024_S1x1024 := by
  show StableHlo.after (List.flatten [hostOps0, hostOps0_1, hostOps0_2]) _ (Proc.devRef .tc main_v16) = _
  simp only [hostOps0, hostOps0_1, hostOps0_2, List.flatten_cons, List.flatten_nil, List.append_nil, List.cons_append, List.nil_append]
  after_results
  rfl

/-- The padded projection's first 3072 columns are the plain projection's; the other pieces do not matter here. -/
theorem V_v10 (c : Dev nD) : ∃ x1 x2 x3 x4, (V m c main_v10 : (⟨S16384x9216, .bf16⟩ : BufTy).Contents (Elt Ideal)) = shapeCast S16384x9216 (truncf (F := Ideal) .bf16 (concatenate S2x8192x9216 2
    [⟨S2x8192x3072, extractStridedSlice S2x8192x3072 ![0, 0, 0] (m ((c : Thread nD τ).loc main_arg0) : (⟨S2x8192x8752, .f32⟩ : BufTy).Contents (Elt Ideal)) slices_S2x8192x8752_S2x8192x3072_0_0_0⟩, ⟨S2x8192x1024, x1⟩, ⟨S2x8192x3072, x2⟩, ⟨S2x8192x1536, x3⟩, ⟨S2x8192x512, x4⟩]
    concatenates_S2x8192x3072_S2x8192x1024_S2x8192x3072_S2x8192x1536_S2x8192x512_S2x8192x9216_d2) bitsLt_bf16_f32) shapeCasts_S2x8192x9216_S16384x9216 := by
  show ∃ x1 x2 x3 x4, StableHlo.after (List.flatten [hostOps0, hostOps0_1, hostOps0_2]) _ (Proc.devRef .tc main_v10) = _
  simp only [hostOps0, hostOps0_1, hostOps0_2, List.flatten_cons, List.flatten_nil, List.append_nil, List.cons_append, List.nil_append]
  after_results
  refine ⟨_, _, _, _, congrArg (fun z : (⟨S2x8192x3072, .f32⟩ : BufTy).Contents (Elt Ideal) => shapeCast S16384x9216 (truncf (F := Ideal) .bf16 (concatenate S2x8192x9216 2
    [⟨S2x8192x3072, z⟩, ⟨S2x8192x1024, _⟩, ⟨S2x8192x3072, _⟩, ⟨S2x8192x1536, _⟩, ⟨S2x8192x512, _⟩]
    concatenates_S2x8192x3072_S2x8192x1024_S2x8192x3072_S2x8192x1536_S2x8192x512_S2x8192x9216_d2) bitsLt_bf16_f32) shapeCasts_S2x8192x9216_S16384x9216) ?_⟩
  refine Eq.trans (b := StableHlo.after (List.flatten [hostOps0, hostOps0_1, hostOps0_2]) (fun b => m (c, b)) (Proc.devRef .tc main_v4)) ?_ ?_
  · simp only [hostOps0, hostOps0_1, hostOps0_2, List.flatten_cons, List.flatten_nil, List.append_nil, List.cons_append, List.nil_append]
    after_results
    rfl
  · simp only [hostOps0, hostOps0_1, hostOps0_2, List.flatten_cons, List.flatten_nil, List.append_nil, List.cons_append, List.nil_append]
    after_results

abbrev A0 (c : Dev nD) : (⟨S2x8192x8752, .f32⟩ : BufTy).Contents (Elt Ideal) := m ((c : Thread nD τ).loc main_arg0)
abbrev A1 (c : Dev nD) : (⟨S4x1024, .f32⟩ : BufTy).Contents (Elt Ideal) := m ((c : Thread nD τ).loc main_arg1)
abbrev A2 (c : Dev nD) : (⟨S1024, .f32⟩ : BufTy).Contents (Elt Ideal) := m ((c : Thread nD τ).loc main_arg2)
abbrev A3 (c : Dev nD) : (⟨S8x128x128, .f32⟩ : BufTy).Contents (Elt Ideal) := m ((c : Thread nD τ).loc main_arg3)
abbrev A4 (c : Dev nD) : (⟨S8x128, .f32⟩ : BufTy).Contents (Elt Ideal) := m ((c : Thread nD τ).loc main_arg4)
abbrev A5 (c : Dev nD) : (⟨S8x128x128, .f32⟩ : BufTy).Contents (Elt Ideal) := m ((c : Thread nD τ).loc main_arg5)
abbrev A6 (c : Dev nD) : (⟨S8x128, .f32⟩ : BufTy).Contents (Elt Ideal) := m ((c : Thread nD τ).loc main_arg6)
abbrev A7 (c : Dev nD) : (⟨S1024, .f32⟩ : BufTy).Contents (Elt Ideal) := m ((c : Thread nD τ).loc main_arg7)

set_option maxRecDepth 16384 in
theorem flat_apply (b : Vec Ideal S8x128 .f32) (d : Fin 1024) :
    shapeCast S1x1024 b shapeCasts_S8x128_S1x1024 (ix2 0 d) = b (ix2 ⟨d.1 / 128, by omega⟩ ⟨d.1 % 128, by omega⟩) := by
  pointwise

set_option maxRecDepth 16384 in
/-- The prepared activations at a row and one of the first 3072 columns. -/
theorem v10_apply (c : Dev nD) (R : Fin 16384) (D : Fin 9216) (hD : D.1 < 3072) :
    (V m c main_v10 : (⟨S16384x9216, .bf16⟩ : BufTy).Contents (Elt Ideal)) (ix2 R D)
      = A0 m c (ix3 ⟨R.1 / 8192, by omega⟩ ⟨R.1 % 8192, by omega⟩ ⟨D.1, by omega⟩) := by
  obtain ⟨x1, x2, x3, x4, h⟩ := V_v10 m c
  refine (congrFun h (ix2 R D)).trans ?_
  pointwise
  exact dif_pos hD

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 2) = t.val ∧ win0_1.index t (1 : Fin 2) = 1 :=
  (by decide +kernel : ∀ t : Fin grid0.N, _)

theorem index2 : ∀ t : Fin cfg0.N, win0_2.index t (0 : Fin 2) = 0 ∧ win0_2.index t (1 : Fin 2) = 0 :=
  (by decide +kernel : ∀ t : Fin grid0.N, _)

theorem index3 : ∀ t : Fin cfg0.N, win0_3.index t (0 : Fin 2) = 0 ∧ win0_3.index t (1 : Fin 2) = 0 :=
  (by decide +kernel : ∀ t : Fin grid0.N, _)

theorem index5 : ∀ t : Fin cfg0.N, win0_5.index t (0 : Fin 2) = 0 ∧ win0_5.index t (1 : Fin 2) = 0 :=
  (by decide +kernel : ∀ t : Fin grid0.N, _)

theorem index6 : ∀ t : Fin cfg0.N, win0_6.index t (0 : Fin 3) = 0 ∧ win0_6.index t (1 : Fin 3) = 0 ∧ win0_6.index t (2 : Fin 3) = 0 :=
  (by decide +kernel : ∀ t : Fin grid0.N, _)

theorem index7 : ∀ t : Fin cfg0.N, win0_7.index t (0 : Fin 2) = 0 ∧ win0_7.index t (1 : Fin 2) = 0 :=
  (by decide +kernel : ∀ t : Fin grid0.N, _)

theorem index8 : ∀ t : Fin cfg0.N, win0_8.index t (0 : Fin 2) = 0 ∧ win0_8.index t (1 : Fin 2) = 0 :=
  (by decide +kernel : ∀ t : Fin grid0.N, _)

theorem index4 : ∀ t : Fin cfg0.N, win0_4.index t (0 : Fin 3) = 0 ∧ win0_4.index t (1 : Fin 3) = 0 ∧ win0_4.index t (2 : Fin 3) = 0 :=
  (by decide +kernel : ∀ t : Fin grid0.N, _)

/-- Window 0's block at point `t`: rows `256 t …` of the projection. -/
theorem x0_apply (c : Dev nD) (t : Fin cfg0.N) (r : Fin 256) (d : Fin 1024) (β : Fin 2) (T : Fin 8192) (D : Fin 8752)
    (hR : β.1 * 8192 + T.1 = 256 * t.1 + r.1) (hD : D.1 = d.1) :
    (iblk m c 0 t : Vec Ideal S256x1024 .bf16) (ix2 r d) = A0 m c (ix3 β T D) := by
  have hN := lt_of_lt_of_eq t.2 (show cfg0.N = 64 from N_0)
  have hi := index0 t
  show (V m c main_v10 : (⟨S16384x9216, .bf16⟩ : BufTy).Contents (Elt Ideal)) (((cfg0.win 0).blk t).view.emb (ix2 r d)) = _
  rw [show ((cfg0.win 0).blk t).view.emb (ix2 r d) = (ix2 ⟨256 * t.1 + r.1, by omega⟩ ⟨d.1, by omega⟩ : S16384x9216.Idx) from by
    funext a
    apply Fin.ext
    match a with
    | ⟨0, _⟩ => show win0_0.index t 0 * 256 + 1 * r.1 = 256 * t.1 + r.1; rw [hi.1]; omega
    | ⟨1, _⟩ => show win0_0.index t 1 * 1024 + 1 * d.1 = d.1; have h2 := hi.2; clear hi hR hD; omega]
  refine (v10_apply m c _ _ (by show d.1 < 3072; omega)).trans (congrArg (A0 m c) ?_)
  funext a
  apply Fin.ext
  match a with
  | ⟨0, _⟩ => show (256 * t.1 + r.1) / 8192 = β.1; omega
  | ⟨1, _⟩ => show (256 * t.1 + r.1) % 8192 = T.1; omega
  | ⟨2, _⟩ => exact hD.symm

/-- Window 1's block at point `t`: rows `256 t …` of the projection. -/
theorem x1_apply (c : Dev nD) (t : Fin cfg0.N) (r : Fin 256) (d : Fin 1024) (β : Fin 2) (T : Fin 8192) (D : Fin 8752)
    (hR : β.1 * 8192 + T.1 = 256 * t.1 + r.1) (hD : D.1 = 1024 + d.1) :
    (iblk m c 1 t : Vec Ideal S256x1024 .bf16) (ix2 r d) = A0 m c (ix3 β T D) := by
  have hN := lt_of_lt_of_eq t.2 (show cfg0.N = 64 from N_0)
  have hi := index1 t
  show (V m c main_v10 : (⟨S16384x9216, .bf16⟩ : BufTy).Contents (Elt Ideal)) (((cfg0.win 1).blk t).view.emb (ix2 r d)) = _
  rw [show ((cfg0.win 1).blk t).view.emb (ix2 r d) = (ix2 ⟨256 * t.1 + r.1, by omega⟩ ⟨1024 + d.1, by omega⟩ : S16384x9216.Idx) from by
    funext a
    apply Fin.ext
    match a with
    | ⟨0, _⟩ => show win0_1.index t 0 * 256 + 1 * r.1 = 256 * t.1 + r.1; rw [hi.1]; omega
    | ⟨1, _⟩ => show win0_1.index t 1 * 1024 + 1 * d.1 = 1024 + d.1; rw [hi.2]; omega]
  refine (v10_apply m c _ _ (by show 1024 + d.1 < 3072; omega)).trans (congrArg (A0 m c) ?_)
  funext a
  apply Fin.ext
  match a with
  | ⟨0, _⟩ => show (256 * t.1 + r.1) / 8192 = β.1; omega
  | ⟨1, _⟩ => show (256 * t.1 + r.1) % 8192 = T.1; omega
  | ⟨2, _⟩ => exact hD.symm

/-- Window 2 is the convolution's weights whole. -/
theorem x2_eq (c : Dev nD) (t : Fin cfg0.N) : (iblk m c 2 t : Vec Ideal S4x1024 .f32) = A1 m c := by
  have hi := index2 t
  funext j
  show (V m c main_arg1 : (⟨S4x1024, .f32⟩ : BufTy).Contents (Elt Ideal)) (((cfg0.win 2).blk t).view.emb j) = _
  rw [V_main_arg1]
  refine congrArg (A1 m c) ?_
  funext a
  apply Fin.ext
  match a with
  | ⟨0, _⟩ => show win0_2.index t 0 * 4 + 1 * (j 0).val = (j 0).val; rw [hi.1]; omega
  | ⟨1, _⟩ => show win0_2.index t 1 * 1024 + 1 * (j 1).val = (j 1).val; rw [hi.2]; omega

set_option maxRecDepth 16384 in
theorem x3_apply (c : Dev nD) (t : Fin cfg0.N) (d : Fin 1024) : (iblk m c 3 t : Vec Ideal S1x1024 .f32) (ix2 0 d) = A2 m c (ix1 d) := by
  have hi := index3 t
  show (V m c main_v13 : (⟨S1x1024, .f32⟩ : BufTy).Contents (Elt Ideal)) (((cfg0.win 3).blk t).view.emb (ix2 0 d)) = _
  rw [show ((cfg0.win 3).blk t).view.emb (ix2 0 d) = (ix2 0 d : S1x1024.Idx) from by
    funext a
    apply Fin.ext
    match a with
    | ⟨0, _⟩ => show win0_3.index t 0 * 1 + 1 * 0 = 0; rw [hi.1]
    | ⟨1, _⟩ => show win0_3.index t 1 * 1024 + 1 * d.1 = d.1; rw [hi.2]; omega]
  refine (congrFun (V_v13 m c) (ix2 0 d)).trans ?_
  pointwise

set_option maxRecDepth 16384 in
theorem x8_apply (c : Dev nD) (t : Fin cfg0.N) (d : Fin 1024) : (iblk m c 8 t : Vec Ideal S1x1024 .f32) (ix2 0 d) = A7 m c (ix1 d) := by
  have hi := index8 t
  show (V m c main_v16 : (⟨S1x1024, .f32⟩ : BufTy).Contents (Elt Ideal)) (((cfg0.win 8).blk t).view.emb (ix2 0 d)) = _
  rw [show ((cfg0.win 8).blk t).view.emb (ix2 0 d) = (ix2 0 d : S1x1024.Idx) from by
    funext a
    apply Fin.ext
    match a with
    | ⟨0, _⟩ => show win0_8.index t 0 * 1 + 1 * 0 = 0; rw [hi.1]
    | ⟨1, _⟩ => show win0_8.index t 1 * 1024 + 1 * d.1 = d.1; rw [hi.2]; omega]
  refine (congrFun (V_v16 m c) (ix2 0 d)).trans ?_
  pointwise

set_option maxRecDepth 16384 in
theorem x5_apply (c : Dev nD) (t : Fin cfg0.N) (d : Fin 1024) (n : Fin 8) (e : Fin 128) (hd : d.1 = 128 * n.1 + e.1) : (iblk m c 5 t : Vec Ideal S1x1024 .f32) (ix2 0 d) = A4 m c (ix2 n e) := by
  have hi := index5 t
  show (V m c main_v14 : (⟨S1x1024, .f32⟩ : BufTy).Contents (Elt Ideal)) (((cfg0.win 5).blk t).view.emb (ix2 0 d)) = _
  rw [show ((cfg0.win 5).blk t).view.emb (ix2 0 d) = (ix2 0 d : S1x1024.Idx) from by
    funext a
    apply Fin.ext
    match a with
    | ⟨0, _⟩ => show win0_5.index t 0 * 1 + 1 * 0 = 0; rw [hi.1]
    | ⟨1, _⟩ => show win0_5.index t 1 * 1024 + 1 * d.1 = d.1; rw [hi.2]; omega]
  refine (congrFun (V_v14 m c) (ix2 0 d)).trans ?_
  refine (flat_apply (A4 m c) d).trans ?_
  refine congrArg (A4 m c) ?_
  funext a
  apply Fin.ext
  match a with
  | ⟨0, _⟩ => show d.1 / 128 = n.1; omega
  | ⟨1, _⟩ => show d.1 % 128 = e.1; omega

set_option maxRecDepth 16384 in
theorem x7_apply (c : Dev nD) (t : Fin cfg0.N) (d : Fin 1024) (n : Fin 8) (e : Fin 128) (hd : d.1 = 128 * n.1 + e.1) : (iblk m c 7 t : Vec Ideal S1x1024 .f32) (ix2 0 d) = A6 m c (ix2 n e) := by
  have hi := index7 t
  show (V m c main_v15 : (⟨S1x1024, .f32⟩ : BufTy).Contents (Elt Ideal)) (((cfg0.win 7).blk t).view.emb (ix2 0 d)) = _
  rw [show ((cfg0.win 7).blk t).view.emb (ix2 0 d) = (ix2 0 d : S1x1024.Idx) from by
    funext a
    apply Fin.ext
    match a with
    | ⟨0, _⟩ => show win0_7.index t 0 * 1 + 1 * 0 = 0; rw [hi.1]
    | ⟨1, _⟩ => show win0_7.index t 1 * 1024 + 1 * d.1 = d.1; rw [hi.2]; omega]
  refine (congrFun (V_v15 m c) (ix2 0 d)).trans ?_
  refine (flat_apply (A6 m c) d).trans ?_
  refine congrArg (A6 m c) ?_
  funext a
  apply Fin.ext
  match a with
  | ⟨0, _⟩ => show d.1 / 128 = n.1; omega
  | ⟨1, _⟩ => show d.1 % 128 = e.1; omega

theorem x4_eq (c : Dev nD) (t : Fin cfg0.N) : (iblk m c 4 t : Vec Ideal S8x128x128 .bf16) = A3 m c := by
  have hi := index4 t
  funext j
  show (V m c main_v11 : (⟨S8x128x128, .bf16⟩ : BufTy).Contents (Elt Ideal)) (((cfg0.win 4).blk t).view.emb j) = _
  rw [V_v11]
  refine congrArg (A3 m c) ?_
  funext a
  apply Fin.ext
  match a with
  | ⟨0, _⟩ => show win0_4.index t 0 * 8 + 1 * (j 0).val = (j 0).val; rw [hi.1]; omega
  | ⟨1, _⟩ => show win0_4.index t 1 * 128 + 1 * (j 1).val = (j 1).val; rw [hi.2.1]; omega
  | ⟨2, _⟩ => show win0_4.index t 2 * 128 + 1 * (j 2).val = (j 2).val; rw [hi.2.2]; omega

theorem x6_eq (c : Dev nD) (t : Fin cfg0.N) : (iblk m c 6 t : Vec Ideal S8x128x128 .bf16) = A5 m c := by
  have hi := index6 t
  funext j
  show (V m c main_v12 : (⟨S8x128x128, .bf16⟩ : BufTy).Contents (Elt Ideal)) (((cfg0.win 6).blk t).view.emb j) = _
  rw [V_v12]
  refine congrArg (A5 m c) ?_
  funext a
  apply Fin.ext
  match a with
  | ⟨0, _⟩ => show win0_6.index t 0 * 8 + 1 * (j 0).val = (j 0).val; rw [hi.1]; omega
  | ⟨1, _⟩ => show win0_6.index t 1 * 128 + 1 * (j 1).val = (j 1).val; rw [hi.2.1]; omega
  | ⟨2, _⟩ => show win0_6.index t 2 * 128 + 1 * (j 2).val = (j 2).val; rw [hi.2.2]; omega

end Cert.Rglru.Input
-- ==== Proof.Rglru.Block.lean ====
module

public import proofs.«01_k».proof.Proof.Gen.RglruIdeal.Value
public import Idealize.ShloMosaic.Lib.Pointwise
public import Idealize.ShloMosaic.Lib.Tactic

@[expose] public section

noncomputable section

namespace Cert.Rglru.Block

open Idealize.ShloMosaic Idealize.ShloMosaic.TcCoe Idealize.SL.Sem
open Cert.RglruIdeal Cert.RglruIdeal.Gen

variable {F : FTy → Type} [FloatOps F]

theorem zero2 : (![0, 0] : Fin 2 → Nat) = fun _ => 0 := funext fun a => by fin_cases a <;> rfl

/-! ### The values a block of 256 rows computes, by name. -/

/-- The row numbers of a group of eight rows. -/
abbrev rows8 : IVec S8x1024 32 := iota .tc S8x1024 32 [0] iota_S8x1024_d0_w32

/-- The causal convolution of the block, its first rows reaching into the eight rows kept from the block before. -/
abbrev conv (x0 : Vec F S256x1024 .bf16) (x2 : Vec F S4x1024 .f32) (x3 : Vec F S1x1024 .f32) (xs1 : Vec F S8x1024 .f32) : Vec F S256x1024 .f32 := k0_pay7 (k0_pay5 x0) xs1 rows8 x2 (k0_pay6 x0 xs1 x2 x3) 3#32

/-- The convolution rounded for the gates' products. -/
abbrev convB (x0 : Vec F S256x1024 .bf16) (x2 : Vec F S4x1024 .f32) (x3 : Vec F S1x1024 .f32) (xs1 : Vec F S8x1024 .f32) : Vec F S256x1024 .bf16 := k0_pay9 (k0_pay5 x0) xs1 rows8 x2 (k0_pay6 x0 xs1 x2 x3) 3#32

/-- One 128x128 weight of a gate. -/
abbrev wt (w : Vec F S8x128x128 .bf16) (k : ℕ) (h : ∀ a, (![k, 0, 0] : Fin 3 → Nat) a + S1x128x128.size a ≤ S8x128x128.size a) : Vec F S1x128x128 .bf16 := View.ld w (Rect.unit (s := S8x128x128) ![k, 0, 0] S1x128x128.size h)

/-- The recurrence gate of the block. -/
abbrev rgate (x0 : Vec F S256x1024 .bf16) (x2 : Vec F S4x1024 .f32) (x3 : Vec F S1x1024 .f32) (xs1 : Vec F S8x1024 .f32) (w : Vec F S8x128x128 .bf16) (b : Vec F S1x1024 .f32) : FVec F S256x1024 .f32 :=
  k0_pay31 (convB x0 x2 x3 xs1) (k0_pay11 (k0_pay5 x0) xs1 rows8 x2 (k0_pay6 x0 xs1 x2 x3) 3#32 (wt w 0 inb_S8x128x128_S1x128x128_0_0_0)) (k0_pay14 (k0_pay5 x0) xs1 rows8 x2 (k0_pay6 x0 xs1 x2 x3) 3#32 (wt w 1 inb_S8x128x128_S1x128x128_1_0_0)) (k0_pay17 (k0_pay5 x0) xs1 rows8 x2 (k0_pay6 x0 xs1 x2 x3) 3#32 (wt w 2 inb_S8x128x128_S1x128x128_2_0_0)) (k0_pay20 (convB x0 x2 x3 xs1) (wt w 3 inb_S8x128x128_S1x128x128_3_0_0)) (k0_pay23 (convB x0 x2 x3 xs1) (wt w 4 inb_S8x128x128_S1x128x128_4_0_0)) (k0_pay26 (convB x0 x2 x3 xs1) (wt w 5 inb_S8x128x128_S1x128x128_5_0_0)) (k0_pay29 (convB x0 x2 x3 xs1) (wt w 6 inb_S8x128x128_S1x128x128_6_0_0)) (wt w 7 inb_S8x128x128_S1x128x128_7_0_0) b

/-- The input gate of the block. -/
abbrev igate (x0 : Vec F S256x1024 .bf16) (x2 : Vec F S4x1024 .f32) (x3 : Vec F S1x1024 .f32) (xs1 : Vec F S8x1024 .f32) (w : Vec F S8x128x128 .bf16) (b : Vec F S1x1024 .f32) : FVec F S256x1024 .f32 :=
  k0_pay32 (convB x0 x2 x3 xs1) (k0_pay12 (k0_pay5 x0) xs1 rows8 x2 (k0_pay6 x0 xs1 x2 x3) 3#32 (wt w 0 inb_S8x128x128_S1x128x128_0_0_0)) (k0_pay15 (k0_pay5 x0) xs1 rows8 x2 (k0_pay6 x0 xs1 x2 x3) 3#32 (wt w 1 inb_S8x128x128_S1x128x128_1_0_0)) (k0_pay18 (k0_pay16 (k0_pay5 x0) xs1 rows8 x2 (k0_pay6 x0 xs1 x2 x3) 3#32) (wt w 2 inb_S8x128x128_S1x128x128_2_0_0)) (k0_pay21 (convB x0 x2 x3 xs1) (wt w 3 inb_S8x128x128_S1x128x128_3_0_0)) (k0_pay24 (convB x0 x2 x3 xs1) (wt w 4 inb_S8x128x128_S1x128x128_4_0_0)) (k0_pay27 (convB x0 x2 x3 xs1) (wt w 5 inb_S8x128x128_S1x128x128_5_0_0)) (k0_pay28 (convB x0 x2 x3 xs1)) (wt w 6 inb_S8x128x128_S1x128x128_6_0_0) (wt w 7 inb_S8x128x128_S1x128x128_7_0_0) b

/-! ### The thirty-two groups, each started with the last row of the one before. -/

variable (P Q R : FVec F S256x1024 .f32) (H : FVec F S8x1024 .f32)

abbrev mB : FVec F S256x1024 .f32 := k0_pay43 k0_pay35 P Q R
abbrev mA : FVec F S256x1024 .f32 := k0_pay44 k0_pay35 P Q
abbrev r5 : FVec F S1x1024 .f32 := k0_pay51 k0_pay35 P Q R H
abbrev r13 : FVec F S8x1024 .f32 := k0_pay60 (mB P Q R) (mA P Q) (r5 P Q R H)
abbrev r22 : FVec F S1x1024 .f32 := k0_pay72 (mB P Q R) (mA P Q) (r13 P Q R H) (k0_pay61 (mB P Q R)) (k0_pay62 (mA P Q))

abbrev gr0 : FVec F S8x1024 .f32 := k0_pay45 k0_pay35 P Q R H

abbrev gr1 : FVec F S8x1024 .f32 := k0_pay46 k0_pay35 P Q R H

abbrev gr2 : FVec F S8x1024 .f32 := k0_pay47 k0_pay35 P Q R H

abbrev gr3 : FVec F S8x1024 .f32 := k0_pay48 k0_pay35 P Q R H

abbrev gr4 : FVec F S8x1024 .f32 := k0_pay49 k0_pay35 P Q R H

abbrev gr5 : FVec F S8x1024 .f32 := k0_pay50 k0_pay35 P Q R H

abbrev gr6 : FVec F S8x1024 .f32 := k0_pay52 (mB P Q R) (mA P Q) (r5 P Q R H)

abbrev gr7 : FVec F S8x1024 .f32 := k0_pay53 (mB P Q R) (mA P Q) (r5 P Q R H)

abbrev gr8 : FVec F S8x1024 .f32 := k0_pay54 (mB P Q R) (mA P Q) (r5 P Q R H)

abbrev gr9 : FVec F S8x1024 .f32 := k0_pay55 (mB P Q R) (mA P Q) (r5 P Q R H)

abbrev gr10 : FVec F S8x1024 .f32 := k0_pay56 (mB P Q R) (mA P Q) (r5 P Q R H)

abbrev gr11 : FVec F S8x1024 .f32 := k0_pay57 (mB P Q R) (mA P Q) (r5 P Q R H)

abbrev gr12 : FVec F S8x1024 .f32 := k0_pay58 (mB P Q R) (mA P Q) (r5 P Q R H)

abbrev gr13 : FVec F S8x1024 .f32 := k0_pay59 (mB P Q R) (mA P Q) (r5 P Q R H)

abbrev gr14 : FVec F S8x1024 .f32 := k0_pay63 (r13 P Q R H) (k0_pay61 (mB P Q R)) (k0_pay62 (mA P Q))

abbrev gr15 : FVec F S8x1024 .f32 := k0_pay64 (mB P Q R) (mA P Q) (r13 P Q R H) (k0_pay61 (mB P Q R)) (k0_pay62 (mA P Q))

abbrev gr16 : FVec F S8x1024 .f32 := k0_pay65 (mB P Q R) (mA P Q) (r13 P Q R H) (k0_pay61 (mB P Q R)) (k0_pay62 (mA P Q))

abbrev gr17 : FVec F S8x1024 .f32 := k0_pay66 (mB P Q R) (mA P Q) (r13 P Q R H) (k0_pay61 (mB P Q R)) (k0_pay62 (mA P Q))

abbrev gr18 : FVec F S8x1024 .f32 := k0_pay67 (mB P Q R) (mA P Q) (r13 P Q R H) (k0_pay61 (mB P Q R)) (k0_pay62 (mA P Q))

abbrev gr19 : FVec F S8x1024 .f32 := k0_pay68 (mB P Q R) (mA P Q) (r13 P Q R H) (k0_pay61 (mB P Q R)) (k0_pay62 (mA P Q))

abbrev gr20 : FVec F S8x1024 .f32 := k0_pay69 (mB P Q R) (mA P Q) (r13 P Q R H) (k0_pay61 (mB P Q R)) (k0_pay62 (mA P Q))

abbrev gr21 : FVec F S8x1024 .f32 := k0_pay70 (mB P Q R) (mA P Q) (r13 P Q R H) (k0_pay61 (mB P Q R)) (k0_pay62 (mA P Q))

abbrev gr22 : FVec F S8x1024 .f32 := k0_pay71 (mB P Q R) (mA P Q) (r13 P Q R H) (k0_pay61 (mB P Q R)) (k0_pay62 (mA P Q))

abbrev gr23 : FVec F S8x1024 .f32 := k0_pay73 (mB P Q R) (mA P Q) (r22 P Q R H)

abbrev gr24 : FVec F S8x1024 .f32 := k0_pay74 (mB P Q R) (mA P Q) (r22 P Q R H)

abbrev gr25 : FVec F S8x1024 .f32 := k0_pay75 (mB P Q R) (mA P Q) (r22 P Q R H)

abbrev gr26 : FVec F S8x1024 .f32 := k0_pay76 (mB P Q R) (mA P Q) (r22 P Q R H)

abbrev gr27 : FVec F S8x1024 .f32 := k0_pay77 (mB P Q R) (mA P Q) (r22 P Q R H)

abbrev gr28 : FVec F S8x1024 .f32 := k0_pay78 (mB P Q R) (mA P Q) (r22 P Q R H)

abbrev gr29 : FVec F S8x1024 .f32 := k0_pay79 (mB P Q R) (mA P Q) (r22 P Q R H)

abbrev gr30 : FVec F S8x1024 .f32 := k0_pay80 (mB P Q R) (mA P Q) (r22 P Q R H)

abbrev gr31 : FVec F S8x1024 .f32 := addf (k0_pay81 (mB P Q R)) (k0_pay82 (mB P Q R) (mA P Q) (r22 P Q R H))

theorem gr0_eq : gr0 P Q R H = addf (extractStridedSlice S8x1024 ![0, 0] (mB P Q R) slices_S256x1024_o0_0_S8x1024) (mulf (extractStridedSlice S8x1024 ![0, 0] (mA P Q) slices_S256x1024_o0_0_S8x1024) H) := rfl

theorem gr1_eq : gr1 P Q R H = addf (extractStridedSlice S8x1024 ![8, 0] (mB P Q R) slices_S256x1024_o8_0_S8x1024) (mulf (extractStridedSlice S8x1024 ![8, 0] (mA P Q) slices_S256x1024_o8_0_S8x1024) (broadcastTo S8x1024 (shapeCast S1x1024 (extractStridedSlice S1x1024 ![7, 0] (gr0 P Q R H) slices_S8x1024_o7_0_S1x1024) shapeCasts_S1x1024_S1x1024) broadcasts_S1x1024_S8x1024)) := rfl

theorem gr2_eq : gr2 P Q R H = addf (extractStridedSlice S8x1024 ![16, 0] (mB P Q R) slices_S256x1024_o16_0_S8x1024) (mulf (extractStridedSlice S8x1024 ![16, 0] (mA P Q) slices_S256x1024_o16_0_S8x1024) (broadcastTo S8x1024 (shapeCast S1x1024 (extractStridedSlice S1x1024 ![7, 0] (gr1 P Q R H) slices_S8x1024_o7_0_S1x1024) shapeCasts_S1x1024_S1x1024) broadcasts_S1x1024_S8x1024)) := rfl

theorem gr3_eq : gr3 P Q R H = addf (extractStridedSlice S8x1024 ![24, 0] (mB P Q R) slices_S256x1024_o24_0_S8x1024) (mulf (extractStridedSlice S8x1024 ![24, 0] (mA P Q) slices_S256x1024_o24_0_S8x1024) (broadcastTo S8x1024 (shapeCast S1x1024 (extractStridedSlice S1x1024 ![7, 0] (gr2 P Q R H) slices_S8x1024_o7_0_S1x1024) shapeCasts_S1x1024_S1x1024) broadcasts_S1x1024_S8x1024)) := rfl

theorem gr4_eq : gr4 P Q R H = addf (extractStridedSlice S8x1024 ![32, 0] (mB P Q R) slices_S256x1024_o32_0_S8x1024) (mulf (extractStridedSlice S8x1024 ![32, 0] (mA P Q) slices_S256x1024_o32_0_S8x1024) (broadcastTo S8x1024 (shapeCast S1x1024 (extractStridedSlice S1x1024 ![7, 0] (gr3 P Q R H) slices_S8x1024_o7_0_S1x1024) shapeCasts_S1x1024_S1x1024) broadcasts_S1x1024_S8x1024)) := rfl

theorem gr5_eq : gr5 P Q R H = addf (extractStridedSlice S8x1024 ![40, 0] (mB P Q R) slices_S256x1024_o40_0_S8x1024) (mulf (extractStridedSlice S8x1024 ![40, 0] (mA P Q) slices_S256x1024_o40_0_S8x1024) (broadcastTo S8x1024 (shapeCast S1x1024 (extractStridedSlice S1x1024 ![7, 0] (gr4 P Q R H) slices_S8x1024_o7_0_S1x1024) shapeCasts_S1x1024_S1x1024) broadcasts_S1x1024_S8x1024)) := rfl

theorem gr6_eq : gr6 P Q R H = addf (extractStridedSlice S8x1024 ![48, 0] (mB P Q R) slices_S256x1024_o48_0_S8x1024) (mulf (extractStridedSlice S8x1024 ![48, 0] (mA P Q) slices_S256x1024_o48_0_S8x1024) (broadcastTo S8x1024 (shapeCast S1x1024 (extractStridedSlice S1x1024 ![7, 0] (gr5 P Q R H) slices_S8x1024_o7_0_S1x1024) shapeCasts_S1x1024_S1x1024) broadcasts_S1x1024_S8x1024)) := rfl

theorem gr7_eq : gr7 P Q R H = addf (extractStridedSlice S8x1024 ![56, 0] (mB P Q R) slices_S256x1024_o56_0_S8x1024) (mulf (extractStridedSlice S8x1024 ![56, 0] (mA P Q) slices_S256x1024_o56_0_S8x1024) (broadcastTo S8x1024 (shapeCast S1x1024 (extractStridedSlice S1x1024 ![7, 0] (gr6 P Q R H) slices_S8x1024_o7_0_S1x1024) shapeCasts_S1x1024_S1x1024) broadcasts_S1x1024_S8x1024)) := rfl

theorem gr8_eq : gr8 P Q R H = addf (extractStridedSlice S8x1024 ![64, 0] (mB P Q R) slices_S256x1024_o64_0_S8x1024) (mulf (extractStridedSlice S8x1024 ![64, 0] (mA P Q) slices_S256x1024_o64_0_S8x1024) (broadcastTo S8x1024 (shapeCast S1x1024 (extractStridedSlice S1x1024 ![7, 0] (gr7 P Q R H) slices_S8x1024_o7_0_S1x1024) shapeCasts_S1x1024_S1x1024) broadcasts_S1x1024_S8x1024)) := rfl

theorem gr9_eq : gr9 P Q R H = addf (extractStridedSlice S8x1024 ![72, 0] (mB P Q R) slices_S256x1024_o72_0_S8x1024) (mulf (extractStridedSlice S8x1024 ![72, 0] (mA P Q) slices_S256x1024_o72_0_S8x1024) (broadcastTo S8x1024 (shapeCast S1x1024 (extractStridedSlice S1x1024 ![7, 0] (gr8 P Q R H) slices_S8x1024_o7_0_S1x1024) shapeCasts_S1x1024_S1x1024) broadcasts_S1x1024_S8x1024)) := rfl

theorem gr10_eq : gr10 P Q R H = addf (extractStridedSlice S8x1024 ![80, 0] (mB P Q R) slices_S256x1024_o80_0_S8x1024) (mulf (extractStridedSlice S8x1024 ![80, 0] (mA P Q) slices_S256x1024_o80_0_S8x1024) (broadcastTo S8x1024 (shapeCast S1x1024 (extractStridedSlice S1x1024 ![7, 0] (gr9 P Q R H) slices_S8x1024_o7_0_S1x1024) shapeCasts_S1x1024_S1x1024) broadcasts_S1x1024_S8x1024)) := rfl

theorem gr11_eq : gr11 P Q R H = addf (extractStridedSlice S8x1024 ![88, 0] (mB P Q R) slices_S256x1024_o88_0_S8x1024) (mulf (extractStridedSlice S8x1024 ![88, 0] (mA P Q) slices_S256x1024_o88_0_S8x1024) (broadcastTo S8x1024 (shapeCast S1x1024 (extractStridedSlice S1x1024 ![7, 0] (gr10 P Q R H) slices_S8x1024_o7_0_S1x1024) shapeCasts_S1x1024_S1x1024) broadcasts_S1x1024_S8x1024)) := rfl

theorem gr12_eq : gr12 P Q R H = addf (extractStridedSlice S8x1024 ![96, 0] (mB P Q R) slices_S256x1024_o96_0_S8x1024) (mulf (extractStridedSlice S8x1024 ![96, 0] (mA P Q) slices_S256x1024_o96_0_S8x1024) (broadcastTo S8x1024 (shapeCast S1x1024 (extractStridedSlice S1x1024 ![7, 0] (gr11 P Q R H) slices_S8x1024_o7_0_S1x1024) shapeCasts_S1x1024_S1x1024) broadcasts_S1x1024_S8x1024)) := rfl

theorem gr13_eq : gr13 P Q R H = addf (extractStridedSlice S8x1024 ![104, 0] (mB P Q R) slices_S256x1024_o104_0_S8x1024) (mulf (extractStridedSlice S8x1024 ![104, 0] (mA P Q) slices_S256x1024_o104_0_S8x1024) (broadcastTo S8x1024 (shapeCast S1x1024 (extractStridedSlice S1x1024 ![7, 0] (gr12 P Q R H) slices_S8x1024_o7_0_S1x1024) shapeCasts_S1x1024_S1x1024) broadcasts_S1x1024_S8x1024)) := rfl

theorem gr14_eq : gr14 P Q R H = addf (extractStridedSlice S8x1024 ![112, 0] (mB P Q R) slices_S256x1024_o112_0_S8x1024) (mulf (extractStridedSlice S8x1024 ![112, 0] (mA P Q) slices_S256x1024_o112_0_S8x1024) (broadcastTo S8x1024 (shapeCast S1x1024 (extractStridedSlice S1x1024 ![7, 0] (gr13 P Q R H) slices_S8x1024_o7_0_S1x1024) shapeCasts_S1x1024_S1x1024) broadcasts_S1x1024_S8x1024)) := rfl

theorem gr15_eq : gr15 P Q R H = addf (extractStridedSlice S8x1024 ![120, 0] (mB P Q R) slices_S256x1024_o120_0_S8x1024) (mulf (extractStridedSlice S8x1024 ![120, 0] (mA P Q) slices_S256x1024_o120_0_S8x1024) (broadcastTo S8x1024 (shapeCast S1x1024 (extractStridedSlice S1x1024 ![7, 0] (gr14 P Q R H) slices_S8x1024_o7_0_S1x1024) shapeCasts_S1x1024_S1x1024) broadcasts_S1x1024_S8x1024)) := rfl

theorem gr16_eq : gr16 P Q R H = addf (extractStridedSlice S8x1024 ![128, 0] (mB P Q R) slices_S256x1024_o128_0_S8x1024) (mulf (extractStridedSlice S8x1024 ![128, 0] (mA P Q) slices_S256x1024_o128_0_S8x1024) (broadcastTo S8x1024 (shapeCast S1x1024 (extractStridedSlice S1x1024 ![7, 0] (gr15 P Q R H) slices_S8x1024_o7_0_S1x1024) shapeCasts_S1x1024_S1x1024) broadcasts_S1x1024_S8x1024)) := rfl

theorem gr17_eq : gr17 P Q R H = addf (extractStridedSlice S8x1024 ![136, 0] (mB P Q R) slices_S256x1024_o136_0_S8x1024) (mulf (extractStridedSlice S8x1024 ![136, 0] (mA P Q) slices_S256x1024_o136_0_S8x1024) (broadcastTo S8x1024 (shapeCast S1x1024 (extractStridedSlice S1x1024 ![7, 0] (gr16 P Q R H) slices_S8x1024_o7_0_S1x1024) shapeCasts_S1x1024_S1x1024) broadcasts_S1x1024_S8x1024)) := rfl

theorem gr18_eq : gr18 P Q R H = addf (extractStridedSlice S8x1024 ![144, 0] (mB P Q R) slices_S256x1024_o144_0_S8x1024) (mulf (extractStridedSlice S8x1024 ![144, 0] (mA P Q) slices_S256x1024_o144_0_S8x1024) (broadcastTo S8x1024 (shapeCast S1x1024 (extractStridedSlice S1x1024 ![7, 0] (gr17 P Q R H) slices_S8x1024_o7_0_S1x1024) shapeCasts_S1x1024_S1x1024) broadcasts_S1x1024_S8x1024)) := rfl

theorem gr19_eq : gr19 P Q R H = addf (extractStridedSlice S8x1024 ![152, 0] (mB P Q R) slices_S256x1024_o152_0_S8x1024) (mulf (extractStridedSlice S8x1024 ![152, 0] (mA P Q) slices_S256x1024_o152_0_S8x1024) (broadcastTo S8x1024 (shapeCast S1x1024 (extractStridedSlice S1x1024 ![7, 0] (gr18 P Q R H) slices_S8x1024_o7_0_S1x1024) shapeCasts_S1x1024_S1x1024) broadcasts_S1x1024_S8x1024)) := rfl

theorem gr20_eq : gr20 P Q R H = addf (extractStridedSlice S8x1024 ![160, 0] (mB P Q R) slices_S256x1024_o160_0_S8x1024) (mulf (extractStridedSlice S8x1024 ![160, 0] (mA P Q) slices_S256x1024_o160_0_S8x1024) (broadcastTo S8x1024 (shapeCast S1x1024 (extractStridedSlice S1x1024 ![7, 0] (gr19 P Q R H) slices_S8x1024_o7_0_S1x1024) shapeCasts_S1x1024_S1x1024) broadcasts_S1x1024_S8x1024)) := rfl

theorem gr21_eq : gr21 P Q R H = addf (extractStridedSlice S8x1024 ![168, 0] (mB P Q R) slices_S256x1024_o168_0_S8x1024) (mulf (extractStridedSlice S8x1024 ![168, 0] (mA P Q) slices_S256x1024_o168_0_S8x1024) (broadcastTo S8x1024 (shapeCast S1x1024 (extractStridedSlice S1x1024 ![7, 0] (gr20 P Q R H) slices_S8x1024_o7_0_S1x1024) shapeCasts_S1x1024_S1x1024) broadcasts_S1x1024_S8x1024)) := rfl

theorem gr22_eq : gr22 P Q R H = addf (extractStridedSlice S8x1024 ![176, 0] (mB P Q R) slices_S256x1024_o176_0_S8x1024) (mulf (extractStridedSlice S8x1024 ![176, 0] (mA P Q) slices_S256x1024_o176_0_S8x1024) (broadcastTo S8x1024 (shapeCast S1x1024 (extractStridedSlice S1x1024 ![7, 0] (gr21 P Q R H) slices_S8x1024_o7_0_S1x1024) shapeCasts_S1x1024_S1x1024) broadcasts_S1x1024_S8x1024)) := rfl

theorem gr23_eq : gr23 P Q R H = addf (extractStridedSlice S8x1024 ![184, 0] (mB P Q R) slices_S256x1024_o184_0_S8x1024) (mulf (extractStridedSlice S8x1024 ![184, 0] (mA P Q) slices_S256x1024_o184_0_S8x1024) (broadcastTo S8x1024 (shapeCast S1x1024 (extractStridedSlice S1x1024 ![7, 0] (gr22 P Q R H) slices_S8x1024_o7_0_S1x1024) shapeCasts_S1x1024_S1x1024) broadcasts_S1x1024_S8x1024)) := rfl

theorem gr24_eq : gr24 P Q R H = addf (extractStridedSlice S8x1024 ![192, 0] (mB P Q R) slices_S256x1024_o192_0_S8x1024) (mulf (extractStridedSlice S8x1024 ![192, 0] (mA P Q) slices_S256x1024_o192_0_S8x1024) (broadcastTo S8x1024 (shapeCast S1x1024 (extractStridedSlice S1x1024 ![7, 0] (gr23 P Q R H) slices_S8x1024_o7_0_S1x1024) shapeCasts_S1x1024_S1x1024) broadcasts_S1x1024_S8x1024)) := rfl

theorem gr25_eq : gr25 P Q R H = addf (extractStridedSlice S8x1024 ![200, 0] (mB P Q R) slices_S256x1024_o200_0_S8x1024) (mulf (extractStridedSlice S8x1024 ![200, 0] (mA P Q) slices_S256x1024_o200_0_S8x1024) (broadcastTo S8x1024 (shapeCast S1x1024 (extractStridedSlice S1x1024 ![7, 0] (gr24 P Q R H) slices_S8x1024_o7_0_S1x1024) shapeCasts_S1x1024_S1x1024) broadcasts_S1x1024_S8x1024)) := rfl

theorem gr26_eq : gr26 P Q R H = addf (extractStridedSlice S8x1024 ![208, 0] (mB P Q R) slices_S256x1024_o208_0_S8x1024) (mulf (extractStridedSlice S8x1024 ![208, 0] (mA P Q) slices_S256x1024_o208_0_S8x1024) (broadcastTo S8x1024 (shapeCast S1x1024 (extractStridedSlice S1x1024 ![7, 0] (gr25 P Q R H) slices_S8x1024_o7_0_S1x1024) shapeCasts_S1x1024_S1x1024) broadcasts_S1x1024_S8x1024)) := rfl

theorem gr27_eq : gr27 P Q R H = addf (extractStridedSlice S8x1024 ![216, 0] (mB P Q R) slices_S256x1024_o216_0_S8x1024) (mulf (extractStridedSlice S8x1024 ![216, 0] (mA P Q) slices_S256x1024_o216_0_S8x1024) (broadcastTo S8x1024 (shapeCast S1x1024 (extractStridedSlice S1x1024 ![7, 0] (gr26 P Q R H) slices_S8x1024_o7_0_S1x1024) shapeCasts_S1x1024_S1x1024) broadcasts_S1x1024_S8x1024)) := rfl

theorem gr28_eq : gr28 P Q R H = addf (extractStridedSlice S8x1024 ![224, 0] (mB P Q R) slices_S256x1024_o224_0_S8x1024) (mulf (extractStridedSlice S8x1024 ![224, 0] (mA P Q) slices_S256x1024_o224_0_S8x1024) (broadcastTo S8x1024 (shapeCast S1x1024 (extractStridedSlice S1x1024 ![7, 0] (gr27 P Q R H) slices_S8x1024_o7_0_S1x1024) shapeCasts_S1x1024_S1x1024) broadcasts_S1x1024_S8x1024)) := rfl

theorem gr29_eq : gr29 P Q R H = addf (extractStridedSlice S8x1024 ![232, 0] (mB P Q R) slices_S256x1024_o232_0_S8x1024) (mulf (extractStridedSlice S8x1024 ![232, 0] (mA P Q) slices_S256x1024_o232_0_S8x1024) (broadcastTo S8x1024 (shapeCast S1x1024 (extractStridedSlice S1x1024 ![7, 0] (gr28 P Q R H) slices_S8x1024_o7_0_S1x1024) shapeCasts_S1x1024_S1x1024) broadcasts_S1x1024_S8x1024)) := rfl

theorem gr30_eq : gr30 P Q R H = addf (extractStridedSlice S8x1024 ![240, 0] (mB P Q R) slices_S256x1024_o240_0_S8x1024) (mulf (extractStridedSlice S8x1024 ![240, 0] (mA P Q) slices_S256x1024_o240_0_S8x1024) (broadcastTo S8x1024 (shapeCast S1x1024 (extractStridedSlice S1x1024 ![7, 0] (gr29 P Q R H) slices_S8x1024_o7_0_S1x1024) shapeCasts_S1x1024_S1x1024) broadcasts_S1x1024_S8x1024)) := rfl

theorem gr31_eq : gr31 P Q R H = addf (extractStridedSlice S8x1024 ![248, 0] (mB P Q R) slices_S256x1024_o248_0_S8x1024) (mulf (extractStridedSlice S8x1024 ![248, 0] (mA P Q) slices_S256x1024_o248_0_S8x1024) (broadcastTo S8x1024 (shapeCast S1x1024 (extractStridedSlice S1x1024 ![7, 0] (gr30 P Q R H) slices_S8x1024_o7_0_S1x1024) shapeCasts_S1x1024_S1x1024) broadcasts_S1x1024_S8x1024)) := rfl

/-- The states of all rows of the block. -/
abbrev hall : FVec F S256x1024 .f32 := concatenate S256x1024 0 [⟨S8x1024, gr0 P Q R H⟩, ⟨S8x1024, gr1 P Q R H⟩, ⟨S8x1024, gr2 P Q R H⟩, ⟨S8x1024, gr3 P Q R H⟩, ⟨S8x1024, gr4 P Q R H⟩, ⟨S8x1024, gr5 P Q R H⟩, ⟨S8x1024, gr6 P Q R H⟩, ⟨S8x1024, gr7 P Q R H⟩, ⟨S8x1024, gr8 P Q R H⟩, ⟨S8x1024, gr9 P Q R H⟩, ⟨S8x1024, gr10 P Q R H⟩, ⟨S8x1024, gr11 P Q R H⟩, ⟨S8x1024, gr12 P Q R H⟩, ⟨S8x1024, gr13 P Q R H⟩, ⟨S8x1024, gr14 P Q R H⟩, ⟨S8x1024, gr15 P Q R H⟩, ⟨S8x1024, gr16 P Q R H⟩, ⟨S8x1024, gr17 P Q R H⟩, ⟨S8x1024, gr18 P Q R H⟩, ⟨S8x1024, gr19 P Q R H⟩, ⟨S8x1024, gr20 P Q R H⟩, ⟨S8x1024, gr21 P Q R H⟩, ⟨S8x1024, gr22 P Q R H⟩, ⟨S8x1024, gr23 P Q R H⟩, ⟨S8x1024, gr24 P Q R H⟩, ⟨S8x1024, gr25 P Q R H⟩, ⟨S8x1024, gr26 P Q R H⟩, ⟨S8x1024, gr27 P Q R H⟩, ⟨S8x1024, gr28 P Q R H⟩, ⟨S8x1024, gr29 P Q R H⟩, ⟨S8x1024, gr30 P Q R H⟩, ⟨S8x1024, gr31 P Q R H⟩] concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0

/-! ### What a point of the grid leaves, by these names. -/

set_option maxHeartbeats 800000 in
theorem out0_B_9_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (hc : ¬cond0_0 i) (x0 : Vec F S256x1024 .bf16) (x1 : Vec F S256x1024 .bf16) (x2 : Vec F S4x1024 .f32) (x3 : Vec F S1x1024 .f32) (x4 : Vec F S8x128x128 .bf16) (x5 : Vec F S1x1024 .f32) (x6 : Vec F S8x128x128 .bf16) (x7 : Vec F S1x1024 .f32) (x8 : Vec F S1x1024 .f32) (xs0 : Vec F S8x1024 .f32) (xs1 : Vec F S8x1024 .f32) :
    out0_B_9 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xs0 xs1 = k0_pay2 (hall (k0_pay37 (rgate x0 x2 x3 xs1 x4 x5) (k0_pay33 x8)) (k0_pay39 (rgate x0 x2 x3 xs1 x4 x5) (k0_pay33 x8)) (k0_pay40 (conv x0 x2 x3 xs1) (rgate x0 x2 x3 xs1 x4 x5) (igate x0 x2 x3 xs1 x6 x7) (k0_pay33 x8)) xs0) x1 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xs0 xs1)]
  unfold kernelRun0_B
  dsimp only
  sl_unfold_words
  rw [View.canon_unit_zero zero2]
  refine Eq.trans (b := k0_pay2 (hall (k0_pay37 (rgate (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (View.ld (View.read (Elt F) arg13.view (harg13.unread xs1)) (Rect.unit (s := S8x1024) ![0, 0] S8x1024.size inb_S8x1024_S8x1024_0_0)) (View.read (Elt F) arg6.view (harg6.unread x4)) (View.ld (View.read (Elt F) arg7.view (harg7.unread x5)) (Rect.unit (s := S1x1024) ![0, 0] S1x1024.size inb_S1x1024_S1x1024_0_0))) (k0_pay33 (View.ld (View.read (Elt F) arg10.view (harg10.unread x8)) (Rect.unit (s := S1x1024) ![0, 0] S1x1024.size inb_S1x1024_S1x1024_0_0)))) (k0_pay39 (rgate (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (View.ld (View.read (Elt F) arg13.view (harg13.unread xs1)) (Rect.unit (s := S8x1024) ![0, 0] S8x1024.size inb_S8x1024_S8x1024_0_0)) (View.read (Elt F) arg6.view (harg6.unread x4)) (View.ld (View.read (Elt F) arg7.view (harg7.unread x5)) (Rect.unit (s := S1x1024) ![0, 0] S1x1024.size inb_S1x1024_S1x1024_0_0))) (k0_pay33 (View.ld (View.read (Elt F) arg10.view (harg10.unread x8)) (Rect.unit (s := S1x1024) ![0, 0] S1x1024.size inb_S1x1024_S1x1024_0_0)))) (k0_pay40 (conv (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (View.ld (View.read (Elt F) arg13.view (harg13.unread xs1)) (Rect.unit (s := S8x1024) ![0, 0] S8x1024.size inb_S8x1024_S8x1024_0_0))) (rgate (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (View.ld (View.read (Elt F) arg13.view (harg13.unread xs1)) (Rect.unit (s := S8x1024) ![0, 0] S8x1024.size inb_S8x1024_S8x1024_0_0)) (View.read (Elt F) arg6.view (harg6.unread x4)) (View.ld (View.read (Elt F) arg7.view (harg7.unread x5)) (Rect.unit (s := S1x1024) ![0, 0] S1x1024.size inb_S1x1024_S1x1024_0_0))) (igate (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (View.ld (View.read (Elt F) arg13.view (harg13.unread xs1)) (Rect.unit (s := S8x1024) ![0, 0] S8x1024.size inb_S8x1024_S8x1024_0_0)) (View.read (Elt F) arg8.view (harg8.unread x6)) (View.ld (View.read (Elt F) arg9.view (harg9.unread x7)) (Rect.unit (s := S1x1024) ![0, 0] S1x1024.size inb_S1x1024_S1x1024_0_0))) (k0_pay33 (View.ld (View.read (Elt F) arg10.view (harg10.unread x8)) (Rect.unit (s := S1x1024) ![0, 0] S1x1024.size inb_S1x1024_S1x1024_0_0)))) (View.ld (View.read (Elt F) arg12.view (harg12.unread xs0)) (Rect.unit (s := S8x1024) ![0, 0] S8x1024.size inb_S8x1024_S8x1024_0_0))) (View.ld (View.read (Elt F) arg3.view (harg3.unread x1)) (Rect.unit (s := S256x1024) ![0, 0] S256x1024.size inb_S256x1024_S256x1024_0_0))) rfl ?_
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S256x1024) zero2, View.ld_unit_zero (S := S8x1024) zero2, View.ld_unit_zero (S := S4x1024) zero2, View.ld_unit_zero (S := S1x1024) zero2, shapeCast_self]

set_option maxHeartbeats 800000 in
theorem sout0_B_0_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (hc : ¬cond0_0 i) (x0 : Vec F S256x1024 .bf16) (x1 : Vec F S256x1024 .bf16) (x2 : Vec F S4x1024 .f32) (x3 : Vec F S1x1024 .f32) (x4 : Vec F S8x128x128 .bf16) (x5 : Vec F S1x1024 .f32) (x6 : Vec F S8x128x128 .bf16) (x7 : Vec F S1x1024 .f32) (x8 : Vec F S1x1024 .f32) (xs0 : Vec F S8x1024 .f32) (xs1 : Vec F S8x1024 .f32) :
    sout0_B_0 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xs0 xs1 = k0_pay1 (gr31 (k0_pay37 (rgate x0 x2 x3 xs1 x4 x5) (k0_pay33 x8)) (k0_pay39 (rgate x0 x2 x3 xs1 x4 x5) (k0_pay33 x8)) (k0_pay40 (conv x0 x2 x3 xs1) (rgate x0 x2 x3 xs1 x4 x5) (igate x0 x2 x3 xs1 x6 x7) (k0_pay33 x8)) xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xs0 xs1)]
  unfold kernelRun0_B
  dsimp only
  sl_unfold_words
  rw [View.canon_unit_zero zero2]
  refine Eq.trans (b := k0_pay1 (gr31 (k0_pay37 (rgate (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (View.ld (View.read (Elt F) arg13.view (harg13.unread xs1)) (Rect.unit (s := S8x1024) ![0, 0] S8x1024.size inb_S8x1024_S8x1024_0_0)) (View.read (Elt F) arg6.view (harg6.unread x4)) (View.ld (View.read (Elt F) arg7.view (harg7.unread x5)) (Rect.unit (s := S1x1024) ![0, 0] S1x1024.size inb_S1x1024_S1x1024_0_0))) (k0_pay33 (View.ld (View.read (Elt F) arg10.view (harg10.unread x8)) (Rect.unit (s := S1x1024) ![0, 0] S1x1024.size inb_S1x1024_S1x1024_0_0)))) (k0_pay39 (rgate (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (View.ld (View.read (Elt F) arg13.view (harg13.unread xs1)) (Rect.unit (s := S8x1024) ![0, 0] S8x1024.size inb_S8x1024_S8x1024_0_0)) (View.read (Elt F) arg6.view (harg6.unread x4)) (View.ld (View.read (Elt F) arg7.view (harg7.unread x5)) (Rect.unit (s := S1x1024) ![0, 0] S1x1024.size inb_S1x1024_S1x1024_0_0))) (k0_pay33 (View.ld (View.read (Elt F) arg10.view (harg10.unread x8)) (Rect.unit (s := S1x1024) ![0, 0] S1x1024.size inb_S1x1024_S1x1024_0_0)))) (k0_pay40 (conv (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (View.ld (View.read (Elt F) arg13.view (harg13.unread xs1)) (Rect.unit (s := S8x1024) ![0, 0] S8x1024.size inb_S8x1024_S8x1024_0_0))) (rgate (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (View.ld (View.read (Elt F) arg13.view (harg13.unread xs1)) (Rect.unit (s := S8x1024) ![0, 0] S8x1024.size inb_S8x1024_S8x1024_0_0)) (View.read (Elt F) arg6.view (harg6.unread x4)) (View.ld (View.read (Elt F) arg7.view (harg7.unread x5)) (Rect.unit (s := S1x1024) ![0, 0] S1x1024.size inb_S1x1024_S1x1024_0_0))) (igate (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (View.ld (View.read (Elt F) arg13.view (harg13.unread xs1)) (Rect.unit (s := S8x1024) ![0, 0] S8x1024.size inb_S8x1024_S8x1024_0_0)) (View.read (Elt F) arg8.view (harg8.unread x6)) (View.ld (View.read (Elt F) arg9.view (harg9.unread x7)) (Rect.unit (s := S1x1024) ![0, 0] S1x1024.size inb_S1x1024_S1x1024_0_0))) (k0_pay33 (View.ld (View.read (Elt F) arg10.view (harg10.unread x8)) (Rect.unit (s := S1x1024) ![0, 0] S1x1024.size inb_S1x1024_S1x1024_0_0)))) (View.ld (View.read (Elt F) arg12.view (harg12.unread xs0)) (Rect.unit (s := S8x1024) ![0, 0] S8x1024.size inb_S8x1024_S8x1024_0_0)))) rfl ?_
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S256x1024) zero2, View.ld_unit_zero (S := S8x1024) zero2, View.ld_unit_zero (S := S4x1024) zero2, View.ld_unit_zero (S := S1x1024) zero2, shapeCast_self]

set_option maxHeartbeats 800000 in
theorem sout0_B_1_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (hc : ¬cond0_0 i) (x0 : Vec F S256x1024 .bf16) (x1 : Vec F S256x1024 .bf16) (x2 : Vec F S4x1024 .f32) (x3 : Vec F S1x1024 .f32) (x4 : Vec F S8x128x128 .bf16) (x5 : Vec F S1x1024 .f32) (x6 : Vec F S8x128x128 .bf16) (x7 : Vec F S1x1024 .f32) (x8 : Vec F S1x1024 .f32) (xs0 : Vec F S8x1024 .f32) (xs1 : Vec F S8x1024 .f32) :
    sout0_B_1 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xs0 xs1 = k0_pay8 (k0_pay5 x0) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xs0 xs1)]
  unfold kernelRun0_B
  dsimp only
  sl_unfold_words
  rw [View.canon_unit_zero zero2]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S256x1024) zero2, View.ld_unit_zero (S := S8x1024) zero2, View.ld_unit_zero (S := S4x1024) zero2, View.ld_unit_zero (S := S1x1024) zero2, shapeCast_self]

set_option maxHeartbeats 800000 in
theorem out0_A_9_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (hc : cond0_0 i) (x0 : Vec F S256x1024 .bf16) (x1 : Vec F S256x1024 .bf16) (x2 : Vec F S4x1024 .f32) (x3 : Vec F S1x1024 .f32) (x4 : Vec F S8x128x128 .bf16) (x5 : Vec F S1x1024 .f32) (x6 : Vec F S8x128x128 .bf16) (x7 : Vec F S1x1024 .f32) (x8 : Vec F S1x1024 .f32)  :
    out0_A_9 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 = k0_pay2 (hall (k0_pay37 (rgate x0 x2 x3 k0_pay4 x4 x5) (k0_pay33 x8)) (k0_pay39 (rgate x0 x2 x3 k0_pay4 x4 x5) (k0_pay33 x8)) (k0_pay40 (conv x0 x2 x3 k0_pay4) (rgate x0 x2 x3 k0_pay4 x4 x5) (igate x0 x2 x3 k0_pay4 x6 x7) (k0_pay33 x8)) k0_pay3) x1 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8)]
  unfold kernelRun0_A
  dsimp only
  sl_unfold_words
  rw [View.canon_unit_zero zero2]
  refine Eq.trans (b := k0_pay2 (hall (k0_pay37 (rgate (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (arg13.view.readCov [(⟨Rect.unit (s := S8x1024) ![0, 0] S8x1024.size inb_S8x1024_S8x1024_0_0, k0_pay4⟩ : View.Piece (Elt F) S8x1024 .f32)] (Rect.unit (s := S8x1024) ![0, 0] S8x1024.size inb_S8x1024_S8x1024_0_0).toLoadRect) (View.read (Elt F) arg6.view (harg6.unread x4)) (View.ld (View.read (Elt F) arg7.view (harg7.unread x5)) (Rect.unit (s := S1x1024) ![0, 0] S1x1024.size inb_S1x1024_S1x1024_0_0))) (k0_pay33 (View.ld (View.read (Elt F) arg10.view (harg10.unread x8)) (Rect.unit (s := S1x1024) ![0, 0] S1x1024.size inb_S1x1024_S1x1024_0_0)))) (k0_pay39 (rgate (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (arg13.view.readCov [(⟨Rect.unit (s := S8x1024) ![0, 0] S8x1024.size inb_S8x1024_S8x1024_0_0, k0_pay4⟩ : View.Piece (Elt F) S8x1024 .f32)] (Rect.unit (s := S8x1024) ![0, 0] S8x1024.size inb_S8x1024_S8x1024_0_0).toLoadRect) (View.read (Elt F) arg6.view (harg6.unread x4)) (View.ld (View.read (Elt F) arg7.view (harg7.unread x5)) (Rect.unit (s := S1x1024) ![0, 0] S1x1024.size inb_S1x1024_S1x1024_0_0))) (k0_pay33 (View.ld (View.read (Elt F) arg10.view (harg10.unread x8)) (Rect.unit (s := S1x1024) ![0, 0] S1x1024.size inb_S1x1024_S1x1024_0_0)))) (k0_pay40 (conv (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (arg13.view.readCov [(⟨Rect.unit (s := S8x1024) ![0, 0] S8x1024.size inb_S8x1024_S8x1024_0_0, k0_pay4⟩ : View.Piece (Elt F) S8x1024 .f32)] (Rect.unit (s := S8x1024) ![0, 0] S8x1024.size inb_S8x1024_S8x1024_0_0).toLoadRect)) (rgate (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (arg13.view.readCov [(⟨Rect.unit (s := S8x1024) ![0, 0] S8x1024.size inb_S8x1024_S8x1024_0_0, k0_pay4⟩ : View.Piece (Elt F) S8x1024 .f32)] (Rect.unit (s := S8x1024) ![0, 0] S8x1024.size inb_S8x1024_S8x1024_0_0).toLoadRect) (View.read (Elt F) arg6.view (harg6.unread x4)) (View.ld (View.read (Elt F) arg7.view (harg7.unread x5)) (Rect.unit (s := S1x1024) ![0, 0] S1x1024.size inb_S1x1024_S1x1024_0_0))) (igate (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (arg13.view.readCov [(⟨Rect.unit (s := S8x1024) ![0, 0] S8x1024.size inb_S8x1024_S8x1024_0_0, k0_pay4⟩ : View.Piece (Elt F) S8x1024 .f32)] (Rect.unit (s := S8x1024) ![0, 0] S8x1024.size inb_S8x1024_S8x1024_0_0).toLoadRect) (View.read (Elt F) arg8.view (harg8.unread x6)) (View.ld (View.read (Elt F) arg9.view (harg9.unread x7)) (Rect.unit (s := S1x1024) ![0, 0] S1x1024.size inb_S1x1024_S1x1024_0_0))) (k0_pay33 (View.ld (View.read (Elt F) arg10.view (harg10.unread x8)) (Rect.unit (s := S1x1024) ![0, 0] S1x1024.size inb_S1x1024_S1x1024_0_0)))) (arg12.view.readCov [(⟨Rect.unit (s := S8x1024) ![0, 0] S8x1024.size inb_S8x1024_S8x1024_0_0, k0_pay3⟩ : View.Piece (Elt F) S8x1024 .f32)] (Rect.unit (s := S8x1024) ![0, 0] S8x1024.size inb_S8x1024_S8x1024_0_0).toLoadRect)) (View.ld (View.read (Elt F) arg3.view (harg3.unread x1)) (Rect.unit (s := S256x1024) ![0, 0] S256x1024.size inb_S256x1024_S256x1024_0_0))) rfl ?_
  simp only [View.readCov_unit_zero (S := S8x1024) _ zero2, View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S256x1024) zero2, View.ld_unit_zero (S := S8x1024) zero2, View.ld_unit_zero (S := S4x1024) zero2, View.ld_unit_zero (S := S1x1024) zero2, shapeCast_self]

set_option maxHeartbeats 800000 in
theorem sout0_A_0_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (hc : cond0_0 i) (x0 : Vec F S256x1024 .bf16) (x1 : Vec F S256x1024 .bf16) (x2 : Vec F S4x1024 .f32) (x3 : Vec F S1x1024 .f32) (x4 : Vec F S8x128x128 .bf16) (x5 : Vec F S1x1024 .f32) (x6 : Vec F S8x128x128 .bf16) (x7 : Vec F S1x1024 .f32) (x8 : Vec F S1x1024 .f32)  :
    sout0_A_0 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 = k0_pay1 (gr31 (k0_pay37 (rgate x0 x2 x3 k0_pay4 x4 x5) (k0_pay33 x8)) (k0_pay39 (rgate x0 x2 x3 k0_pay4 x4 x5) (k0_pay33 x8)) (k0_pay40 (conv x0 x2 x3 k0_pay4) (rgate x0 x2 x3 k0_pay4 x4 x5) (igate x0 x2 x3 k0_pay4 x6 x7) (k0_pay33 x8)) k0_pay3) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8)]
  unfold kernelRun0_A
  dsimp only
  sl_unfold_words
  rw [View.canon_cons_unit_zero (S := S8x1024) zero2]
  refine Eq.trans (b := k0_pay1 (gr31 (k0_pay37 (rgate (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (arg13.view.readCov [(⟨Rect.unit (s := S8x1024) ![0, 0] S8x1024.size inb_S8x1024_S8x1024_0_0, k0_pay4⟩ : View.Piece (Elt F) S8x1024 .f32)] (Rect.unit (s := S8x1024) ![0, 0] S8x1024.size inb_S8x1024_S8x1024_0_0).toLoadRect) (View.read (Elt F) arg6.view (harg6.unread x4)) (View.ld (View.read (Elt F) arg7.view (harg7.unread x5)) (Rect.unit (s := S1x1024) ![0, 0] S1x1024.size inb_S1x1024_S1x1024_0_0))) (k0_pay33 (View.ld (View.read (Elt F) arg10.view (harg10.unread x8)) (Rect.unit (s := S1x1024) ![0, 0] S1x1024.size inb_S1x1024_S1x1024_0_0)))) (k0_pay39 (rgate (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (arg13.view.readCov [(⟨Rect.unit (s := S8x1024) ![0, 0] S8x1024.size inb_S8x1024_S8x1024_0_0, k0_pay4⟩ : View.Piece (Elt F) S8x1024 .f32)] (Rect.unit (s := S8x1024) ![0, 0] S8x1024.size inb_S8x1024_S8x1024_0_0).toLoadRect) (View.read (Elt F) arg6.view (harg6.unread x4)) (View.ld (View.read (Elt F) arg7.view (harg7.unread x5)) (Rect.unit (s := S1x1024) ![0, 0] S1x1024.size inb_S1x1024_S1x1024_0_0))) (k0_pay33 (View.ld (View.read (Elt F) arg10.view (harg10.unread x8)) (Rect.unit (s := S1x1024) ![0, 0] S1x1024.size inb_S1x1024_S1x1024_0_0)))) (k0_pay40 (conv (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (arg13.view.readCov [(⟨Rect.unit (s := S8x1024) ![0, 0] S8x1024.size inb_S8x1024_S8x1024_0_0, k0_pay4⟩ : View.Piece (Elt F) S8x1024 .f32)] (Rect.unit (s := S8x1024) ![0, 0] S8x1024.size inb_S8x1024_S8x1024_0_0).toLoadRect)) (rgate (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (arg13.view.readCov [(⟨Rect.unit (s := S8x1024) ![0, 0] S8x1024.size inb_S8x1024_S8x1024_0_0, k0_pay4⟩ : View.Piece (Elt F) S8x1024 .f32)] (Rect.unit (s := S8x1024) ![0, 0] S8x1024.size inb_S8x1024_S8x1024_0_0).toLoadRect) (View.read (Elt F) arg6.view (harg6.unread x4)) (View.ld (View.read (Elt F) arg7.view (harg7.unread x5)) (Rect.unit (s := S1x1024) ![0, 0] S1x1024.size inb_S1x1024_S1x1024_0_0))) (igate (View.ld (View.read (Elt F) arg2.view (harg2.unread x0)) (Rect.unit (s := S256x1024) ![0, 0] S256x1024.size inb_S256x1024_S256x1024_0_0)) (View.ld (View.read (Elt F) arg4.view (harg4.unread x2)) (Rect.unit (s := S4x1024) ![0, 0] S4x1024.size inb_S4x1024_S4x1024_0_0)) (View.ld (View.read (Elt F) arg5.view (harg5.unread x3)) (Rect.unit (s := S1x1024) ![0, 0] S1x1024.size inb_S1x1024_S1x1024_0_0)) (arg13.view.readCov [(⟨Rect.unit (s := S8x1024) ![0, 0] S8x1024.size inb_S8x1024_S8x1024_0_0, k0_pay4⟩ : View.Piece (Elt F) S8x1024 .f32)] (Rect.unit (s := S8x1024) ![0, 0] S8x1024.size inb_S8x1024_S8x1024_0_0).toLoadRect) (View.read (Elt F) arg8.view (harg8.unread x6)) (View.ld (View.read (Elt F) arg9.view (harg9.unread x7)) (Rect.unit (s := S1x1024) ![0, 0] S1x1024.size inb_S1x1024_S1x1024_0_0))) (k0_pay33 (View.ld (View.read (Elt F) arg10.view (harg10.unread x8)) (Rect.unit (s := S1x1024) ![0, 0] S1x1024.size inb_S1x1024_S1x1024_0_0)))) (arg12.view.readCov [(⟨Rect.unit (s := S8x1024) ![0, 0] S8x1024.size inb_S8x1024_S8x1024_0_0, k0_pay3⟩ : View.Piece (Elt F) S8x1024 .f32)] (Rect.unit (s := S8x1024) ![0, 0] S8x1024.size inb_S8x1024_S8x1024_0_0).toLoadRect))) rfl ?_
  simp only [View.readCov_unit_zero (S := S8x1024) _ zero2, View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S256x1024) zero2, View.ld_unit_zero (S := S8x1024) zero2, View.ld_unit_zero (S := S4x1024) zero2, View.ld_unit_zero (S := S1x1024) zero2, shapeCast_self]

set_option maxHeartbeats 800000 in
theorem sout0_A_1_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (hc : cond0_0 i) (x0 : Vec F S256x1024 .bf16) (x1 : Vec F S256x1024 .bf16) (x2 : Vec F S4x1024 .f32) (x3 : Vec F S1x1024 .f32) (x4 : Vec F S8x128x128 .bf16) (x5 : Vec F S1x1024 .f32) (x6 : Vec F S8x128x128 .bf16) (x7 : Vec F S1x1024 .f32) (x8 : Vec F S1x1024 .f32)  :
    sout0_A_1 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 = k0_pay8 (k0_pay5 x0) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8)]
  unfold kernelRun0_A
  dsimp only
  sl_unfold_words
  rw [View.canon_cons_unit_zero (S := S8x1024) zero2]
  simp only [View.readCov_unit_zero (S := S8x1024) _ zero2, View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S256x1024) zero2, View.ld_unit_zero (S := S8x1024) zero2, View.ld_unit_zero (S := S4x1024) zero2, View.ld_unit_zero (S := S1x1024) zero2, shapeCast_self]

end Cert.Rglru.Block

end
-- ==== Proof.Rglru.Math.lean ====
/- Facts about the extended reals: the gates' two spellings, and the affine recurrence in groups of eight. -/
module

public import Idealize.ShloMosaic.Lib.Pointwise

@[expose] public section

noncomputable section

namespace Cert.Rglru

open Idealize.ShloMosaic

theorem one_add_top : (1 : EReal) + ⊤ = ⊤ := by rw [← EReal.coe_one]; exact EReal.coe_add_top 1

theorem log_one : Ideal.log 1 = 0 := by
  rw [← EReal.coe_one, Ideal.log_coe]; simp

/-- `½·tanh(½z) + ½` is the logistic function, infinities included. -/
theorem sigmoid_eq (z : EReal) :
    ((1/2 : ℝ) : EReal) * Ideal.tanh (((1/2 : ℝ) : EReal) * z) + ((1/2 : ℝ) : EReal) = Ideal.div 1 (1 + Ideal.exp (-z)) := by
  have hp : (0 : ℝ) < 1/2 := by norm_num
  induction z with
  | bot =>
    rw [EReal.coe_mul_bot_of_pos hp]
    simp [Ideal.div, ← EReal.coe_neg, ← EReal.coe_one, ← EReal.coe_mul, ← EReal.coe_add]
  | top =>
    rw [EReal.coe_mul_top_of_pos hp]
    simp [Ideal.div]
    rw [← EReal.coe_add, ← EReal.coe_one]; norm_num
  | coe x =>
    have h1 := Real.exp_pos (x/2)
    have h2 := Real.exp_pos (-(x/2))
    have hd : (1 + Real.exp (-x)) ≠ 0 := by have := Real.exp_pos (-x); linarith
    rw [← EReal.coe_mul, Ideal.tanh_coe, ← EReal.coe_mul, ← EReal.coe_add, ← EReal.coe_neg, Ideal.exp_coe, ← EReal.coe_one,
      ← EReal.coe_add]
    rw [Ideal.div, if_neg (by exact_mod_cast hd), ← EReal.coe_inv, ← EReal.coe_mul]
    congr 1
    rw [Real.tanh_eq_sinh_div_cosh, Real.sinh_eq, Real.cosh_eq]
    have e1 : Real.exp (-x) = Real.exp (-(x/2)) * Real.exp (-(x/2)) := by rw [← Real.exp_add]; ring_nf
    have e2 : Real.exp (x/2) * Real.exp (-(x/2)) = 1 := by rw [← Real.exp_add]; simp
    rw [show (1/2 : ℝ) * x = x/2 by ring]
    rw [e1] at hd ⊢
    generalize Real.exp (x/2) = p at *
    generalize Real.exp (-(x/2)) = q at *
    have : p + q ≠ 0 := by linarith
    field_simp
    linear_combination (2 * q) * e2

/-- The logistic function takes values between zero and one. -/
theorem logistic_bounds (z : EReal) : 0 ≤ Ideal.div 1 (1 + Ideal.exp (-z)) ∧ Ideal.div 1 (1 + Ideal.exp (-z)) ≤ 1 := by
  induction z with
  | bot => simp [Ideal.div, one_add_top]
  | top => simp [Ideal.div]
  | coe x =>
    have hd : 0 < (1 + Real.exp (-x)) := by have := Real.exp_pos (-x); linarith
    rw [← EReal.coe_neg, Ideal.exp_coe, ← EReal.coe_one, ← EReal.coe_add]
    rw [Ideal.div, if_neg (by exact_mod_cast hd.ne'), ← EReal.coe_inv, ← EReal.coe_mul]
    constructor
    · exact_mod_cast (by positivity)
    · have := Real.exp_pos (-x)
      exact_mod_cast (show 1 * (1 + Real.exp (-x))⁻¹ ≤ 1 by rw [one_mul]; exact inv_le_one_of_one_le₀ (by linarith))

/-- `log (1 + eˣ)` is `max x 0 + log (1 + e^(-|x|))`, infinities included. -/
theorem softplus_eq (x : EReal) :
    Ideal.log1p (Ideal.exp x) = max x 0 + Ideal.log1p (Ideal.exp (-(max x (-x)))) := by
  induction x with
  | bot => simp [Ideal.log1p, one_add_top, log_one]
  | top => simp [Ideal.log1p, one_add_top, log_one]
  | coe x =>
    have h1 := Real.exp_pos x
    have h2 := Real.exp_pos (-(max x (-x)))
    have e : max (x : EReal) 0 = ((max x 0 : ℝ) : EReal) := by
      rw [← EReal.coe_zero]; exact (EReal.coe_strictMono.monotone.map_max).symm
    have e' : max (x : EReal) (-(x : EReal)) = ((max x (-x) : ℝ) : EReal) := by
      rw [← EReal.coe_neg]; exact (EReal.coe_strictMono.monotone.map_max).symm
    rw [e, e', ← EReal.coe_neg, Ideal.exp_coe, Ideal.exp_coe, Ideal.log1p, Ideal.log1p, ← EReal.coe_one, ← EReal.coe_add,
      ← EReal.coe_add, Ideal.log_coe, Ideal.log_coe, if_neg (by linarith), if_neg (by linarith), ← EReal.coe_add]
    congr 1
    rcases le_total x 0 with hx | hx
    · rw [max_eq_right hx, max_eq_right (show x ≤ -x by linarith), neg_neg, zero_add]
    · rw [max_eq_left hx, max_eq_left (show -x ≤ x by linarith)]
      nth_rewrite 2 [← Real.log_exp x]
      rw [← Real.log_mul h1.ne' (by have := Real.exp_pos (-x); linarith), mul_add, ← Real.exp_add]
      simp [add_comm]

theorem softplus_nonneg (x : EReal) : 0 ≤ Ideal.log1p (Ideal.exp x) := by
  induction x with
  | bot => simp [Ideal.log1p, one_add_top, log_one]
  | top => simp [Ideal.log1p, one_add_top, log_one]
  | coe x =>
    have := Real.exp_pos x
    rw [Ideal.exp_coe, Ideal.log1p, ← EReal.coe_one, ← EReal.coe_add, Ideal.log_coe, if_neg (by linarith)]
    exact_mod_cast Real.log_nonneg (by linarith)

/-- The exponential of a number at most zero lies between zero and one. -/
theorem exp_bounds {x : EReal} (h : x ≤ 0) : 0 ≤ Ideal.exp x ∧ Ideal.exp x ≤ 1 := by
  induction x with
  | bot => simp
  | top => simp at h
  | coe x =>
    have h' : x ≤ 0 := by exact_mod_cast h
    rw [Ideal.exp_coe]
    exact ⟨by exact_mod_cast (Real.exp_pos x).le, by exact_mod_cast Real.exp_le_one_iff.mpr h'⟩

/-- The input gate's factor: `(1 - a²)·rsqrt(1 - a²)` where `1 - a² > 0` and zero elsewhere is `√(1 - e^{2x})`, `a = eˣ`. -/
theorem root_eq {x : EReal} (h : x ≤ 0) :
    (if 0 < 1 - Ideal.exp x * Ideal.exp x then
        (1 - Ideal.exp x * Ideal.exp x) * Ideal.rsqrt (1 - Ideal.exp x * Ideal.exp x) else 0)
      = Ideal.sqrt (-(Ideal.exp (((2 : ℝ) : EReal) * x) - 1)) := by
  induction x with
  | bot =>
    rw [EReal.coe_mul_bot_of_pos (by norm_num)]
    have h1 : Ideal.rsqrt 1 = 1 := by rw [← EReal.coe_one, Ideal.rsqrt_coe]; simp
    have h2 : Ideal.sqrt 1 = 1 := by rw [← EReal.coe_one, Ideal.sqrt_coe]; simp
    simp [h1, h2]
  | top => simp at h
  | coe x =>
    have e : Real.exp (2 * x) = Real.exp x * Real.exp x := by rw [← Real.exp_add]; ring_nf
    have h' : x ≤ 0 := by exact_mod_cast h
    have hx : Real.exp (2 * x) ≤ 1 := Real.exp_le_one_iff.mpr (by linarith)
    rw [Ideal.exp_coe, ← EReal.coe_mul, ← EReal.coe_mul, Ideal.exp_coe, ← EReal.coe_one, ← EReal.coe_sub, ← EReal.coe_sub,
      ← EReal.coe_neg, ← e, neg_sub]
    have hy : 0 ≤ 1 - Real.exp (2 * x) := by linarith
    generalize 1 - Real.exp (2 * x) = y at *
    rw [Ideal.sqrt_coe, Ideal.rsqrt_coe, if_neg (show ¬ y < 0 by linarith), if_neg (show ¬ y < 0 by linarith)]
    rcases hy.eq_or_lt with h0 | h0
    · subst h0; simp
    · rw [if_pos (by exact_mod_cast h0), if_neg h0.ne', ← EReal.coe_mul]
      congr 1
      have := Real.sqrt_pos.mpr h0
      field_simp
      exact (Real.sq_sqrt hy).symm

/-! ## The affine recurrence -/

/-- The recurrence `h ← a·h + b` from `h0`, after `n + 1` steps. -/
def seqH (a b : ℕ → EReal) (h0 : EReal) : ℕ → EReal
  | 0 => a 0 * h0 + b 0
  | n + 1 => a (n + 1) * seqH a b h0 n + b (n + 1)

/-- One doubling step by `k` inside groups of eight: the factor … -/
def dblA (k : ℕ) (A : ℕ → EReal) (r : ℕ) : EReal := A r * (if k ≤ r % 8 then A (r - k) else 1)
/-- … and the addend. -/
def dblB (k : ℕ) (A B : ℕ → EReal) (r : ℕ) : EReal := A r * (if k ≤ r % 8 then B (r - k) else 0) + B r

theorem dblA_bounds {k : ℕ} {A : ℕ → EReal} (h : ∀ r, 0 ≤ A r ∧ A r ≤ 1) (r : ℕ) :
    0 ≤ dblA k A r ∧ dblA k A r ≤ 1 := by
  unfold dblA
  split
  · exact ⟨mul_nonneg (h r).1 (h _).1, by
      calc A r * A (r - k) ≤ 1 * 1 := mul_le_mul (h r).2 (h _).2 (h _).1 zero_le_one
        _ = 1 := one_mul 1⟩
  · rw [mul_one]; exact h r

theorem dbl_apply {k : ℕ} {A B : ℕ → EReal} (h : ∀ r, 0 ≤ A r ∧ A r ≤ 1) (r : ℕ) (x : EReal) :
    dblA k A r * x + dblB k A B r
      = if k ≤ r % 8 then A r * (A (r - k) * x + B (r - k)) + B r else A r * x + B r := by
  unfold dblA dblB
  split
  · rw [EReal.left_distrib_of_nonneg_of_ne_top (h r).1 (ne_top_of_le_ne_top (by decide) (h r).2), mul_assoc, add_assoc]
  · rw [mul_one, mul_zero, zero_add]

/-- Three doubling steps (by 1, 2 and 4) carry the value before a group of eight to the value at each of its rows. -/
theorem dbl3_apply {a b : ℕ → EReal} (h : ∀ r, 0 ≤ a r ∧ a r ≤ 1) (h0 : EReal) (g s : ℕ) (hs : s < 8) :
    dblA 4 (dblA 2 (dblA 1 a)) (8 * g + s) * (match g with | 0 => h0 | g' + 1 => seqH a b h0 (8 * g' + 7))
      + dblB 4 (dblA 2 (dblA 1 a)) (dblB 2 (dblA 1 a) (dblB 1 a b)) (8 * g + s) = seqH a b h0 (8 * g + s) := by
  rw [dbl_apply (dblA_bounds (dblA_bounds h))]
  simp only [dbl_apply (dblA_bounds h)]
  simp only [dbl_apply h]
  have hm : ∀ k, k < 8 → (8 * g + k) % 8 = k := fun k hk => by omega
  match g with
  | 0 =>
    interval_cases s <;> simp [seqH]
  | g + 1 =>
    have e : ∀ k, 8 * (g + 1) + k = 8 * g + 7 + (k + 1) := fun k => by omega
    interval_cases s <;> simp only [e] <;> simp [seqH, Nat.add_mod]

end Cert.Rglru

end
-- ==== Proof.Rglru.Gates.lean ====
module

public import proofs.«01_k».proof.Proof.Rglru.Block
public import proofs.«01_k».proof.Proof.Rglru.Math

@[expose] public section

noncomputable section

namespace Cert.Rglru.Block

open Idealize.ShloMosaic Idealize.ShloMosaic.TcCoe Idealize.SL.Sem
open Cert.RglruIdeal Cert.RglruIdeal.Gen

/-- One half, as the word the program writes. -/
theorem half_eq : Ideal.ofBits .f32 0x3F000000#32 = ((1 / 2 : ℝ) : EReal) := by
  simp [Ideal.ofBits, Ideal.ieee]
  rw [← EReal.coe_mul]
  norm_num

/-- The row `k` above row `r`, taken from the eight rows kept from the block before where the block does not have it. -/
def above (x0 : Vec Ideal S256x1024 .bf16) (xs1 : Vec Ideal S8x1024 .f32) (k r : ℕ) (d : Fin 1024) : EReal :=
  if r < k then xs1 (ix2 ⟨(r + 8 - k) % 8, Nat.mod_lt _ (by norm_num)⟩ d) else x0 (ix2 ⟨(r - k) % 256, Nat.mod_lt _ (by norm_num)⟩ d)

theorem slt_row (r : Fin 8) (k : Fin 4) : IntOp.cmpi .slt (BitVec.ofNat 32 r.1) (BitVec.ofNat 32 k.1) = if r.1 < k.1 then 1#1 else 0#1 := by
  revert r k; decide

set_option maxRecDepth 16384 in
theorem conv_apply (x0 : Vec Ideal S256x1024 .bf16) (x2 : Vec Ideal S4x1024 .f32) (x3 : Vec Ideal S1x1024 .f32) (xs1 : Vec Ideal S8x1024 .f32) (r : Fin 256) (d : Fin 1024) :
    conv x0 x2 x3 xs1 (ix2 r d) = x3 (ix2 0 d) + above x0 xs1 0 r d * x2 (ix2 3 d) + above x0 xs1 1 r d * x2 (ix2 2 d) + above x0 xs1 2 r d * x2 (ix2 1 d) + above x0 xs1 3 r d * x2 (ix2 0 d) := by
  unfold conv k0_pay7 k0_pay6 k0_pay5
  pointwise [rows8]
  have h0 : x0 (ix2 r d) = above x0 xs1 0 r d := by
    unfold above; rw [if_neg (by omega)]; congr 2; apply Fin.ext; simp only; omega
  have key : ∀ (k : Fin 4) (h8 : (r.1 + 8 - k.1) % 8 < 8) (h1 : (r.1 + 256 - k.1) % 256 < 256) (h2 : (8 + (r.1 - 8) + 256 - k.1) % 256 < 256),
      (if h : r.1 < 8 then Scalar.select (IntOp.cmpi .slt (BitVec.ofNat 32 r.1) (BitVec.ofNat 32 k.1)) (xs1 (ix2 ⟨(r.1 + 8 - k.1) % 8, h8⟩ d)) (x0 (ix2 ⟨(r.1 + 256 - k.1) % 256, h1⟩ d))
        else x0 (ix2 ⟨(8 + (r.1 - 8) + 256 - k.1) % 256, h2⟩ d)) = above x0 xs1 k.1 r d := by
    intro k h8 h1 h2
    unfold above
    split
    · rename_i h
      rw [slt_row ⟨r.1, h⟩ k]
      by_cases hk : r.1 < k.1
      · simp [hk, Scalar.select]
      · simp only [hk, Scalar.select, if_false]
        rw [if_neg (by decide)]
        congr 3
        omega
    · rw [if_neg (by omega)]
      congr 3
      omega
  have k1 := key 1; have k2 := key 2; have k3 := key 3
  simp only [Fin.val_one, Fin.val_two, show ((3 : Fin 4) : ℕ) = 3 from rfl] at k1 k2 k3
  rw [h0, k1, k2, k3]
  all_goals omega

/-- A gate's product: column `e` of block `n`, from the block's own 128 columns of the convolution. -/
def gdot (cv : FVec Ideal S256x1024 .f32) (w : Vec Ideal S8x128x128 .bf16) (n : Fin 8) (r : Fin 256) (e : Fin 128) : EReal :=
  ∑ k : Fin 128, cv (ix2 r ⟨128 * n.1 + k.1, by omega⟩) * w (ix3 n k e)

section

variable (x0 : Vec Ideal S256x1024 .bf16) (x2 : Vec Ideal S4x1024 .f32) (x3 : Vec Ideal S1x1024 .f32) (xs1 : Vec Ideal S8x1024 .f32) (w : Vec Ideal S8x128x128 .bf16) (b : Vec Ideal S1x1024 .f32)

theorem convB_apply (j : S256x1024.Idx) : convB x0 x2 x3 xs1 j = conv x0 x2 x3 xs1 j := rfl

theorem rdot0 (r : Fin 256) (e : Fin 128) : k0_pay11 (k0_pay5 x0) xs1 rows8 x2 (k0_pay6 x0 xs1 x2 x3) 3#32 (wt w 0 inb_S8x128x128_S1x128x128_0_0_0) (ix2 r e) = gdot (conv x0 x2 x3 xs1) w 0 r e := by
  unfold k0_pay11 k0_pay10 gdot
  pointwise [wt, convB_apply, k0_pay9, k0_pay10, k0_pay13, k0_pay16]
  try rfl

theorem rdot1 (r : Fin 256) (e : Fin 128) : k0_pay14 (k0_pay5 x0) xs1 rows8 x2 (k0_pay6 x0 xs1 x2 x3) 3#32 (wt w 1 inb_S8x128x128_S1x128x128_1_0_0) (ix2 r e) = gdot (conv x0 x2 x3 xs1) w 1 r e := by
  unfold k0_pay14 k0_pay13 gdot
  pointwise [wt, convB_apply, k0_pay9, k0_pay10, k0_pay13, k0_pay16]
  try rfl

theorem rdot2 (r : Fin 256) (e : Fin 128) : k0_pay17 (k0_pay5 x0) xs1 rows8 x2 (k0_pay6 x0 xs1 x2 x3) 3#32 (wt w 2 inb_S8x128x128_S1x128x128_2_0_0) (ix2 r e) = gdot (conv x0 x2 x3 xs1) w 2 r e := by
  unfold k0_pay17 k0_pay16 gdot
  pointwise [wt, convB_apply, k0_pay9, k0_pay10, k0_pay13, k0_pay16]
  try rfl

theorem rdot3 (r : Fin 256) (e : Fin 128) : k0_pay20 (convB x0 x2 x3 xs1) (wt w 3 inb_S8x128x128_S1x128x128_3_0_0) (ix2 r e) = gdot (conv x0 x2 x3 xs1) w 3 r e := by
  unfold k0_pay20 k0_pay19 gdot
  pointwise [wt, convB_apply, k0_pay9, k0_pay10, k0_pay13, k0_pay16]
  try rfl

theorem rdot4 (r : Fin 256) (e : Fin 128) : k0_pay23 (convB x0 x2 x3 xs1) (wt w 4 inb_S8x128x128_S1x128x128_4_0_0) (ix2 r e) = gdot (conv x0 x2 x3 xs1) w 4 r e := by
  unfold k0_pay23 k0_pay22 gdot
  pointwise [wt, convB_apply, k0_pay9, k0_pay10, k0_pay13, k0_pay16]
  try rfl

theorem rdot5 (r : Fin 256) (e : Fin 128) : k0_pay26 (convB x0 x2 x3 xs1) (wt w 5 inb_S8x128x128_S1x128x128_5_0_0) (ix2 r e) = gdot (conv x0 x2 x3 xs1) w 5 r e := by
  unfold k0_pay26 k0_pay25 gdot
  pointwise [wt, convB_apply, k0_pay9, k0_pay10, k0_pay13, k0_pay16]
  try rfl

theorem rdot6 (r : Fin 256) (e : Fin 128) : k0_pay29 (convB x0 x2 x3 xs1) (wt w 6 inb_S8x128x128_S1x128x128_6_0_0) (ix2 r e) = gdot (conv x0 x2 x3 xs1) w 6 r e := by
  unfold k0_pay29 k0_pay28 gdot
  pointwise [wt, convB_apply, k0_pay9, k0_pay10, k0_pay13, k0_pay16]
  try rfl

theorem idot0 (r : Fin 256) (e : Fin 128) : k0_pay12 (k0_pay5 x0) xs1 rows8 x2 (k0_pay6 x0 xs1 x2 x3) 3#32 (wt w 0 inb_S8x128x128_S1x128x128_0_0_0) (ix2 r e) = gdot (conv x0 x2 x3 xs1) w 0 r e := by
  unfold k0_pay12 k0_pay10 gdot
  pointwise [wt, convB_apply, k0_pay9, k0_pay10, k0_pay13, k0_pay16]
  try rfl

theorem idot1 (r : Fin 256) (e : Fin 128) : k0_pay15 (k0_pay5 x0) xs1 rows8 x2 (k0_pay6 x0 xs1 x2 x3) 3#32 (wt w 1 inb_S8x128x128_S1x128x128_1_0_0) (ix2 r e) = gdot (conv x0 x2 x3 xs1) w 1 r e := by
  unfold k0_pay15 k0_pay13 gdot
  pointwise [wt, convB_apply, k0_pay9, k0_pay10, k0_pay13, k0_pay16]
  try rfl

theorem idot2 (r : Fin 256) (e : Fin 128) : k0_pay18 (k0_pay16 (k0_pay5 x0) xs1 rows8 x2 (k0_pay6 x0 xs1 x2 x3) 3#32) (wt w 2 inb_S8x128x128_S1x128x128_2_0_0) (ix2 r e) = gdot (conv x0 x2 x3 xs1) w 2 r e := by
  unfold k0_pay18 k0_pay16 gdot
  pointwise [wt, convB_apply, k0_pay9, k0_pay10, k0_pay13, k0_pay16]
  try rfl

theorem idot3 (r : Fin 256) (e : Fin 128) : k0_pay21 (convB x0 x2 x3 xs1) (wt w 3 inb_S8x128x128_S1x128x128_3_0_0) (ix2 r e) = gdot (conv x0 x2 x3 xs1) w 3 r e := by
  unfold k0_pay21 k0_pay19 gdot
  pointwise [wt, convB_apply, k0_pay9, k0_pay10, k0_pay13, k0_pay16]
  try rfl

theorem idot4 (r : Fin 256) (e : Fin 128) : k0_pay24 (convB x0 x2 x3 xs1) (wt w 4 inb_S8x128x128_S1x128x128_4_0_0) (ix2 r e) = gdot (conv x0 x2 x3 xs1) w 4 r e := by
  unfold k0_pay24 k0_pay22 gdot
  pointwise [wt, convB_apply, k0_pay9, k0_pay10, k0_pay13, k0_pay16]
  try rfl

theorem idot5 (r : Fin 256) (e : Fin 128) : k0_pay27 (convB x0 x2 x3 xs1) (wt w 5 inb_S8x128x128_S1x128x128_5_0_0) (ix2 r e) = gdot (conv x0 x2 x3 xs1) w 5 r e := by
  unfold k0_pay27 k0_pay25 gdot
  pointwise [wt, convB_apply, k0_pay9, k0_pay10, k0_pay13, k0_pay16]
  try rfl

theorem dot7 (r : Fin 256) (e : Fin 128) : (∑ x : Fin 128, k0_pay30 (convB x0 x2 x3 xs1) (ix2 r x) * (wt w 7 inb_S8x128x128_S1x128x128_7_0_0) (ix3 0 x e)) = gdot (conv x0 x2 x3 xs1) w 7 r e := by
  unfold k0_pay30 gdot
  pointwise [wt, convB_apply]
  try rfl

theorem dot6 (r : Fin 256) (e : Fin 128) : (∑ x : Fin 128, k0_pay28 (convB x0 x2 x3 xs1) (ix2 r x) * (wt w 6 inb_S8x128x128_S1x128x128_6_0_0) (ix3 0 x e)) = gdot (conv x0 x2 x3 xs1) w 6 r e := by
  unfold k0_pay28 gdot
  pointwise [wt, convB_apply]
  try rfl

theorem gdot_eq (cv : FVec Ideal S256x1024 .f32) (r : Fin 256) {n n' : Fin 8} {e e' : Fin 128} (h : 128 * n'.1 + e'.1 = 128 * n.1 + e.1) : gdot cv w n' r e' = gdot cv w n r e := by
  obtain rfl : n' = n := Fin.ext (by omega)
  obtain rfl : e' = e := Fin.ext (by omega)
  rfl

set_option maxRecDepth 16384 in
theorem rgate_apply (n : Fin 8) (r : Fin 256) (e : Fin 128) (d : Fin 1024) (hd : d.1 = 128 * n.1 + e.1) :
    rgate x0 x2 x3 xs1 w b (ix2 r d) = Ideal.div 1 (1 + Ideal.exp (-(gdot (conv x0 x2 x3 xs1) w n r e + b (ix2 0 d)))) := by
  unfold rgate k0_pay31
  pointwise [half_eq]
  rw [sigmoid_eq]
  congr 5
  simp only [rdot0, rdot1, rdot2, rdot3, rdot4, rdot5, rdot6, dot7]
  have n3 : ((3 : Fin 8) : ℕ) = 3 := rfl
  have n4 : ((4 : Fin 8) : ℕ) = 4 := rfl
  have n5 : ((5 : Fin 8) : ℕ) = 5 := rfl
  have n6 : ((6 : Fin 8) : ℕ) = 6 := rfl
  have n7 : ((7 : Fin 8) : ℕ) = 7 := rfl
  split_ifs <;> (apply gdot_eq; simp only [Fin.val_zero, Fin.val_one, Fin.val_two, n3, n4, n5, n6, n7]; omega)

set_option maxRecDepth 16384 in
theorem igate_apply (n : Fin 8) (r : Fin 256) (e : Fin 128) (d : Fin 1024) (hd : d.1 = 128 * n.1 + e.1) :
    igate x0 x2 x3 xs1 w b (ix2 r d) = Ideal.div 1 (1 + Ideal.exp (-(gdot (conv x0 x2 x3 xs1) w n r e + b (ix2 0 d)))) := by
  unfold igate k0_pay32
  pointwise [half_eq]
  rw [sigmoid_eq]
  congr 5
  simp only [idot0, idot1, idot2, idot3, idot4, idot5, dot6, dot7]
  have n3 : ((3 : Fin 8) : ℕ) = 3 := rfl
  have n4 : ((4 : Fin 8) : ℕ) = 4 := rfl
  have n5 : ((5 : Fin 8) : ℕ) = 5 := rfl
  have n6 : ((6 : Fin 8) : ℕ) = 6 := rfl
  have n7 : ((7 : Fin 8) : ℕ) = 7 := rfl
  split_ifs <;> (apply gdot_eq; simp only [Fin.val_zero, Fin.val_one, Fin.val_two, n3, n4, n5, n6, n7]; omega)

end

end Cert.Rglru.Block

end
-- ==== Proof.Rglru.Rows.lean ====
module

public import proofs.«01_k».proof.Proof.Rglru.Block
public import proofs.«01_k».proof.Proof.Rglru.Math

@[expose] public section

noncomputable section

namespace Cert.Rglru.Block

open Idealize.ShloMosaic Idealize.ShloMosaic.TcCoe Idealize.SL.Sem
open Cert.RglruIdeal Cert.RglruIdeal.Gen

theorem neg_eight_eq : Ideal.ofBits .f32 0xC1000000#32 = ((-8 : ℝ) : EReal) := by
  simp [Ideal.ofBits, Ideal.ieee]
  rw [← EReal.coe_mul]
  norm_num

/-- A column of a block as a function of the row number. -/
def col (X : FVec Ideal S256x1024 .f32) (d : Fin 1024) (r : ℕ) : EReal := if h : r < 256 then X (ix2 ⟨r, h⟩ d) else 0

theorem col_lt (X : FVec Ideal S256x1024 .f32) (d : Fin 1024) (r : Fin 256) : col X d r.1 = X (ix2 r d) := by
  unfold col; rw [dif_pos r.2]

theorem col_ge (X : FVec Ideal S256x1024 .f32) (d : Fin 1024) {r : ℕ} (h : ¬r < 256) : col X d r = 0 := by
  unfold col; rw [dif_neg h]

theorem sge_row (r : Fin 256) (k : Fin 5) : IntOp.cmpi .sge (IntOp.andi (BitVec.ofNat 32 r.1) 7#32) (BitVec.ofNat 32 k.1) = if k.1 ≤ r.1 % 8 then 1#1 else 0#1 := by
  revert r k; decide +kernel

variable (RG IG XC : FVec Ideal S256x1024 .f32) (lam : Vec Ideal S1x1024 .f32)

/-- The logarithm of the decay. -/
def logDecay (r : Fin 256) (d : Fin 1024) : EReal :=
  ((-8 : ℝ) : EReal) * Ideal.log1p (Ideal.exp (-(lam (ix2 0 d)))) * RG (ix2 r d)

theorem decay_apply (r : Fin 256) (d : Fin 1024) : k0_pay34 RG (k0_pay33 lam) (ix2 r d) = Ideal.exp (logDecay RG lam r d) := by
  unfold k0_pay34 k0_pay33 logDecay
  pointwise [neg_eight_eq]
  rw [zero_sub]

theorem logDecay_nonpos (h : ∀ j, 0 ≤ RG j) (r : Fin 256) (d : Fin 1024) : logDecay RG lam r d ≤ 0 := by
  unfold logDecay
  rw [show ((-8 : ℝ) : EReal) = -((8 : ℝ) : EReal) from by rw [← EReal.coe_neg], neg_mul, neg_mul]
  rw [EReal.neg_le_zero]
  exact mul_nonneg (mul_nonneg (by exact_mod_cast (by norm_num : (0 : ℝ) ≤ 8)) (softplus_nonneg _)) (h _)

/-- What a row adds to the state. -/
def inputs : FVec Ideal S256x1024 .f32 :=
  mulf (select (cmpf .ogt (subf (broadcast S256x1024 (Scalar.ofBits .f32 0x3F800000#32)) (mulf (k0_pay34 RG (k0_pay33 lam)) (k0_pay34 RG (k0_pay33 lam)))) (broadcast S256x1024 (Scalar.ofBits .f32 0x00000000#32)))
      (mulf (subf (broadcast S256x1024 (Scalar.ofBits .f32 0x3F800000#32)) (mulf (k0_pay34 RG (k0_pay33 lam)) (k0_pay34 RG (k0_pay33 lam)))) (rsqrt (subf (broadcast S256x1024 (Scalar.ofBits .f32 0x3F800000#32)) (mulf (k0_pay34 RG (k0_pay33 lam)) (k0_pay34 RG (k0_pay33 lam))))))
      (broadcast S256x1024 (Scalar.ofBits .f32 0x00000000#32)))
    (mulf IG XC)

theorem inputs_apply (h : ∀ j, 0 ≤ RG j) (r : Fin 256) (d : Fin 1024) :
    inputs RG IG XC lam (ix2 r d) = Ideal.sqrt (-(Ideal.exp (((2 : ℝ) : EReal) * logDecay RG lam r d) - 1)) * (IG (ix2 r d) * XC (ix2 r d)) := by
  unfold inputs
  pointwise [decay_apply]
  rw [← root_eq (logDecay_nonpos RG lam h r d)]

theorem sel_row (X : FVec Ideal S256x1024 .f32) (d : Fin 1024) (e : EReal) (r : Fin 256) (k : Fin 5) (h : (r.1 + 256 - k.1) % 256 < 256) :
    Scalar.select (IntOp.cmpi .sge (IntOp.andi (BitVec.ofNat 32 r.1) 7#32) (BitVec.ofNat 32 k.1)) (X (ix2 ⟨(r.1 + 256 - k.1) % 256, h⟩ d)) e = if k.1 ≤ r.1 % 8 then col X d (r.1 - k.1) else e := by
  rw [sge_row]
  by_cases hk : k.1 ≤ r.1 % 8
  · rw [if_pos hk, if_pos hk]
    have e1 : (r.1 + 256 - k.1) % 256 = r.1 - k.1 := by omega
    unfold col
    rw [dif_pos (by omega)]
    simp only [e1]
    rfl
  · rw [if_neg hk, if_neg hk]
    rfl

theorem sel_row0 (m : EReal) (X : FVec Ideal S256x1024 .f32) (d : Fin 1024) (r : Fin 256) (k : Fin 5) (h : (r.1 + 256 - k.1) % 256 < 256) :
    Scalar.select (IntOp.cmpi .sge (IntOp.andi (BitVec.ofNat 32 r.1) 7#32) (BitVec.ofNat 32 k.1)) (m * X (ix2 ⟨(r.1 + 256 - k.1) % 256, h⟩ d)) 0 = m * if k.1 ≤ r.1 % 8 then col X d (r.1 - k.1) else 0 := by
  rw [← sel_row X d 0 r k h]
  unfold Scalar.select
  split
  · rfl
  · rw [mul_zero]

/-! ### The rows one, two and four above, within a group of eight. -/

theorem mulA1 (d : Fin 1024) : col (k0_pay37 RG (k0_pay33 lam)) d = dblA 1 (col (k0_pay34 RG (k0_pay33 lam)) d) := by
  funext r
  by_cases hr : r < 256
  · unfold dblA
    lift r to Fin 256 using hr
    rw [col_lt, col_lt]
    unfold k0_pay37 k0_pay36 k0_pay35
    pointwise []
    refine congrArg (_ * ·) ?_
    exact sel_row _ d _ r 1 (by omega)
  · unfold dblA; rw [col_ge _ _ hr, col_ge _ _ hr, zero_mul]

/-- The products over two rows, over four rows. -/
def mulA2v : FVec Ideal S256x1024 .f32 := k0_pay41 (k0_pay37 RG (k0_pay33 lam)) (k0_pay39 RG (k0_pay33 lam))

theorem mulA2 (d : Fin 1024) : col (mulA2v RG lam) d = dblA 2 (col (k0_pay37 RG (k0_pay33 lam)) d) := by
  funext r
  by_cases hr : r < 256
  · unfold dblA
    lift r to Fin 256 using hr
    rw [col_lt, col_lt]
    unfold mulA2v k0_pay41 k0_pay39 k0_pay38 k0_pay35
    pointwise []
    refine congrArg (_ * ·) ?_
    exact sel_row _ d _ r 2 (by omega)
  · unfold dblA; rw [col_ge _ _ hr, col_ge _ _ hr, zero_mul]

theorem mA_eq : mA (k0_pay37 RG (k0_pay33 lam)) (k0_pay39 RG (k0_pay33 lam)) = mulf (mulA2v RG lam) (select (k0_pay42 k0_pay35) (dynamicRotate 0 4#32 none (mulA2v RG lam) rotates_S256x1024_d0) (broadcast S256x1024 (Scalar.ofBits .f32 0x3F800000#32))) := rfl

theorem mulA4 (d : Fin 1024) : col (mA (k0_pay37 RG (k0_pay33 lam)) (k0_pay39 RG (k0_pay33 lam))) d = dblA 4 (col (mulA2v RG lam) d) := by
  funext r
  by_cases hr : r < 256
  · unfold dblA
    lift r to Fin 256 using hr
    rw [mA_eq]
    rw [col_lt, col_lt]
    unfold k0_pay42 k0_pay35
    pointwise []
    refine congrArg (_ * ·) ?_
    exact sel_row _ d _ r 4 (by omega)
  · unfold dblA; rw [col_ge _ _ hr, col_ge _ _ hr, zero_mul]

/-- The states of two rows, of four rows. -/
def addB1v : FVec Ideal S256x1024 .f32 := addf (mulf (k0_pay34 RG (k0_pay33 lam)) (select k0_pay36 (dynamicRotate 0 1#32 none (inputs RG IG XC lam) rotates_S256x1024_d0) (broadcast S256x1024 (Scalar.ofBits .f32 0x00000000#32)))) (inputs RG IG XC lam)

theorem pay40_eq : k0_pay40 XC RG IG (k0_pay33 lam) = addf (mulf (k0_pay37 RG (k0_pay33 lam)) (select k0_pay38 (dynamicRotate 0 2#32 none (addB1v RG IG XC lam) rotates_S256x1024_d0) (broadcast S256x1024 (Scalar.ofBits .f32 0x00000000#32)))) (addB1v RG IG XC lam) := rfl

theorem mB_eq : mB (k0_pay37 RG (k0_pay33 lam)) (k0_pay39 RG (k0_pay33 lam)) (k0_pay40 XC RG IG (k0_pay33 lam)) = addf (mulf (mulA2v RG lam) (select (k0_pay42 k0_pay35) (dynamicRotate 0 4#32 none (k0_pay40 XC RG IG (k0_pay33 lam)) rotates_S256x1024_d0) (broadcast S256x1024 (Scalar.ofBits .f32 0x00000000#32)))) (k0_pay40 XC RG IG (k0_pay33 lam)) := rfl

theorem addB1 (d : Fin 1024) : col (addB1v RG IG XC lam) d = dblB 1 (col (k0_pay34 RG (k0_pay33 lam)) d) (col (inputs RG IG XC lam) d) := by
  funext r
  by_cases hr : r < 256
  · unfold dblB
    lift r to Fin 256 using hr
    rw [col_lt, col_lt, col_lt]
    unfold addB1v k0_pay36 k0_pay35
    pointwise []
    refine congrArg (· + _) ?_
    exact sel_row0 _ _ d r 1 (by omega)
  · unfold dblB; rw [col_ge _ _ hr, col_ge _ _ hr, col_ge _ _ hr, zero_mul, add_zero]

theorem addB2 (d : Fin 1024) : col (k0_pay40 XC RG IG (k0_pay33 lam)) d = dblB 2 (col (k0_pay37 RG (k0_pay33 lam)) d) (col (addB1v RG IG XC lam) d) := by
  funext r
  by_cases hr : r < 256
  · unfold dblB
    lift r to Fin 256 using hr
    rw [pay40_eq]
    rw [col_lt, col_lt, col_lt]
    unfold k0_pay38 k0_pay35
    pointwise []
    refine congrArg (· + _) ?_
    exact sel_row0 _ _ d r 2 (by omega)
  · unfold dblB; rw [col_ge _ _ hr, col_ge _ _ hr, col_ge _ _ hr, zero_mul, add_zero]

theorem addB4 (d : Fin 1024) : col (mB (k0_pay37 RG (k0_pay33 lam)) (k0_pay39 RG (k0_pay33 lam)) (k0_pay40 XC RG IG (k0_pay33 lam))) d = dblB 4 (col (mulA2v RG lam) d) (col (k0_pay40 XC RG IG (k0_pay33 lam)) d) := by
  funext r
  by_cases hr : r < 256
  · unfold dblB
    lift r to Fin 256 using hr
    rw [mB_eq]
    rw [col_lt, col_lt, col_lt]
    unfold k0_pay42 k0_pay35
    pointwise []
    refine congrArg (· + _) ?_
    exact sel_row0 _ _ d r 4 (by omega)
  · unfold dblB; rw [col_ge _ _ hr, col_ge _ _ hr, col_ge _ _ hr, zero_mul, add_zero]

/-! ### Every row of the block is the recurrence, run from the state the block starts with. -/

/-- The states of a column, by the recurrence. -/
def seqCol (h0 : EReal) (d : Fin 1024) : ℕ → EReal := seqH (col (k0_pay34 RG (k0_pay33 lam)) d) (col (inputs RG IG XC lam) d) h0

theorem decay_bounds (h : ∀ j, 0 ≤ RG j) (d : Fin 1024) (r : ℕ) : 0 ≤ col (k0_pay34 RG (k0_pay33 lam)) d r ∧ col (k0_pay34 RG (k0_pay33 lam)) d r ≤ 1 := by
  unfold col
  split
  · rw [decay_apply]
    exact exp_bounds (logDecay_nonpos RG lam h _ d)
  · exact ⟨le_refl _, zero_le_one⟩

/-- The state a group starts from: the block's own, then the last row of the group before. -/
def start (f : ℕ → EReal) (h0 : EReal) : ℕ → EReal
  | 0 => h0
  | g + 1 => f (8 * g + 7)

theorem row_group (h : ∀ j, 0 ≤ RG j) (h0 : EReal) (d : Fin 1024) (g : ℕ) (hg : g < 32) (s : Fin 8) (p : EReal)
    (hp : p = start (seqCol RG IG XC lam h0 d) h0 g) :
    mB (k0_pay37 RG (k0_pay33 lam)) (k0_pay39 RG (k0_pay33 lam)) (k0_pay40 XC RG IG (k0_pay33 lam)) (ix2 ⟨8 * g + s.1, by omega⟩ d) + mA (k0_pay37 RG (k0_pay33 lam)) (k0_pay39 RG (k0_pay33 lam)) (ix2 ⟨8 * g + s.1, by omega⟩ d) * p = seqCol RG IG XC lam h0 d (8 * g + s.1) := by
  have e := dbl3_apply (a := col (k0_pay34 RG (k0_pay33 lam)) d) (b := col (inputs RG IG XC lam) d) (decay_bounds RG lam h d) h0 g s.1 s.2
  rw [← addB1, ← mulA1, ← mulA2, ← mulA4, ← addB2, ← addB4] at e
  rw [← col_lt (mB (k0_pay37 RG (k0_pay33 lam)) (k0_pay39 RG (k0_pay33 lam)) (k0_pay40 XC RG IG (k0_pay33 lam))) d ⟨8 * g + s.1, by omega⟩, ← col_lt (mA (k0_pay37 RG (k0_pay33 lam)) (k0_pay39 RG (k0_pay33 lam))) d ⟨8 * g + s.1, by omega⟩, add_comm, hp]
  cases g <;> exact e

theorem step_apply (o : ℕ) (ho : o + 8 ≤ 256) (A B : FVec Ideal S256x1024 .f32) (X : FVec Ideal S8x1024 .f32) (h1 h2 h3 h4 h5) (s : Fin 8) (d : Fin 1024) :
    addf (extractStridedSlice S8x1024 ![o, 0] B h1) (mulf (extractStridedSlice S8x1024 ![o, 0] A h2) (broadcastTo S8x1024 (shapeCast S1x1024 (extractStridedSlice S1x1024 ![7, 0] X h3) h4) h5)) (ix2 s d)
      = B (ix2 ⟨o + s.1, by omega⟩ d) + A (ix2 ⟨o + s.1, by omega⟩ d) * X (ix2 7 d) := by
  pointwise []

variable (hRG : ∀ j, 0 ≤ RG j) (H : FVec Ideal S8x1024 .f32) (h0 : EReal) (d : Fin 1024) (hH : ∀ s, H (ix2 s d) = h0)
include hRG hH

theorem gr0_row (s : Fin 8) : gr0 (k0_pay37 RG (k0_pay33 lam)) (k0_pay39 RG (k0_pay33 lam)) (k0_pay40 XC RG IG (k0_pay33 lam)) H (ix2 s d) = seqCol RG IG XC lam h0 d (8 * 0 + s.1) := by
  rw [← row_group RG IG XC lam hRG h0 d 0 (by norm_num) s (H (ix2 s d)) (hH s), gr0_eq]
  pointwise []

theorem gr1_row (s : Fin 8) : gr1 (k0_pay37 RG (k0_pay33 lam)) (k0_pay39 RG (k0_pay33 lam)) (k0_pay40 XC RG IG (k0_pay33 lam)) H (ix2 s d) = seqCol RG IG XC lam h0 d (8 * 1 + s.1) := by
  rw [← row_group RG IG XC lam hRG h0 d 1 (by norm_num) s _ (gr0_row RG IG XC lam hRG H h0 d hH 7), gr1_eq]
  exact step_apply 8 (by norm_num) _ _ _ _ _ _ _ _ s d

theorem gr2_row (s : Fin 8) : gr2 (k0_pay37 RG (k0_pay33 lam)) (k0_pay39 RG (k0_pay33 lam)) (k0_pay40 XC RG IG (k0_pay33 lam)) H (ix2 s d) = seqCol RG IG XC lam h0 d (8 * 2 + s.1) := by
  rw [← row_group RG IG XC lam hRG h0 d 2 (by norm_num) s _ (gr1_row RG IG XC lam hRG H h0 d hH 7), gr2_eq]
  exact step_apply 16 (by norm_num) _ _ _ _ _ _ _ _ s d

theorem gr3_row (s : Fin 8) : gr3 (k0_pay37 RG (k0_pay33 lam)) (k0_pay39 RG (k0_pay33 lam)) (k0_pay40 XC RG IG (k0_pay33 lam)) H (ix2 s d) = seqCol RG IG XC lam h0 d (8 * 3 + s.1) := by
  rw [← row_group RG IG XC lam hRG h0 d 3 (by norm_num) s _ (gr2_row RG IG XC lam hRG H h0 d hH 7), gr3_eq]
  exact step_apply 24 (by norm_num) _ _ _ _ _ _ _ _ s d

theorem gr4_row (s : Fin 8) : gr4 (k0_pay37 RG (k0_pay33 lam)) (k0_pay39 RG (k0_pay33 lam)) (k0_pay40 XC RG IG (k0_pay33 lam)) H (ix2 s d) = seqCol RG IG XC lam h0 d (8 * 4 + s.1) := by
  rw [← row_group RG IG XC lam hRG h0 d 4 (by norm_num) s _ (gr3_row RG IG XC lam hRG H h0 d hH 7), gr4_eq]
  exact step_apply 32 (by norm_num) _ _ _ _ _ _ _ _ s d

theorem gr5_row (s : Fin 8) : gr5 (k0_pay37 RG (k0_pay33 lam)) (k0_pay39 RG (k0_pay33 lam)) (k0_pay40 XC RG IG (k0_pay33 lam)) H (ix2 s d) = seqCol RG IG XC lam h0 d (8 * 5 + s.1) := by
  rw [← row_group RG IG XC lam hRG h0 d 5 (by norm_num) s _ (gr4_row RG IG XC lam hRG H h0 d hH 7), gr5_eq]
  exact step_apply 40 (by norm_num) _ _ _ _ _ _ _ _ s d

theorem gr6_row (s : Fin 8) : gr6 (k0_pay37 RG (k0_pay33 lam)) (k0_pay39 RG (k0_pay33 lam)) (k0_pay40 XC RG IG (k0_pay33 lam)) H (ix2 s d) = seqCol RG IG XC lam h0 d (8 * 6 + s.1) := by
  rw [← row_group RG IG XC lam hRG h0 d 6 (by norm_num) s _ (gr5_row RG IG XC lam hRG H h0 d hH 7), gr6_eq]
  exact step_apply 48 (by norm_num) _ _ _ _ _ _ _ _ s d

theorem gr7_row (s : Fin 8) : gr7 (k0_pay37 RG (k0_pay33 lam)) (k0_pay39 RG (k0_pay33 lam)) (k0_pay40 XC RG IG (k0_pay33 lam)) H (ix2 s d) = seqCol RG IG XC lam h0 d (8 * 7 + s.1) := by
  rw [← row_group RG IG XC lam hRG h0 d 7 (by norm_num) s _ (gr6_row RG IG XC lam hRG H h0 d hH 7), gr7_eq]
  exact step_apply 56 (by norm_num) _ _ _ _ _ _ _ _ s d

theorem gr8_row (s : Fin 8) : gr8 (k0_pay37 RG (k0_pay33 lam)) (k0_pay39 RG (k0_pay33 lam)) (k0_pay40 XC RG IG (k0_pay33 lam)) H (ix2 s d) = seqCol RG IG XC lam h0 d (8 * 8 + s.1) := by
  rw [← row_group RG IG XC lam hRG h0 d 8 (by norm_num) s _ (gr7_row RG IG XC lam hRG H h0 d hH 7), gr8_eq]
  exact step_apply 64 (by norm_num) _ _ _ _ _ _ _ _ s d

theorem gr9_row (s : Fin 8) : gr9 (k0_pay37 RG (k0_pay33 lam)) (k0_pay39 RG (k0_pay33 lam)) (k0_pay40 XC RG IG (k0_pay33 lam)) H (ix2 s d) = seqCol RG IG XC lam h0 d (8 * 9 + s.1) := by
  rw [← row_group RG IG XC lam hRG h0 d 9 (by norm_num) s _ (gr8_row RG IG XC lam hRG H h0 d hH 7), gr9_eq]
  exact step_apply 72 (by norm_num) _ _ _ _ _ _ _ _ s d

theorem gr10_row (s : Fin 8) : gr10 (k0_pay37 RG (k0_pay33 lam)) (k0_pay39 RG (k0_pay33 lam)) (k0_pay40 XC RG IG (k0_pay33 lam)) H (ix2 s d) = seqCol RG IG XC lam h0 d (8 * 10 + s.1) := by
  rw [← row_group RG IG XC lam hRG h0 d 10 (by norm_num) s _ (gr9_row RG IG XC lam hRG H h0 d hH 7), gr10_eq]
  exact step_apply 80 (by norm_num) _ _ _ _ _ _ _ _ s d

theorem gr11_row (s : Fin 8) : gr11 (k0_pay37 RG (k0_pay33 lam)) (k0_pay39 RG (k0_pay33 lam)) (k0_pay40 XC RG IG (k0_pay33 lam)) H (ix2 s d) = seqCol RG IG XC lam h0 d (8 * 11 + s.1) := by
  rw [← row_group RG IG XC lam hRG h0 d 11 (by norm_num) s _ (gr10_row RG IG XC lam hRG H h0 d hH 7), gr11_eq]
  exact step_apply 88 (by norm_num) _ _ _ _ _ _ _ _ s d

theorem gr12_row (s : Fin 8) : gr12 (k0_pay37 RG (k0_pay33 lam)) (k0_pay39 RG (k0_pay33 lam)) (k0_pay40 XC RG IG (k0_pay33 lam)) H (ix2 s d) = seqCol RG IG XC lam h0 d (8 * 12 + s.1) := by
  rw [← row_group RG IG XC lam hRG h0 d 12 (by norm_num) s _ (gr11_row RG IG XC lam hRG H h0 d hH 7), gr12_eq]
  exact step_apply 96 (by norm_num) _ _ _ _ _ _ _ _ s d

theorem gr13_row (s : Fin 8) : gr13 (k0_pay37 RG (k0_pay33 lam)) (k0_pay39 RG (k0_pay33 lam)) (k0_pay40 XC RG IG (k0_pay33 lam)) H (ix2 s d) = seqCol RG IG XC lam h0 d (8 * 13 + s.1) := by
  rw [← row_group RG IG XC lam hRG h0 d 13 (by norm_num) s _ (gr12_row RG IG XC lam hRG H h0 d hH 7), gr13_eq]
  exact step_apply 104 (by norm_num) _ _ _ _ _ _ _ _ s d

theorem gr14_row (s : Fin 8) : gr14 (k0_pay37 RG (k0_pay33 lam)) (k0_pay39 RG (k0_pay33 lam)) (k0_pay40 XC RG IG (k0_pay33 lam)) H (ix2 s d) = seqCol RG IG XC lam h0 d (8 * 14 + s.1) := by
  rw [← row_group RG IG XC lam hRG h0 d 14 (by norm_num) s _ (gr13_row RG IG XC lam hRG H h0 d hH 7), gr14_eq]
  exact step_apply 112 (by norm_num) _ _ _ _ _ _ _ _ s d

theorem gr15_row (s : Fin 8) : gr15 (k0_pay37 RG (k0_pay33 lam)) (k0_pay39 RG (k0_pay33 lam)) (k0_pay40 XC RG IG (k0_pay33 lam)) H (ix2 s d) = seqCol RG IG XC lam h0 d (8 * 15 + s.1) := by
  rw [← row_group RG IG XC lam hRG h0 d 15 (by norm_num) s _ (gr14_row RG IG XC lam hRG H h0 d hH 7), gr15_eq]
  exact step_apply 120 (by norm_num) _ _ _ _ _ _ _ _ s d

theorem gr16_row (s : Fin 8) : gr16 (k0_pay37 RG (k0_pay33 lam)) (k0_pay39 RG (k0_pay33 lam)) (k0_pay40 XC RG IG (k0_pay33 lam)) H (ix2 s d) = seqCol RG IG XC lam h0 d (8 * 16 + s.1) := by
  rw [← row_group RG IG XC lam hRG h0 d 16 (by norm_num) s _ (gr15_row RG IG XC lam hRG H h0 d hH 7), gr16_eq]
  exact step_apply 128 (by norm_num) _ _ _ _ _ _ _ _ s d

theorem gr17_row (s : Fin 8) : gr17 (k0_pay37 RG (k0_pay33 lam)) (k0_pay39 RG (k0_pay33 lam)) (k0_pay40 XC RG IG (k0_pay33 lam)) H (ix2 s d) = seqCol RG IG XC lam h0 d (8 * 17 + s.1) := by
  rw [← row_group RG IG XC lam hRG h0 d 17 (by norm_num) s _ (gr16_row RG IG XC lam hRG H h0 d hH 7), gr17_eq]
  exact step_apply 136 (by norm_num) _ _ _ _ _ _ _ _ s d

theorem gr18_row (s : Fin 8) : gr18 (k0_pay37 RG (k0_pay33 lam)) (k0_pay39 RG (k0_pay33 lam)) (k0_pay40 XC RG IG (k0_pay33 lam)) H (ix2 s d) = seqCol RG IG XC lam h0 d (8 * 18 + s.1) := by
  rw [← row_group RG IG XC lam hRG h0 d 18 (by norm_num) s _ (gr17_row RG IG XC lam hRG H h0 d hH 7), gr18_eq]
  exact step_apply 144 (by norm_num) _ _ _ _ _ _ _ _ s d

theorem gr19_row (s : Fin 8) : gr19 (k0_pay37 RG (k0_pay33 lam)) (k0_pay39 RG (k0_pay33 lam)) (k0_pay40 XC RG IG (k0_pay33 lam)) H (ix2 s d) = seqCol RG IG XC lam h0 d (8 * 19 + s.1) := by
  rw [← row_group RG IG XC lam hRG h0 d 19 (by norm_num) s _ (gr18_row RG IG XC lam hRG H h0 d hH 7), gr19_eq]
  exact step_apply 152 (by norm_num) _ _ _ _ _ _ _ _ s d

theorem gr20_row (s : Fin 8) : gr20 (k0_pay37 RG (k0_pay33 lam)) (k0_pay39 RG (k0_pay33 lam)) (k0_pay40 XC RG IG (k0_pay33 lam)) H (ix2 s d) = seqCol RG IG XC lam h0 d (8 * 20 + s.1) := by
  rw [← row_group RG IG XC lam hRG h0 d 20 (by norm_num) s _ (gr19_row RG IG XC lam hRG H h0 d hH 7), gr20_eq]
  exact step_apply 160 (by norm_num) _ _ _ _ _ _ _ _ s d

theorem gr21_row (s : Fin 8) : gr21 (k0_pay37 RG (k0_pay33 lam)) (k0_pay39 RG (k0_pay33 lam)) (k0_pay40 XC RG IG (k0_pay33 lam)) H (ix2 s d) = seqCol RG IG XC lam h0 d (8 * 21 + s.1) := by
  rw [← row_group RG IG XC lam hRG h0 d 21 (by norm_num) s _ (gr20_row RG IG XC lam hRG H h0 d hH 7), gr21_eq]
  exact step_apply 168 (by norm_num) _ _ _ _ _ _ _ _ s d

theorem gr22_row (s : Fin 8) : gr22 (k0_pay37 RG (k0_pay33 lam)) (k0_pay39 RG (k0_pay33 lam)) (k0_pay40 XC RG IG (k0_pay33 lam)) H (ix2 s d) = seqCol RG IG XC lam h0 d (8 * 22 + s.1) := by
  rw [← row_group RG IG XC lam hRG h0 d 22 (by norm_num) s _ (gr21_row RG IG XC lam hRG H h0 d hH 7), gr22_eq]
  exact step_apply 176 (by norm_num) _ _ _ _ _ _ _ _ s d

theorem gr23_row (s : Fin 8) : gr23 (k0_pay37 RG (k0_pay33 lam)) (k0_pay39 RG (k0_pay33 lam)) (k0_pay40 XC RG IG (k0_pay33 lam)) H (ix2 s d) = seqCol RG IG XC lam h0 d (8 * 23 + s.1) := by
  rw [← row_group RG IG XC lam hRG h0 d 23 (by norm_num) s _ (gr22_row RG IG XC lam hRG H h0 d hH 7), gr23_eq]
  exact step_apply 184 (by norm_num) _ _ _ _ _ _ _ _ s d

theorem gr24_row (s : Fin 8) : gr24 (k0_pay37 RG (k0_pay33 lam)) (k0_pay39 RG (k0_pay33 lam)) (k0_pay40 XC RG IG (k0_pay33 lam)) H (ix2 s d) = seqCol RG IG XC lam h0 d (8 * 24 + s.1) := by
  rw [← row_group RG IG XC lam hRG h0 d 24 (by norm_num) s _ (gr23_row RG IG XC lam hRG H h0 d hH 7), gr24_eq]
  exact step_apply 192 (by norm_num) _ _ _ _ _ _ _ _ s d

theorem gr25_row (s : Fin 8) : gr25 (k0_pay37 RG (k0_pay33 lam)) (k0_pay39 RG (k0_pay33 lam)) (k0_pay40 XC RG IG (k0_pay33 lam)) H (ix2 s d) = seqCol RG IG XC lam h0 d (8 * 25 + s.1) := by
  rw [← row_group RG IG XC lam hRG h0 d 25 (by norm_num) s _ (gr24_row RG IG XC lam hRG H h0 d hH 7), gr25_eq]
  exact step_apply 200 (by norm_num) _ _ _ _ _ _ _ _ s d

theorem gr26_row (s : Fin 8) : gr26 (k0_pay37 RG (k0_pay33 lam)) (k0_pay39 RG (k0_pay33 lam)) (k0_pay40 XC RG IG (k0_pay33 lam)) H (ix2 s d) = seqCol RG IG XC lam h0 d (8 * 26 + s.1) := by
  rw [← row_group RG IG XC lam hRG h0 d 26 (by norm_num) s _ (gr25_row RG IG XC lam hRG H h0 d hH 7), gr26_eq]
  exact step_apply 208 (by norm_num) _ _ _ _ _ _ _ _ s d

theorem gr27_row (s : Fin 8) : gr27 (k0_pay37 RG (k0_pay33 lam)) (k0_pay39 RG (k0_pay33 lam)) (k0_pay40 XC RG IG (k0_pay33 lam)) H (ix2 s d) = seqCol RG IG XC lam h0 d (8 * 27 + s.1) := by
  rw [← row_group RG IG XC lam hRG h0 d 27 (by norm_num) s _ (gr26_row RG IG XC lam hRG H h0 d hH 7), gr27_eq]
  exact step_apply 216 (by norm_num) _ _ _ _ _ _ _ _ s d

theorem gr28_row (s : Fin 8) : gr28 (k0_pay37 RG (k0_pay33 lam)) (k0_pay39 RG (k0_pay33 lam)) (k0_pay40 XC RG IG (k0_pay33 lam)) H (ix2 s d) = seqCol RG IG XC lam h0 d (8 * 28 + s.1) := by
  rw [← row_group RG IG XC lam hRG h0 d 28 (by norm_num) s _ (gr27_row RG IG XC lam hRG H h0 d hH 7), gr28_eq]
  exact step_apply 224 (by norm_num) _ _ _ _ _ _ _ _ s d

theorem gr29_row (s : Fin 8) : gr29 (k0_pay37 RG (k0_pay33 lam)) (k0_pay39 RG (k0_pay33 lam)) (k0_pay40 XC RG IG (k0_pay33 lam)) H (ix2 s d) = seqCol RG IG XC lam h0 d (8 * 29 + s.1) := by
  rw [← row_group RG IG XC lam hRG h0 d 29 (by norm_num) s _ (gr28_row RG IG XC lam hRG H h0 d hH 7), gr29_eq]
  exact step_apply 232 (by norm_num) _ _ _ _ _ _ _ _ s d

theorem gr30_row (s : Fin 8) : gr30 (k0_pay37 RG (k0_pay33 lam)) (k0_pay39 RG (k0_pay33 lam)) (k0_pay40 XC RG IG (k0_pay33 lam)) H (ix2 s d) = seqCol RG IG XC lam h0 d (8 * 30 + s.1) := by
  rw [← row_group RG IG XC lam hRG h0 d 30 (by norm_num) s _ (gr29_row RG IG XC lam hRG H h0 d hH 7), gr30_eq]
  exact step_apply 240 (by norm_num) _ _ _ _ _ _ _ _ s d

theorem gr31_row (s : Fin 8) : gr31 (k0_pay37 RG (k0_pay33 lam)) (k0_pay39 RG (k0_pay33 lam)) (k0_pay40 XC RG IG (k0_pay33 lam)) H (ix2 s d) = seqCol RG IG XC lam h0 d (8 * 31 + s.1) := by
  rw [← row_group RG IG XC lam hRG h0 d 31 (by norm_num) s _ (gr30_row RG IG XC lam hRG H h0 d hH 7), gr31_eq]
  exact step_apply 248 (by norm_num) _ _ _ _ _ _ _ _ s d

/-- The groups in order. -/
def grs (P Q R : FVec Ideal S256x1024 .f32) (H : FVec Ideal S8x1024 .f32) : Fin 32 → FVec Ideal S8x1024 .f32 :=
  ![gr0 P Q R H, gr1 P Q R H, gr2 P Q R H, gr3 P Q R H, gr4 P Q R H, gr5 P Q R H, gr6 P Q R H, gr7 P Q R H, gr8 P Q R H, gr9 P Q R H, gr10 P Q R H, gr11 P Q R H, gr12 P Q R H, gr13 P Q R H, gr14 P Q R H, gr15 P Q R H, gr16 P Q R H, gr17 P Q R H, gr18 P Q R H, gr19 P Q R H, gr20 P Q R H, gr21 P Q R H, gr22 P Q R H, gr23 P Q R H, gr24 P Q R H, gr25 P Q R H, gr26 P Q R H, gr27 P Q R H, gr28 P Q R H, gr29 P Q R H, gr30 P Q R H, gr31 P Q R H]

theorem grs_row (n : Fin 32) (s : Fin 8) : grs (k0_pay37 RG (k0_pay33 lam)) (k0_pay39 RG (k0_pay33 lam)) (k0_pay40 XC RG IG (k0_pay33 lam)) H n (ix2 s d) = seqCol RG IG XC lam h0 d (8 * n.1 + s.1) := by
  fin_cases n
  · exact gr0_row RG IG XC lam hRG H h0 d hH s
  · exact gr1_row RG IG XC lam hRG H h0 d hH s
  · exact gr2_row RG IG XC lam hRG H h0 d hH s
  · exact gr3_row RG IG XC lam hRG H h0 d hH s
  · exact gr4_row RG IG XC lam hRG H h0 d hH s
  · exact gr5_row RG IG XC lam hRG H h0 d hH s
  · exact gr6_row RG IG XC lam hRG H h0 d hH s
  · exact gr7_row RG IG XC lam hRG H h0 d hH s
  · exact gr8_row RG IG XC lam hRG H h0 d hH s
  · exact gr9_row RG IG XC lam hRG H h0 d hH s
  · exact gr10_row RG IG XC lam hRG H h0 d hH s
  · exact gr11_row RG IG XC lam hRG H h0 d hH s
  · exact gr12_row RG IG XC lam hRG H h0 d hH s
  · exact gr13_row RG IG XC lam hRG H h0 d hH s
  · exact gr14_row RG IG XC lam hRG H h0 d hH s
  · exact gr15_row RG IG XC lam hRG H h0 d hH s
  · exact gr16_row RG IG XC lam hRG H h0 d hH s
  · exact gr17_row RG IG XC lam hRG H h0 d hH s
  · exact gr18_row RG IG XC lam hRG H h0 d hH s
  · exact gr19_row RG IG XC lam hRG H h0 d hH s
  · exact gr20_row RG IG XC lam hRG H h0 d hH s
  · exact gr21_row RG IG XC lam hRG H h0 d hH s
  · exact gr22_row RG IG XC lam hRG H h0 d hH s
  · exact gr23_row RG IG XC lam hRG H h0 d hH s
  · exact gr24_row RG IG XC lam hRG H h0 d hH s
  · exact gr25_row RG IG XC lam hRG H h0 d hH s
  · exact gr26_row RG IG XC lam hRG H h0 d hH s
  · exact gr27_row RG IG XC lam hRG H h0 d hH s
  · exact gr28_row RG IG XC lam hRG H h0 d hH s
  · exact gr29_row RG IG XC lam hRG H h0 d hH s
  · exact gr30_row RG IG XC lam hRG H h0 d hH s
  · exact gr31_row RG IG XC lam hRG H h0 d hH s

theorem hall_row (r : Fin 256) : hall (k0_pay37 RG (k0_pay33 lam)) (k0_pay39 RG (k0_pay33 lam)) (k0_pay40 XC RG IG (k0_pay33 lam)) H (ix2 r d) = seqCol RG IG XC lam h0 d r.1 := by
  show concatenate S256x1024 0 (List.ofFn fun n : Fin 32 => (⟨S8x1024, grs (k0_pay37 RG (k0_pay33 lam)) (k0_pay39 RG (k0_pay33 lam)) (k0_pay40 XC RG IG (k0_pay33 lam)) H n⟩ : (s : Shape) × (s.Idx → EReal))) _ (ix2 r d) = _
  refine (concatenate_ofFn_apply (t := S256x1024) (s₁ := S8x1024) 0 (grs (k0_pay37 RG (k0_pay33 lam)) (k0_pay39 RG (k0_pay33 lam)) (k0_pay40 XC RG IG (k0_pay33 lam)) H) _ rfl 8 rfl (ix2 r d) ⟨r.1 / 8, by omega⟩ rfl (ix2 ⟨r.1 % 8, by omega⟩ d) rfl
    (by intro b hb; fin_cases b; · exact absurd rfl hb
        · rfl)).trans ?_
  rw [grs_row RG IG XC lam hRG H h0 d hH]
  congr 1
  exact Nat.div_add_mod _ _

theorem last_row (s : Fin 8) : k0_pay1 (gr31 (k0_pay37 RG (k0_pay33 lam)) (k0_pay39 RG (k0_pay33 lam)) (k0_pay40 XC RG IG (k0_pay33 lam)) H) (ix2 s d) = seqCol RG IG XC lam h0 d 255 := by
  unfold k0_pay1
  pointwise []
  exact gr31_row RG IG XC lam hRG H h0 d hH 7

end Cert.Rglru.Block

end
-- ==== Proof.Rglru.RefValue.lean ====
module

public import proofs.«01_k».proof.Proof.Gen.RglruRefIdeal.Step
public import proofs.«01_k».proof.Proof.Rglru.Math
public import Idealize.ShloMosaic.Lib.Pointwise

@[expose] public section

noncomputable section

namespace Cert.Rglru.Ref

open Idealize.ShloMosaic Idealize.ShloMosaic.TcCoe Idealize.SL.Sem
open Cert.RglruRefIdeal Cert.RglruRefIdeal.Step

/-! ### What the reference computes, entry by entry. -/

variable (p : (⟨S2x8192x8752, .f32⟩ : BufTy).Contents (Elt Ideal)) (cw : (⟨S4x1024, .f32⟩ : BufTy).Contents (Elt Ideal)) (cb : (⟨S1024, .f32⟩ : BufTy).Contents (Elt Ideal))
  (wr : (⟨S8x128x128, .f32⟩ : BufTy).Contents (Elt Ideal)) (br : (⟨S8x128, .f32⟩ : BufTy).Contents (Elt Ideal)) (wi : (⟨S8x128x128, .f32⟩ : BufTy).Contents (Elt Ideal)) (bi : (⟨S8x128, .f32⟩ : BufTy).Contents (Elt Ideal))
  (lam : (⟨S1024, .f32⟩ : BufTy).Contents (Elt Ideal))

/-- The recurrent input `k` steps back, zero before the start. -/
def back (k : ℕ) (β : Fin 2) (t : ℕ) (d : Fin 1024) : EReal :=
  if t < k then 0 else p (ix3 β ⟨(t - k) % 8192, Nat.mod_lt _ (by norm_num)⟩ ⟨d.1, by omega⟩)

set_option maxRecDepth 16384 in
theorem pad_apply (β : Fin 2) (t : Fin 8192) (d : Fin 1024) (k : ℕ) (hk : k ≤ 3) (h : 3 - k + t.1 < 8195) :
    A_main_v1 p cw cb wr br wi bi lam (ix3 β ⟨3 - k + t.1, h⟩ d) = back p k β t d := by
  unfold A_main_v1 A_main_v0
  pointwise [K_main_call0_v0, K_main_c]
  unfold back
  by_cases ht : t.1 < k
  · rw [if_pos ht, dif_neg (by omega)]
    show (((0#32 : BitVec 32).toInt : ℝ) : EReal) = 0
    simp
  · rw [if_neg ht, dif_pos (by omega)]
    congr 3
    omega

set_option maxRecDepth 16384 in
theorem conv_apply (β : Fin 2) (t : Fin 8192) (d : Fin 1024) :
    A_main_v31 p cw cb wr br wi bi lam (ix3 β t d) = cb (ix1 d) + back p 0 β t d * cw (ix2 3 d) + back p 1 β t d * cw (ix2 2 d) + back p 2 β t d * cw (ix2 1 d) + back p 3 β t d * cw (ix2 0 d) := by
  unfold A_main_v31 A_main_v28 A_main_v21 A_main_v14 A_main_v7 A_main_v13 A_main_v20 A_main_v27 A_main_v30 A_main_v29 A_main_v26 A_main_v25 A_main_v24 A_main_v23 A_main_v22 A_main_v19 A_main_v18 A_main_v17 A_main_v16 A_main_v15 A_main_v12 A_main_v11 A_main_v10 A_main_v9 A_main_v8 A_main_v6 A_main_v5 A_main_v4 A_main_v3 A_main_v2
  pointwise []
  have e0 := pad_apply p cw cb wr br wi bi lam β t d 0 (by norm_num) (by omega)
  have e1 := pad_apply p cw cb wr br wi bi lam β t d 1 (by norm_num) (by omega)
  have e2 := pad_apply p cw cb wr br wi bi lam β t d 2 (by norm_num) (by omega)
  have e3 := pad_apply p cw cb wr br wi bi lam β t d 3 (by norm_num) (by omega)
  simp only [Nat.sub_zero, Nat.sub_self, Nat.zero_add, show 3 - 1 = 2 from rfl, show 3 - 2 = 1 from rfl] at e0 e1 e2 e3
  rw [e0, e1, e2, e3, mul_comm (cw (ix2 0 d)), mul_comm (cw (ix2 1 d)), mul_comm (cw (ix2 2 d)), mul_comm (cw (ix2 3 d))]
  ac_rfl

set_option maxRecDepth 16384 in
theorem rgate_apply (β : Fin 2) (t : Fin 8192) (n : Fin 8) (e : Fin 128) (d : Fin 1024) (hd : d.1 = 128 * n.1 + e.1) :
    A_main_v44 p cw cb wr br wi bi lam (ix3 β t d) = Ideal.div 1 (1 + Ideal.exp (-((∑ k : Fin 128, A_main_v31 p cw cb wr br wi bi lam (ix3 β t ⟨128 * n.1 + k.1, by omega⟩) * wr (ix3 n k e)) + br (ix2 n e)))) := by
  unfold A_main_v44 A_main_v42 A_main_v40 A_main_v39 A_main_v38 A_main_v37 A_main_v36 A_main_v35 A_main_v34 A_main_v33 A_main_v32
  pointwise [K_main_v43, K_main_v41, K_main_cst, K_main_cst_0]
  have hn : (⟨d.1 / 128, by omega⟩ : Fin 8) = n := Fin.ext (by simp only; omega)
  have he : (⟨d.1 % 128, by omega⟩ : Fin 128) = e := Fin.ext (by simp only; omega)
  have hq : d.1 / 128 = n.1 := by omega
  simp only [hn, he, hq]
  congr 4
  refine congrArg (· + _) (Finset.sum_congr rfl fun x _ => ?_)
  rw [mul_comm]
  simp only [Nat.mul_comm n.1 128]

set_option maxRecDepth 16384 in
theorem igate_apply (β : Fin 2) (t : Fin 8192) (n : Fin 8) (e : Fin 128) (d : Fin 1024) (hd : d.1 = 128 * n.1 + e.1) :
    A_main_v57 p cw cb wr br wi bi lam (ix3 β t d) = Ideal.div 1 (1 + Ideal.exp (-((∑ k : Fin 128, A_main_v31 p cw cb wr br wi bi lam (ix3 β t ⟨128 * n.1 + k.1, by omega⟩) * wi (ix3 n k e)) + bi (ix2 n e)))) := by
  unfold A_main_v57 A_main_v55 A_main_v53 A_main_v52 A_main_v51 A_main_v50 A_main_v49 A_main_v48 A_main_v47 A_main_v46 A_main_v45
  pointwise [K_main_v56, K_main_v54, K_main_cst_1, K_main_cst_2]
  have hn : (⟨d.1 / 128, by omega⟩ : Fin 8) = n := Fin.ext (by simp only; omega)
  have he : (⟨d.1 % 128, by omega⟩ : Fin 128) = e := Fin.ext (by simp only; omega)
  have hq : d.1 / 128 = n.1 := by omega
  simp only [hn, he, hq]
  congr 4
  refine congrArg (· + _) (Finset.sum_congr rfl fun x _ => ?_)
  rw [mul_comm]
  simp only [Nat.mul_comm n.1 128]

set_option maxRecDepth 16384 in
theorem logA_apply (β : Fin 2) (t : Fin 8192) (d : Fin 1024) :
    A_main_v64 p cw cb wr br wi bi lam (ix3 β t d) = Ideal.ofBits .f32 0xC1000000#32 * Ideal.log1p (Ideal.exp (-(lam (ix1 d)))) * A_main_v44 p cw cb wr br wi bi lam (ix3 β t d) := by
  unfold A_main_v64 A_main_v63 A_main_v62 A_main_v61 A_main_v59 A_main_call1_v11 A_main_call1_v10 A_main_call1_v9 A_main_call1_v8 A_main_call1_v7 A_main_call1_v6 A_main_call1_v4 A_main_call1_v3 A_main_call1_v1 A_main_v58
  pointwise [K_main_v60, K_main_cst_3, K_main_call1_v0, K_main_call1_v2, K_main_call1_v5, K_main_call1_cst]
  rw [if_neg (by simp), softplus_eq (-lam (ix1 d))]
  rfl

set_option maxRecDepth 16384 in
theorem inp_apply (β : Fin 2) (t : Fin 8192) (d : Fin 1024) :
    A_main_v72 p cw cb wr br wi bi lam (ix3 β t d) = Ideal.sqrt (-(Ideal.exp (Ideal.ofBits .f32 0x40000000#32 * A_main_v64 p cw cb wr br wi bi lam (ix3 β t d)) - 1)) * (A_main_v57 p cw cb wr br wi bi lam (ix3 β t d) * A_main_v31 p cw cb wr br wi bi lam (ix3 β t d)) := by
  unfold A_main_v72 A_main_v71 A_main_v70 A_main_v69 A_main_v68 A_main_v67
  pointwise [K_main_v66, K_main_cst_4]

/-! ### The scan. -/

/-- The decay of time `t`. -/
def aSeq (β : Fin 2) (d : Fin 1024) (t : ℕ) : EReal := Ideal.exp (A_main_v64 p cw cb wr br wi bi lam (ix3 β ⟨t % 8192, Nat.mod_lt _ (by norm_num)⟩ d))

/-- What time `t` adds. -/
def bSeq (β : Fin 2) (d : Fin 1024) (t : ℕ) : EReal := A_main_v72 p cw cb wr br wi bi lam (ix3 β ⟨t % 8192, Nat.mod_lt _ (by norm_num)⟩ d)

/-- The hidden state after time `t`. -/
def hSeq (β : Fin 2) (d : Fin 1024) : ℕ → EReal := seqH (aSeq p cw cb wr br wi bi lam β d) (bSeq p cw cb wr br wi bi lam β d) 0

/-- The hidden state before time `t`. -/
def hBefore (β : Fin 2) (d : Fin 1024) : ℕ → EReal
  | 0 => 0
  | t + 1 => hSeq p cw cb wr br wi bi lam β d t

theorem hSeq_step (β : Fin 2) (d : Fin 1024) (t : ℕ) :
    hSeq p cw cb wr br wi bi lam β d t = aSeq p cw cb wr br wi bi lam β d t * hBefore p cw cb wr br wi bi lam β d t + bSeq p cw cb wr br wi bi lam β d t := by
  cases t <;> rfl

theorem toInt_ofNat (j : ℕ) (hj : j < 8192) : (BitVec.ofNat 32 j).toInt = (j : ℤ) := by
  rw [BitVec.toInt_eq_toNat_of_lt (by rw [BitVec.toNat_ofNat]; omega), BitVec.toNat_ofNat]
  congr 1
  omega

theorem start0 (j : ℕ) (hj : j < 8192) (h) : Host.clampedStart S8192x2x1024 S1x2x1024 h (fun k => (((![(constantI S_ 32 (BitVec.ofNat 32 j) : (⟨S_, .i32⟩ : BufTy).Contents (Elt Ideal)), (constantI S_ 32 0#32 : (⟨S_, .i32⟩ : BufTy).Contents (Elt Ideal)), (constantI S_ 32 0#32 : (⟨S_, .i32⟩ : BufTy).Contents (Elt Ideal))] : Fin 3 → (⟨S_, .i32⟩ : BufTy).Contents (Elt Ideal))) k (Shape.Idx.first Gen.h_S_)).toInt) 0 = j := by
  unfold Host.clampedStart
  show (min (max (BitVec.ofNat 32 j).toInt 0) ((8191 : ℕ) : ℤ)).toNat = j
  rw [toInt_ofNat j hj]
  omega

theorem start1 (j : ℕ) (h) : Host.clampedStart S8192x2x1024 S1x2x1024 h (fun k => (((![(constantI S_ 32 (BitVec.ofNat 32 j) : (⟨S_, .i32⟩ : BufTy).Contents (Elt Ideal)), (constantI S_ 32 0#32 : (⟨S_, .i32⟩ : BufTy).Contents (Elt Ideal)), (constantI S_ 32 0#32 : (⟨S_, .i32⟩ : BufTy).Contents (Elt Ideal))] : Fin 3 → (⟨S_, .i32⟩ : BufTy).Contents (Elt Ideal))) k (Shape.Idx.first Gen.h_S_)).toInt) 1 = 0 := by
  unfold Host.clampedStart
  show (min (max (0#32).toInt 0) ((0 : ℕ) : ℤ)).toNat = 0
  rfl

theorem start2 (j : ℕ) (h) : Host.clampedStart S8192x2x1024 S1x2x1024 h (fun k => (((![(constantI S_ 32 (BitVec.ofNat 32 j) : (⟨S_, .i32⟩ : BufTy).Contents (Elt Ideal)), (constantI S_ 32 0#32 : (⟨S_, .i32⟩ : BufTy).Contents (Elt Ideal)), (constantI S_ 32 0#32 : (⟨S_, .i32⟩ : BufTy).Contents (Elt Ideal))] : Fin 3 → (⟨S_, .i32⟩ : BufTy).Contents (Elt Ideal))) k (Shape.Idx.first Gen.h_S_)).toInt) 2 = 0 := by
  unfold Host.clampedStart
  show (min (max (0#32).toInt 0) ((0 : ℕ) : ℤ)).toNat = 0
  rfl

/-- A trip moves the hidden state one time step on. -/
theorem b9_apply (j : ℕ) (hj : j < 8192) (s : State Ideal) (β : Fin 2) (d : Fin 1024) :
    b9 j s (ix2 β d) = s.main_v77_0 (ix3 ⟨j, hj⟩ β d) * s.main_v77_3 (ix2 β d) + s.main_v77_1 (ix3 ⟨j, hj⟩ β d) := by
  unfold b9 b8 b7 b6 b3 b2 b0 b1 b4 b5
  pointwise [toInt_ofNat j hj]
  simp only [start0 j hj, start1, start2, Nat.zero_add]

/-- A trip writes its hidden state at its own time. -/
theorem b13_apply (j : ℕ) (hj : j < 8192) (s : State Ideal) (t : Fin 8192) (β : Fin 2) (d : Fin 1024) :
    b13 j s (ix3 t β d) = if t.1 = j then b9 j s (ix2 β d) else s.main_v77_4 (ix3 t β d) := by
  unfold b13 b10 b11 b12
  pointwise [toInt_ofNat j hj]
  simp only [start0 j hj, start1, start2, Nat.sub_zero, Nat.zero_le, and_true]
  by_cases h : t.1 = j
  · rw [if_pos h, dif_pos (by omega)]
  · rw [if_neg h, dif_neg (by omega)]

theorem decay_at (t : Fin 8192) (β : Fin 2) (d : Fin 1024) : A_main_v74 p cw cb wr br wi bi lam (ix3 t β d) = aSeq p cw cb wr br wi bi lam β d t.1 := by
  unfold A_main_v74 A_main_v65 aSeq
  pointwise []
  simp only [Nat.mod_eq_of_lt t.2]

theorem input_at (t : Fin 8192) (β : Fin 2) (d : Fin 1024) : A_main_v75 p cw cb wr br wi bi lam (ix3 t β d) = bSeq p cw cb wr br wi bi lam β d t.1 := by
  unfold A_main_v75 bSeq
  pointwise []
  simp only [Nat.mod_eq_of_lt t.2]

/-- The states of the loop. -/
def it : ℕ → State Ideal
  | 0 => init p cw cb wr br wi bi lam
  | n + 1 => step n (it n)

theorem it_consts (n : ℕ) : (it p cw cb wr br wi bi lam n).main_v77_0 = A_main_v74 p cw cb wr br wi bi lam ∧ (it p cw cb wr br wi bi lam n).main_v77_1 = A_main_v75 p cw cb wr br wi bi lam := by
  induction n with
  | zero => exact ⟨rfl, rfl⟩
  | succ n ih => exact ⟨ih.1, ih.2⟩

theorem it_state (n : ℕ) (hn : n ≤ 8192) (β : Fin 2) (d : Fin 1024) :
    (it p cw cb wr br wi bi lam n).main_v77_3 (ix2 β d) = hBefore p cw cb wr br wi bi lam β d n := by
  induction n with
  | zero =>
    show K_main_v73 (F := Ideal) (ix2 β d) = 0
    unfold K_main_v73
    pointwise [K_main_cst_5]
  | succ n ih =>
    show b9 n (it p cw cb wr br wi bi lam n) (ix2 β d) = hSeq p cw cb wr br wi bi lam β d n
    rw [b9_apply n (by omega), ih (by omega), (it_consts p cw cb wr br wi bi lam n).1, (it_consts p cw cb wr br wi bi lam n).2, decay_at, input_at, hSeq_step]

theorem it_rows (n : ℕ) (hn : n ≤ 8192) (t : Fin 8192) (ht : t.1 < n) (β : Fin 2) (d : Fin 1024) :
    (it p cw cb wr br wi bi lam n).main_v77_4 (ix3 t β d) = hSeq p cw cb wr br wi bi lam β d t.1 := by
  induction n with
  | zero => omega
  | succ n ih =>
    show b13 n (it p cw cb wr br wi bi lam n) (ix3 t β d) = _
    rw [b13_apply n (by omega)]
    split
    · rename_i h
      rw [h]
      exact it_state p cw cb wr br wi bi lam (n + 1) hn β d
    · exact ih (by omega) (by omega)

/-- The gate's nonlinearity, in the reference's order. -/
def gelu (y : EReal) : EReal :=
  y * (Ideal.ofBits .f32 0x3F000000#32 * (1 + Ideal.tanh (Ideal.ofBits .f32 0x3F4C422A#32 * (y + Ideal.ofBits .f32 0x3D372713#32 * (y * y * y)))))

set_option maxRecDepth 16384 in
theorem result_apply (r : Fin 16384) (d : Fin 1024) :
    R_main_v95 (it p cw cb wr br wi bi lam 8192) p (ix2 r d)
      = hSeq p cw cb wr br wi bi lam ⟨r.1 / 8192, by omega⟩ d (r.1 % 8192) * gelu (p (ix3 ⟨r.1 / 8192, by omega⟩ ⟨r.1 % 8192, by omega⟩ ⟨1024 + d.1, by omega⟩)) := by
  unfold R_main_v95 gelu
  pointwise []
  rw [it_rows p cw cb wr br wi bi lam 8192 (le_refl _) _ (Nat.mod_lt _ (by norm_num))]

end Cert.Rglru.Ref

end
-- ==== Proof.Rglru.Tile.lean ====
module

public import proofs.«01_k».proof.Proof.Rglru.Gates
public import proofs.«01_k».proof.Proof.Rglru.Rows
public import proofs.«01_k».proof.Proof.Rglru.RefValue

@[expose] public section

noncomputable section

namespace Cert.Rglru.Tile

open Idealize.ShloMosaic Idealize.ShloMosaic.TcCoe Idealize.SL.Sem
open Cert.RglruIdeal Cert.RglruIdeal.Gen Cert.Rglru.Block
open Cert.RglruRefIdeal.Step (A_main_v31 A_main_v44 A_main_v57 A_main_v64 A_main_v72)

/-! ### One tile of 256 times against the reference. -/

variable (p : (⟨S2x8192x8752, .f32⟩ : BufTy).Contents (Elt Ideal)) (cw : (⟨S4x1024, .f32⟩ : BufTy).Contents (Elt Ideal)) (cb : (⟨S1024, .f32⟩ : BufTy).Contents (Elt Ideal))
  (wr : (⟨S8x128x128, .f32⟩ : BufTy).Contents (Elt Ideal)) (br : (⟨S8x128, .f32⟩ : BufTy).Contents (Elt Ideal)) (wi : (⟨S8x128x128, .f32⟩ : BufTy).Contents (Elt Ideal)) (bi : (⟨S8x128, .f32⟩ : BufTy).Contents (Elt Ideal))
  (lam : (⟨S1024, .f32⟩ : BufTy).Contents (Elt Ideal))

variable (x0 : Vec Ideal S256x1024 .bf16) (x1 : Vec Ideal S256x1024 .bf16) (x2 : Vec Ideal S4x1024 .f32) (x3 : Vec Ideal S1x1024 .f32) (x4 : Vec Ideal S8x128x128 .bf16) (x5 : Vec Ideal S1x1024 .f32)
  (x6 : Vec Ideal S8x128x128 .bf16) (x7 : Vec Ideal S1x1024 .f32) (x8 : Vec Ideal S1x1024 .f32) (xs0 : Vec Ideal S8x1024 .f32) (xs1 : Vec Ideal S8x1024 .f32)

/-- What the tile's blocks hold: sequence `β`, times `256 k …`. -/
structure Holds (β : Fin 2) (k : ℕ) : Prop where
  lt : k < 32
  h0 : ∀ (r : Fin 256) (d : Fin 1024), x0 (ix2 r d) = p (ix3 β ⟨(256 * k + r.1) % 8192, Nat.mod_lt _ (by norm_num)⟩ ⟨d.1, by omega⟩)
  h1 : ∀ (r : Fin 256) (d : Fin 1024), x1 (ix2 r d) = p (ix3 β ⟨(256 * k + r.1) % 8192, Nat.mod_lt _ (by norm_num)⟩ ⟨1024 + d.1, by omega⟩)
  h2 : x2 = cw
  h3 : ∀ d : Fin 1024, x3 (ix2 0 d) = cb (ix1 d)
  h4 : x4 = wr
  h5 : ∀ (d : Fin 1024) (n : Fin 8) (e : Fin 128), d.1 = 128 * n.1 + e.1 → x5 (ix2 0 d) = br (ix2 n e)
  h6 : x6 = wi
  h7 : ∀ (d : Fin 1024) (n : Fin 8) (e : Fin 128), d.1 = 128 * n.1 + e.1 → x7 (ix2 0 d) = bi (ix2 n e)
  h8 : ∀ d : Fin 1024, x8 (ix2 0 d) = lam (ix1 d)
  hs0 : ∀ (s : Fin 8) (d : Fin 1024), xs0 (ix2 s d) = Ref.hBefore p cw cb wr br wi bi lam β d (256 * k)
  hs1 : ∀ (s : Fin 8) (d : Fin 1024), xs1 (ix2 s d) = if k = 0 then 0 else p (ix3 β ⟨(256 * k + s.1 - 8) % 8192, Nat.mod_lt _ (by norm_num)⟩ ⟨d.1, by omega⟩)

variable {p cw cb wr br wi bi lam x0 x1 x2 x3 x4 x5 x6 x7 x8 xs0 xs1} {β : Fin 2} {k : ℕ}
variable (H : Holds p cw cb wr br wi bi lam x0 x1 x2 x3 x4 x5 x6 x7 x8 xs0 xs1 β k)
include H

/-- The time of row `r`. -/
abbrev time (k : ℕ) (r : Fin 256) : Fin 8192 := ⟨(256 * k + r.1) % 8192, Nat.mod_lt _ (by norm_num)⟩

theorem above_eq (j : ℕ) (hj : j ≤ 3) (r : Fin 256) (d : Fin 1024) : above x0 xs1 j r.1 d = Ref.back p j β (time k r).1 d := by
  have hk := H.lt
  unfold above Ref.back
  show _ = if (256 * k + r.1) % 8192 < j then (0 : EReal) else _
  by_cases hr : r.1 < j
  · rw [if_pos hr, H.hs1]
    by_cases h0 : k = 0
    · rw [if_pos h0, if_pos (by omega)]
    · rw [if_neg h0, if_neg (by omega)]
      refine congrArg p ?_
      refine congrArg (fun t => ix3 β t (⟨d.1, by omega⟩ : Fin 8752)) (Fin.ext ?_)
      show (256 * k + (r.1 + 8 - j) % 8 - 8) % 8192 = ((256 * k + r.1) % 8192 - j) % 8192
      omega
  · rw [if_neg hr, if_neg (by omega), H.h0]
    refine congrArg p ?_
    refine congrArg (fun t => ix3 β t (⟨d.1, by omega⟩ : Fin 8752)) (Fin.ext ?_)
    show (256 * k + (r.1 - j) % 256) % 8192 = ((256 * k + r.1) % 8192 - j) % 8192
    omega

theorem conv_eq (r : Fin 256) (d : Fin 1024) : conv x0 x2 x3 xs1 (ix2 r d) = A_main_v31 p cw cb wr br wi bi lam (ix3 β (time k r) d) := by
  refine (conv_apply x0 x2 x3 xs1 r d).trans ((Ref.conv_apply p cw cb wr br wi bi lam β (time k r) d).trans ?_).symm
  rw [above_eq H 0 (by norm_num), above_eq H 1 (by norm_num), above_eq H 2 (by norm_num), above_eq H 3 (by norm_num), H.h3, H.h2]

theorem rgate_eq (r : Fin 256) (d : Fin 1024) : rgate x0 x2 x3 xs1 x4 x5 (ix2 r d) = A_main_v44 p cw cb wr br wi bi lam (ix3 β (time k r) d) := by
  have hd : d.1 = 128 * (⟨d.1 / 128, by omega⟩ : Fin 8).1 + (⟨d.1 % 128, by omega⟩ : Fin 128).1 := by show d.1 = 128 * (d.1 / 128) + d.1 % 128; omega
  refine (rgate_apply x0 x2 x3 xs1 x4 x5 _ r _ d hd).trans ((Ref.rgate_apply p cw cb wr br wi bi lam β (time k r) _ _ d hd).trans ?_).symm
  rw [H.h5 d _ _ hd]
  unfold gdot
  rw [H.h4]
  simp only [conv_eq H]

theorem igate_eq (r : Fin 256) (d : Fin 1024) : igate x0 x2 x3 xs1 x6 x7 (ix2 r d) = A_main_v57 p cw cb wr br wi bi lam (ix3 β (time k r) d) := by
  have hd : d.1 = 128 * (⟨d.1 / 128, by omega⟩ : Fin 8).1 + (⟨d.1 % 128, by omega⟩ : Fin 128).1 := by show d.1 = 128 * (d.1 / 128) + d.1 % 128; omega
  refine (igate_apply x0 x2 x3 xs1 x6 x7 _ r _ d hd).trans ((Ref.igate_apply p cw cb wr br wi bi lam β (time k r) _ _ d hd).trans ?_).symm
  rw [H.h7 d _ _ hd]
  unfold gdot
  rw [H.h6]
  simp only [conv_eq H]

omit H in
theorem two_eq : Ideal.ofBits .f32 0x40000000#32 = ((2 : ℝ) : EReal) := by
  simp [Ideal.ofBits, Ideal.ieee]
  rw [← EReal.coe_mul]
  norm_num

theorem decay_eq (r : Fin 256) (d : Fin 1024) : logDecay (rgate x0 x2 x3 xs1 x4 x5) x8 r d = A_main_v64 p cw cb wr br wi bi lam (ix3 β (time k r) d) := by
  rw [Ref.logA_apply, ← neg_eight_eq.symm]
  unfold logDecay
  rw [rgate_eq H, H.h8]

theorem rgate_nonneg (j : S256x1024.Idx) : 0 ≤ rgate x0 x2 x3 xs1 x4 x5 j := by
  obtain ⟨r, d, rfl⟩ : ∃ (r : Fin 256) (d : Fin 1024), j = ix2 r d := ⟨j 0, j 1, by funext a; match a with | ⟨0, _⟩ => rfl | ⟨1, _⟩ => rfl⟩
  have hd : d.1 = 128 * (⟨d.1 / 128, by omega⟩ : Fin 8).1 + (⟨d.1 % 128, by omega⟩ : Fin 128).1 := by show d.1 = 128 * (d.1 / 128) + d.1 % 128; omega
  rw [rgate_apply x0 x2 x3 xs1 x4 x5 _ r _ d hd]
  exact (logistic_bounds _).1

theorem col_decay (r : Fin 256) (d : Fin 1024) : col (k0_pay34 (rgate x0 x2 x3 xs1 x4 x5) (k0_pay33 x8)) d r.1 = Ref.aSeq p cw cb wr br wi bi lam β d (256 * k + r.1) := by
  rw [col_lt _ _ r, decay_apply, decay_eq H]
  rfl

theorem col_input (r : Fin 256) (d : Fin 1024) : col (inputs (rgate x0 x2 x3 xs1 x4 x5) (igate x0 x2 x3 xs1 x6 x7) (conv x0 x2 x3 xs1) x8) d r.1 = Ref.bSeq p cw cb wr br wi bi lam β d (256 * k + r.1) := by
  rw [col_lt _ _ r, inputs_apply _ _ _ _ (rgate_nonneg H), decay_eq H, igate_eq H, conv_eq H]
  unfold Ref.bSeq
  rw [Ref.inp_apply, two_eq]

/-- The column's recurrence is the reference's hidden state. -/
theorem seq_eq (d : Fin 1024) (r : ℕ) (hr : r < 256) :
    seqCol (rgate x0 x2 x3 xs1 x4 x5) (igate x0 x2 x3 xs1 x6 x7) (conv x0 x2 x3 xs1) x8 (Ref.hBefore p cw cb wr br wi bi lam β d (256 * k)) d r
      = Ref.hSeq p cw cb wr br wi bi lam β d (256 * k + r) := by
  induction r with
  | zero =>
    have ha := col_decay H ⟨0, hr⟩ d
    have hb := col_input H ⟨0, hr⟩ d
    rw [Ref.hSeq_step]
    unfold seqCol
    show col _ d 0 * _ + col _ d 0 = _
    exact congrArg₂ (fun a b => a * _ + b) ha hb
  | succ r ih =>
    have ha := col_decay H ⟨r + 1, hr⟩ d
    have hb := col_input H ⟨r + 1, hr⟩ d
    have ih := ih (by omega)
    unfold seqCol at ih
    unfold seqCol
    show col _ d (r + 1) * seqH _ _ _ r + col _ d (r + 1) = Ref.aSeq p cw cb wr br wi bi lam β d (256 * k + r + 1) * Ref.hSeq p cw cb wr br wi bi lam β d (256 * k + r) + Ref.bSeq p cw cb wr br wi bi lam β d (256 * k + r + 1)
    rw [ih]
    exact congrArg₂ (fun a b => a * _ + b) ha hb

theorem hidden_eq (r : Fin 256) (d : Fin 1024) :
    hall (k0_pay37 (rgate x0 x2 x3 xs1 x4 x5) (k0_pay33 x8)) (k0_pay39 (rgate x0 x2 x3 xs1 x4 x5) (k0_pay33 x8)) (k0_pay40 (conv x0 x2 x3 xs1) (rgate x0 x2 x3 xs1 x4 x5) (igate x0 x2 x3 xs1 x6 x7) (k0_pay33 x8)) xs0 (ix2 r d)
      = Ref.hSeq p cw cb wr br wi bi lam β d (256 * k + r.1) :=
  (hall_row _ _ _ _ (rgate_nonneg H) xs0 _ d (fun s => H.hs0 s d) r).trans (seq_eq H d r.1 r.2)

/-- The hidden state carried to the next tile. -/
theorem carry0_eq (s : Fin 8) (d : Fin 1024) :
    k0_pay1 (gr31 (k0_pay37 (rgate x0 x2 x3 xs1 x4 x5) (k0_pay33 x8)) (k0_pay39 (rgate x0 x2 x3 xs1 x4 x5) (k0_pay33 x8)) (k0_pay40 (conv x0 x2 x3 xs1) (rgate x0 x2 x3 xs1 x4 x5) (igate x0 x2 x3 xs1 x6 x7) (k0_pay33 x8)) xs0) (ix2 s d)
      = Ref.hBefore p cw cb wr br wi bi lam β d (256 * (k + 1)) :=
  (last_row _ _ _ _ (rgate_nonneg H) xs0 _ d (fun s => H.hs0 s d) s).trans (seq_eq H d 255 (by norm_num))

/-- The recurrent input carried to the next tile. -/
theorem carry1_eq (s : Fin 8) (d : Fin 1024) :
    k0_pay8 (k0_pay5 x0) (ix2 s d) = p (ix3 β ⟨(256 * (k + 1) + s.1 - 8) % 8192, Nat.mod_lt _ (by norm_num)⟩ ⟨d.1, by omega⟩) := by
  have hk := H.lt
  have e : k0_pay8 (k0_pay5 x0) (ix2 s d) = x0 (ix2 ⟨248 + s.1, by omega⟩ d) := by
    unfold k0_pay8 k0_pay5
    pointwise []
  rw [e, H.h0]
  refine congrArg p ?_
  refine congrArg (fun t => ix3 β t (⟨d.1, by omega⟩ : Fin 8752)) (Fin.ext ?_)
  show (256 * k + (248 + s.1)) % 8192 = (256 * (k + 1) + s.1 - 8) % 8192
  omega

omit H in
theorem gated_apply (X : FVec Ideal S256x1024 .f32) (y : Vec Ideal S256x1024 .bf16) (r : Fin 256) (d : Fin 1024) :
    k0_pay2 X y (ix2 r d) = X (ix2 r d) * Ref.gelu (y (ix2 r d)) := by
  unfold k0_pay2 Ref.gelu
  pointwise []
  refine congrArg (X (ix2 r d) * ·) ?_
  rw [mul_comm (Ideal.ofBits .f32 0x3F000000#32) (y (ix2 r d)), mul_assoc]

theorem out_eq (r : Fin 256) (d : Fin 1024) :
    k0_pay2 (hall (k0_pay37 (rgate x0 x2 x3 xs1 x4 x5) (k0_pay33 x8)) (k0_pay39 (rgate x0 x2 x3 xs1 x4 x5) (k0_pay33 x8)) (k0_pay40 (conv x0 x2 x3 xs1) (rgate x0 x2 x3 xs1 x4 x5) (igate x0 x2 x3 xs1 x6 x7) (k0_pay33 x8)) xs0) x1 (ix2 r d)
      = Ref.hSeq p cw cb wr br wi bi lam β d (256 * k + r.1) * Ref.gelu (p (ix3 β ⟨(256 * k + r.1) % 8192, Nat.mod_lt _ (by norm_num)⟩ ⟨1024 + d.1, by omega⟩)) := by
  rw [gated_apply, hidden_eq H, H.h1]

end Cert.Rglru.Tile
-- ==== Proof.Rglru.Array.lean ====
module

public import proofs.«01_k».proof.Proof.Rglru.Input
public import proofs.«01_k».proof.Proof.Rglru.Tile

@[expose] public section

noncomputable section

namespace Cert.Rglru.Array

open Idealize.ShloMosaic Idealize.ShloMosaic.TcCoe Idealize.SL.Sem
open Cert.RglruIdeal Cert.RglruIdeal.Gen Cert.RglruIdeal.Value Cert.Rglru.Block Cert.Rglru.Input Cert.Rglru.Tile

variable (m : (ℓ : Loc nD τ sig) → Buf (Elt Ideal) ℓ)

/-- At point `t`, tile `k` of sequence `β`, the windows hold the tile's blocks. -/
theorem holds_of (c : Dev nD) (t : Fin cfg0.N) (β : Fin 2) (k : ℕ) (hk : k < 32) (ht : t.1 = 32 * β.1 + k) (xs0 xs1 : Vec Ideal S8x1024 .f32)
    (hs0 : ∀ (s : Fin 8) (d : Fin 1024), xs0 (ix2 s d) = Ref.hBefore (A0 m c) (A1 m c) (A2 m c) (A3 m c) (A4 m c) (A5 m c) (A6 m c) (A7 m c) β d (256 * k))
    (hs1 : ∀ (s : Fin 8) (d : Fin 1024), xs1 (ix2 s d) = if k = 0 then 0 else A0 m c (ix3 β ⟨(256 * k + s.1 - 8) % 8192, Nat.mod_lt _ (by norm_num)⟩ ⟨d.1, by omega⟩)) :
    Holds (A0 m c) (A1 m c) (A2 m c) (A3 m c) (A4 m c) (A5 m c) (A6 m c) (A7 m c) (iblk m c 0 t) (iblk m c 1 t) (iblk m c 2 t) (iblk m c 3 t) (iblk m c 4 t) (iblk m c 5 t) (iblk m c 6 t) (iblk m c 7 t) (iblk m c 8 t) xs0 xs1 β k where
  lt := hk
  h0 := fun r d => x0_apply m c t r d β _ _ (by show β.1 * 8192 + (256 * k + r.1) % 8192 = 256 * t.1 + r.1; omega) rfl
  h1 := fun r d => x1_apply m c t r d β _ _ (by show β.1 * 8192 + (256 * k + r.1) % 8192 = 256 * t.1 + r.1; omega) rfl
  h2 := x2_eq m c t
  h3 := x3_apply m c t
  h4 := x4_eq m c t
  h5 := x5_apply m c t
  h6 := x6_eq m c t
  h7 := x7_apply m c t
  h8 := x8_apply m c t
  hs0 := hs0
  hs1 := hs1

/-- What tile `k` of sequence `β` leaves in the carried scratch. -/
structure Carried (c : Dev nD) (β : Fin 2) (k : ℕ) (acc : Vec Ideal S256x1024 .bf16 × Vec Ideal S8x1024 .f32 × Vec Ideal S8x1024 .f32) : Prop where
  state : ∀ (s : Fin 8) (d : Fin 1024), acc.2.1 (ix2 s d) = Ref.hBefore (A0 m c) (A1 m c) (A2 m c) (A3 m c) (A4 m c) (A5 m c) (A6 m c) (A7 m c) β d (256 * (k + 1))
  rows : ∀ (s : Fin 8) (d : Fin 1024), acc.2.2 (ix2 s d) = A0 m c (ix3 β ⟨(256 * (k + 1) + s.1 - 8) % 8192, Nat.mod_lt _ (by norm_num)⟩ ⟨d.1, by omega⟩)
  out : ∀ (r : Fin 256) (d : Fin 1024), acc.1 (ix2 r d) = Ref.hSeq (A0 m c) (A1 m c) (A2 m c) (A3 m c) (A4 m c) (A5 m c) (A6 m c) (A7 m c) β d (256 * k + r.1)
    * Ref.gelu (A0 m c (ix3 β ⟨(256 * k + r.1) % 8192, Nat.mod_lt _ (by norm_num)⟩ ⟨1024 + d.1, by omega⟩))

theorem zero_state (s : Fin 8) (d : Fin 1024) : (k0_pay3 : FVec Ideal S8x1024 .f32) (ix2 s d) = 0 := by
  unfold k0_pay3
  pointwise []

theorem zero_rows (s : Fin 8) (d : Fin 1024) : (k0_pay4 : FVec Ideal S8x1024 .f32) (ix2 s d) = 0 := by
  unfold k0_pay4
  pointwise []

theorem step_first (c : Dev nD) (t : Fin cfg0.N) (β : Fin 2) (ht : t.1 = 32 * β.1)
    (acc : Vec Ideal S256x1024 .bf16 × Vec Ideal S8x1024 .f32 × Vec Ideal S8x1024 .f32) :
    Carried m c β 0 (stAt0 m c t.1 t.2 acc) := by
  have H := holds_of m c t β 0 (by norm_num) ht (k0_pay3 (F := Ideal)) (k0_pay4 (F := Ideal)) (fun s d => zero_state s d) (fun s d => (zero_rows s d).trans (if_pos (Eq.refl 0)).symm)
  rw [stAt0_A m c t acc (by omega)]
  refine ⟨fun s d => ?_, fun s d => ?_, fun r d => ?_⟩
  · dsimp only
    rw [sout0_A_0_eq]
    exact carry0_eq H s d
  · dsimp only
    rw [sout0_A_1_eq]
    exact carry1_eq H s d
  · dsimp only
    rw [out0_A_9_eq]
    exact out_eq H r d

theorem step_next (c : Dev nD) (t : Fin cfg0.N) (β : Fin 2) (k : ℕ) (hk : k + 1 < 32) (ht : t.1 = 32 * β.1 + (k + 1))
    (acc : Vec Ideal S256x1024 .bf16 × Vec Ideal S8x1024 .f32 × Vec Ideal S8x1024 .f32) (hacc : Carried m c β k acc) :
    Carried m c β (k + 1) (stAt0 m c t.1 t.2 acc) := by
  have H := holds_of m c t β (k + 1) hk ht acc.2.1 acc.2.2 hacc.state (fun s d => (hacc.rows s d).trans (if_neg (Nat.succ_ne_zero k)).symm)
  rw [stAt0_B m c t acc (by omega)]
  refine ⟨fun s d => ?_, fun s d => ?_, fun r d => ?_⟩
  · dsimp only
    rw [sout0_B_0_eq]
    exact carry0_eq H s d
  · dsimp only
    rw [sout0_B_1_eq]
    exact carry1_eq H s d
  · dsimp only
    rw [out0_B_9_eq]
    exact out_eq H r d

/-- After every point the carried scratch and the output block are the reference's, by induction on the point. -/
theorem carried (c : Dev nD) (n : ℕ) (hn : n < cfg0.N) (β : Fin 2) (k : ℕ) (hk : k < 32) (h : n = 32 * β.1 + k) :
    Carried m c β k (outsAt0 m c n hn) := by
  induction n generalizing β k with
  | zero =>
    obtain rfl : k = 0 := by omega
    rw [outsAt0_zero m c hn]
    exact step_first m c ⟨0, hn⟩ β h junk0
  | succ n ih =>
    rw [outsAt0_succ m c n hn]
    cases k with
    | zero => exact step_first m c ⟨n + 1, hn⟩ β h _
    | succ k => exact step_next m c ⟨n + 1, hn⟩ β k hk h _ (ih (Nat.lt_of_succ_lt hn) β k (by omega) (by omega))

/-- The kernel's result array is the reference's result. -/
theorem result_eq (c : Dev nD) :
    (G9 m c : (⟨S16384x1024, .bf16⟩ : BufTy).Contents (Elt Ideal))
      = Cert.RglruRefIdeal.Step.R_main_v95 (Ref.it (A0 m c) (A1 m c) (A2 m c) (A3 m c) (A4 m c) (A5 m c) (A6 m c) (A7 m c) 8192) (A0 m c) := by
  funext i
  obtain ⟨R, d, rfl⟩ : ∃ (R : Fin 16384) (d : Fin 1024), i = ix2 R d := ⟨i 0, i 1, by funext a; match a with | ⟨0, _⟩ => rfl | ⟨1, _⟩ => rfl⟩
  rw [Ref.result_apply]
  have hp : pt9Of (ix2 R d : S16384x1024.Idx) = R.1 / 256 := by
    show 1 * (R.1 / 256 - 0) + 1 * (d.1 / 1024 - 0) = R.1 / 256
    omega
  have hN : pt9Of (ix2 R d : S16384x1024.Idx) < cfg0.N := by
    rw [hp, show cfg0.N = 64 from N_0]
    omega
  unfold G9
  rw [dif_pos hN, ← outsAt0_sweep m c _ hN]
  have hl : loc9Of (ix2 R d : S16384x1024.Idx) = ix2 (⟨R.1 % 256, Nat.mod_lt _ (by norm_num)⟩ : Fin 256) d := by
    funext a
    apply Fin.ext
    match a with
    | ⟨0, _⟩ => rfl
    | ⟨1, _⟩ => show d.1 % 1024 = d.1; omega
  rw [hl]
  refine ((carried m c _ hN ⟨R.1 / 8192, by omega⟩ (R.1 % 8192 / 256) (by omega) (by rw [hp]; show R.1 / 256 = 32 * (R.1 / 8192) + R.1 % 8192 / 256; omega)).out _ d).trans ?_
  have e : 256 * (R.1 % 8192 / 256) + R.1 % 256 = R.1 % 8192 := by omega
  show Ref.hSeq _ _ _ _ _ _ _ _ _ d (256 * (R.1 % 8192 / 256) + R.1 % 256) * Ref.gelu (A0 m c (ix3 _ ⟨(256 * (R.1 % 8192 / 256) + R.1 % 256) % 8192, _⟩ _)) = _
  simp only [e, Nat.mod_mod]

end Cert.Rglru.Array
-- ==== Proof.Layer.Math.lean ====
module

public import Idealize.ShloMosaic.Lib.Pointwise

@[expose] public section

noncomputable section

namespace Cert.Layer

open Idealize.ShloMosaic

/-- A row of the activations, the two sequences stood one under the other. -/
def row (z : (⟨3, ![2, 8192, 1024]⟩ : Shape).Idx → EReal) (R : Fin 16384) (d : Fin 1024) : EReal :=
  z (ix3 ⟨R.1 / 8192, by omega⟩ ⟨R.1 % 8192, by omega⟩ d)

/-- The columns of the layer's projection in the order of the parts of the prepared one, each group's twelve gates followed by zeros. -/
def pack (w : Fin 8752 → EReal) (D : Fin 9216) : EReal :=
  if h1 : D.1 < 3072 then w ⟨D.1, by omega⟩
  else if h2 : D.1 < 7168 then w ⟨D.1 + 1584, by omega⟩
  else if h3 : D.1 < 8704 then w ⟨D.1 - 4096, by omega⟩
  else if h4 : (D.1 - 8704) % 128 < 12 then w ⟨4608 + (D.1 - 8704) / 128 * 12 + (D.1 - 8704) % 128, by omega⟩
  else 0

/-- The root-mean-square normalisation of a row, scaled: the printed constants are 1024 and the small term 1e-6's word. -/
def norm (a g : Fin 1024 → EReal) (j : Fin 1024) : EReal :=
  a j * Ideal.rsqrt (Ideal.div (∑ x, a x * a x) (Ideal.ofBits FTy.f32 1149239296#32) + Ideal.ofBits FTy.f32 897988541#32) * g j

/-- The square of the positive part of a row against a column. -/
def act (h w : Fin 1024 → EReal) : EReal := max (∑ d, h d * w d) 0 * max (∑ d, h d * w d) 0

/-- The channel mixing of a row through 4096 hidden units. -/
def mix (h : Fin 1024 → EReal) (w1 : Fin 4096 → Fin 1024 → EReal) (w2 : Fin 4096 → Fin 1024 → EReal) (j : Fin 1024) : EReal :=
  ∑ k, act h (w1 k) * w2 k j

/-- A sum over 4096 indices is the sum over four runs of 1024. -/
theorem sum_four (f : Fin 4096 → EReal) :
    ∑ k, f k = ∑ k : Fin 1024, f ⟨k.1, by omega⟩ + ∑ k : Fin 1024, f ⟨1024 + k.1, by omega⟩ + ∑ k : Fin 1024, f ⟨2048 + k.1, by omega⟩
      + ∑ k : Fin 1024, f ⟨3072 + k.1, by omega⟩ := by
  have h3 := Fin.sum_univ_add (a := 3072) (b := 1024) f
  have h2 := Fin.sum_univ_add (a := 2048) (b := 1024) (fun i : Fin 3072 => f (Fin.castAdd 1024 i))
  have h1 := Fin.sum_univ_add (a := 1024) (b := 1024) (fun i : Fin 2048 => f (Fin.castAdd 1024 (Fin.castAdd 1024 i)))
  exact h3.trans (congrArg₂ (· + ·) (h2.trans (congrArg₂ (· + ·) (h1.trans rfl) rfl)) rfl)

end Cert.Layer

end
-- ==== Proof.Merge.Block.lean ====
module

public import proofs.«01_k».proof.Proof.Gen.MergeIdeal.Value
public import proofs.«01_k».proof.Proof.Layer.Math
public import proofs.«01_k».proof.Proof.Rglru.Math

@[expose] public section

noncomputable section

namespace Cert.Merge.Block

open Idealize.ShloMosaic Idealize.ShloMosaic.TcCoe Idealize.SL.Sem
open Cert.MergeIdeal Cert.MergeIdeal.Gen Cert.Layer

/-- One half, as the word the program writes. -/
theorem half_eq : Ideal.ofBits .f32 0x3F000000#32 = ((1 / 2 : ℝ) : EReal) := by
  simp [Ideal.ofBits, Ideal.ieee]
  rw [← EReal.coe_mul]
  norm_num

/-- The logistic gate. -/
def gate (z : EReal) : EReal := Ideal.div 1 (1 + Ideal.exp (-z))

/-- One branch: its gate times its row against the branch's weights. -/
def branch (g o : Fin 1024 → EReal) (w : Fin 1024 → Fin 1024 → EReal) (k : Fin 1024) : EReal := gate (g k) * ∑ d, o d * w d k

/-- The gate as the program computes it. -/
def tgate (z : EReal) : EReal := Ideal.ofBits .f32 0x3F000000#32 * Ideal.tanh (Ideal.ofBits .f32 0x3F000000#32 * z) + Ideal.ofBits .f32 0x3F000000#32

theorem tgate_eq (z : EReal) : tgate z = gate z := by
  unfold tgate gate
  rw [half_eq]
  exact Cert.Rglru.sigmoid_eq z

set_option maxRecDepth 16384 in
/-- The first two branches. -/
theorem pay2_apply (v0 v10 : Vec Ideal S512x1024 .bf16) (v12 : Vec Ideal S1x1024x1024 .bf16) (v16 v26 : Vec Ideal S512x1024 .bf16) (v28 : Vec Ideal S1x1024x1024 .bf16) (r : Fin 512) (k : Fin 1024) :
    k0_pay2 (F := Ideal) v0 v10 v12 v16 v26 v28 (ix2 r k)
      = branch (fun k => v0 (ix2 r k)) (fun d => v10 (ix2 r d)) (fun d k => v12 (ix3 0 d k)) k
        + branch (fun k => v16 (ix2 r k)) (fun d => v26 (ix2 r d)) (fun d k => v28 (ix3 0 d k)) k := by
  unfold branch
  simp only [← tgate_eq]
  pointwise [k0_pay2]
  rfl

set_option maxRecDepth 16384 in
/-- The new residual row. -/
theorem pay4_apply (v32 : FVec Ideal S512x1024 .f32) (v34 : FVec Ideal S512x1024 .bf16) (v43 : Vec Ideal S512x1024 .bf16) (v45 v51 : Vec Ideal S1x1024x1024 .bf16) (v54 : Vec Ideal S512x1024 .f32) (v56 : Vec Ideal S1x1024 .f32) (r : Fin 512) (j : Fin 1024) :
    k0_pay4 (F := Ideal) v32 v34 v43 v45 v51 v54 v56 (ix2 r j)
      = v54 (ix2 r j) + norm (fun j => ∑ k, (v32 (ix2 r k) + branch (fun k => v34 (ix2 r k)) (fun d => v43 (ix2 r d)) (fun d k => v45 (ix3 0 d k)) k) * v51 (ix3 0 k j)) (fun j => v56 (ix2 0 j)) j := by
  unfold branch
  simp only [← tgate_eq]
  pointwise [k0_pay4]
  rfl

set_option maxRecDepth 16384 in
/-- The second result's normalisation, from the new residual row. -/
theorem pay1_apply (z : FVec Ideal S512x1024 .f32) (g : Vec Ideal S1x1024 .f32) (r : Fin 512) (j : Fin 1024) :
    k0_pay1 (F := Ideal) z g (ix2 r j) = norm (fun j => z (ix2 r j)) (fun j => g (ix2 0 j)) j := by
  pointwise [k0_pay1]
  rfl

theorem zero2 : (![0, 0] : Fin 2 → Nat) = fun _ => 0 := funext fun a => by fin_cases a <;> rfl
theorem zero3 : (![0, 0, 0] : Fin 3 → Nat) = fun _ => 0 := funext fun a => by fin_cases a <;> rfl

/-- The three branches' sum on a row. -/
def merged (ga gb gc oa ob oc : Fin 1024 → EReal) (wa wb wc : Fin 1024 → Fin 1024 → EReal) (k : Fin 1024) : EReal :=
  branch ga oa wa k + branch gb ob wb k + branch gc oc wc k

variable (x0 x1 x2 x3 x4 x5 : Vec Ideal S512x1024 .bf16) (x6 x7 x8 x9 : Vec Ideal S1x1024x1024 .bf16) (x10 : Vec Ideal S1x1024 .f32) (x11 : Vec Ideal S512x1024 .f32) (x12 : Vec Ideal S1x1024 .f32)

/-- The block's new residual row. -/
def resid (r : Fin 512) (j : Fin 1024) : EReal :=
  x11 (ix2 r j) + norm (fun j => ∑ k, merged (fun k => x3 (ix2 r k)) (fun k => x4 (ix2 r k)) (fun k => x5 (ix2 r k)) (fun d => x0 (ix2 r d)) (fun d => x1 (ix2 r d)) (fun d => x2 (ix2 r d))
    (fun d k => x6 (ix3 0 d k)) (fun d k => x7 (ix3 0 d k)) (fun d k => x8 (ix3 0 d k)) k * x9 (ix3 0 k j)) (fun j => x10 (ix2 0 j)) j

theorem pay_apply (r : Fin 512) (j : Fin 1024) :
    k0_pay4 (F := Ideal) (k0_pay5 x0 x1 x2 x3 x4 x5 x6 x7 x8 x9 x10 x11 x12) (k0_pay6 x0 x1 x2 x3 x4 x5 x6 x7 x8 x9 x10 x11 x12) (View.ld x2 r0_0) (View.ld x8 r0_1) (View.ld x9 r0_1) (View.ld x11 r0_0) (View.ld x10 r0_2) (ix2 r j)
      = resid x0 x1 x2 x3 x4 x5 x6 x7 x8 x9 x10 x11 r j := by
  have e : ∀ x : Vec Ideal S512x1024 .bf16, View.ld x r0_0 = x := fun x => View.ld_unit_zero zero2 _ _
  have e' : ∀ x : Vec Ideal S512x1024 .f32, View.ld x r0_0 = x := fun x => View.ld_unit_zero zero2 _ _
  have f : ∀ x : Vec Ideal S1x1024x1024 .bf16, View.ld x r0_1 = x := fun x => View.ld_unit_zero zero3 _ _
  have g : ∀ x : Vec Ideal S1x1024 .f32, View.ld x r0_2 = x := fun x => View.ld_unit_zero zero2 _ _
  have h3 : ∀ x : Vec Ideal S512x1024 .bf16, k0_pay3 (F := Ideal) x = x := fun x => by
    funext i
    obtain ⟨a, b, rfl⟩ : ∃ (a : Fin 512) (b : Fin 1024), i = ix2 a b := ⟨i 0, i 1, by funext a; match a with | ⟨0, _⟩ => rfl | ⟨1, _⟩ => rfl⟩
    pointwise [k0_pay3]
  rw [pay4_apply, e x2, f x8, f x9, e' x11, g x10]
  unfold k0_pay5 k0_pay6
  rw [e x0, e x1, e x3, e x4, e x5, f x6, f x7, h3]
  simp only [pay2_apply]
  rfl

/-- What a block writes to the first result. -/
theorem out13_apply (r : Fin 512) (j : Fin 1024) : out0_13 x0 x1 x2 x3 x4 x5 x6 x7 x8 x9 x10 x11 x12 (ix2 r j) = resid x0 x1 x2 x3 x4 x5 x6 x7 x8 x9 x10 x11 r j := by
  unfold out0_13
  rw [View.canon_unit_zero zero2]
  exact pay_apply x0 x1 x2 x3 x4 x5 x6 x7 x8 x9 x10 x11 x12 r j

/-- What a block writes to the second result. -/
theorem out14_apply (r : Fin 512) (j : Fin 1024) : out0_14 x0 x1 x2 x3 x4 x5 x6 x7 x8 x9 x10 x11 x12 (ix2 r j) = norm (resid x0 x1 x2 x3 x4 x5 x6 x7 x8 x9 x10 x11 r) (fun j => x12 (ix2 0 j)) j := by
  unfold out0_14
  rw [View.canon_unit_zero zero2]
  have g : View.ld x12 r0_2 = x12 := View.ld_unit_zero zero2 _ _
  refine (pay1_apply _ _ r j).trans ?_
  rw [g]
  simp only [pay_apply]

end Cert.Merge.Block

end
-- ==== Proof.Merge.Input.lean ====
module

public import proofs.«01_k».proof.Proof.Merge.Block

@[expose] public section

noncomputable section

namespace Cert.Merge

open Idealize.ShloMosaic Idealize.ShloMosaic.TcCoe Idealize.SL.Sem
open Cert.MergeIdeal Cert.MergeIdeal.Gen Cert.MergeIdeal.Value Cert.Layer Cert.Merge.Block

variable (m : (ℓ : Loc nD τ sig) → Buf (Elt Ideal) ℓ)

abbrev A0 (c : Dev nD) : (⟨S2x8192x1024, .f32⟩ : BufTy).Contents (Elt Ideal) := m ((c : Thread nD τ).loc main_arg0)
abbrev A1 (c : Dev nD) : (⟨S2x8192x1024, .f32⟩ : BufTy).Contents (Elt Ideal) := m ((c : Thread nD τ).loc main_arg1)
abbrev A2 (c : Dev nD) : (⟨S2x8192x1024, .f32⟩ : BufTy).Contents (Elt Ideal) := m ((c : Thread nD τ).loc main_arg2)
abbrev A3 (c : Dev nD) : (⟨S2x8192x8752, .f32⟩ : BufTy).Contents (Elt Ideal) := m ((c : Thread nD τ).loc main_arg3)
abbrev A4 (c : Dev nD) : (⟨S4x1024x1024, .f32⟩ : BufTy).Contents (Elt Ideal) := m ((c : Thread nD τ).loc main_arg4)
abbrev A5 (c : Dev nD) : (⟨S4x1024x1024, .f32⟩ : BufTy).Contents (Elt Ideal) := m ((c : Thread nD τ).loc main_arg5)
abbrev A6 (c : Dev nD) : (⟨S4x1024x1024, .f32⟩ : BufTy).Contents (Elt Ideal) := m ((c : Thread nD τ).loc main_arg6)
abbrev A7 (c : Dev nD) : (⟨S4x1024x1024, .f32⟩ : BufTy).Contents (Elt Ideal) := m ((c : Thread nD τ).loc main_arg7)
abbrev A8 (c : Dev nD) : (⟨S4x1024, .f32⟩ : BufTy).Contents (Elt Ideal) := m ((c : Thread nD τ).loc main_arg8)
abbrev A9 (c : Dev nD) : (⟨S2x8192x1024, .f32⟩ : BufTy).Contents (Elt Ideal) := m ((c : Thread nD τ).loc main_arg9)
abbrev A10 (c : Dev nD) : (⟨S4x1024, .f32⟩ : BufTy).Contents (Elt Ideal) := m ((c : Thread nD τ).loc main_arg10)

/-! ### The arrays the host code prepares. -/

theorem V_v0 (c : Dev nD) : (V m c main_v0 : (⟨S4x1024x1024, .bf16⟩ : BufTy).Contents (Elt Ideal)) = truncf (F := Ideal) .bf16 (A4 m c) bitsLt_bf16_f32 := by
  show StableHlo.after (List.flatten [hostOps0, hostOps0_1, hostOps0_2]) _ (Proc.devRef .tc main_v0) = _
  simp only [hostOps0, hostOps0_1, hostOps0_2, List.flatten_cons, List.flatten_nil, List.append_nil, List.cons_append, List.nil_append]
  after_results

theorem V_v1 (c : Dev nD) : (V m c main_v1 : (⟨S4x1024x1024, .bf16⟩ : BufTy).Contents (Elt Ideal)) = truncf (F := Ideal) .bf16 (A5 m c) bitsLt_bf16_f32 := by
  show StableHlo.after (List.flatten [hostOps0, hostOps0_1, hostOps0_2]) _ (Proc.devRef .tc main_v1) = _
  simp only [hostOps0, hostOps0_1, hostOps0_2, List.flatten_cons, List.flatten_nil, List.append_nil, List.cons_append, List.nil_append]
  after_results

theorem V_v2 (c : Dev nD) : (V m c main_v2 : (⟨S4x1024x1024, .bf16⟩ : BufTy).Contents (Elt Ideal)) = truncf (F := Ideal) .bf16 (A6 m c) bitsLt_bf16_f32 := by
  show StableHlo.after (List.flatten [hostOps0, hostOps0_1, hostOps0_2]) _ (Proc.devRef .tc main_v2) = _
  simp only [hostOps0, hostOps0_1, hostOps0_2, List.flatten_cons, List.flatten_nil, List.append_nil, List.cons_append, List.nil_append]
  after_results

theorem V_v3 (c : Dev nD) : (V m c main_v3 : (⟨S4x1024x1024, .bf16⟩ : BufTy).Contents (Elt Ideal)) = truncf (F := Ideal) .bf16 (A7 m c) bitsLt_bf16_f32 := by
  show StableHlo.after (List.flatten [hostOps0, hostOps0_1, hostOps0_2]) _ (Proc.devRef .tc main_v3) = _
  simp only [hostOps0, hostOps0_1, hostOps0_2, List.flatten_cons, List.flatten_nil, List.append_nil, List.cons_append, List.nil_append]
  after_results

theorem V_v5 (c : Dev nD) : (V m c main_v5 : (⟨S16384x1024, .bf16⟩ : BufTy).Contents (Elt Ideal)) = truncf (F := Ideal) .bf16 (shapeCast S16384x1024 (A0 m c) shapeCasts_S2x8192x1024_S16384x1024) bitsLt_bf16_f32 := by
  show StableHlo.after (List.flatten [hostOps0, hostOps0_1, hostOps0_2]) _ (Proc.devRef .tc main_v5) = _
  simp only [hostOps0, hostOps0_1, hostOps0_2, List.flatten_cons, List.flatten_nil, List.append_nil, List.cons_append, List.nil_append]
  after_results
  rfl

theorem V_v7 (c : Dev nD) : (V m c main_v7 : (⟨S16384x1024, .bf16⟩ : BufTy).Contents (Elt Ideal)) = truncf (F := Ideal) .bf16 (shapeCast S16384x1024 (A1 m c) shapeCasts_S2x8192x1024_S16384x1024) bitsLt_bf16_f32 := by
  show StableHlo.after (List.flatten [hostOps0, hostOps0_1, hostOps0_2]) _ (Proc.devRef .tc main_v7) = _
  simp only [hostOps0, hostOps0_1, hostOps0_2, List.flatten_cons, List.flatten_nil, List.append_nil, List.cons_append, List.nil_append]
  after_results
  rfl

theorem V_v9 (c : Dev nD) : (V m c main_v9 : (⟨S16384x1024, .bf16⟩ : BufTy).Contents (Elt Ideal)) = truncf (F := Ideal) .bf16 (shapeCast S16384x1024 (A2 m c) shapeCasts_S2x8192x1024_S16384x1024) bitsLt_bf16_f32 := by
  show StableHlo.after (List.flatten [hostOps0, hostOps0_1, hostOps0_2]) _ (Proc.devRef .tc main_v9) = _
  simp only [hostOps0, hostOps0_1, hostOps0_2, List.flatten_cons, List.flatten_nil, List.append_nil, List.cons_append, List.nil_append]
  after_results
  rfl

theorem V_v23 (c : Dev nD) : (V m c main_v23 : (⟨S16384x1024, .f32⟩ : BufTy).Contents (Elt Ideal)) = shapeCast S16384x1024 (A9 m c) shapeCasts_S2x8192x1024_S16384x1024 := by
  show StableHlo.after (List.flatten [hostOps0, hostOps0_1, hostOps0_2]) _ (Proc.devRef .tc main_v23) = _
  simp only [hostOps0, hostOps0_1, hostOps0_2, List.flatten_cons, List.flatten_nil, List.append_nil, List.cons_append, List.nil_append]
  after_results
  rfl

theorem V_v26 (c : Dev nD) : (V m c main_v26 : (⟨S1x1024, .f32⟩ : BufTy).Contents (Elt Ideal)) = shapeCast S1x1024 (shapeCast S1024 (extractStridedSlice S1x1024 ![3, 0] (A8 m c) slices_S4x1024_S1x1024_3_0) shapeCasts_S1x1024_S1024) shapeCasts_S1024_S1x1024 := by
  show StableHlo.after (List.flatten [hostOps0, hostOps0_1, hostOps0_2]) _ (Proc.devRef .tc main_v26) = _
  simp only [hostOps0, hostOps0_1, hostOps0_2, List.flatten_cons, List.flatten_nil, List.append_nil, List.cons_append, List.nil_append]
  after_results
  rfl

theorem V_v27 (c : Dev nD) : (V m c main_v27 : (⟨S1x1024, .f32⟩ : BufTy).Contents (Elt Ideal)) = shapeCast S1x1024 (shapeCast S1024 (extractStridedSlice S1x1024 ![3, 0] (A10 m c) slices_S4x1024_S1x1024_3_0) shapeCasts_S1x1024_S1024) shapeCasts_S1024_S1x1024 := by
  show StableHlo.after (List.flatten [hostOps0, hostOps0_1, hostOps0_2]) _ (Proc.devRef .tc main_v27) = _
  simp only [hostOps0, hostOps0_1, hostOps0_2, List.flatten_cons, List.flatten_nil, List.append_nil, List.cons_append, List.nil_append]
  after_results
  rfl

/-- The prepared projection's third part is the branches' gates; the other parts do not matter here. -/
theorem V_v20 (c : Dev nD) : ∃ x1 x2 x4 x5, (V m c main_v20 : (⟨S16384x9216, .bf16⟩ : BufTy).Contents (Elt Ideal)) = shapeCast S16384x9216 (truncf (F := Ideal) .bf16 (concatenate S2x8192x9216 2
    [⟨S2x8192x3072, x1⟩, ⟨S2x8192x1024, x2⟩, ⟨S2x8192x3072, extractStridedSlice S2x8192x3072 ![0, 0, 5680] (A3 m c) slices_S2x8192x8752_S2x8192x3072_0_0_5680⟩, ⟨S2x8192x1536, x4⟩, ⟨S2x8192x512, x5⟩]
    concatenates_S2x8192x3072_S2x8192x1024_S2x8192x3072_S2x8192x1536_S2x8192x512_S2x8192x9216_d2) bitsLt_bf16_f32) shapeCasts_S2x8192x9216_S16384x9216 := by
  show ∃ x1 x2 x4 x5, StableHlo.after (List.flatten [hostOps0, hostOps0_1, hostOps0_2]) _ (Proc.devRef .tc main_v20) = _
  simp only [hostOps0, hostOps0_1, hostOps0_2, List.flatten_cons, List.flatten_nil, List.append_nil, List.cons_append, List.nil_append]
  after_results
  refine ⟨_, _, _, _, congrArg (fun z : (⟨S2x8192x3072, .f32⟩ : BufTy).Contents (Elt Ideal) => shapeCast S16384x9216 (truncf (F := Ideal) .bf16 (concatenate S2x8192x9216 2
    [⟨S2x8192x3072, _⟩, ⟨S2x8192x1024, _⟩, ⟨S2x8192x3072, z⟩, ⟨S2x8192x1536, _⟩, ⟨S2x8192x512, _⟩]
    concatenates_S2x8192x3072_S2x8192x1024_S2x8192x3072_S2x8192x1536_S2x8192x512_S2x8192x9216_d2) bitsLt_bf16_f32) shapeCasts_S2x8192x9216_S16384x9216) ?_⟩
  refine Eq.trans (b := StableHlo.after (List.flatten [hostOps0, hostOps0_1, hostOps0_2]) (fun b => m (c, b)) (Proc.devRef .tc main_v16)) ?_ ?_
  · simp only [hostOps0, hostOps0_1, hostOps0_2, List.flatten_cons, List.flatten_nil, List.append_nil, List.cons_append, List.nil_append]
    after_results
    rfl
  · simp only [hostOps0, hostOps0_1, hostOps0_2, List.flatten_cons, List.flatten_nil, List.append_nil, List.cons_append, List.nil_append]
    after_results

set_option maxRecDepth 16384 in
theorem flat_apply (z : Vec Ideal S2x8192x1024 .f32) (R : Fin 16384) (d : Fin 1024) :
    shapeCast S16384x1024 z shapeCasts_S2x8192x1024_S16384x1024 (ix2 R d) = row z R d := by
  pointwise
  rfl

set_option maxRecDepth 16384 in
theorem gain_apply (z : Vec Ideal S4x1024 .f32) (d : Fin 1024) :
    shapeCast S1x1024 (shapeCast S1024 (extractStridedSlice S1x1024 ![3, 0] z slices_S4x1024_S1x1024_3_0) shapeCasts_S1x1024_S1024) shapeCasts_S1024_S1x1024 (ix2 0 d) = z (ix2 3 d) := by
  pointwise

set_option maxRecDepth 16384 in
theorem wide_apply (z : Vec Ideal S2x8192x9216 .f32) (R : Fin 16384) (D : Fin 9216) :
    shapeCast S16384x9216 (truncf (F := Ideal) .bf16 z bitsLt_bf16_f32) shapeCasts_S2x8192x9216_S16384x9216 (ix2 R D) = z (ix3 ⟨R.1 / 8192, by omega⟩ ⟨R.1 % 8192, by omega⟩ D) := by
  pointwise

/-- A row's gate number `i` in column `k`, in the plain projection. -/
def gates (z : S2x8192x8752.Idx → EReal) (i : Fin 3) (R : Fin 16384) (k : Fin 1024) : EReal :=
  z (ix3 ⟨R.1 / 8192, by omega⟩ ⟨R.1 % 8192, by omega⟩ ⟨5680 + 1024 * i.1 + k.1, by omega⟩)

set_option maxRecDepth 16384 in
theorem third_apply (z : Vec Ideal S2x8192x8752 .f32) (x1 : Vec Ideal S2x8192x3072 .f32) (x2 : Vec Ideal S2x8192x1024 .f32) (x4 : Vec Ideal S2x8192x1536 .f32) (x5 : Vec Ideal S2x8192x512 .f32) (β : Fin 2) (T : Fin 8192) (D : Fin 9216) (h0 : ¬ D.1 < 3072) (h1 : ¬ D.1 - 3072 < 1024) (h2 : D.1 - 3072 - 1024 < 3072) :
    concatenate S2x8192x9216 2
      [⟨S2x8192x3072, x1⟩, ⟨S2x8192x1024, x2⟩, ⟨S2x8192x3072, extractStridedSlice S2x8192x3072 ![0, 0, 5680] z slices_S2x8192x8752_S2x8192x3072_0_0_5680⟩, ⟨S2x8192x1536, x4⟩, ⟨S2x8192x512, x5⟩]
      concatenates_S2x8192x3072_S2x8192x1024_S2x8192x3072_S2x8192x1536_S2x8192x512_S2x8192x9216_d2 (ix3 β T D)
      = z (ix3 β T ⟨5680 + (D.1 - 3072 - 1024), by omega⟩) := by
  pointwise
  simp only [h0, h1, h2, dite_true, dite_false]

theorem v20_apply (c : Dev nD) (i : Fin 3) (R : Fin 16384) (k : Fin 1024) (D : Fin 9216) (hD : D.1 = 4096 + 1024 * i.1 + k.1) :
    (V m c main_v20 : (⟨S16384x9216, .bf16⟩ : BufTy).Contents (Elt Ideal)) (ix2 R D) = gates (A3 m c) i R k := by
  obtain ⟨x1, x2, x4, x5, h⟩ := V_v20 m c
  refine (congrFun h (ix2 R D)).trans ((wide_apply _ R D).trans ?_)
  refine (third_apply (A3 m c) x1 x2 x4 x5 _ _ D (by omega) (by omega) (by omega)).trans ?_
  refine congrArg (A3 m c) ?_
  refine congrArg (ix3 _ _) (Fin.ext ?_)
  show 5680 + (D.1 - 3072 - 1024) = 5680 + 1024 * i.1 + k.1
  omega

end Cert.Merge

end
-- ==== Proof.Merge.Array.lean ====
module

public import proofs.«01_k».proof.Proof.Merge.Input

@[expose] public section

noncomputable section

namespace Cert.Merge

open Idealize.ShloMosaic Idealize.ShloMosaic.TcCoe Idealize.SL.Sem
open Cert.MergeIdeal Cert.MergeIdeal.Gen Cert.MergeIdeal.Value Cert.Layer Cert.Merge.Block

/-! ### What the call leaves, row by row, from the layer's arrays. -/

section Spec

variable (oa ob oc : S2x8192x1024.Idx → EReal) (proj : S2x8192x8752.Idx → EReal) (wa wb wc wo : S4x1024x1024.Idx → EReal) (gp : S4x1024.Idx → EReal) (x : S2x8192x1024.Idx → EReal) (gn : S4x1024.Idx → EReal)

/-- The residual after the branches. -/
def newX (R : Fin 16384) (j : Fin 1024) : EReal :=
  row x R j + norm (fun j => ∑ k, merged (gates proj 0 R) (gates proj 1 R) (gates proj 2 R) (row oa R) (row ob R) (row oc R)
    (fun d k => wa (ix3 3 d k)) (fun d k => wb (ix3 3 d k)) (fun d k => wc (ix3 3 d k)) k * wo (ix3 3 k j)) (fun j => gp (ix2 3 j)) j

/-- Its normalisation for the channel mixing. -/
def newH (R : Fin 16384) (j : Fin 1024) : EReal :=
  norm (newX oa ob oc proj wa wb wc wo gp x R) (fun j => gn (ix2 3 j)) j

end Spec

variable (m : (ℓ : Loc nD τ sig) → Buf (Elt Ideal) ℓ)

/-! ### The windows' blocks. -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index11 : ∀ t : Fin cfg0.N, win0_11.index t (0 : Fin 2) = t.val ∧ win0_11.index t (1 : Fin 2) = 0 :=
  (by decide +kernel : ∀ t : Fin grid0.N, _)
theorem index13 : ∀ t : Fin cfg0.N, win0_13.index t (0 : Fin 2) = t.val ∧ win0_13.index t (1 : Fin 2) = 0 :=
  (by decide +kernel : ∀ t : Fin grid0.N, _)
theorem index14 : ∀ t : Fin cfg0.N, win0_14.index t (0 : Fin 2) = t.val ∧ win0_14.index t (1 : Fin 2) = 0 :=
  (by decide +kernel : ∀ t : Fin grid0.N, _)
theorem index3 : ∀ t : Fin cfg0.N, win0_3.index t (0 : Fin 2) = t.val ∧ win0_3.index t (1 : Fin 2) = 4 :=
  (by decide +kernel : ∀ t : Fin grid0.N, _)
theorem index4 : ∀ t : Fin cfg0.N, win0_4.index t (0 : Fin 2) = t.val ∧ win0_4.index t (1 : Fin 2) = 5 :=
  (by decide +kernel : ∀ t : Fin grid0.N, _)
theorem index5 : ∀ t : Fin cfg0.N, win0_5.index t (0 : Fin 2) = t.val ∧ win0_5.index t (1 : Fin 2) = 6 :=
  (by decide +kernel : ∀ t : Fin grid0.N, _)
theorem index6 : ∀ t : Fin cfg0.N, win0_6.index t (0 : Fin 3) = 3 ∧ win0_6.index t (1 : Fin 3) = 0 ∧ win0_6.index t (2 : Fin 3) = 0 :=
  (by decide +kernel : ∀ t : Fin grid0.N, _)
theorem index7 : ∀ t : Fin cfg0.N, win0_7.index t (0 : Fin 3) = 3 ∧ win0_7.index t (1 : Fin 3) = 0 ∧ win0_7.index t (2 : Fin 3) = 0 :=
  (by decide +kernel : ∀ t : Fin grid0.N, _)
theorem index8 : ∀ t : Fin cfg0.N, win0_8.index t (0 : Fin 3) = 3 ∧ win0_8.index t (1 : Fin 3) = 0 ∧ win0_8.index t (2 : Fin 3) = 0 :=
  (by decide +kernel : ∀ t : Fin grid0.N, _)
theorem index9 : ∀ t : Fin cfg0.N, win0_9.index t (0 : Fin 3) = 3 ∧ win0_9.index t (1 : Fin 3) = 0 ∧ win0_9.index t (2 : Fin 3) = 0 :=
  (by decide +kernel : ∀ t : Fin grid0.N, _)
theorem index10 : ∀ t : Fin cfg0.N, win0_10.index t (0 : Fin 2) = 0 ∧ win0_10.index t (1 : Fin 2) = 0 :=
  (by decide +kernel : ∀ t : Fin grid0.N, _)
theorem index12 : ∀ t : Fin cfg0.N, win0_12.index t (0 : Fin 2) = 0 ∧ win0_12.index t (1 : Fin 2) = 0 :=
  (by decide +kernel : ∀ t : Fin grid0.N, _)

theorem lt_points (t : Fin cfg0.N) : t.1 < 32 := lt_of_lt_of_eq t.2 (show cfg0.N = 32 from N_0)

/-- The row of the whole array under row `r` of block `t`. -/
abbrev rowOf (t : Fin cfg0.N) (r : Fin 512) : Fin 16384 := ⟨512 * t.1 + r.1, by have := lt_points t; omega⟩

theorem x0_apply (c : Dev nD) (t : Fin cfg0.N) (r : Fin 512) (d : Fin 1024) : (iblk m c 0 t : Vec Ideal S512x1024 .bf16) (ix2 r d) = row (A0 m c) (rowOf t r) d := by
  have hi := index0 t
  show (V m c main_v5 : (⟨S16384x1024, .bf16⟩ : BufTy).Contents (Elt Ideal)) (((cfg0.win 0).blk t).view.emb (ix2 r d)) = _
  rw [show ((cfg0.win 0).blk t).view.emb (ix2 r d) = (ix2 (rowOf t r) d : S16384x1024.Idx) from by
    funext a
    apply Fin.ext
    match a with
    | ⟨0, _⟩ => show win0_0.index t 0 * 512 + 1 * r.1 = 512 * t.1 + r.1; rw [hi.1]; omega
    | ⟨1, _⟩ => show win0_0.index t 1 * 1024 + 1 * d.1 = d.1; rw [hi.2]; omega]
  exact (congrFun (V_v5 m c) (ix2 (rowOf t r) d)).trans (flat_apply (A0 m c) _ d)

theorem x1_apply (c : Dev nD) (t : Fin cfg0.N) (r : Fin 512) (d : Fin 1024) : (iblk m c 1 t : Vec Ideal S512x1024 .bf16) (ix2 r d) = row (A1 m c) (rowOf t r) d := by
  have hi := index1 t
  show (V m c main_v7 : (⟨S16384x1024, .bf16⟩ : BufTy).Contents (Elt Ideal)) (((cfg0.win 1).blk t).view.emb (ix2 r d)) = _
  rw [show ((cfg0.win 1).blk t).view.emb (ix2 r d) = (ix2 (rowOf t r) d : S16384x1024.Idx) from by
    funext a
    apply Fin.ext
    match a with
    | ⟨0, _⟩ => show win0_1.index t 0 * 512 + 1 * r.1 = 512 * t.1 + r.1; rw [hi.1]; omega
    | ⟨1, _⟩ => show win0_1.index t 1 * 1024 + 1 * d.1 = d.1; rw [hi.2]; omega]
  exact (congrFun (V_v7 m c) (ix2 (rowOf t r) d)).trans (flat_apply (A1 m c) _ d)

theorem x2_apply (c : Dev nD) (t : Fin cfg0.N) (r : Fin 512) (d : Fin 1024) : (iblk m c 2 t : Vec Ideal S512x1024 .bf16) (ix2 r d) = row (A2 m c) (rowOf t r) d := by
  have hi := index2 t
  show (V m c main_v9 : (⟨S16384x1024, .bf16⟩ : BufTy).Contents (Elt Ideal)) (((cfg0.win 2).blk t).view.emb (ix2 r d)) = _
  rw [show ((cfg0.win 2).blk t).view.emb (ix2 r d) = (ix2 (rowOf t r) d : S16384x1024.Idx) from by
    funext a
    apply Fin.ext
    match a with
    | ⟨0, _⟩ => show win0_2.index t 0 * 512 + 1 * r.1 = 512 * t.1 + r.1; rw [hi.1]; omega
    | ⟨1, _⟩ => show win0_2.index t 1 * 1024 + 1 * d.1 = d.1; rw [hi.2]; omega]
  exact (congrFun (V_v9 m c) (ix2 (rowOf t r) d)).trans (flat_apply (A2 m c) _ d)

theorem x11_apply (c : Dev nD) (t : Fin cfg0.N) (r : Fin 512) (d : Fin 1024) : (iblk m c 11 t : Vec Ideal S512x1024 .f32) (ix2 r d) = row (A9 m c) (rowOf t r) d := by
  have hi := index11 t
  show (V m c main_v23 : (⟨S16384x1024, .f32⟩ : BufTy).Contents (Elt Ideal)) (((cfg0.win 11).blk t).view.emb (ix2 r d)) = _
  rw [show ((cfg0.win 11).blk t).view.emb (ix2 r d) = (ix2 (rowOf t r) d : S16384x1024.Idx) from by
    funext a
    apply Fin.ext
    match a with
    | ⟨0, _⟩ => show win0_11.index t 0 * 512 + 1 * r.1 = 512 * t.1 + r.1; rw [hi.1]; omega
    | ⟨1, _⟩ => show win0_11.index t 1 * 1024 + 1 * d.1 = d.1; rw [hi.2]; omega]
  exact (congrFun (V_v23 m c) (ix2 (rowOf t r) d)).trans (flat_apply (A9 m c) _ d)

theorem x3_apply (c : Dev nD) (t : Fin cfg0.N) (r : Fin 512) (k : Fin 1024) : (iblk m c 3 t : Vec Ideal S512x1024 .bf16) (ix2 r k) = gates (A3 m c) 0 (rowOf t r) k := by
  have hi := index3 t
  show (V m c main_v20 : (⟨S16384x9216, .bf16⟩ : BufTy).Contents (Elt Ideal)) (((cfg0.win 3).blk t).view.emb (ix2 r k)) = _
  rw [show ((cfg0.win 3).blk t).view.emb (ix2 r k) = (ix2 (rowOf t r) ⟨4096 + k.1, by omega⟩ : S16384x9216.Idx) from by
    funext a
    apply Fin.ext
    match a with
    | ⟨0, _⟩ => show win0_3.index t 0 * 512 + 1 * r.1 = 512 * t.1 + r.1; rw [hi.1]; omega
    | ⟨1, _⟩ => show win0_3.index t 1 * 1024 + 1 * k.1 = 4096 + k.1; rw [hi.2]; omega]
  exact v20_apply m c 0 (rowOf t r) k _ (by show 4096 + k.1 = 4096 + 1024 * 0 + k.1; omega)

theorem x4_apply (c : Dev nD) (t : Fin cfg0.N) (r : Fin 512) (k : Fin 1024) : (iblk m c 4 t : Vec Ideal S512x1024 .bf16) (ix2 r k) = gates (A3 m c) 1 (rowOf t r) k := by
  have hi := index4 t
  show (V m c main_v20 : (⟨S16384x9216, .bf16⟩ : BufTy).Contents (Elt Ideal)) (((cfg0.win 4).blk t).view.emb (ix2 r k)) = _
  rw [show ((cfg0.win 4).blk t).view.emb (ix2 r k) = (ix2 (rowOf t r) ⟨5120 + k.1, by omega⟩ : S16384x9216.Idx) from by
    funext a
    apply Fin.ext
    match a with
    | ⟨0, _⟩ => show win0_4.index t 0 * 512 + 1 * r.1 = 512 * t.1 + r.1; rw [hi.1]; omega
    | ⟨1, _⟩ => show win0_4.index t 1 * 1024 + 1 * k.1 = 5120 + k.1; rw [hi.2]; omega]
  exact v20_apply m c 1 (rowOf t r) k _ (by show 5120 + k.1 = 4096 + 1024 * 1 + k.1; omega)

theorem x5_apply (c : Dev nD) (t : Fin cfg0.N) (r : Fin 512) (k : Fin 1024) : (iblk m c 5 t : Vec Ideal S512x1024 .bf16) (ix2 r k) = gates (A3 m c) 2 (rowOf t r) k := by
  have hi := index5 t
  show (V m c main_v20 : (⟨S16384x9216, .bf16⟩ : BufTy).Contents (Elt Ideal)) (((cfg0.win 5).blk t).view.emb (ix2 r k)) = _
  rw [show ((cfg0.win 5).blk t).view.emb (ix2 r k) = (ix2 (rowOf t r) ⟨6144 + k.1, by omega⟩ : S16384x9216.Idx) from by
    funext a
    apply Fin.ext
    match a with
    | ⟨0, _⟩ => show win0_5.index t 0 * 512 + 1 * r.1 = 512 * t.1 + r.1; rw [hi.1]; omega
    | ⟨1, _⟩ => show win0_5.index t 1 * 1024 + 1 * k.1 = 6144 + k.1; rw [hi.2]; omega]
  exact v20_apply m c 2 (rowOf t r) k _ (by show 6144 + k.1 = 4096 + 1024 * 2 + k.1; omega)

theorem x6_apply (c : Dev nD) (t : Fin cfg0.N) (d k : Fin 1024) : (iblk m c 6 t : Vec Ideal S1x1024x1024 .bf16) (ix3 0 d k) = A4 m c (ix3 3 d k) := by
  have hi := index6 t
  show (V m c main_v0 : (⟨S4x1024x1024, .bf16⟩ : BufTy).Contents (Elt Ideal)) (((cfg0.win 6).blk t).view.emb (ix3 0 d k)) = _
  rw [V_v0]
  refine congrArg (A4 m c) ?_
  funext a
  apply Fin.ext
  match a with
  | ⟨0, _⟩ => show win0_6.index t 0 * 1 + 1 * 0 = 3; rw [hi.1]
  | ⟨1, _⟩ => show win0_6.index t 1 * 1024 + 1 * d.1 = d.1; rw [hi.2.1]; omega
  | ⟨2, _⟩ => show win0_6.index t 2 * 1024 + 1 * k.1 = k.1; rw [hi.2.2]; omega

theorem x7_apply (c : Dev nD) (t : Fin cfg0.N) (d k : Fin 1024) : (iblk m c 7 t : Vec Ideal S1x1024x1024 .bf16) (ix3 0 d k) = A5 m c (ix3 3 d k) := by
  have hi := index7 t
  show (V m c main_v1 : (⟨S4x1024x1024, .bf16⟩ : BufTy).Contents (Elt Ideal)) (((cfg0.win 7).blk t).view.emb (ix3 0 d k)) = _
  rw [V_v1]
  refine congrArg (A5 m c) ?_
  funext a
  apply Fin.ext
  match a with
  | ⟨0, _⟩ => show win0_7.index t 0 * 1 + 1 * 0 = 3; rw [hi.1]
  | ⟨1, _⟩ => show win0_7.index t 1 * 1024 + 1 * d.1 = d.1; rw [hi.2.1]; omega
  | ⟨2, _⟩ => show win0_7.index t 2 * 1024 + 1 * k.1 = k.1; rw [hi.2.2]; omega

theorem x8_apply (c : Dev nD) (t : Fin cfg0.N) (d k : Fin 1024) : (iblk m c 8 t : Vec Ideal S1x1024x1024 .bf16) (ix3 0 d k) = A6 m c (ix3 3 d k) := by
  have hi := index8 t
  show (V m c main_v2 : (⟨S4x1024x1024, .bf16⟩ : BufTy).Contents (Elt Ideal)) (((cfg0.win 8).blk t).view.emb (ix3 0 d k)) = _
  rw [V_v2]
  refine congrArg (A6 m c) ?_
  funext a
  apply Fin.ext
  match a with
  | ⟨0, _⟩ => show win0_8.index t 0 * 1 + 1 * 0 = 3; rw [hi.1]
  | ⟨1, _⟩ => show win0_8.index t 1 * 1024 + 1 * d.1 = d.1; rw [hi.2.1]; omega
  | ⟨2, _⟩ => show win0_8.index t 2 * 1024 + 1 * k.1 = k.1; rw [hi.2.2]; omega

theorem x9_apply (c : Dev nD) (t : Fin cfg0.N) (d k : Fin 1024) : (iblk m c 9 t : Vec Ideal S1x1024x1024 .bf16) (ix3 0 d k) = A7 m c (ix3 3 d k) := by
  have hi := index9 t
  show (V m c main_v3 : (⟨S4x1024x1024, .bf16⟩ : BufTy).Contents (Elt Ideal)) (((cfg0.win 9).blk t).view.emb (ix3 0 d k)) = _
  rw [V_v3]
  refine congrArg (A7 m c) ?_
  funext a
  apply Fin.ext
  match a with
  | ⟨0, _⟩ => show win0_9.index t 0 * 1 + 1 * 0 = 3; rw [hi.1]
  | ⟨1, _⟩ => show win0_9.index t 1 * 1024 + 1 * d.1 = d.1; rw [hi.2.1]; omega
  | ⟨2, _⟩ => show win0_9.index t 2 * 1024 + 1 * k.1 = k.1; rw [hi.2.2]; omega

theorem x10_apply (c : Dev nD) (t : Fin cfg0.N) (d : Fin 1024) : (iblk m c 10 t : Vec Ideal S1x1024 .f32) (ix2 0 d) = A8 m c (ix2 3 d) := by
  have hi := index10 t
  show (V m c main_v26 : (⟨S1x1024, .f32⟩ : BufTy).Contents (Elt Ideal)) (((cfg0.win 10).blk t).view.emb (ix2 0 d)) = _
  rw [show ((cfg0.win 10).blk t).view.emb (ix2 0 d) = (ix2 0 d : S1x1024.Idx) from by
    funext a
    apply Fin.ext
    match a with
    | ⟨0, _⟩ => show win0_10.index t 0 * 1 + 1 * 0 = 0; rw [hi.1]
    | ⟨1, _⟩ => show win0_10.index t 1 * 1024 + 1 * d.1 = d.1; rw [hi.2]; omega]
  exact (congrFun (V_v26 m c) (ix2 0 d)).trans (gain_apply (A8 m c) d)

theorem x12_apply (c : Dev nD) (t : Fin cfg0.N) (d : Fin 1024) : (iblk m c 12 t : Vec Ideal S1x1024 .f32) (ix2 0 d) = A10 m c (ix2 3 d) := by
  have hi := index12 t
  show (V m c main_v27 : (⟨S1x1024, .f32⟩ : BufTy).Contents (Elt Ideal)) (((cfg0.win 12).blk t).view.emb (ix2 0 d)) = _
  rw [show ((cfg0.win 12).blk t).view.emb (ix2 0 d) = (ix2 0 d : S1x1024.Idx) from by
    funext a
    apply Fin.ext
    match a with
    | ⟨0, _⟩ => show win0_12.index t 0 * 1 + 1 * 0 = 0; rw [hi.1]
    | ⟨1, _⟩ => show win0_12.index t 1 * 1024 + 1 * d.1 = d.1; rw [hi.2]; omega]
  exact (congrFun (V_v27 m c) (ix2 0 d)).trans (gain_apply (A10 m c) d)

theorem resid_eq (c : Dev nD) (t : Fin cfg0.N) (r : Fin 512) :
    resid (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r = newX (A0 m c) (A1 m c) (A2 m c) (A3 m c) (A4 m c) (A5 m c) (A6 m c) (A7 m c) (A8 m c) (A9 m c) (rowOf t r) := by
  funext j
  unfold resid newX
  simp only [x0_apply, x1_apply, x2_apply, x3_apply, x4_apply, x5_apply, x6_apply, x7_apply, x8_apply, x9_apply, x10_apply, x11_apply]

theorem flush13 : ∀ t : Fin cfg0.N, (cfg0.win 13).flush t = true := (by decide +kernel : ∀ t : Fin grid0.N, _)
theorem flush14 : ∀ t : Fin cfg0.N, (cfg0.win 14).flush t = true := (by decide +kernel : ∀ t : Fin grid0.N, _)

/-- The first result after the run. -/
theorem result13 (c : Dev nD) (R : Fin 16384) (j : Fin 1024) :
    ((dats m 0 c).arrAt 13 cfg0.N : (⟨S16384x1024, .f32⟩ : BufTy).Contents (Elt Ideal)) (ix2 R j) = newX (A0 m c) (A1 m c) (A2 m c) (A3 m c) (A4 m c) (A5 m c) (A6 m c) (A7 m c) (A8 m c) (A9 m c) R j := by
  have hN : cfg0.N = 32 := N_0
  have hi := index13 ⟨R.1 / 512, by omega⟩
  have hR : rowOf ⟨R.1 / 512, by omega⟩ ⟨R.1 % 512, by omega⟩ = R := Fin.ext (by show 512 * (R.1 / 512) + R.1 % 512 = R.1; omega)
  have h := congrFun ((blocks13 m c ⟨R.1 / 512, by omega⟩ (flush13 _)).trans (flushed13 m c _)) (ix2 (⟨R.1 % 512, by omega⟩ : Fin 512) j)
  refine Eq.trans (congrArg ((dats m 0 c).arrAt 13 cfg0.N : (⟨S16384x1024, .f32⟩ : BufTy).Contents (Elt Ideal)) ?_) (h.trans ?_)
  · funext a
    apply Fin.ext
    match a with
    | ⟨0, _⟩ => show R.1 = win0_13.index ⟨R.1 / 512, _⟩ 0 * 512 + 1 * (R.1 % 512); rw [hi.1]; show R.1 = R.1 / 512 * 512 + 1 * (R.1 % 512); omega
    | ⟨1, _⟩ => show j.1 = win0_13.index ⟨R.1 / 512, _⟩ 1 * 1024 + 1 * j.1; rw [hi.2]; omega
  · refine (out13_apply _ _ _ _ _ _ _ _ _ _ _ _ _ (⟨R.1 % 512, by omega⟩ : Fin 512) j).trans ?_
    rw [resid_eq, hR]

/-- The second result after the run. -/
theorem result14 (c : Dev nD) (R : Fin 16384) (j : Fin 1024) :
    ((dats m 0 c).arrAt 14 cfg0.N : (⟨S16384x1024, .bf16⟩ : BufTy).Contents (Elt Ideal)) (ix2 R j) = newH (A0 m c) (A1 m c) (A2 m c) (A3 m c) (A4 m c) (A5 m c) (A6 m c) (A7 m c) (A8 m c) (A9 m c) (A10 m c) R j := by
  have hN : cfg0.N = 32 := N_0
  have hi := index14 ⟨R.1 / 512, by omega⟩
  have hR : rowOf ⟨R.1 / 512, by omega⟩ ⟨R.1 % 512, by omega⟩ = R := Fin.ext (by show 512 * (R.1 / 512) + R.1 % 512 = R.1; omega)
  have h := congrFun ((blocks14 m c ⟨R.1 / 512, by omega⟩ (flush14 _)).trans (flushed14 m c _)) (ix2 (⟨R.1 % 512, by omega⟩ : Fin 512) j)
  refine Eq.trans (congrArg ((dats m 0 c).arrAt 14 cfg0.N : (⟨S16384x1024, .bf16⟩ : BufTy).Contents (Elt Ideal)) ?_) (h.trans ?_)
  · funext a
    apply Fin.ext
    match a with
    | ⟨0, _⟩ => show R.1 = win0_14.index ⟨R.1 / 512, _⟩ 0 * 512 + 1 * (R.1 % 512); rw [hi.1]; show R.1 = R.1 / 512 * 512 + 1 * (R.1 % 512); omega
    | ⟨1, _⟩ => show j.1 = win0_14.index ⟨R.1 / 512, _⟩ 1 * 1024 + 1 * j.1; rw [hi.2]; omega
  · refine (out14_apply _ _ _ _ _ _ _ _ _ _ _ _ _ (⟨R.1 % 512, by omega⟩ : Fin 512) j).trans ?_
    rw [resid_eq, hR]
    simp only [x12_apply]
    rfl

end Cert.Merge

end
-- ==== Proof.Merge.RefValue.lean ====
module

public import proofs.«01_k».proof.Proof.Gen.MergeRefIdeal.Run
public import proofs.«01_k».proof.Proof.Merge.Array

@[expose] public section

noncomputable section

namespace Cert.Merge.Ref

open Idealize.ShloMosaic Idealize.ShloMosaic.TcCoe Idealize.SL.Sem
open Cert.MergeRefIdeal Cert.MergeRefIdeal.Gen Cert.Layer Cert.Merge.Block

variable (oa ob oc : Vec Ideal S2x8192x1024 .f32) (proj : Vec Ideal S2x8192x8752 .f32) (wa wb wc wo : Vec Ideal S4x1024x1024 .f32)
  (gp : Vec Ideal S4x1024 .f32) (x : Vec Ideal S2x8192x1024 .f32) (gn : Vec Ideal S4x1024 .f32)

/-- The three branches' gates side by side. -/
def sig3 : Vec Ideal S2x8192x3072 .f32 :=
  Host.divf (F := Ideal) (φ := .f32) (broadcastInDim S2x8192x3072 ![] bcast_S_S2x8192x3072 (constant S_ .f32 0x3F800000#32))
    (addf (F := Ideal) (φ := .f32) (broadcastInDim S2x8192x3072 ![] bcast_S_S2x8192x3072 (constant S_ .f32 0x3F800000#32))
      (Host.exp (F := Ideal) (φ := .f32) (Host.negf (F := Ideal) (φ := .f32) (extractStridedSlice S2x8192x3072 ![0, 0, 5680] proj slices_S2x8192x8752_S2x8192x3072_0_0_5680))))

/-- A row against a layer's square weights. -/
def times (z : Vec Ideal S2x8192x1024 .f32) (w : Vec Ideal S4x1024x1024 .f32) : Vec Ideal S2x8192x1024 .f32 :=
  Host.dotGeneral (F := Ideal) (φ₁ := .f32) (φ₂ := .f32) dot_S2x8192x1024_S1024x1024_S2x8192x1024_2_0_01_1_n_n none z (shapeCast S1024x1024 (extractStridedSlice S1x1024x1024 ![3, 0, 0] w slices_S4x1024x1024_S1x1024x1024_3_0_0) shapeCasts_S1x1024x1024_S1024x1024)

/-- The three branches' sum. -/
def total : Vec Ideal S2x8192x1024 .f32 :=
  addf (F := Ideal) (φ := .f32) (addf (F := Ideal) (φ := .f32)
    (mulf (F := Ideal) (φ := .f32) (extractStridedSlice S2x8192x1024 ![0, 0, 0] (sig3 proj) slices_S2x8192x3072_S2x8192x1024_0_0_0) (times oa wa))
    (mulf (F := Ideal) (φ := .f32) (extractStridedSlice S2x8192x1024 ![0, 0, 1024] (sig3 proj) slices_S2x8192x3072_S2x8192x1024_0_0_1024) (times ob wb)))
    (mulf (F := Ideal) (φ := .f32) (extractStridedSlice S2x8192x1024 ![0, 0, 2048] (sig3 proj) slices_S2x8192x3072_S2x8192x1024_0_0_2048) (times oc wc))

/-- The normalisation. -/
def normed (z : Vec Ideal S2x8192x1024 .f32) (g : Vec Ideal S1024 .f32) : Vec Ideal S2x8192x1024 .f32 :=
  mulf (F := Ideal) (mulf z (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf z z) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- The new residual. -/
def resid : Vec Ideal S2x8192x1024 .f32 :=
  addf (F := Ideal) (φ := .f32) x (normed (times (total oa ob oc proj wa wb wc) wo) (shapeCast S1024 (extractStridedSlice S1x1024 ![3, 0] gp slices_S4x1024_S1x1024_3_0) shapeCasts_S1x1024_S1024))

set_option maxRecDepth 16384 in
theorem sig3_apply (β : Fin 2) (T : Fin 8192) (k : Fin 3072) :
    sig3 proj (ix3 β T k) = gate (proj (ix3 β T ⟨5680 + k.1, by omega⟩)) := by
  pointwise [sig3]
  rfl

set_option maxRecDepth 16384 in
theorem times_apply (z : Vec Ideal S2x8192x1024 .f32) (w : Vec Ideal S4x1024x1024 .f32) (β : Fin 2) (T : Fin 8192) (j : Fin 1024) :
    times z w (ix3 β T j) = ∑ d, z (ix3 β T d) * w (ix3 3 d j) := by
  pointwise [times]

/-- A row's gate number `i` in column `k`. -/
def gateOf (i : Fin 3) (β : Fin 2) (T : Fin 8192) (k : Fin 1024) : EReal := proj (ix3 β T ⟨5680 + 1024 * i.1 + k.1, by omega⟩)

set_option maxRecDepth 16384 in
theorem cut_apply (z : Vec Ideal S2x8192x3072 .f32) (o : ℕ) (ho : o ≤ 2048) (inb) (β : Fin 2) (T : Fin 8192) (k : Fin 1024) :
    extractStridedSlice S2x8192x1024 ![0, 0, o] z inb (ix3 β T k) = z (ix3 β T ⟨o + k.1, by omega⟩) := by
  pointwise

theorem total_apply (β : Fin 2) (T : Fin 8192) (k : Fin 1024) :
    total oa ob oc proj wa wb wc (ix3 β T k) = merged (gateOf proj 0 β T) (gateOf proj 1 β T) (gateOf proj 2 β T) (fun d => oa (ix3 β T d)) (fun d => ob (ix3 β T d)) (fun d => oc (ix3 β T d))
      (fun d k => wa (ix3 3 d k)) (fun d k => wb (ix3 3 d k)) (fun d k => wc (ix3 3 d k)) k := by
  have e0 : extractStridedSlice S2x8192x1024 ![0, 0, 0] (sig3 proj) slices_S2x8192x3072_S2x8192x1024_0_0_0 (ix3 β T k) = gate (gateOf proj 0 β T k) :=
    (cut_apply (sig3 proj) 0 (by omega) _ β T k).trans ((sig3_apply proj β T _).trans (congrArg (fun D => gate (proj (ix3 β T D))) (Fin.ext (by show 5680 + (0 + k.1) = 5680 + 1024 * 0 + k.1; omega))))
  have e1 : extractStridedSlice S2x8192x1024 ![0, 0, 1024] (sig3 proj) slices_S2x8192x3072_S2x8192x1024_0_0_1024 (ix3 β T k) = gate (gateOf proj 1 β T k) :=
    (cut_apply (sig3 proj) 1024 (by omega) _ β T k).trans ((sig3_apply proj β T _).trans (congrArg (fun D => gate (proj (ix3 β T D))) (Fin.ext (by show 5680 + (1024 + k.1) = 5680 + 1024 * 1 + k.1; omega))))
  have e2 : extractStridedSlice S2x8192x1024 ![0, 0, 2048] (sig3 proj) slices_S2x8192x3072_S2x8192x1024_0_0_2048 (ix3 β T k) = gate (gateOf proj 2 β T k) :=
    (cut_apply (sig3 proj) 2048 (by omega) _ β T k).trans ((sig3_apply proj β T _).trans (congrArg (fun D => gate (proj (ix3 β T D))) (Fin.ext (by show 5680 + (2048 + k.1) = 5680 + 1024 * 2 + k.1; omega))))
  exact congrArg₂ (· + ·) (congrArg₂ (· + ·) (congrArg₂ (· * ·) e0 (times_apply oa wa β T k)) (congrArg₂ (· * ·) e1 (times_apply ob wb β T k)))
    (congrArg₂ (· * ·) e2 (times_apply oc wc β T k))

set_option maxRecDepth 16384 in
theorem normed_apply (z : Vec Ideal S2x8192x1024 .f32) (g : Vec Ideal S1024 .f32) (β : Fin 2) (T : Fin 8192) (j : Fin 1024) :
    normed z g (ix3 β T j) = norm (fun j => z (ix3 β T j)) (fun j => g (ix1 j)) j := by
  pointwise [normed]
  rfl

set_option maxRecDepth 16384 in
theorem gain_apply (g : Vec Ideal S4x1024 .f32) (j : Fin 1024) :
    shapeCast S1024 (extractStridedSlice S1x1024 ![3, 0] g slices_S4x1024_S1x1024_3_0) shapeCasts_S1x1024_S1024 (ix1 j) = g (ix2 3 j) := by
  pointwise

theorem resid_apply (β : Fin 2) (T : Fin 8192) (j : Fin 1024) :
    resid oa ob oc proj wa wb wc wo gp x (ix3 β T j) = x (ix3 β T j) + norm (fun j => ∑ k, merged (gateOf proj 0 β T) (gateOf proj 1 β T) (gateOf proj 2 β T) (fun d => oa (ix3 β T d)) (fun d => ob (ix3 β T d)) (fun d => oc (ix3 β T d))
      (fun d k => wa (ix3 3 d k)) (fun d k => wb (ix3 3 d k)) (fun d k => wc (ix3 3 d k)) k * wo (ix3 3 k j)) (fun j => gp (ix2 3 j)) j := by
  show x (ix3 β T j) + normed _ _ (ix3 β T j) = _
  rw [normed_apply]
  simp only [times_apply, total_apply]
  refine congrArg (fun z => x (ix3 β T j) + norm _ z j) (funext fun i => ?_)
  exact gain_apply gp i

set_option maxRecDepth 16384 in
theorem flat_apply (z : Vec Ideal S2x8192x1024 .f32) (R : Fin 16384) (d : Fin 1024) :
    shapeCast S16384x1024 z shapeCasts_S2x8192x1024_S16384x1024 (ix2 R d) = row z R d := by
  pointwise
  rfl

/-- The reference's first result. -/
theorem first_apply (R : Fin 16384) (j : Fin 1024) :
    shapeCast S16384x1024 (resid oa ob oc proj wa wb wc wo gp x) shapeCasts_S2x8192x1024_S16384x1024 (ix2 R j) = newX oa ob oc proj wa wb wc wo gp x R j := by
  rw [flat_apply]
  exact resid_apply oa ob oc proj wa wb wc wo gp x _ _ j

/-- The reference's second result. -/
theorem second_apply (R : Fin 16384) (j : Fin 1024) :
    truncf (F := Ideal) .bf16 (shapeCast S16384x1024 (normed (resid oa ob oc proj wa wb wc wo gp x) (shapeCast S1024 (extractStridedSlice S1x1024 ![3, 0] gn slices_S4x1024_S1x1024_3_0) shapeCasts_S1x1024_S1024)) shapeCasts_S2x8192x1024_S16384x1024) bitsLt_bf16_f32 (ix2 R j) = newH oa ob oc proj wa wb wc wo gp x gn R j := by
  refine (flat_apply (normed (resid oa ob oc proj wa wb wc wo gp x) _) R j).trans ?_
  unfold row
  rw [normed_apply]
  simp only [resid_apply]
  refine congrArg (fun z => norm _ z j) (funext fun i => ?_)
  exact gain_apply gn i

end Cert.Merge.Ref

end
-- ==== Proof.MemAttn.Block.lean ====
module

public import proofs.«01_k».proof.Proof.Gen.MemAttnIdeal.Value
public import proofs.«01_k».proof.Proof.Layer.Math

@[expose] public section

noncomputable section

namespace Cert.MemAttn.Block

open Idealize.ShloMosaic Idealize.ShloMosaic.TcCoe Idealize.SL.Sem
open Cert.MemAttnIdeal Cert.MemAttnIdeal.Gen Cert.Layer

/-- A row's largest score. -/
def top (s : Fin 256 → EReal) : EReal := Finset.univ.fold max (Ideal.ofBits .f32 0xFF800000#32) s

/-- The softmax of a row's scores against a column of values. -/
def att (s v : Fin 256 → EReal) : EReal :=
  ∑ j, Ideal.div (Ideal.exp (s j - top s)) (∑ i, Ideal.exp (s i - top s)) * v j

/-- One sixteenth, as the kernel's word. -/
theorem sixteenth_bf16 : Ideal.ofBits .bf16 0x3D80#16 = ((1 / 16 : ℝ) : EReal) := by
  simp [Ideal.ofBits, Ideal.ieee]
  rw [← EReal.coe_mul]
  norm_num

/-- One sixteenth, as the reference's word. -/
theorem sixteenth_f32 : Ideal.ofBits .f32 0x3D800000#32 = ((1 / 16 : ℝ) : EReal) := by
  simp [Ideal.ofBits, Ideal.ieee]
  rw [← EReal.coe_mul]
  norm_num

/-- A nonnegative real factor may be taken out of a sum. -/
theorem sum_mul {ι : Type} (t : Finset ι) (f : ι → EReal) (c : ℝ) (hc : 0 ≤ c) : (∑ i ∈ t, f i) * (c : EReal) = ∑ i ∈ t, f i * (c : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

/-- A score: the product of a query and a key, a sixteenth of it. -/
def score (q k : Fin 256 → EReal) : EReal := (∑ d, q d * k d) * Ideal.ofBits .f32 0x3D800000#32

/-- The kernel scales the queries instead. -/
theorem score_eq (q k : Fin 256 → EReal) : ∑ d, q d * Ideal.ofBits .bf16 0x3D80#16 * k d = score q k := by
  unfold score
  rw [sixteenth_bf16, sixteenth_f32, sum_mul _ _ _ (by norm_num)]
  exact Finset.sum_congr rfl fun d _ => mul_right_comm _ _ _

/-- A head's scores. -/
def scores (q : FVec Ideal S512x256 .bf16) (k : FVec Ideal S256x256 .bf16) : FVec Ideal S512x256 .f32 :=
  matmul dot_S512x256_S256x256_S512x256_1_1_0_0_n_n none q k (constant S512x256 .f32 0x00000000#32)

/-- The exponentials of the scores less their row's largest. -/
def exps (s : FVec Ideal S512x256 .f32) : FVec Ideal S512x256 .f32 :=
  exp (subf s (broadcastTo S512x256 (shapeCast S512x1 (multiReduction .maximumf [1] S512 s 0xFF800000#32 reduces_S512x256_S512 (.inl rfl) rfl) shapeCasts_S512_S512x1) broadcasts_S512x1_S512x256))

/-- The rows divided by their sums. -/
def shares (e : FVec Ideal S512x256 .f32) : FVec Ideal S512x256 .f32 :=
  divf e (broadcastTo S512x256 (shapeCast S512x1 (multiReduction .add [1] S512 e 0x00000000#32 reduces_S512x256_S512 (.inl rfl) rfl) shapeCasts_S512_S512x1) broadcasts_S512x1_S512x256)

/-- A head's result. -/
def head (q : FVec Ideal S512x256 .bf16) (k v : FVec Ideal S256x256 .bf16) : FVec Ideal S512x256 .f32 :=
  matmul dot_S512x256_S256x256_S512x256_1_0_0_1_n_n none (truncf .bf16 (shares (exps (scores q k))) bitsLt_bf16_f32) v (constant S512x256 .f32 0x00000000#32)

/-- A head's scaled queries. -/
def query (x : FVec Ideal S512x1024 .bf16) (o : ℕ) (h : S512x1024.Slices ![0, o] S512x256) : FVec Ideal S512x256 .bf16 :=
  mulf (extractStridedSlice S512x256 ![0, o] x h) (broadcast S512x256 (Scalar.ofBits .bf16 0x3D80#16))

set_option maxRecDepth 16384 in
theorem scores_apply (q : FVec Ideal S512x256 .bf16) (k : FVec Ideal S256x256 .bf16) (r : Fin 512) (j : Fin 256) :
    scores q k (ix2 r j) = ∑ d, q (ix2 r d) * k (ix2 j d) := by
  pointwise [scores]

set_option maxRecDepth 16384 in
theorem exps_apply (s : FVec Ideal S512x256 .f32) (r : Fin 512) (j : Fin 256) :
    exps s (ix2 r j) = Ideal.exp (s (ix2 r j) - top fun i => s (ix2 r i)) := by
  pointwise [exps]
  rfl

set_option maxRecDepth 16384 in
theorem shares_apply (e : FVec Ideal S512x256 .f32) (r : Fin 512) (j : Fin 256) :
    shares e (ix2 r j) = Ideal.div (e (ix2 r j)) (∑ i, e (ix2 r i)) := by
  pointwise [shares]

set_option maxRecDepth 16384 in
theorem query_apply (x : FVec Ideal S512x1024 .bf16) (o : ℕ) (ho : o ≤ 768) (h : S512x1024.Slices ![0, o] S512x256) (r : Fin 512) (d : Fin 256) :
    query x o h (ix2 r d) = x (ix2 r ⟨o + d.1, by omega⟩) * Ideal.ofBits .bf16 0x3D80#16 := by
  pointwise [query]

set_option maxRecDepth 16384 in
theorem head_apply (q : FVec Ideal S512x256 .bf16) (k v : FVec Ideal S256x256 .bf16) (r : Fin 512) (e : Fin 256) :
    head q k v (ix2 r e) = att (fun j => ∑ d, q (ix2 r d) * k (ix2 j d)) (fun j => v (ix2 j e)) := by
  have h : head q k v (ix2 r e) = ∑ j, shares (exps (scores q k)) (ix2 r j) * v (ix2 j e) := by
    unfold head
    generalize shares (exps (scores q k)) = z
    pointwise
  rw [h]
  simp only [shares_apply, exps_apply, scores_apply]
  rfl

set_option maxRecDepth 16384 in
theorem cut_apply (x : FVec Ideal S256x2048 .bf16) (o : ℕ) (ho : o ≤ 1792) (h : S256x2048.Slices ![0, o] S256x256) (j e : Fin 256) :
    extractStridedSlice S256x256 ![0, o] x h (ix2 j e) = x (ix2 j ⟨o + e.1, by omega⟩) := by
  pointwise

/-- A head of the block, from the block's queries and the keys and values. -/
def blockHead (x0 : Vec Ideal S512x1024 .bf16) (x1 : Vec Ideal S1x256x2048 .bf16) (r : Fin 512) (D : Fin 1024) : EReal :=
  att (fun j => score (fun d => x0 (ix2 r ⟨D.1 / 256 * 256 + d.1, by omega⟩)) (fun d => x1 (ix3 0 j ⟨D.1 / 256 * 256 + d.1, by omega⟩)))
    (fun j => x1 (ix3 0 j ⟨1024 + D.1, by omega⟩))

set_option maxRecDepth 16384 in
theorem pay2_apply (x : Vec Ideal S512x1024 .bf16) (r : Fin 512) (d : Fin 1024) : k0_pay2 (F := Ideal) x (ix2 r d) = x (ix2 r d) := by
  pointwise [k0_pay2]

set_option maxRecDepth 16384 in
theorem pay3_apply (x : Vec Ideal S1x256x2048 .bf16) (j : Fin 256) (d : Fin 2048) : k0_pay3 (F := Ideal) x (ix2 j d) = x (ix3 0 j d) := by
  pointwise [k0_pay3]

theorem part_apply (x0 : Vec Ideal S512x1024 .bf16) (x1 : Vec Ideal S1x256x2048 .bf16) (o o' : ℕ) (ho : o ≤ 768) (ho' : o' = 1024 + o) (h : S512x1024.Slices ![0, o] S512x256)
    (hk : S256x2048.Slices ![0, o] S256x256) (hv : S256x2048.Slices ![0, o'] S256x256) (r : Fin 512) (e : Fin 256) (D : Fin 1024) (h1 : D.1 / 256 * 256 = o) (h2 : D.1 = o + e.1) :
    head (query (k0_pay2 x0) o h) (extractStridedSlice S256x256 ![0, o] (k0_pay3 x1) hk) (extractStridedSlice S256x256 ![0, o'] (k0_pay3 x1) hv) (ix2 r e) = blockHead x0 x1 r D := by
  subst ho'
  rw [head_apply]
  simp only [query_apply _ _ ho, cut_apply _ _ (show o ≤ 1792 by omega), cut_apply _ _ (show 1024 + o ≤ 1792 by omega), pay2_apply, pay3_apply]
  unfold blockHead
  refine congrArg₂ att (funext fun j => ?_) (funext fun j => ?_)
  · rw [score_eq]
    refine congrArg₂ score (funext fun d => ?_) (funext fun d => ?_)
    · exact congrArg (fun i => x0 (ix2 r i)) (Fin.ext (by show o + d.1 = D.1 / 256 * 256 + d.1; omega))
    · exact congrArg (fun i => x1 (ix3 0 j i)) (Fin.ext (by show o + d.1 = D.1 / 256 * 256 + d.1; omega))
  · exact congrArg (fun i => x1 (ix3 0 j i)) (Fin.ext (by show 1024 + o + e.1 = 1024 + D.1; omega))

theorem pay4_eq (v0 : Vec Ideal S512x1024 .bf16) (v2 : Vec Ideal S1x256x2048 .bf16) :
    k0_pay4 (F := Ideal) v0 v2 = head (query (k0_pay2 v0) 0 slices_S512x1024_o0_0_S512x256) (extractStridedSlice S256x256 ![0, 0] (k0_pay3 v2) slices_S256x2048_o0_0_S256x256)
      (extractStridedSlice S256x256 ![0, 1024] (k0_pay3 v2) slices_S256x2048_o0_1024_S256x256) := rfl

theorem pay5_eq (v0 : Vec Ideal S512x1024 .bf16) (v2 : Vec Ideal S1x256x2048 .bf16) :
    k0_pay5 (F := Ideal) v0 v2 = head (query (k0_pay2 v0) 256 slices_S512x1024_o0_256_S512x256) (extractStridedSlice S256x256 ![0, 256] (k0_pay3 v2) slices_S256x2048_o0_256_S256x256)
      (extractStridedSlice S256x256 ![0, 1280] (k0_pay3 v2) slices_S256x2048_o0_1280_S256x256) := rfl

theorem pay1_eq (v0 : Vec Ideal S512x1024 .bf16) (v2 : Vec Ideal S1x256x2048 .bf16) (v20 v37 : FVec Ideal S512x256 .f32) :
    k0_pay1 (F := Ideal) (k0_pay2 v0) (k0_pay3 v2) v20 v37 (k0_pay6 v0) (k0_pay7 v2) = truncf (F := Ideal) .bf16 (concatenate S512x1024 1 [⟨S512x256, v20⟩, ⟨S512x256, v37⟩,
        ⟨S512x256, head (query (k0_pay2 v0) 512 slices_S512x1024_o0_512_S512x256) (extractStridedSlice S256x256 ![0, 512] (k0_pay3 v2) slices_S256x2048_o0_512_S256x256)
          (extractStridedSlice S256x256 ![0, 1536] (k0_pay3 v2) slices_S256x2048_o0_1536_S256x256)⟩,
        ⟨S512x256, head (query (k0_pay2 v0) 768 slices_S512x1024_o0_768_S512x256) (extractStridedSlice S256x256 ![0, 768] (k0_pay3 v2) slices_S256x2048_o0_768_S256x256)
          (extractStridedSlice S256x256 ![0, 1792] (k0_pay3 v2) slices_S256x2048_o0_1792_S256x256)⟩] concatenates_S512x256_S512x256_S512x256_S512x256_S512x1024_d1) bitsLt_bf16_f32 := rfl

/-- Four heads side by side. -/
def four (a b c d : FVec Ideal S512x256 .f32) : FVec Ideal S512x1024 .bf16 :=
  truncf (F := Ideal) .bf16 (concatenate S512x1024 1 [⟨S512x256, a⟩, ⟨S512x256, b⟩, ⟨S512x256, c⟩, ⟨S512x256, d⟩] concatenates_S512x256_S512x256_S512x256_S512x256_S512x1024_d1) bitsLt_bf16_f32

set_option maxRecDepth 16384 in
theorem four_apply (a b c d : FVec Ideal S512x256 .f32) (r : Fin 512) (D : Fin 1024) :
    four a b c d (ix2 r D) = if h : D.1 < 256 then a (ix2 r ⟨D.1, h⟩) else if h : D.1 - 256 < 256 then b (ix2 r ⟨D.1 - 256, h⟩)
      else if h : D.1 - 256 - 256 < 256 then c (ix2 r ⟨D.1 - 256 - 256, h⟩) else d (ix2 r ⟨D.1 - 256 - 256 - 256, by omega⟩) := by
  pointwise [four]
  try rfl

theorem zero2 : (![0, 0] : Fin 2 → Nat) = fun _ => 0 := funext fun a => by fin_cases a <;> rfl
theorem zero3 : (![0, 0, 0] : Fin 3 → Nat) = fun _ => 0 := funext fun a => by fin_cases a <;> rfl

/-- What a block writes. -/
theorem out2_apply (x0 : Vec Ideal S512x1024 .bf16) (x1 : Vec Ideal S1x256x2048 .bf16) (r : Fin 512) (D : Fin 1024) : out0_2 x0 x1 (ix2 r D) = blockHead x0 x1 r D := by
  unfold out0_2
  rw [View.canon_unit_zero zero2]
  have e0 : View.ld x0 r0_0 = x0 := View.ld_unit_zero zero2 _ _
  have e1 : View.ld x1 r0_1 = x1 := View.ld_unit_zero zero3 _ _
  rw [e0, e1, pay1_eq, pay4_eq, pay5_eq]
  refine (four_apply _ _ _ _ r D).trans ?_
  split_ifs with h1 h2 h3
  · exact part_apply x0 x1 0 1024 (by omega) rfl _ _ _ r _ D (by omega) (by show D.1 = 0 + D.1; omega)
  · exact part_apply x0 x1 256 1280 (by omega) rfl _ _ _ r _ D (by omega) (by show D.1 = 256 + (D.1 - 256); omega)
  · exact part_apply x0 x1 512 1536 (by omega) rfl _ _ _ r _ D (by omega) (by show D.1 = 512 + (D.1 - 256 - 256); omega)
  · exact part_apply x0 x1 768 1792 (by omega) rfl _ _ _ r _ D (by omega) (by show D.1 = 768 + (D.1 - 256 - 256 - 256); omega)

end Cert.MemAttn.Block

end
-- ==== Proof.MemAttn.Array.lean ====
module

public import proofs.«01_k».proof.Proof.MemAttn.Block

@[expose] public section

noncomputable section

namespace Cert.MemAttn

open Idealize.ShloMosaic Idealize.ShloMosaic.TcCoe Idealize.SL.Sem
open Cert.MemAttnIdeal Cert.MemAttnIdeal.Gen Cert.MemAttnIdeal.Value Cert.Layer Cert.MemAttn.Block

/-- What the call leaves at a row and a column, from the layer's arrays: the column's head attends to the memory's 256 slots. -/
def result (proj : S2x8192x8752.Idx → EReal) (kv : S2x256x2048.Idx → EReal) (R : Fin 16384) (D : Fin 1024) : EReal :=
  att (fun j => score (fun d => proj (ix3 ⟨R.1 / 8192, by omega⟩ ⟨R.1 % 8192, by omega⟩ ⟨4656 + (D.1 / 256 * 256 + d.1), by omega⟩)) (fun d => kv (ix3 ⟨R.1 / 8192, by omega⟩ j ⟨D.1 / 256 * 256 + d.1, by omega⟩)))
    (fun j => kv (ix3 ⟨R.1 / 8192, by omega⟩ j ⟨1024 + D.1, by omega⟩))

variable (m : (ℓ : Loc nD τ sig) → Buf (Elt Ideal) ℓ)

abbrev A0 (c : Dev nD) : (⟨S2x8192x8752, .f32⟩ : BufTy).Contents (Elt Ideal) := m ((c : Thread nD τ).loc main_arg0)
abbrev A1 (c : Dev nD) : (⟨S2x256x2048, .f32⟩ : BufTy).Contents (Elt Ideal) := m ((c : Thread nD τ).loc main_arg1)

/-! ### The arrays the host code prepares. -/

theorem V_v11 (c : Dev nD) : (V m c main_v11 : (⟨S2x256x2048, .bf16⟩ : BufTy).Contents (Elt Ideal)) = truncf (F := Ideal) .bf16 (A1 m c) bitsLt_bf16_f32 := by
  show StableHlo.after (List.flatten [hostOps0, hostOps0_1, hostOps0_2]) _ (Proc.devRef .tc main_v11) = _
  simp only [hostOps0, hostOps0_1, hostOps0_2, List.flatten_cons, List.flatten_nil, List.append_nil, List.cons_append, List.nil_append]
  after_results

/-- The prepared projection's second part is the queries to the memory; the other parts do not matter here. -/
theorem V_v10 (c : Dev nD) : ∃ x1 x3 x4 x5, (V m c main_v10 : (⟨S16384x9216, .bf16⟩ : BufTy).Contents (Elt Ideal)) = shapeCast S16384x9216 (truncf (F := Ideal) .bf16 (concatenate S2x8192x9216 2
    [⟨S2x8192x3072, x1⟩, ⟨S2x8192x1024, extractStridedSlice S2x8192x1024 ![0, 0, 4656] (A0 m c) slices_S2x8192x8752_S2x8192x1024_0_0_4656⟩, ⟨S2x8192x3072, x3⟩, ⟨S2x8192x1536, x4⟩, ⟨S2x8192x512, x5⟩]
    concatenates_S2x8192x3072_S2x8192x1024_S2x8192x3072_S2x8192x1536_S2x8192x512_S2x8192x9216_d2) bitsLt_bf16_f32) shapeCasts_S2x8192x9216_S16384x9216 := by
  show ∃ x1 x3 x4 x5, StableHlo.after (List.flatten [hostOps0, hostOps0_1, hostOps0_2]) _ (Proc.devRef .tc main_v10) = _
  simp only [hostOps0, hostOps0_1, hostOps0_2, List.flatten_cons, List.flatten_nil, List.append_nil, List.cons_append, List.nil_append]
  after_results
  refine ⟨_, _, _, _, congrArg (fun z : (⟨S2x8192x1024, .f32⟩ : BufTy).Contents (Elt Ideal) => shapeCast S16384x9216 (truncf (F := Ideal) .bf16 (concatenate S2x8192x9216 2
    [⟨S2x8192x3072, _⟩, ⟨S2x8192x1024, z⟩, ⟨S2x8192x3072, _⟩, ⟨S2x8192x1536, _⟩, ⟨S2x8192x512, _⟩]
    concatenates_S2x8192x3072_S2x8192x1024_S2x8192x3072_S2x8192x1536_S2x8192x512_S2x8192x9216_d2) bitsLt_bf16_f32) shapeCasts_S2x8192x9216_S16384x9216) ?_⟩
  refine Eq.trans (b := StableHlo.after (List.flatten [hostOps0, hostOps0_1, hostOps0_2]) (fun b => m (c, b)) (Proc.devRef .tc main_v5)) ?_ ?_
  · simp only [hostOps0, hostOps0_1, hostOps0_2, List.flatten_cons, List.flatten_nil, List.append_nil, List.cons_append, List.nil_append]
    after_results
    rfl
  · simp only [hostOps0, hostOps0_1, hostOps0_2, List.flatten_cons, List.flatten_nil, List.append_nil, List.cons_append, List.nil_append]
    after_results

set_option maxRecDepth 16384 in
theorem wide_apply (z : Vec Ideal S2x8192x9216 .f32) (R : Fin 16384) (D : Fin 9216) :
    shapeCast S16384x9216 (truncf (F := Ideal) .bf16 z bitsLt_bf16_f32) shapeCasts_S2x8192x9216_S16384x9216 (ix2 R D) = z (ix3 ⟨R.1 / 8192, by omega⟩ ⟨R.1 % 8192, by omega⟩ D) := by
  pointwise

set_option maxRecDepth 16384 in
theorem second_apply (z : Vec Ideal S2x8192x8752 .f32) (x1 : Vec Ideal S2x8192x3072 .f32) (x3 : Vec Ideal S2x8192x3072 .f32) (x4 : Vec Ideal S2x8192x1536 .f32) (x5 : Vec Ideal S2x8192x512 .f32) (β : Fin 2) (T : Fin 8192) (D : Fin 9216) (h0 : ¬ D.1 < 3072) (h1 : D.1 - 3072 < 1024) :
    concatenate S2x8192x9216 2
      [⟨S2x8192x3072, x1⟩, ⟨S2x8192x1024, extractStridedSlice S2x8192x1024 ![0, 0, 4656] z slices_S2x8192x8752_S2x8192x1024_0_0_4656⟩, ⟨S2x8192x3072, x3⟩, ⟨S2x8192x1536, x4⟩, ⟨S2x8192x512, x5⟩]
      concatenates_S2x8192x3072_S2x8192x1024_S2x8192x3072_S2x8192x1536_S2x8192x512_S2x8192x9216_d2 (ix3 β T D)
      = z (ix3 β T ⟨4656 + (D.1 - 3072), by omega⟩) := by
  pointwise
  simp only [h0, h1, dite_true, dite_false]

theorem v10_apply (c : Dev nD) (R : Fin 16384) (k : Fin 1024) (D : Fin 9216) (hD : D.1 = 3072 + k.1) :
    (V m c main_v10 : (⟨S16384x9216, .bf16⟩ : BufTy).Contents (Elt Ideal)) (ix2 R D) = A0 m c (ix3 ⟨R.1 / 8192, by omega⟩ ⟨R.1 % 8192, by omega⟩ ⟨4656 + k.1, by omega⟩) := by
  obtain ⟨x1, x3, x4, x5, h⟩ := V_v10 m c
  refine (congrFun h (ix2 R D)).trans ((wide_apply _ R D).trans ?_)
  refine (second_apply (A0 m c) x1 x3 x4 x5 _ _ D (by omega) (by omega)).trans ?_
  refine congrArg (A0 m c) ?_
  refine congrArg (ix3 _ _) (Fin.ext ?_)
  show 4656 + (D.1 - 3072) = 4656 + k.1
  omega

/-! ### The windows' blocks. -/

theorem index0 : ∀ t : Fin cfg0.N, win0_0.index t (0 : Fin 2) = t.val ∧ win0_0.index t (1 : Fin 2) = 3 :=
  (by decide +kernel : ∀ t : Fin grid0.N, _)
theorem index1 : ∀ t : Fin cfg0.N, win0_1.index t (0 : Fin 3) = t.val / 16 ∧ win0_1.index t (1 : Fin 3) = 0 ∧ win0_1.index t (2 : Fin 3) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)

theorem lt_points (t : Fin cfg0.N) : t.1 < 32 := lt_of_lt_of_eq t.2 (show cfg0.N = 32 from N_0)

/-- The row of the whole array under row `r` of block `t`. -/
abbrev rowOf (t : Fin cfg0.N) (r : Fin 512) : Fin 16384 := ⟨512 * t.1 + r.1, by have := lt_points t; omega⟩

theorem x0_apply (c : Dev nD) (t : Fin cfg0.N) (r : Fin 512) (k : Fin 1024) : (iblk m c 0 t : Vec Ideal S512x1024 .bf16) (ix2 r k)
    = A0 m c (ix3 ⟨(rowOf t r).1 / 8192, by omega⟩ ⟨(rowOf t r).1 % 8192, by omega⟩ ⟨4656 + k.1, by omega⟩) := by
  have hi := index0 t
  show (V m c main_v10 : (⟨S16384x9216, .bf16⟩ : BufTy).Contents (Elt Ideal)) (((cfg0.win 0).blk t).view.emb (ix2 r k)) = _
  rw [show ((cfg0.win 0).blk t).view.emb (ix2 r k) = (ix2 (rowOf t r) ⟨3072 + k.1, by omega⟩ : S16384x9216.Idx) from by
    funext a
    apply Fin.ext
    match a with
    | ⟨0, _⟩ => show win0_0.index t 0 * 512 + 1 * r.1 = 512 * t.1 + r.1; rw [hi.1]; omega
    | ⟨1, _⟩ => show win0_0.index t 1 * 1024 + 1 * k.1 = 3072 + k.1; rw [hi.2]; omega]
  exact v10_apply m c (rowOf t r) k _ rfl

theorem x1_apply (c : Dev nD) (t : Fin cfg0.N) (r : Fin 512) (j : Fin 256) (d : Fin 2048) : (iblk m c 1 t : Vec Ideal S1x256x2048 .bf16) (ix3 0 j d)
    = A1 m c (ix3 ⟨(rowOf t r).1 / 8192, by omega⟩ j d) := by
  have hi := index1 t
  show (V m c main_v11 : (⟨S2x256x2048, .bf16⟩ : BufTy).Contents (Elt Ideal)) (((cfg0.win 1).blk t).view.emb (ix3 0 j d)) = _
  rw [V_v11]
  refine congrArg (A1 m c) ?_
  funext a
  apply Fin.ext
  match a with
  | ⟨0, _⟩ => show win0_1.index t 0 * 1 + 1 * 0 = (512 * t.1 + r.1) / 8192; rw [hi.1]; omega
  | ⟨1, _⟩ => show win0_1.index t 1 * 256 + 1 * j.1 = j.1; rw [hi.2.1]; omega
  | ⟨2, _⟩ => show win0_1.index t 2 * 2048 + 1 * d.1 = d.1; rw [hi.2.2]; omega

theorem head_eq (c : Dev nD) (t : Fin cfg0.N) (r : Fin 512) (D : Fin 1024) :
    blockHead (iblk m c 0 t) (iblk m c 1 t) r D = result (A0 m c) (A1 m c) (rowOf t r) D := by
  unfold blockHead result
  simp only [x0_apply, x1_apply m c t r]

theorem flush2 : ∀ t : Fin cfg0.N, (cfg0.win 2).flush t = true := (by decide +kernel : ∀ t : Fin grid0.N, _)

/-- The result after the run. -/
theorem result2 (c : Dev nD) (R : Fin 16384) (j : Fin 1024) :
    ((dats m 0 c).arrAt 2 cfg0.N : (⟨S16384x1024, .bf16⟩ : BufTy).Contents (Elt Ideal)) (ix2 R j) = result (A0 m c) (A1 m c) R j := by
  have hN : cfg0.N = 32 := N_0
  have hi := index2 ⟨R.1 / 512, by omega⟩
  have hR : rowOf ⟨R.1 / 512, by omega⟩ ⟨R.1 % 512, by omega⟩ = R := Fin.ext (by show 512 * (R.1 / 512) + R.1 % 512 = R.1; omega)
  have h := congrFun ((blocks2 m c ⟨R.1 / 512, by omega⟩ (flush2 _)).trans (flushed2 m c _)) (ix2 (⟨R.1 % 512, by omega⟩ : Fin 512) j)
  refine Eq.trans (congrArg ((dats m 0 c).arrAt 2 cfg0.N : (⟨S16384x1024, .bf16⟩ : BufTy).Contents (Elt Ideal)) ?_) (h.trans ?_)
  · funext a
    apply Fin.ext
    match a with
    | ⟨0, _⟩ => show R.1 = win0_2.index ⟨R.1 / 512, _⟩ 0 * 512 + 1 * (R.1 % 512); rw [hi.1]; show R.1 = R.1 / 512 * 512 + 1 * (R.1 % 512); omega
    | ⟨1, _⟩ => show j.1 = win0_2.index ⟨R.1 / 512, _⟩ 1 * 1024 + 1 * j.1; rw [hi.2]; omega
  · refine (out2_apply _ _ (⟨R.1 % 512, by omega⟩ : Fin 512) j).trans ?_
    rw [head_eq, hR]

end Cert.MemAttn

end
-- ==== Proof.MemAttn.RefValue.lean ====
module

public import proofs.«01_k».proof.Proof.Gen.MemAttnRefIdeal.Run
public import proofs.«01_k».proof.Proof.MemAttn.Array

@[expose] public section

noncomputable section

namespace Cert.MemAttn.Ref

open Idealize.ShloMosaic Idealize.ShloMosaic.TcCoe Idealize.SL.Sem
open Cert.MemAttnRefIdeal Cert.MemAttnRefIdeal.Gen Cert.Layer Cert.MemAttn.Block

variable (proj : Vec Ideal S2x8192x8752 .f32) (kv : Vec Ideal S2x256x2048 .f32)

/-- The queries by heads. -/
def queries : Vec Ideal S2x8192x4x256 .f32 :=
  shapeCast S2x8192x4x256 (extractStridedSlice S2x8192x1024 ![0, 0, 4656] proj slices_S2x8192x8752_S2x8192x1024_0_0_4656) shapeCasts_S2x8192x1024_S2x8192x4x256

/-- The keys by heads. -/
def keys : Vec Ideal S2x256x4x256 .f32 :=
  shapeCast S2x256x4x256 (extractStridedSlice S2x256x1x4x256 ![0, 0, 0, 0, 0] (shapeCast S2x256x2x4x256 kv shapeCasts_S2x256x2048_S2x256x2x4x256) slices_S2x256x2x4x256_S2x256x1x4x256_0_0_0_0_0) shapeCasts_S2x256x1x4x256_S2x256x4x256

/-- The values by heads. -/
def values : Vec Ideal S2x256x4x256 .f32 :=
  shapeCast S2x256x4x256 (extractStridedSlice S2x256x1x4x256 ![0, 0, 1, 0, 0] (shapeCast S2x256x2x4x256 kv shapeCasts_S2x256x2048_S2x256x2x4x256) slices_S2x256x2x4x256_S2x256x1x4x256_0_0_1_0_0) shapeCasts_S2x256x1x4x256_S2x256x4x256

/-- The scores. -/
def scores (q : Vec Ideal S2x8192x4x256 .f32) (k : Vec Ideal S2x256x4x256 .f32) : Vec Ideal S2x4x8192x256 .f32 :=
  mulf (F := Ideal) (φ := .f32) (Host.dotGeneral (F := Ideal) (φ₁ := .f32) (φ₂ := .f32) dot_S2x8192x4x256_S2x256x4x256_S2x4x8192x256_3_3_1_1_02_02 none q k)
    (broadcastInDim S2x4x8192x256 ![] bcast_S_S2x4x8192x256 (constant S_ .f32 0x3D800000#32))

/-- The rows' largest scores. -/
def tops (s : Vec Ideal S2x4x8192x256 .f32) : Vec Ideal S2x4x8192 .f32 :=
  maximumf (F := Ideal) (φ := .f32) (broadcastInDim S2x4x8192 ![] bcast_S_S2x4x8192 (constant S_ .f32 0xFF800000#32)) (Host.reduce FloatOps.maximumf s (constant (F := Ideal) S_ .f32 0xFF800000#32) reducesTo_S2x4x8192x256_S2x4x8192_d3 h_S_)

/-- The exponentials of the scores less `t`. -/
def exps (s : Vec Ideal S2x4x8192x256 .f32) (t : Vec Ideal S2x4x8192 .f32) : Vec Ideal S2x4x8192x256 .f32 :=
  Host.exp (F := Ideal) (φ := .f32) (subf (F := Ideal) (φ := .f32) s (broadcastInDim S2x4x8192x256 ![0, 1, 2, 3] bcast_S2x4x8192x1_S2x4x8192x256_0_1_2_3 (broadcastInDim S2x4x8192x1 ![0, 1, 2] bcast_S2x4x8192_S2x4x8192x1_0_1_2 t)))

/-- The rows divided by their sums. -/
def shares (e : Vec Ideal S2x4x8192x256 .f32) : Vec Ideal S2x4x8192x256 .f32 :=
  Host.divf (F := Ideal) (φ := .f32) e (broadcastInDim S2x4x8192x256 ![0, 1, 2, 3] bcast_S2x4x8192x1_S2x4x8192x256_0_1_2_3 (broadcastInDim S2x4x8192x1 ![0, 1, 2] bcast_S2x4x8192_S2x4x8192x1_0_1_2
    (Host.reduceAdd (F := Ideal) (φ := .f32) e (constant S_ .f32 0x00000000#32) reducesTo_S2x4x8192x256_S2x4x8192_d3 h_S_)))

/-- The heads' results. -/
def mixed (v : Vec Ideal S2x256x4x256 .f32) (p : Vec Ideal S2x4x8192x256 .f32) : Vec Ideal S2x8192x4x256 .f32 :=
  transpose S2x8192x4x256 [0, 3, 1, 2] (Host.dotGeneral (F := Ideal) (φ₁ := .f32) (φ₂ := .f32) dot_S2x256x4x256_S2x4x8192x256_S2x4x256x8192_1_3_3_2_02_01 none v p) transposes_S2x4x256x8192_S2x8192x4x256_0_3_1_2

/-- The reference's result. -/
def out : Vec Ideal S16384x1024 .bf16 :=
  truncf (F := Ideal) .bf16 (shapeCast S16384x1024 (mixed (values kv) (shares (exps (scores (queries proj) (keys kv)) (tops (scores (queries proj) (keys kv)))))) shapeCasts_S2x8192x4x256_S16384x1024) bitsLt_bf16_f32

set_option maxRecDepth 16384 in
theorem queries_apply (β : Fin 2) (T : Fin 8192) (h : Fin 4) (d : Fin 256) :
    queries proj (ix4 β T h d) = proj (ix3 β T ⟨4656 + (h.1 * 256 + d.1), by omega⟩) := by
  pointwise [queries]

set_option maxRecDepth 16384 in
theorem keys_apply (β : Fin 2) (j : Fin 256) (h : Fin 4) (d : Fin 256) :
    keys kv (ix4 β j h d) = kv (ix3 β j ⟨h.1 * 256 + d.1, by omega⟩) := by
  pointwise [keys]

set_option maxRecDepth 16384 in
theorem values_apply (β : Fin 2) (j : Fin 256) (h : Fin 4) (d : Fin 256) :
    values kv (ix4 β j h d) = kv (ix3 β j ⟨1024 + (h.1 * 256 + d.1), by omega⟩) := by
  pointwise [values]
  exact congrArg (fun i => kv (ix3 β j i)) (Fin.ext (Nat.add_assoc _ _ _))

set_option maxRecDepth 16384 in
theorem scores_apply (q : Vec Ideal S2x8192x4x256 .f32) (k : Vec Ideal S2x256x4x256 .f32) (β : Fin 2) (h : Fin 4) (T : Fin 8192) (j : Fin 256) :
    scores q k (ix4 β h T j) = score (fun d => q (ix4 β T h d)) (fun d => k (ix4 β j h d)) := by
  pointwise [scores]
  rfl

/-- A maximum over the last of four axes. -/
theorem reduce_max {n0 n1 n2 n3 : ℕ} {u : Shape} (s : (⟨4, ![n0, n1, n2, n3]⟩ : Shape).Idx → EReal) (c : u.Idx → EReal) (hr : (⟨4, ![n0, n1, n2, n3]⟩ : Shape).ReducesTo [3] ⟨3, ![n0, n1, n2]⟩)
    (hu : 0 < u.numel) (a : Fin n0) (b : Fin n1) (d : Fin n2) :
    Host.reduce (FloatOps.maximumf (F := Ideal) (φ := .f32)) s c hr hu (ix3 a b d) = Finset.univ.fold max (c (Shape.Idx.first hu)) fun i => s (ix4 a b d i) := by
  rw [Host.reduce_eq_fold]
  exact hr.fold_fiber_r4_a3 (ix3 a b d) (FloatOps.maximumf (F := Ideal) (φ := .f32)) _ s

/-- The same, of an array. -/
theorem reduced_apply (s : Vec Ideal S2x4x8192x256 .f32) (c : Vec Ideal S_ .f32) (β : Fin 2) (h : Fin 4) (T : Fin 8192) :
    Host.reduce (FloatOps.maximumf (F := Ideal) (φ := .f32)) s c reducesTo_S2x4x8192x256_S2x4x8192_d3 h_S_ (ix3 β h T) = Finset.univ.fold max (c (Shape.Idx.first h_S_)) fun i => s (ix4 β h T i) :=
  reduce_max s c reducesTo_S2x4x8192x256_S2x4x8192_d3 h_S_ β h T

theorem max_at {u : Shape} (a b : Vec Ideal u .f32) (i : u.Idx) : maximumf (F := Ideal) (φ := .f32) a b i = max (a i) (b i) := rfl

theorem tops_apply (s : Vec Ideal S2x4x8192x256 .f32) (β : Fin 2) (h : Fin 4) (T : Fin 8192) :
    tops s (ix3 β h T) = top fun i => s (ix4 β h T i) := by
  have hm : max (Ideal.ofBits .f32 0xFF800000#32) (top fun i => s (ix4 β h T i)) = top fun i => s (ix4 β h T i) :=
    max_eq_right ((Finset.le_fold_max _).mpr (Or.inl le_rfl))
  refine Eq.trans ?_ hm
  unfold tops
  refine (max_at _ _ (ix3 β h T)).trans (congrArg₂ max rfl ?_)
  exact (reduced_apply s _ β h T).trans rfl

set_option maxRecDepth 16384 in
theorem exps_apply (s : Vec Ideal S2x4x8192x256 .f32) (t : Vec Ideal S2x4x8192 .f32) (β : Fin 2) (h : Fin 4) (T : Fin 8192) (j : Fin 256) :
    exps s t (ix4 β h T j) = Ideal.exp (s (ix4 β h T j) - t (ix3 β h T)) := by
  pointwise [exps]

set_option maxRecDepth 16384 in
theorem shares_apply (e : Vec Ideal S2x4x8192x256 .f32) (β : Fin 2) (h : Fin 4) (T : Fin 8192) (j : Fin 256) :
    shares e (ix4 β h T j) = Ideal.div (e (ix4 β h T j)) (∑ i, e (ix4 β h T i)) := by
  pointwise [shares]

set_option maxRecDepth 16384 in
theorem mixed_apply (v : Vec Ideal S2x256x4x256 .f32) (p : Vec Ideal S2x4x8192x256 .f32) (β : Fin 2) (T : Fin 8192) (h : Fin 4) (e : Fin 256) :
    mixed v p (ix4 β T h e) = ∑ j, v (ix4 β j h e) * p (ix4 β h T j) := by
  pointwise [mixed]

set_option maxRecDepth 16384 in
theorem flat_apply (z : Vec Ideal S2x8192x4x256 .f32) (R : Fin 16384) (D : Fin 1024) :
    truncf (F := Ideal) .bf16 (shapeCast S16384x1024 z shapeCasts_S2x8192x4x256_S16384x1024) bitsLt_bf16_f32 (ix2 R D) = z (ix4 ⟨R.1 / 8192, by omega⟩ ⟨R.1 % 8192, by omega⟩ ⟨D.1 / 256, by omega⟩ ⟨D.1 % 256, by omega⟩) := by
  pointwise

/-- The reference's result at a row and a column. -/
theorem out_apply (R : Fin 16384) (D : Fin 1024) : out proj kv (ix2 R D) = result proj kv R D := by
  unfold out
  rw [flat_apply, mixed_apply]
  simp only [shares_apply, exps_apply, tops_apply, scores_apply, queries_apply, keys_apply, values_apply]
  unfold result att
  refine Finset.sum_congr rfl fun j _ => ?_
  rw [mul_comm]
  refine congrArg₂ (· * ·) rfl (congrArg (fun i => kv (ix3 _ j i)) (Fin.ext ?_))
  show 1024 + (D.1 / 256 * 256 + D.1 % 256) = 1024 + D.1
  omega

end Cert.MemAttn.Ref

end
-- ==== Proof.Mlp.Block.lean ====
module

public import proofs.«01_k».proof.Proof.Gen.MlpIdeal.Value
public import proofs.«01_k».proof.Proof.Layer.Math

@[expose] public section

noncomputable section

namespace Cert.Mlp.Block

open Idealize.ShloMosaic Idealize.ShloMosaic.TcCoe Idealize.SL.Sem
open Cert.MlpIdeal Cert.MlpIdeal.Gen Cert.Layer

set_option maxRecDepth 16384 in
/-- The first two quarters of the hidden units. -/
theorem pay3_apply (v0 : Vec Ideal S1024x1024 .bf16) (v2 v9 v12 v19 : Vec Ideal S1x1024x1024 .bf16) (r j : Fin 1024) :
    k0_pay3 (F := Ideal) v0 v2 v9 v12 v19 (ix2 r j)
      = ∑ k, act (fun d => v0 (ix2 r d)) (fun d => v2 (ix3 0 d k)) * v9 (ix3 0 k j)
        + ∑ k, act (fun d => v0 (ix2 r d)) (fun d => v12 (ix3 0 d k)) * v19 (ix3 0 k j) := by
  pointwise [k0_pay3, k0_pay2]
  rfl

set_option maxRecDepth 16384 in
/-- The third quarter's activations. -/
theorem pay4_apply (v0 : Vec Ideal S1024x1024 .bf16) (v2 : Vec Ideal S1x1024x1024 .bf16) (r k : Fin 1024) :
    k0_pay4 (F := Ideal) v0 v2 (ix2 r k) = act (fun d => v0 (ix2 r d)) (fun d => v2 (ix3 0 d k)) := by
  pointwise [k0_pay4, k0_pay2]
  rfl

set_option maxRecDepth 16384 in
theorem pay7_apply (v1 : FVec Ideal S1024x1024 .bf16) (v22 : FVec Ideal S1024x1024 .f32) (v29 : FVec Ideal S1024x1024 .bf16) (v30 : Vec Ideal S1x1024x1024 .bf16) (v34 : Vec Ideal S1x1024x1024 .bf16) (v41 : Vec Ideal S1x1024x1024 .bf16) (v45 : Vec Ideal S1024x1024 .f32) (v47 : Vec Ideal S1x1024 .f32) (r : Fin 1024) :
    k0_pay7 (F := Ideal) v1 v22 v29 v30 v34 v41 v45 v47 (ix2 r 0)
      = ∑ x, k0_pay5 (F := Ideal) v1 v22 v29 v30 v34 v41 v45 v47 (ix2 r x) * k0_pay5 (F := Ideal) v1 v22 v29 v30 v34 v41 v45 v47 (ix2 r x) := by
  unfold k0_pay7
  generalize k0_pay5 (F := Ideal) v1 v22 v29 v30 v34 v41 v45 v47 = z
  pointwise

set_option maxRecDepth 16384 in
/-- The second result's normalisation, from the new residual row. -/
theorem pay1_apply (z : FVec Ideal S1024x1024 .f32) (v64 : FVec Ideal S1x1024 .f32) (v67 : FVec Ideal S1024x1 .f32) (r j : Fin 1024)
    (h : v67 (ix2 r 0) = ∑ x, z (ix2 r x) * z (ix2 r x)) :
    k0_pay1 (F := Ideal) z v64 v67 (ix2 r j) = norm (fun j => z (ix2 r j)) (fun j => v64 (ix2 0 j)) j := by
  pointwise [k0_pay1]
  rw [h]
  rfl

set_option maxRecDepth 16384 in
/-- The new residual row, from the four quarters. -/
theorem pay5_apply (v1 : FVec Ideal S1024x1024 .bf16) (v22 : FVec Ideal S1024x1024 .f32) (v29 : FVec Ideal S1024x1024 .bf16) (v30 : Vec Ideal S1x1024x1024 .bf16) (v34 : Vec Ideal S1x1024x1024 .bf16) (v41 : Vec Ideal S1x1024x1024 .bf16) (v45 : Vec Ideal S1024x1024 .f32) (v47 : Vec Ideal S1x1024 .f32) (r j : Fin 1024) :
    k0_pay5 (F := Ideal) v1 v22 v29 v30 v34 v41 v45 v47 (ix2 r j)
      = v45 (ix2 r j) + norm (fun j => v22 (ix2 r j) + ∑ k, v29 (ix2 r k) * v30 (ix3 0 k j)
          + ∑ k, act (fun d => v1 (ix2 r d)) (fun d => v34 (ix3 0 d k)) * v41 (ix3 0 k j)) (fun j => v47 (ix2 0 j)) j := by
  pointwise [k0_pay5]
  rfl

theorem zero2 : (![0, 0] : Fin 2 → Nat) = fun _ => 0 := funext fun a => by fin_cases a <;> rfl

/-- A quarter of the first weights. -/
theorem ld1 (x : Vec Ideal S1x1024x4096 .bf16) (o : ℕ) (ho : o ≤ 3072) (inb : ∀ a, (![0, 0, o] : Fin 3 → Nat) a + S1x1024x1024.size a ≤ S1x1024x4096.size a) (d k : Fin 1024) :
    View.ld x (Rect.unit (s := S1x1024x4096) ![0, 0, o] S1x1024x1024.size inb) (ix3 0 d k) = x (ix3 0 d ⟨o + k.1, by omega⟩) := by
  refine congrArg x ?_
  funext a
  apply Fin.ext
  match a with
  | ⟨0, _⟩ => rfl
  | ⟨1, _⟩ => show 0 + 1 * d.1 = d.1; omega
  | ⟨2, _⟩ => show o + 1 * k.1 = o + k.1; omega

/-- A quarter of the second weights. -/
theorem ld2 (x : Vec Ideal S1x4096x1024 .bf16) (o : ℕ) (ho : o ≤ 3072) (inb : ∀ a, (![0, o, 0] : Fin 3 → Nat) a + S1x1024x1024.size a ≤ S1x4096x1024.size a) (k j : Fin 1024) :
    View.ld x (Rect.unit (s := S1x4096x1024) ![0, o, 0] S1x1024x1024.size inb) (ix3 0 k j) = x (ix3 0 ⟨o + k.1, by omega⟩ j) := by
  refine congrArg x ?_
  funext a
  apply Fin.ext
  match a with
  | ⟨0, _⟩ => rfl
  | ⟨1, _⟩ => show o + 1 * k.1 = o + k.1; omega
  | ⟨2, _⟩ => show 0 + 1 * j.1 = j.1; omega

variable (x0 : Vec Ideal S1024x1024 .bf16) (x1 : Vec Ideal S1x1024x4096 .bf16) (x2 : Vec Ideal S1x4096x1024 .bf16) (x3 : Vec Ideal S1x1024 .f32) (x4 : Vec Ideal S1024x1024 .f32) (x5 : Vec Ideal S1x1024 .f32)

/-- The block's new residual row. -/
def resid (r j : Fin 1024) : EReal :=
  x4 (ix2 r j) + norm (mix (fun d => x0 (ix2 r d)) (fun k d => x1 (ix3 0 d k)) (fun k j => x2 (ix3 0 k j))) (fun j => x3 (ix2 0 j)) j

theorem pay_apply (r j : Fin 1024) :
    k0_pay5 (F := Ideal) (k0_pay8 x0 x1 x2 x3 x4 x5) (k0_pay9 x0 x1 x2 x3 x4 x5) (k0_pay10 x0 x1 x2 x3 x4 x5) (View.ld x2 r0_6) (View.ld x1 r0_7) (View.ld x2 r0_8) (View.ld x4 r0_0) (View.ld x3 r0_9) (ix2 r j)
      = resid x0 x1 x2 x3 x4 r j := by
  rw [pay5_apply]
  have e0 : View.ld x0 r0_0 = x0 := View.ld_unit_zero zero2 _ _
  have e4 : View.ld x4 r0_0 = x4 := View.ld_unit_zero zero2 _ _
  have e3 : View.ld x3 r0_9 = x3 := View.ld_unit_zero zero2 _ _
  rw [e3, e4]
  unfold resid
  refine congrArg (fun z => x4 (ix2 r j) + norm z (fun j => x3 (ix2 0 j)) j) (funext fun i => ?_)
  unfold mix
  rw [sum_four]
  unfold k0_pay9 k0_pay10 k0_pay8
  rw [pay3_apply, e0]
  have h2 : k0_pay2 (F := Ideal) x0 = x0 := by
    funext i
    obtain ⟨a, b, rfl⟩ : ∃ (a b : Fin 1024), i = ix2 a b := ⟨i 0, i 1, by funext a; match a with | ⟨0, _⟩ => rfl | ⟨1, _⟩ => rfl⟩
    pointwise [k0_pay2]
  rw [h2]
  simp only [pay4_apply, ld1 x1 0 (by omega), ld1 x1 1024 (by omega), ld1 x1 2048 (by omega), ld1 x1 3072 (by omega), ld2 x2 0 (by omega), ld2 x2 1024 (by omega), ld2 x2 2048 (by omega), ld2 x2 3072 (by omega), Nat.zero_add]

/-- What a block writes to the first result. -/
theorem out6_apply (r j : Fin 1024) : out0_6 x0 x1 x2 x3 x4 x5 (ix2 r j) = resid x0 x1 x2 x3 x4 r j := by
  unfold out0_6
  rw [View.canon_unit_zero zero2]
  exact pay_apply x0 x1 x2 x3 x4 x5 r j

/-- What a block writes to the second result. -/
theorem out7_apply (r j : Fin 1024) : out0_7 x0 x1 x2 x3 x4 x5 (ix2 r j) = norm (resid x0 x1 x2 x3 x4 r) (fun j => x5 (ix2 0 j)) j := by
  unfold out0_7
  rw [View.canon_unit_zero zero2]
  have e5 : View.ld x5 r0_9 = x5 := View.ld_unit_zero zero2 _ _
  refine (pay1_apply _ _ _ r j (pay7_apply _ _ _ _ _ _ _ _ r)).trans ?_
  simp only [pay_apply, e5]
  have h6 : ∀ j, k0_pay6 (F := Ideal) x5 (ix2 0 j) = x5 (ix2 0 j) := fun j => by pointwise [k0_pay6]
  simp only [h6]

end Cert.Mlp.Block

end
-- ==== Proof.Mlp.Array.lean ====
module

public import proofs.«01_k».proof.Proof.Mlp.Block

@[expose] public section

noncomputable section

namespace Cert.Mlp

open Idealize.ShloMosaic Idealize.ShloMosaic.TcCoe Idealize.SL.Sem
open Cert.MlpIdeal Cert.MlpIdeal.Gen Cert.MlpIdeal.Value Cert.Layer Cert.Mlp.Block

/-! ### What the call leaves, row by row, from the layer's arrays. -/

section Spec

variable (h x : S2x8192x1024.Idx → EReal) (w1 : S4x1024x4096.Idx → EReal) (w2 : S4x4096x1024.Idx → EReal) (gp gn : S4x1024.Idx → EReal)

/-- The residual after the channel mixing. -/
def newX (R : Fin 16384) (j : Fin 1024) : EReal :=
  row x R j + norm (mix (row h R) (fun k d => w1 (ix3 3 d k)) (fun k j => w2 (ix3 3 k j))) (fun j => gp (ix2 3 j)) j

/-- Its normalisation for the layer after. -/
def newH (R : Fin 16384) (j : Fin 1024) : EReal :=
  norm (newX h x w1 w2 gp R) (fun j => gn (ix2 0 j)) j

end Spec

variable (m : (ℓ : Loc nD τ sig) → Buf (Elt Ideal) ℓ)

abbrev A0 (c : Dev nD) : (⟨S2x8192x1024, .f32⟩ : BufTy).Contents (Elt Ideal) := m ((c : Thread nD τ).loc main_arg0)
abbrev A1 (c : Dev nD) : (⟨S2x8192x1024, .f32⟩ : BufTy).Contents (Elt Ideal) := m ((c : Thread nD τ).loc main_arg1)
abbrev A2 (c : Dev nD) : (⟨S4x1024x4096, .f32⟩ : BufTy).Contents (Elt Ideal) := m ((c : Thread nD τ).loc main_arg2)
abbrev A3 (c : Dev nD) : (⟨S4x4096x1024, .f32⟩ : BufTy).Contents (Elt Ideal) := m ((c : Thread nD τ).loc main_arg3)
abbrev A4 (c : Dev nD) : (⟨S4x1024, .f32⟩ : BufTy).Contents (Elt Ideal) := m ((c : Thread nD τ).loc main_arg4)
abbrev A5 (c : Dev nD) : (⟨S4x1024, .f32⟩ : BufTy).Contents (Elt Ideal) := m ((c : Thread nD τ).loc main_arg5)

/-! ### The arrays the host code prepares. -/

theorem V_v0 (c : Dev nD) : (V m c main_v0 : (⟨S4x1024x4096, .bf16⟩ : BufTy).Contents (Elt Ideal)) = truncf (F := Ideal) .bf16 (A2 m c) bitsLt_bf16_f32 := by
  show StableHlo.after hostOps0 _ (Proc.devRef .tc main_v0) = _
  simp only [hostOps0]
  after_results

theorem V_v1 (c : Dev nD) : (V m c main_v1 : (⟨S4x4096x1024, .bf16⟩ : BufTy).Contents (Elt Ideal)) = truncf (F := Ideal) .bf16 (A3 m c) bitsLt_bf16_f32 := by
  show StableHlo.after hostOps0 _ (Proc.devRef .tc main_v1) = _
  simp only [hostOps0]
  after_results

theorem V_v3 (c : Dev nD) : (V m c main_v3 : (⟨S16384x1024, .bf16⟩ : BufTy).Contents (Elt Ideal)) = truncf (F := Ideal) .bf16 (shapeCast S16384x1024 (A0 m c) shapeCasts_S2x8192x1024_S16384x1024) bitsLt_bf16_f32 := by
  show StableHlo.after hostOps0 _ (Proc.devRef .tc main_v3) = _
  simp only [hostOps0]
  after_results
  rfl

theorem V_v6 (c : Dev nD) : (V m c main_v6 : (⟨S16384x1024, .f32⟩ : BufTy).Contents (Elt Ideal)) = shapeCast S16384x1024 (A1 m c) shapeCasts_S2x8192x1024_S16384x1024 := by
  show StableHlo.after hostOps0 _ (Proc.devRef .tc main_v6) = _
  simp only [hostOps0]
  after_results
  rfl

theorem V_v9 (c : Dev nD) : (V m c main_v9 : (⟨S1x1024, .f32⟩ : BufTy).Contents (Elt Ideal)) = shapeCast S1x1024 (shapeCast S1024 (extractStridedSlice S1x1024 ![3, 0] (A4 m c) slices_S4x1024_S1x1024_3_0) shapeCasts_S1x1024_S1024) shapeCasts_S1024_S1x1024 := by
  show StableHlo.after hostOps0 _ (Proc.devRef .tc main_v9) = _
  simp only [hostOps0]
  after_results
  rfl

theorem V_v10 (c : Dev nD) : (V m c main_v10 : (⟨S1x1024, .f32⟩ : BufTy).Contents (Elt Ideal)) = shapeCast S1x1024 (shapeCast S1024 (extractStridedSlice S1x1024 ![0, 0] (A5 m c) slices_S4x1024_S1x1024_0_0) shapeCasts_S1x1024_S1024) shapeCasts_S1024_S1x1024 := by
  show StableHlo.after hostOps0 _ (Proc.devRef .tc main_v10) = _
  simp only [hostOps0]
  after_results
  rfl

set_option maxRecDepth 16384 in
theorem flat_apply (z : Vec Ideal S2x8192x1024 .f32) (R : Fin 16384) (d : Fin 1024) :
    shapeCast S16384x1024 z shapeCasts_S2x8192x1024_S16384x1024 (ix2 R d) = row z R d := by
  pointwise
  rfl

set_option maxRecDepth 16384 in
theorem gain3_apply (z : Vec Ideal S4x1024 .f32) (d : Fin 1024) :
    shapeCast S1x1024 (shapeCast S1024 (extractStridedSlice S1x1024 ![3, 0] z slices_S4x1024_S1x1024_3_0) shapeCasts_S1x1024_S1024) shapeCasts_S1024_S1x1024 (ix2 0 d) = z (ix2 3 d) := by
  pointwise

set_option maxRecDepth 16384 in
theorem gain0_apply (z : Vec Ideal S4x1024 .f32) (d : Fin 1024) :
    shapeCast S1x1024 (shapeCast S1024 (extractStridedSlice S1x1024 ![0, 0] z slices_S4x1024_S1x1024_0_0) shapeCasts_S1x1024_S1024) shapeCasts_S1024_S1x1024 (ix2 0 d) = z (ix2 0 d) := by
  pointwise

/-! ### The windows' blocks. -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = 3 ∧ win0_1.index t (1 : Fin 3) = 0 ∧ win0_1.index t (2 : Fin 3) = 0 :=
  (by decide +kernel : ∀ t : Fin grid0.N, _)
theorem index2 : ∀ t : Fin cfg0.N, win0_2.index t (0 : Fin 3) = 3 ∧ win0_2.index t (1 : Fin 3) = 0 ∧ win0_2.index t (2 : Fin 3) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)

theorem lt_sixteen (t : Fin cfg0.N) : t.1 < 16 := lt_of_lt_of_eq t.2 (show cfg0.N = 16 from N_0)

/-- The row of the whole array under row `r` of block `t`. -/
abbrev rowOf (t : Fin cfg0.N) (r : Fin 1024) : Fin 16384 := ⟨1024 * t.1 + r.1, by have := lt_sixteen t; omega⟩

theorem x0_apply (c : Dev nD) (t : Fin cfg0.N) (r d : Fin 1024) : (iblk m c 0 t : Vec Ideal S1024x1024 .bf16) (ix2 r d) = row (A0 m c) (rowOf t r) d := by
  have hi := index0 t
  show (V m c main_v3 : (⟨S16384x1024, .bf16⟩ : BufTy).Contents (Elt Ideal)) (((cfg0.win 0).blk t).view.emb (ix2 r d)) = _
  rw [show ((cfg0.win 0).blk t).view.emb (ix2 r d) = (ix2 (rowOf t r) d : S16384x1024.Idx) from by
    funext a
    apply Fin.ext
    match a with
    | ⟨0, _⟩ => show win0_0.index t 0 * 1024 + 1 * r.1 = 1024 * t.1 + r.1; rw [hi.1]; omega
    | ⟨1, _⟩ => show win0_0.index t 1 * 1024 + 1 * d.1 = d.1; rw [hi.2]; omega]
  exact (congrFun (V_v3 m c) (ix2 (rowOf t r) d)).trans (flat_apply (A0 m c) _ d)

theorem x4_apply (c : Dev nD) (t : Fin cfg0.N) (r d : Fin 1024) : (iblk m c 4 t : Vec Ideal S1024x1024 .f32) (ix2 r d) = row (A1 m c) (rowOf t r) d := by
  have hi := index4 t
  show (V m c main_v6 : (⟨S16384x1024, .f32⟩ : BufTy).Contents (Elt Ideal)) (((cfg0.win 4).blk t).view.emb (ix2 r d)) = _
  rw [show ((cfg0.win 4).blk t).view.emb (ix2 r d) = (ix2 (rowOf t r) d : S16384x1024.Idx) from by
    funext a
    apply Fin.ext
    match a with
    | ⟨0, _⟩ => show win0_4.index t 0 * 1024 + 1 * r.1 = 1024 * t.1 + r.1; rw [hi.1]; omega
    | ⟨1, _⟩ => show win0_4.index t 1 * 1024 + 1 * d.1 = d.1; rw [hi.2]; omega]
  exact (congrFun (V_v6 m c) (ix2 (rowOf t r) d)).trans (flat_apply (A1 m c) _ d)

theorem x1_apply (c : Dev nD) (t : Fin cfg0.N) (d : Fin 1024) (k : Fin 4096) : (iblk m c 1 t : Vec Ideal S1x1024x4096 .bf16) (ix3 0 d k) = A2 m c (ix3 3 d k) := by
  have hi := index1 t
  show (V m c main_v0 : (⟨S4x1024x4096, .bf16⟩ : BufTy).Contents (Elt Ideal)) (((cfg0.win 1).blk t).view.emb (ix3 0 d k)) = _
  rw [V_v0]
  refine congrArg (A2 m c) ?_
  funext a
  apply Fin.ext
  match a with
  | ⟨0, _⟩ => show win0_1.index t 0 * 1 + 1 * 0 = 3; rw [hi.1]
  | ⟨1, _⟩ => show win0_1.index t 1 * 1024 + 1 * d.1 = d.1; rw [hi.2.1]; omega
  | ⟨2, _⟩ => show win0_1.index t 2 * 4096 + 1 * k.1 = k.1; rw [hi.2.2]; omega

theorem x2_apply (c : Dev nD) (t : Fin cfg0.N) (k : Fin 4096) (j : Fin 1024) : (iblk m c 2 t : Vec Ideal S1x4096x1024 .bf16) (ix3 0 k j) = A3 m c (ix3 3 k j) := by
  have hi := index2 t
  show (V m c main_v1 : (⟨S4x4096x1024, .bf16⟩ : BufTy).Contents (Elt Ideal)) (((cfg0.win 2).blk t).view.emb (ix3 0 k j)) = _
  rw [V_v1]
  refine congrArg (A3 m c) ?_
  funext a
  apply Fin.ext
  match a with
  | ⟨0, _⟩ => show win0_2.index t 0 * 1 + 1 * 0 = 3; rw [hi.1]
  | ⟨1, _⟩ => show win0_2.index t 1 * 4096 + 1 * k.1 = k.1; rw [hi.2.1]; omega
  | ⟨2, _⟩ => show win0_2.index t 2 * 1024 + 1 * j.1 = j.1; rw [hi.2.2]; omega

theorem x3_apply (c : Dev nD) (t : Fin cfg0.N) (d : Fin 1024) : (iblk m c 3 t : Vec Ideal S1x1024 .f32) (ix2 0 d) = A4 m c (ix2 3 d) := by
  have hi := index3 t
  show (V m c main_v9 : (⟨S1x1024, .f32⟩ : BufTy).Contents (Elt Ideal)) (((cfg0.win 3).blk t).view.emb (ix2 0 d)) = _
  rw [show ((cfg0.win 3).blk t).view.emb (ix2 0 d) = (ix2 0 d : S1x1024.Idx) from by
    funext a
    apply Fin.ext
    match a with
    | ⟨0, _⟩ => show win0_3.index t 0 * 1 + 1 * 0 = 0; rw [hi.1]
    | ⟨1, _⟩ => show win0_3.index t 1 * 1024 + 1 * d.1 = d.1; rw [hi.2]; omega]
  exact (congrFun (V_v9 m c) (ix2 0 d)).trans (gain3_apply (A4 m c) d)

theorem x5_apply (c : Dev nD) (t : Fin cfg0.N) (d : Fin 1024) : (iblk m c 5 t : Vec Ideal S1x1024 .f32) (ix2 0 d) = A5 m c (ix2 0 d) := by
  have hi := index5 t
  show (V m c main_v10 : (⟨S1x1024, .f32⟩ : BufTy).Contents (Elt Ideal)) (((cfg0.win 5).blk t).view.emb (ix2 0 d)) = _
  rw [show ((cfg0.win 5).blk t).view.emb (ix2 0 d) = (ix2 0 d : S1x1024.Idx) from by
    funext a
    apply Fin.ext
    match a with
    | ⟨0, _⟩ => show win0_5.index t 0 * 1 + 1 * 0 = 0; rw [hi.1]
    | ⟨1, _⟩ => show win0_5.index t 1 * 1024 + 1 * d.1 = d.1; rw [hi.2]; omega]
  exact (congrFun (V_v10 m c) (ix2 0 d)).trans (gain0_apply (A5 m c) d)

theorem resid_eq (c : Dev nD) (t : Fin cfg0.N) (r : Fin 1024) :
    resid (iblk m c 0 t) (iblk m c 1 t) (iblk m c 2 t) (iblk m c 3 t) (iblk m c 4 t) r = newX (A0 m c) (A1 m c) (A2 m c) (A3 m c) (A4 m c) (rowOf t r) := by
  funext j
  unfold resid newX
  simp only [x0_apply, x1_apply, x2_apply, x3_apply, x4_apply]

theorem flush6 : ∀ t : Fin cfg0.N, (cfg0.win 6).flush t = true := (by decide +kernel : ∀ t : Fin grid0.N, _)
theorem flush7 : ∀ t : Fin cfg0.N, (cfg0.win 7).flush t = true := (by decide +kernel : ∀ t : Fin grid0.N, _)

/-- The first result after the run. -/
theorem result6 (c : Dev nD) (R : Fin 16384) (j : Fin 1024) :
    ((dats m 0 c).arrAt 6 cfg0.N : (⟨S16384x1024, .f32⟩ : BufTy).Contents (Elt Ideal)) (ix2 R j) = newX (A0 m c) (A1 m c) (A2 m c) (A3 m c) (A4 m c) R j := by
  have hN : cfg0.N = 16 := N_0
  have hi := index6 ⟨R.1 / 1024, by omega⟩
  have hR : rowOf ⟨R.1 / 1024, by omega⟩ ⟨R.1 % 1024, by omega⟩ = R := Fin.ext (by show 1024 * (R.1 / 1024) + R.1 % 1024 = R.1; omega)
  have h := congrFun ((blocks6 m c ⟨R.1 / 1024, by omega⟩ (flush6 _)).trans (flushed6 m c _)) (ix2 (⟨R.1 % 1024, by omega⟩ : Fin 1024) j)
  refine Eq.trans (congrArg ((dats m 0 c).arrAt 6 cfg0.N : (⟨S16384x1024, .f32⟩ : BufTy).Contents (Elt Ideal)) ?_) (h.trans ?_)
  · funext a
    apply Fin.ext
    match a with
    | ⟨0, _⟩ => show R.1 = win0_6.index ⟨R.1 / 1024, _⟩ 0 * 1024 + 1 * (R.1 % 1024); rw [hi.1]; show R.1 = R.1 / 1024 * 1024 + 1 * (R.1 % 1024); omega
    | ⟨1, _⟩ => show j.1 = win0_6.index ⟨R.1 / 1024, _⟩ 1 * 1024 + 1 * j.1; rw [hi.2]; omega
  · refine (out6_apply _ _ _ _ _ _ (⟨R.1 % 1024, by omega⟩ : Fin 1024) j).trans ?_
    rw [resid_eq, hR]

/-- The second result after the run. -/
theorem result7 (c : Dev nD) (R : Fin 16384) (j : Fin 1024) :
    ((dats m 0 c).arrAt 7 cfg0.N : (⟨S16384x1024, .bf16⟩ : BufTy).Contents (Elt Ideal)) (ix2 R j) = newH (A0 m c) (A1 m c) (A2 m c) (A3 m c) (A4 m c) (A5 m c) R j := by
  have hN : cfg0.N = 16 := N_0
  have hi := index7 ⟨R.1 / 1024, by omega⟩
  have hR : rowOf ⟨R.1 / 1024, by omega⟩ ⟨R.1 % 1024, by omega⟩ = R := Fin.ext (by show 1024 * (R.1 / 1024) + R.1 % 1024 = R.1; omega)
  have h := congrFun ((blocks7 m c ⟨R.1 / 1024, by omega⟩ (flush7 _)).trans (flushed7 m c _)) (ix2 (⟨R.1 % 1024, by omega⟩ : Fin 1024) j)
  refine Eq.trans (congrArg ((dats m 0 c).arrAt 7 cfg0.N : (⟨S16384x1024, .bf16⟩ : BufTy).Contents (Elt Ideal)) ?_) (h.trans ?_)
  · funext a
    apply Fin.ext
    match a with
    | ⟨0, _⟩ => show R.1 = win0_7.index ⟨R.1 / 1024, _⟩ 0 * 1024 + 1 * (R.1 % 1024); rw [hi.1]; show R.1 = R.1 / 1024 * 1024 + 1 * (R.1 % 1024); omega
    | ⟨1, _⟩ => show j.1 = win0_7.index ⟨R.1 / 1024, _⟩ 1 * 1024 + 1 * j.1; rw [hi.2]; omega
  · refine (out7_apply _ _ _ _ _ _ (⟨R.1 % 1024, by omega⟩ : Fin 1024) j).trans ?_
    rw [resid_eq, hR]
    simp only [x5_apply]
    rfl

end Cert.Mlp

end
-- ==== Proof.Mlp.RefValue.lean ====
module

public import proofs.«01_k».proof.Proof.Gen.MlpRefIdeal.Run
public import proofs.«01_k».proof.Proof.Mlp.Array

@[expose] public section

noncomputable section

namespace Cert.Mlp.Ref

open Idealize.ShloMosaic Idealize.ShloMosaic.TcCoe Idealize.SL.Sem
open Cert.MlpRefIdeal Cert.MlpRefIdeal.Gen Cert.Layer

variable (h x : Vec Ideal S2x8192x1024 .f32) (w1 : Vec Ideal S4x1024x4096 .f32) (w2 : Vec Ideal S4x4096x1024 .f32)
  (gp gn : Vec Ideal S4x1024 .f32)

/-- The positive part of the hidden units, squared, as the reference computes it. -/
def hidden : Vec Ideal S2x8192x4096 .f32 :=
  let u := maximumf (F := Ideal) (Host.dotGeneral (F := Ideal) (φ₁ := .f32) (φ₂ := .f32) dot_S2x8192x1024_S1024x4096_S2x8192x4096_2_0_01_1_n_n none h (shapeCast S1024x4096 (extractStridedSlice S1x1024x4096 ![3, 0, 0] w1 slices_S4x1024x4096_S1x1024x4096_3_0_0) shapeCasts_S1x1024x4096_S1024x4096)) (broadcastInDim S2x8192x4096 ![] bcast_S_S2x8192x4096 (constant S_ .f32 0x00000000#32))
  mulf (F := Ideal) (φ := .f32) u u

/-- The channel mixing. -/
def mixed : Vec Ideal S2x8192x1024 .f32 :=
  Host.dotGeneral (F := Ideal) (φ₁ := .f32) (φ₂ := .f32) dot_S2x8192x4096_S4096x1024_S2x8192x1024_2_0_01_1_n_n none (hidden h w1) (shapeCast S4096x1024 (extractStridedSlice S1x4096x1024 ![3, 0, 0] w2 slices_S4x4096x1024_S1x4096x1024_3_0_0) shapeCasts_S1x4096x1024_S4096x1024)

/-- The normalisation. -/
def normed (z : Vec Ideal S2x8192x1024 .f32) (g : Vec Ideal S1024 .f32) : Vec Ideal S2x8192x1024 .f32 :=
  mulf (F := Ideal) (mulf z (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf z z) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- The new residual. -/
def resid : Vec Ideal S2x8192x1024 .f32 :=
  addf (F := Ideal) (φ := .f32) x (normed (mixed h w1 w2) (shapeCast S1024 (extractStridedSlice S1x1024 ![3, 0] gp slices_S4x1024_S1x1024_3_0) shapeCasts_S1x1024_S1024))

set_option maxRecDepth 16384 in
theorem hidden_apply (β : Fin 2) (T : Fin 8192) (k : Fin 4096) :
    hidden h w1 (ix3 β T k) = act (fun d => h (ix3 β T d)) (fun d => w1 (ix3 3 d k)) := by
  pointwise [hidden]
  rfl

set_option maxRecDepth 16384 in
theorem mixed_apply (β : Fin 2) (T : Fin 8192) (j : Fin 1024) :
    mixed h w1 w2 (ix3 β T j) = mix (fun d => h (ix3 β T d)) (fun k d => w1 (ix3 3 d k)) (fun k j => w2 (ix3 3 k j)) j := by
  unfold mixed
  pointwise
  simp only [hidden_apply]
  rfl

set_option maxRecDepth 16384 in
theorem normed_apply (z : Vec Ideal S2x8192x1024 .f32) (g : Vec Ideal S1024 .f32) (β : Fin 2) (T : Fin 8192) (j : Fin 1024) :
    normed z g (ix3 β T j) = norm (fun j => z (ix3 β T j)) (fun j => g (ix1 j)) j := by
  pointwise [normed]
  rfl

set_option maxRecDepth 16384 in
theorem gain_apply (o : Fin 4) (inb) (j : Fin 1024) :
    shapeCast S1024 (extractStridedSlice S1x1024 ![o.1, 0] gp inb) shapeCasts_S1x1024_S1024 (ix1 j) = gp (ix2 o j) := by
  pointwise

theorem resid_apply (β : Fin 2) (T : Fin 8192) (j : Fin 1024) :
    resid h x w1 w2 gp (ix3 β T j) = x (ix3 β T j) + norm (mix (fun d => h (ix3 β T d)) (fun k d => w1 (ix3 3 d k)) (fun k j => w2 (ix3 3 k j))) (fun j => gp (ix2 3 j)) j := by
  show x (ix3 β T j) + normed _ _ (ix3 β T j) = _
  rw [normed_apply]
  simp only [mixed_apply]
  refine congrArg (fun z => x (ix3 β T j) + norm _ z j) (funext fun i => ?_)
  exact gain_apply gp 3 _ i

set_option maxRecDepth 16384 in
theorem flat_apply (z : Vec Ideal S2x8192x1024 .f32) (R : Fin 16384) (d : Fin 1024) :
    shapeCast S16384x1024 z shapeCasts_S2x8192x1024_S16384x1024 (ix2 R d) = row z R d := by
  pointwise
  rfl

/-- The reference's first result. -/
theorem first_apply (R : Fin 16384) (j : Fin 1024) :
    shapeCast S16384x1024 (resid h x w1 w2 gp) shapeCasts_S2x8192x1024_S16384x1024 (ix2 R j) = newX h x w1 w2 gp R j := by
  rw [flat_apply]
  exact resid_apply h x w1 w2 gp _ _ j

/-- The reference's second result. -/
theorem second_apply (R : Fin 16384) (j : Fin 1024) :
    truncf (F := Ideal) .bf16 (shapeCast S16384x1024 (normed (resid h x w1 w2 gp) (shapeCast S1024 (extractStridedSlice S1x1024 ![0, 0] gn slices_S4x1024_S1x1024_0_0) shapeCasts_S1x1024_S1024)) shapeCasts_S2x8192x1024_S16384x1024) bitsLt_bf16_f32 (ix2 R j) = newH h x w1 w2 gp gn R j := by
  refine (flat_apply (normed (resid h x w1 w2 gp) _) R j).trans ?_
  unfold row
  rw [normed_apply]
  simp only [resid_apply]
  refine congrArg (fun z => norm _ z j) (funext fun i => ?_)
  exact gain_apply gn 0 _ i

end Cert.Mlp.Ref

end
-- ==== Proof.InProj.Input.lean ====
module

public import proofs.«01_k».proof.Proof.Gen.InProjIdeal.Value
public import proofs.«01_k».proof.Proof.Layer.Math

@[expose] public section

noncomputable section

namespace Cert.InProj

open Idealize.ShloMosaic Idealize.ShloMosaic.TcCoe Idealize.SL.Sem
open Cert.InProjIdeal Cert.InProjIdeal.Gen Cert.InProjIdeal.Value Cert.Layer

/-- The five parts side by side. -/
abbrev beside (x1 : Vec Ideal S4x1024x3072 .bf16) (x2 : Vec Ideal S4x1024x1024 .bf16) (x3 : Vec Ideal S4x1024x3072 .bf16) (x4 : Vec Ideal S4x1024x1536 .bf16) (x5 : Vec Ideal S4x1024x512 .bf16) : Vec Ideal S4x1024x9216 .bf16 :=
  concatenate S4x1024x9216 2 [⟨S4x1024x3072, x1⟩, ⟨S4x1024x1024, x2⟩, ⟨S4x1024x3072, x3⟩, ⟨S4x1024x1536, x4⟩, ⟨S4x1024x512, x5⟩]
    concatenates_S4x1024x3072_S4x1024x1024_S4x1024x3072_S4x1024x1536_S4x1024x512_S4x1024x9216_d2

theorem beside_congr {x1 y1 : Vec Ideal S4x1024x3072 .bf16} {x2 y2 : Vec Ideal S4x1024x1024 .bf16} {x3 y3 : Vec Ideal S4x1024x3072 .bf16} {x4 y4 : Vec Ideal S4x1024x1536 .bf16} {x5 y5 : Vec Ideal S4x1024x512 .bf16}
    (h1 : x1 = y1) (h2 : x2 = y2) (h3 : x3 = y3) (h4 : x4 = y4) (h5 : x5 = y5) : beside x1 x2 x3 x4 x5 = beside y1 y2 y3 y4 y5 := by
  rw [h1, h2, h3, h4, h5]

variable (m : (ℓ : Loc nD τ sig) → Buf (Elt Ideal) ℓ)

abbrev A0 (c : Dev nD) : (⟨S2x8192x1024, .f32⟩ : BufTy).Contents (Elt Ideal) := m ((c : Thread nD τ).loc main_arg0)
abbrev A1 (c : Dev nD) : (⟨S4x1024x8752, .f32⟩ : BufTy).Contents (Elt Ideal) := m ((c : Thread nD τ).loc main_arg1)

theorem V_v1 (c : Dev nD) : (V m c main_v1 : (⟨S16384x1024, .bf16⟩ : BufTy).Contents (Elt Ideal)) = truncf (F := Ideal) .bf16 (shapeCast S16384x1024 (A0 m c) shapeCasts_S2x8192x1024_S16384x1024) bitsLt_bf16_f32 := by
  show StableHlo.after (List.flatten [hostOps0, hostOps0_1, hostOps0_2]) _ (Proc.devRef .tc main_v1) = _
  simp only [hostOps0, hostOps0_1, hostOps0_2, List.flatten_cons, List.flatten_nil, List.append_nil, List.cons_append, List.nil_append]
  after_results
  rfl

/-- The gates' columns, each group's twelve followed by zeros. -/
def gates (w : Vec Ideal S4x1024x8752 .bf16) : Vec Ideal S4x1024x512 .bf16 :=
  shapeCast S4x1024x512 (pad S4x1024x4x128 ![0, 0, 0, 0] ![0, 0, 0, 116] ![0, 0, 0, 0]
    (shapeCast S4x1024x4x12 (extractStridedSlice S4x1024x48 ![0, 0, 4608] w slices_S4x1024x8752_S4x1024x48_0_0_4608) shapeCasts_S4x1024x48_S4x1024x4x12)
    (sitofp (F := Ideal) .bf16 (constantI S_ 32 0#32)) pads_S4x1024x4x12_S4x1024x4x128_000_000_000_01160 h_S_) shapeCasts_S4x1024x4x128_S4x1024x512

/-- The prepared weights, from the layers' weights `w`. -/
def packed (w : Vec Ideal S4x1024x8752 .bf16) : Vec Ideal S4x1024x9216 .bf16 :=
  beside (extractStridedSlice S4x1024x3072 ![0, 0, 0] w slices_S4x1024x8752_S4x1024x3072_0_0_0)
    (extractStridedSlice S4x1024x1024 ![0, 0, 4656] w slices_S4x1024x8752_S4x1024x1024_0_0_4656)
    (extractStridedSlice S4x1024x3072 ![0, 0, 5680] w slices_S4x1024x8752_S4x1024x3072_0_0_5680)
    (extractStridedSlice S4x1024x1536 ![0, 0, 3072] w slices_S4x1024x8752_S4x1024x1536_0_0_3072)
    (gates w)

theorem V_v11 (c : Dev nD) : (V m c main_v11 : (⟨S4x1024x9216, .bf16⟩ : BufTy).Contents (Elt Ideal)) = packed (truncf (F := Ideal) .bf16 (A1 m c) bitsLt_bf16_f32) := by
  show StableHlo.after (List.flatten [hostOps0, hostOps0_1, hostOps0_2]) _ (Proc.devRef .tc main_v11) = _
  simp only [hostOps0, hostOps0_1, hostOps0_2, List.flatten_cons, List.flatten_nil, List.append_nil, List.cons_append, List.nil_append]
  after_results
  refine beside_congr ?_ ?_ ?_ ?_ ?_
  · refine Eq.trans (b := StableHlo.after (List.flatten [hostOps0, hostOps0_1, hostOps0_2]) (fun b => m (c, b)) (Proc.devRef .tc main_v7)) ?_ ?_
    · simp only [hostOps0, hostOps0_1, hostOps0_2, List.flatten_cons, List.flatten_nil, List.append_nil, List.cons_append, List.nil_append]
      after_results
      rfl
    · simp only [hostOps0, hostOps0_1, hostOps0_2, List.flatten_cons, List.flatten_nil, List.append_nil, List.cons_append, List.nil_append]
      after_results
  · refine Eq.trans (b := StableHlo.after (List.flatten [hostOps0, hostOps0_1, hostOps0_2]) (fun b => m (c, b)) (Proc.devRef .tc main_v8)) ?_ ?_
    · simp only [hostOps0, hostOps0_1, hostOps0_2, List.flatten_cons, List.flatten_nil, List.append_nil, List.cons_append, List.nil_append]
      after_results
      rfl
    · simp only [hostOps0, hostOps0_1, hostOps0_2, List.flatten_cons, List.flatten_nil, List.append_nil, List.cons_append, List.nil_append]
      after_results
  · refine Eq.trans (b := StableHlo.after (List.flatten [hostOps0, hostOps0_1, hostOps0_2]) (fun b => m (c, b)) (Proc.devRef .tc main_v9)) ?_ ?_
    · simp only [hostOps0, hostOps0_1, hostOps0_2, List.flatten_cons, List.flatten_nil, List.append_nil, List.cons_append, List.nil_append]
      after_results
      rfl
    · simp only [hostOps0, hostOps0_1, hostOps0_2, List.flatten_cons, List.flatten_nil, List.append_nil, List.cons_append, List.nil_append]
      after_results
  · refine Eq.trans (b := StableHlo.after (List.flatten [hostOps0, hostOps0_1, hostOps0_2]) (fun b => m (c, b)) (Proc.devRef .tc main_v10)) ?_ ?_
    · simp only [hostOps0, hostOps0_1, hostOps0_2, List.flatten_cons, List.flatten_nil, List.append_nil, List.cons_append, List.nil_append]
      after_results
      rfl
    · simp only [hostOps0, hostOps0_1, hostOps0_2, List.flatten_cons, List.flatten_nil, List.append_nil, List.cons_append, List.nil_append]
      after_results
  · refine Eq.trans (b := StableHlo.after (List.flatten [hostOps0, hostOps0_1, hostOps0_2]) (fun b => m (c, b)) (Proc.devRef .tc main_v6)) ?_ ?_
    · simp only [hostOps0, hostOps0_1, hostOps0_2, List.flatten_cons, List.flatten_nil, List.append_nil, List.cons_append, List.nil_append]
      after_results
      rfl
    · simp only [hostOps0, hostOps0_1, hostOps0_2, List.flatten_cons, List.flatten_nil, List.append_nil, List.cons_append, List.nil_append]
      after_results
      rfl

end Cert.InProj

end
-- ==== Proof.InProj.Array.lean ====
module

public import proofs.«01_k».proof.Proof.InProj.Input

@[expose] public section

noncomputable section

namespace Cert.InProj

open Idealize.ShloMosaic Idealize.ShloMosaic.TcCoe Idealize.SL.Sem
open Cert.InProjIdeal Cert.InProjIdeal.Gen Cert.InProjIdeal.Value Cert.Layer

theorem sitofp_zero : FloatOps.sitofp (F := Ideal) FTy.bf16 0#32 = (0 : EReal) := by
  show ((((0#32 : BitVec 32).toInt : ℤ) : ℝ) : EReal) = 0
  simp

set_option maxRecDepth 16384 in
theorem gates_apply (w : Vec Ideal S4x1024x8752 .bf16) (d : Fin 1024) (e : Fin 512) :
    gates w (ix3 3 d e) = if h : e.1 % 128 < 12 then w (ix3 3 d ⟨4608 + e.1 / 128 * 12 + e.1 % 128, by omega⟩) else 0 := by
  pointwise [gates]
  rw [sitofp_zero]
  by_cases h : e.1 % 128 < 12
  · refine (dif_pos (⟨by omega, h⟩ : e.1 / 128 < 4 ∧ e.1 % 128 < 12)).trans (Eq.trans ?_ (dif_pos h).symm)
    exact congrArg (fun z => w (ix3 3 d z)) (Fin.ext (Nat.add_assoc _ _ _).symm)
  · simp only [h, and_false, dite_false]

set_option maxRecDepth 16384 in
theorem beside_apply (x1 : Vec Ideal S4x1024x3072 .bf16) (x2 : Vec Ideal S4x1024x1024 .bf16) (x3 : Vec Ideal S4x1024x3072 .bf16) (x4 : Vec Ideal S4x1024x1536 .bf16) (x5 : Vec Ideal S4x1024x512 .bf16) (d : Fin 1024) (D : Fin 9216) :
    beside x1 x2 x3 x4 x5 (ix3 3 d D) =
      if h : D.1 < 3072 then x1 (ix3 3 d ⟨D.1, h⟩)
      else if h2 : D.1 - 3072 < 1024 then x2 (ix3 3 d ⟨D.1 - 3072, h2⟩)
      else if h3 : D.1 - 3072 - 1024 < 3072 then x3 (ix3 3 d ⟨D.1 - 3072 - 1024, h3⟩)
      else if h4 : D.1 - 3072 - 1024 - 3072 < 1536 then x4 (ix3 3 d ⟨D.1 - 3072 - 1024 - 3072, h4⟩)
      else x5 (ix3 3 d ⟨D.1 - 3072 - 1024 - 3072 - 1536, by omega⟩) := by
  pointwise [beside]

set_option maxRecDepth 16384 in
theorem slice_apply {n : ℕ} (w : Vec Ideal S4x1024x8752 .bf16) (o : ℕ) (inb) (d : Fin 1024) (e : Fin n) (h : o + e.1 < 8752) :
    extractStridedSlice (⟨3, ![4, 1024, n]⟩ : Shape) ![0, 0, o] w inb (ix3 3 d e) = w (ix3 3 d ⟨o + e.1, h⟩) := by
  pointwise

/-- A column of the prepared weights is a column of the layer's weights, or zeros. -/
theorem packed_apply (w : Vec Ideal S4x1024x8752 .bf16) (d : Fin 1024) (D : Fin 9216) :
    packed w (ix3 3 d D) = pack (fun c => w (ix3 3 d c)) D := by
  unfold packed pack
  rw [beside_apply]
  by_cases h1 : D.1 < 3072
  · rw [dif_pos h1, dif_pos h1, slice_apply w 0 _ d ⟨D.1, h1⟩ (by show 0 + D.1 < 8752; omega)]
    exact congrArg (fun z => w (ix3 3 d z)) (Fin.ext (Nat.zero_add _))
  rw [dif_neg h1, dif_neg h1]
  by_cases h2 : D.1 - 3072 < 1024
  · rw [dif_pos h2, dif_pos (show D.1 < 7168 by omega), slice_apply w 4656 _ d ⟨D.1 - 3072, h2⟩ (by show 4656 + (D.1 - 3072) < 8752; omega)]
    exact congrArg (fun z => w (ix3 3 d z)) (Fin.ext (by show 4656 + (D.1 - 3072) = D.1 + 1584; omega))
  rw [dif_neg h2]
  by_cases h3 : D.1 - 3072 - 1024 < 3072
  · rw [dif_pos h3, dif_pos (show D.1 < 7168 by omega), slice_apply w 5680 _ d ⟨D.1 - 3072 - 1024, h3⟩ (by show 5680 + (D.1 - 3072 - 1024) < 8752; omega)]
    exact congrArg (fun z => w (ix3 3 d z)) (Fin.ext (by show 5680 + (D.1 - 3072 - 1024) = D.1 + 1584; omega))
  rw [dif_neg h3, dif_neg (show ¬ D.1 < 7168 by omega)]
  by_cases h4 : D.1 - 3072 - 1024 - 3072 < 1536
  · rw [dif_pos h4, dif_pos (show D.1 < 8704 by omega), slice_apply w 3072 _ d ⟨D.1 - 3072 - 1024 - 3072, h4⟩ (by show 3072 + (D.1 - 3072 - 1024 - 3072) < 8752; omega)]
    exact congrArg (fun z => w (ix3 3 d z)) (Fin.ext (by show 3072 + (D.1 - 3072 - 1024 - 3072) = D.1 - 4096; omega))
  rw [dif_neg h4, dif_neg (show ¬ D.1 < 8704 by omega), gates_apply]
  have e : D.1 - 3072 - 1024 - 3072 - 1536 = D.1 - 8704 := by omega
  simp only [e]

/-! ### The block and its inputs. -/

set_option maxRecDepth 16384 in
theorem pay1_apply (x0 : Vec Ideal S2048x1024 .bf16) (x1 : Vec Ideal S1x1024x1024 .bf16) (r : Fin 2048) (j : Fin 1024) :
    k0_pay1 (F := Ideal) x0 x1 (ix2 r j) = ∑ d, x0 (ix2 r d) * x1 (ix3 0 d j) := by
  pointwise [k0_pay1]

theorem zero2 : (![0, 0] : Fin 2 → Nat) = fun _ => 0 := funext fun a => by fin_cases a <;> rfl
theorem zero3 : (![0, 0, 0] : Fin 3 → Nat) = fun _ => 0 := funext fun a => by fin_cases a <;> rfl

theorem out2_apply (x0 : Vec Ideal S2048x1024 .bf16) (x1 : Vec Ideal S1x1024x1024 .bf16) (r : Fin 2048) (j : Fin 1024) :
    out0_2 x0 x1 (ix2 r j) = ∑ d, x0 (ix2 r d) * x1 (ix3 0 d j) := by
  unfold out0_2
  rw [View.canon_unit_zero zero2]
  have e0 : View.ld x0 r0_0 = x0 := View.ld_unit_zero zero2 _ _
  have e1 : View.ld x1 r0_1 = x1 := View.ld_unit_zero zero3 _ _
  rw [e0, e1]
  exact pay1_apply x0 x1 r j

variable (m : (ℓ : Loc nD τ sig) → Buf (Elt Ideal) ℓ)

set_option maxRecDepth 16384 in
theorem flat_apply (z : Vec Ideal S2x8192x1024 .f32) (R : Fin 16384) (d : Fin 1024) :
    shapeCast S16384x1024 z shapeCasts_S2x8192x1024_S16384x1024 (ix2 R d) = row z R d := by
  pointwise
  rfl

theorem index0 : ∀ t : Fin cfg0.N, win0_0.index t (0 : Fin 2) = t.val % 8 ∧ win0_0.index t (1 : Fin 2) = 0 :=
  (by decide +kernel : ∀ t : Fin grid0.N, _)
theorem index1 : ∀ t : Fin cfg0.N, win0_1.index t (0 : Fin 3) = 3 ∧ win0_1.index t (1 : Fin 3) = 0 ∧ win0_1.index t (2 : Fin 3) = t.val / 8 :=
  (by decide +kernel : ∀ t : Fin grid0.N, _)
theorem index2 : ∀ t : Fin cfg0.N, win0_2.index t (0 : Fin 2) = t.val % 8 ∧ win0_2.index t (1 : Fin 2) = t.val / 8 :=
  (by decide +kernel : ∀ t : Fin grid0.N, _)

theorem lt_points (t : Fin cfg0.N) : t.1 < 72 := lt_of_lt_of_eq t.2 (show cfg0.N = 72 from N_0)

/-- The row and the column of the whole array under an entry of block `t`. -/
abbrev rowOf (t : Fin cfg0.N) (r : Fin 2048) : Fin 16384 := ⟨2048 * (t.1 % 8) + r.1, by omega⟩
abbrev colOf (t : Fin cfg0.N) (j : Fin 1024) : Fin 9216 := ⟨1024 * (t.1 / 8) + j.1, by have := lt_points t; omega⟩

theorem x0_apply (c : Dev nD) (t : Fin cfg0.N) (r : Fin 2048) (d : Fin 1024) : (iblk m c 0 t : Vec Ideal S2048x1024 .bf16) (ix2 r d) = row (A0 m c) (rowOf t r) d := by
  have hi := index0 t
  show (V m c main_v1 : (⟨S16384x1024, .bf16⟩ : BufTy).Contents (Elt Ideal)) (((cfg0.win 0).blk t).view.emb (ix2 r d)) = _
  rw [show ((cfg0.win 0).blk t).view.emb (ix2 r d) = (ix2 (rowOf t r) d : S16384x1024.Idx) from by
    funext a
    apply Fin.ext
    match a with
    | ⟨0, _⟩ => show win0_0.index t 0 * 2048 + 1 * r.1 = 2048 * (t.1 % 8) + r.1; rw [hi.1]; omega
    | ⟨1, _⟩ => show win0_0.index t 1 * 1024 + 1 * d.1 = d.1; rw [hi.2]; omega]
  exact (congrFun (V_v1 m c) (ix2 (rowOf t r) d)).trans (flat_apply (A0 m c) _ d)

theorem x1_apply (c : Dev nD) (t : Fin cfg0.N) (d j : Fin 1024) : (iblk m c 1 t : Vec Ideal S1x1024x1024 .bf16) (ix3 0 d j) = pack (fun k => A1 m c (ix3 3 d k)) (colOf t j) := by
  have hi := index1 t
  show (V m c main_v11 : (⟨S4x1024x9216, .bf16⟩ : BufTy).Contents (Elt Ideal)) (((cfg0.win 1).blk t).view.emb (ix3 0 d j)) = _
  rw [show ((cfg0.win 1).blk t).view.emb (ix3 0 d j) = (ix3 3 d (colOf t j) : S4x1024x9216.Idx) from by
    funext a
    apply Fin.ext
    match a with
    | ⟨0, _⟩ => show win0_1.index t 0 * 1 + 1 * 0 = 3; rw [hi.1]
    | ⟨1, _⟩ => show win0_1.index t 1 * 1024 + 1 * d.1 = d.1; rw [hi.2.1]; omega
    | ⟨2, _⟩ => show win0_1.index t 2 * 1024 + 1 * j.1 = 1024 * (t.1 / 8) + j.1; rw [hi.2.2]; omega]
  exact (congrFun (V_v11 m c) (ix3 3 d (colOf t j))).trans (packed_apply _ d _)

theorem flush2 : ∀ t : Fin cfg0.N, (cfg0.win 2).flush t = true := (by decide +kernel : ∀ t : Fin grid0.N, _)

/-- An entry of the layer's projection. -/
def dot (h : S2x8192x1024.Idx → EReal) (w : S4x1024x8752.Idx → EReal) (R : Fin 16384) (k : Fin 8752) : EReal :=
  ∑ d, row h R d * w (ix3 3 d k)

/-- The weights' zero columns give zero. -/
theorem pack_dot (h : S2x8192x1024.Idx → EReal) (w : S4x1024x8752.Idx → EReal) (R : Fin 16384) (D : Fin 9216) :
    ∑ d, row h R d * pack (fun k => w (ix3 3 d k)) D = pack (dot h w R) D := by
  unfold pack
  split_ifs
  · rfl
  · rfl
  · rfl
  · rfl
  · exact Finset.sum_eq_zero fun d _ => mul_zero _

/-- The result after the run. -/
theorem result2 (c : Dev nD) (R : Fin 16384) (D : Fin 9216) :
    ((dats m 0 c).arrAt 2 cfg0.N : (⟨S16384x9216, .bf16⟩ : BufTy).Contents (Elt Ideal)) (ix2 R D) = pack (dot (A0 m c) (A1 m c) R) D := by
  have hN : cfg0.N = 72 := N_0
  obtain ⟨t, ht⟩ : ∃ t : Fin cfg0.N, t.1 = 8 * (D.1 / 1024) + R.1 / 2048 := ⟨⟨8 * (D.1 / 1024) + R.1 / 2048, by omega⟩, rfl⟩
  have hi := index2 t
  have hR : rowOf t ⟨R.1 % 2048, by omega⟩ = R := Fin.ext (by show 2048 * (t.1 % 8) + R.1 % 2048 = R.1; omega)
  have hD : colOf t ⟨D.1 % 1024, by omega⟩ = D := Fin.ext (by show 1024 * (t.1 / 8) + D.1 % 1024 = D.1; omega)
  have h := congrFun ((blocks2 m c t (flush2 _)).trans (flushed2 m c _)) (ix2 (⟨R.1 % 2048, by omega⟩ : Fin 2048) (⟨D.1 % 1024, by omega⟩ : Fin 1024))
  refine Eq.trans (congrArg ((dats m 0 c).arrAt 2 cfg0.N : (⟨S16384x9216, .bf16⟩ : BufTy).Contents (Elt Ideal)) ?_) (h.trans ?_)
  · funext a
    apply Fin.ext
    match a with
    | ⟨0, _⟩ => show R.1 = win0_2.index t 0 * 2048 + 1 * (R.1 % 2048); rw [hi.1]; omega
    | ⟨1, _⟩ => show D.1 = win0_2.index t 1 * 1024 + 1 * (D.1 % 1024); rw [hi.2]; omega
  · refine (out2_apply _ _ (⟨R.1 % 2048, by omega⟩ : Fin 2048) (⟨D.1 % 1024, by omega⟩ : Fin 1024)).trans ?_
    simp only [x0_apply, x1_apply]
    rw [hR, hD]
    exact pack_dot _ _ R D

end Cert.InProj

end
-- ==== Proof.InProj.RefValue.lean ====
module

public import proofs.«01_k».proof.Proof.Gen.InProjRefIdeal.Run
public import proofs.«01_k».proof.Proof.InProj.Array

@[expose] public section

noncomputable section

namespace Cert.InProj.Ref

open Idealize.ShloMosaic Idealize.ShloMosaic.TcCoe Idealize.SL.Sem
open Cert.InProjRefIdeal Cert.InProjRefIdeal.Gen Cert.Layer

variable (h : Vec Ideal S2x8192x1024 .f32) (w : Vec Ideal S4x1024x8752 .f32) (p : Vec Ideal S2x8192x8752 .f32)

/-- The projection. -/
def proj : Vec Ideal S2x8192x8752 .f32 :=
  Host.dotGeneral (F := Ideal) (φ₁ := .f32) (φ₂ := .f32) dot_S2x8192x1024_S1024x8752_S2x8192x8752_2_0_01_1_n_n none h (shapeCast S1024x8752 (extractStridedSlice S1x1024x8752 ![3, 0, 0] w slices_S4x1024x8752_S1x1024x8752_3_0_0) shapeCasts_S1x1024x8752_S1024x8752)

/-- The gates' columns, each group's twelve followed by zeros. -/
def gates : Vec Ideal S2x8192x512 .f32 :=
  shapeCast S2x8192x512 (concatenate S2x8192x4x128 3 [⟨S2x8192x4x12, shapeCast S2x8192x4x12 (extractStridedSlice S2x8192x48 ![0, 0, 4608] p slices_S2x8192x8752_S2x8192x48_0_0_4608) shapeCasts_S2x8192x48_S2x8192x4x12⟩, ⟨S2x8192x4x116, broadcastInDim S2x8192x4x116 ![] bcast_S_S2x8192x4x116 (constant (F := Ideal) S_ .f32 0x00000000#32)⟩] concatenates_S2x8192x4x12_S2x8192x4x116_S2x8192x4x128_d3) shapeCasts_S2x8192x4x128_S2x8192x512

/-- The four parts side by side. -/
def beside (x1 : Vec Ideal S2x8192x3072 .f32) (x2 : Vec Ideal S2x8192x4096 .f32) (x3 : Vec Ideal S2x8192x1536 .f32) (x4 : Vec Ideal S2x8192x512 .f32) : Vec Ideal S2x8192x9216 .f32 :=
  concatenate S2x8192x9216 2 [⟨S2x8192x7168, concatenate S2x8192x7168 2 [⟨S2x8192x3072, x1⟩, ⟨S2x8192x4096, x2⟩] concatenates_S2x8192x3072_S2x8192x4096_S2x8192x7168_d2⟩, ⟨S2x8192x2048, concatenate S2x8192x2048 2 [⟨S2x8192x1536, x3⟩, ⟨S2x8192x512, x4⟩] concatenates_S2x8192x1536_S2x8192x512_S2x8192x2048_d2⟩] concatenates_S2x8192x7168_S2x8192x2048_S2x8192x9216_d2

/-- The reference's result. -/
def result : Vec Ideal S16384x9216 .bf16 :=
  truncf (F := Ideal) .bf16 (shapeCast S16384x9216 (beside (extractStridedSlice S2x8192x3072 ![0, 0, 0] (proj h w) slices_S2x8192x8752_S2x8192x3072_0_0_0) (extractStridedSlice S2x8192x4096 ![0, 0, 4656] (proj h w) slices_S2x8192x8752_S2x8192x4096_0_0_4656) (extractStridedSlice S2x8192x1536 ![0, 0, 3072] (proj h w) slices_S2x8192x8752_S2x8192x1536_0_0_3072) (gates (proj h w))) shapeCasts_S2x8192x9216_S16384x9216) bitsLt_bf16_f32

set_option maxRecDepth 16384 in
theorem proj_apply (β : Fin 2) (T : Fin 8192) (k : Fin 8752) : proj h w (ix3 β T k) = ∑ d, h (ix3 β T d) * w (ix3 3 d k) := by
  pointwise [proj]

set_option maxRecDepth 16384 in
theorem gates_apply (β : Fin 2) (T : Fin 8192) (e : Fin 512) :
    gates p (ix3 β T e) = if h : e.1 % 128 < 12 then p (ix3 β T ⟨4608 + e.1 / 128 * 12 + e.1 % 128, by omega⟩) else 0 := by
  pointwise [gates]
  by_cases h : e.1 % 128 < 12
  · refine (dif_pos h).trans (Eq.trans ?_ (dif_pos h).symm)
    exact congrArg (fun z => p (ix3 β T z)) (Fin.ext (Nat.add_assoc _ _ _).symm)
  · simp only [h, dite_false]

set_option maxRecDepth 16384 in
theorem beside_apply (x1 : Vec Ideal S2x8192x3072 .f32) (x2 : Vec Ideal S2x8192x4096 .f32) (x3 : Vec Ideal S2x8192x1536 .f32) (x4 : Vec Ideal S2x8192x512 .f32) (β : Fin 2) (T : Fin 8192) (D : Fin 9216) :
    beside x1 x2 x3 x4 (ix3 β T D) =
      if h : D.1 < 7168 then (if h1 : D.1 < 3072 then x1 (ix3 β T ⟨D.1, h1⟩) else x2 (ix3 β T ⟨D.1 - 3072, by omega⟩))
      else (if h3 : D.1 - 7168 < 1536 then x3 (ix3 β T ⟨D.1 - 7168, h3⟩) else x4 (ix3 β T ⟨D.1 - 7168 - 1536, by omega⟩)) := by
  pointwise [beside]

set_option maxRecDepth 16384 in
theorem slice_apply {n : ℕ} (o : ℕ) (inb) (β : Fin 2) (T : Fin 8192) (e : Fin n) (h : o + e.1 < 8752) :
    extractStridedSlice (⟨3, ![2, 8192, n]⟩ : Shape) ![0, 0, o] p inb (ix3 β T e) = p (ix3 β T ⟨o + e.1, h⟩) := by
  pointwise

set_option maxRecDepth 16384 in
theorem flat_apply (z : Vec Ideal S2x8192x9216 .f32) (R : Fin 16384) (D : Fin 9216) :
    shapeCast S16384x9216 z shapeCasts_S2x8192x9216_S16384x9216 (ix2 R D) = z (ix3 ⟨R.1 / 8192, by omega⟩ ⟨R.1 % 8192, by omega⟩ D) := by
  pointwise

theorem result_apply (R : Fin 16384) (D : Fin 9216) : result h w (ix2 R D) = pack (dot h w R) D := by
  unfold result
  refine (flat_apply (beside _ _ _ _) R D).trans ?_
  generalize hp : proj h w = p
  have e : ∀ k, dot h w R k = p (ix3 ⟨R.1 / 8192, by omega⟩ ⟨R.1 % 8192, by omega⟩ k) := fun k => by rw [← hp, proj_apply]; rfl
  unfold pack
  simp only [e]
  generalize (⟨R.1 / 8192, by omega⟩ : Fin 2) = β
  generalize (⟨R.1 % 8192, by omega⟩ : Fin 8192) = T
  rw [beside_apply]
  by_cases h1 : D.1 < 3072
  · rw [dif_pos (show D.1 < 7168 by omega), dif_pos h1, dif_pos h1, slice_apply p 0 _ β T ⟨D.1, h1⟩ (by show 0 + D.1 < 8752; omega)]
    exact congrArg (fun z => p (ix3 β T z)) (Fin.ext (Nat.zero_add _))
  by_cases h2 : D.1 < 7168
  · rw [dif_pos h2, dif_neg h1, dif_neg h1, dif_pos h2, slice_apply p 4656 _ β T ⟨D.1 - 3072, by omega⟩ (by show 4656 + (D.1 - 3072) < 8752; omega)]
    exact congrArg (fun z => p (ix3 β T z)) (Fin.ext (by show 4656 + (D.1 - 3072) = D.1 + 1584; omega))
  rw [dif_neg h1, dif_neg h2, dif_neg h2]
  by_cases h4 : D.1 - 7168 < 1536
  · rw [dif_pos h4, dif_pos (show D.1 < 8704 by omega), slice_apply p 3072 _ β T ⟨D.1 - 7168, by omega⟩ (by show 3072 + (D.1 - 7168) < 8752; omega)]
    exact congrArg (fun z => p (ix3 β T z)) (Fin.ext (by show 3072 + (D.1 - 7168) = D.1 - 4096; omega))
  rw [dif_neg h4, dif_neg (show ¬ D.1 < 8704 by omega), gates_apply]
  have e : D.1 - 7168 - 1536 = D.1 - 8704 := by omega
  simp only [e]

end Cert.InProj.Ref

end
-- ==== Proof.Norm.Array.lean ====
module

public import proofs.«01_k».proof.Proof.Gen.NormIdeal.Value
public import proofs.«01_k».proof.Proof.Layer.Math

@[expose] public section

noncomputable section

namespace Cert.Norm

open Idealize.ShloMosaic Idealize.ShloMosaic.TcCoe Idealize.SL.Sem
open Cert.NormIdeal Cert.NormIdeal.Gen Cert.NormIdeal.Value Cert.Layer

set_option maxRecDepth 16384 in
theorem pay1_apply (x0 : Vec Ideal S512x1024 .f32) (x1 : Vec Ideal S1x1024 .f32) (r : Fin 512) (j : Fin 1024) :
    k0_pay1 (F := Ideal) x0 x1 (ix2 r j) = norm (fun j => x0 (ix2 r j)) (fun j => x1 (ix2 0 j)) j := by
  pointwise [k0_pay1]
  rfl

theorem zero2 : (![0, 0] : Fin 2 → Nat) = fun _ => 0 := funext fun a => by fin_cases a <;> rfl

theorem out2_apply (x0 : Vec Ideal S512x1024 .f32) (x1 : Vec Ideal S1x1024 .f32) (r : Fin 512) (j : Fin 1024) :
    out0_2 x0 x1 (ix2 r j) = norm (fun j => x0 (ix2 r j)) (fun j => x1 (ix2 0 j)) j := by
  unfold out0_2
  rw [View.canon_unit_zero zero2]
  have e0 : View.ld x0 r0_0 = x0 := View.ld_unit_zero zero2 _ _
  have e1 : View.ld x1 r0_1 = x1 := View.ld_unit_zero zero2 _ _
  rw [e0, e1]
  exact pay1_apply x0 x1 r j

variable (m : (ℓ : Loc nD τ sig) → Buf (Elt Ideal) ℓ)

abbrev A0 (c : Dev nD) : (⟨S2x8192x1024, .f32⟩ : BufTy).Contents (Elt Ideal) := m ((c : Thread nD τ).loc main_arg0)
abbrev A1 (c : Dev nD) : (⟨S4x1024, .f32⟩ : BufTy).Contents (Elt Ideal) := m ((c : Thread nD τ).loc main_arg1)

theorem V_v0 (c : Dev nD) : (V m c main_v0 : (⟨S16384x1024, .f32⟩ : BufTy).Contents (Elt Ideal)) = shapeCast S16384x1024 (A0 m c) shapeCasts_S2x8192x1024_S16384x1024 := by
  show StableHlo.after hostOps0 _ (Proc.devRef .tc main_v0) = _
  simp only [hostOps0]
  after_results
  rfl

theorem V_v3 (c : Dev nD) : (V m c main_v3 : (⟨S1x1024, .f32⟩ : BufTy).Contents (Elt Ideal)) = shapeCast S1x1024 (shapeCast S1024 (extractStridedSlice S1x1024 ![0, 0] (A1 m c) slices_S4x1024_S1x1024_0_0) shapeCasts_S1x1024_S1024) shapeCasts_S1024_S1x1024 := by
  show StableHlo.after hostOps0 _ (Proc.devRef .tc main_v3) = _
  simp only [hostOps0]
  after_results
  rfl

set_option maxRecDepth 16384 in
theorem flat_apply (z : Vec Ideal S2x8192x1024 .f32) (R : Fin 16384) (d : Fin 1024) :
    shapeCast S16384x1024 z shapeCasts_S2x8192x1024_S16384x1024 (ix2 R d) = row z R d := by
  pointwise
  rfl

set_option maxRecDepth 16384 in
theorem gain_apply (z : Vec Ideal S4x1024 .f32) (d : Fin 1024) :
    shapeCast S1x1024 (shapeCast S1024 (extractStridedSlice S1x1024 ![0, 0] z slices_S4x1024_S1x1024_0_0) shapeCasts_S1x1024_S1024) shapeCasts_S1024_S1x1024 (ix2 0 d) = z (ix2 0 d) := by
  pointwise

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)

theorem lt_points (t : Fin cfg0.N) : t.1 < 32 := lt_of_lt_of_eq t.2 (show cfg0.N = 32 from N_0)

/-- The row of the whole array under row `r` of block `t`. -/
abbrev rowOf (t : Fin cfg0.N) (r : Fin 512) : Fin 16384 := ⟨512 * t.1 + r.1, by have := lt_points t; omega⟩

theorem x0_apply (c : Dev nD) (t : Fin cfg0.N) (r : Fin 512) (d : Fin 1024) : (iblk m c 0 t : Vec Ideal S512x1024 .f32) (ix2 r d) = row (A0 m c) (rowOf t r) d := by
  have hi := index0 t
  show (V m c main_v0 : (⟨S16384x1024, .f32⟩ : BufTy).Contents (Elt Ideal)) (((cfg0.win 0).blk t).view.emb (ix2 r d)) = _
  rw [show ((cfg0.win 0).blk t).view.emb (ix2 r d) = (ix2 (rowOf t r) d : S16384x1024.Idx) from by
    funext a
    apply Fin.ext
    match a with
    | ⟨0, _⟩ => show win0_0.index t 0 * 512 + 1 * r.1 = 512 * t.1 + r.1; rw [hi.1]; omega
    | ⟨1, _⟩ => show win0_0.index t 1 * 1024 + 1 * d.1 = d.1; rw [hi.2]; omega]
  exact (congrFun (V_v0 m c) (ix2 (rowOf t r) d)).trans (flat_apply (A0 m c) _ d)

theorem x1_apply (c : Dev nD) (t : Fin cfg0.N) (d : Fin 1024) : (iblk m c 1 t : Vec Ideal S1x1024 .f32) (ix2 0 d) = A1 m c (ix2 0 d) := by
  have hi := index1 t
  show (V m c main_v3 : (⟨S1x1024, .f32⟩ : BufTy).Contents (Elt Ideal)) (((cfg0.win 1).blk t).view.emb (ix2 0 d)) = _
  rw [show ((cfg0.win 1).blk t).view.emb (ix2 0 d) = (ix2 0 d : S1x1024.Idx) from by
    funext a
    apply Fin.ext
    match a with
    | ⟨0, _⟩ => show win0_1.index t 0 * 1 + 1 * 0 = 0; rw [hi.1]
    | ⟨1, _⟩ => show win0_1.index t 1 * 1024 + 1 * d.1 = d.1; rw [hi.2]; omega]
  exact (congrFun (V_v3 m c) (ix2 0 d)).trans (gain_apply (A1 m c) d)

theorem flush2 : ∀ t : Fin cfg0.N, (cfg0.win 2).flush t = true := (by decide +kernel : ∀ t : Fin grid0.N, _)

/-- The result after the run: each row normalised. -/
theorem result2 (c : Dev nD) (R : Fin 16384) (j : Fin 1024) :
    ((dats m 0 c).arrAt 2 cfg0.N : (⟨S16384x1024, .bf16⟩ : BufTy).Contents (Elt Ideal)) (ix2 R j) = norm (row (A0 m c) R) (fun j => A1 m c (ix2 0 j)) j := by
  have hN : cfg0.N = 32 := N_0
  have hi := index2 ⟨R.1 / 512, by omega⟩
  have hR : rowOf ⟨R.1 / 512, by omega⟩ ⟨R.1 % 512, by omega⟩ = R := Fin.ext (by show 512 * (R.1 / 512) + R.1 % 512 = R.1; omega)
  have h := congrFun ((blocks2 m c ⟨R.1 / 512, by omega⟩ (flush2 _)).trans (flushed2 m c _)) (ix2 (⟨R.1 % 512, by omega⟩ : Fin 512) j)
  refine Eq.trans (congrArg ((dats m 0 c).arrAt 2 cfg0.N : (⟨S16384x1024, .bf16⟩ : BufTy).Contents (Elt Ideal)) ?_) (h.trans ?_)
  · funext a
    apply Fin.ext
    match a with
    | ⟨0, _⟩ => show R.1 = win0_2.index ⟨R.1 / 512, _⟩ 0 * 512 + 1 * (R.1 % 512); rw [hi.1]; show R.1 = R.1 / 512 * 512 + 1 * (R.1 % 512); omega
    | ⟨1, _⟩ => show j.1 = win0_2.index ⟨R.1 / 512, _⟩ 1 * 1024 + 1 * j.1; rw [hi.2]; omega
  · refine (out2_apply _ _ (⟨R.1 % 512, by omega⟩ : Fin 512) j).trans ?_
    simp only [x0_apply, x1_apply]
    rw [hR]

end Cert.Norm

end
-- ==== Proof.Norm.RefValue.lean ====
module

public import proofs.«01_k».proof.Proof.Gen.NormRefIdeal.Run
public import proofs.«01_k».proof.Proof.Norm.Array

@[expose] public section

noncomputable section

namespace Cert.Norm.Ref

open Idealize.ShloMosaic Idealize.ShloMosaic.TcCoe Idealize.SL.Sem
open Cert.NormRefIdeal Cert.NormRefIdeal.Gen Cert.Layer

variable (z : Vec Ideal S2x8192x1024 .f32) (gp : Vec Ideal S4x1024 .f32)

/-- The normalisation, as the reference computes it. -/
def normed (g : Vec Ideal S1024 .f32) : Vec Ideal S2x8192x1024 .f32 :=
  mulf (F := Ideal) (mulf z (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf z z) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- The reference's result. -/
def result : Vec Ideal S16384x1024 .bf16 :=
  truncf (F := Ideal) .bf16 (shapeCast S16384x1024 (normed z (shapeCast S1024 (extractStridedSlice S1x1024 ![0, 0] gp slices_S4x1024_S1x1024_0_0) shapeCasts_S1x1024_S1024)) shapeCasts_S2x8192x1024_S16384x1024) bitsLt_bf16_f32

set_option maxRecDepth 16384 in
theorem normed_apply (g : Vec Ideal S1024 .f32) (β : Fin 2) (T : Fin 8192) (j : Fin 1024) :
    normed z g (ix3 β T j) = norm (fun j => z (ix3 β T j)) (fun j => g (ix1 j)) j := by
  pointwise [normed]
  rfl

set_option maxRecDepth 16384 in
theorem gain_apply (j : Fin 1024) :
    shapeCast S1024 (extractStridedSlice S1x1024 ![0, 0] gp slices_S4x1024_S1x1024_0_0) shapeCasts_S1x1024_S1024 (ix1 j) = gp (ix2 0 j) := by
  pointwise

set_option maxRecDepth 16384 in
theorem flat_apply (R : Fin 16384) (d : Fin 1024) :
    shapeCast S16384x1024 z shapeCasts_S2x8192x1024_S16384x1024 (ix2 R d) = z (ix3 ⟨R.1 / 8192, by omega⟩ ⟨R.1 % 8192, by omega⟩ d) := by
  pointwise

theorem result_apply (R : Fin 16384) (j : Fin 1024) : result z gp (ix2 R j) = norm (row z R) (fun j => gp (ix2 0 j)) j := by
  unfold result
  refine (flat_apply (normed z _) R j).trans ?_
  rw [normed_apply]
  exact congrArg (fun g => norm (row z R) g j) (funext fun i => gain_apply gp i)

end Cert.Norm.Ref

end
-- ==== Proof.MemKv.Array.lean ====
module

public import proofs.«01_k».proof.Proof.Gen.MemKvIdeal.Value
public import proofs.«01_k».proof.Proof.Layer.Math

@[expose] public section

noncomputable section

namespace Cert.MemKv

open Idealize.ShloMosaic Idealize.ShloMosaic.TcCoe Idealize.SL.Sem
open Cert.MemKvIdeal Cert.MemKvIdeal.Gen Cert.MemKvIdeal.Value

set_option maxRecDepth 16384 in
theorem pay1_apply (x0 : Vec Ideal S256x1024 .bf16) (x1 : Vec Ideal S1x1024x1024 .bf16) (r : Fin 256) (j : Fin 1024) :
    k0_pay1 (F := Ideal) x0 x1 (ix2 r j) = ∑ d, x0 (ix2 r d) * x1 (ix3 0 d j) := by
  pointwise [k0_pay1]

theorem zero2 : (![0, 0] : Fin 2 → Nat) = fun _ => 0 := funext fun a => by fin_cases a <;> rfl
theorem zero3 : (![0, 0, 0] : Fin 3 → Nat) = fun _ => 0 := funext fun a => by fin_cases a <;> rfl

theorem out2_apply (x0 : Vec Ideal S256x1024 .bf16) (x1 : Vec Ideal S1x1024x1024 .bf16) (r : Fin 256) (j : Fin 1024) :
    out0_2 x0 x1 (ix2 r j) = ∑ d, x0 (ix2 r d) * x1 (ix3 0 d j) := by
  unfold out0_2
  rw [View.canon_unit_zero zero2]
  have e0 : View.ld x0 r0_0 = x0 := View.ld_unit_zero zero2 _ _
  have e1 : View.ld x1 r0_1 = x1 := View.ld_unit_zero zero3 _ _
  rw [e0, e1]
  exact pay1_apply x0 x1 r j

variable (m : (ℓ : Loc nD τ sig) → Buf (Elt Ideal) ℓ)

abbrev A0 (c : Dev nD) : (⟨S2x256x1024, .f32⟩ : BufTy).Contents (Elt Ideal) := m ((c : Thread nD τ).loc main_arg0)
abbrev A1 (c : Dev nD) : (⟨S4x1024x2048, .f32⟩ : BufTy).Contents (Elt Ideal) := m ((c : Thread nD τ).loc main_arg1)

theorem V_v1 (c : Dev nD) : (V m c main_v1 : (⟨S512x1024, .bf16⟩ : BufTy).Contents (Elt Ideal)) = truncf (F := Ideal) .bf16 (shapeCast S512x1024 (A0 m c) shapeCasts_S2x256x1024_S512x1024) bitsLt_bf16_f32 := by
  show StableHlo.after hostOps0 _ (Proc.devRef .tc main_v1) = _
  simp only [hostOps0]
  after_results
  rfl

theorem V_v2 (c : Dev nD) : (V m c main_v2 : (⟨S4x1024x2048, .bf16⟩ : BufTy).Contents (Elt Ideal)) = truncf (F := Ideal) .bf16 (A1 m c) bitsLt_bf16_f32 := by
  show StableHlo.after hostOps0 _ (Proc.devRef .tc main_v2) = _
  simp only [hostOps0]
  after_results

/-- An entry of the memory's keys and values, the two memories stood one under the other. -/
def dot (h : S2x256x1024.Idx → EReal) (w : S4x1024x2048.Idx → EReal) (R : Fin 512) (k : Fin 2048) : EReal :=
  ∑ d, h (ix3 ⟨R.1 / 256, by omega⟩ ⟨R.1 % 256, by omega⟩ d) * w (ix3 3 d k)

set_option maxRecDepth 16384 in
theorem flat_apply (z : Vec Ideal S2x256x1024 .f32) (R : Fin 512) (d : Fin 1024) :
    shapeCast S512x1024 z shapeCasts_S2x256x1024_S512x1024 (ix2 R d) = z (ix3 ⟨R.1 / 256, by omega⟩ ⟨R.1 % 256, by omega⟩ d) := by
  pointwise

theorem index0 : ∀ t : Fin cfg0.N, win0_0.index t (0 : Fin 2) = t.val % 2 ∧ win0_0.index t (1 : Fin 2) = 0 :=
  (by decide +kernel : ∀ t : Fin grid0.N, _)
theorem index1 : ∀ t : Fin cfg0.N, win0_1.index t (0 : Fin 3) = 3 ∧ win0_1.index t (1 : Fin 3) = 0 ∧ win0_1.index t (2 : Fin 3) = t.val / 2 :=
  (by decide +kernel : ∀ t : Fin grid0.N, _)
theorem index2 : ∀ t : Fin cfg0.N, win0_2.index t (0 : Fin 2) = t.val % 2 ∧ win0_2.index t (1 : Fin 2) = t.val / 2 :=
  (by decide +kernel : ∀ t : Fin grid0.N, _)

theorem lt_points (t : Fin cfg0.N) : t.1 < 4 := lt_of_lt_of_eq t.2 (show cfg0.N = 4 from N_0)

/-- The row and the column of the whole array under an entry of block `t`. -/
abbrev rowOf (t : Fin cfg0.N) (r : Fin 256) : Fin 512 := ⟨256 * (t.1 % 2) + r.1, by omega⟩
abbrev colOf (t : Fin cfg0.N) (j : Fin 1024) : Fin 2048 := ⟨1024 * (t.1 / 2) + j.1, by have := lt_points t; omega⟩

theorem x0_apply (c : Dev nD) (t : Fin cfg0.N) (r : Fin 256) (d : Fin 1024) : (iblk m c 0 t : Vec Ideal S256x1024 .bf16) (ix2 r d)
    = A0 m c (ix3 ⟨(rowOf t r).1 / 256, by omega⟩ ⟨(rowOf t r).1 % 256, by omega⟩ d) := by
  have hi := index0 t
  show (V m c main_v1 : (⟨S512x1024, .bf16⟩ : BufTy).Contents (Elt Ideal)) (((cfg0.win 0).blk t).view.emb (ix2 r d)) = _
  rw [show ((cfg0.win 0).blk t).view.emb (ix2 r d) = (ix2 (rowOf t r) d : S512x1024.Idx) from by
    funext a
    apply Fin.ext
    match a with
    | ⟨0, _⟩ => show win0_0.index t 0 * 256 + 1 * r.1 = 256 * (t.1 % 2) + r.1; rw [hi.1]; omega
    | ⟨1, _⟩ => show win0_0.index t 1 * 1024 + 1 * d.1 = d.1; rw [hi.2]; omega]
  exact (congrFun (V_v1 m c) (ix2 (rowOf t r) d)).trans (flat_apply (A0 m c) _ d)

theorem x1_apply (c : Dev nD) (t : Fin cfg0.N) (d j : Fin 1024) : (iblk m c 1 t : Vec Ideal S1x1024x1024 .bf16) (ix3 0 d j) = A1 m c (ix3 3 d (colOf t j)) := by
  have hi := index1 t
  show (V m c main_v2 : (⟨S4x1024x2048, .bf16⟩ : BufTy).Contents (Elt Ideal)) (((cfg0.win 1).blk t).view.emb (ix3 0 d j)) = _
  rw [V_v2]
  refine congrArg (A1 m c) ?_
  funext a
  apply Fin.ext
  match a with
  | ⟨0, _⟩ => show win0_1.index t 0 * 1 + 1 * 0 = 3; rw [hi.1]
  | ⟨1, _⟩ => show win0_1.index t 1 * 1024 + 1 * d.1 = d.1; rw [hi.2.1]; omega
  | ⟨2, _⟩ => show win0_1.index t 2 * 1024 + 1 * j.1 = 1024 * (t.1 / 2) + j.1; rw [hi.2.2]; omega

theorem flush2 : ∀ t : Fin cfg0.N, (cfg0.win 2).flush t = true := (by decide +kernel : ∀ t : Fin grid0.N, _)

/-- The result after the run. -/
theorem result2 (c : Dev nD) (R : Fin 512) (D : Fin 2048) :
    ((dats m 0 c).arrAt 2 cfg0.N : (⟨S512x2048, .bf16⟩ : BufTy).Contents (Elt Ideal)) (ix2 R D) = dot (A0 m c) (A1 m c) R D := by
  have hN : cfg0.N = 4 := N_0
  obtain ⟨t, ht⟩ : ∃ t : Fin cfg0.N, t.1 = 2 * (D.1 / 1024) + R.1 / 256 := ⟨⟨2 * (D.1 / 1024) + R.1 / 256, by omega⟩, rfl⟩
  have hi := index2 t
  have hR : rowOf t ⟨R.1 % 256, by omega⟩ = R := Fin.ext (by show 256 * (t.1 % 2) + R.1 % 256 = R.1; omega)
  have hD : colOf t ⟨D.1 % 1024, by omega⟩ = D := Fin.ext (by show 1024 * (t.1 / 2) + D.1 % 1024 = D.1; omega)
  have h := congrFun ((blocks2 m c t (flush2 _)).trans (flushed2 m c _)) (ix2 (⟨R.1 % 256, by omega⟩ : Fin 256) (⟨D.1 % 1024, by omega⟩ : Fin 1024))
  refine Eq.trans (congrArg ((dats m 0 c).arrAt 2 cfg0.N : (⟨S512x2048, .bf16⟩ : BufTy).Contents (Elt Ideal)) ?_) (h.trans ?_)
  · funext a
    apply Fin.ext
    match a with
    | ⟨0, _⟩ => show R.1 = win0_2.index t 0 * 256 + 1 * (R.1 % 256); rw [hi.1]; omega
    | ⟨1, _⟩ => show D.1 = win0_2.index t 1 * 1024 + 1 * (D.1 % 1024); rw [hi.2]; omega
  · refine (out2_apply _ _ (⟨R.1 % 256, by omega⟩ : Fin 256) (⟨D.1 % 1024, by omega⟩ : Fin 1024)).trans ?_
    simp only [x0_apply, x1_apply]
    show dot (A0 m c) (A1 m c) (rowOf t ⟨R.1 % 256, by omega⟩) (colOf t ⟨D.1 % 1024, by omega⟩) = _
    rw [hR, hD]

end Cert.MemKv

end
-- ==== Proof.MemKv.RefValue.lean ====
module

public import proofs.«01_k».proof.Proof.Gen.MemKvRefIdeal.Run
public import proofs.«01_k».proof.Proof.MemKv.Array

@[expose] public section

noncomputable section

namespace Cert.MemKv.Ref

open Idealize.ShloMosaic Idealize.ShloMosaic.TcCoe Idealize.SL.Sem
open Cert.MemKvRefIdeal Cert.MemKvRefIdeal.Gen

variable (h : Vec Ideal S2x256x1024 .f32) (w : Vec Ideal S4x1024x2048 .f32)

/-- The reference's result. -/
def result : Vec Ideal S512x2048 .bf16 :=
  truncf (F := Ideal) .bf16 (shapeCast S512x2048 (Host.dotGeneral (F := Ideal) (φ₁ := .f32) (φ₂ := .f32) dot_S2x256x1024_S1024x2048_S2x256x2048_2_0_01_1_n_n none h (shapeCast S1024x2048 (extractStridedSlice S1x1024x2048 ![3, 0, 0] w slices_S4x1024x2048_S1x1024x2048_3_0_0) shapeCasts_S1x1024x2048_S1024x2048)) shapeCasts_S2x256x2048_S512x2048) bitsLt_bf16_f32

set_option maxRecDepth 16384 in
theorem result_apply (R : Fin 512) (D : Fin 2048) : result h w (ix2 R D) = dot h w R D := by
  pointwise [result]
  rfl

end Cert.MemKv.Ref

end
-- ==== Proof.Layer.Compress.lean ====
module

public import proofs.«01_k».proof.Proof.Layer.Math

@[expose] public section

noncomputable section

namespace Cert.Layer

open Idealize.ShloMosaic Idealize.ShloMosaic.TcCoe Idealize.SL.Sem

/-! ### The compression of the keys and of the values, entry by entry. -/

/-- The hyperbolic-tangent form of the Gaussian unit. -/
def cube (u : EReal) : EReal := u * (Ideal.ofBits .f32 0x3F000000#32 * (1 + Ideal.tanh (Ideal.ofBits .f32 0x3F4C422A#32 * (u + Ideal.ofBits .f32 0x3D372713#32 * (u * u * u)))))

/-- Entry `d` of chunk `i` (of sixteen steps, head `γ`). -/
def chunk (t : (⟨4, ![2, 8192, 4, 64]⟩ : Shape).Idx → EReal) (β : Fin 2) (γ : Fin 4) (i : Fin 512) (d : Fin 1024) : EReal :=
  t (ix4 β ⟨16 * i.1 + d.1 / 64, by omega⟩ γ ⟨d.1 % 64, by omega⟩)

/-- The chunk after `i`; the first follows the last. -/
def next (i : Fin 512) : Fin 512 := ⟨(i.1 + 1) % 512, by omega⟩

/-- The hidden layer's entry `k` for the block that starts at chunk `i`. -/
def hiddenEntry (x y : Fin 1024 → EReal) (pe : (⟨3, ![2, 32, 64]⟩ : Shape).Idx → EReal) (w : (⟨3, ![2, 2048, 256]⟩ : Shape).Idx → EReal)
    (b : (⟨2, ![2, 256]⟩ : Shape).Idx → EReal) (s : Fin 2) (k : Fin 256) : EReal :=
  cube ((∑ d : Fin 1024, (x d + pe (ix3 s ⟨d.1 / 64, by omega⟩ ⟨d.1 % 64, by omega⟩)) * w (ix3 s ⟨d.1, by omega⟩ k))
    + (∑ d : Fin 1024, (y d + pe (ix3 s ⟨16 + d.1 / 64, by omega⟩ ⟨d.1 % 64, by omega⟩)) * w (ix3 s ⟨1024 + d.1, by omega⟩ k)) + b (ix2 s k))

/-- The compressed entry `e` of head `γ` of batch `β`, block `i`. -/
def squeezed (t : (⟨4, ![2, 8192, 4, 64]⟩ : Shape).Idx → EReal) (pe : (⟨3, ![2, 32, 64]⟩ : Shape).Idx → EReal) (w : (⟨3, ![2, 2048, 256]⟩ : Shape).Idx → EReal)
    (b : (⟨2, ![2, 256]⟩ : Shape).Idx → EReal) (w' : (⟨3, ![2, 256, 64]⟩ : Shape).Idx → EReal) (s : Fin 2) (β : Fin 2) (γ : Fin 4) (i : Fin 512) (e : Fin 64) : EReal :=
  ∑ k : Fin 256, hiddenEntry (chunk t β γ i) (chunk t β γ (next i)) pe w b s k * w' (ix3 s k e)

/-- The rotation of a row of sixty-four by the angles with cosines `c` and sines `s`. -/
def rotated (f : Fin 64 → EReal) (c s : Fin 32 → EReal) (e : Fin 64) : EReal :=
  if h : e.1 < 32 then f e * c ⟨e.1, h⟩ - f ⟨32 + e.1, by omega⟩ * s ⟨e.1, h⟩ else f e * c ⟨e.1 - 32, by omega⟩ + f ⟨e.1 - 32, by omega⟩ * s ⟨e.1 - 32, by omega⟩

end Cert.Layer

end
-- ==== Proof.CmpK.Array.lean ====
module

public import proofs.«01_k».proof.Proof.Gen.CmpKIdeal.Value
public import proofs.«01_k».proof.Proof.Layer.Compress

@[expose] public section

noncomputable section

namespace Cert.CmpK

open Idealize.ShloMosaic Idealize.ShloMosaic.TcCoe Idealize.SL.Sem
open Cert.CmpKIdeal Cert.CmpKIdeal.Gen Cert.CmpKIdeal.Value Cert.Layer

/-- The hidden layer before its unit, as the kernel computes it on a block. -/
def pre (x0 : Vec Ideal S1x512x1024 .bf16) (x1 : Vec Ideal S1x2x1024 .f32) (x2 : Vec Ideal S1x2048x256 .bf16) (x3 : Vec Ideal S1x1x256 .f32) (r : Fin 512) (k : Fin 256) : EReal :=
  (∑ d : Fin 1024, (x0 (ix3 0 r d) + x1 (ix3 0 0 d)) * x2 (ix3 0 ⟨d.1, by omega⟩ k))
    + (∑ d : Fin 1024, (x0 (ix3 0 (next r) d) + x1 (ix3 0 1 d)) * x2 (ix3 0 ⟨1024 + d.1, by omega⟩ k)) + x3 (ix3 0 0 k)

set_option maxRecDepth 16384 in
theorem pay2_apply (x0 : Vec Ideal S1x512x1024 .bf16) (x1 : Vec Ideal S1x2x1024 .f32) (x2 : Vec Ideal S1x2048x256 .bf16) (x3 : Vec Ideal S1x1x256 .f32) (r : Fin 512) (k : Fin 256) :
    k0_pay2 (F := Ideal) x0 x1 x2 x3 (ix2 r k) = cube (pre x0 x1 x2 x3 r k) := by
  pointwise [k0_pay2]
  have hn : (⟨(r.1 + 512 - 511) % 512, by omega⟩ : Fin 512) = next r := Fin.ext (by show (r.1 + 512 - 511) % 512 = (r.1 + 1) % 512; omega)
  simp only [hn]
  unfold cube
  rw [mul_comm (Ideal.ofBits .f32 0x3F000000#32), mul_assoc]
  rfl

/-- The rotation with the tables laid out lane by lane: each entry's partner is thirty-two lanes away. -/
def turned (f c s : Fin 64 → EReal) (e : Fin 64) : EReal := f e * c e + f ⟨(e.1 + 32) % 64, by omega⟩ * s e

set_option maxRecDepth 16384 in
theorem pay1_apply (h : Vec Ideal S512x256 .bf16) (x4 : Vec Ideal S1x256x64 .bf16) (x5 x6 : Vec Ideal S1x512x128 .f32) (r : Fin 512) (e : Fin 64) :
    k0_pay1 (F := Ideal) h x4 x5 x6 (ix3 0 r e) = turned (fun e => ∑ k, h (ix2 r k) * x4 (ix3 0 k e)) (fun e => x5 (ix3 0 r ⟨e.1, by omega⟩)) (fun e => x6 (ix3 0 r ⟨e.1, by omega⟩)) e := by
  pointwise [k0_pay1]
  unfold turned
  refine congrArg₂ (· + ·) rfl (congrArg₂ (· * ·) ?_ rfl)
  by_cases he : e.1 < 32
  · refine (dif_pos he).trans ?_
    rw [show (⟨(e.1 + 32) % 64, by omega⟩ : Fin 64) = ⟨32 + e.1, by omega⟩ from Fin.ext (by show (e.1 + 32) % 64 = 32 + e.1; omega)]
  · refine (dif_neg he).trans ?_
    rw [show (⟨(e.1 + 32) % 64, by omega⟩ : Fin 64) = ⟨e.1 - 32, by omega⟩ from Fin.ext (by show (e.1 + 32) % 64 = e.1 - 32; omega)]

theorem turned_congr {f f' c c' s s' : Fin 64 → EReal} (hf : f = f') (hc : c = c') (hs : s = s') (e : Fin 64) : turned f c s e = turned f' c' s' e := by
  rw [hf, hc, hs]

/-- The two ways of writing the rotation agree. -/
theorem turned_eq (f : Fin 64 → EReal) (c s : Fin 32 → EReal) (e : Fin 64) :
    turned f (fun e => c ⟨e.1 % 32, by omega⟩) (fun e => if e.1 < 32 then -s ⟨e.1 % 32, by omega⟩ else s ⟨e.1 % 32, by omega⟩) e = rotated f c s e := by
  unfold turned rotated
  simp only
  by_cases h : e.1 < 32
  · rw [dif_pos h, if_pos h, mul_neg, sub_eq_add_neg]
    have h1 : (⟨(e.1 + 32) % 64, by omega⟩ : Fin 64) = ⟨32 + e.1, by omega⟩ := Fin.ext (by show (e.1 + 32) % 64 = 32 + e.1; omega)
    have h2 : (⟨e.1 % 32, by omega⟩ : Fin 32) = ⟨e.1, h⟩ := Fin.ext (by show e.1 % 32 = e.1; omega)
    rw [h1, h2]
  · rw [dif_neg h, if_neg h]
    have h1 : (⟨(e.1 + 32) % 64, by omega⟩ : Fin 64) = ⟨e.1 - 32, by omega⟩ := Fin.ext (by show (e.1 + 32) % 64 = e.1 - 32; omega)
    have h2 : (⟨e.1 % 32, by omega⟩ : Fin 32) = ⟨e.1 - 32, by omega⟩ := Fin.ext (by show e.1 % 32 = e.1 - 32; omega)
    rw [h1, h2]

theorem zero3 : (![0, 0, 0] : Fin 3 → Nat) = fun _ => 0 := funext fun a => by fin_cases a <;> rfl

theorem out7_apply (x0 : Vec Ideal S1x512x1024 .bf16) (x1 : Vec Ideal S1x2x1024 .f32) (x2 : Vec Ideal S1x2048x256 .bf16) (x3 : Vec Ideal S1x1x256 .f32) (x4 : Vec Ideal S1x256x64 .bf16) (x5 x6 : Vec Ideal S1x512x128 .f32) (r : Fin 512) (e : Fin 64) :
    out0_7 x0 x1 x2 x3 x4 x5 x6 (ix3 0 r e) = turned (fun e => ∑ k, cube (pre x0 x1 x2 x3 r k) * x4 (ix3 0 k e)) (fun e => x5 (ix3 0 r ⟨e.1, by omega⟩)) (fun e => x6 (ix3 0 r ⟨e.1, by omega⟩)) e := by
  unfold out0_7
  rw [View.canon_unit_zero zero3]
  have e0 : View.ld x0 r0_0 = x0 := View.ld_unit_zero zero3 _ _
  have e1 : View.ld x1 r0_1 = x1 := View.ld_unit_zero zero3 _ _
  have e2 : View.ld x2 r0_2 = x2 := View.ld_unit_zero zero3 _ _
  have e3 : View.ld x3 r0_3 = x3 := View.ld_unit_zero zero3 _ _
  have e4 : View.ld x4 r0_4 = x4 := View.ld_unit_zero zero3 _ _
  have e5 : View.ld x5 r0_5 = x5 := View.ld_unit_zero zero3 _ _
  have e6 : View.ld x6 r0_5 = x6 := View.ld_unit_zero zero3 _ _
  rw [e0, e1, e2, e3, e4, e5, e6]
  refine (pay1_apply _ _ _ _ r e).trans ?_
  simp only [pay2_apply]

variable (m : (ℓ : Loc nD τ sig) → Buf (Elt Ideal) ℓ)

abbrev A0 (c : Dev nD) : (⟨S2x8192x4x64, .f32⟩ : BufTy).Contents (Elt Ideal) := m ((c : Thread nD τ).loc main_arg0)
abbrev A1 (c : Dev nD) : (⟨S2x512x32, .f32⟩ : BufTy).Contents (Elt Ideal) := m ((c : Thread nD τ).loc main_arg1)
abbrev A2 (c : Dev nD) : (⟨S2x512x32, .f32⟩ : BufTy).Contents (Elt Ideal) := m ((c : Thread nD τ).loc main_arg2)
abbrev A3 (c : Dev nD) : (⟨S2x32x64, .f32⟩ : BufTy).Contents (Elt Ideal) := m ((c : Thread nD τ).loc main_arg3)
abbrev A4 (c : Dev nD) : (⟨S2x2048x256, .f32⟩ : BufTy).Contents (Elt Ideal) := m ((c : Thread nD τ).loc main_arg4)
abbrev A5 (c : Dev nD) : (⟨S2x256, .f32⟩ : BufTy).Contents (Elt Ideal) := m ((c : Thread nD τ).loc main_arg5)
abbrev A6 (c : Dev nD) : (⟨S2x256x64, .f32⟩ : BufTy).Contents (Elt Ideal) := m ((c : Thread nD τ).loc main_arg6)

/-- The table of cosines, one lane per entry. -/
def cosines (z : Vec Ideal S2x512x32 .f32) : Vec Ideal S2x512x128 .f32 :=
  concatenate S2x512x128 2 [⟨S2x512x32, z⟩, ⟨S2x512x32, z⟩, ⟨S2x512x32, z⟩, ⟨S2x512x32, z⟩] concatenates_S2x512x32_S2x512x32_S2x512x32_S2x512x32_S2x512x128_d2

/-- The table of sines, one lane per entry, with the sign the first half takes. -/
def sines (z : Vec Ideal S2x512x32 .f32) : Vec Ideal S2x512x128 .f32 :=
  concatenate S2x512x128 2 [⟨S2x512x32, Host.negf (F := Ideal) (φ := .f32) z⟩, ⟨S2x512x32, z⟩, ⟨S2x512x32, Host.negf (F := Ideal) (φ := .f32) z⟩, ⟨S2x512x32, z⟩] concatenates_S2x512x32_S2x512x32_S2x512x32_S2x512x32_S2x512x128_d2

theorem V_v2 (c : Dev nD) : (V m c main_v2 : (⟨S8x512x1024, .bf16⟩ : BufTy).Contents (Elt Ideal)) = truncf (F := Ideal) .bf16 (shapeCast S8x512x1024 (transpose S2x4x8192x64 [0, 2, 1, 3] (A0 m c) transposes_S2x8192x4x64_S2x4x8192x64_0_2_1_3) shapeCasts_S2x4x8192x64_S8x512x1024) bitsLt_bf16_f32 := by
  show StableHlo.after hostOps0 _ (Proc.devRef .tc main_v2) = _
  simp only [hostOps0]
  after_results
  rfl

theorem V_v3 (c : Dev nD) : (V m c main_v3 : (⟨S2x2x1024, .f32⟩ : BufTy).Contents (Elt Ideal)) = shapeCast S2x2x1024 (A3 m c) shapeCasts_S2x32x64_S2x2x1024 := by
  show StableHlo.after hostOps0 _ (Proc.devRef .tc main_v3) = _
  simp only [hostOps0]
  after_results
  rfl

theorem V_v8 (c : Dev nD) : (V m c main_v8 : (⟨S2x2048x256, .bf16⟩ : BufTy).Contents (Elt Ideal)) = truncf (F := Ideal) .bf16 (A4 m c) bitsLt_bf16_f32 := by
  show StableHlo.after hostOps0 _ (Proc.devRef .tc main_v8) = _
  simp only [hostOps0]
  after_results

theorem V_v9 (c : Dev nD) : (V m c main_v9 : (⟨S2x1x256, .f32⟩ : BufTy).Contents (Elt Ideal)) = shapeCast S2x1x256 (A5 m c) shapeCasts_S2x256_S2x1x256 := by
  show StableHlo.after hostOps0 _ (Proc.devRef .tc main_v9) = _
  simp only [hostOps0]
  after_results
  rfl

theorem V_v10 (c : Dev nD) : (V m c main_v10 : (⟨S2x256x64, .bf16⟩ : BufTy).Contents (Elt Ideal)) = truncf (F := Ideal) .bf16 (A6 m c) bitsLt_bf16_f32 := by
  show StableHlo.after hostOps0 _ (Proc.devRef .tc main_v10) = _
  simp only [hostOps0]
  after_results

theorem V_v4 (c : Dev nD) : (V m c main_v4 : (⟨S2x512x128, .f32⟩ : BufTy).Contents (Elt Ideal)) = cosines (A1 m c) := by
  show StableHlo.after hostOps0 _ (Proc.devRef .tc main_v4) = _
  simp only [hostOps0]
  after_results
  rfl

theorem V_v7 (c : Dev nD) : (V m c main_v7 : (⟨S2x512x128, .f32⟩ : BufTy).Contents (Elt Ideal)) = sines (A2 m c) := by
  show StableHlo.after hostOps0 _ (Proc.devRef .tc main_v7) = _
  simp only [hostOps0]
  after_results
  rfl

set_option maxRecDepth 16384 in
theorem steps_apply (z : Vec Ideal S2x8192x4x64 .f32) (n : Fin 8) (i : Fin 512) (d : Fin 1024) :
    shapeCast S8x512x1024 (transpose S2x4x8192x64 [0, 2, 1, 3] z transposes_S2x8192x4x64_S2x4x8192x64_0_2_1_3) shapeCasts_S2x4x8192x64_S8x512x1024 (ix3 n i d) = chunk z ⟨n.1 / 4, by omega⟩ ⟨n.1 % 4, by omega⟩ i d := by
  unfold chunk
  pointwise
  refine congrArg z (congrArg (fun q => ix4 _ q _ _) (Fin.ext ?_))
  simp only
  omega

set_option maxRecDepth 16384 in
theorem shift_apply (z : Vec Ideal S2x32x64 .f32) (s q : Fin 2) (d : Fin 1024) :
    shapeCast S2x2x1024 z shapeCasts_S2x32x64_S2x2x1024 (ix3 s q d) = z (ix3 s ⟨16 * q.1 + d.1 / 64, by omega⟩ ⟨d.1 % 64, by omega⟩) := by
  pointwise
  refine congrArg z (congrArg (fun q => ix3 _ q _) (Fin.ext ?_))
  simp only
  omega

set_option maxRecDepth 16384 in
theorem bias_apply (z : Vec Ideal S2x256 .f32) (s : Fin 2) (k : Fin 256) :
    shapeCast S2x1x256 z shapeCasts_S2x256_S2x1x256 (ix3 s 0 k) = z (ix2 s k) := by
  pointwise

set_option maxRecDepth 16384 in
theorem cosines_apply (z : Vec Ideal S2x512x32 .f32) (β : Fin 2) (i : Fin 512) (e : Fin 128) (he : e.1 < 64) :
    cosines z (ix3 β i e) = z (ix3 β i ⟨e.1 % 32, by omega⟩) := by
  pointwise [cosines]
  by_cases h : e.1 < 32
  · refine (dif_pos h).trans ?_
    exact congrArg (fun q => z (ix3 β i q)) (Fin.ext (by show e.1 = e.1 % 32; omega))
  · refine (dif_neg h).trans ((dif_pos (by omega)).trans ?_)
    exact congrArg (fun q => z (ix3 β i q)) (Fin.ext (by show e.1 - 32 = e.1 % 32; omega))

set_option maxRecDepth 16384 in
theorem sines_apply (z : Vec Ideal S2x512x32 .f32) (β : Fin 2) (i : Fin 512) (e : Fin 128) (he : e.1 < 64) :
    sines z (ix3 β i e) = if e.1 < 32 then -z (ix3 β i ⟨e.1 % 32, by omega⟩) else z (ix3 β i ⟨e.1 % 32, by omega⟩) := by
  pointwise [sines]
  by_cases h : e.1 < 32
  · rw [if_pos h]
    refine (dif_pos h).trans ?_
    exact congrArg (fun q => -z (ix3 β i q)) (Fin.ext (by show e.1 = e.1 % 32; omega))
  · rw [if_neg h]
    refine (dif_neg h).trans ((dif_pos (by omega)).trans ?_)
    exact congrArg (fun q => z (ix3 β i q)) (Fin.ext (by show e.1 - 32 = e.1 % 32; omega))

theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 3) = 0 ∧ win0_1.index t (1 : Fin 3) = 0 ∧ win0_1.index t (2 : Fin 3) = 0 :=
  (by decide +kernel : ∀ t : Fin grid0.N, _)
theorem index2 : ∀ t : Fin cfg0.N, win0_2.index t (0 : Fin 3) = 0 ∧ win0_2.index t (1 : Fin 3) = 0 ∧ win0_2.index t (2 : Fin 3) = 0 :=
  (by decide +kernel : ∀ t : Fin grid0.N, _)
theorem index3 : ∀ t : Fin cfg0.N, win0_3.index t (0 : Fin 3) = 0 ∧ win0_3.index t (1 : Fin 3) = 0 ∧ win0_3.index t (2 : Fin 3) = 0 :=
  (by decide +kernel : ∀ t : Fin grid0.N, _)
theorem index4 : ∀ t : Fin cfg0.N, win0_4.index t (0 : Fin 3) = 0 ∧ win0_4.index t (1 : Fin 3) = 0 ∧ win0_4.index t (2 : Fin 3) = 0 :=
  (by decide +kernel : ∀ t : Fin grid0.N, _)
theorem index5 : ∀ t : Fin cfg0.N, win0_5.index t (0 : Fin 3) = t.val / 4 ∧ win0_5.index t (1 : Fin 3) = 0 ∧ win0_5.index t (2 : Fin 3) = 0 :=
  (by decide +kernel : ∀ t : Fin grid0.N, _)
theorem index6 : ∀ t : Fin cfg0.N, win0_6.index t (0 : Fin 3) = t.val / 4 ∧ win0_6.index t (1 : Fin 3) = 0 ∧ win0_6.index t (2 : Fin 3) = 0 :=
  (by decide +kernel : ∀ t : Fin grid0.N, _)
theorem index7 : ∀ t : Fin cfg0.N, win0_7.index t (0 : Fin 3) = t.val ∧ win0_7.index t (1 : Fin 3) = 0 ∧ win0_7.index t (2 : Fin 3) = 0 :=
  (by decide +kernel : ∀ t : Fin grid0.N, _)

theorem lt_points (t : Fin cfg0.N) : t.1 < 8 := lt_of_lt_of_eq t.2 (show cfg0.N = 8 from N_0)

/-- The batch and the head of block `t`. -/
abbrev batch (t : Fin cfg0.N) : Fin 2 := ⟨t.1 / 4, by have := lt_points t; omega⟩
abbrev head (t : Fin cfg0.N) : Fin 4 := ⟨t.1 % 4, by omega⟩

theorem x0_apply (c : Dev nD) (t : Fin cfg0.N) (r : Fin 512) (d : Fin 1024) : (iblk m c 0 t : Vec Ideal S1x512x1024 .bf16) (ix3 0 r d) = chunk (A0 m c) (batch t) (head t) r d := by
  have hi := index0 t
  show (V m c main_v2 : (⟨S8x512x1024, .bf16⟩ : BufTy).Contents (Elt Ideal)) (((cfg0.win 0).blk t).view.emb (ix3 0 r d)) = _
  rw [show ((cfg0.win 0).blk t).view.emb (ix3 0 r d) = (ix3 ⟨t.1, lt_points t⟩ r d : S8x512x1024.Idx) from by
    funext a
    apply Fin.ext
    match a with
    | ⟨0, _⟩ => show win0_0.index t 0 * 1 + 1 * 0 = t.1; rw [hi.1]; omega
    | ⟨1, _⟩ => show win0_0.index t 1 * 512 + 1 * r.1 = r.1; rw [hi.2.1]; omega
    | ⟨2, _⟩ => show win0_0.index t 2 * 1024 + 1 * d.1 = d.1; rw [hi.2.2]; omega]
  exact (congrFun (V_v2 m c) (ix3 ⟨t.1, lt_points t⟩ r d)).trans (steps_apply (A0 m c) _ r d)

theorem x1_apply (c : Dev nD) (t : Fin cfg0.N) (q : Fin 2) (d : Fin 1024) : (iblk m c 1 t : Vec Ideal S1x2x1024 .f32) (ix3 0 q d) = A3 m c (ix3 0 ⟨16 * q.1 + d.1 / 64, by omega⟩ ⟨d.1 % 64, by omega⟩) := by
  have hi := index1 t
  show (V m c main_v3 : (⟨S2x2x1024, .f32⟩ : BufTy).Contents (Elt Ideal)) (((cfg0.win 1).blk t).view.emb (ix3 0 q d)) = _
  rw [show ((cfg0.win 1).blk t).view.emb (ix3 0 q d) = (ix3 0 q d : S2x2x1024.Idx) from by
    funext a
    apply Fin.ext
    match a with
    | ⟨0, _⟩ => show win0_1.index t 0 * 1 + 1 * 0 = 0; rw [hi.1]
    | ⟨1, _⟩ => show win0_1.index t 1 * 2 + 1 * q.1 = q.1; rw [hi.2.1]; omega
    | ⟨2, _⟩ => show win0_1.index t 2 * 1024 + 1 * d.1 = d.1; rw [hi.2.2]; omega]
  exact (congrFun (V_v3 m c) (ix3 0 q d)).trans (shift_apply (A3 m c) 0 q d)

theorem x2_apply (c : Dev nD) (t : Fin cfg0.N) (d : Fin 2048) (k : Fin 256) : (iblk m c 2 t : Vec Ideal S1x2048x256 .bf16) (ix3 0 d k) = A4 m c (ix3 0 d k) := by
  have hi := index2 t
  show (V m c main_v8 : (⟨S2x2048x256, .bf16⟩ : BufTy).Contents (Elt Ideal)) (((cfg0.win 2).blk t).view.emb (ix3 0 d k)) = _
  rw [show ((cfg0.win 2).blk t).view.emb (ix3 0 d k) = (ix3 0 d k : S2x2048x256.Idx) from by
    funext a
    apply Fin.ext
    match a with
    | ⟨0, _⟩ => show win0_2.index t 0 * 1 + 1 * 0 = 0; rw [hi.1]
    | ⟨1, _⟩ => show win0_2.index t 1 * 2048 + 1 * d.1 = d.1; rw [hi.2.1]; omega
    | ⟨2, _⟩ => show win0_2.index t 2 * 256 + 1 * k.1 = k.1; rw [hi.2.2]; omega]
  exact congrFun (V_v8 m c) (ix3 0 d k)

theorem x3_apply (c : Dev nD) (t : Fin cfg0.N) (k : Fin 256) : (iblk m c 3 t : Vec Ideal S1x1x256 .f32) (ix3 0 0 k) = A5 m c (ix2 0 k) := by
  have hi := index3 t
  show (V m c main_v9 : (⟨S2x1x256, .f32⟩ : BufTy).Contents (Elt Ideal)) (((cfg0.win 3).blk t).view.emb (ix3 0 0 k)) = _
  rw [show ((cfg0.win 3).blk t).view.emb (ix3 0 0 k) = (ix3 0 0 k : S2x1x256.Idx) from by
    funext a
    apply Fin.ext
    match a with
    | ⟨0, _⟩ => show win0_3.index t 0 * 1 + 1 * 0 = 0; rw [hi.1]
    | ⟨1, _⟩ => show win0_3.index t 1 * 1 + 1 * 0 = 0; rw [hi.2.1]
    | ⟨2, _⟩ => show win0_3.index t 2 * 256 + 1 * k.1 = k.1; rw [hi.2.2]; omega]
  exact (congrFun (V_v9 m c) (ix3 0 0 k)).trans (bias_apply (A5 m c) 0 k)

theorem x4_apply (c : Dev nD) (t : Fin cfg0.N) (k : Fin 256) (e : Fin 64) : (iblk m c 4 t : Vec Ideal S1x256x64 .bf16) (ix3 0 k e) = A6 m c (ix3 0 k e) := by
  have hi := index4 t
  show (V m c main_v10 : (⟨S2x256x64, .bf16⟩ : BufTy).Contents (Elt Ideal)) (((cfg0.win 4).blk t).view.emb (ix3 0 k e)) = _
  rw [show ((cfg0.win 4).blk t).view.emb (ix3 0 k e) = (ix3 0 k e : S2x256x64.Idx) from by
    funext a
    apply Fin.ext
    match a with
    | ⟨0, _⟩ => show win0_4.index t 0 * 1 + 1 * 0 = 0; rw [hi.1]
    | ⟨1, _⟩ => show win0_4.index t 1 * 256 + 1 * k.1 = k.1; rw [hi.2.1]; omega
    | ⟨2, _⟩ => show win0_4.index t 2 * 64 + 1 * e.1 = e.1; rw [hi.2.2]; omega]
  exact congrFun (V_v10 m c) (ix3 0 k e)

theorem x5_apply (c : Dev nD) (t : Fin cfg0.N) (r : Fin 512) (e : Fin 64) : (iblk m c 5 t : Vec Ideal S1x512x128 .f32) (ix3 0 r ⟨e.1, by omega⟩) = A1 m c (ix3 (batch t) r ⟨e.1 % 32, by omega⟩) := by
  have hi := index5 t
  show (V m c main_v4 : (⟨S2x512x128, .f32⟩ : BufTy).Contents (Elt Ideal)) (((cfg0.win 5).blk t).view.emb (ix3 0 r ⟨e.1, by omega⟩)) = _
  rw [show ((cfg0.win 5).blk t).view.emb (ix3 0 r ⟨e.1, by omega⟩) = (ix3 (batch t) r ⟨e.1, by omega⟩ : S2x512x128.Idx) from by
    funext a
    apply Fin.ext
    match a with
    | ⟨0, _⟩ => show win0_5.index t 0 * 1 + 1 * 0 = t.1 / 4; rw [hi.1]; omega
    | ⟨1, _⟩ => show win0_5.index t 1 * 512 + 1 * r.1 = r.1; rw [hi.2.1]; omega
    | ⟨2, _⟩ => show win0_5.index t 2 * 128 + 1 * e.1 = e.1; rw [hi.2.2]; omega]
  exact (congrFun (V_v4 m c) (ix3 (batch t) r ⟨e.1, by omega⟩)).trans (cosines_apply (A1 m c) _ r _ e.2)

theorem x6_apply (c : Dev nD) (t : Fin cfg0.N) (r : Fin 512) (e : Fin 64) : (iblk m c 6 t : Vec Ideal S1x512x128 .f32) (ix3 0 r ⟨e.1, by omega⟩) = if e.1 < 32 then -A2 m c (ix3 (batch t) r ⟨e.1 % 32, by omega⟩) else A2 m c (ix3 (batch t) r ⟨e.1 % 32, by omega⟩) := by
  have hi := index6 t
  show (V m c main_v7 : (⟨S2x512x128, .f32⟩ : BufTy).Contents (Elt Ideal)) (((cfg0.win 6).blk t).view.emb (ix3 0 r ⟨e.1, by omega⟩)) = _
  rw [show ((cfg0.win 6).blk t).view.emb (ix3 0 r ⟨e.1, by omega⟩) = (ix3 (batch t) r ⟨e.1, by omega⟩ : S2x512x128.Idx) from by
    funext a
    apply Fin.ext
    match a with
    | ⟨0, _⟩ => show win0_6.index t 0 * 1 + 1 * 0 = t.1 / 4; rw [hi.1]; omega
    | ⟨1, _⟩ => show win0_6.index t 1 * 512 + 1 * r.1 = r.1; rw [hi.2.1]; omega
    | ⟨2, _⟩ => show win0_6.index t 2 * 128 + 1 * e.1 = e.1; rw [hi.2.2]; omega]
  exact (congrFun (V_v7 m c) (ix3 (batch t) r ⟨e.1, by omega⟩)).trans (sines_apply (A2 m c) _ r _ e.2)

theorem pre_block (c : Dev nD) (t : Fin cfg0.N) (r : Fin 512) (k : Fin 256) :
    cube (pre (iblk m c 0 t : Vec Ideal S1x512x1024 .bf16) (iblk m c 1 t : Vec Ideal S1x2x1024 .f32) (iblk m c 2 t : Vec Ideal S1x2048x256 .bf16) (iblk m c 3 t : Vec Ideal S1x1x256 .f32) r k) = hiddenEntry (chunk (A0 m c) (batch t) (head t) r) (chunk (A0 m c) (batch t) (head t) (next r)) (A3 m c) (A4 m c) (A5 m c) 0 k := by
  unfold pre hiddenEntry
  refine congrArg cube (congrArg₂ (· + ·) (congrArg₂ (· + ·) (Finset.sum_congr rfl fun d _ => ?_) (Finset.sum_congr rfl fun d _ => ?_)) (x3_apply m c t k))
  · refine congrArg₂ (· * ·) (congrArg₂ (· + ·) (x0_apply m c t r d) ((x1_apply m c t 0 d).trans ?_)) (x2_apply m c t _ k)
    exact congrArg (fun q => A3 m c (ix3 0 q _)) (Fin.ext (by show 16 * 0 + d.1 / 64 = d.1 / 64; omega))
  · exact congrArg₂ (· * ·) (congrArg₂ (· + ·) (x0_apply m c t (next r) d) (x1_apply m c t 1 d)) (x2_apply m c t _ k)

theorem flush7 : ∀ t : Fin cfg0.N, (cfg0.win 7).flush t = true := (by decide +kernel : ∀ t : Fin grid0.N, _)

/-- The result after the run. -/
theorem result7 (c : Dev nD) (n : Fin 8) (i : Fin 512) (e : Fin 64) :
    ((dats m 0 c).arrAt 7 cfg0.N : (⟨S8x512x64, .bf16⟩ : BufTy).Contents (Elt Ideal)) (ix3 n i e) = rotated (squeezed (A0 m c) (A3 m c) (A4 m c) (A5 m c) (A6 m c) 0 ⟨n.1 / 4, by omega⟩ ⟨n.1 % 4, by omega⟩ i) (fun e => A1 m c (ix3 ⟨n.1 / 4, by omega⟩ i e)) (fun e => A2 m c (ix3 ⟨n.1 / 4, by omega⟩ i e)) e := by
  have hN : cfg0.N = 8 := N_0
  have hi := index7 ⟨n.1, by omega⟩
  have h := congrFun ((blocks7 m c ⟨n.1, by omega⟩ (flush7 _)).trans (flushed7 m c _)) (ix3 0 i e)
  refine Eq.trans (congrArg ((dats m 0 c).arrAt 7 cfg0.N : (⟨S8x512x64, .bf16⟩ : BufTy).Contents (Elt Ideal)) ?_) (h.trans ?_)
  · funext a
    apply Fin.ext
    match a with
    | ⟨0, _⟩ => show n.1 = win0_7.index ⟨n.1, _⟩ 0 * 1 + 1 * 0; rw [hi.1]; show n.1 = n.1 * 1 + 1 * 0; omega
    | ⟨1, _⟩ => show i.1 = win0_7.index ⟨n.1, _⟩ 1 * 512 + 1 * i.1; rw [hi.2.1]; omega
    | ⟨2, _⟩ => show e.1 = win0_7.index ⟨n.1, _⟩ 2 * 64 + 1 * e.1; rw [hi.2.2]; omega
  · refine (out7_apply _ _ _ _ _ _ _ i e).trans ?_
    refine Eq.trans ?_ (turned_eq (squeezed (A0 m c) (A3 m c) (A4 m c) (A5 m c) (A6 m c) 0 ⟨n.1 / 4, by omega⟩ ⟨n.1 % 4, by omega⟩ i) (fun e => A1 m c (ix3 ⟨n.1 / 4, by omega⟩ i e)) (fun e => A2 m c (ix3 ⟨n.1 / 4, by omega⟩ i e)) e)
    refine turned_congr (funext fun e => Finset.sum_congr rfl fun k _ => congrArg₂ (· * ·) (pre_block m c _ i k) (x4_apply m c _ k e)) (funext fun e => ?_) (funext fun e => ?_) e
    · exact x5_apply m c ⟨n.1, by omega⟩ i e
    · exact x6_apply m c ⟨n.1, by omega⟩ i e

end Cert.CmpK

end
-- ==== Proof.CmpK.RefValue.lean ====
module

public import proofs.«01_k».proof.Proof.Gen.CmpKRefIdeal.Run
public import proofs.«01_k».proof.Proof.Layer.Compress

@[expose] public section

noncomputable section

namespace Cert.CmpK.Ref

open Idealize.ShloMosaic Idealize.ShloMosaic.TcCoe Idealize.SL.Sem
open Cert.CmpKRefIdeal Cert.CmpKRefIdeal.Gen Cert.Layer

/-- The steps in chunks of sixteen. -/
def chunks (t : Vec Ideal S2x8192x4x64 .f32) : Vec Ideal S2x512x16x4x64 .f32 := shapeCast S2x512x16x4x64 t shapeCasts_S2x8192x4x64_S2x512x16x4x64

/-- The chunk after each. -/
def following (x : Vec Ideal S2x512x16x4x64 .f32) : Vec Ideal S2x512x16x4x64 .f32 :=
  concatenate S2x512x16x4x64 1 [⟨S2x511x16x4x64, extractStridedSlice S2x511x16x4x64 ![0, 1, 0, 0, 0] x slices_S2x512x16x4x64_S2x511x16x4x64_0_1_0_0_0⟩, ⟨S2x1x16x4x64, extractStridedSlice S2x1x16x4x64 ![0, 0, 0, 0, 0] x slices_S2x512x16x4x64_S2x1x16x4x64_0_0_0_0_0⟩] concatenates_S2x511x16x4x64_S2x1x16x4x64_S2x512x16x4x64_d1

/-- The blocks of thirty-two steps, with the positions' shifts added, one row per head. -/
def flat (x y : Vec Ideal S2x512x16x4x64 .f32) (pe : Vec Ideal S2x32x64 .f32) : Vec Ideal S2x512x4x2048 .f32 :=
  shapeCast S2x512x4x2048 (transpose S2x512x4x32x64 [0, 1, 3, 2, 4] (addf (F := Ideal) (φ := .f32) (concatenate S2x512x32x4x64 2 [⟨S2x512x16x4x64, x⟩, ⟨S2x512x16x4x64, y⟩] concatenates_S2x512x16x4x64_S2x512x16x4x64_S2x512x32x4x64_d2) (broadcastInDim S2x512x32x4x64 ![0, 1, 2, 3, 4] bcast_S1x1x32x1x64_S2x512x32x4x64_0_1_2_3_4 (broadcastInDim S1x1x32x1x64 ![2, 4] bcast_S32x64_S1x1x32x1x64_2_4 (shapeCast S32x64 (extractStridedSlice S1x32x64 ![0, 0, 0] pe slices_S2x32x64_S1x32x64_0_0_0) shapeCasts_S1x32x64_S32x64)))) transposes_S2x512x32x4x64_S2x512x4x32x64_0_1_3_2_4) shapeCasts_S2x512x4x32x64_S2x512x4x2048

/-- The hidden layer before its unit. -/
def pre (f : Vec Ideal S2x512x4x2048 .f32) (w : Vec Ideal S2x2048x256 .f32) (b : Vec Ideal S2x256 .f32) : Vec Ideal S2x512x4x256 .f32 :=
  addf (F := Ideal) (φ := .f32) (Host.dotGeneral (F := Ideal) (φ₁ := .f32) (φ₂ := .f32) dot_S2x512x4x2048_S2048x256_S2x512x4x256_3_0_012_1_n_n none f (shapeCast S2048x256 (extractStridedSlice S1x2048x256 ![0, 0, 0] w slices_S2x2048x256_S1x2048x256_0_0_0) shapeCasts_S1x2048x256_S2048x256)) (broadcastInDim S2x512x4x256 ![0, 1, 2, 3] bcast_S1x1x1x256_S2x512x4x256_0_1_2_3 (broadcastInDim S1x1x1x256 ![3] bcast_S256_S1x1x1x256_3 (shapeCast S256 (extractStridedSlice S1x256 ![0, 0] b slices_S2x256_S1x256_0_0) shapeCasts_S1x256_S256)))

/-- The unit. -/
def act (u : Vec Ideal S2x512x4x256 .f32) : Vec Ideal S2x512x4x256 .f32 :=
  mulf (F := Ideal) (φ := .f32) u (mulf (broadcastInDim S2x512x4x256 ![] bcast_S_S2x512x4x256 (constant S_ .f32 0x3F000000#32)) (addf (broadcastInDim S2x512x4x256 ![] bcast_S_S2x512x4x256 (constant S_ .f32 0x3F800000#32)) (Host.tanh (mulf (broadcastInDim S2x512x4x256 ![] bcast_S_S2x512x4x256 (constant S_ .f32 0x3F4C422A#32)) (addf u (mulf (broadcastInDim S2x512x4x256 ![] bcast_S_S2x512x4x256 (constant S_ .f32 0x3D372713#32)) (mulf (mulf u u) u)))))))

/-- The second product. -/
def raw (h : Vec Ideal S2x512x4x256 .f32) (w' : Vec Ideal S2x256x64 .f32) : Vec Ideal S2x512x4x64 .f32 :=
  Host.dotGeneral (F := Ideal) (φ₁ := .f32) (φ₂ := .f32) dot_S2x512x4x256_S256x64_S2x512x4x64_3_0_012_1_n_n none h (shapeCast S256x64 (extractStridedSlice S1x256x64 ![0, 0, 0] w' slices_S2x256x64_S1x256x64_0_0_0) shapeCasts_S1x256x64_S256x64)

/-- The rotation. -/
def turn (r : Vec Ideal S2x512x4x64 .f32) (co si : Vec Ideal S2x512x32 .f32) : Vec Ideal S2x512x4x64 .f32 :=
  concatenate S2x512x4x64 3 [⟨S2x512x4x32, (subf (F := Ideal) (φ := .f32) (mulf (extractStridedSlice S2x512x4x32 ![0, 0, 0, 0] r slices_S2x512x4x64_S2x512x4x32_0_0_0_0) (broadcastInDim S2x512x4x32 ![0, 1, 2, 3] bcast_S2x512x1x32_S2x512x4x32_0_1_2_3 (broadcastInDim S2x512x1x32 ![0, 1, 3] bcast_S2x512x32_S2x512x1x32_0_1_3 co))) (mulf (extractStridedSlice S2x512x4x32 ![0, 0, 0, 32] r slices_S2x512x4x64_S2x512x4x32_0_0_0_32) (broadcastInDim S2x512x4x32 ![0, 1, 2, 3] bcast_S2x512x1x32_S2x512x4x32_0_1_2_3 (broadcastInDim S2x512x1x32 ![0, 1, 3] bcast_S2x512x32_S2x512x1x32_0_1_3 si))))⟩, ⟨S2x512x4x32, (addf (F := Ideal) (φ := .f32) (mulf (extractStridedSlice S2x512x4x32 ![0, 0, 0, 32] r slices_S2x512x4x64_S2x512x4x32_0_0_0_32) (broadcastInDim S2x512x4x32 ![0, 1, 2, 3] bcast_S2x512x1x32_S2x512x4x32_0_1_2_3 (broadcastInDim S2x512x1x32 ![0, 1, 3] bcast_S2x512x32_S2x512x1x32_0_1_3 co))) (mulf (extractStridedSlice S2x512x4x32 ![0, 0, 0, 0] r slices_S2x512x4x64_S2x512x4x32_0_0_0_0) (broadcastInDim S2x512x4x32 ![0, 1, 2, 3] bcast_S2x512x1x32_S2x512x4x32_0_1_2_3 (broadcastInDim S2x512x1x32 ![0, 1, 3] bcast_S2x512x32_S2x512x1x32_0_1_3 si))))⟩] concatenates_S2x512x4x32_S2x512x4x32_S2x512x4x64_d3

/-- One row per head and block. -/
def laid (r : Vec Ideal S2x512x4x64 .f32) : Vec Ideal S8x512x64 .bf16 :=
  truncf (F := Ideal) .bf16 (shapeCast S8x512x64 (transpose S2x4x512x64 [0, 2, 1, 3] r transposes_S2x512x4x64_S2x4x512x64_0_2_1_3) shapeCasts_S2x4x512x64_S8x512x64) bitsLt_bf16_f32

/-- The reference's result. -/
def result (t : Vec Ideal S2x8192x4x64 .f32) (co si : Vec Ideal S2x512x32 .f32) (pe : Vec Ideal S2x32x64 .f32) (w : Vec Ideal S2x2048x256 .f32) (b : Vec Ideal S2x256 .f32) (w' : Vec Ideal S2x256x64 .f32) : Vec Ideal S8x512x64 .bf16 :=
  laid (turn (raw (act (pre (flat (chunks t) (following (chunks t)) pe) w b)) w') co si)

set_option maxRecDepth 16384 in
theorem chunks_apply (t : Vec Ideal S2x8192x4x64 .f32) (β : Fin 2) (i : Fin 512) (s : Fin 16) (γ : Fin 4) (e : Fin 64) :
    chunks t (ix5 β i s γ e) = t (ix4 β ⟨16 * i.1 + s.1, by omega⟩ γ e) := by
  pointwise [chunks]
  exact congrArg (fun q => t (ix4 β q γ e)) (Fin.ext (by show i.1 * 16 + s.1 = 16 * i.1 + s.1; omega))

set_option maxRecDepth 16384 in
theorem following_apply (x : Vec Ideal S2x512x16x4x64 .f32) (β : Fin 2) (i : Fin 512) (s : Fin 16) (γ : Fin 4) (e : Fin 64) :
    following x (ix5 β i s γ e) = x (ix5 β (next i) s γ e) := by
  pointwise [following]
  by_cases h : i.1 < 511
  · refine (dif_pos h).trans ?_
    exact congrArg (fun q => x (ix5 β q s γ e)) (Fin.ext (by show 1 + i.1 = (i.1 + 1) % 512; omega))
  · refine (dif_neg h).trans ?_
    exact congrArg (fun q => x (ix5 β q s γ e)) (Fin.ext (by show i.1 - 511 = (i.1 + 1) % 512; omega))

set_option maxRecDepth 16384 in
theorem flat_apply (x y : Vec Ideal S2x512x16x4x64 .f32) (pe : Vec Ideal S2x32x64 .f32) (β : Fin 2) (i : Fin 512) (γ : Fin 4) (d : Fin 2048) :
    flat x y pe (ix4 β i γ d) = (if h : d.1 / 64 < 16 then x (ix5 β i ⟨d.1 / 64, h⟩ γ ⟨d.1 % 64, by omega⟩) else y (ix5 β i ⟨d.1 / 64 - 16, by omega⟩ γ ⟨d.1 % 64, by omega⟩)) + pe (ix3 0 ⟨d.1 / 64, by omega⟩ ⟨d.1 % 64, by omega⟩) := by
  pointwise [flat]

set_option maxRecDepth 16384 in
theorem pre_apply (f : Vec Ideal S2x512x4x2048 .f32) (w : Vec Ideal S2x2048x256 .f32) (b : Vec Ideal S2x256 .f32) (β : Fin 2) (i : Fin 512) (γ : Fin 4) (k : Fin 256) :
    pre f w b (ix4 β i γ k) = (∑ d, f (ix4 β i γ d) * w (ix3 0 d k)) + b (ix2 0 k) := by
  pointwise [pre]

set_option maxRecDepth 16384 in
theorem act_apply (u : Vec Ideal S2x512x4x256 .f32) (β : Fin 2) (i : Fin 512) (γ : Fin 4) (k : Fin 256) :
    act u (ix4 β i γ k) = cube (u (ix4 β i γ k)) := by
  pointwise [act]
  rfl

set_option maxRecDepth 16384 in
theorem raw_apply (h : Vec Ideal S2x512x4x256 .f32) (w' : Vec Ideal S2x256x64 .f32) (β : Fin 2) (i : Fin 512) (γ : Fin 4) (e : Fin 64) :
    raw h w' (ix4 β i γ e) = ∑ k, h (ix4 β i γ k) * w' (ix3 0 k e) := by
  pointwise [raw]

set_option maxRecDepth 16384 in
theorem laid_apply (r : Vec Ideal S2x512x4x64 .f32) (n : Fin 8) (i : Fin 512) (e : Fin 64) :
    laid r (ix3 n i e) = r (ix4 ⟨n.1 / 4, by omega⟩ i ⟨n.1 % 4, by omega⟩ e) := by
  pointwise [laid]

/-- A product over the block is one over the first chunk and one over the second. -/
theorem two_halves (t : Vec Ideal S2x8192x4x64 .f32) (pe : Vec Ideal S2x32x64 .f32) (w : Vec Ideal S2x2048x256 .f32) (b : Vec Ideal S2x256 .f32) (β : Fin 2) (i : Fin 512) (γ : Fin 4) (k : Fin 256) :
    act (pre (flat (chunks t) (following (chunks t)) pe) w b) (ix4 β i γ k) = hiddenEntry (chunk t β γ i) (chunk t β γ (next i)) pe w b 0 k := by
  rw [act_apply, pre_apply]
  unfold hiddenEntry
  refine congrArg cube (congrArg (· + b (ix2 0 k)) ?_)
  rw [show (∑ d : Fin 2048, flat (chunks t) (following (chunks t)) pe (ix4 β i γ d) * w (ix3 0 d k)) = _ from
    Fin.sum_univ_add (a := 1024) (b := 1024) (fun d : Fin 2048 => flat (chunks t) (following (chunks t)) pe (ix4 β i γ d) * w (ix3 0 d k))]
  refine congrArg₂ (· + ·) (Finset.sum_congr rfl fun d _ => ?_) (Finset.sum_congr rfl fun d _ => ?_)
  · rw [flat_apply]
    refine congrArg₂ (· * ·) (congrArg₂ (· + ·) ((dif_pos (by show d.1 / 64 < 16; omega)).trans ?_) rfl) rfl
    rw [chunks_apply]
    rfl
  · rw [flat_apply]
    have hd : (1024 + d.1) / 64 = 16 + d.1 / 64 := by omega
    have hr : (1024 + d.1) % 64 = d.1 % 64 := by omega
    refine congrArg₂ (· * ·) (congrArg₂ (· + ·) ((dif_neg (by show ¬ (1024 + d.1) / 64 < 16; omega)).trans ?_) ?_) rfl
    · rw [following_apply, chunks_apply]
      unfold chunk
      refine congrArg₂ (fun p q => t (ix4 β p γ q)) (Fin.ext ?_) (Fin.ext hr)
      show 16 * (next i).1 + ((1024 + d.1) / 64 - 16) = 16 * (next i).1 + d.1 / 64
      omega
    · exact congrArg₂ (fun p q => pe (ix3 0 p q)) (Fin.ext hd) (Fin.ext hr)

set_option maxRecDepth 16384 in
theorem turn_apply (r : Vec Ideal S2x512x4x64 .f32) (co si : Vec Ideal S2x512x32 .f32) (β : Fin 2) (i : Fin 512) (γ : Fin 4) (e : Fin 64) :
    turn r co si (ix4 β i γ e) = rotated (fun e => r (ix4 β i γ e)) (fun e => co (ix3 β i e)) (fun e => si (ix3 β i e)) e := by
  pointwise [turn]
  unfold rotated
  by_cases h : e.1 < 32
  · refine (dif_pos h).trans (Eq.trans ?_ (dif_pos h).symm)
    rfl
  · refine (dif_neg h).trans (Eq.trans ?_ (dif_neg h).symm)
    rw [show (⟨32 + (e.1 - 32), by omega⟩ : Fin 64) = e from Fin.ext (by show 32 + (e.1 - 32) = e.1; omega)]

theorem result_apply (t : Vec Ideal S2x8192x4x64 .f32) (co si : Vec Ideal S2x512x32 .f32) (pe : Vec Ideal S2x32x64 .f32) (w : Vec Ideal S2x2048x256 .f32) (b : Vec Ideal S2x256 .f32) (w' : Vec Ideal S2x256x64 .f32) (n : Fin 8) (i : Fin 512) (e : Fin 64) :
    result t co si pe w b w' (ix3 n i e) = rotated (squeezed t pe w b w' 0 ⟨n.1 / 4, by omega⟩ ⟨n.1 % 4, by omega⟩ i) (fun e => co (ix3 ⟨n.1 / 4, by omega⟩ i e)) (fun e => si (ix3 ⟨n.1 / 4, by omega⟩ i e)) e := by
  unfold result
  rw [laid_apply, turn_apply]
  refine congrArg (fun f => rotated f _ _ e) (funext fun e => ?_)
  rw [raw_apply]
  exact Finset.sum_congr rfl fun k _ => congrArg (· * w' (ix3 0 k e)) (two_halves t pe w b _ i _ k)

end Cert.CmpK.Ref

end
-- ==== Proof.CmpV.Array.lean ====
module

public import proofs.«01_k».proof.Proof.Gen.CmpVIdeal.Value
public import proofs.«01_k».proof.Proof.Layer.Compress

@[expose] public section

noncomputable section

namespace Cert.CmpV

open Idealize.ShloMosaic Idealize.ShloMosaic.TcCoe Idealize.SL.Sem
open Cert.CmpVIdeal Cert.CmpVIdeal.Gen Cert.CmpVIdeal.Value Cert.Layer

/-- The hidden layer before its unit, as the kernel computes it on a block. -/
def pre (x0 : Vec Ideal S1x512x1024 .bf16) (x1 : Vec Ideal S1x2x1024 .f32) (x2 : Vec Ideal S1x2048x256 .bf16) (x3 : Vec Ideal S1x1x256 .f32) (r : Fin 512) (k : Fin 256) : EReal :=
  (∑ d : Fin 1024, (x0 (ix3 0 r d) + x1 (ix3 0 0 d)) * x2 (ix3 0 ⟨d.1, by omega⟩ k))
    + (∑ d : Fin 1024, (x0 (ix3 0 (next r) d) + x1 (ix3 0 1 d)) * x2 (ix3 0 ⟨1024 + d.1, by omega⟩ k)) + x3 (ix3 0 0 k)

set_option maxRecDepth 16384 in
theorem pay2_apply (x0 : Vec Ideal S1x512x1024 .bf16) (x1 : Vec Ideal S1x2x1024 .f32) (x2 : Vec Ideal S1x2048x256 .bf16) (x3 : Vec Ideal S1x1x256 .f32) (r : Fin 512) (k : Fin 256) :
    k0_pay2 (F := Ideal) x0 x1 x2 x3 (ix2 r k) = cube (pre x0 x1 x2 x3 r k) := by
  pointwise [k0_pay2]
  have hn : (⟨(r.1 + 512 - 511) % 512, by omega⟩ : Fin 512) = next r := Fin.ext (by show (r.1 + 512 - 511) % 512 = (r.1 + 1) % 512; omega)
  simp only [hn]
  unfold cube
  rw [mul_comm (Ideal.ofBits .f32 0x3F000000#32), mul_assoc]
  rfl

set_option maxRecDepth 16384 in
theorem pay1_apply (h : Vec Ideal S512x256 .bf16) (x4 : Vec Ideal S1x256x64 .bf16) (r : Fin 512) (e : Fin 64) :
    k0_pay1 (F := Ideal) h x4 (ix3 0 r e) = ∑ k, h (ix2 r k) * x4 (ix3 0 k e) := by
  pointwise [k0_pay1]

theorem zero3 : (![0, 0, 0] : Fin 3 → Nat) = fun _ => 0 := funext fun a => by fin_cases a <;> rfl

theorem out7_apply (x0 : Vec Ideal S1x512x1024 .bf16) (x1 : Vec Ideal S1x2x1024 .f32) (x2 : Vec Ideal S1x2048x256 .bf16) (x3 : Vec Ideal S1x1x256 .f32) (x4 : Vec Ideal S1x256x64 .bf16) (x5 x6 : Vec Ideal S1x512x128 .f32) (r : Fin 512) (e : Fin 64) :
    out0_7 x0 x1 x2 x3 x4 x5 x6 (ix3 0 r e) = ∑ k, cube (pre x0 x1 x2 x3 r k) * x4 (ix3 0 k e) := by
  unfold out0_7
  rw [View.canon_unit_zero zero3]
  have e0 : View.ld x0 r0_0 = x0 := View.ld_unit_zero zero3 _ _
  have e1 : View.ld x1 r0_1 = x1 := View.ld_unit_zero zero3 _ _
  have e2 : View.ld x2 r0_2 = x2 := View.ld_unit_zero zero3 _ _
  have e3 : View.ld x3 r0_3 = x3 := View.ld_unit_zero zero3 _ _
  have e4 : View.ld x4 r0_4 = x4 := View.ld_unit_zero zero3 _ _
  rw [e0, e1, e2, e3, e4]
  refine (pay1_apply _ _ r e).trans ?_
  simp only [pay2_apply]

variable (m : (ℓ : Loc nD τ sig) → Buf (Elt Ideal) ℓ)

abbrev A0 (c : Dev nD) : (⟨S2x8192x4x64, .f32⟩ : BufTy).Contents (Elt Ideal) := m ((c : Thread nD τ).loc main_arg0)
abbrev A1 (c : Dev nD) : (⟨S2x512x32, .f32⟩ : BufTy).Contents (Elt Ideal) := m ((c : Thread nD τ).loc main_arg1)
abbrev A2 (c : Dev nD) : (⟨S2x512x32, .f32⟩ : BufTy).Contents (Elt Ideal) := m ((c : Thread nD τ).loc main_arg2)
abbrev A3 (c : Dev nD) : (⟨S2x32x64, .f32⟩ : BufTy).Contents (Elt Ideal) := m ((c : Thread nD τ).loc main_arg3)
abbrev A4 (c : Dev nD) : (⟨S2x2048x256, .f32⟩ : BufTy).Contents (Elt Ideal) := m ((c : Thread nD τ).loc main_arg4)
abbrev A5 (c : Dev nD) : (⟨S2x256, .f32⟩ : BufTy).Contents (Elt Ideal) := m ((c : Thread nD τ).loc main_arg5)
abbrev A6 (c : Dev nD) : (⟨S2x256x64, .f32⟩ : BufTy).Contents (Elt Ideal) := m ((c : Thread nD τ).loc main_arg6)

theorem V_v2 (c : Dev nD) : (V m c main_v2 : (⟨S8x512x1024, .bf16⟩ : BufTy).Contents (Elt Ideal)) = truncf (F := Ideal) .bf16 (shapeCast S8x512x1024 (transpose S2x4x8192x64 [0, 2, 1, 3] (A0 m c) transposes_S2x8192x4x64_S2x4x8192x64_0_2_1_3) shapeCasts_S2x4x8192x64_S8x512x1024) bitsLt_bf16_f32 := by
  show StableHlo.after hostOps0 _ (Proc.devRef .tc main_v2) = _
  simp only [hostOps0]
  after_results
  rfl

theorem V_v3 (c : Dev nD) : (V m c main_v3 : (⟨S2x2x1024, .f32⟩ : BufTy).Contents (Elt Ideal)) = shapeCast S2x2x1024 (A3 m c) shapeCasts_S2x32x64_S2x2x1024 := by
  show StableHlo.after hostOps0 _ (Proc.devRef .tc main_v3) = _
  simp only [hostOps0]
  after_results
  rfl

theorem V_v8 (c : Dev nD) : (V m c main_v8 : (⟨S2x2048x256, .bf16⟩ : BufTy).Contents (Elt Ideal)) = truncf (F := Ideal) .bf16 (A4 m c) bitsLt_bf16_f32 := by
  show StableHlo.after hostOps0 _ (Proc.devRef .tc main_v8) = _
  simp only [hostOps0]
  after_results

theorem V_v9 (c : Dev nD) : (V m c main_v9 : (⟨S2x1x256, .f32⟩ : BufTy).Contents (Elt Ideal)) = shapeCast S2x1x256 (A5 m c) shapeCasts_S2x256_S2x1x256 := by
  show StableHlo.after hostOps0 _ (Proc.devRef .tc main_v9) = _
  simp only [hostOps0]
  after_results
  rfl

theorem V_v10 (c : Dev nD) : (V m c main_v10 : (⟨S2x256x64, .bf16⟩ : BufTy).Contents (Elt Ideal)) = truncf (F := Ideal) .bf16 (A6 m c) bitsLt_bf16_f32 := by
  show StableHlo.after hostOps0 _ (Proc.devRef .tc main_v10) = _
  simp only [hostOps0]
  after_results

set_option maxRecDepth 16384 in
theorem steps_apply (z : Vec Ideal S2x8192x4x64 .f32) (n : Fin 8) (i : Fin 512) (d : Fin 1024) :
    shapeCast S8x512x1024 (transpose S2x4x8192x64 [0, 2, 1, 3] z transposes_S2x8192x4x64_S2x4x8192x64_0_2_1_3) shapeCasts_S2x4x8192x64_S8x512x1024 (ix3 n i d) = chunk z ⟨n.1 / 4, by omega⟩ ⟨n.1 % 4, by omega⟩ i d := by
  unfold chunk
  pointwise
  refine congrArg z (congrArg (fun q => ix4 _ q _ _) (Fin.ext ?_))
  simp only
  omega

set_option maxRecDepth 16384 in
theorem shift_apply (z : Vec Ideal S2x32x64 .f32) (s q : Fin 2) (d : Fin 1024) :
    shapeCast S2x2x1024 z shapeCasts_S2x32x64_S2x2x1024 (ix3 s q d) = z (ix3 s ⟨16 * q.1 + d.1 / 64, by omega⟩ ⟨d.1 % 64, by omega⟩) := by
  pointwise
  refine congrArg z (congrArg (fun q => ix3 _ q _) (Fin.ext ?_))
  simp only
  omega

set_option maxRecDepth 16384 in
theorem bias_apply (z : Vec Ideal S2x256 .f32) (s : Fin 2) (k : Fin 256) :
    shapeCast S2x1x256 z shapeCasts_S2x256_S2x1x256 (ix3 s 0 k) = z (ix2 s k) := by
  pointwise

theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 3) = 1 ∧ win0_1.index t (1 : Fin 3) = 0 ∧ win0_1.index t (2 : Fin 3) = 0 :=
  (by decide +kernel : ∀ t : Fin grid0.N, _)
theorem index2 : ∀ t : Fin cfg0.N, win0_2.index t (0 : Fin 3) = 1 ∧ win0_2.index t (1 : Fin 3) = 0 ∧ win0_2.index t (2 : Fin 3) = 0 :=
  (by decide +kernel : ∀ t : Fin grid0.N, _)
theorem index3 : ∀ t : Fin cfg0.N, win0_3.index t (0 : Fin 3) = 1 ∧ win0_3.index t (1 : Fin 3) = 0 ∧ win0_3.index t (2 : Fin 3) = 0 :=
  (by decide +kernel : ∀ t : Fin grid0.N, _)
theorem index4 : ∀ t : Fin cfg0.N, win0_4.index t (0 : Fin 3) = 1 ∧ win0_4.index t (1 : Fin 3) = 0 ∧ win0_4.index t (2 : Fin 3) = 0 :=
  (by decide +kernel : ∀ t : Fin grid0.N, _)
theorem index7 : ∀ t : Fin cfg0.N, win0_7.index t (0 : Fin 3) = t.val ∧ win0_7.index t (1 : Fin 3) = 0 ∧ win0_7.index t (2 : Fin 3) = 0 :=
  (by decide +kernel : ∀ t : Fin grid0.N, _)

theorem lt_points (t : Fin cfg0.N) : t.1 < 8 := lt_of_lt_of_eq t.2 (show cfg0.N = 8 from N_0)

/-- The batch and the head of block `t`. -/
abbrev batch (t : Fin cfg0.N) : Fin 2 := ⟨t.1 / 4, by have := lt_points t; omega⟩
abbrev head (t : Fin cfg0.N) : Fin 4 := ⟨t.1 % 4, by omega⟩

theorem x0_apply (c : Dev nD) (t : Fin cfg0.N) (r : Fin 512) (d : Fin 1024) : (iblk m c 0 t : Vec Ideal S1x512x1024 .bf16) (ix3 0 r d) = chunk (A0 m c) (batch t) (head t) r d := by
  have hi := index0 t
  show (V m c main_v2 : (⟨S8x512x1024, .bf16⟩ : BufTy).Contents (Elt Ideal)) (((cfg0.win 0).blk t).view.emb (ix3 0 r d)) = _
  rw [show ((cfg0.win 0).blk t).view.emb (ix3 0 r d) = (ix3 ⟨t.1, lt_points t⟩ r d : S8x512x1024.Idx) from by
    funext a
    apply Fin.ext
    match a with
    | ⟨0, _⟩ => show win0_0.index t 0 * 1 + 1 * 0 = t.1; rw [hi.1]; omega
    | ⟨1, _⟩ => show win0_0.index t 1 * 512 + 1 * r.1 = r.1; rw [hi.2.1]; omega
    | ⟨2, _⟩ => show win0_0.index t 2 * 1024 + 1 * d.1 = d.1; rw [hi.2.2]; omega]
  exact (congrFun (V_v2 m c) (ix3 ⟨t.1, lt_points t⟩ r d)).trans (steps_apply (A0 m c) _ r d)

theorem x1_apply (c : Dev nD) (t : Fin cfg0.N) (q : Fin 2) (d : Fin 1024) : (iblk m c 1 t : Vec Ideal S1x2x1024 .f32) (ix3 0 q d) = A3 m c (ix3 1 ⟨16 * q.1 + d.1 / 64, by omega⟩ ⟨d.1 % 64, by omega⟩) := by
  have hi := index1 t
  show (V m c main_v3 : (⟨S2x2x1024, .f32⟩ : BufTy).Contents (Elt Ideal)) (((cfg0.win 1).blk t).view.emb (ix3 0 q d)) = _
  rw [show ((cfg0.win 1).blk t).view.emb (ix3 0 q d) = (ix3 1 q d : S2x2x1024.Idx) from by
    funext a
    apply Fin.ext
    match a with
    | ⟨0, _⟩ => show win0_1.index t 0 * 1 + 1 * 0 = 1; rw [hi.1]
    | ⟨1, _⟩ => show win0_1.index t 1 * 2 + 1 * q.1 = q.1; rw [hi.2.1]; omega
    | ⟨2, _⟩ => show win0_1.index t 2 * 1024 + 1 * d.1 = d.1; rw [hi.2.2]; omega]
  exact (congrFun (V_v3 m c) (ix3 1 q d)).trans (shift_apply (A3 m c) 1 q d)

theorem x2_apply (c : Dev nD) (t : Fin cfg0.N) (d : Fin 2048) (k : Fin 256) : (iblk m c 2 t : Vec Ideal S1x2048x256 .bf16) (ix3 0 d k) = A4 m c (ix3 1 d k) := by
  have hi := index2 t
  show (V m c main_v8 : (⟨S2x2048x256, .bf16⟩ : BufTy).Contents (Elt Ideal)) (((cfg0.win 2).blk t).view.emb (ix3 0 d k)) = _
  rw [show ((cfg0.win 2).blk t).view.emb (ix3 0 d k) = (ix3 1 d k : S2x2048x256.Idx) from by
    funext a
    apply Fin.ext
    match a with
    | ⟨0, _⟩ => show win0_2.index t 0 * 1 + 1 * 0 = 1; rw [hi.1]
    | ⟨1, _⟩ => show win0_2.index t 1 * 2048 + 1 * d.1 = d.1; rw [hi.2.1]; omega
    | ⟨2, _⟩ => show win0_2.index t 2 * 256 + 1 * k.1 = k.1; rw [hi.2.2]; omega]
  exact congrFun (V_v8 m c) (ix3 1 d k)

theorem x3_apply (c : Dev nD) (t : Fin cfg0.N) (k : Fin 256) : (iblk m c 3 t : Vec Ideal S1x1x256 .f32) (ix3 0 0 k) = A5 m c (ix2 1 k) := by
  have hi := index3 t
  show (V m c main_v9 : (⟨S2x1x256, .f32⟩ : BufTy).Contents (Elt Ideal)) (((cfg0.win 3).blk t).view.emb (ix3 0 0 k)) = _
  rw [show ((cfg0.win 3).blk t).view.emb (ix3 0 0 k) = (ix3 1 0 k : S2x1x256.Idx) from by
    funext a
    apply Fin.ext
    match a with
    | ⟨0, _⟩ => show win0_3.index t 0 * 1 + 1 * 0 = 1; rw [hi.1]
    | ⟨1, _⟩ => show win0_3.index t 1 * 1 + 1 * 0 = 0; rw [hi.2.1]
    | ⟨2, _⟩ => show win0_3.index t 2 * 256 + 1 * k.1 = k.1; rw [hi.2.2]; omega]
  exact (congrFun (V_v9 m c) (ix3 1 0 k)).trans (bias_apply (A5 m c) 1 k)

theorem x4_apply (c : Dev nD) (t : Fin cfg0.N) (k : Fin 256) (e : Fin 64) : (iblk m c 4 t : Vec Ideal S1x256x64 .bf16) (ix3 0 k e) = A6 m c (ix3 1 k e) := by
  have hi := index4 t
  show (V m c main_v10 : (⟨S2x256x64, .bf16⟩ : BufTy).Contents (Elt Ideal)) (((cfg0.win 4).blk t).view.emb (ix3 0 k e)) = _
  rw [show ((cfg0.win 4).blk t).view.emb (ix3 0 k e) = (ix3 1 k e : S2x256x64.Idx) from by
    funext a
    apply Fin.ext
    match a with
    | ⟨0, _⟩ => show win0_4.index t 0 * 1 + 1 * 0 = 1; rw [hi.1]
    | ⟨1, _⟩ => show win0_4.index t 1 * 256 + 1 * k.1 = k.1; rw [hi.2.1]; omega
    | ⟨2, _⟩ => show win0_4.index t 2 * 64 + 1 * e.1 = e.1; rw [hi.2.2]; omega]
  exact congrFun (V_v10 m c) (ix3 1 k e)

theorem pre_block (c : Dev nD) (t : Fin cfg0.N) (r : Fin 512) (k : Fin 256) :
    cube (pre (iblk m c 0 t : Vec Ideal S1x512x1024 .bf16) (iblk m c 1 t : Vec Ideal S1x2x1024 .f32) (iblk m c 2 t : Vec Ideal S1x2048x256 .bf16) (iblk m c 3 t : Vec Ideal S1x1x256 .f32) r k) = hiddenEntry (chunk (A0 m c) (batch t) (head t) r) (chunk (A0 m c) (batch t) (head t) (next r)) (A3 m c) (A4 m c) (A5 m c) 1 k := by
  unfold pre hiddenEntry
  refine congrArg cube (congrArg₂ (· + ·) (congrArg₂ (· + ·) (Finset.sum_congr rfl fun d _ => ?_) (Finset.sum_congr rfl fun d _ => ?_)) (x3_apply m c t k))
  · refine congrArg₂ (· * ·) (congrArg₂ (· + ·) (x0_apply m c t r d) ((x1_apply m c t 0 d).trans ?_)) (x2_apply m c t _ k)
    exact congrArg (fun q => A3 m c (ix3 1 q _)) (Fin.ext (by show 16 * 0 + d.1 / 64 = d.1 / 64; omega))
  · exact congrArg₂ (· * ·) (congrArg₂ (· + ·) (x0_apply m c t (next r) d) (x1_apply m c t 1 d)) (x2_apply m c t _ k)

theorem flush7 : ∀ t : Fin cfg0.N, (cfg0.win 7).flush t = true := (by decide +kernel : ∀ t : Fin grid0.N, _)

/-- The result after the run. -/
theorem result7 (c : Dev nD) (n : Fin 8) (i : Fin 512) (e : Fin 64) :
    ((dats m 0 c).arrAt 7 cfg0.N : (⟨S8x512x64, .bf16⟩ : BufTy).Contents (Elt Ideal)) (ix3 n i e) = squeezed (A0 m c) (A3 m c) (A4 m c) (A5 m c) (A6 m c) 1 ⟨n.1 / 4, by omega⟩ ⟨n.1 % 4, by omega⟩ i e := by
  have hN : cfg0.N = 8 := N_0
  have hi := index7 ⟨n.1, by omega⟩
  have h := congrFun ((blocks7 m c ⟨n.1, by omega⟩ (flush7 _)).trans (flushed7 m c _)) (ix3 0 i e)
  refine Eq.trans (congrArg ((dats m 0 c).arrAt 7 cfg0.N : (⟨S8x512x64, .bf16⟩ : BufTy).Contents (Elt Ideal)) ?_) (h.trans ?_)
  · funext a
    apply Fin.ext
    match a with
    | ⟨0, _⟩ => show n.1 = win0_7.index ⟨n.1, _⟩ 0 * 1 + 1 * 0; rw [hi.1]; show n.1 = n.1 * 1 + 1 * 0; omega
    | ⟨1, _⟩ => show i.1 = win0_7.index ⟨n.1, _⟩ 1 * 512 + 1 * i.1; rw [hi.2.1]; omega
    | ⟨2, _⟩ => show e.1 = win0_7.index ⟨n.1, _⟩ 2 * 64 + 1 * e.1; rw [hi.2.2]; omega
  · refine (out7_apply _ _ _ _ _ _ _ i e).trans ?_
    exact Finset.sum_congr rfl fun k _ => congrArg₂ (· * ·) (pre_block m c _ i k) (x4_apply m c _ k e)

end Cert.CmpV

end
-- ==== Proof.CmpV.RefValue.lean ====
module

public import proofs.«01_k».proof.Proof.Gen.CmpVRefIdeal.Run
public import proofs.«01_k».proof.Proof.Layer.Compress

@[expose] public section

noncomputable section

namespace Cert.CmpV.Ref

open Idealize.ShloMosaic Idealize.ShloMosaic.TcCoe Idealize.SL.Sem
open Cert.CmpVRefIdeal Cert.CmpVRefIdeal.Gen Cert.Layer

/-- The steps in chunks of sixteen. -/
def chunks (t : Vec Ideal S2x8192x4x64 .f32) : Vec Ideal S2x512x16x4x64 .f32 := shapeCast S2x512x16x4x64 t shapeCasts_S2x8192x4x64_S2x512x16x4x64

/-- The chunk after each. -/
def following (x : Vec Ideal S2x512x16x4x64 .f32) : Vec Ideal S2x512x16x4x64 .f32 :=
  concatenate S2x512x16x4x64 1 [⟨S2x511x16x4x64, extractStridedSlice S2x511x16x4x64 ![0, 1, 0, 0, 0] x slices_S2x512x16x4x64_S2x511x16x4x64_0_1_0_0_0⟩, ⟨S2x1x16x4x64, extractStridedSlice S2x1x16x4x64 ![0, 0, 0, 0, 0] x slices_S2x512x16x4x64_S2x1x16x4x64_0_0_0_0_0⟩] concatenates_S2x511x16x4x64_S2x1x16x4x64_S2x512x16x4x64_d1

/-- The blocks of thirty-two steps, with the positions' shifts added, one row per head. -/
def flat (x y : Vec Ideal S2x512x16x4x64 .f32) (pe : Vec Ideal S2x32x64 .f32) : Vec Ideal S2x512x4x2048 .f32 :=
  shapeCast S2x512x4x2048 (transpose S2x512x4x32x64 [0, 1, 3, 2, 4] (addf (F := Ideal) (φ := .f32) (concatenate S2x512x32x4x64 2 [⟨S2x512x16x4x64, x⟩, ⟨S2x512x16x4x64, y⟩] concatenates_S2x512x16x4x64_S2x512x16x4x64_S2x512x32x4x64_d2) (broadcastInDim S2x512x32x4x64 ![0, 1, 2, 3, 4] bcast_S1x1x32x1x64_S2x512x32x4x64_0_1_2_3_4 (broadcastInDim S1x1x32x1x64 ![2, 4] bcast_S32x64_S1x1x32x1x64_2_4 (shapeCast S32x64 (extractStridedSlice S1x32x64 ![1, 0, 0] pe slices_S2x32x64_S1x32x64_1_0_0) shapeCasts_S1x32x64_S32x64)))) transposes_S2x512x32x4x64_S2x512x4x32x64_0_1_3_2_4) shapeCasts_S2x512x4x32x64_S2x512x4x2048

/-- The hidden layer before its unit. -/
def pre (f : Vec Ideal S2x512x4x2048 .f32) (w : Vec Ideal S2x2048x256 .f32) (b : Vec Ideal S2x256 .f32) : Vec Ideal S2x512x4x256 .f32 :=
  addf (F := Ideal) (φ := .f32) (Host.dotGeneral (F := Ideal) (φ₁ := .f32) (φ₂ := .f32) dot_S2x512x4x2048_S2048x256_S2x512x4x256_3_0_012_1_n_n none f (shapeCast S2048x256 (extractStridedSlice S1x2048x256 ![1, 0, 0] w slices_S2x2048x256_S1x2048x256_1_0_0) shapeCasts_S1x2048x256_S2048x256)) (broadcastInDim S2x512x4x256 ![0, 1, 2, 3] bcast_S1x1x1x256_S2x512x4x256_0_1_2_3 (broadcastInDim S1x1x1x256 ![3] bcast_S256_S1x1x1x256_3 (shapeCast S256 (extractStridedSlice S1x256 ![1, 0] b slices_S2x256_S1x256_1_0) shapeCasts_S1x256_S256)))

/-- The unit. -/
def act (u : Vec Ideal S2x512x4x256 .f32) : Vec Ideal S2x512x4x256 .f32 :=
  mulf (F := Ideal) (φ := .f32) u (mulf (broadcastInDim S2x512x4x256 ![] bcast_S_S2x512x4x256 (constant S_ .f32 0x3F000000#32)) (addf (broadcastInDim S2x512x4x256 ![] bcast_S_S2x512x4x256 (constant S_ .f32 0x3F800000#32)) (Host.tanh (mulf (broadcastInDim S2x512x4x256 ![] bcast_S_S2x512x4x256 (constant S_ .f32 0x3F4C422A#32)) (addf u (mulf (broadcastInDim S2x512x4x256 ![] bcast_S_S2x512x4x256 (constant S_ .f32 0x3D372713#32)) (mulf (mulf u u) u)))))))

/-- The second product. -/
def raw (h : Vec Ideal S2x512x4x256 .f32) (w' : Vec Ideal S2x256x64 .f32) : Vec Ideal S2x512x4x64 .f32 :=
  Host.dotGeneral (F := Ideal) (φ₁ := .f32) (φ₂ := .f32) dot_S2x512x4x256_S256x64_S2x512x4x64_3_0_012_1_n_n none h (shapeCast S256x64 (extractStridedSlice S1x256x64 ![1, 0, 0] w' slices_S2x256x64_S1x256x64_1_0_0) shapeCasts_S1x256x64_S256x64)

/-- One row per head and block. -/
def laid (r : Vec Ideal S2x512x4x64 .f32) : Vec Ideal S8x512x64 .bf16 :=
  truncf (F := Ideal) .bf16 (shapeCast S8x512x64 (transpose S2x4x512x64 [0, 2, 1, 3] r transposes_S2x512x4x64_S2x4x512x64_0_2_1_3) shapeCasts_S2x4x512x64_S8x512x64) bitsLt_bf16_f32

/-- The reference's result. -/
def result (t : Vec Ideal S2x8192x4x64 .f32) (pe : Vec Ideal S2x32x64 .f32) (w : Vec Ideal S2x2048x256 .f32) (b : Vec Ideal S2x256 .f32) (w' : Vec Ideal S2x256x64 .f32) : Vec Ideal S8x512x64 .bf16 :=
  laid (raw (act (pre (flat (chunks t) (following (chunks t)) pe) w b)) w')

set_option maxRecDepth 16384 in
theorem chunks_apply (t : Vec Ideal S2x8192x4x64 .f32) (β : Fin 2) (i : Fin 512) (s : Fin 16) (γ : Fin 4) (e : Fin 64) :
    chunks t (ix5 β i s γ e) = t (ix4 β ⟨16 * i.1 + s.1, by omega⟩ γ e) := by
  pointwise [chunks]
  exact congrArg (fun q => t (ix4 β q γ e)) (Fin.ext (by show i.1 * 16 + s.1 = 16 * i.1 + s.1; omega))

set_option maxRecDepth 16384 in
theorem following_apply (x : Vec Ideal S2x512x16x4x64 .f32) (β : Fin 2) (i : Fin 512) (s : Fin 16) (γ : Fin 4) (e : Fin 64) :
    following x (ix5 β i s γ e) = x (ix5 β (next i) s γ e) := by
  pointwise [following]
  by_cases h : i.1 < 511
  · refine (dif_pos h).trans ?_
    exact congrArg (fun q => x (ix5 β q s γ e)) (Fin.ext (by show 1 + i.1 = (i.1 + 1) % 512; omega))
  · refine (dif_neg h).trans ?_
    exact congrArg (fun q => x (ix5 β q s γ e)) (Fin.ext (by show i.1 - 511 = (i.1 + 1) % 512; omega))

set_option maxRecDepth 16384 in
theorem flat_apply (x y : Vec Ideal S2x512x16x4x64 .f32) (pe : Vec Ideal S2x32x64 .f32) (β : Fin 2) (i : Fin 512) (γ : Fin 4) (d : Fin 2048) :
    flat x y pe (ix4 β i γ d) = (if h : d.1 / 64 < 16 then x (ix5 β i ⟨d.1 / 64, h⟩ γ ⟨d.1 % 64, by omega⟩) else y (ix5 β i ⟨d.1 / 64 - 16, by omega⟩ γ ⟨d.1 % 64, by omega⟩)) + pe (ix3 1 ⟨d.1 / 64, by omega⟩ ⟨d.1 % 64, by omega⟩) := by
  pointwise [flat]

set_option maxRecDepth 16384 in
theorem pre_apply (f : Vec Ideal S2x512x4x2048 .f32) (w : Vec Ideal S2x2048x256 .f32) (b : Vec Ideal S2x256 .f32) (β : Fin 2) (i : Fin 512) (γ : Fin 4) (k : Fin 256) :
    pre f w b (ix4 β i γ k) = (∑ d, f (ix4 β i γ d) * w (ix3 1 d k)) + b (ix2 1 k) := by
  pointwise [pre]

set_option maxRecDepth 16384 in
theorem act_apply (u : Vec Ideal S2x512x4x256 .f32) (β : Fin 2) (i : Fin 512) (γ : Fin 4) (k : Fin 256) :
    act u (ix4 β i γ k) = cube (u (ix4 β i γ k)) := by
  pointwise [act]
  rfl

set_option maxRecDepth 16384 in
theorem raw_apply (h : Vec Ideal S2x512x4x256 .f32) (w' : Vec Ideal S2x256x64 .f32) (β : Fin 2) (i : Fin 512) (γ : Fin 4) (e : Fin 64) :
    raw h w' (ix4 β i γ e) = ∑ k, h (ix4 β i γ k) * w' (ix3 1 k e) := by
  pointwise [raw]

set_option maxRecDepth 16384 in
theorem laid_apply (r : Vec Ideal S2x512x4x64 .f32) (n : Fin 8) (i : Fin 512) (e : Fin 64) :
    laid r (ix3 n i e) = r (ix4 ⟨n.1 / 4, by omega⟩ i ⟨n.1 % 4, by omega⟩ e) := by
  pointwise [laid]

/-- A product over the block is one over the first chunk and one over the second. -/
theorem two_halves (t : Vec Ideal S2x8192x4x64 .f32) (pe : Vec Ideal S2x32x64 .f32) (w : Vec Ideal S2x2048x256 .f32) (b : Vec Ideal S2x256 .f32) (β : Fin 2) (i : Fin 512) (γ : Fin 4) (k : Fin 256) :
    act (pre (flat (chunks t) (following (chunks t)) pe) w b) (ix4 β i γ k) = hiddenEntry (chunk t β γ i) (chunk t β γ (next i)) pe w b 1 k := by
  rw [act_apply, pre_apply]
  unfold hiddenEntry
  refine congrArg cube (congrArg (· + b (ix2 1 k)) ?_)
  rw [show (∑ d : Fin 2048, flat (chunks t) (following (chunks t)) pe (ix4 β i γ d) * w (ix3 1 d k)) = _ from
    Fin.sum_univ_add (a := 1024) (b := 1024) (fun d : Fin 2048 => flat (chunks t) (following (chunks t)) pe (ix4 β i γ d) * w (ix3 1 d k))]
  refine congrArg₂ (· + ·) (Finset.sum_congr rfl fun d _ => ?_) (Finset.sum_congr rfl fun d _ => ?_)
  · rw [flat_apply]
    refine congrArg₂ (· * ·) (congrArg₂ (· + ·) ((dif_pos (by show d.1 / 64 < 16; omega)).trans ?_) rfl) rfl
    rw [chunks_apply]
    rfl
  · rw [flat_apply]
    have hd : (1024 + d.1) / 64 = 16 + d.1 / 64 := by omega
    have hr : (1024 + d.1) % 64 = d.1 % 64 := by omega
    refine congrArg₂ (· * ·) (congrArg₂ (· + ·) ((dif_neg (by show ¬ (1024 + d.1) / 64 < 16; omega)).trans ?_) ?_) rfl
    · rw [following_apply, chunks_apply]
      unfold chunk
      refine congrArg₂ (fun p q => t (ix4 β p γ q)) (Fin.ext ?_) (Fin.ext hr)
      show 16 * (next i).1 + ((1024 + d.1) / 64 - 16) = 16 * (next i).1 + d.1 / 64
      omega
    · exact congrArg₂ (fun p q => pe (ix3 1 p q)) (Fin.ext hd) (Fin.ext hr)

theorem result_apply (t : Vec Ideal S2x8192x4x64 .f32) (pe : Vec Ideal S2x32x64 .f32) (w : Vec Ideal S2x2048x256 .f32) (b : Vec Ideal S2x256 .f32) (w' : Vec Ideal S2x256x64 .f32) (n : Fin 8) (i : Fin 512) (e : Fin 64) :
    result t pe w b w' (ix3 n i e) = squeezed t pe w b w' 1 ⟨n.1 / 4, by omega⟩ ⟨n.1 % 4, by omega⟩ i e := by
  unfold result
  rw [laid_apply, raw_apply]
  exact Finset.sum_congr rfl fun k _ => congrArg (· * w' (ix3 1 k e)) (two_halves t pe w b _ i _ k)

end Cert.CmpV.Ref

end
-- ==== Proof.MNorm.Array.lean ====
module

public import proofs.«01_k».proof.Proof.Gen.MNormIdeal.Value
public import proofs.«01_k».proof.Proof.Layer.Math

@[expose] public section

noncomputable section

namespace Cert.MNorm

open Idealize.ShloMosaic Idealize.ShloMosaic.TcCoe Idealize.SL.Sem
open Cert.MNormIdeal Cert.MNormIdeal.Gen Cert.MNormIdeal.Value Cert.Layer

/-- A row of the memory, the two memories stood one under the other. -/
def memRow (z : (⟨3, ![2, 256, 1024]⟩ : Shape).Idx → EReal) (R : Fin 512) (d : Fin 1024) : EReal :=
  z (ix3 ⟨R.1 / 256, by omega⟩ ⟨R.1 % 256, by omega⟩ d)

set_option maxRecDepth 16384 in
theorem pay1_apply (x0 : Vec Ideal S256x1024 .f32) (x1 : Vec Ideal S1x1024 .f32) (r : Fin 256) (j : Fin 1024) :
    k0_pay1 (F := Ideal) x0 x1 (ix2 r j) = norm (fun j => x0 (ix2 r j)) (fun j => x1 (ix2 0 j)) j := by
  pointwise [k0_pay1]
  rfl

theorem zero2 : (![0, 0] : Fin 2 → Nat) = fun _ => 0 := funext fun a => by fin_cases a <;> rfl

theorem out2_apply (x0 : Vec Ideal S256x1024 .f32) (x1 : Vec Ideal S1x1024 .f32) (r : Fin 256) (j : Fin 1024) :
    out0_2 x0 x1 (ix2 r j) = norm (fun j => x0 (ix2 r j)) (fun j => x1 (ix2 0 j)) j := by
  unfold out0_2
  rw [View.canon_unit_zero zero2]
  have e0 : View.ld x0 r0_0 = x0 := View.ld_unit_zero zero2 _ _
  have e1 : View.ld x1 r0_1 = x1 := View.ld_unit_zero zero2 _ _
  rw [e0, e1]
  exact pay1_apply x0 x1 r j

variable (m : (ℓ : Loc nD τ sig) → Buf (Elt Ideal) ℓ)

abbrev A0 (c : Dev nD) : (⟨S2x256x1024, .f32⟩ : BufTy).Contents (Elt Ideal) := m ((c : Thread nD τ).loc main_arg0)
abbrev A1 (c : Dev nD) : (⟨S4x1024, .f32⟩ : BufTy).Contents (Elt Ideal) := m ((c : Thread nD τ).loc main_arg1)

theorem V_v0 (c : Dev nD) : (V m c main_v0 : (⟨S512x1024, .f32⟩ : BufTy).Contents (Elt Ideal)) = shapeCast S512x1024 (A0 m c) shapeCasts_S2x256x1024_S512x1024 := by
  show StableHlo.after hostOps0 _ (Proc.devRef .tc main_v0) = _
  simp only [hostOps0]
  after_results
  rfl

theorem V_v3 (c : Dev nD) : (V m c main_v3 : (⟨S1x1024, .f32⟩ : BufTy).Contents (Elt Ideal)) = shapeCast S1x1024 (shapeCast S1024 (extractStridedSlice S1x1024 ![3, 0] (A1 m c) slices_S4x1024_S1x1024_3_0) shapeCasts_S1x1024_S1024) shapeCasts_S1024_S1x1024 := by
  show StableHlo.after hostOps0 _ (Proc.devRef .tc main_v3) = _
  simp only [hostOps0]
  after_results
  rfl

set_option maxRecDepth 16384 in
theorem flat_apply (z : Vec Ideal S2x256x1024 .f32) (R : Fin 512) (d : Fin 1024) :
    shapeCast S512x1024 z shapeCasts_S2x256x1024_S512x1024 (ix2 R d) = memRow z R d := by
  pointwise
  rfl

set_option maxRecDepth 16384 in
theorem gain_apply (z : Vec Ideal S4x1024 .f32) (d : Fin 1024) :
    shapeCast S1x1024 (shapeCast S1024 (extractStridedSlice S1x1024 ![3, 0] z slices_S4x1024_S1x1024_3_0) shapeCasts_S1x1024_S1024) shapeCasts_S1024_S1x1024 (ix2 0 d) = z (ix2 3 d) := by
  pointwise

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)

theorem lt_points (t : Fin cfg0.N) : t.1 < 2 := lt_of_lt_of_eq t.2 (show cfg0.N = 2 from N_0)

/-- The row of the whole array under row `r` of block `t`. -/
abbrev rowOf (t : Fin cfg0.N) (r : Fin 256) : Fin 512 := ⟨256 * t.1 + r.1, by have := lt_points t; omega⟩

theorem x0_apply (c : Dev nD) (t : Fin cfg0.N) (r : Fin 256) (d : Fin 1024) : (iblk m c 0 t : Vec Ideal S256x1024 .f32) (ix2 r d) = memRow (A0 m c) (rowOf t r) d := by
  have hi := index0 t
  show (V m c main_v0 : (⟨S512x1024, .f32⟩ : BufTy).Contents (Elt Ideal)) (((cfg0.win 0).blk t).view.emb (ix2 r d)) = _
  rw [show ((cfg0.win 0).blk t).view.emb (ix2 r d) = (ix2 (rowOf t r) d : S512x1024.Idx) from by
    funext a
    apply Fin.ext
    match a with
    | ⟨0, _⟩ => show win0_0.index t 0 * 256 + 1 * r.1 = 256 * t.1 + r.1; rw [hi.1]; omega
    | ⟨1, _⟩ => show win0_0.index t 1 * 1024 + 1 * d.1 = d.1; rw [hi.2]; omega]
  exact (congrFun (V_v0 m c) (ix2 (rowOf t r) d)).trans (flat_apply (A0 m c) _ d)

theorem x1_apply (c : Dev nD) (t : Fin cfg0.N) (d : Fin 1024) : (iblk m c 1 t : Vec Ideal S1x1024 .f32) (ix2 0 d) = A1 m c (ix2 3 d) := by
  have hi := index1 t
  show (V m c main_v3 : (⟨S1x1024, .f32⟩ : BufTy).Contents (Elt Ideal)) (((cfg0.win 1).blk t).view.emb (ix2 0 d)) = _
  rw [show ((cfg0.win 1).blk t).view.emb (ix2 0 d) = (ix2 0 d : S1x1024.Idx) from by
    funext a
    apply Fin.ext
    match a with
    | ⟨0, _⟩ => show win0_1.index t 0 * 1 + 1 * 0 = 0; rw [hi.1]
    | ⟨1, _⟩ => show win0_1.index t 1 * 1024 + 1 * d.1 = d.1; rw [hi.2]; omega]
  exact (congrFun (V_v3 m c) (ix2 0 d)).trans (gain_apply (A1 m c) d)

theorem flush2 : ∀ t : Fin cfg0.N, (cfg0.win 2).flush t = true := (by decide +kernel : ∀ t : Fin grid0.N, _)

/-- The result after the run: each row normalised. -/
theorem result2 (c : Dev nD) (R : Fin 512) (j : Fin 1024) :
    ((dats m 0 c).arrAt 2 cfg0.N : (⟨S512x1024, .bf16⟩ : BufTy).Contents (Elt Ideal)) (ix2 R j) = norm (memRow (A0 m c) R) (fun j => A1 m c (ix2 3 j)) j := by
  have hN : cfg0.N = 2 := N_0
  have hi := index2 ⟨R.1 / 256, by omega⟩
  have hR : rowOf ⟨R.1 / 256, by omega⟩ ⟨R.1 % 256, by omega⟩ = R := Fin.ext (by show 256 * (R.1 / 256) + R.1 % 256 = R.1; omega)
  have h := congrFun ((blocks2 m c ⟨R.1 / 256, by omega⟩ (flush2 _)).trans (flushed2 m c _)) (ix2 (⟨R.1 % 256, by omega⟩ : Fin 256) j)
  refine Eq.trans (congrArg ((dats m 0 c).arrAt 2 cfg0.N : (⟨S512x1024, .bf16⟩ : BufTy).Contents (Elt Ideal)) ?_) (h.trans ?_)
  · funext a
    apply Fin.ext
    match a with
    | ⟨0, _⟩ => show R.1 = win0_2.index ⟨R.1 / 256, _⟩ 0 * 256 + 1 * (R.1 % 256); rw [hi.1]; show R.1 = R.1 / 256 * 256 + 1 * (R.1 % 256); omega
    | ⟨1, _⟩ => show j.1 = win0_2.index ⟨R.1 / 256, _⟩ 1 * 1024 + 1 * j.1; rw [hi.2]; omega
  · refine (out2_apply _ _ (⟨R.1 % 256, by omega⟩ : Fin 256) j).trans ?_
    simp only [x0_apply, x1_apply]
    rw [hR]

end Cert.MNorm

end
-- ==== Proof.MNorm.RefValue.lean ====
module

public import proofs.«01_k».proof.Proof.Gen.MNormRefIdeal.Run
public import proofs.«01_k».proof.Proof.MNorm.Array

@[expose] public section

noncomputable section

namespace Cert.MNorm.Ref

open Idealize.ShloMosaic Idealize.ShloMosaic.TcCoe Idealize.SL.Sem
open Cert.MNormRefIdeal Cert.MNormRefIdeal.Gen Cert.Layer

variable (z : Vec Ideal S2x256x1024 .f32) (gp : Vec Ideal S4x1024 .f32)

/-- The normalisation, as the reference computes it. -/
def normed (g : Vec Ideal S1024 .f32) : Vec Ideal S2x256x1024 .f32 :=
  mulf (F := Ideal) (mulf z (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf z z) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32))))))
    (broadcastInDim S2x256x1024 ![0, 1, 2] bcast_S1x1x1024_S2x256x1024_0_1_2 (broadcastInDim S1x1x1024 ![2] bcast_S1024_S1x1x1024_2 g))

/-- The reference's result. -/
def result : Vec Ideal S512x1024 .bf16 :=
  truncf (F := Ideal) .bf16 (shapeCast S512x1024 (normed z (shapeCast S1024 (extractStridedSlice S1x1024 ![3, 0] gp slices_S4x1024_S1x1024_3_0) shapeCasts_S1x1024_S1024)) shapeCasts_S2x256x1024_S512x1024) bitsLt_bf16_f32

set_option maxRecDepth 16384 in
theorem normed_apply (g : Vec Ideal S1024 .f32) (β : Fin 2) (T : Fin 256) (j : Fin 1024) :
    normed z g (ix3 β T j) = norm (fun j => z (ix3 β T j)) (fun j => g (ix1 j)) j := by
  pointwise [normed]
  rfl

set_option maxRecDepth 16384 in
theorem gain_apply (j : Fin 1024) :
    shapeCast S1024 (extractStridedSlice S1x1024 ![3, 0] gp slices_S4x1024_S1x1024_3_0) shapeCasts_S1x1024_S1024 (ix1 j) = gp (ix2 3 j) := by
  pointwise

set_option maxRecDepth 16384 in
theorem flat_apply (R : Fin 512) (d : Fin 1024) :
    shapeCast S512x1024 z shapeCasts_S2x256x1024_S512x1024 (ix2 R d) = z (ix3 ⟨R.1 / 256, by omega⟩ ⟨R.1 % 256, by omega⟩ d) := by
  pointwise

theorem result_apply (R : Fin 512) (j : Fin 1024) : result z gp (ix2 R j) = norm (memRow z R) (fun j => gp (ix2 3 j)) j := by
  unfold result
  refine (flat_apply (normed z _) R j).trans ?_
  rw [normed_apply]
  exact congrArg (fun g => norm (memRow z R) g j) (funext fun i => gain_apply gp i)

end Cert.MNorm.Ref

end
-- ==== Proof.Layer.Rotary.lean ====
module

public import proofs.«01_k».proof.Proof.Layer.Math

@[expose] public section

noncomputable section

namespace Cert.Layer

open Idealize.ShloMosaic

/-- How fast pair `i` of coordinates turns: 10000 to the power `-2 i / 64`, the three numbers as printed. -/
def speed (i : Fin 32) : EReal :=
  Ideal.pow (Ideal.ofBits FTy.f32 1176256512#32)
    (Ideal.div (-(FloatOps.sitofp (F := Ideal) FTy.f32 (BitVec.ofNat 32 i.1) : EReal) * Ideal.ofBits FTy.f32 1073741824#32) (Ideal.ofBits FTy.f32 1115684864#32))

/-- The angle of a position in pair `i`. -/
def angle (p : BitVec 32) (i : Fin 32) : EReal := (FloatOps.sitofp (F := Ideal) FTy.f32 p : EReal) * speed i

/-- The sine's sign in the table: a minus for the first half of each head. -/
def signed (j : Fin 128) (v : EReal) : EReal := if j.1 % 64 < 32 then -v else v

/-- The word of minus one. -/
theorem minus_one : Ideal.ofBits FTy.f32 3212836864#32 = -1 := by
  simp [Ideal.ofBits, Ideal.ieee]
  first
    | done
    | (rw [← EReal.coe_mul]; norm_num)
    | norm_num

/-- The comparison that finds the first half of each head. -/
theorem first_half (j : Fin 128) : IntOp.cmpi .slt (IntOp.andi (BitVec.ofNat 32 j.1) 63#32) 32#32 = if j.1 % 64 < 32 then 1#1 else 0#1 := by
  revert j
  decide +kernel

end Cert.Layer

end
-- ==== Proof.Rope.Array.lean ====
module

public import proofs.«01_k».proof.Proof.Gen.RopeIdeal.Frame
public import Idealize.ShloMosaic.Lib.Pipeline.Value
public import proofs.«01_k».proof.Proof.Layer.Rotary

@[expose] public section

noncomputable section

namespace Cert.Rope

open Idealize.ShloMosaic Idealize.ShloMosaic.TcCoe Idealize.SL.Sem
open Cert.RopeIdeal Cert.RopeIdeal.Gen Cert.Layer

theorem zero2 : (![0, 0] : Fin 2 → Nat) = fun _ => 0 := funext fun a => by fin_cases a <;> rfl
theorem zero3 : (![0, 0, 0] : Fin 3 → Nat) = fun _ => 0 := funext fun a => by fin_cases a <;> rfl

variable (m : (ℓ : Loc nD τ sig) → Buf (Elt Ideal) ℓ)

abbrev A0 (c : Dev nD) : (⟨S2x8192, .i32⟩ : BufTy).Contents (Elt Ideal) := m ((c : Thread nD τ).loc main_arg0)

/-- How fast each pair turns, as the host computes it before the call. -/
def speeds : FVec Ideal S32 .f32 :=
  Host.powf (F := Ideal) (broadcastInDim S32 ![] bcast_S_S32 (constant S_ .f32 0x461C4000#32)) (Host.divf (mulf (Host.negf (sitofp .f32 (iotaInDim S32 32 0))) (broadcastInDim S32 ![] bcast_S_S32 (constant S_ .f32 0x40000000#32))) (broadcastInDim S32 ![] bcast_S_S32 (constant S_ .f32 0x42800000#32)))

set_option maxRecDepth 16384 in
theorem speeds_apply (i : Fin 32) : speeds (ix1 i) = speed i := by
  pointwise [speeds]
  rfl

set_option maxRecDepth 16384 in
theorem pay2_apply (x0 : Vec Ideal S512x1 .i32) (x1 : Vec Ideal S1x128 .f32) (r : Fin 512) (j : Fin 128) :
    k0_pay2 (F := Ideal) x0 x1 (ix2 r j) = Ideal.cos ((FloatOps.sitofp (F := Ideal) FTy.f32 (x0 (ix2 r 0)) : EReal) * x1 (ix2 0 j)) := by
  pointwise [k0_pay2, k0_pay1]

set_option maxRecDepth 16384 in
theorem pay3_apply (x0 : Vec Ideal S512x1 .i32) (x1 : Vec Ideal S1x128 .f32) (r : Fin 512) (j : Fin 128) :
    k0_pay3 (F := Ideal) x0 x1 (ix2 r j) = signed j (Ideal.sin ((FloatOps.sitofp (F := Ideal) FTy.f32 (x0 (ix2 r 0)) : EReal) * x1 (ix2 0 j))) := by
  pointwise [k0_pay3, k0_pay1]
  rw [first_half, minus_one]
  unfold signed Scalar.select
  split_ifs with h
  all_goals first
    | exact neg_one_mul _
    | exact one_mul _
    | simp_all

theorem out2_apply (x0 : Vec Ideal S512x1 .i32) (x1 : Vec Ideal S1x128 .f32) (r : Fin 512) (j : Fin 128) :
    out0_2 x0 x1 (ix2 r j) = Ideal.cos ((FloatOps.sitofp (F := Ideal) FTy.f32 (x0 (ix2 r 0)) : EReal) * x1 (ix2 0 j)) := by
  unfold out0_2
  rw [View.canon_unit_zero zero2]
  have e0 : View.ld x0 r0_0 = x0 := View.ld_unit_zero zero2 _ _
  have e1 : View.ld x1 r0_1 = x1 := View.ld_unit_zero zero2 _ _
  rw [e0, e1]
  exact pay2_apply x0 x1 r j

theorem out3_apply (x0 : Vec Ideal S512x1 .i32) (x1 : Vec Ideal S1x128 .f32) (r : Fin 512) (j : Fin 128) :
    out0_3 x0 x1 (ix2 r j) = signed j (Ideal.sin ((FloatOps.sitofp (F := Ideal) FTy.f32 (x0 (ix2 r 0)) : EReal) * x1 (ix2 0 j))) := by
  unfold out0_3
  rw [View.canon_unit_zero zero2]
  have e0 : View.ld x0 r0_0 = x0 := View.ld_unit_zero zero2 _ _
  have e1 : View.ld x1 r0_1 = x1 := View.ld_unit_zero zero2 _ _
  rw [e0, e1]
  exact pay3_apply x0 x1 r j

theorem V_v13 (c : Dev nD) : (V m c main_v13 : (⟨S16384x1, .i32⟩ : BufTy).Contents (Elt Ideal)) = shapeCast S16384x1 (shapeCast S16384 (A0 m c) shapeCasts_S2x8192_S16384) shapeCasts_S16384_S16384x1 := by
  show StableHlo.after hostOps0 _ (Proc.devRef .tc main_v13) = _
  simp only [hostOps0]
  after_results
  rfl

theorem V_v12 (c : Dev nD) : (V m c main_v12 : (⟨S1x128, .f32⟩ : BufTy).Contents (Elt Ideal)) = shapeCast S1x128 (shapeCast S128 (broadcastInDim S4x32 ![0, 1] bcast_S1x32_S4x32_0_1 (shapeCast S1x32 speeds shapeCasts_S32_S1x32)) shapeCasts_S4x32_S128) shapeCasts_S128_S1x128 := by
  show StableHlo.after hostOps0 _ (Proc.devRef .tc main_v12) = _
  simp only [hostOps0]
  after_results
  rfl

set_option maxRecDepth 16384 in
theorem steps_apply (z : Vec Ideal S2x8192 .i32) (R : Fin 16384) :
    shapeCast S16384x1 (shapeCast S16384 z shapeCasts_S2x8192_S16384) shapeCasts_S16384_S16384x1 (ix2 R 0) = z (ix2 ⟨R.1 / 8192, by omega⟩ ⟨R.1 % 8192, by omega⟩) := by
  pointwise

set_option maxRecDepth 16384 in
theorem tiled_apply (z : FVec Ideal S32 .f32) (j : Fin 128) :
    shapeCast S1x128 (shapeCast S128 (broadcastInDim S4x32 ![0, 1] bcast_S1x32_S4x32_0_1 (shapeCast S1x32 z shapeCasts_S32_S1x32)) shapeCasts_S4x32_S128) shapeCasts_S128_S1x128 (ix2 0 j) = z (ix1 ⟨j.1 % 32, by omega⟩) := by
  pointwise

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)

theorem lt_points (t : Fin cfg0.N) : t.1 < 32 := lt_of_lt_of_eq t.2 (show cfg0.N = 32 from N_0)

/-- The row of the whole array under row `r` of block `t`. -/
abbrev rowOf (t : Fin cfg0.N) (r : Fin 512) : Fin 16384 := ⟨512 * t.1 + r.1, by have := lt_points t; omega⟩

/-- The position of a row of the whole array. -/
def posAt (z : Vec Ideal S2x8192 .i32) (R : Fin 16384) : BitVec 32 := z (ix2 ⟨R.1 / 8192, by omega⟩ ⟨R.1 % 8192, by omega⟩)

theorem x0_apply (c : Dev nD) (t : Fin cfg0.N) (r : Fin 512) :
    (iblk m c 0 t : Vec Ideal S512x1 .i32) (ix2 r 0) = posAt (A0 m c) (rowOf t r) := by
  have hi := index0 t
  show (V m c main_v13 : (⟨S16384x1, .i32⟩ : BufTy).Contents (Elt Ideal)) (((cfg0.win 0).blk t).view.emb (ix2 r 0)) = _
  rw [show ((cfg0.win 0).blk t).view.emb (ix2 r 0) = (ix2 (rowOf t r) 0 : S16384x1.Idx) from by
    funext a
    apply Fin.ext
    match a with
    | ⟨0, _⟩ => show win0_0.index t 0 * 512 + 1 * r.1 = 512 * t.1 + r.1; rw [hi.1]; omega
    | ⟨1, _⟩ => show win0_0.index t 1 * 1 + 1 * 0 = 0; rw [hi.2]]
  exact (congrFun (V_v13 m c) (ix2 (rowOf t r) 0)).trans (steps_apply (A0 m c) _)

theorem x1_apply (c : Dev nD) (t : Fin cfg0.N) (j : Fin 128) : (iblk m c 1 t : Vec Ideal S1x128 .f32) (ix2 0 j) = speed ⟨j.1 % 32, by omega⟩ := by
  have hi := index1 t
  show (V m c main_v12 : (⟨S1x128, .f32⟩ : BufTy).Contents (Elt Ideal)) (((cfg0.win 1).blk t).view.emb (ix2 0 j)) = _
  rw [show ((cfg0.win 1).blk t).view.emb (ix2 0 j) = (ix2 0 j : S1x128.Idx) from by
    funext a
    apply Fin.ext
    match a with
    | ⟨0, _⟩ => show win0_1.index t 0 * 1 + 1 * 0 = 0; rw [hi.1]
    | ⟨1, _⟩ => show win0_1.index t 1 * 128 + 1 * j.1 = j.1; rw [hi.2]; omega]
  exact ((congrFun (V_v12 m c) (ix2 0 j)).trans (tiled_apply speeds j)).trans (speeds_apply _)

theorem flush2 : ∀ t : Fin cfg0.N, (cfg0.win 2).flush t = true := (by decide +kernel : ∀ t : Fin grid0.N, _)

theorem apart2 (t u : Fin cfg0.N) (_ : (cfg0.win 2).flush t = true) (_ : (cfg0.win 2).flush u = true) (h : t ≠ u) :
    Disjoint ((cfg0.win 2).blk t).view.set ((cfg0.win 2).blk u).view.set :=
  (cfg0.win 2).disjoint_blk fun e => h ((by decide +kernel : ∀ t u : Fin grid0.N, win0_2.index t = win0_2.index u → t = u) t u e)

/-- Block `t` of the array after the run is what the body leaves at block `t`. -/
theorem block2 (c : Dev nD) (t : Fin cfg0.N) :
    ((cfg0.win 2).blk t).view.read (Elt Ideal) ((dats m 0 c).arrAt 2 cfg0.N) = (cfg0.win 2).cut (grid0.coords t) (out0_2 (iblk m c 0 t) (iblk m c 1 t)) := by
  refine ((dats m 0 c).read_blk_arrAt_eq_flushed 2 apart2 cfg0.N t t.isLt (flush2 t)).trans ?_
  show (cfg0.win 2).cut (grid0.coords t) ((dats m 0 c).after 2 t) = _
  rw [after0_2]

/-- The cosines after the run. -/
theorem result2 (c : Dev nD) (R : Fin 16384) (j : Fin 128) :
    ((dats m 0 c).arrAt 2 cfg0.N : (⟨S16384x128, .f32⟩ : BufTy).Contents (Elt Ideal)) (ix2 R j) = Ideal.cos (angle (A0 m c (ix2 ⟨R.1 / 8192, by omega⟩ ⟨R.1 % 8192, by omega⟩)) ⟨j.1 % 32, by omega⟩) := by
  have hN : cfg0.N = 32 := N_0
  have hi := index2 ⟨R.1 / 512, by omega⟩
  have hR : rowOf ⟨R.1 / 512, by omega⟩ ⟨R.1 % 512, by omega⟩ = R := Fin.ext (by show 512 * (R.1 / 512) + R.1 % 512 = R.1; omega)
  have h := congrFun (block2 m c ⟨R.1 / 512, by omega⟩) (ix2 (⟨R.1 % 512, by omega⟩ : Fin 512) j)
  refine Eq.trans (congrArg ((dats m 0 c).arrAt 2 cfg0.N : (⟨S16384x128, .f32⟩ : BufTy).Contents (Elt Ideal)) ?_) (h.trans ?_)
  · funext a
    apply Fin.ext
    match a with
    | ⟨0, _⟩ => show R.1 = win0_2.index ⟨R.1 / 512, _⟩ 0 * 512 + 1 * (R.1 % 512); rw [hi.1]; show R.1 = R.1 / 512 * 512 + 1 * (R.1 % 512); omega
    | ⟨1, _⟩ => show j.1 = win0_2.index ⟨R.1 / 512, _⟩ 1 * 128 + 1 * j.1; rw [hi.2]; omega
  · refine (out2_apply _ _ (⟨R.1 % 512, by omega⟩ : Fin 512) j).trans ?_
    rw [x0_apply, x1_apply]
    rw [hR]
    rfl

theorem flush3 : ∀ t : Fin cfg0.N, (cfg0.win 3).flush t = true := (by decide +kernel : ∀ t : Fin grid0.N, _)

theorem apart3 (t u : Fin cfg0.N) (_ : (cfg0.win 3).flush t = true) (_ : (cfg0.win 3).flush u = true) (h : t ≠ u) :
    Disjoint ((cfg0.win 3).blk t).view.set ((cfg0.win 3).blk u).view.set :=
  (cfg0.win 3).disjoint_blk fun e => h ((by decide +kernel : ∀ t u : Fin grid0.N, win0_3.index t = win0_3.index u → t = u) t u e)

/-- Block `t` of the array after the run is what the body leaves at block `t`. -/
theorem block3 (c : Dev nD) (t : Fin cfg0.N) :
    ((cfg0.win 3).blk t).view.read (Elt Ideal) ((dats m 0 c).arrAt 3 cfg0.N) = (cfg0.win 3).cut (grid0.coords t) (out0_3 (iblk m c 0 t) (iblk m c 1 t)) := by
  refine ((dats m 0 c).read_blk_arrAt_eq_flushed 3 apart3 cfg0.N t t.isLt (flush3 t)).trans ?_
  show (cfg0.win 3).cut (grid0.coords t) ((dats m 0 c).after 3 t) = _
  rw [after0_3]

/-- The signed sines after the run. -/
theorem result3 (c : Dev nD) (R : Fin 16384) (j : Fin 128) :
    ((dats m 0 c).arrAt 3 cfg0.N : (⟨S16384x128, .f32⟩ : BufTy).Contents (Elt Ideal)) (ix2 R j) = signed j (Ideal.sin (angle (A0 m c (ix2 ⟨R.1 / 8192, by omega⟩ ⟨R.1 % 8192, by omega⟩)) ⟨j.1 % 32, by omega⟩)) := by
  have hN : cfg0.N = 32 := N_0
  have hi := index3 ⟨R.1 / 512, by omega⟩
  have hR : rowOf ⟨R.1 / 512, by omega⟩ ⟨R.1 % 512, by omega⟩ = R := Fin.ext (by show 512 * (R.1 / 512) + R.1 % 512 = R.1; omega)
  have h := congrFun (block3 m c ⟨R.1 / 512, by omega⟩) (ix2 (⟨R.1 % 512, by omega⟩ : Fin 512) j)
  refine Eq.trans (congrArg ((dats m 0 c).arrAt 3 cfg0.N : (⟨S16384x128, .f32⟩ : BufTy).Contents (Elt Ideal)) ?_) (h.trans ?_)
  · funext a
    apply Fin.ext
    match a with
    | ⟨0, _⟩ => show R.1 = win0_3.index ⟨R.1 / 512, _⟩ 0 * 512 + 1 * (R.1 % 512); rw [hi.1]; show R.1 = R.1 / 512 * 512 + 1 * (R.1 % 512); omega
    | ⟨1, _⟩ => show j.1 = win0_3.index ⟨R.1 / 512, _⟩ 1 * 128 + 1 * j.1; rw [hi.2]; omega
  · refine (out3_apply _ _ (⟨R.1 % 512, by omega⟩ : Fin 512) j).trans ?_
    rw [x0_apply, x1_apply]
    rw [hR]
    rfl

/-- Every run ends with the two tables of `result2` and `result3`, the positions as they were. -/
theorem run_tables (ρ : Dev nD → PrngReg) : θ_run defs (onTc (τ := τ) (main (F := Ideal))) ⟨m, fun _ => 0, ρ⟩ fun r => ∀ c : Dev nD,
    r.2.mem ((c : Thread nD τ).loc main_v14_0) = (dats m 0 c).arrAt 2 cfg0.N
    ∧ r.2.mem ((c : Thread nD τ).loc main_v14_1) = (dats m 0 c).arrAt 3 cfg0.N
    ∧ r.2.mem ((c : Thread nD τ).loc main_arg0) = m ((c : Thread nD τ).loc main_arg0) :=
  (θ_run defs _ _).mono (fun r h c => ⟨(h c).1 2, (h c).1 3,
    ((h c).2 main_arg0 (Pipeline.mem_restRefs_of main_arg0 (by decide) (by decide))).trans (V_main_arg0 m c)⟩) (run_main m ρ)

end Cert.Rope

end
-- ==== Proof.Rope.RefValue.lean ====
module

public import proofs.«01_k».proof.Proof.Gen.RopeRefIdeal.Run
public import proofs.«01_k».proof.Proof.Layer.Rotary

@[expose] public section

noncomputable section

namespace Cert.Rope.Ref

open Idealize.ShloMosaic Idealize.ShloMosaic.TcCoe Idealize.SL.Sem
open Cert.RopeRefIdeal Cert.RopeRefIdeal.Gen Cert.Layer

variable (z : Vec Ideal S2x8192 .i32)

/-- How fast each pair turns, as the reference computes it. -/
def speeds : FVec Ideal S32 .f32 :=
  Host.powf (F := Ideal) (broadcastInDim S32 ![] bcast_S_S32 (constant S_ .f32 0x461C4000#32)) (Host.divf (mulf (Host.negf (sitofp .f32 (iotaInDim S32 32 0))) (broadcastInDim S32 ![] bcast_S_S32 (constant S_ .f32 0x40000000#32))) (broadcastInDim S32 ![] bcast_S_S32 (constant S_ .f32 0x42800000#32)))

/-- The angles, as the reference computes them. -/
def angles : FVec Ideal S2x8192x32 .f32 :=
  mulf (F := Ideal) (broadcastInDim S2x8192x32 ![0, 1, 2] bcast_S2x8192x1_S2x8192x32_0_1_2 (sitofp .f32 (broadcastInDim S2x8192x1 ![0, 1] bcast_S2x8192_S2x8192x1_0_1 z))) (broadcastInDim S2x8192x32 ![0, 1, 2] bcast_S1x1x32_S2x8192x32_0_1_2 (broadcastInDim S1x1x32 ![2] bcast_S32_S1x1x32_2 speeds))

set_option maxRecDepth 16384 in
theorem speeds_apply (i : Fin 32) : speeds (ix1 i) = speed i := by
  pointwise [speeds]
  rfl

set_option maxRecDepth 16384 in
theorem angles_apply (β : Fin 2) (T : Fin 8192) (i : Fin 32) : angles z (ix3 β T i) = angle (z (ix2 β T)) i := by
  pointwise [angles]
  rw [speeds_apply]
  rfl

/-- The reference's cosines. -/
def cosines : FVec Ideal S16384x128 .f32 := shapeCast S16384x128 (concatenate S2x8192x128 2 [⟨S2x8192x32, (Host.cos (F := Ideal) (angles z) : Vec Ideal S2x8192x32 .f32)⟩, ⟨S2x8192x32, (Host.cos (F := Ideal) (angles z) : Vec Ideal S2x8192x32 .f32)⟩, ⟨S2x8192x32, (Host.cos (F := Ideal) (angles z) : Vec Ideal S2x8192x32 .f32)⟩, ⟨S2x8192x32, (Host.cos (F := Ideal) (angles z) : Vec Ideal S2x8192x32 .f32)⟩] concatenates_S2x8192x32_S2x8192x32_S2x8192x32_S2x8192x32_S2x8192x128_d2) shapeCasts_S2x8192x128_S16384x128

/-- The reference's signed sines. -/
def sines : FVec Ideal S16384x128 .f32 := shapeCast S16384x128 (concatenate S2x8192x128 2 [⟨S2x8192x32, (Host.negf (F := Ideal) (Host.sin (angles z)) : Vec Ideal S2x8192x32 .f32)⟩, ⟨S2x8192x32, (Host.sin (F := Ideal) (angles z) : Vec Ideal S2x8192x32 .f32)⟩, ⟨S2x8192x32, (Host.negf (F := Ideal) (Host.sin (angles z)) : Vec Ideal S2x8192x32 .f32)⟩, ⟨S2x8192x32, (Host.sin (F := Ideal) (angles z) : Vec Ideal S2x8192x32 .f32)⟩] concatenates_S2x8192x32_S2x8192x32_S2x8192x32_S2x8192x32_S2x8192x128_d2) shapeCasts_S2x8192x128_S16384x128

theorem turned_at (f : EReal → EReal) (p : BitVec 32) (i k : Fin 32) (h : i.1 = k.1) : f (angle p i) = f (angle p k) := by
  rw [Fin.ext h]

set_option maxRecDepth 16384 in
theorem cosines_apply (R : Fin 16384) (j : Fin 128) : cosines z (ix2 R j) = Ideal.cos (angle (z (ix2 ⟨R.1 / 8192, by omega⟩ ⟨R.1 % 8192, by omega⟩)) ⟨j.1 % 32, by omega⟩) := by
  pointwise [cosines]
  split_ifs with h0 h1 h2
  all_goals
    rw [angles_apply]
    refine turned_at Ideal.cos _ _ _ ?_
    dsimp only
    omega

set_option maxRecDepth 16384 in
theorem sines_apply (R : Fin 16384) (j : Fin 128) : sines z (ix2 R j) = signed j (Ideal.sin (angle (z (ix2 ⟨R.1 / 8192, by omega⟩ ⟨R.1 % 8192, by omega⟩)) ⟨j.1 % 32, by omega⟩)) := by
  pointwise [sines]
  unfold signed
  by_cases hs : j.1 % 64 < 32
  · rw [if_pos hs]
    split_ifs with h0 h1 h2
    all_goals first
      | (exfalso; omega)
      | (rw [angles_apply]
         refine turned_at (fun v => -Ideal.sin v) _ _ _ ?_
         dsimp only
         omega)
  · rw [if_neg hs]
    split_ifs with h0 h1 h2
    all_goals first
      | (exfalso; omega)
      | (rw [angles_apply]
         refine turned_at Ideal.sin _ _ _ ?_
         dsimp only
         omega)

end Cert.Rope.Ref

end
-- ==== Proof.RopeT.Array.lean ====
module

public import proofs.«01_k».proof.Proof.Gen.RopeTIdeal.Frame
public import Idealize.ShloMosaic.Lib.Pipeline.Value
public import proofs.«01_k».proof.Proof.Layer.Rotary

@[expose] public section

noncomputable section

namespace Cert.RopeT

open Idealize.ShloMosaic Idealize.ShloMosaic.TcCoe Idealize.SL.Sem
open Cert.RopeTIdeal Cert.RopeTIdeal.Gen Cert.Layer

theorem zero2 : (![0, 0] : Fin 2 → Nat) = fun _ => 0 := funext fun a => by fin_cases a <;> rfl
theorem zero3 : (![0, 0, 0] : Fin 3 → Nat) = fun _ => 0 := funext fun a => by fin_cases a <;> rfl

variable (m : (ℓ : Loc nD τ sig) → Buf (Elt Ideal) ℓ)

abbrev A0 (c : Dev nD) : (⟨S2x8192, .i32⟩ : BufTy).Contents (Elt Ideal) := m ((c : Thread nD τ).loc main_arg0)

/-- How fast each pair turns, as the host computes it before the call. -/
def speeds : FVec Ideal S32 .f32 :=
  Host.powf (F := Ideal) (broadcastInDim S32 ![] bcast_S_S32 (constant S_ .f32 0x461C4000#32)) (Host.divf (mulf (Host.negf (sitofp .f32 (iotaInDim S32 32 0))) (broadcastInDim S32 ![] bcast_S_S32 (constant S_ .f32 0x40000000#32))) (broadcastInDim S32 ![] bcast_S_S32 (constant S_ .f32 0x42800000#32)))

set_option maxRecDepth 16384 in
theorem speeds_apply (i : Fin 32) : speeds (ix1 i) = speed i := by
  pointwise [speeds]
  rfl

set_option maxRecDepth 16384 in
theorem pay2_apply (x1 : Vec Ideal S32x1 .f32) (x0 : Vec Ideal S1x1x512 .i32) (i : Fin 32) (s : Fin 512) :
    k0_pay2 (F := Ideal) x1 x0 (ix3 0 i s) = Ideal.cos (x1 (ix2 i 0) * (FloatOps.sitofp (F := Ideal) FTy.f32 (x0 (ix3 0 0 s)) : EReal)) := by
  pointwise [k0_pay2, k0_pay1]

set_option maxRecDepth 16384 in
theorem pay3_apply (x1 : Vec Ideal S32x1 .f32) (x0 : Vec Ideal S1x1x512 .i32) (i : Fin 32) (s : Fin 512) :
    k0_pay3 (F := Ideal) x1 x0 (ix3 0 i s) = Ideal.sin (x1 (ix2 i 0) * (FloatOps.sitofp (F := Ideal) FTy.f32 (x0 (ix3 0 0 s)) : EReal)) := by
  pointwise [k0_pay3, k0_pay1]

theorem out2_apply (x0 : Vec Ideal S1x1x512 .i32) (x1 : Vec Ideal S32x1 .f32) (i : Fin 32) (s : Fin 512) :
    out0_2 x0 x1 (ix3 0 i s) = Ideal.cos (x1 (ix2 i 0) * (FloatOps.sitofp (F := Ideal) FTy.f32 (x0 (ix3 0 0 s)) : EReal)) := by
  unfold out0_2
  rw [View.canon_unit_zero zero3]
  have e0 : View.ld x0 r0_1 = x0 := View.ld_unit_zero zero3 _ _
  have e1 : View.ld x1 r0_0 = x1 := View.ld_unit_zero zero2 _ _
  rw [e0, e1]
  exact pay2_apply x1 x0 i s

theorem out3_apply (x0 : Vec Ideal S1x1x512 .i32) (x1 : Vec Ideal S32x1 .f32) (i : Fin 32) (s : Fin 512) :
    out0_3 x0 x1 (ix3 0 i s) = Ideal.sin (x1 (ix2 i 0) * (FloatOps.sitofp (F := Ideal) FTy.f32 (x0 (ix3 0 0 s)) : EReal)) := by
  unfold out0_3
  rw [View.canon_unit_zero zero3]
  have e0 : View.ld x0 r0_1 = x0 := View.ld_unit_zero zero3 _ _
  have e1 : View.ld x1 r0_0 = x1 := View.ld_unit_zero zero2 _ _
  rw [e0, e1]
  exact pay3_apply x1 x0 i s

theorem V_v8 (c : Dev nD) : (V m c main_v8 : (⟨S32x1, .f32⟩ : BufTy).Contents (Elt Ideal)) = shapeCast S32x1 speeds shapeCasts_S32_S32x1 := by
  show StableHlo.after hostOps0 _ (Proc.devRef .tc main_v8) = _
  simp only [hostOps0]
  after_results
  rfl

theorem V_v9 (c : Dev nD) : (V m c main_v9 : (⟨S2x1x8192, .i32⟩ : BufTy).Contents (Elt Ideal)) = shapeCast S2x1x8192 (A0 m c) shapeCasts_S2x8192_S2x1x8192 := by
  show StableHlo.after hostOps0 _ (Proc.devRef .tc main_v9) = _
  simp only [hostOps0]
  after_results
  rfl

set_option maxRecDepth 16384 in
theorem column_apply (z : Vec Ideal S32 .f32) (i : Fin 32) : shapeCast S32x1 z shapeCasts_S32_S32x1 (ix2 i 0) = z (ix1 i) := by
  pointwise

set_option maxRecDepth 16384 in
theorem steps_apply (z : Vec Ideal S2x8192 .i32) (β : Fin 2) (T : Fin 8192) : shapeCast S2x1x8192 z shapeCasts_S2x8192_S2x1x8192 (ix3 β 0 T) = z (ix2 β T) := by
  pointwise

theorem index0 : ∀ t : Fin cfg0.N, win0_0.index t (0 : Fin 3) = t.val / 16 ∧ win0_0.index t (1 : Fin 3) = 0 ∧ win0_0.index t (2 : Fin 3) = t.val % 16 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 3) = t.val / 16 ∧ win0_2.index t (1 : Fin 3) = 0 ∧ win0_2.index t (2 : Fin 3) = t.val % 16 :=
  (by decide +kernel : ∀ t : Fin grid0.N, _)
theorem index3 : ∀ t : Fin cfg0.N, win0_3.index t (0 : Fin 3) = t.val / 16 ∧ win0_3.index t (1 : Fin 3) = 0 ∧ win0_3.index t (2 : Fin 3) = t.val % 16 :=
  (by decide +kernel : ∀ t : Fin grid0.N, _)

theorem lt_points (t : Fin cfg0.N) : t.1 < 32 := lt_of_lt_of_eq t.2 (show cfg0.N = 32 from N_0)

/-- The sequence of block `t`. -/
abbrev seqOf (t : Fin cfg0.N) : Fin 2 := ⟨t.1 / 16, by have := lt_points t; omega⟩
/-- The step under place `s` of block `t`. -/
abbrev stepOf (t : Fin cfg0.N) (s : Fin 512) : Fin 8192 := ⟨512 * (t.1 % 16) + s.1, by omega⟩

theorem x0_apply (c : Dev nD) (t : Fin cfg0.N) (s : Fin 512) : (iblk m c 0 t : Vec Ideal S1x1x512 .i32) (ix3 0 0 s) = A0 m c (ix2 (seqOf t) (stepOf t s)) := by
  have hi := index0 t
  show (V m c main_v9 : (⟨S2x1x8192, .i32⟩ : BufTy).Contents (Elt Ideal)) (((cfg0.win 0).blk t).view.emb (ix3 0 0 s)) = _
  rw [show ((cfg0.win 0).blk t).view.emb (ix3 0 0 s) = (ix3 (seqOf t) 0 (stepOf t s) : S2x1x8192.Idx) from by
    funext a
    apply Fin.ext
    match a with
    | ⟨0, _⟩ => show win0_0.index t 0 * 1 + 1 * 0 = t.1 / 16; rw [hi.1]; omega
    | ⟨1, _⟩ => show win0_0.index t 1 * 1 + 1 * 0 = 0; rw [hi.2.1]
    | ⟨2, _⟩ => show win0_0.index t 2 * 512 + 1 * s.1 = 512 * (t.1 % 16) + s.1; rw [hi.2.2]; omega]
  exact (congrFun (V_v9 m c) (ix3 (seqOf t) 0 (stepOf t s))).trans (steps_apply (A0 m c) _ _)

theorem x1_apply (c : Dev nD) (t : Fin cfg0.N) (i : Fin 32) : (iblk m c 1 t : Vec Ideal S32x1 .f32) (ix2 i 0) = speed i := by
  have hi := index1 t
  show (V m c main_v8 : (⟨S32x1, .f32⟩ : BufTy).Contents (Elt Ideal)) (((cfg0.win 1).blk t).view.emb (ix2 i 0)) = _
  rw [show ((cfg0.win 1).blk t).view.emb (ix2 i 0) = (ix2 i 0 : S32x1.Idx) from by
    funext a
    apply Fin.ext
    match a with
    | ⟨0, _⟩ => show win0_1.index t 0 * 32 + 1 * i.1 = i.1; rw [hi.1]; omega
    | ⟨1, _⟩ => show win0_1.index t 1 * 1 + 1 * 0 = 0; rw [hi.2]]
  exact ((congrFun (V_v8 m c) (ix2 i 0)).trans (column_apply speeds i)).trans (speeds_apply i)

theorem flush2 : ∀ t : Fin cfg0.N, (cfg0.win 2).flush t = true := (by decide +kernel : ∀ t : Fin grid0.N, _)

theorem apart2 (t u : Fin cfg0.N) (_ : (cfg0.win 2).flush t = true) (_ : (cfg0.win 2).flush u = true) (h : t ≠ u) :
    Disjoint ((cfg0.win 2).blk t).view.set ((cfg0.win 2).blk u).view.set :=
  (cfg0.win 2).disjoint_blk fun e => h ((by decide +kernel : ∀ t u : Fin grid0.N, win0_2.index t = win0_2.index u → t = u) t u e)

/-- Block `t` of the array after the run is what the body leaves at block `t`. -/
theorem block2 (c : Dev nD) (t : Fin cfg0.N) :
    ((cfg0.win 2).blk t).view.read (Elt Ideal) ((dats m 0 c).arrAt 2 cfg0.N) = (cfg0.win 2).cut (grid0.coords t) (out0_2 (iblk m c 0 t) (iblk m c 1 t)) := by
  refine ((dats m 0 c).read_blk_arrAt_eq_flushed 2 apart2 cfg0.N t t.isLt (flush2 t)).trans ?_
  show (cfg0.win 2).cut (grid0.coords t) ((dats m 0 c).after 2 t) = _
  rw [after0_2]

/-- The cosines after the run. -/
theorem result2 (c : Dev nD) (β : Fin 2) (i : Fin 32) (T : Fin 8192) :
    ((dats m 0 c).arrAt 2 cfg0.N : (⟨S2x32x8192, .f32⟩ : BufTy).Contents (Elt Ideal)) (ix3 β i T) = Ideal.cos (angle (A0 m c (ix2 β T)) i) := by
  have hN : cfg0.N = 32 := N_0
  have hi := index2 ⟨16 * β.1 + T.1 / 512, by omega⟩
  have hβ : seqOf ⟨16 * β.1 + T.1 / 512, by omega⟩ = β := Fin.ext (by show (16 * β.1 + T.1 / 512) / 16 = β.1; omega)
  have hT : stepOf ⟨16 * β.1 + T.1 / 512, by omega⟩ ⟨T.1 % 512, by omega⟩ = T := Fin.ext (by show 512 * ((16 * β.1 + T.1 / 512) % 16) + T.1 % 512 = T.1; omega)
  have h := congrFun (block2 m c ⟨16 * β.1 + T.1 / 512, by omega⟩) (ix3 (0 : Fin 1) i (⟨T.1 % 512, by omega⟩ : Fin 512))
  refine Eq.trans (congrArg ((dats m 0 c).arrAt 2 cfg0.N : (⟨S2x32x8192, .f32⟩ : BufTy).Contents (Elt Ideal)) ?_) (h.trans ?_)
  · funext a
    apply Fin.ext
    match a with
    | ⟨0, _⟩ => show β.1 = win0_2.index ⟨16 * β.1 + T.1 / 512, _⟩ 0 * 1 + 1 * 0; rw [hi.1]; show β.1 = (16 * β.1 + T.1 / 512) / 16 * 1 + 1 * 0; omega
    | ⟨1, _⟩ => show i.1 = win0_2.index ⟨16 * β.1 + T.1 / 512, _⟩ 1 * 32 + 1 * i.1; rw [hi.2.1]; omega
    | ⟨2, _⟩ => show T.1 = win0_2.index ⟨16 * β.1 + T.1 / 512, _⟩ 2 * 512 + 1 * (T.1 % 512); rw [hi.2.2]; show T.1 = (16 * β.1 + T.1 / 512) % 16 * 512 + 1 * (T.1 % 512); omega
  · refine (out2_apply _ _ i (⟨T.1 % 512, by omega⟩ : Fin 512)).trans ?_
    rw [x0_apply, x1_apply, hβ, hT]
    exact congrArg Ideal.cos (mul_comm _ _)

theorem flush3 : ∀ t : Fin cfg0.N, (cfg0.win 3).flush t = true := (by decide +kernel : ∀ t : Fin grid0.N, _)

theorem apart3 (t u : Fin cfg0.N) (_ : (cfg0.win 3).flush t = true) (_ : (cfg0.win 3).flush u = true) (h : t ≠ u) :
    Disjoint ((cfg0.win 3).blk t).view.set ((cfg0.win 3).blk u).view.set :=
  (cfg0.win 3).disjoint_blk fun e => h ((by decide +kernel : ∀ t u : Fin grid0.N, win0_3.index t = win0_3.index u → t = u) t u e)

/-- Block `t` of the array after the run is what the body leaves at block `t`. -/
theorem block3 (c : Dev nD) (t : Fin cfg0.N) :
    ((cfg0.win 3).blk t).view.read (Elt Ideal) ((dats m 0 c).arrAt 3 cfg0.N) = (cfg0.win 3).cut (grid0.coords t) (out0_3 (iblk m c 0 t) (iblk m c 1 t)) := by
  refine ((dats m 0 c).read_blk_arrAt_eq_flushed 3 apart3 cfg0.N t t.isLt (flush3 t)).trans ?_
  show (cfg0.win 3).cut (grid0.coords t) ((dats m 0 c).after 3 t) = _
  rw [after0_3]

/-- The sines after the run. -/
theorem result3 (c : Dev nD) (β : Fin 2) (i : Fin 32) (T : Fin 8192) :
    ((dats m 0 c).arrAt 3 cfg0.N : (⟨S2x32x8192, .f32⟩ : BufTy).Contents (Elt Ideal)) (ix3 β i T) = Ideal.sin (angle (A0 m c (ix2 β T)) i) := by
  have hN : cfg0.N = 32 := N_0
  have hi := index3 ⟨16 * β.1 + T.1 / 512, by omega⟩
  have hβ : seqOf ⟨16 * β.1 + T.1 / 512, by omega⟩ = β := Fin.ext (by show (16 * β.1 + T.1 / 512) / 16 = β.1; omega)
  have hT : stepOf ⟨16 * β.1 + T.1 / 512, by omega⟩ ⟨T.1 % 512, by omega⟩ = T := Fin.ext (by show 512 * ((16 * β.1 + T.1 / 512) % 16) + T.1 % 512 = T.1; omega)
  have h := congrFun (block3 m c ⟨16 * β.1 + T.1 / 512, by omega⟩) (ix3 (0 : Fin 1) i (⟨T.1 % 512, by omega⟩ : Fin 512))
  refine Eq.trans (congrArg ((dats m 0 c).arrAt 3 cfg0.N : (⟨S2x32x8192, .f32⟩ : BufTy).Contents (Elt Ideal)) ?_) (h.trans ?_)
  · funext a
    apply Fin.ext
    match a with
    | ⟨0, _⟩ => show β.1 = win0_3.index ⟨16 * β.1 + T.1 / 512, _⟩ 0 * 1 + 1 * 0; rw [hi.1]; show β.1 = (16 * β.1 + T.1 / 512) / 16 * 1 + 1 * 0; omega
    | ⟨1, _⟩ => show i.1 = win0_3.index ⟨16 * β.1 + T.1 / 512, _⟩ 1 * 32 + 1 * i.1; rw [hi.2.1]; omega
    | ⟨2, _⟩ => show T.1 = win0_3.index ⟨16 * β.1 + T.1 / 512, _⟩ 2 * 512 + 1 * (T.1 % 512); rw [hi.2.2]; show T.1 = (16 * β.1 + T.1 / 512) % 16 * 512 + 1 * (T.1 % 512); omega
  · refine (out3_apply _ _ i (⟨T.1 % 512, by omega⟩ : Fin 512)).trans ?_
    rw [x0_apply, x1_apply, hβ, hT]
    exact congrArg Ideal.sin (mul_comm _ _)

/-- Every run ends with the two tables of `result2` and `result3`, the positions as they were. -/
theorem run_tables (ρ : Dev nD → PrngReg) : θ_run defs (onTc (τ := τ) (main (F := Ideal))) ⟨m, fun _ => 0, ρ⟩ fun r => ∀ c : Dev nD,
    r.2.mem ((c : Thread nD τ).loc main_v10_0) = (dats m 0 c).arrAt 2 cfg0.N
    ∧ r.2.mem ((c : Thread nD τ).loc main_v10_1) = (dats m 0 c).arrAt 3 cfg0.N
    ∧ r.2.mem ((c : Thread nD τ).loc main_arg0) = m ((c : Thread nD τ).loc main_arg0) :=
  (θ_run defs _ _).mono (fun r h c => ⟨(h c).1 2, (h c).1 3,
    ((h c).2 main_arg0 (Pipeline.mem_restRefs_of main_arg0 (by decide) (by decide))).trans (V_main_arg0 m c)⟩) (run_main m ρ)

end Cert.RopeT

end
-- ==== Proof.RopeT.RefValue.lean ====
module

public import proofs.«01_k».proof.Proof.Gen.RopeTRefIdeal.Run
public import proofs.«01_k».proof.Proof.Layer.Rotary

@[expose] public section

noncomputable section

namespace Cert.RopeT.Ref

open Idealize.ShloMosaic Idealize.ShloMosaic.TcCoe Idealize.SL.Sem
open Cert.RopeTRefIdeal Cert.RopeTRefIdeal.Gen Cert.Layer

variable (z : Vec Ideal S2x8192 .i32)

/-- How fast each pair turns, as the reference computes it. -/
def speeds : FVec Ideal S32 .f32 :=
  Host.powf (F := Ideal) (broadcastInDim S32 ![] bcast_S_S32 (constant S_ .f32 0x461C4000#32)) (Host.divf (mulf (Host.negf (sitofp .f32 (iotaInDim S32 32 0))) (broadcastInDim S32 ![] bcast_S_S32 (constant S_ .f32 0x40000000#32))) (broadcastInDim S32 ![] bcast_S_S32 (constant S_ .f32 0x42800000#32)))

/-- The angles, as the reference computes them. -/
def angles : FVec Ideal S2x8192x32 .f32 :=
  mulf (F := Ideal) (broadcastInDim S2x8192x32 ![0, 1, 2] bcast_S2x8192x1_S2x8192x32_0_1_2 (sitofp .f32 (broadcastInDim S2x8192x1 ![0, 1] bcast_S2x8192_S2x8192x1_0_1 z))) (broadcastInDim S2x8192x32 ![0, 1, 2] bcast_S1x1x32_S2x8192x32_0_1_2 (broadcastInDim S1x1x32 ![2] bcast_S32_S1x1x32_2 speeds))

set_option maxRecDepth 16384 in
theorem speeds_apply (i : Fin 32) : speeds (ix1 i) = speed i := by
  pointwise [speeds]
  rfl

set_option maxRecDepth 16384 in
theorem angles_apply (β : Fin 2) (T : Fin 8192) (i : Fin 32) : angles z (ix3 β T i) = angle (z (ix2 β T)) i := by
  pointwise [angles]
  rw [speeds_apply]
  rfl

/-- The reference's cosines. -/
def cosines : FVec Ideal S2x32x8192 .f32 := transpose S2x32x8192 [0, 2, 1] (Host.cos (angles z)) transposes_S2x8192x32_S2x32x8192_0_2_1

/-- The reference's sines. -/
def sines : FVec Ideal S2x32x8192 .f32 := transpose S2x32x8192 [0, 2, 1] (Host.sin (angles z)) transposes_S2x8192x32_S2x32x8192_0_2_1

set_option maxRecDepth 16384 in
theorem cosines_apply (β : Fin 2) (i : Fin 32) (T : Fin 8192) : cosines z (ix3 β i T) = Ideal.cos (angle (z (ix2 β T)) i) := by
  pointwise [cosines]
  rw [angles_apply]

set_option maxRecDepth 16384 in
theorem sines_apply (β : Fin 2) (i : Fin 32) (T : Fin 8192) : sines z (ix3 β i T) = Ideal.sin (angle (z (ix2 β T)) i) := by
  pointwise [sines]
  rw [angles_apply]

end Cert.RopeT.Ref

end
-- ==== Proof.Layer.BlockEnds.lean ====
module

public import proofs.«01_k».proof.Proof.Layer.Rotary

@[expose] public section

noncomputable section

namespace Cert.Layer

open Idealize.ShloMosaic Idealize.ShloMosaic.TcCoe Idealize.SL.Sem

/-- The position of the last step of a compressed block; nought for the row that follows the last block. -/
def posAt (z : (⟨2, ![2, 8192]⟩ : Shape).Idx → BitVec 32) (R : Fin 1024) : BitVec 32 :=
  if h : R.1 % 512 < 511 then z (ix2 ⟨R.1 / 512, by omega⟩ ⟨31 + 16 * (R.1 % 512), by omega⟩) else 0#32

end Cert.Layer

end
-- ==== Proof.RopeC.Array.lean ====
module

public import proofs.«01_k».proof.Proof.Gen.RopeCIdeal.Frame
public import Idealize.ShloMosaic.Lib.Pipeline.Value
public import proofs.«01_k».proof.Proof.Layer.BlockEnds

@[expose] public section

noncomputable section

namespace Cert.RopeC

open Idealize.ShloMosaic Idealize.ShloMosaic.TcCoe Idealize.SL.Sem
open Cert.RopeCIdeal Cert.RopeCIdeal.Gen Cert.Layer

theorem zero2 : (![0, 0] : Fin 2 → Nat) = fun _ => 0 := funext fun a => by fin_cases a <;> rfl
theorem zero3 : (![0, 0, 0] : Fin 3 → Nat) = fun _ => 0 := funext fun a => by fin_cases a <;> rfl

variable (m : (ℓ : Loc nD τ sig) → Buf (Elt Ideal) ℓ)

abbrev A0 (c : Dev nD) : (⟨S2x8192, .i32⟩ : BufTy).Contents (Elt Ideal) := m ((c : Thread nD τ).loc main_arg0)

/-- How fast each pair turns, as the host computes it before the call. -/
def speeds : FVec Ideal S32 .f32 :=
  Host.powf (F := Ideal) (broadcastInDim S32 ![] bcast_S_S32 (constant S_ .f32 0x461C4000#32)) (Host.divf (mulf (Host.negf (sitofp .f32 (iotaInDim S32 32 0))) (broadcastInDim S32 ![] bcast_S_S32 (constant S_ .f32 0x40000000#32))) (broadcastInDim S32 ![] bcast_S_S32 (constant S_ .f32 0x42800000#32)))

set_option maxRecDepth 16384 in
theorem speeds_apply (i : Fin 32) : speeds (ix1 i) = speed i := by
  pointwise [speeds]
  rfl

set_option maxRecDepth 16384 in
theorem pay2_apply (x0 : Vec Ideal S512x1 .i32) (x1 : Vec Ideal S1x128 .f32) (r : Fin 512) (j : Fin 128) :
    k0_pay2 (F := Ideal) x0 x1 (ix2 r j) = Ideal.cos ((FloatOps.sitofp (F := Ideal) FTy.f32 (x0 (ix2 r 0)) : EReal) * x1 (ix2 0 j)) := by
  pointwise [k0_pay2, k0_pay1]

set_option maxRecDepth 16384 in
theorem pay3_apply (x0 : Vec Ideal S512x1 .i32) (x1 : Vec Ideal S1x128 .f32) (r : Fin 512) (j : Fin 128) :
    k0_pay3 (F := Ideal) x0 x1 (ix2 r j) = signed j (Ideal.sin ((FloatOps.sitofp (F := Ideal) FTy.f32 (x0 (ix2 r 0)) : EReal) * x1 (ix2 0 j))) := by
  pointwise [k0_pay3, k0_pay1]
  rw [first_half, minus_one]
  unfold signed Scalar.select
  split_ifs with h
  all_goals first
    | exact neg_one_mul _
    | exact one_mul _
    | simp_all

theorem out2_apply (x0 : Vec Ideal S512x1 .i32) (x1 : Vec Ideal S1x128 .f32) (r : Fin 512) (j : Fin 128) :
    out0_2 x0 x1 (ix2 r j) = Ideal.cos ((FloatOps.sitofp (F := Ideal) FTy.f32 (x0 (ix2 r 0)) : EReal) * x1 (ix2 0 j)) := by
  unfold out0_2
  rw [View.canon_unit_zero zero2]
  have e0 : View.ld x0 r0_0 = x0 := View.ld_unit_zero zero2 _ _
  have e1 : View.ld x1 r0_1 = x1 := View.ld_unit_zero zero2 _ _
  rw [e0, e1]
  exact pay2_apply x0 x1 r j

theorem out3_apply (x0 : Vec Ideal S512x1 .i32) (x1 : Vec Ideal S1x128 .f32) (r : Fin 512) (j : Fin 128) :
    out0_3 x0 x1 (ix2 r j) = signed j (Ideal.sin ((FloatOps.sitofp (F := Ideal) FTy.f32 (x0 (ix2 r 0)) : EReal) * x1 (ix2 0 j))) := by
  unfold out0_3
  rw [View.canon_unit_zero zero2]
  have e0 : View.ld x0 r0_0 = x0 := View.ld_unit_zero zero2 _ _
  have e1 : View.ld x1 r0_1 = x1 := View.ld_unit_zero zero2 _ _
  rw [e0, e1]
  exact pay3_apply x0 x1 r j

/-- The positions of the blocks' last steps, as the host lays them out. -/
def ends (z : Vec Ideal S2x8192 .i32) : Vec Ideal S2x512 .i32 := pad S2x512 ![0, 0] ![0, 1] ![0, 0] (Host.slice S2x511 ![0, 31] ![1, 16] z slicesBy_S2x8192_S2x511_0s1_31s16) (constantI S_ 32 0#32) pads_S2x511_S2x512_000_010 h_S_

theorem V_v15 (c : Dev nD) : (V m c main_v15 : (⟨S1024x1, .i32⟩ : BufTy).Contents (Elt Ideal)) = shapeCast S1024x1 (shapeCast S1024 (ends (A0 m c)) shapeCasts_S2x512_S1024) shapeCasts_S1024_S1024x1 := by
  show StableHlo.after (List.flatten [hostOps0, hostOps0_1, hostOps0_2]) _ (Proc.devRef .tc main_v15) = _
  simp only [hostOps0, hostOps0_1, hostOps0_2, List.flatten_cons, List.flatten_nil, List.append_nil, List.cons_append, List.nil_append]
  after_results
  rfl

theorem V_v14 (c : Dev nD) : (V m c main_v14 : (⟨S1x128, .f32⟩ : BufTy).Contents (Elt Ideal)) = shapeCast S1x128 (shapeCast S128 (broadcastInDim S4x32 ![0, 1] bcast_S1x32_S4x32_0_1 (shapeCast S1x32 speeds shapeCasts_S32_S1x32)) shapeCasts_S4x32_S128) shapeCasts_S128_S1x128 := by
  show StableHlo.after (List.flatten [hostOps0, hostOps0_1, hostOps0_2]) _ (Proc.devRef .tc main_v14) = _
  simp only [hostOps0, hostOps0_1, hostOps0_2, List.flatten_cons, List.flatten_nil, List.append_nil, List.cons_append, List.nil_append]
  after_results
  rfl

set_option maxRecDepth 16384 in
theorem steps_apply (z : Vec Ideal S2x8192 .i32) (R : Fin 1024) :
    shapeCast S1024x1 (shapeCast S1024 (ends z) shapeCasts_S2x512_S1024) shapeCasts_S1024_S1024x1 (ix2 R 0) = posAt z R := by
  pointwise [ends]
  unfold posAt
  by_cases h : R.1 % 512 < 511
  · refine Eq.trans ?_ (dif_pos h).symm
    refine (dif_pos ?_).trans ?_
    · exact ⟨by omega, h⟩
    · rfl
  · refine Eq.trans ?_ (dif_neg h).symm
    refine dif_neg ?_
    exact fun h' => h h'.2

set_option maxRecDepth 16384 in
theorem tiled_apply (z : FVec Ideal S32 .f32) (j : Fin 128) :
    shapeCast S1x128 (shapeCast S128 (broadcastInDim S4x32 ![0, 1] bcast_S1x32_S4x32_0_1 (shapeCast S1x32 z shapeCasts_S32_S1x32)) shapeCasts_S4x32_S128) shapeCasts_S128_S1x128 (ix2 0 j) = z (ix1 ⟨j.1 % 32, by omega⟩) := by
  pointwise

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)

theorem lt_points (t : Fin cfg0.N) : t.1 < 2 := lt_of_lt_of_eq t.2 (show cfg0.N = 2 from N_0)

/-- The row of the whole array under row `r` of block `t`. -/
abbrev rowOf (t : Fin cfg0.N) (r : Fin 512) : Fin 1024 := ⟨512 * t.1 + r.1, by have := lt_points t; omega⟩

theorem x0_apply (c : Dev nD) (t : Fin cfg0.N) (r : Fin 512) :
    (iblk m c 0 t : Vec Ideal S512x1 .i32) (ix2 r 0) = posAt (A0 m c) (rowOf t r) := by
  have hi := index0 t
  show (V m c main_v15 : (⟨S1024x1, .i32⟩ : BufTy).Contents (Elt Ideal)) (((cfg0.win 0).blk t).view.emb (ix2 r 0)) = _
  rw [show ((cfg0.win 0).blk t).view.emb (ix2 r 0) = (ix2 (rowOf t r) 0 : S1024x1.Idx) from by
    funext a
    apply Fin.ext
    match a with
    | ⟨0, _⟩ => show win0_0.index t 0 * 512 + 1 * r.1 = 512 * t.1 + r.1; rw [hi.1]; omega
    | ⟨1, _⟩ => show win0_0.index t 1 * 1 + 1 * 0 = 0; rw [hi.2]]
  exact (congrFun (V_v15 m c) (ix2 (rowOf t r) 0)).trans (steps_apply (A0 m c) _)

theorem x1_apply (c : Dev nD) (t : Fin cfg0.N) (j : Fin 128) : (iblk m c 1 t : Vec Ideal S1x128 .f32) (ix2 0 j) = speed ⟨j.1 % 32, by omega⟩ := by
  have hi := index1 t
  show (V m c main_v14 : (⟨S1x128, .f32⟩ : BufTy).Contents (Elt Ideal)) (((cfg0.win 1).blk t).view.emb (ix2 0 j)) = _
  rw [show ((cfg0.win 1).blk t).view.emb (ix2 0 j) = (ix2 0 j : S1x128.Idx) from by
    funext a
    apply Fin.ext
    match a with
    | ⟨0, _⟩ => show win0_1.index t 0 * 1 + 1 * 0 = 0; rw [hi.1]
    | ⟨1, _⟩ => show win0_1.index t 1 * 128 + 1 * j.1 = j.1; rw [hi.2]; omega]
  exact ((congrFun (V_v14 m c) (ix2 0 j)).trans (tiled_apply speeds j)).trans (speeds_apply _)

theorem flush2 : ∀ t : Fin cfg0.N, (cfg0.win 2).flush t = true := (by decide +kernel : ∀ t : Fin grid0.N, _)

theorem apart2 (t u : Fin cfg0.N) (_ : (cfg0.win 2).flush t = true) (_ : (cfg0.win 2).flush u = true) (h : t ≠ u) :
    Disjoint ((cfg0.win 2).blk t).view.set ((cfg0.win 2).blk u).view.set :=
  (cfg0.win 2).disjoint_blk fun e => h ((by decide +kernel : ∀ t u : Fin grid0.N, win0_2.index t = win0_2.index u → t = u) t u e)

/-- Block `t` of the array after the run is what the body leaves at block `t`. -/
theorem block2 (c : Dev nD) (t : Fin cfg0.N) :
    ((cfg0.win 2).blk t).view.read (Elt Ideal) ((dats m 0 c).arrAt 2 cfg0.N) = (cfg0.win 2).cut (grid0.coords t) (out0_2 (iblk m c 0 t) (iblk m c 1 t)) := by
  refine ((dats m 0 c).read_blk_arrAt_eq_flushed 2 apart2 cfg0.N t t.isLt (flush2 t)).trans ?_
  show (cfg0.win 2).cut (grid0.coords t) ((dats m 0 c).after 2 t) = _
  rw [after0_2]

/-- The cosines after the run. -/
theorem result2 (c : Dev nD) (R : Fin 1024) (j : Fin 128) :
    ((dats m 0 c).arrAt 2 cfg0.N : (⟨S1024x128, .f32⟩ : BufTy).Contents (Elt Ideal)) (ix2 R j) = Ideal.cos (angle (posAt (A0 m c) R) ⟨j.1 % 32, by omega⟩) := by
  have hN : cfg0.N = 2 := N_0
  have hi := index2 ⟨R.1 / 512, by omega⟩
  have hR : rowOf ⟨R.1 / 512, by omega⟩ ⟨R.1 % 512, by omega⟩ = R := Fin.ext (by show 512 * (R.1 / 512) + R.1 % 512 = R.1; omega)
  have h := congrFun (block2 m c ⟨R.1 / 512, by omega⟩) (ix2 (⟨R.1 % 512, by omega⟩ : Fin 512) j)
  refine Eq.trans (congrArg ((dats m 0 c).arrAt 2 cfg0.N : (⟨S1024x128, .f32⟩ : BufTy).Contents (Elt Ideal)) ?_) (h.trans ?_)
  · funext a
    apply Fin.ext
    match a with
    | ⟨0, _⟩ => show R.1 = win0_2.index ⟨R.1 / 512, _⟩ 0 * 512 + 1 * (R.1 % 512); rw [hi.1]; show R.1 = R.1 / 512 * 512 + 1 * (R.1 % 512); omega
    | ⟨1, _⟩ => show j.1 = win0_2.index ⟨R.1 / 512, _⟩ 1 * 128 + 1 * j.1; rw [hi.2]; omega
  · refine (out2_apply _ _ (⟨R.1 % 512, by omega⟩ : Fin 512) j).trans ?_
    rw [x0_apply, x1_apply]
    rw [hR]
    rfl

theorem flush3 : ∀ t : Fin cfg0.N, (cfg0.win 3).flush t = true := (by decide +kernel : ∀ t : Fin grid0.N, _)

theorem apart3 (t u : Fin cfg0.N) (_ : (cfg0.win 3).flush t = true) (_ : (cfg0.win 3).flush u = true) (h : t ≠ u) :
    Disjoint ((cfg0.win 3).blk t).view.set ((cfg0.win 3).blk u).view.set :=
  (cfg0.win 3).disjoint_blk fun e => h ((by decide +kernel : ∀ t u : Fin grid0.N, win0_3.index t = win0_3.index u → t = u) t u e)

/-- Block `t` of the array after the run is what the body leaves at block `t`. -/
theorem block3 (c : Dev nD) (t : Fin cfg0.N) :
    ((cfg0.win 3).blk t).view.read (Elt Ideal) ((dats m 0 c).arrAt 3 cfg0.N) = (cfg0.win 3).cut (grid0.coords t) (out0_3 (iblk m c 0 t) (iblk m c 1 t)) := by
  refine ((dats m 0 c).read_blk_arrAt_eq_flushed 3 apart3 cfg0.N t t.isLt (flush3 t)).trans ?_
  show (cfg0.win 3).cut (grid0.coords t) ((dats m 0 c).after 3 t) = _
  rw [after0_3]

/-- The signed sines after the run. -/
theorem result3 (c : Dev nD) (R : Fin 1024) (j : Fin 128) :
    ((dats m 0 c).arrAt 3 cfg0.N : (⟨S1024x128, .f32⟩ : BufTy).Contents (Elt Ideal)) (ix2 R j) = signed j (Ideal.sin (angle (posAt (A0 m c) R) ⟨j.1 % 32, by omega⟩)) := by
  have hN : cfg0.N = 2 := N_0
  have hi := index3 ⟨R.1 / 512, by omega⟩
  have hR : rowOf ⟨R.1 / 512, by omega⟩ ⟨R.1 % 512, by omega⟩ = R := Fin.ext (by show 512 * (R.1 / 512) + R.1 % 512 = R.1; omega)
  have h := congrFun (block3 m c ⟨R.1 / 512, by omega⟩) (ix2 (⟨R.1 % 512, by omega⟩ : Fin 512) j)
  refine Eq.trans (congrArg ((dats m 0 c).arrAt 3 cfg0.N : (⟨S1024x128, .f32⟩ : BufTy).Contents (Elt Ideal)) ?_) (h.trans ?_)
  · funext a
    apply Fin.ext
    match a with
    | ⟨0, _⟩ => show R.1 = win0_3.index ⟨R.1 / 512, _⟩ 0 * 512 + 1 * (R.1 % 512); rw [hi.1]; show R.1 = R.1 / 512 * 512 + 1 * (R.1 % 512); omega
    | ⟨1, _⟩ => show j.1 = win0_3.index ⟨R.1 / 512, _⟩ 1 * 128 + 1 * j.1; rw [hi.2]; omega
  · refine (out3_apply _ _ (⟨R.1 % 512, by omega⟩ : Fin 512) j).trans ?_
    rw [x0_apply, x1_apply]
    rw [hR]
    rfl

/-- Every run ends with the two tables of `result2` and `result3`, the positions as they were. -/
theorem run_tables (ρ : Dev nD → PrngReg) : θ_run defs (onTc (τ := τ) (main (F := Ideal))) ⟨m, fun _ => 0, ρ⟩ fun r => ∀ c : Dev nD,
    r.2.mem ((c : Thread nD τ).loc main_v16_0) = (dats m 0 c).arrAt 2 cfg0.N
    ∧ r.2.mem ((c : Thread nD τ).loc main_v16_1) = (dats m 0 c).arrAt 3 cfg0.N
    ∧ r.2.mem ((c : Thread nD τ).loc main_arg0) = m ((c : Thread nD τ).loc main_arg0) :=
  (θ_run defs _ _).mono (fun r h c => ⟨(h c).1 2, (h c).1 3,
    ((h c).2 main_arg0 (Pipeline.mem_restRefs_of main_arg0 (by decide) (by decide))).trans (V_main_arg0 m c)⟩) (run_main m ρ)

end Cert.RopeC

end
-- ==== Proof.RopeC.RefValue.lean ====
module

public import proofs.«01_k».proof.Proof.Gen.RopeCRefIdeal.Run
public import proofs.«01_k».proof.Proof.Layer.BlockEnds

@[expose] public section

noncomputable section

namespace Cert.RopeC.Ref

open Idealize.ShloMosaic Idealize.ShloMosaic.TcCoe Idealize.SL.Sem
open Cert.RopeCRefIdeal Cert.RopeCRefIdeal.Gen Cert.Layer

variable (z : Vec Ideal S2x8192 .i32)

/-- How fast each pair turns, as the reference computes it. -/
def speeds : FVec Ideal S32 .f32 :=
  Host.powf (F := Ideal) (broadcastInDim S32 ![] bcast_S_S32 (constant S_ .f32 0x461C4000#32)) (Host.divf (mulf (Host.negf (sitofp .f32 (iotaInDim S32 32 0))) (broadcastInDim S32 ![] bcast_S_S32 (constant S_ .f32 0x40000000#32))) (broadcastInDim S32 ![] bcast_S_S32 (constant S_ .f32 0x42800000#32)))

/-- The positions of the blocks' last steps, as the reference takes them. -/
def ends : Vec Ideal S2x512 .i32 :=
  concatenate S2x512 1 [⟨S2x511, Host.slice S2x511 ![0, 31] ![1, 16] z slicesBy_S2x8192_S2x511_0s1_31s16⟩, ⟨S2x1, broadcastInDim S2x1 ![] bcast_S_S2x1 (constantI S_ 32 0#32)⟩] concatenates_S2x511_S2x1_S2x512_d1

set_option maxRecDepth 16384 in
theorem ends_apply (R : Fin 1024) : ends z (ix2 ⟨R.1 / 512, by omega⟩ ⟨R.1 % 512, by omega⟩) = posAt z R := by
  pointwise [ends]
  rfl

/-- The angles, as the reference computes them. -/
def angles : FVec Ideal S2x512x32 .f32 :=
  mulf (F := Ideal) (broadcastInDim S2x512x32 ![0, 1, 2] bcast_S2x512x1_S2x512x32_0_1_2 (sitofp .f32 (broadcastInDim S2x512x1 ![0, 1] bcast_S2x512_S2x512x1_0_1 (ends z)))) (broadcastInDim S2x512x32 ![0, 1, 2] bcast_S1x1x32_S2x512x32_0_1_2 (broadcastInDim S1x1x32 ![2] bcast_S32_S1x1x32_2 speeds))

set_option maxRecDepth 16384 in
theorem speeds_apply (i : Fin 32) : speeds (ix1 i) = speed i := by
  pointwise [speeds]
  rfl

set_option maxRecDepth 16384 in
theorem angles_apply (β : Fin 2) (T : Fin 512) (i : Fin 32) : angles z (ix3 β T i) = angle (ends z (ix2 β T)) i := by
  pointwise [angles]
  rw [speeds_apply]
  rfl

/-- The reference's cosines. -/
def cosines : FVec Ideal S1024x128 .f32 := shapeCast S1024x128 (concatenate S2x512x128 2 [⟨S2x512x32, (Host.cos (F := Ideal) (angles z) : Vec Ideal S2x512x32 .f32)⟩, ⟨S2x512x32, (Host.cos (F := Ideal) (angles z) : Vec Ideal S2x512x32 .f32)⟩, ⟨S2x512x32, (Host.cos (F := Ideal) (angles z) : Vec Ideal S2x512x32 .f32)⟩, ⟨S2x512x32, (Host.cos (F := Ideal) (angles z) : Vec Ideal S2x512x32 .f32)⟩] concatenates_S2x512x32_S2x512x32_S2x512x32_S2x512x32_S2x512x128_d2) shapeCasts_S2x512x128_S1024x128

/-- The reference's signed sines. -/
def sines : FVec Ideal S1024x128 .f32 := shapeCast S1024x128 (concatenate S2x512x128 2 [⟨S2x512x32, (Host.negf (F := Ideal) (Host.sin (angles z)) : Vec Ideal S2x512x32 .f32)⟩, ⟨S2x512x32, (Host.sin (F := Ideal) (angles z) : Vec Ideal S2x512x32 .f32)⟩, ⟨S2x512x32, (Host.negf (F := Ideal) (Host.sin (angles z)) : Vec Ideal S2x512x32 .f32)⟩, ⟨S2x512x32, (Host.sin (F := Ideal) (angles z) : Vec Ideal S2x512x32 .f32)⟩] concatenates_S2x512x32_S2x512x32_S2x512x32_S2x512x32_S2x512x128_d2) shapeCasts_S2x512x128_S1024x128

theorem turned_at (f : EReal → EReal) (p : BitVec 32) (i k : Fin 32) (h : i.1 = k.1) : f (angle p i) = f (angle p k) := by
  rw [Fin.ext h]

set_option maxRecDepth 16384 in
theorem cosines_apply (R : Fin 1024) (j : Fin 128) : cosines z (ix2 R j) = Ideal.cos (angle (posAt z R) ⟨j.1 % 32, by omega⟩) := by
  pointwise [cosines]
  split_ifs with h0 h1 h2
  all_goals
    rw [angles_apply, ends_apply]
    refine turned_at Ideal.cos _ _ _ ?_
    dsimp only
    omega

set_option maxRecDepth 16384 in
theorem sines_apply (R : Fin 1024) (j : Fin 128) : sines z (ix2 R j) = signed j (Ideal.sin (angle (posAt z R) ⟨j.1 % 32, by omega⟩)) := by
  pointwise [sines]
  unfold signed
  by_cases hs : j.1 % 64 < 32
  · rw [if_pos hs]
    split_ifs with h0 h1 h2
    all_goals first
      | (exfalso; omega)
      | (rw [angles_apply, ends_apply]
         refine turned_at (fun v => -Ideal.sin v) _ _ _ ?_
         dsimp only
         omega)
  · rw [if_neg hs]
    split_ifs with h0 h1 h2
    all_goals first
      | (exfalso; omega)
      | (rw [angles_apply, ends_apply]
         refine turned_at Ideal.sin _ _ _ ?_
         dsimp only
         omega)

end Cert.RopeC.Ref

end
-- ==== Proof.KvPrep.Block.lean ====
module

public import proofs.«01_k».proof.Proof.Gen.KvPrepIdeal.Value
public import Idealize.ShloMosaic.Lib.Pointwise
public import proofs.«01_k».proof.Proof.Layer.Rotary

@[expose] public section

noncomputable section

namespace Cert.KvPrep

open Idealize.ShloMosaic Idealize.ShloMosaic.TcCoe Idealize.SL.Sem
open Cert.KvPrepIdeal Cert.KvPrepIdeal.Gen Cert.KvPrepIdeal.Value Cert.Layer

theorem zero2 : (![0, 0] : Fin 2 → Nat) = fun _ => 0 := funext fun a => by fin_cases a <;> rfl

theorem ex4 {d0 d1 d2 d3 : ℕ} (x : (⟨4, ![d0, d1, d2, d3]⟩ : Shape).Idx) : ∃ (a : Fin d0) (b : Fin d1) (c : Fin d2) (d : Fin d3), x = ix4 a b c d :=
  ⟨x 0, x 1, x 2, x 3, by funext i; match i with | ⟨0, _⟩ => rfl | ⟨1, _⟩ => rfl | ⟨2, _⟩ => rfl | ⟨3, _⟩ => rfl⟩

/-- An entry of a block of the projection. -/
def at2 (x : Vec Ideal S512x512 .bf16) (r q : ℕ) : EReal := x (ix2 ⟨r % 512, by omega⟩ ⟨q % 512, by omega⟩)

/-- An entry of a block of a table. -/
def tab (x : Vec Ideal S512x128 .f32) (r q : ℕ) : EReal := x (ix2 ⟨r % 512, by omega⟩ ⟨q % 128, by omega⟩)

theorem at2_eq (x : Vec Ideal S512x512 .bf16) (a b : Fin 512) (r q : ℕ) (h : a.1 = r) (h' : b.1 = q) : x (ix2 a b) = at2 x r q := by
  subst h h'
  exact congrArg₂ (fun u v => x (ix2 u v)) (Fin.ext (Nat.mod_eq_of_lt a.2).symm) (Fin.ext (Nat.mod_eq_of_lt b.2).symm)

theorem tab_eq (x : Vec Ideal S512x128 .f32) (a : Fin 512) (b : Fin 128) (r q : ℕ) (h : a.1 = r) (h' : b.1 = q) : x (ix2 a b) = tab x r q := by
  subst h h'
  exact congrArg₂ (fun u v => x (ix2 u v)) (Fin.ext (Nat.mod_eq_of_lt a.2).symm) (Fin.ext (Nat.mod_eq_of_lt b.2).symm)

/-- A key of head `g`, turned by the tables, then a one and zeros. -/
def keyOf (x : Vec Ideal S512x512 .bf16) (co si : Vec Ideal S512x128 .f32) (g r q : ℕ) : EReal :=
  if q < 64 then at2 x r (64 * g + q) * tab co r (64 * (g % 2) + q) + at2 x r (64 * g + (q + 32) % 64) * tab si r (64 * (g % 2) + q)
  else if q = 64 then 1 else 0

/-- A value of head `g`, one column per step, then a row of ones and rows of zeros. -/
def valOf (x : Vec Ideal S512x512 .bf16) (g v r : ℕ) : EReal :=
  if v < 64 then at2 x r (256 + 64 * g + v) else if v = 64 then 1 else 0

theorem at_start (n : Fin 64) : IntOp.cmpi .eq (BitVec.ofNat 32 n.1) 0#32 = if n.1 = 0 then 1#1 else 0#1 := by
  revert n
  decide +kernel

theorem key_pad (x : Vec Ideal S512x512 .bf16) (co si : Vec Ideal S512x128 .f32) (g r : ℕ) (q : Fin 128) (h : ¬q.1 < 64) :
    Scalar.select (IntOp.cmpi .eq (BitVec.ofNat 32 (q.1 - 64)) 0#32) (1 : EReal) 0 = keyOf x co si g r q.1 := by
  rw [at_start ⟨q.1 - 64, by omega⟩]
  unfold keyOf Scalar.select
  rw [if_neg h]
  by_cases h' : q.1 = 64
  · rw [if_pos h', if_pos (show q.1 - 64 = 0 by omega)]
    rfl
  · rw [if_neg h', if_neg (show ¬q.1 - 64 = 0 by omega)]
    rfl

theorem val_pad (x : Vec Ideal S512x512 .bf16) (g r : ℕ) (v : Fin 16) :
    Scalar.select (IntOp.cmpi .eq (BitVec.ofNat 32 v.1) 0#32) (1 : EReal) 0 = valOf x g (64 + v.1) r := by
  rw [at_start ⟨v.1, by omega⟩]
  unfold valOf Scalar.select
  rw [if_neg (show ¬64 + v.1 < 64 by omega)]
  dsimp only
  by_cases h' : v.1 = 0
  · rw [if_pos h', if_pos (show 64 + v.1 = 64 by omega)]
    rfl
  · rw [if_neg h', if_neg (show ¬64 + v.1 = 64 by omega)]
    rfl

theorem key_lane (x : Vec Ideal S512x512 .bf16) (co si : Vec Ideal S512x128 .f32) (g r q w : ℕ) (hw : w < 128) (h : q < 64) (hg : w = 64 * (g % 2) + q)
    (a b c d e : EReal) (ha : a = at2 x r (64 * g + q)) (hb : b = tab co r w)
    (hc : q < 32 → c = at2 x r (64 * g + (q + 32) % 64)) (hd : ¬q < 32 → d = at2 x r (64 * g + (q + 32) % 64)) (he : e = tab si r w) :
    a * b + Scalar.select (IntOp.cmpi .slt (IntOp.andi (BitVec.ofNat 32 w) 63#32) 32#32) c d * e = keyOf x co si g r q := by
  have hf : IntOp.cmpi .slt (IntOp.andi (BitVec.ofNat 32 w) 63#32) 32#32 = if w % 64 < 32 then 1#1 else 0#1 := first_half ⟨w, hw⟩
  rw [hf, ha, hb, he]
  unfold keyOf Scalar.select
  rw [if_pos h, ← hg]
  by_cases h' : q < 32
  · rw [if_pos (show w % 64 < 32 by omega), ← hc h']
    rfl
  · rw [if_neg (show ¬w % 64 < 32 by omega), ← hd h']
    rfl

section Block

variable (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x4x512x64 .bf16) (harg7 : arg7.IsWhole) (arg8 : Memref sig .tc .vmem S1x4x512x64 .bf16) (harg8 : arg8.IsWhole) (arg9 : Memref sig .tc .vmem S1x4x512x128 .bf16) (harg9 : arg9.IsWhole) (arg10 : Memref sig .tc .vmem S1x4x80x512 .bf16) (harg10 : arg10.IsWhole) (arg11 : Memref sig .tc .vmem S1x4x512x128 .bf16) (harg11 : arg11.IsWhole) (arg12 : Memref sig .tc .vmem S1x4x80x512 .bf16) (harg12 : arg12.IsWhole)
variable (x0 : Vec Ideal S512x512 .bf16) (x1 : Vec Ideal S512x512 .bf16) (x2 : Vec Ideal S512x512 .bf16) (x3 : Vec Ideal S512x128 .f32) (x4 : Vec Ideal S512x128 .f32)

set_option maxRecDepth 16384 in
theorem out5_apply (y : S1x4x512x64.Idx) :
    out0_A_5 c i arg2 harg2 arg3 harg3 arg4 harg4 arg5 harg5 arg6 harg6 arg7 harg7 arg8 harg8 arg9 harg9 arg10 harg10 arg11 harg11 arg12 harg12 x0 x1 x2 x3 x4 y = at2 x0 (y 2).1 (0 + 64 * (y 1).1 + (y 3).1) := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 x0 x1 x2 x3 x4)]
  refine View.canon_apply_of_pieces (fun y : S1x4x512x64.Idx => at2 x0 (y 2).1 (0 + 64 * (y 1).1 + (y 3).1)) _ ?_ y (cover0_A_5 c i arg2 harg2 arg3 harg3 arg4 harg4 arg5 harg5 arg6 harg6 arg7 harg7 arg8 harg8 arg9 harg9 arg10 harg10 arg11 harg11 arg12 harg12 x0 x1 x2 x3 x4 y)
  unfold kernelRun0_A
  dsimp only
  sl_unfold_words
  simp only [View.readAt_eq_ld, harg2.read_unread, harg3.read_unread, harg4.read_unread, harg5.read_unread, harg6.read_unread, View.ld_unit_zero (S := S512x512) zero2, View.ld_unit_zero (S := S512x128) zero2, List.forall_mem_cons]
  refine ⟨?_, ?_, ?_, ?_, fun x hx => absurd hx List.not_mem_nil⟩
  · intro x
    obtain ⟨a, b, r, e, rfl⟩ := ex4 (d0 := 1) (d1 := 1) (d2 := 512) (d3 := 64) x
    refine Eq.trans (b := at2 x0 r.1 (0 + 64 * 3 + e.1)) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      refine at2_eq _ _ _ _ _ ?_ ?_ <;> dsimp only <;> omega
    · show _ = at2 x0 (0 + 1 * r.1) (0 + 64 * (3 + 1 * b.1) + (0 + 1 * e.1))
      congr 1 <;> omega
  · intro x
    obtain ⟨a, b, r, e, rfl⟩ := ex4 (d0 := 1) (d1 := 1) (d2 := 512) (d3 := 64) x
    refine Eq.trans (b := at2 x0 r.1 (0 + 64 * 2 + e.1)) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      refine at2_eq _ _ _ _ _ ?_ ?_ <;> dsimp only <;> omega
    · show _ = at2 x0 (0 + 1 * r.1) (0 + 64 * (2 + 1 * b.1) + (0 + 1 * e.1))
      congr 1 <;> omega
  · intro x
    obtain ⟨a, b, r, e, rfl⟩ := ex4 (d0 := 1) (d1 := 1) (d2 := 512) (d3 := 64) x
    refine Eq.trans (b := at2 x0 r.1 (0 + 64 * 1 + e.1)) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      refine at2_eq _ _ _ _ _ ?_ ?_ <;> dsimp only <;> omega
    · show _ = at2 x0 (0 + 1 * r.1) (0 + 64 * (1 + 1 * b.1) + (0 + 1 * e.1))
      congr 1 <;> omega
  · intro x
    obtain ⟨a, b, r, e, rfl⟩ := ex4 (d0 := 1) (d1 := 1) (d2 := 512) (d3 := 64) x
    refine Eq.trans (b := at2 x0 r.1 (0 + 64 * 0 + e.1)) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      refine at2_eq _ _ _ _ _ ?_ ?_ <;> dsimp only <;> omega
    · show _ = at2 x0 (0 + 1 * r.1) (0 + 64 * (0 + 1 * b.1) + (0 + 1 * e.1))
      congr 1 <;> omega

set_option maxRecDepth 16384 in
theorem out6_apply (y : S1x4x512x64.Idx) :
    out0_A_6 c i arg2 harg2 arg3 harg3 arg4 harg4 arg5 harg5 arg6 harg6 arg7 harg7 arg8 harg8 arg9 harg9 arg10 harg10 arg11 harg11 arg12 harg12 x0 x1 x2 x3 x4 y = at2 x0 (y 2).1 (256 + 64 * (y 1).1 + (y 3).1) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 x0 x1 x2 x3 x4)]
  refine View.canon_apply_of_pieces (fun y : S1x4x512x64.Idx => at2 x0 (y 2).1 (256 + 64 * (y 1).1 + (y 3).1)) _ ?_ y (cover0_A_6 c i arg2 harg2 arg3 harg3 arg4 harg4 arg5 harg5 arg6 harg6 arg7 harg7 arg8 harg8 arg9 harg9 arg10 harg10 arg11 harg11 arg12 harg12 x0 x1 x2 x3 x4 y)
  unfold kernelRun0_A
  dsimp only
  sl_unfold_words
  simp only [View.readAt_eq_ld, harg2.read_unread, harg3.read_unread, harg4.read_unread, harg5.read_unread, harg6.read_unread, View.ld_unit_zero (S := S512x512) zero2, View.ld_unit_zero (S := S512x128) zero2, List.forall_mem_cons]
  refine ⟨?_, ?_, ?_, ?_, fun x hx => absurd hx List.not_mem_nil⟩
  · intro x
    obtain ⟨a, b, r, e, rfl⟩ := ex4 (d0 := 1) (d1 := 1) (d2 := 512) (d3 := 64) x
    refine Eq.trans (b := at2 x0 r.1 (256 + 64 * 3 + e.1)) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      refine at2_eq _ _ _ _ _ ?_ ?_ <;> dsimp only <;> omega
    · show _ = at2 x0 (0 + 1 * r.1) (256 + 64 * (3 + 1 * b.1) + (0 + 1 * e.1))
      congr 1 <;> omega
  · intro x
    obtain ⟨a, b, r, e, rfl⟩ := ex4 (d0 := 1) (d1 := 1) (d2 := 512) (d3 := 64) x
    refine Eq.trans (b := at2 x0 r.1 (256 + 64 * 2 + e.1)) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      refine at2_eq _ _ _ _ _ ?_ ?_ <;> dsimp only <;> omega
    · show _ = at2 x0 (0 + 1 * r.1) (256 + 64 * (2 + 1 * b.1) + (0 + 1 * e.1))
      congr 1 <;> omega
  · intro x
    obtain ⟨a, b, r, e, rfl⟩ := ex4 (d0 := 1) (d1 := 1) (d2 := 512) (d3 := 64) x
    refine Eq.trans (b := at2 x0 r.1 (256 + 64 * 1 + e.1)) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      refine at2_eq _ _ _ _ _ ?_ ?_ <;> dsimp only <;> omega
    · show _ = at2 x0 (0 + 1 * r.1) (256 + 64 * (1 + 1 * b.1) + (0 + 1 * e.1))
      congr 1 <;> omega
  · intro x
    obtain ⟨a, b, r, e, rfl⟩ := ex4 (d0 := 1) (d1 := 1) (d2 := 512) (d3 := 64) x
    refine Eq.trans (b := at2 x0 r.1 (256 + 64 * 0 + e.1)) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      refine at2_eq _ _ _ _ _ ?_ ?_ <;> dsimp only <;> omega
    · show _ = at2 x0 (0 + 1 * r.1) (256 + 64 * (0 + 1 * b.1) + (0 + 1 * e.1))
      congr 1 <;> omega

set_option maxRecDepth 16384 in
theorem out7_apply (y : S1x4x512x128.Idx) :
    out0_A_7 c i arg2 harg2 arg3 harg3 arg4 harg4 arg5 harg5 arg6 harg6 arg7 harg7 arg8 harg8 arg9 harg9 arg10 harg10 arg11 harg11 arg12 harg12 x0 x1 x2 x3 x4 y = keyOf x1 x3 x4 (y 1).1 (y 2).1 (y 3).1 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 x0 x1 x2 x3 x4)]
  refine View.canon_apply_of_pieces (fun y : S1x4x512x128.Idx => keyOf x1 x3 x4 (y 1).1 (y 2).1 (y 3).1) _ ?_ y (cover0_A_7 c i arg2 harg2 arg3 harg3 arg4 harg4 arg5 harg5 arg6 harg6 arg7 harg7 arg8 harg8 arg9 harg9 arg10 harg10 arg11 harg11 arg12 harg12 x0 x1 x2 x3 x4 y)
  unfold kernelRun0_A
  dsimp only
  sl_unfold_words
  simp only [View.readAt_eq_ld, harg2.read_unread, harg3.read_unread, harg4.read_unread, harg5.read_unread, harg6.read_unread, View.ld_unit_zero (S := S512x512) zero2, View.ld_unit_zero (S := S512x128) zero2, List.forall_mem_cons]
  refine ⟨?_, ?_, ?_, ?_, fun x hx => absurd hx List.not_mem_nil⟩
  · intro x
    obtain ⟨a, b, r, q, rfl⟩ := ex4 (d0 := 1) (d1 := 1) (d2 := 512) (d3 := 128) x
    refine Eq.trans (b := keyOf x1 x3 x4 3 r.1 q.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      by_cases h : q.1 < 64
      · rw [dif_pos h]
        refine key_lane _ _ _ _ _ _ _ ?_ h ?_ _ _ _ _ _ (at2_eq _ _ _ _ _ ?_ ?_) (tab_eq _ _ _ _ _ ?_ ?_) (fun _ => at2_eq _ _ _ _ _ ?_ ?_) (fun _ => at2_eq _ _ _ _ _ ?_ ?_) (tab_eq _ _ _ _ _ ?_ ?_) <;> (try dsimp only) <;> omega
      · rw [dif_neg h]
        exact key_pad _ _ _ _ _ q h
    · show _ = keyOf x1 x3 x4 (3 + 1 * b.1) (0 + 1 * r.1) (0 + 1 * q.1)
      congr 1 <;> omega
  · intro x
    obtain ⟨a, b, r, q, rfl⟩ := ex4 (d0 := 1) (d1 := 1) (d2 := 512) (d3 := 128) x
    refine Eq.trans (b := keyOf x1 x3 x4 2 r.1 q.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      by_cases h : q.1 < 64
      · rw [dif_pos h]
        refine key_lane _ _ _ _ _ _ _ ?_ h ?_ _ _ _ _ _ (at2_eq _ _ _ _ _ ?_ ?_) (tab_eq _ _ _ _ _ ?_ ?_) (fun _ => at2_eq _ _ _ _ _ ?_ ?_) (fun _ => at2_eq _ _ _ _ _ ?_ ?_) (tab_eq _ _ _ _ _ ?_ ?_) <;> (try dsimp only) <;> omega
      · rw [dif_neg h]
        exact key_pad _ _ _ _ _ q h
    · show _ = keyOf x1 x3 x4 (2 + 1 * b.1) (0 + 1 * r.1) (0 + 1 * q.1)
      congr 1 <;> omega
  · intro x
    obtain ⟨a, b, r, q, rfl⟩ := ex4 (d0 := 1) (d1 := 1) (d2 := 512) (d3 := 128) x
    refine Eq.trans (b := keyOf x1 x3 x4 1 r.1 q.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      by_cases h : q.1 < 64
      · rw [dif_pos h]
        refine key_lane _ _ _ _ _ _ _ ?_ h ?_ _ _ _ _ _ (at2_eq _ _ _ _ _ ?_ ?_) (tab_eq _ _ _ _ _ ?_ ?_) (fun _ => at2_eq _ _ _ _ _ ?_ ?_) (fun _ => at2_eq _ _ _ _ _ ?_ ?_) (tab_eq _ _ _ _ _ ?_ ?_) <;> (try dsimp only) <;> omega
      · rw [dif_neg h]
        exact key_pad _ _ _ _ _ q h
    · show _ = keyOf x1 x3 x4 (1 + 1 * b.1) (0 + 1 * r.1) (0 + 1 * q.1)
      congr 1 <;> omega
  · intro x
    obtain ⟨a, b, r, q, rfl⟩ := ex4 (d0 := 1) (d1 := 1) (d2 := 512) (d3 := 128) x
    refine Eq.trans (b := keyOf x1 x3 x4 0 r.1 q.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      by_cases h : q.1 < 64
      · rw [dif_pos h]
        refine key_lane _ _ _ _ _ _ _ ?_ h ?_ _ _ _ _ _ (at2_eq _ _ _ _ _ ?_ ?_) (tab_eq _ _ _ _ _ ?_ ?_) (fun _ => at2_eq _ _ _ _ _ ?_ ?_) (fun _ => at2_eq _ _ _ _ _ ?_ ?_) (tab_eq _ _ _ _ _ ?_ ?_) <;> (try dsimp only) <;> omega
      · rw [dif_neg h]
        exact key_pad _ _ _ _ _ q h
    · show _ = keyOf x1 x3 x4 (0 + 1 * b.1) (0 + 1 * r.1) (0 + 1 * q.1)
      congr 1 <;> omega

set_option maxRecDepth 16384 in
theorem out9_apply (y : S1x4x512x128.Idx) :
    out0_A_9 c i arg2 harg2 arg3 harg3 arg4 harg4 arg5 harg5 arg6 harg6 arg7 harg7 arg8 harg8 arg9 harg9 arg10 harg10 arg11 harg11 arg12 harg12 x0 x1 x2 x3 x4 y = keyOf x2 x3 x4 (y 1).1 (y 2).1 (y 3).1 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4)]
  refine View.canon_apply_of_pieces (fun y : S1x4x512x128.Idx => keyOf x2 x3 x4 (y 1).1 (y 2).1 (y 3).1) _ ?_ y (cover0_A_9 c i arg2 harg2 arg3 harg3 arg4 harg4 arg5 harg5 arg6 harg6 arg7 harg7 arg8 harg8 arg9 harg9 arg10 harg10 arg11 harg11 arg12 harg12 x0 x1 x2 x3 x4 y)
  unfold kernelRun0_A
  dsimp only
  sl_unfold_words
  simp only [View.readAt_eq_ld, harg2.read_unread, harg3.read_unread, harg4.read_unread, harg5.read_unread, harg6.read_unread, View.ld_unit_zero (S := S512x512) zero2, View.ld_unit_zero (S := S512x128) zero2, List.forall_mem_cons]
  refine ⟨?_, ?_, ?_, ?_, fun x hx => absurd hx List.not_mem_nil⟩
  · intro x
    obtain ⟨a, b, r, q, rfl⟩ := ex4 (d0 := 1) (d1 := 1) (d2 := 512) (d3 := 128) x
    refine Eq.trans (b := keyOf x2 x3 x4 3 r.1 q.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      by_cases h : q.1 < 64
      · rw [dif_pos h]
        refine key_lane _ _ _ _ _ _ _ ?_ h ?_ _ _ _ _ _ (at2_eq _ _ _ _ _ ?_ ?_) (tab_eq _ _ _ _ _ ?_ ?_) (fun _ => at2_eq _ _ _ _ _ ?_ ?_) (fun _ => at2_eq _ _ _ _ _ ?_ ?_) (tab_eq _ _ _ _ _ ?_ ?_) <;> (try dsimp only) <;> omega
      · rw [dif_neg h]
        exact key_pad _ _ _ _ _ q h
    · show _ = keyOf x2 x3 x4 (3 + 1 * b.1) (0 + 1 * r.1) (0 + 1 * q.1)
      congr 1 <;> omega
  · intro x
    obtain ⟨a, b, r, q, rfl⟩ := ex4 (d0 := 1) (d1 := 1) (d2 := 512) (d3 := 128) x
    refine Eq.trans (b := keyOf x2 x3 x4 2 r.1 q.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      by_cases h : q.1 < 64
      · rw [dif_pos h]
        refine key_lane _ _ _ _ _ _ _ ?_ h ?_ _ _ _ _ _ (at2_eq _ _ _ _ _ ?_ ?_) (tab_eq _ _ _ _ _ ?_ ?_) (fun _ => at2_eq _ _ _ _ _ ?_ ?_) (fun _ => at2_eq _ _ _ _ _ ?_ ?_) (tab_eq _ _ _ _ _ ?_ ?_) <;> (try dsimp only) <;> omega
      · rw [dif_neg h]
        exact key_pad _ _ _ _ _ q h
    · show _ = keyOf x2 x3 x4 (2 + 1 * b.1) (0 + 1 * r.1) (0 + 1 * q.1)
      congr 1 <;> omega
  · intro x
    obtain ⟨a, b, r, q, rfl⟩ := ex4 (d0 := 1) (d1 := 1) (d2 := 512) (d3 := 128) x
    refine Eq.trans (b := keyOf x2 x3 x4 1 r.1 q.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      by_cases h : q.1 < 64
      · rw [dif_pos h]
        refine key_lane _ _ _ _ _ _ _ ?_ h ?_ _ _ _ _ _ (at2_eq _ _ _ _ _ ?_ ?_) (tab_eq _ _ _ _ _ ?_ ?_) (fun _ => at2_eq _ _ _ _ _ ?_ ?_) (fun _ => at2_eq _ _ _ _ _ ?_ ?_) (tab_eq _ _ _ _ _ ?_ ?_) <;> (try dsimp only) <;> omega
      · rw [dif_neg h]
        exact key_pad _ _ _ _ _ q h
    · show _ = keyOf x2 x3 x4 (1 + 1 * b.1) (0 + 1 * r.1) (0 + 1 * q.1)
      congr 1 <;> omega
  · intro x
    obtain ⟨a, b, r, q, rfl⟩ := ex4 (d0 := 1) (d1 := 1) (d2 := 512) (d3 := 128) x
    refine Eq.trans (b := keyOf x2 x3 x4 0 r.1 q.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      by_cases h : q.1 < 64
      · rw [dif_pos h]
        refine key_lane _ _ _ _ _ _ _ ?_ h ?_ _ _ _ _ _ (at2_eq _ _ _ _ _ ?_ ?_) (tab_eq _ _ _ _ _ ?_ ?_) (fun _ => at2_eq _ _ _ _ _ ?_ ?_) (fun _ => at2_eq _ _ _ _ _ ?_ ?_) (tab_eq _ _ _ _ _ ?_ ?_) <;> (try dsimp only) <;> omega
      · rw [dif_neg h]
        exact key_pad _ _ _ _ _ q h
    · show _ = keyOf x2 x3 x4 (0 + 1 * b.1) (0 + 1 * r.1) (0 + 1 * q.1)
      congr 1 <;> omega

set_option maxRecDepth 16384 in
theorem out8_apply (y : S1x4x80x512.Idx) :
    out0_A_8 c i arg2 harg2 arg3 harg3 arg4 harg4 arg5 harg5 arg6 harg6 arg7 harg7 arg8 harg8 arg9 harg9 arg10 harg10 arg11 harg11 arg12 harg12 x0 x1 x2 x3 x4 y = valOf x1 (y 1).1 (y 2).1 (y 3).1 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 x0 x1 x2 x3 x4)]
  refine View.canon_apply_of_pieces (fun y : S1x4x80x512.Idx => valOf x1 (y 1).1 (y 2).1 (y 3).1) _ ?_ y (cover0_A_8 c i arg2 harg2 arg3 harg3 arg4 harg4 arg5 harg5 arg6 harg6 arg7 harg7 arg8 harg8 arg9 harg9 arg10 harg10 arg11 harg11 arg12 harg12 x0 x1 x2 x3 x4 y)
  unfold kernelRun0_A
  dsimp only
  sl_unfold_words
  simp only [View.readAt_eq_ld, harg2.read_unread, harg3.read_unread, harg4.read_unread, harg5.read_unread, harg6.read_unread, View.ld_unit_zero (S := S512x512) zero2, View.ld_unit_zero (S := S512x128) zero2, List.forall_mem_cons]
  refine ⟨?_, ?_, ?_, ?_, ?_, ?_, ?_, ?_, fun x hx => absurd hx List.not_mem_nil⟩
  · intro x
    obtain ⟨a, b, v, r, rfl⟩ := ex4 (d0 := 1) (d1 := 1) (d2 := 16) (d3 := 512) x
    refine Eq.trans (b := valOf x1 3 (64 + v.1) r.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      exact val_pad _ _ _ v
    · show _ = valOf x1 (3 + 1 * b.1) (64 + 1 * v.1) (0 + 1 * r.1)
      congr 1 <;> omega
  · intro x
    obtain ⟨a, b, v, r, rfl⟩ := ex4 (d0 := 1) (d1 := 1) (d2 := 64) (d3 := 512) x
    refine Eq.trans (b := valOf x1 3 v.1 r.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      unfold valOf
      rw [if_pos v.2]
      refine at2_eq _ _ _ _ _ ?_ ?_ <;> dsimp only <;> omega
    · show _ = valOf x1 (3 + 1 * b.1) (0 + 1 * v.1) (0 + 1 * r.1)
      congr 1 <;> omega
  · intro x
    obtain ⟨a, b, v, r, rfl⟩ := ex4 (d0 := 1) (d1 := 1) (d2 := 16) (d3 := 512) x
    refine Eq.trans (b := valOf x1 2 (64 + v.1) r.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      exact val_pad _ _ _ v
    · show _ = valOf x1 (2 + 1 * b.1) (64 + 1 * v.1) (0 + 1 * r.1)
      congr 1 <;> omega
  · intro x
    obtain ⟨a, b, v, r, rfl⟩ := ex4 (d0 := 1) (d1 := 1) (d2 := 64) (d3 := 512) x
    refine Eq.trans (b := valOf x1 2 v.1 r.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      unfold valOf
      rw [if_pos v.2]
      refine at2_eq _ _ _ _ _ ?_ ?_ <;> dsimp only <;> omega
    · show _ = valOf x1 (2 + 1 * b.1) (0 + 1 * v.1) (0 + 1 * r.1)
      congr 1 <;> omega
  · intro x
    obtain ⟨a, b, v, r, rfl⟩ := ex4 (d0 := 1) (d1 := 1) (d2 := 16) (d3 := 512) x
    refine Eq.trans (b := valOf x1 1 (64 + v.1) r.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      exact val_pad _ _ _ v
    · show _ = valOf x1 (1 + 1 * b.1) (64 + 1 * v.1) (0 + 1 * r.1)
      congr 1 <;> omega
  · intro x
    obtain ⟨a, b, v, r, rfl⟩ := ex4 (d0 := 1) (d1 := 1) (d2 := 64) (d3 := 512) x
    refine Eq.trans (b := valOf x1 1 v.1 r.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      unfold valOf
      rw [if_pos v.2]
      refine at2_eq _ _ _ _ _ ?_ ?_ <;> dsimp only <;> omega
    · show _ = valOf x1 (1 + 1 * b.1) (0 + 1 * v.1) (0 + 1 * r.1)
      congr 1 <;> omega
  · intro x
    obtain ⟨a, b, v, r, rfl⟩ := ex4 (d0 := 1) (d1 := 1) (d2 := 16) (d3 := 512) x
    refine Eq.trans (b := valOf x1 0 (64 + v.1) r.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      exact val_pad _ _ _ v
    · show _ = valOf x1 (0 + 1 * b.1) (64 + 1 * v.1) (0 + 1 * r.1)
      congr 1 <;> omega
  · intro x
    obtain ⟨a, b, v, r, rfl⟩ := ex4 (d0 := 1) (d1 := 1) (d2 := 64) (d3 := 512) x
    refine Eq.trans (b := valOf x1 0 v.1 r.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      unfold valOf
      rw [if_pos v.2]
      refine at2_eq _ _ _ _ _ ?_ ?_ <;> dsimp only <;> omega
    · show _ = valOf x1 (0 + 1 * b.1) (0 + 1 * v.1) (0 + 1 * r.1)
      congr 1 <;> omega

set_option maxRecDepth 16384 in
theorem out10_apply (y : S1x4x80x512.Idx) :
    out0_A_10 c i arg2 harg2 arg3 harg3 arg4 harg4 arg5 harg5 arg6 harg6 arg7 harg7 arg8 harg8 arg9 harg9 arg10 harg10 arg11 harg11 arg12 harg12 x0 x1 x2 x3 x4 y = valOf x2 (y 1).1 (y 2).1 (y 3).1 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 x0 x1 x2 x3 x4)]
  refine View.canon_apply_of_pieces (fun y : S1x4x80x512.Idx => valOf x2 (y 1).1 (y 2).1 (y 3).1) _ ?_ y (cover0_A_10 c i arg2 harg2 arg3 harg3 arg4 harg4 arg5 harg5 arg6 harg6 arg7 harg7 arg8 harg8 arg9 harg9 arg10 harg10 arg11 harg11 arg12 harg12 x0 x1 x2 x3 x4 y)
  unfold kernelRun0_A
  dsimp only
  sl_unfold_words
  simp only [View.readAt_eq_ld, harg2.read_unread, harg3.read_unread, harg4.read_unread, harg5.read_unread, harg6.read_unread, View.ld_unit_zero (S := S512x512) zero2, View.ld_unit_zero (S := S512x128) zero2, List.forall_mem_cons]
  refine ⟨?_, ?_, ?_, ?_, ?_, ?_, ?_, ?_, fun x hx => absurd hx List.not_mem_nil⟩
  · intro x
    obtain ⟨a, b, v, r, rfl⟩ := ex4 (d0 := 1) (d1 := 1) (d2 := 16) (d3 := 512) x
    refine Eq.trans (b := valOf x2 3 (64 + v.1) r.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      exact val_pad _ _ _ v
    · show _ = valOf x2 (3 + 1 * b.1) (64 + 1 * v.1) (0 + 1 * r.1)
      congr 1 <;> omega
  · intro x
    obtain ⟨a, b, v, r, rfl⟩ := ex4 (d0 := 1) (d1 := 1) (d2 := 64) (d3 := 512) x
    refine Eq.trans (b := valOf x2 3 v.1 r.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      unfold valOf
      rw [if_pos v.2]
      refine at2_eq _ _ _ _ _ ?_ ?_ <;> dsimp only <;> omega
    · show _ = valOf x2 (3 + 1 * b.1) (0 + 1 * v.1) (0 + 1 * r.1)
      congr 1 <;> omega
  · intro x
    obtain ⟨a, b, v, r, rfl⟩ := ex4 (d0 := 1) (d1 := 1) (d2 := 16) (d3 := 512) x
    refine Eq.trans (b := valOf x2 2 (64 + v.1) r.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      exact val_pad _ _ _ v
    · show _ = valOf x2 (2 + 1 * b.1) (64 + 1 * v.1) (0 + 1 * r.1)
      congr 1 <;> omega
  · intro x
    obtain ⟨a, b, v, r, rfl⟩ := ex4 (d0 := 1) (d1 := 1) (d2 := 64) (d3 := 512) x
    refine Eq.trans (b := valOf x2 2 v.1 r.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      unfold valOf
      rw [if_pos v.2]
      refine at2_eq _ _ _ _ _ ?_ ?_ <;> dsimp only <;> omega
    · show _ = valOf x2 (2 + 1 * b.1) (0 + 1 * v.1) (0 + 1 * r.1)
      congr 1 <;> omega
  · intro x
    obtain ⟨a, b, v, r, rfl⟩ := ex4 (d0 := 1) (d1 := 1) (d2 := 16) (d3 := 512) x
    refine Eq.trans (b := valOf x2 1 (64 + v.1) r.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      exact val_pad _ _ _ v
    · show _ = valOf x2 (1 + 1 * b.1) (64 + 1 * v.1) (0 + 1 * r.1)
      congr 1 <;> omega
  · intro x
    obtain ⟨a, b, v, r, rfl⟩ := ex4 (d0 := 1) (d1 := 1) (d2 := 64) (d3 := 512) x
    refine Eq.trans (b := valOf x2 1 v.1 r.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      unfold valOf
      rw [if_pos v.2]
      refine at2_eq _ _ _ _ _ ?_ ?_ <;> dsimp only <;> omega
    · show _ = valOf x2 (1 + 1 * b.1) (0 + 1 * v.1) (0 + 1 * r.1)
      congr 1 <;> omega
  · intro x
    obtain ⟨a, b, v, r, rfl⟩ := ex4 (d0 := 1) (d1 := 1) (d2 := 16) (d3 := 512) x
    refine Eq.trans (b := valOf x2 0 (64 + v.1) r.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      exact val_pad _ _ _ v
    · show _ = valOf x2 (0 + 1 * b.1) (64 + 1 * v.1) (0 + 1 * r.1)
      congr 1 <;> omega
  · intro x
    obtain ⟨a, b, v, r, rfl⟩ := ex4 (d0 := 1) (d1 := 1) (d2 := 64) (d3 := 512) x
    refine Eq.trans (b := valOf x2 0 v.1 r.1) ?_ ?_
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      unfold valOf
      rw [if_pos v.2]
      refine at2_eq _ _ _ _ _ ?_ ?_ <;> dsimp only <;> omega
    · show _ = valOf x2 (0 + 1 * b.1) (0 + 1 * v.1) (0 + 1 * r.1)
      congr 1 <;> omega

end Block

end Cert.KvPrep

end
-- ==== Proof.Layer.KeyPrep.lean ====
module

public import proofs.«01_k».proof.Proof.Layer.Compress

@[expose] public section

noncomputable section

namespace Cert.Layer

open Idealize.ShloMosaic Idealize.ShloMosaic.TcCoe Idealize.SL.Sem

/-! ### The keys and values the attention reads, entry by entry. -/

/-- Entry `n` of a step's projection. -/
def entryAt (p : (⟨3, ![2, 8192, 8752]⟩ : Shape).Idx → EReal) (β : Fin 2) (T : Fin 8192) (n : ℕ) : EReal := p (ix3 β T ⟨n % 8752, by omega⟩)

/-- A key of slot `s` and head `g`, turned by the step's angles, then a one and zeros. -/
def keyAt (p : (⟨3, ![2, 8192, 8752]⟩ : Shape).Idx → EReal) (co si : (⟨3, ![2, 8192, 32]⟩ : Shape).Idx → EReal) (s : ℕ) (β : Fin 2) (g : Fin 4) (T : Fin 8192) (q : Fin 128) : EReal :=
  if h : q.1 < 64 then rotated (fun e => entryAt p β T (3072 + 256 * s + 64 * g.1 + e.1)) (fun i => co (ix3 β T i)) (fun i => si (ix3 β T i)) ⟨q.1, h⟩
  else if q.1 = 64 then 1 else 0

/-- A value of slot `s` and head `g`, one column per step, then a row of ones and rows of zeros. -/
def valAt (p : (⟨3, ![2, 8192, 8752]⟩ : Shape).Idx → EReal) (s : ℕ) (β : Fin 2) (g : Fin 4) (v : Fin 80) (T : Fin 8192) : EReal :=
  if v.1 < 64 then entryAt p β T (3072 + 256 * s + 64 * g.1 + v.1) else if v.1 = 64 then 1 else 0

/-- The rotation written with each entry's partner thirty-two places away. -/
theorem partner_eq (f : Fin 64 → EReal) (c s : Fin 32 → EReal) (e : Fin 64) :
    f e * c ⟨e.1 % 32, by omega⟩ + f ⟨(e.1 + 32) % 64, by omega⟩ * (if e.1 < 32 then -s ⟨e.1 % 32, by omega⟩ else s ⟨e.1 % 32, by omega⟩) = rotated f c s e := by
  unfold rotated
  by_cases h : e.1 < 32
  · rw [dif_pos h, if_pos h, mul_neg, sub_eq_add_neg]
    have h1 : (⟨(e.1 + 32) % 64, by omega⟩ : Fin 64) = ⟨32 + e.1, by omega⟩ := Fin.ext (by show (e.1 + 32) % 64 = 32 + e.1; omega)
    have h2 : (⟨e.1 % 32, by omega⟩ : Fin 32) = ⟨e.1, h⟩ := Fin.ext (by show e.1 % 32 = e.1; omega)
    rw [h1, h2]
  · rw [dif_neg h, if_neg h]
    have h1 : (⟨(e.1 + 32) % 64, by omega⟩ : Fin 64) = ⟨e.1 - 32, by omega⟩ := Fin.ext (by show (e.1 + 32) % 64 = e.1 - 32; omega)
    have h2 : (⟨e.1 % 32, by omega⟩ : Fin 32) = ⟨e.1 - 32, by omega⟩ := Fin.ext (by show e.1 % 32 = e.1 - 32; omega)
    rw [h1, h2]

end Cert.Layer

end
-- ==== Proof.KvPrep.Array.lean ====
module

public import proofs.«01_k».proof.Proof.KvPrep.Block
public import proofs.«01_k».proof.Proof.Layer.KeyPrep

@[expose] public section

noncomputable section

namespace Cert.KvPrep

open Idealize.ShloMosaic Idealize.ShloMosaic.TcCoe Idealize.SL.Sem
open Cert.KvPrepIdeal Cert.KvPrepIdeal.Gen Cert.KvPrepIdeal.Value Cert.Layer

variable (m : (ℓ : Loc nD τ sig) → Buf (Elt Ideal) ℓ)

abbrev A0 (c : Dev nD) : (⟨S2x8192x8752, .f32⟩ : BufTy).Contents (Elt Ideal) := m ((c : Thread nD τ).loc main_arg0)
abbrev A1 (c : Dev nD) : (⟨S2x8192x32, .f32⟩ : BufTy).Contents (Elt Ideal) := m ((c : Thread nD τ).loc main_arg1)
abbrev A2 (c : Dev nD) : (⟨S2x8192x32, .f32⟩ : BufTy).Contents (Elt Ideal) := m ((c : Thread nD τ).loc main_arg2)

/-- The table of cosines, one lane per entry. -/
def cosines (z : Vec Ideal S2x8192x32 .f32) : Vec Ideal S16384x128 .f32 :=
  shapeCast S16384x128 (concatenate S2x8192x128 2 [⟨S2x8192x32, z⟩, ⟨S2x8192x32, z⟩, ⟨S2x8192x32, z⟩, ⟨S2x8192x32, z⟩] concatenates_S2x8192x32_S2x8192x32_S2x8192x32_S2x8192x32_S2x8192x128_d2) shapeCasts_S2x8192x128_S16384x128

/-- The table of sines, one lane per entry, with the sign the first half takes. -/
def sines (z : Vec Ideal S2x8192x32 .f32) : Vec Ideal S16384x128 .f32 :=
  shapeCast S16384x128 (concatenate S2x8192x128 2 [⟨S2x8192x32, Host.negf (F := Ideal) (φ := .f32) z⟩, ⟨S2x8192x32, z⟩, ⟨S2x8192x32, Host.negf (F := Ideal) (φ := .f32) z⟩, ⟨S2x8192x32, z⟩] concatenates_S2x8192x32_S2x8192x32_S2x8192x32_S2x8192x32_S2x8192x128_d2) shapeCasts_S2x8192x128_S16384x128

theorem V_v1 (c : Dev nD) : (V m c main_v1 : (⟨S16384x128, .f32⟩ : BufTy).Contents (Elt Ideal)) = cosines (A1 m c) := by
  show StableHlo.after (List.flatten [hostOps0, hostOps0_1, hostOps0_2]) _ (Proc.devRef .tc main_v1) = _
  simp only [hostOps0, hostOps0_1, hostOps0_2, List.flatten_cons, List.flatten_nil, List.append_nil, List.cons_append, List.nil_append]
  after_results
  rfl

theorem V_v5 (c : Dev nD) : (V m c main_v5 : (⟨S16384x128, .f32⟩ : BufTy).Contents (Elt Ideal)) = sines (A2 m c) := by
  show StableHlo.after (List.flatten [hostOps0, hostOps0_1, hostOps0_2]) _ (Proc.devRef .tc main_v5) = _
  simp only [hostOps0, hostOps0_1, hostOps0_2, List.flatten_cons, List.flatten_nil, List.append_nil, List.cons_append, List.nil_append]
  after_results
  rfl

/-- The packed projection's columns from 7168 on are the plain projection's from 3072 on; the other pieces do not matter here. -/
theorem V_v16 (c : Dev nD) : ∃ x0 x1 x2 x4, (V m c main_v16 : (⟨S16384x9216, .bf16⟩ : BufTy).Contents (Elt Ideal)) = shapeCast S16384x9216 (truncf (F := Ideal) .bf16 (concatenate S2x8192x9216 2
    [⟨S2x8192x3072, x0⟩, ⟨S2x8192x1024, x1⟩, ⟨S2x8192x3072, x2⟩, ⟨S2x8192x1536, extractStridedSlice S2x8192x1536 ![0, 0, 3072] (A0 m c) slices_S2x8192x8752_S2x8192x1536_0_0_3072⟩, ⟨S2x8192x512, x4⟩]
    concatenates_S2x8192x3072_S2x8192x1024_S2x8192x3072_S2x8192x1536_S2x8192x512_S2x8192x9216_d2) bitsLt_bf16_f32) shapeCasts_S2x8192x9216_S16384x9216 := by
  show ∃ x0 x1 x2 x4, StableHlo.after (List.flatten [hostOps0, hostOps0_1, hostOps0_2]) _ (Proc.devRef .tc main_v16) = _
  simp only [hostOps0, hostOps0_1, hostOps0_2, List.flatten_cons, List.flatten_nil, List.append_nil, List.cons_append, List.nil_append]
  after_results
  refine ⟨_, _, _, _, congrArg (fun z : (⟨S2x8192x1536, .f32⟩ : BufTy).Contents (Elt Ideal) => shapeCast S16384x9216 (truncf (F := Ideal) .bf16 (concatenate S2x8192x9216 2
    [⟨S2x8192x3072, _⟩, ⟨S2x8192x1024, _⟩, ⟨S2x8192x3072, _⟩, ⟨S2x8192x1536, z⟩, ⟨S2x8192x512, _⟩]
    concatenates_S2x8192x3072_S2x8192x1024_S2x8192x3072_S2x8192x1536_S2x8192x512_S2x8192x9216_d2) bitsLt_bf16_f32) shapeCasts_S2x8192x9216_S16384x9216) ?_⟩
  refine Eq.trans (b := StableHlo.after (List.flatten [hostOps0, hostOps0_1, hostOps0_2]) (fun b => m (c, b)) (Proc.devRef .tc main_v13)) ?_ ?_
  · simp only [hostOps0, hostOps0_1, hostOps0_2, List.flatten_cons, List.flatten_nil, List.append_nil, List.cons_append, List.nil_append]
    after_results
    rfl
  · simp only [hostOps0, hostOps0_1, hostOps0_2, List.flatten_cons, List.flatten_nil, List.append_nil, List.cons_append, List.nil_append]
    after_results

set_option maxRecDepth 16384 in
theorem cosines_apply (z : Vec Ideal S2x8192x32 .f32) (R : Fin 16384) (j : Fin 128) :
    cosines z (ix2 R j) = z (ix3 ⟨R.1 / 8192, by omega⟩ ⟨R.1 % 8192, by omega⟩ ⟨j.1 % 32, by omega⟩) := by
  pointwise [cosines]
  split_ifs with h0 h1 h2
  all_goals
    refine congrArg (fun k => z (ix3 _ _ k)) (Fin.ext ?_)
    dsimp only
    omega

set_option maxRecDepth 16384 in
theorem sines_apply (z : Vec Ideal S2x8192x32 .f32) (R : Fin 16384) (j : Fin 128) :
    sines z (ix2 R j) = if j.1 % 64 < 32 then -z (ix3 ⟨R.1 / 8192, by omega⟩ ⟨R.1 % 8192, by omega⟩ ⟨j.1 % 32, by omega⟩) else z (ix3 ⟨R.1 / 8192, by omega⟩ ⟨R.1 % 8192, by omega⟩ ⟨j.1 % 32, by omega⟩) := by
  pointwise [sines]
  by_cases hs : j.1 % 64 < 32
  · rw [if_pos hs]
    split_ifs with h0 h1 h2
    all_goals first
      | (exfalso; omega)
      | (refine congrArg (fun k => -z (ix3 _ _ k)) (Fin.ext ?_)
         dsimp only
         omega)
  · rw [if_neg hs]
    split_ifs with h0 h1 h2
    all_goals first
      | (exfalso; omega)
      | (refine congrArg (fun k => z (ix3 _ _ k)) (Fin.ext ?_)
         dsimp only
         omega)

set_option maxRecDepth 16384 in
/-- The packed projection at a row and one of the columns the call reads. -/
theorem v16_apply (c : Dev nD) (R : Fin 16384) (D : Fin 9216) (n : ℕ) (hD : D.1 = 7168 + n) (hn : n < 1536) :
    (V m c main_v16 : (⟨S16384x9216, .bf16⟩ : BufTy).Contents (Elt Ideal)) (ix2 R D)
      = entryAt (A0 m c) ⟨R.1 / 8192, by omega⟩ ⟨R.1 % 8192, by omega⟩ (3072 + n) := by
  obtain ⟨x0, x1, x2, x4, h⟩ := V_v16 m c
  refine (congrFun h (ix2 R D)).trans ?_
  unfold entryAt
  pointwise
  split_ifs with h0 h1 h2 h3
  all_goals first
    | (exfalso; omega)
    | (refine congrArg (fun k => A0 m c (ix3 _ _ k)) (Fin.ext ?_)
       dsimp only
       omega)

theorem lt_points (t : Fin cfg0.N) : t.1 < 32 := lt_of_lt_of_eq t.2 (show cfg0.N = 32 from N_0)

theorem index0 : ∀ t : Fin cfg0.N, win0_0.index t (0 : Fin 2) = t.val ∧ win0_0.index t (1 : Fin 2) = 14 :=
  (by decide +kernel : ∀ t : Fin grid0.N, _)
theorem index1 : ∀ t : Fin cfg0.N, win0_1.index t (0 : Fin 2) = t.val ∧ win0_1.index t (1 : Fin 2) = 15 :=
  (by decide +kernel : ∀ t : Fin grid0.N, _)
theorem index2 : ∀ t : Fin cfg0.N, win0_2.index t (0 : Fin 2) = t.val ∧ win0_2.index t (1 : Fin 2) = 16 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 4) = t.val / 16 ∧ win0_5.index t (1 : Fin 4) = 0 ∧ win0_5.index t (2 : Fin 4) = t.val % 16 ∧ win0_5.index t (3 : Fin 4) = 0 :=
  (by decide +kernel : ∀ t : Fin grid0.N, _)
theorem flush5 : ∀ t : Fin cfg0.N, (cfg0.win 5).flush t = true := (by decide +kernel : ∀ t : Fin grid0.N, _)
theorem index6 : ∀ t : Fin cfg0.N, win0_6.index t (0 : Fin 4) = t.val / 16 ∧ win0_6.index t (1 : Fin 4) = 0 ∧ win0_6.index t (2 : Fin 4) = t.val % 16 ∧ win0_6.index t (3 : Fin 4) = 0 :=
  (by decide +kernel : ∀ t : Fin grid0.N, _)
theorem flush6 : ∀ t : Fin cfg0.N, (cfg0.win 6).flush t = true := (by decide +kernel : ∀ t : Fin grid0.N, _)
theorem index7 : ∀ t : Fin cfg0.N, win0_7.index t (0 : Fin 4) = t.val / 16 ∧ win0_7.index t (1 : Fin 4) = 0 ∧ win0_7.index t (2 : Fin 4) = t.val % 16 ∧ win0_7.index t (3 : Fin 4) = 0 :=
  (by decide +kernel : ∀ t : Fin grid0.N, _)
theorem flush7 : ∀ t : Fin cfg0.N, (cfg0.win 7).flush t = true := (by decide +kernel : ∀ t : Fin grid0.N, _)
theorem index8 : ∀ t : Fin cfg0.N, win0_8.index t (0 : Fin 4) = t.val / 16 ∧ win0_8.index t (1 : Fin 4) = 0 ∧ win0_8.index t (2 : Fin 4) = 0 ∧ win0_8.index t (3 : Fin 4) = t.val % 16 :=
  (by decide +kernel : ∀ t : Fin grid0.N, _)
theorem flush8 : ∀ t : Fin cfg0.N, (cfg0.win 8).flush t = true := (by decide +kernel : ∀ t : Fin grid0.N, _)
theorem index9 : ∀ t : Fin cfg0.N, win0_9.index t (0 : Fin 4) = t.val / 16 ∧ win0_9.index t (1 : Fin 4) = 0 ∧ win0_9.index t (2 : Fin 4) = t.val % 16 ∧ win0_9.index t (3 : Fin 4) = 0 :=
  (by decide +kernel : ∀ t : Fin grid0.N, _)
theorem flush9 : ∀ t : Fin cfg0.N, (cfg0.win 9).flush t = true := (by decide +kernel : ∀ t : Fin grid0.N, _)
theorem index10 : ∀ t : Fin cfg0.N, win0_10.index t (0 : Fin 4) = t.val / 16 ∧ win0_10.index t (1 : Fin 4) = 0 ∧ win0_10.index t (2 : Fin 4) = 0 ∧ win0_10.index t (3 : Fin 4) = t.val % 16 :=
  (by decide +kernel : ∀ t : Fin grid0.N, _)
theorem flush10 : ∀ t : Fin cfg0.N, (cfg0.win 10).flush t = true := (by decide +kernel : ∀ t : Fin grid0.N, _)

/-- Window 0's block at point `t`: rows of the packed projection. -/
theorem x0_apply (c : Dev nD) (t : Fin cfg0.N) (r q : ℕ) (β : Fin 2) (T : Fin 8192) (hR : β.1 * 8192 + T.1 = 512 * t.1 + r) (hr : r < 512) (hq : q < 512) :
    at2 (iblk m c 0 t) r q = entryAt (A0 m c) β T (3072 + 512 * 0 + q) := by
  have hN := lt_points t
  have hi := index0 t
  unfold at2
  show (V m c main_v16 : (⟨S16384x9216, .bf16⟩ : BufTy).Contents (Elt Ideal)) (((cfg0.win 0).blk t).view.emb (ix2 ⟨r % 512, by omega⟩ ⟨q % 512, by omega⟩)) = _
  rw [show ((cfg0.win 0).blk t).view.emb (ix2 ⟨r % 512, by omega⟩ ⟨q % 512, by omega⟩) = (ix2 ⟨512 * t.1 + r, by omega⟩ ⟨7168 + (512 * 0 + q), by omega⟩ : S16384x9216.Idx) from by
    funext a
    apply Fin.ext
    match a with
    | ⟨0, _⟩ => show win0_0.index t 0 * 512 + 1 * (r % 512) = 512 * t.1 + r; rw [hi.1]; omega
    | ⟨1, _⟩ => show win0_0.index t 1 * 512 + 1 * (q % 512) = 7168 + (512 * 0 + q); rw [hi.2]; omega]
  refine (v16_apply m c _ _ (512 * 0 + q) rfl (by omega)).trans ?_
  have hb : (512 * t.1 + r) / 8192 < 2 := by clear hR; omega
  have hT' : (512 * t.1 + r) % 8192 < 8192 := by clear hR; omega
  have hβ : (⟨(512 * t.1 + r) / 8192, hb⟩ : Fin 2) = β := Fin.ext (by show (512 * t.1 + r) / 8192 = β.1; omega)
  have hT : (⟨(512 * t.1 + r) % 8192, hT'⟩ : Fin 8192) = T := Fin.ext (by show (512 * t.1 + r) % 8192 = T.1; omega)
  have hn : 3072 + (512 * 0 + q) = 3072 + 512 * 0 + q := by omega
  subst hβ hT
  rw [← hn]

/-- Window 1's block at point `t`: rows of the packed projection. -/
theorem x1_apply (c : Dev nD) (t : Fin cfg0.N) (r q : ℕ) (β : Fin 2) (T : Fin 8192) (hR : β.1 * 8192 + T.1 = 512 * t.1 + r) (hr : r < 512) (hq : q < 512) :
    at2 (iblk m c 1 t) r q = entryAt (A0 m c) β T (3072 + 512 * 1 + q) := by
  have hN := lt_points t
  have hi := index1 t
  unfold at2
  show (V m c main_v16 : (⟨S16384x9216, .bf16⟩ : BufTy).Contents (Elt Ideal)) (((cfg0.win 1).blk t).view.emb (ix2 ⟨r % 512, by omega⟩ ⟨q % 512, by omega⟩)) = _
  rw [show ((cfg0.win 1).blk t).view.emb (ix2 ⟨r % 512, by omega⟩ ⟨q % 512, by omega⟩) = (ix2 ⟨512 * t.1 + r, by omega⟩ ⟨7168 + (512 * 1 + q), by omega⟩ : S16384x9216.Idx) from by
    funext a
    apply Fin.ext
    match a with
    | ⟨0, _⟩ => show win0_1.index t 0 * 512 + 1 * (r % 512) = 512 * t.1 + r; rw [hi.1]; omega
    | ⟨1, _⟩ => show win0_1.index t 1 * 512 + 1 * (q % 512) = 7168 + (512 * 1 + q); rw [hi.2]; omega]
  refine (v16_apply m c _ _ (512 * 1 + q) rfl (by omega)).trans ?_
  have hb : (512 * t.1 + r) / 8192 < 2 := by clear hR; omega
  have hT' : (512 * t.1 + r) % 8192 < 8192 := by clear hR; omega
  have hβ : (⟨(512 * t.1 + r) / 8192, hb⟩ : Fin 2) = β := Fin.ext (by show (512 * t.1 + r) / 8192 = β.1; omega)
  have hT : (⟨(512 * t.1 + r) % 8192, hT'⟩ : Fin 8192) = T := Fin.ext (by show (512 * t.1 + r) % 8192 = T.1; omega)
  have hn : 3072 + (512 * 1 + q) = 3072 + 512 * 1 + q := by omega
  subst hβ hT
  rw [← hn]

/-- Window 2's block at point `t`: rows of the packed projection. -/
theorem x2_apply (c : Dev nD) (t : Fin cfg0.N) (r q : ℕ) (β : Fin 2) (T : Fin 8192) (hR : β.1 * 8192 + T.1 = 512 * t.1 + r) (hr : r < 512) (hq : q < 512) :
    at2 (iblk m c 2 t) r q = entryAt (A0 m c) β T (3072 + 512 * 2 + q) := by
  have hN := lt_points t
  have hi := index2 t
  unfold at2
  show (V m c main_v16 : (⟨S16384x9216, .bf16⟩ : BufTy).Contents (Elt Ideal)) (((cfg0.win 2).blk t).view.emb (ix2 ⟨r % 512, by omega⟩ ⟨q % 512, by omega⟩)) = _
  rw [show ((cfg0.win 2).blk t).view.emb (ix2 ⟨r % 512, by omega⟩ ⟨q % 512, by omega⟩) = (ix2 ⟨512 * t.1 + r, by omega⟩ ⟨7168 + (512 * 2 + q), by omega⟩ : S16384x9216.Idx) from by
    funext a
    apply Fin.ext
    match a with
    | ⟨0, _⟩ => show win0_2.index t 0 * 512 + 1 * (r % 512) = 512 * t.1 + r; rw [hi.1]; omega
    | ⟨1, _⟩ => show win0_2.index t 1 * 512 + 1 * (q % 512) = 7168 + (512 * 2 + q); rw [hi.2]; omega]
  refine (v16_apply m c _ _ (512 * 2 + q) rfl (by omega)).trans ?_
  have hb : (512 * t.1 + r) / 8192 < 2 := by clear hR; omega
  have hT' : (512 * t.1 + r) % 8192 < 8192 := by clear hR; omega
  have hβ : (⟨(512 * t.1 + r) / 8192, hb⟩ : Fin 2) = β := Fin.ext (by show (512 * t.1 + r) / 8192 = β.1; omega)
  have hT : (⟨(512 * t.1 + r) % 8192, hT'⟩ : Fin 8192) = T := Fin.ext (by show (512 * t.1 + r) % 8192 = T.1; omega)
  have hn : 3072 + (512 * 2 + q) = 3072 + 512 * 2 + q := by omega
  subst hβ hT
  rw [← hn]

/-- Window 3's block at point `t`: rows of the table. -/
theorem x3_apply (c : Dev nD) (t : Fin cfg0.N) (r q : ℕ) (β : Fin 2) (T : Fin 8192) (hR : β.1 * 8192 + T.1 = 512 * t.1 + r) (hr : r < 512) (hq : q < 128) :
    tab (iblk m c 3 t) r q = A1 m c (ix3 β T ⟨q % 32, by omega⟩) := by
  have hN := lt_points t
  have hi := index3 t
  unfold tab
  show (V m c main_v1 : (⟨S16384x128, .f32⟩ : BufTy).Contents (Elt Ideal)) (((cfg0.win 3).blk t).view.emb (ix2 ⟨r % 512, by omega⟩ ⟨q % 128, by omega⟩)) = _
  rw [show ((cfg0.win 3).blk t).view.emb (ix2 ⟨r % 512, by omega⟩ ⟨q % 128, by omega⟩) = (ix2 ⟨512 * t.1 + r, by omega⟩ ⟨q, by omega⟩ : S16384x128.Idx) from by
    funext a
    apply Fin.ext
    match a with
    | ⟨0, _⟩ => show win0_3.index t 0 * 512 + 1 * (r % 512) = 512 * t.1 + r; rw [hi.1]; omega
    | ⟨1, _⟩ => show win0_3.index t 1 * 128 + 1 * (q % 128) = q; rw [hi.2]; omega]
  refine (congrFun (V_v1 m c) _).trans ((cosines_apply (A1 m c) _ _).trans ?_)
  have hb : (512 * t.1 + r) / 8192 < 2 := by clear hR; omega
  have hT' : (512 * t.1 + r) % 8192 < 8192 := by clear hR; omega
  have hβ : (⟨(512 * t.1 + r) / 8192, hb⟩ : Fin 2) = β := Fin.ext (by show (512 * t.1 + r) / 8192 = β.1; omega)
  have hT : (⟨(512 * t.1 + r) % 8192, hT'⟩ : Fin 8192) = T := Fin.ext (by show (512 * t.1 + r) % 8192 = T.1; omega)
  subst hβ hT
  rfl

/-- Window 4's block at point `t`: rows of the table. -/
theorem x4_apply (c : Dev nD) (t : Fin cfg0.N) (r q : ℕ) (β : Fin 2) (T : Fin 8192) (hR : β.1 * 8192 + T.1 = 512 * t.1 + r) (hr : r < 512) (hq : q < 128) :
    tab (iblk m c 4 t) r q = if q % 64 < 32 then -A2 m c (ix3 β T ⟨q % 32, by omega⟩) else A2 m c (ix3 β T ⟨q % 32, by omega⟩) := by
  have hN := lt_points t
  have hi := index4 t
  unfold tab
  show (V m c main_v5 : (⟨S16384x128, .f32⟩ : BufTy).Contents (Elt Ideal)) (((cfg0.win 4).blk t).view.emb (ix2 ⟨r % 512, by omega⟩ ⟨q % 128, by omega⟩)) = _
  rw [show ((cfg0.win 4).blk t).view.emb (ix2 ⟨r % 512, by omega⟩ ⟨q % 128, by omega⟩) = (ix2 ⟨512 * t.1 + r, by omega⟩ ⟨q, by omega⟩ : S16384x128.Idx) from by
    funext a
    apply Fin.ext
    match a with
    | ⟨0, _⟩ => show win0_4.index t 0 * 512 + 1 * (r % 512) = 512 * t.1 + r; rw [hi.1]; omega
    | ⟨1, _⟩ => show win0_4.index t 1 * 128 + 1 * (q % 128) = q; rw [hi.2]; omega]
  refine (congrFun (V_v5 m c) _).trans ((sines_apply (A2 m c) _ _).trans ?_)
  have hb : (512 * t.1 + r) / 8192 < 2 := by clear hR; omega
  have hT' : (512 * t.1 + r) % 8192 < 8192 := by clear hR; omega
  have hβ : (⟨(512 * t.1 + r) / 8192, hb⟩ : Fin 2) = β := Fin.ext (by show (512 * t.1 + r) / 8192 = β.1; omega)
  have hT : (⟨(512 * t.1 + r) % 8192, hT'⟩ : Fin 8192) = T := Fin.ext (by show (512 * t.1 + r) % 8192 = T.1; omega)
  subst hβ hT
  rfl

/-- The turned keys of window 1's block. -/
theorem key1 (c : Dev nD) (t : Fin cfg0.N) (β : Fin 2) (g : Fin 4) (T : Fin 8192) (q : Fin 128) (r : ℕ) (hR : β.1 * 8192 + T.1 = 512 * t.1 + r) (hr : r < 512) :
    keyOf (iblk m c 1 t) (iblk m c 3 t) (iblk m c 4 t) g.1 r q.1 = keyAt (A0 m c) (A1 m c) (A2 m c) 2 β g T q := by
  unfold keyOf keyAt
  by_cases h : q.1 < 64
  · rw [if_pos h, dif_pos h, x1_apply m c t r _ β T hR hr (by omega), x1_apply m c t r _ β T hR hr (by omega), x3_apply m c t r _ β T hR hr (by omega), x4_apply m c t r _ β T hR hr (by omega)]
    refine Eq.trans ?_ (partner_eq _ _ _ ⟨q.1, h⟩)
    have e1 : 3072 + 512 * 1 + (64 * g.1 + q.1) = 3072 + 256 * 2 + 64 * g.1 + q.1 := by omega
    have e2 : 3072 + 512 * 1 + (64 * g.1 + (q.1 + 32) % 64) = 3072 + 256 * 2 + 64 * g.1 + (q.1 + 32) % 64 := by omega
    have e3 : (⟨(64 * (g.1 % 2) + q.1) % 32, by omega⟩ : Fin 32) = ⟨q.1 % 32, by omega⟩ := Fin.ext (by show (64 * (g.1 % 2) + q.1) % 32 = q.1 % 32; omega)
    rw [e1, e2, e3]
    by_cases h' : q.1 < 32
    · rw [if_pos (show (64 * (g.1 % 2) + q.1) % 64 < 32 by omega), if_pos h']
    · rw [if_neg (show ¬(64 * (g.1 % 2) + q.1) % 64 < 32 by omega), if_neg h']
  · rw [if_neg h, dif_neg h]

/-- The values of window 1's block. -/
theorem val1 (c : Dev nD) (t : Fin cfg0.N) (β : Fin 2) (g : Fin 4) (v : Fin 80) (T : Fin 8192) (r : ℕ) (hR : β.1 * 8192 + T.1 = 512 * t.1 + r) (hr : r < 512) :
    valOf (iblk m c 1 t) g.1 v.1 r = valAt (A0 m c) 3 β g v T := by
  unfold valOf valAt
  by_cases h : v.1 < 64
  · rw [if_pos h, if_pos h, x1_apply m c t r _ β T hR hr (by omega)]
    have e1 : 3072 + 512 * 1 + (256 + 64 * g.1 + v.1) = 3072 + 256 * 3 + 64 * g.1 + v.1 := by omega
    rw [e1]
  · rw [if_neg h, if_neg h]

/-- The turned keys of window 2's block. -/
theorem key2 (c : Dev nD) (t : Fin cfg0.N) (β : Fin 2) (g : Fin 4) (T : Fin 8192) (q : Fin 128) (r : ℕ) (hR : β.1 * 8192 + T.1 = 512 * t.1 + r) (hr : r < 512) :
    keyOf (iblk m c 2 t) (iblk m c 3 t) (iblk m c 4 t) g.1 r q.1 = keyAt (A0 m c) (A1 m c) (A2 m c) 4 β g T q := by
  unfold keyOf keyAt
  by_cases h : q.1 < 64
  · rw [if_pos h, dif_pos h, x2_apply m c t r _ β T hR hr (by omega), x2_apply m c t r _ β T hR hr (by omega), x3_apply m c t r _ β T hR hr (by omega), x4_apply m c t r _ β T hR hr (by omega)]
    refine Eq.trans ?_ (partner_eq _ _ _ ⟨q.1, h⟩)
    have e1 : 3072 + 512 * 2 + (64 * g.1 + q.1) = 3072 + 256 * 4 + 64 * g.1 + q.1 := by omega
    have e2 : 3072 + 512 * 2 + (64 * g.1 + (q.1 + 32) % 64) = 3072 + 256 * 4 + 64 * g.1 + (q.1 + 32) % 64 := by omega
    have e3 : (⟨(64 * (g.1 % 2) + q.1) % 32, by omega⟩ : Fin 32) = ⟨q.1 % 32, by omega⟩ := Fin.ext (by show (64 * (g.1 % 2) + q.1) % 32 = q.1 % 32; omega)
    rw [e1, e2, e3]
    by_cases h' : q.1 < 32
    · rw [if_pos (show (64 * (g.1 % 2) + q.1) % 64 < 32 by omega), if_pos h']
    · rw [if_neg (show ¬(64 * (g.1 % 2) + q.1) % 64 < 32 by omega), if_neg h']
  · rw [if_neg h, dif_neg h]

/-- The values of window 2's block. -/
theorem val2 (c : Dev nD) (t : Fin cfg0.N) (β : Fin 2) (g : Fin 4) (v : Fin 80) (T : Fin 8192) (r : ℕ) (hR : β.1 * 8192 + T.1 = 512 * t.1 + r) (hr : r < 512) :
    valOf (iblk m c 2 t) g.1 v.1 r = valAt (A0 m c) 5 β g v T := by
  unfold valOf valAt
  by_cases h : v.1 < 64
  · rw [if_pos h, if_pos h, x2_apply m c t r _ β T hR hr (by omega)]
    have e1 : 3072 + 512 * 2 + (256 + 64 * g.1 + v.1) = 3072 + 256 * 5 + 64 * g.1 + v.1 := by omega
    rw [e1]
  · rw [if_neg h, if_neg h]

/-- Result 0 of the call, entry by entry. -/
theorem result5 (c : Dev nD) (β : Fin 2) (g : Fin 4) (T : Fin 8192) (e : Fin 64) :
    ((dats m 0 c).arrAt 5 cfg0.N : (⟨S2x4x8192x64, .bf16⟩ : BufTy).Contents (Elt Ideal)) (ix4 β g T e) = entryAt (A0 m c) β T (3072 + 256 * 0 + 64 * g.1 + e.1) := by
  have hN : cfg0.N = 32 := N_0
  have hi := index5 ⟨16 * β.1 + T.1 / 512, by omega⟩
  have h := congrFun ((blocks5 m c ⟨16 * β.1 + T.1 / 512, by omega⟩ (flush5 _)).trans (flushed5_A m c _)) (ix4 (0 : Fin 1) g (⟨T.1 % 512, by omega⟩ : Fin 512) e)
  refine Eq.trans (congrArg ((dats m 0 c).arrAt 5 cfg0.N : (⟨S2x4x8192x64, .bf16⟩ : BufTy).Contents (Elt Ideal)) ?_) (h.trans ?_)
  · funext a
    apply Fin.ext
    match a with
    | ⟨0, _⟩ => show β.1 = win0_5.index ⟨16 * β.1 + T.1 / 512, _⟩ 0 * 1 + 1 * 0; rw [hi.1]; show β.1 = (16 * β.1 + T.1 / 512) / 16 * 1 + 1 * 0; omega
    | ⟨1, _⟩ => show g.1 = win0_5.index ⟨16 * β.1 + T.1 / 512, _⟩ 1 * 4 + 1 * g.1; rw [hi.2.1]; omega
    | ⟨2, _⟩ => show T.1 = win0_5.index ⟨16 * β.1 + T.1 / 512, _⟩ 2 * 512 + 1 * (T.1 % 512); rw [hi.2.2.1]; show T.1 = (16 * β.1 + T.1 / 512) % 16 * 512 + 1 * (T.1 % 512); omega
    | ⟨3, _⟩ => show e.1 = win0_5.index ⟨16 * β.1 + T.1 / 512, _⟩ 3 * 64 + 1 * e.1; rw [hi.2.2.2]; omega
  · refine (out5_apply _ _ _ _ _ _ _ _ _ _ _ _ _ _ _ _ _ _ _ _ _ _ _ _ _ _ _ _ _ (ix4 (0 : Fin 1) g (⟨T.1 % 512, by omega⟩ : Fin 512) e)).trans ?_
    show at2 (iblk m c 0 ⟨16 * β.1 + T.1 / 512, by omega⟩) (T.1 % 512) (0 + 64 * g.1 + e.1) = _
    exact (x0_apply m c _ _ _ β T (by show β.1 * 8192 + T.1 = 512 * (16 * β.1 + T.1 / 512) + T.1 % 512; omega) (by omega) (by omega)).trans (congrArg (entryAt (A0 m c) β T) (by omega))

/-- Result 1 of the call, entry by entry. -/
theorem result6 (c : Dev nD) (β : Fin 2) (g : Fin 4) (T : Fin 8192) (e : Fin 64) :
    ((dats m 0 c).arrAt 6 cfg0.N : (⟨S2x4x8192x64, .bf16⟩ : BufTy).Contents (Elt Ideal)) (ix4 β g T e) = entryAt (A0 m c) β T (3072 + 256 * 1 + 64 * g.1 + e.1) := by
  have hN : cfg0.N = 32 := N_0
  have hi := index6 ⟨16 * β.1 + T.1 / 512, by omega⟩
  have h := congrFun ((blocks6 m c ⟨16 * β.1 + T.1 / 512, by omega⟩ (flush6 _)).trans (flushed6_A m c _)) (ix4 (0 : Fin 1) g (⟨T.1 % 512, by omega⟩ : Fin 512) e)
  refine Eq.trans (congrArg ((dats m 0 c).arrAt 6 cfg0.N : (⟨S2x4x8192x64, .bf16⟩ : BufTy).Contents (Elt Ideal)) ?_) (h.trans ?_)
  · funext a
    apply Fin.ext
    match a with
    | ⟨0, _⟩ => show β.1 = win0_6.index ⟨16 * β.1 + T.1 / 512, _⟩ 0 * 1 + 1 * 0; rw [hi.1]; show β.1 = (16 * β.1 + T.1 / 512) / 16 * 1 + 1 * 0; omega
    | ⟨1, _⟩ => show g.1 = win0_6.index ⟨16 * β.1 + T.1 / 512, _⟩ 1 * 4 + 1 * g.1; rw [hi.2.1]; omega
    | ⟨2, _⟩ => show T.1 = win0_6.index ⟨16 * β.1 + T.1 / 512, _⟩ 2 * 512 + 1 * (T.1 % 512); rw [hi.2.2.1]; show T.1 = (16 * β.1 + T.1 / 512) % 16 * 512 + 1 * (T.1 % 512); omega
    | ⟨3, _⟩ => show e.1 = win0_6.index ⟨16 * β.1 + T.1 / 512, _⟩ 3 * 64 + 1 * e.1; rw [hi.2.2.2]; omega
  · refine (out6_apply _ _ _ _ _ _ _ _ _ _ _ _ _ _ _ _ _ _ _ _ _ _ _ _ _ _ _ _ _ (ix4 (0 : Fin 1) g (⟨T.1 % 512, by omega⟩ : Fin 512) e)).trans ?_
    show at2 (iblk m c 0 ⟨16 * β.1 + T.1 / 512, by omega⟩) (T.1 % 512) (256 + 64 * g.1 + e.1) = _
    exact (x0_apply m c _ _ _ β T (by show β.1 * 8192 + T.1 = 512 * (16 * β.1 + T.1 / 512) + T.1 % 512; omega) (by omega) (by omega)).trans (congrArg (entryAt (A0 m c) β T) (by omega))

/-- Result 2 of the call, entry by entry. -/
theorem result7 (c : Dev nD) (β : Fin 2) (g : Fin 4) (T : Fin 8192) (e : Fin 128) :
    ((dats m 0 c).arrAt 7 cfg0.N : (⟨S2x4x8192x128, .bf16⟩ : BufTy).Contents (Elt Ideal)) (ix4 β g T e) = keyAt (A0 m c) (A1 m c) (A2 m c) 2 β g T e := by
  have hN : cfg0.N = 32 := N_0
  have hi := index7 ⟨16 * β.1 + T.1 / 512, by omega⟩
  have h := congrFun ((blocks7 m c ⟨16 * β.1 + T.1 / 512, by omega⟩ (flush7 _)).trans (flushed7_A m c _)) (ix4 (0 : Fin 1) g (⟨T.1 % 512, by omega⟩ : Fin 512) e)
  refine Eq.trans (congrArg ((dats m 0 c).arrAt 7 cfg0.N : (⟨S2x4x8192x128, .bf16⟩ : BufTy).Contents (Elt Ideal)) ?_) (h.trans ?_)
  · funext a
    apply Fin.ext
    match a with
    | ⟨0, _⟩ => show β.1 = win0_7.index ⟨16 * β.1 + T.1 / 512, _⟩ 0 * 1 + 1 * 0; rw [hi.1]; show β.1 = (16 * β.1 + T.1 / 512) / 16 * 1 + 1 * 0; omega
    | ⟨1, _⟩ => show g.1 = win0_7.index ⟨16 * β.1 + T.1 / 512, _⟩ 1 * 4 + 1 * g.1; rw [hi.2.1]; omega
    | ⟨2, _⟩ => show T.1 = win0_7.index ⟨16 * β.1 + T.1 / 512, _⟩ 2 * 512 + 1 * (T.1 % 512); rw [hi.2.2.1]; show T.1 = (16 * β.1 + T.1 / 512) % 16 * 512 + 1 * (T.1 % 512); omega
    | ⟨3, _⟩ => show e.1 = win0_7.index ⟨16 * β.1 + T.1 / 512, _⟩ 3 * 128 + 1 * e.1; rw [hi.2.2.2]; omega
  · refine (out7_apply _ _ _ _ _ _ _ _ _ _ _ _ _ _ _ _ _ _ _ _ _ _ _ _ _ _ _ _ _ (ix4 (0 : Fin 1) g (⟨T.1 % 512, by omega⟩ : Fin 512) e)).trans ?_
    exact key1 m c ⟨16 * β.1 + T.1 / 512, by omega⟩ β g T e (T.1 % 512) (by show β.1 * 8192 + T.1 = 512 * (16 * β.1 + T.1 / 512) + T.1 % 512; omega) (by omega)

/-- Result 3 of the call, entry by entry. -/
theorem result8 (c : Dev nD) (β : Fin 2) (g : Fin 4) (e : Fin 80) (T : Fin 8192) :
    ((dats m 0 c).arrAt 8 cfg0.N : (⟨S2x4x80x8192, .bf16⟩ : BufTy).Contents (Elt Ideal)) (ix4 β g e T) = valAt (A0 m c) 3 β g e T := by
  have hN : cfg0.N = 32 := N_0
  have hi := index8 ⟨16 * β.1 + T.1 / 512, by omega⟩
  have h := congrFun ((blocks8 m c ⟨16 * β.1 + T.1 / 512, by omega⟩ (flush8 _)).trans (flushed8_A m c _)) (ix4 (0 : Fin 1) g e (⟨T.1 % 512, by omega⟩ : Fin 512))
  refine Eq.trans (congrArg ((dats m 0 c).arrAt 8 cfg0.N : (⟨S2x4x80x8192, .bf16⟩ : BufTy).Contents (Elt Ideal)) ?_) (h.trans ?_)
  · funext a
    apply Fin.ext
    match a with
    | ⟨0, _⟩ => show β.1 = win0_8.index ⟨16 * β.1 + T.1 / 512, _⟩ 0 * 1 + 1 * 0; rw [hi.1]; show β.1 = (16 * β.1 + T.1 / 512) / 16 * 1 + 1 * 0; omega
    | ⟨1, _⟩ => show g.1 = win0_8.index ⟨16 * β.1 + T.1 / 512, _⟩ 1 * 4 + 1 * g.1; rw [hi.2.1]; omega
    | ⟨2, _⟩ => show e.1 = win0_8.index ⟨16 * β.1 + T.1 / 512, _⟩ 2 * 80 + 1 * e.1; rw [hi.2.2.1]; omega
    | ⟨3, _⟩ => show T.1 = win0_8.index ⟨16 * β.1 + T.1 / 512, _⟩ 3 * 512 + 1 * (T.1 % 512); rw [hi.2.2.2]; show T.1 = (16 * β.1 + T.1 / 512) % 16 * 512 + 1 * (T.1 % 512); omega
  · refine (out8_apply _ _ _ _ _ _ _ _ _ _ _ _ _ _ _ _ _ _ _ _ _ _ _ _ _ _ _ _ _ (ix4 (0 : Fin 1) g e (⟨T.1 % 512, by omega⟩ : Fin 512))).trans ?_
    exact val1 m c ⟨16 * β.1 + T.1 / 512, by omega⟩ β g e T (T.1 % 512) (by show β.1 * 8192 + T.1 = 512 * (16 * β.1 + T.1 / 512) + T.1 % 512; omega) (by omega)

/-- Result 4 of the call, entry by entry. -/
theorem result9 (c : Dev nD) (β : Fin 2) (g : Fin 4) (T : Fin 8192) (e : Fin 128) :
    ((dats m 0 c).arrAt 9 cfg0.N : (⟨S2x4x8192x128, .bf16⟩ : BufTy).Contents (Elt Ideal)) (ix4 β g T e) = keyAt (A0 m c) (A1 m c) (A2 m c) 4 β g T e := by
  have hN : cfg0.N = 32 := N_0
  have hi := index9 ⟨16 * β.1 + T.1 / 512, by omega⟩
  have h := congrFun ((blocks9 m c ⟨16 * β.1 + T.1 / 512, by omega⟩ (flush9 _)).trans (flushed9_A m c _)) (ix4 (0 : Fin 1) g (⟨T.1 % 512, by omega⟩ : Fin 512) e)
  refine Eq.trans (congrArg ((dats m 0 c).arrAt 9 cfg0.N : (⟨S2x4x8192x128, .bf16⟩ : BufTy).Contents (Elt Ideal)) ?_) (h.trans ?_)
  · funext a
    apply Fin.ext
    match a with
    | ⟨0, _⟩ => show β.1 = win0_9.index ⟨16 * β.1 + T.1 / 512, _⟩ 0 * 1 + 1 * 0; rw [hi.1]; show β.1 = (16 * β.1 + T.1 / 512) / 16 * 1 + 1 * 0; omega
    | ⟨1, _⟩ => show g.1 = win0_9.index ⟨16 * β.1 + T.1 / 512, _⟩ 1 * 4 + 1 * g.1; rw [hi.2.1]; omega
    | ⟨2, _⟩ => show T.1 = win0_9.index ⟨16 * β.1 + T.1 / 512, _⟩ 2 * 512 + 1 * (T.1 % 512); rw [hi.2.2.1]; show T.1 = (16 * β.1 + T.1 / 512) % 16 * 512 + 1 * (T.1 % 512); omega
    | ⟨3, _⟩ => show e.1 = win0_9.index ⟨16 * β.1 + T.1 / 512, _⟩ 3 * 128 + 1 * e.1; rw [hi.2.2.2]; omega
  · refine (out9_apply _ _ _ _ _ _ _ _ _ _ _ _ _ _ _ _ _ _ _ _ _ _ _ _ _ _ _ _ _ (ix4 (0 : Fin 1) g (⟨T.1 % 512, by omega⟩ : Fin 512) e)).trans ?_
    exact key2 m c ⟨16 * β.1 + T.1 / 512, by omega⟩ β g T e (T.1 % 512) (by show β.1 * 8192 + T.1 = 512 * (16 * β.1 + T.1 / 512) + T.1 % 512; omega) (by omega)

/-- Result 5 of the call, entry by entry. -/
theorem result10 (c : Dev nD) (β : Fin 2) (g : Fin 4) (e : Fin 80) (T : Fin 8192) :
    ((dats m 0 c).arrAt 10 cfg0.N : (⟨S2x4x80x8192, .bf16⟩ : BufTy).Contents (Elt Ideal)) (ix4 β g e T) = valAt (A0 m c) 5 β g e T := by
  have hN : cfg0.N = 32 := N_0
  have hi := index10 ⟨16 * β.1 + T.1 / 512, by omega⟩
  have h := congrFun ((blocks10 m c ⟨16 * β.1 + T.1 / 512, by omega⟩ (flush10 _)).trans (flushed10_A m c _)) (ix4 (0 : Fin 1) g e (⟨T.1 % 512, by omega⟩ : Fin 512))
  refine Eq.trans (congrArg ((dats m 0 c).arrAt 10 cfg0.N : (⟨S2x4x80x8192, .bf16⟩ : BufTy).Contents (Elt Ideal)) ?_) (h.trans ?_)
  · funext a
    apply Fin.ext
    match a with
    | ⟨0, _⟩ => show β.1 = win0_10.index ⟨16 * β.1 + T.1 / 512, _⟩ 0 * 1 + 1 * 0; rw [hi.1]; show β.1 = (16 * β.1 + T.1 / 512) / 16 * 1 + 1 * 0; omega
    | ⟨1, _⟩ => show g.1 = win0_10.index ⟨16 * β.1 + T.1 / 512, _⟩ 1 * 4 + 1 * g.1; rw [hi.2.1]; omega
    | ⟨2, _⟩ => show e.1 = win0_10.index ⟨16 * β.1 + T.1 / 512, _⟩ 2 * 80 + 1 * e.1; rw [hi.2.2.1]; omega
    | ⟨3, _⟩ => show T.1 = win0_10.index ⟨16 * β.1 + T.1 / 512, _⟩ 3 * 512 + 1 * (T.1 % 512); rw [hi.2.2.2]; show T.1 = (16 * β.1 + T.1 / 512) % 16 * 512 + 1 * (T.1 % 512); omega
  · refine (out10_apply _ _ _ _ _ _ _ _ _ _ _ _ _ _ _ _ _ _ _ _ _ _ _ _ _ _ _ _ _ (ix4 (0 : Fin 1) g e (⟨T.1 % 512, by omega⟩ : Fin 512))).trans ?_
    exact val2 m c ⟨16 * β.1 + T.1 / 512, by omega⟩ β g e T (T.1 % 512) (by show β.1 * 8192 + T.1 = 512 * (16 * β.1 + T.1 / 512) + T.1 % 512; omega) (by omega)

end Cert.KvPrep

end
-- ==== Proof.KvPrep.RefValue.lean ====
module

public import proofs.«01_k».proof.Proof.Gen.KvPrepRefIdeal.Run
public import proofs.«01_k».proof.Proof.Layer.KeyPrep

@[expose] public section

noncomputable section

namespace Cert.KvPrep.Ref

open Idealize.ShloMosaic Idealize.ShloMosaic.TcCoe Idealize.SL.Sem
open Cert.KvPrepRefIdeal Cert.KvPrepRefIdeal.Gen Cert.Layer

/-- Slot 0 of the projection's keys and values. -/
def slot0 (p : Vec Ideal S2x8192x8752 .f32) : Vec Ideal S2x8192x4x64 .f32 :=
  shapeCast S2x8192x4x64 (extractStridedSlice S2x8192x1x4x64 ![0, 0, 0, 0, 0] (shapeCast S2x8192x6x4x64 (extractStridedSlice S2x8192x1536 ![0, 0, 3072] p slices_S2x8192x8752_S2x8192x1536_0_0_3072) shapeCasts_S2x8192x1536_S2x8192x6x4x64) slices_S2x8192x6x4x64_S2x8192x1x4x64_0_0_0_0_0) shapeCasts_S2x8192x1x4x64_S2x8192x4x64

set_option maxRecDepth 16384 in
theorem slot0_apply (p : Vec Ideal S2x8192x8752 .f32) (β : Fin 2) (T : Fin 8192) (g : Fin 4) (e : Fin 64) :
    slot0 p (ix4 β T g e) = entryAt p β T (3072 + 256 * 0 + 64 * g.1 + e.1) := by
  unfold entryAt
  pointwise [slot0]
  refine congrArg (fun k => p (ix3 _ _ k)) (Fin.ext ?_)
  dsimp only
  omega

/-- Slot 1 of the projection's keys and values. -/
def slot1 (p : Vec Ideal S2x8192x8752 .f32) : Vec Ideal S2x8192x4x64 .f32 :=
  shapeCast S2x8192x4x64 (extractStridedSlice S2x8192x1x4x64 ![0, 0, 1, 0, 0] (shapeCast S2x8192x6x4x64 (extractStridedSlice S2x8192x1536 ![0, 0, 3072] p slices_S2x8192x8752_S2x8192x1536_0_0_3072) shapeCasts_S2x8192x1536_S2x8192x6x4x64) slices_S2x8192x6x4x64_S2x8192x1x4x64_0_0_1_0_0) shapeCasts_S2x8192x1x4x64_S2x8192x4x64

set_option maxRecDepth 16384 in
theorem slot1_apply (p : Vec Ideal S2x8192x8752 .f32) (β : Fin 2) (T : Fin 8192) (g : Fin 4) (e : Fin 64) :
    slot1 p (ix4 β T g e) = entryAt p β T (3072 + 256 * 1 + 64 * g.1 + e.1) := by
  unfold entryAt
  pointwise [slot1]
  refine congrArg (fun k => p (ix3 _ _ k)) (Fin.ext ?_)
  dsimp only
  omega

/-- Slot 2 of the projection's keys and values. -/
def slot2 (p : Vec Ideal S2x8192x8752 .f32) : Vec Ideal S2x8192x4x64 .f32 :=
  shapeCast S2x8192x4x64 (extractStridedSlice S2x8192x1x4x64 ![0, 0, 2, 0, 0] (shapeCast S2x8192x6x4x64 (extractStridedSlice S2x8192x1536 ![0, 0, 3072] p slices_S2x8192x8752_S2x8192x1536_0_0_3072) shapeCasts_S2x8192x1536_S2x8192x6x4x64) slices_S2x8192x6x4x64_S2x8192x1x4x64_0_0_2_0_0) shapeCasts_S2x8192x1x4x64_S2x8192x4x64

set_option maxRecDepth 16384 in
theorem slot2_apply (p : Vec Ideal S2x8192x8752 .f32) (β : Fin 2) (T : Fin 8192) (g : Fin 4) (e : Fin 64) :
    slot2 p (ix4 β T g e) = entryAt p β T (3072 + 256 * 2 + 64 * g.1 + e.1) := by
  unfold entryAt
  pointwise [slot2]
  refine congrArg (fun k => p (ix3 _ _ k)) (Fin.ext ?_)
  dsimp only
  omega

/-- Slot 3 of the projection's keys and values. -/
def slot3 (p : Vec Ideal S2x8192x8752 .f32) : Vec Ideal S2x8192x4x64 .f32 :=
  shapeCast S2x8192x4x64 (extractStridedSlice S2x8192x1x4x64 ![0, 0, 3, 0, 0] (shapeCast S2x8192x6x4x64 (extractStridedSlice S2x8192x1536 ![0, 0, 3072] p slices_S2x8192x8752_S2x8192x1536_0_0_3072) shapeCasts_S2x8192x1536_S2x8192x6x4x64) slices_S2x8192x6x4x64_S2x8192x1x4x64_0_0_3_0_0) shapeCasts_S2x8192x1x4x64_S2x8192x4x64

set_option maxRecDepth 16384 in
theorem slot3_apply (p : Vec Ideal S2x8192x8752 .f32) (β : Fin 2) (T : Fin 8192) (g : Fin 4) (e : Fin 64) :
    slot3 p (ix4 β T g e) = entryAt p β T (3072 + 256 * 3 + 64 * g.1 + e.1) := by
  unfold entryAt
  pointwise [slot3]
  refine congrArg (fun k => p (ix3 _ _ k)) (Fin.ext ?_)
  dsimp only
  omega

/-- Slot 4 of the projection's keys and values. -/
def slot4 (p : Vec Ideal S2x8192x8752 .f32) : Vec Ideal S2x8192x4x64 .f32 :=
  shapeCast S2x8192x4x64 (extractStridedSlice S2x8192x1x4x64 ![0, 0, 4, 0, 0] (shapeCast S2x8192x6x4x64 (extractStridedSlice S2x8192x1536 ![0, 0, 3072] p slices_S2x8192x8752_S2x8192x1536_0_0_3072) shapeCasts_S2x8192x1536_S2x8192x6x4x64) slices_S2x8192x6x4x64_S2x8192x1x4x64_0_0_4_0_0) shapeCasts_S2x8192x1x4x64_S2x8192x4x64

set_option maxRecDepth 16384 in
theorem slot4_apply (p : Vec Ideal S2x8192x8752 .f32) (β : Fin 2) (T : Fin 8192) (g : Fin 4) (e : Fin 64) :
    slot4 p (ix4 β T g e) = entryAt p β T (3072 + 256 * 4 + 64 * g.1 + e.1) := by
  unfold entryAt
  pointwise [slot4]
  refine congrArg (fun k => p (ix3 _ _ k)) (Fin.ext ?_)
  dsimp only
  omega

/-- Slot 5 of the projection's keys and values. -/
def slot5 (p : Vec Ideal S2x8192x8752 .f32) : Vec Ideal S2x8192x4x64 .f32 :=
  shapeCast S2x8192x4x64 (extractStridedSlice S2x8192x1x4x64 ![0, 0, 5, 0, 0] (shapeCast S2x8192x6x4x64 (extractStridedSlice S2x8192x1536 ![0, 0, 3072] p slices_S2x8192x8752_S2x8192x1536_0_0_3072) shapeCasts_S2x8192x1536_S2x8192x6x4x64) slices_S2x8192x6x4x64_S2x8192x1x4x64_0_0_5_0_0) shapeCasts_S2x8192x1x4x64_S2x8192x4x64

set_option maxRecDepth 16384 in
theorem slot5_apply (p : Vec Ideal S2x8192x8752 .f32) (β : Fin 2) (T : Fin 8192) (g : Fin 4) (e : Fin 64) :
    slot5 p (ix4 β T g e) = entryAt p β T (3072 + 256 * 5 + 64 * g.1 + e.1) := by
  unfold entryAt
  pointwise [slot5]
  refine congrArg (fun k => p (ix3 _ _ k)) (Fin.ext ?_)
  dsimp only
  omega

def turn (r : Vec Ideal S2x8192x4x64 .f32) (co si : Vec Ideal S2x8192x32 .f32) : Vec Ideal S2x8192x4x64 .f32 :=
  concatenate S2x8192x4x64 3 [⟨S2x8192x4x32, (subf (F := Ideal) (φ := .f32) (mulf (extractStridedSlice S2x8192x4x32 ![0, 0, 0, 0] r slices_S2x8192x4x64_S2x8192x4x32_0_0_0_0) (broadcastInDim S2x8192x4x32 ![0, 1, 2, 3] bcast_S2x8192x1x32_S2x8192x4x32_0_1_2_3 (broadcastInDim S2x8192x1x32 ![0, 1, 3] bcast_S2x8192x32_S2x8192x1x32_0_1_3 co))) (mulf (extractStridedSlice S2x8192x4x32 ![0, 0, 0, 32] r slices_S2x8192x4x64_S2x8192x4x32_0_0_0_32) (broadcastInDim S2x8192x4x32 ![0, 1, 2, 3] bcast_S2x8192x1x32_S2x8192x4x32_0_1_2_3 (broadcastInDim S2x8192x1x32 ![0, 1, 3] bcast_S2x8192x32_S2x8192x1x32_0_1_3 si))))⟩, ⟨S2x8192x4x32, (addf (F := Ideal) (φ := .f32) (mulf (extractStridedSlice S2x8192x4x32 ![0, 0, 0, 32] r slices_S2x8192x4x64_S2x8192x4x32_0_0_0_32) (broadcastInDim S2x8192x4x32 ![0, 1, 2, 3] bcast_S2x8192x1x32_S2x8192x4x32_0_1_2_3 (broadcastInDim S2x8192x1x32 ![0, 1, 3] bcast_S2x8192x32_S2x8192x1x32_0_1_3 co))) (mulf (extractStridedSlice S2x8192x4x32 ![0, 0, 0, 0] r slices_S2x8192x4x64_S2x8192x4x32_0_0_0_0) (broadcastInDim S2x8192x4x32 ![0, 1, 2, 3] bcast_S2x8192x1x32_S2x8192x4x32_0_1_2_3 (broadcastInDim S2x8192x1x32 ![0, 1, 3] bcast_S2x8192x32_S2x8192x1x32_0_1_3 si))))⟩] concatenates_S2x8192x4x32_S2x8192x4x32_S2x8192x4x64_d3

set_option maxRecDepth 16384 in
theorem turn_apply (r : Vec Ideal S2x8192x4x64 .f32) (co si : Vec Ideal S2x8192x32 .f32) (β : Fin 2) (i : Fin 8192) (γ : Fin 4) (e : Fin 64) :
    turn r co si (ix4 β i γ e) = rotated (fun e => r (ix4 β i γ e)) (fun e => co (ix3 β i e)) (fun e => si (ix3 β i e)) e := by
  pointwise [turn]
  unfold rotated
  by_cases h : e.1 < 32
  · refine (dif_pos h).trans (Eq.trans ?_ (dif_pos h).symm)
    rfl
  · refine (dif_neg h).trans (Eq.trans ?_ (dif_neg h).symm)
    rw [show (⟨32 + (e.1 - 32), by omega⟩ : Fin 64) = e from Fin.ext (by show 32 + (e.1 - 32) = e.1; omega)]

/-- One row per head and step. -/
def plain (r : Vec Ideal S2x8192x4x64 .f32) : Vec Ideal S2x4x8192x64 .bf16 :=
  truncf (F := Ideal) .bf16 (transpose S2x4x8192x64 [0, 2, 1, 3] r transposes_S2x8192x4x64_S2x4x8192x64_0_2_1_3) bitsLt_bf16_f32

/-- The keys with their one and their zeros. -/
def keys (r : Vec Ideal S2x8192x4x64 .f32) : Vec Ideal S2x4x8192x128 .bf16 :=
  truncf (F := Ideal) .bf16 (concatenate S2x4x8192x128 3 [⟨S2x4x8192x64, (transpose S2x4x8192x64 [0, 2, 1, 3] r transposes_S2x8192x4x64_S2x4x8192x64_0_2_1_3 : Vec Ideal S2x4x8192x64 .f32)⟩, ⟨S2x4x8192x1, (broadcastInDim S2x4x8192x1 ![] bcast_S_S2x4x8192x1 (constant (F := Ideal) S_ .f32 0x3F800000#32) : Vec Ideal S2x4x8192x1 .f32)⟩, ⟨S2x4x8192x63, (broadcastInDim S2x4x8192x63 ![] bcast_S_S2x4x8192x63 (constant (F := Ideal) S_ .f32 0x00000000#32) : Vec Ideal S2x4x8192x63 .f32)⟩] concatenates_S2x4x8192x64_S2x4x8192x1_S2x4x8192x63_S2x4x8192x128_d3) bitsLt_bf16_f32

/-- The values, one column per step, with their ones and their zeros. -/
def vals (r : Vec Ideal S2x8192x4x64 .f32) : Vec Ideal S2x4x80x8192 .bf16 :=
  truncf (F := Ideal) .bf16 (concatenate S2x4x80x8192 2 [⟨S2x4x64x8192, (transpose S2x4x64x8192 [0, 2, 3, 1] r transposes_S2x8192x4x64_S2x4x64x8192_0_2_3_1 : Vec Ideal S2x4x64x8192 .f32)⟩, ⟨S2x4x1x8192, (broadcastInDim S2x4x1x8192 ![] bcast_S_S2x4x1x8192 (constant (F := Ideal) S_ .f32 0x3F800000#32) : Vec Ideal S2x4x1x8192 .f32)⟩, ⟨S2x4x15x8192, (broadcastInDim S2x4x15x8192 ![] bcast_S_S2x4x15x8192 (constant (F := Ideal) S_ .f32 0x00000000#32) : Vec Ideal S2x4x15x8192 .f32)⟩] concatenates_S2x4x64x8192_S2x4x1x8192_S2x4x15x8192_S2x4x80x8192_d2) bitsLt_bf16_f32

set_option maxRecDepth 16384 in
theorem plain_apply (r : Vec Ideal S2x8192x4x64 .f32) (β : Fin 2) (g : Fin 4) (T : Fin 8192) (e : Fin 64) : plain r (ix4 β g T e) = r (ix4 β T g e) := by
  pointwise [plain]

set_option maxRecDepth 16384 in
theorem keys_apply (r : Vec Ideal S2x8192x4x64 .f32) (β : Fin 2) (g : Fin 4) (T : Fin 8192) (q : Fin 128) :
    keys r (ix4 β g T q) = if h : q.1 < 64 then r (ix4 β T g ⟨q.1, h⟩) else if q.1 = 64 then 1 else 0 := by
  pointwise [keys]
  by_cases h : q.1 < 64
  · refine (dif_pos h).trans (Eq.trans ?_ (dif_pos h).symm)
    rfl
  · refine (dif_neg h).trans (Eq.trans ?_ (dif_neg h).symm)
    by_cases h' : q.1 = 64
    · rw [if_pos h', dif_pos (by omega)]
    · rw [if_neg h', dif_neg (by omega)]

set_option maxRecDepth 16384 in
theorem vals_apply (r : Vec Ideal S2x8192x4x64 .f32) (β : Fin 2) (g : Fin 4) (v : Fin 80) (T : Fin 8192) :
    vals r (ix4 β g v T) = if h : v.1 < 64 then r (ix4 β T g ⟨v.1, h⟩) else if v.1 = 64 then 1 else 0 := by
  pointwise [vals]
  by_cases h : v.1 < 64
  · refine (dif_pos h).trans (Eq.trans ?_ (dif_pos h).symm)
    rfl
  · refine (dif_neg h).trans (Eq.trans ?_ (dif_neg h).symm)
    by_cases h' : v.1 = 64
    · rw [if_pos h', dif_pos (by omega)]
    · rw [if_neg h', dif_neg (by omega)]

theorem plain0 (p : Vec Ideal S2x8192x8752 .f32) (β : Fin 2) (g : Fin 4) (T : Fin 8192) (e : Fin 64) :
    plain (slot0 p) (ix4 β g T e) = entryAt p β T (3072 + 256 * 0 + 64 * g.1 + e.1) := by
  rw [plain_apply, slot0_apply]

theorem plain1 (p : Vec Ideal S2x8192x8752 .f32) (β : Fin 2) (g : Fin 4) (T : Fin 8192) (e : Fin 64) :
    plain (slot1 p) (ix4 β g T e) = entryAt p β T (3072 + 256 * 1 + 64 * g.1 + e.1) := by
  rw [plain_apply, slot1_apply]

theorem keys2 (p : Vec Ideal S2x8192x8752 .f32) (co si : Vec Ideal S2x8192x32 .f32) (β : Fin 2) (g : Fin 4) (T : Fin 8192) (q : Fin 128) :
    keys (turn (slot2 p) co si) (ix4 β g T q) = keyAt p co si 2 β g T q := by
  rw [keys_apply]
  unfold keyAt
  by_cases h : q.1 < 64
  · rw [dif_pos h, dif_pos h, turn_apply]
    exact congrArg (fun f => rotated f _ _ _) (funext fun e => slot2_apply p β T g e)
  · rw [dif_neg h, dif_neg h]

theorem keys4 (p : Vec Ideal S2x8192x8752 .f32) (co si : Vec Ideal S2x8192x32 .f32) (β : Fin 2) (g : Fin 4) (T : Fin 8192) (q : Fin 128) :
    keys (turn (slot4 p) co si) (ix4 β g T q) = keyAt p co si 4 β g T q := by
  rw [keys_apply]
  unfold keyAt
  by_cases h : q.1 < 64
  · rw [dif_pos h, dif_pos h, turn_apply]
    exact congrArg (fun f => rotated f _ _ _) (funext fun e => slot4_apply p β T g e)
  · rw [dif_neg h, dif_neg h]

theorem vals3 (p : Vec Ideal S2x8192x8752 .f32) (β : Fin 2) (g : Fin 4) (v : Fin 80) (T : Fin 8192) :
    vals (slot3 p) (ix4 β g v T) = valAt p 3 β g v T := by
  rw [vals_apply]
  unfold valAt
  by_cases h : v.1 < 64
  · rw [dif_pos h, if_pos h, slot3_apply]
  · rw [dif_neg h, if_neg h]

theorem vals5 (p : Vec Ideal S2x8192x8752 .f32) (β : Fin 2) (g : Fin 4) (v : Fin 80) (T : Fin 8192) :
    vals (slot5 p) (ix4 β g v T) = valAt p 5 β g v T := by
  rw [vals_apply]
  unfold valAt
  by_cases h : v.1 < 64
  · rw [dif_pos h, if_pos h, slot5_apply]
  · rw [dif_neg h, if_neg h]

end Cert.KvPrep.Ref

end
-- ==== Proof.lean ====
module

public import proofs.«01_k».proof.Defs
public import proofs.«01_k».proof.Proof.Gen.Rglru
public import proofs.«01_k».proof.Proof.Gen.Rglru.Skeleton
public import proofs.«01_k».proof.Proof.Gen.Rglru.Launch
public import proofs.«01_k».proof.Proof.Gen.Rglru.Points
public import proofs.«01_k».proof.Proof.Gen.Rglru.Frame
public import proofs.«01_k».proof.Proof.Gen.RglruIdeal
public import proofs.«01_k».proof.Proof.Gen.RglruIdeal.Skeleton
public import proofs.«01_k».proof.Proof.Gen.RglruIdeal.Launch
public import proofs.«01_k».proof.Proof.Gen.RglruIdeal.Points
public import proofs.«01_k».proof.Proof.Gen.RglruIdeal.Frame
public import proofs.«01_k».proof.Proof.Gen.RglruRefIdeal
public import proofs.«01_k».proof.Proof.Gen.RglruIdeal.Value
public import proofs.«01_k».proof.Proof.Gen.RglruRefIdeal.Run
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MemAttn
public import proofs.«01_k».proof.Proof.Gen.MemAttn.Skeleton
public import proofs.«01_k».proof.Proof.Gen.MemAttn.Launch
public import proofs.«01_k».proof.Proof.Gen.MemAttn.Points
public import proofs.«01_k».proof.Proof.Gen.MemAttn.Frame
public import proofs.«01_k».proof.Proof.Gen.MemAttnIdeal
public import proofs.«01_k».proof.Proof.Gen.MemAttnIdeal.Skeleton
public import proofs.«01_k».proof.Proof.Gen.MemAttnIdeal.Launch
public import proofs.«01_k».proof.Proof.Gen.MemAttnIdeal.Points
public import proofs.«01_k».proof.Proof.Gen.MemAttnIdeal.Frame
public import proofs.«01_k».proof.Proof.Gen.MemAttnRefIdeal
public import proofs.«01_k».proof.Proof.Gen.MlpIdeal.Value
public import proofs.«01_k».proof.Proof.Gen.MlpRefIdeal.Run
public import proofs.«01_k».proof.Proof.Gen.InProjIdeal.Value
public import proofs.«01_k».proof.Proof.Gen.InProjRefIdeal.Run
public import proofs.«01_k».proof.Proof.Gen.MergeIdeal.Value
public import proofs.«01_k».proof.Proof.Gen.MergeRefIdeal.Run
public import proofs.«01_k».proof.Proof.Gen.MemAttnIdeal.Value
public import proofs.«01_k».proof.Proof.Gen.MemAttnRefIdeal.Run
public import proofs.«01_k».proof.Proof.Gen.NormIdeal.Value
public import proofs.«01_k».proof.Proof.Gen.NormRefIdeal.Run
public import proofs.«01_k».proof.Proof.Gen.MemKvIdeal.Value
public import proofs.«01_k».proof.Proof.Gen.MemKvRefIdeal.Run
public import proofs.«01_k».proof.Proof.Gen.CmpVIdeal.Value
public import proofs.«01_k».proof.Proof.Gen.CmpKIdeal.Value
public import proofs.«01_k».proof.Proof.Gen.CmpVRefIdeal.Run
public import proofs.«01_k».proof.Proof.Gen.CmpKRefIdeal.Run
public import proofs.«01_k».proof.Proof.Rglru.RefRun
public import proofs.«01_k».proof.Proof.Rglru.Array
public import proofs.«01_k».proof.Proof.Merge.RefValue
public import proofs.«01_k».proof.Proof.MemAttn.RefValue
public import proofs.«01_k».proof.Proof.Mlp.RefValue
public import proofs.«01_k».proof.Proof.InProj.RefValue
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.CmpK
public import proofs.«01_k».proof.Proof.Gen.CmpK.Skeleton
public import proofs.«01_k».proof.Proof.Gen.CmpK.Launch
public import proofs.«01_k».proof.Proof.Gen.CmpK.Points
public import proofs.«01_k».proof.Proof.Gen.CmpK.Frame
public import proofs.«01_k».proof.Proof.Gen.CmpKIdeal
public import proofs.«01_k».proof.Proof.Gen.CmpKIdeal.Skeleton
public import proofs.«01_k».proof.Proof.Gen.CmpKIdeal.Launch
public import proofs.«01_k».proof.Proof.Gen.CmpKIdeal.Points
public import proofs.«01_k».proof.Proof.Gen.CmpKIdeal.Frame
public import proofs.«01_k».proof.Proof.Gen.CmpKRefIdeal
public import proofs.«01_k».proof.Proof.Gen.CmpV
public import proofs.«01_k».proof.Proof.Gen.CmpV.Skeleton
public import proofs.«01_k».proof.Proof.Gen.CmpV.Launch
public import proofs.«01_k».proof.Proof.Gen.CmpV.Points
public import proofs.«01_k».proof.Proof.Gen.CmpV.Frame
public import proofs.«01_k».proof.Proof.Gen.CmpVIdeal
public import proofs.«01_k».proof.Proof.Gen.CmpVIdeal.Skeleton
public import proofs.«01_k».proof.Proof.Gen.CmpVIdeal.Launch
public import proofs.«01_k».proof.Proof.Gen.CmpVIdeal.Points
public import proofs.«01_k».proof.Proof.Gen.CmpVIdeal.Frame
public import proofs.«01_k».proof.Proof.Gen.CmpVRefIdeal
public import proofs.«01_k».proof.Proof.Norm.Array
public import proofs.«01_k».proof.Proof.Norm.RefValue
public import proofs.«01_k».proof.Proof.MemKv.Array
public import proofs.«01_k».proof.Proof.MemKv.RefValue
public import proofs.«01_k».proof.Proof.CmpK.Array
public import proofs.«01_k».proof.Proof.CmpK.RefValue
public import proofs.«01_k».proof.Proof.CmpV.Array
public import proofs.«01_k».proof.Proof.CmpV.RefValue
public import proofs.«01_k».proof.Proof.Gen.MNormIdeal.Value
public import proofs.«01_k».proof.Proof.Gen.MNormRefIdeal.Run
public import proofs.«01_k».proof.Proof.Gen.RopeIdeal.Frame
public import proofs.«01_k».proof.Proof.Gen.RopeRefIdeal.Run
public import proofs.«01_k».proof.Proof.Gen.RopeTIdeal.Frame
public import proofs.«01_k».proof.Proof.Gen.RopeTRefIdeal.Run
public import proofs.«01_k».proof.Proof.Gen.RopeC
public import proofs.«01_k».proof.Proof.Gen.RopeC.Skeleton
public import proofs.«01_k».proof.Proof.Gen.RopeC.Launch
public import proofs.«01_k».proof.Proof.Gen.RopeC.Points
public import proofs.«01_k».proof.Proof.Gen.RopeC.Frame
public import proofs.«01_k».proof.Proof.Gen.RopeCIdeal.Frame
public import proofs.«01_k».proof.Proof.Gen.RopeCRefIdeal.Run
public import proofs.«01_k».proof.Proof.Gen.KvPrep
public import proofs.«01_k».proof.Proof.Gen.KvPrep.Skeleton
public import proofs.«01_k».proof.Proof.Gen.KvPrep.Launch
public import proofs.«01_k».proof.Proof.Gen.KvPrep.Points
public import proofs.«01_k».proof.Proof.Gen.KvPrep.Frame
public import proofs.«01_k».proof.Proof.Gen.KvPrepIdeal.Frame
public import proofs.«01_k».proof.Proof.Gen.KvPrepRefIdeal.Run
public import proofs.«01_k».proof.Proof.Gen.KvPrepIdeal.Value
public import proofs.«01_k».proof.Proof.Gen.MNorm
public import proofs.«01_k».proof.Proof.Gen.MNorm.Skeleton
public import proofs.«01_k».proof.Proof.Gen.MNorm.Launch
public import proofs.«01_k».proof.Proof.Gen.MNorm.Points
public import proofs.«01_k».proof.Proof.Gen.MNorm.Frame
public import proofs.«01_k».proof.Proof.MNorm.Array
public import proofs.«01_k».proof.Proof.MNorm.RefValue
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Rope.Array
public import proofs.«01_k».proof.Proof.Rope.RefValue
public import proofs.«01_k».proof.Proof.Gen.RopeT
public import proofs.«01_k».proof.Proof.Gen.RopeT.Skeleton
public import proofs.«01_k».proof.Proof.Gen.RopeT.Launch
public import proofs.«01_k».proof.Proof.Gen.RopeT.Points
public import proofs.«01_k».proof.Proof.Gen.RopeT.Frame
public import proofs.«01_k».proof.Proof.RopeT.Array
public import proofs.«01_k».proof.Proof.RopeT.RefValue
public import proofs.«01_k».proof.Proof.RopeC.Array
public import proofs.«01_k».proof.Proof.RopeC.RefValue
public import proofs.«01_k».proof.Proof.KvPrep.Array
public import proofs.«01_k».proof.Proof.KvPrep.RefValue
public import Idealize.ShloMosaic.Adequacy
public import Idealize.ShloMosaic.Init

@[expose] public section

noncomputable section

namespace Cert.Proof

open Idealize.ShloMosaic Idealize.SL.Sem Cert.Rglru

open Cert.Rglru.Input in
/-- The recurrence's call against the plain recurrence: both runs named by one array. -/
theorem algebraic : Cert.algebraic_RglruIdeal_RglruRefIdeal := by
  intro m g m' g' _ hm
  refine ⟨fun c => Cert.RglruIdeal.Value.G9 m c, Cert.RglruIdeal.Value.run m g, ?_⟩
  refine (θ_run Cert.RglruRefIdeal.defs _ _).mono (fun r h c => ⟨(h c).1.trans ?_, (h c).2⟩)
    (Cert.Rglru.RefRun.run_iter m' g' (fun c => Cert.Rglru.Ref.it (A0 m c) (A1 m c) (A2 m c) (A3 m c) (A4 m c) (A5 m c) (A6 m c) (A7 m c))
      (fun c => ?_) (fun c n => rfl))
  · obtain ⟨h0, h1, h2, h3, h4, h5, h6, h7⟩ := hm c
    unfold Cert.Rglru.RefRun.initState
    rw [h0, h1, h2, h3, h4, h5, h6, h7]
    rfl
  · rw [(hm c).1]
    exact (Cert.Rglru.Array.result_eq m c).symm

/-- The plain recurrence is host code and declares no semaphore. -/
theorem frame_rglru_ref : Cert.quiescent_RglruRefIdeal := fun m g _ =>
  (θ_run Cert.RglruRefIdeal.defs _ _).mono (fun r h => ⟨fun c => (h c).2, Idealize.ShloMosaic.sem_eq_zero_of_no_sems (by decide) r.2⟩)
    (Cert.RglruRefIdeal.Value.run (F := Ideal) m g)

/-- An array of rows and columns is known from its entries. -/
theorem ext2 {n k : ℕ} {x y : (⟨2, ![n, k]⟩ : Shape).Idx → EReal} (h : ∀ (i : Fin n) (j : Fin k), x (ix2 i j) = y (ix2 i j)) : x = y := by
  funext i
  obtain ⟨a, b, rfl⟩ : ∃ (a : Fin n) (b : Fin k), i = ix2 a b := ⟨i 0, i 1, by funext a; match a with | ⟨0, _⟩ => rfl | ⟨1, _⟩ => rfl⟩
  exact h a b

/-- The channel mixing's call against its plain lines. -/
theorem algebraic_mlp : Cert.algebraic_MlpIdeal_MlpRefIdeal := by
  intro m g m' g' _ hm
  refine ⟨_, _, Cert.MlpIdeal.Value.run_blocks m g, ?_⟩
  refine (θ_run Cert.MlpRefIdeal.defs _ _).mono (fun r h c => ⟨(h c).1.trans ?_, (h c).2.1.trans ?_, (h c).2.2⟩) (Cert.MlpRefIdeal.Value.run m' g')
  · obtain ⟨h0, h1, h2, h3, h4, h5⟩ := hm c
    rw [h0, h1, h2, h3, h4]
    exact ext2 fun R j => (Cert.Mlp.Ref.first_apply (Cert.Mlp.A0 m c) (Cert.Mlp.A1 m c) (Cert.Mlp.A2 m c) (Cert.Mlp.A3 m c) (Cert.Mlp.A4 m c) R j).trans (Cert.Mlp.result6 m c R j).symm
  · obtain ⟨h0, h1, h2, h3, h4, h5⟩ := hm c
    unfold Cert.MlpRefIdeal.Value.res_main_v41
    rw [h0, h1, h2, h3, h4, h5]
    exact ext2 fun R j => (Cert.Mlp.Ref.second_apply (Cert.Mlp.A0 m c) (Cert.Mlp.A1 m c) (Cert.Mlp.A2 m c) (Cert.Mlp.A3 m c) (Cert.Mlp.A4 m c) (Cert.Mlp.A5 m c) R j).trans (Cert.Mlp.result7 m c R j).symm

/-- Its plain lines are host code and declare no semaphore. -/
theorem frame_mlp_ref : Cert.quiescent_MlpRefIdeal := fun m g _ =>
  (θ_run Cert.MlpRefIdeal.defs _ _).mono (fun r h => ⟨fun c => (h c).2.2, Idealize.ShloMosaic.sem_eq_zero_of_no_sems (by decide) r.2⟩)
    (Cert.MlpRefIdeal.Value.run (F := Ideal) m g)

/-- The input projection's call against its plain lines. -/
theorem algebraic_in : Cert.algebraic_InProjIdeal_InProjRefIdeal := by
  intro m g m' g' _ hm
  refine ⟨_, Cert.InProjIdeal.Value.run_blocks m g, ?_⟩
  refine (θ_run Cert.InProjRefIdeal.defs _ _).mono (fun r h c => ⟨(h c).1.trans ?_, (h c).2⟩) (Cert.InProjRefIdeal.Value.run m' g')
  obtain ⟨h0, h1⟩ := hm c
  rw [h0, h1]
  exact ext2 fun R D => (Cert.InProj.Ref.result_apply (Cert.InProj.A0 m c) (Cert.InProj.A1 m c) R D).trans (Cert.InProj.result2 m c R D).symm

/-- Its plain lines are host code and declare no semaphore. -/
theorem frame_in_ref : Cert.quiescent_InProjRefIdeal := fun m g _ =>
  (θ_run Cert.InProjRefIdeal.defs _ _).mono (fun r h => ⟨fun c => (h c).2, Idealize.ShloMosaic.sem_eq_zero_of_no_sems (by decide) r.2⟩)
    (Cert.InProjRefIdeal.Value.run (F := Ideal) m g)

/-- The branches' merge against its plain lines. -/
theorem algebraic_merge : Cert.algebraic_MergeIdeal_MergeRefIdeal := by
  intro m g m' g' _ hm
  refine ⟨_, _, Cert.MergeIdeal.Value.run_blocks m g, ?_⟩
  refine (θ_run Cert.MergeRefIdeal.defs _ _).mono (fun r h c => ⟨(h c).1.trans ?_, (h c).2.1.trans ?_, (h c).2.2⟩) (Cert.MergeRefIdeal.Value.run m' g')
  · obtain ⟨h0, h1, h2, h3, h4, h5, h6, h7, h8, h9, h10⟩ := hm c
    unfold Cert.MergeRefIdeal.Value.res_main_v58
    rw [h0, h1, h2, h3, h4, h5, h6, h7, h8, h9]
    exact ext2 fun R j => (Cert.Merge.Ref.first_apply (Cert.Merge.A0 m c) (Cert.Merge.A1 m c) (Cert.Merge.A2 m c) (Cert.Merge.A3 m c) (Cert.Merge.A4 m c) (Cert.Merge.A5 m c) (Cert.Merge.A6 m c) (Cert.Merge.A7 m c) (Cert.Merge.A8 m c) (Cert.Merge.A9 m c) R j).trans (Cert.Merge.result13 m c R j).symm
  · obtain ⟨h0, h1, h2, h3, h4, h5, h6, h7, h8, h9, h10⟩ := hm c
    unfold Cert.MergeRefIdeal.Value.res_main_v60
    rw [h0, h1, h2, h3, h4, h5, h6, h7, h8, h9, h10]
    exact ext2 fun R j => (Cert.Merge.Ref.second_apply (Cert.Merge.A0 m c) (Cert.Merge.A1 m c) (Cert.Merge.A2 m c) (Cert.Merge.A3 m c) (Cert.Merge.A4 m c) (Cert.Merge.A5 m c) (Cert.Merge.A6 m c) (Cert.Merge.A7 m c) (Cert.Merge.A8 m c) (Cert.Merge.A9 m c) (Cert.Merge.A10 m c) R j).trans (Cert.Merge.result14 m c R j).symm

/-- Its plain lines are host code and declare no semaphore. -/
theorem frame_merge_ref : Cert.quiescent_MergeRefIdeal := fun m g _ =>
  (θ_run Cert.MergeRefIdeal.defs _ _).mono (fun r h => ⟨fun c => (h c).2.2, Idealize.ShloMosaic.sem_eq_zero_of_no_sems (by decide) r.2⟩)
    (Cert.MergeRefIdeal.Value.run (F := Ideal) m g)

/-- The memory attention's call against its plain lines. -/
theorem algebraic_mem : Cert.algebraic_MemAttnIdeal_MemAttnRefIdeal := by
  intro m g m' g' _ hm
  refine ⟨_, Cert.MemAttnIdeal.Value.run_blocks m g, ?_⟩
  refine (θ_run Cert.MemAttnRefIdeal.defs _ _).mono (fun r h c => ⟨(h c).1.trans ?_, (h c).2⟩) (Cert.MemAttnRefIdeal.Value.run m' g')
  obtain ⟨h0, h1⟩ := hm c
  rw [h0, h1]
  exact ext2 fun R D => (Cert.MemAttn.Ref.out_apply (Cert.MemAttn.A0 m c) (Cert.MemAttn.A1 m c) R D).trans (Cert.MemAttn.result2 m c R D).symm

/-- Its plain lines are host code and declare no semaphore. -/
theorem frame_mem_ref : Cert.quiescent_MemAttnRefIdeal := fun m g _ =>
  (θ_run Cert.MemAttnRefIdeal.defs _ _).mono (fun r h => ⟨fun c => (h c).2, Idealize.ShloMosaic.sem_eq_zero_of_no_sems (by decide) r.2⟩)
    (Cert.MemAttnRefIdeal.Value.run (F := Ideal) m g)

/-- An array of three axes is known from its entries. -/
theorem ext3 {n k l : ℕ} {x y : (⟨3, ![n, k, l]⟩ : Shape).Idx → EReal} (h : ∀ (i : Fin n) (j : Fin k) (q : Fin l), x (ix3 i j q) = y (ix3 i j q)) : x = y := by
  funext i
  obtain ⟨a, b, d, rfl⟩ : ∃ (a : Fin n) (b : Fin k) (d : Fin l), i = ix3 a b d := ⟨i 0, i 1, i 2, by funext a; match a with | ⟨0, _⟩ => rfl | ⟨1, _⟩ => rfl | ⟨2, _⟩ => rfl⟩
  exact h a b d

/-- An array of four axes is known from its entries. -/
theorem ext4 {n k l o : ℕ} {x y : (⟨4, ![n, k, l, o]⟩ : Shape).Idx → EReal} (h : ∀ (i : Fin n) (j : Fin k) (q : Fin l) (e : Fin o), x (ix4 i j q e) = y (ix4 i j q e)) : x = y := by
  funext i
  obtain ⟨a, b, d, e, rfl⟩ : ∃ (a : Fin n) (b : Fin k) (d : Fin l) (e : Fin o), i = ix4 a b d e := ⟨i 0, i 1, i 2, i 3, by funext a; match a with | ⟨0, _⟩ => rfl | ⟨1, _⟩ => rfl | ⟨2, _⟩ => rfl | ⟨3, _⟩ => rfl⟩
  exact h a b d e

/-- The normalisation's call against its plain lines. -/
theorem algebraic_norm : Cert.algebraic_NormIdeal_NormRefIdeal := by
  intro m g m' g' _ hm
  refine ⟨_, Cert.NormIdeal.Value.run_blocks m g, ?_⟩
  refine (θ_run Cert.NormRefIdeal.defs _ _).mono (fun r h c => ⟨(h c).1.trans ?_, (h c).2⟩) (Cert.NormRefIdeal.Value.run m' g')
  obtain ⟨h0, h1⟩ := hm c
  rw [h0, h1]
  exact ext2 fun R D => (Cert.Norm.Ref.result_apply (Cert.Norm.A0 m c) (Cert.Norm.A1 m c) R D).trans (Cert.Norm.result2 m c R D).symm

/-- Its plain lines are host code and declare no semaphore. -/
theorem frame_norm_ref : Cert.quiescent_NormRefIdeal := fun m g _ =>
  (θ_run Cert.NormRefIdeal.defs _ _).mono (fun r h => ⟨fun c => (h c).2, Idealize.ShloMosaic.sem_eq_zero_of_no_sems (by decide) r.2⟩)
    (Cert.NormRefIdeal.Value.run (F := Ideal) m g)

/-- The memory projection's call against its plain lines. -/
theorem algebraic_mem_kv : Cert.algebraic_MemKvIdeal_MemKvRefIdeal := by
  intro m g m' g' _ hm
  refine ⟨_, Cert.MemKvIdeal.Value.run_blocks m g, ?_⟩
  refine (θ_run Cert.MemKvRefIdeal.defs _ _).mono (fun r h c => ⟨(h c).1.trans ?_, (h c).2⟩) (Cert.MemKvRefIdeal.Value.run m' g')
  obtain ⟨h0, h1⟩ := hm c
  rw [h0, h1]
  exact ext2 fun R D => (Cert.MemKv.Ref.result_apply (Cert.MemKv.A0 m c) (Cert.MemKv.A1 m c) R D).trans (Cert.MemKv.result2 m c R D).symm

/-- Its plain lines are host code and declare no semaphore. -/
theorem frame_mem_kv_ref : Cert.quiescent_MemKvRefIdeal := fun m g _ =>
  (θ_run Cert.MemKvRefIdeal.defs _ _).mono (fun r h => ⟨fun c => (h c).2, Idealize.ShloMosaic.sem_eq_zero_of_no_sems (by decide) r.2⟩)
    (Cert.MemKvRefIdeal.Value.run (F := Ideal) m g)

/-- The keys' compression's call against its plain lines. -/
theorem algebraic_cmp_k : Cert.algebraic_CmpKIdeal_CmpKRefIdeal := by
  intro m g m' g' _ hm
  refine ⟨_, Cert.CmpKIdeal.Value.run_blocks m g, ?_⟩
  refine (θ_run Cert.CmpKRefIdeal.defs _ _).mono (fun r h c => ⟨(h c).1.trans ?_, (h c).2⟩) (Cert.CmpKRefIdeal.Value.run m' g')
  obtain ⟨h0, h1, h2, h3, h4, h5, h6⟩ := hm c
  unfold Cert.CmpKRefIdeal.Value.res_main_v53
  rw [h0, h1, h2, h3, h4, h5, h6]
  exact ext3 fun n i e => (Cert.CmpK.Ref.result_apply (Cert.CmpK.A0 m c) (Cert.CmpK.A1 m c) (Cert.CmpK.A2 m c) (Cert.CmpK.A3 m c) (Cert.CmpK.A4 m c) (Cert.CmpK.A5 m c) (Cert.CmpK.A6 m c) n i e).trans (Cert.CmpK.result7 m c n i e).symm

/-- Its plain lines are host code and declare no semaphore. -/
theorem frame_cmp_k_ref : Cert.quiescent_CmpKRefIdeal := fun m g _ =>
  (θ_run Cert.CmpKRefIdeal.defs _ _).mono (fun r h => ⟨fun c => (h c).2, Idealize.ShloMosaic.sem_eq_zero_of_no_sems (by decide) r.2⟩)
    (Cert.CmpKRefIdeal.Value.run (F := Ideal) m g)

/-- The values' compression's call against its plain lines. -/
theorem algebraic_cmp_v : Cert.algebraic_CmpVIdeal_CmpVRefIdeal := by
  intro m g m' g' _ hm
  refine ⟨_, Cert.CmpVIdeal.Value.run_blocks m g, ?_⟩
  refine (θ_run Cert.CmpVRefIdeal.defs _ _).mono (fun r h c => ⟨(h c).1.trans ?_, (h c).2⟩) (Cert.CmpVRefIdeal.Value.run m' g')
  obtain ⟨h0, h1, h2, h3, h4, h5, h6⟩ := hm c
  unfold Cert.CmpVRefIdeal.Value.res_main_v38
  rw [h0, h3, h4, h5, h6]
  exact ext3 fun n i e => (Cert.CmpV.Ref.result_apply (Cert.CmpV.A0 m c) (Cert.CmpV.A3 m c) (Cert.CmpV.A4 m c) (Cert.CmpV.A5 m c) (Cert.CmpV.A6 m c) n i e).trans (Cert.CmpV.result7 m c n i e).symm

/-- Its plain lines are host code and declare no semaphore. -/
theorem frame_cmp_v_ref : Cert.quiescent_CmpVRefIdeal := fun m g _ =>
  (θ_run Cert.CmpVRefIdeal.defs _ _).mono (fun r h => ⟨fun c => (h c).2, Idealize.ShloMosaic.sem_eq_zero_of_no_sems (by decide) r.2⟩)
    (Cert.CmpVRefIdeal.Value.run (F := Ideal) m g)

/-- The norm of the memory: both runs name the norm of every row. -/
theorem algebraic_mnorm : Cert.algebraic_MNormIdeal_MNormRefIdeal := by
  intro m g m' g' _ hm
  refine ⟨_, Cert.MNormIdeal.Value.run_blocks m g, ?_⟩
  refine (θ_run Cert.MNormRefIdeal.defs _ _).mono (fun r h c => ⟨(h c).1.trans ?_, (h c).2⟩) (Cert.MNormRefIdeal.Value.run m' g')
  obtain ⟨h0, h1⟩ := hm c
  rw [h0, h1]
  exact ext2 fun R D => (Cert.MNorm.Ref.result_apply (Cert.MNorm.A0 m c) (Cert.MNorm.A1 m c) R D).trans (Cert.MNorm.result2 m c R D).symm

theorem frame_mnorm_ref : Cert.quiescent_MNormRefIdeal := fun m g _ =>
  (θ_run Cert.MNormRefIdeal.defs _ _).mono (fun r h => ⟨fun c => (h c).2, Idealize.ShloMosaic.sem_eq_zero_of_no_sems (by decide) r.2⟩)
    (Cert.MNormRefIdeal.Value.run (F := Ideal) m g)

/-- The tables of the rotation, step by step: both runs name the cosines and the signed sines of the angles. -/
theorem algebraic_rope : Cert.algebraic_RopeIdeal_RopeRefIdeal := by
  intro m g m' g' _ hm
  refine ⟨_, _, Cert.Rope.run_tables m g, ?_⟩
  refine (θ_run Cert.RopeRefIdeal.defs _ _).mono (fun r h c => ⟨(h c).1.trans ?_, (h c).2.1.trans ?_, (h c).2.2⟩) (Cert.RopeRefIdeal.Value.run m' g')
  · have h0 := hm c
    rw [h0]
    exact ext2 fun R j => (Cert.Rope.Ref.cosines_apply (Cert.Rope.A0 m c) R j).trans (Cert.Rope.result2 m c R j).symm
  · have h0 := hm c
    rw [h0]
    exact ext2 fun R j => (Cert.Rope.Ref.sines_apply (Cert.Rope.A0 m c) R j).trans (Cert.Rope.result3 m c R j).symm

theorem frame_rope_ref : Cert.quiescent_RopeRefIdeal := fun m g _ =>
  (θ_run Cert.RopeRefIdeal.defs _ _).mono (fun r h => ⟨fun c => (h c).2.2, Idealize.ShloMosaic.sem_eq_zero_of_no_sems (by decide) r.2⟩)
    (Cert.RopeRefIdeal.Value.run (F := Ideal) m g)

/-- The tables of the rotation, pair by pair: both runs name the cosines and the sines of the angles. -/
theorem algebraic_rope_t : Cert.algebraic_RopeTIdeal_RopeTRefIdeal := by
  intro m g m' g' _ hm
  refine ⟨_, _, Cert.RopeT.run_tables m g, ?_⟩
  refine (θ_run Cert.RopeTRefIdeal.defs _ _).mono (fun r h c => ⟨(h c).1.trans ?_, (h c).2.1.trans ?_, (h c).2.2⟩) (Cert.RopeTRefIdeal.Value.run m' g')
  · have h0 := hm c
    rw [h0]
    exact ext3 fun β i T => (Cert.RopeT.Ref.cosines_apply (Cert.RopeT.A0 m c) β i T).trans (Cert.RopeT.result2 m c β i T).symm
  · have h0 := hm c
    rw [h0]
    exact ext3 fun β i T => (Cert.RopeT.Ref.sines_apply (Cert.RopeT.A0 m c) β i T).trans (Cert.RopeT.result3 m c β i T).symm

theorem frame_rope_t_ref : Cert.quiescent_RopeTRefIdeal := fun m g _ =>
  (θ_run Cert.RopeTRefIdeal.defs _ _).mono (fun r h => ⟨fun c => (h c).2.2, Idealize.ShloMosaic.sem_eq_zero_of_no_sems (by decide) r.2⟩)
    (Cert.RopeTRefIdeal.Value.run (F := Ideal) m g)

/-- The tables of the rotation, compressed block by compressed block: both runs name the cosines and the signed sines of the angles. -/
theorem algebraic_rope_c : Cert.algebraic_RopeCIdeal_RopeCRefIdeal := by
  intro m g m' g' _ hm
  refine ⟨_, _, Cert.RopeC.run_tables m g, ?_⟩
  refine (θ_run Cert.RopeCRefIdeal.defs _ _).mono (fun r h c => ⟨(h c).1.trans ?_, (h c).2.1.trans ?_, (h c).2.2⟩) (Cert.RopeCRefIdeal.Value.run m' g')
  · have h0 := hm c
    rw [h0]
    exact ext2 fun R j => (Cert.RopeC.Ref.cosines_apply (Cert.RopeC.A0 m c) R j).trans (Cert.RopeC.result2 m c R j).symm
  · have h0 := hm c
    rw [h0]
    exact ext2 fun R j => (Cert.RopeC.Ref.sines_apply (Cert.RopeC.A0 m c) R j).trans (Cert.RopeC.result3 m c R j).symm

theorem frame_rope_c_ref : Cert.quiescent_RopeCRefIdeal := fun m g _ =>
  (θ_run Cert.RopeCRefIdeal.defs _ _).mono (fun r h => ⟨fun c => (h c).2.2, Idealize.ShloMosaic.sem_eq_zero_of_no_sems (by decide) r.2⟩)
    (Cert.RopeCRefIdeal.Value.run (F := Ideal) m g)

/-- The keys' preparation: both runs name the keys and values of every head, turned and laid out. -/
theorem algebraic_kv_prep : Cert.algebraic_KvPrepIdeal_KvPrepRefIdeal := by
  intro m g m' g' _ hm
  refine ⟨_, _, _, _, _, _, Cert.KvPrepIdeal.Value.run_blocks m g, ?_⟩
  refine (θ_run Cert.KvPrepRefIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.KvPrepRefIdeal.Value.run m' g')
  · obtain ⟨h0, h1, h2⟩ := hm c
    rw [h0]
    exact ext4 fun β g T e => (Cert.KvPrep.Ref.plain0 (Cert.KvPrep.A0 m c) β g T e).trans (Cert.KvPrep.result5 m c β g T e).symm
  · obtain ⟨h0, h1, h2⟩ := hm c
    rw [h0]
    exact ext4 fun β g T e => (Cert.KvPrep.Ref.plain1 (Cert.KvPrep.A0 m c) β g T e).trans (Cert.KvPrep.result6 m c β g T e).symm
  · obtain ⟨h0, h1, h2⟩ := hm c
    rw [h0, h1, h2]
    exact ext4 fun β g T q => (Cert.KvPrep.Ref.keys2 (Cert.KvPrep.A0 m c) (Cert.KvPrep.A1 m c) (Cert.KvPrep.A2 m c) β g T q).trans (Cert.KvPrep.result7 m c β g T q).symm
  · obtain ⟨h0, h1, h2⟩ := hm c
    rw [h0]
    exact ext4 fun β g v T => (Cert.KvPrep.Ref.vals3 (Cert.KvPrep.A0 m c) β g v T).trans (Cert.KvPrep.result8 m c β g v T).symm
  · obtain ⟨h0, h1, h2⟩ := hm c
    rw [h0, h1, h2]
    exact ext4 fun β g T q => (Cert.KvPrep.Ref.keys4 (Cert.KvPrep.A0 m c) (Cert.KvPrep.A1 m c) (Cert.KvPrep.A2 m c) β g T q).trans (Cert.KvPrep.result9 m c β g T q).symm
  · obtain ⟨h0, h1, h2⟩ := hm c
    rw [h0]
    exact ext4 fun β g v T => (Cert.KvPrep.Ref.vals5 (Cert.KvPrep.A0 m c) β g v T).trans (Cert.KvPrep.result10 m c β g v T).symm

theorem frame_kv_prep_ref : Cert.quiescent_KvPrepRefIdeal := fun m g _ =>
  (θ_run Cert.KvPrepRefIdeal.defs _ _).mono (fun r h => ⟨fun c => (h c).2.2.2.2.2.2, Idealize.ShloMosaic.sem_eq_zero_of_no_sems (by decide) r.2⟩)
    (Cert.KvPrepRefIdeal.Value.run (F := Ideal) m g)

theorem claim : Cert.Claim := ⟨Cert.Rglru.Gen.facts, Cert.RglruIdeal.Gen.facts, Cert.RglruRefIdeal.Gen.facts,
  Cert.Mlp.Gen.facts, Cert.MlpIdeal.Gen.facts, Cert.MlpRefIdeal.Gen.facts,
  Cert.InProj.Gen.facts, Cert.InProjIdeal.Gen.facts, Cert.InProjRefIdeal.Gen.facts,
  Cert.Merge.Gen.facts, Cert.MergeIdeal.Gen.facts, Cert.MergeRefIdeal.Gen.facts,
  Cert.MemAttn.Gen.facts, Cert.MemAttnIdeal.Gen.facts, Cert.MemAttnRefIdeal.Gen.facts,
  Cert.Norm.Gen.facts, Cert.NormIdeal.Gen.facts, Cert.NormRefIdeal.Gen.facts,
  Cert.MemKv.Gen.facts, Cert.MemKvIdeal.Gen.facts, Cert.MemKvRefIdeal.Gen.facts,
  Cert.CmpK.Gen.facts, Cert.CmpKIdeal.Gen.facts, Cert.CmpKRefIdeal.Gen.facts,
  Cert.CmpV.Gen.facts, Cert.CmpVIdeal.Gen.facts, Cert.CmpVRefIdeal.Gen.facts,
  Cert.MNorm.Gen.facts, Cert.MNormIdeal.Gen.facts, Cert.MNormRefIdeal.Gen.facts,
  Cert.Rope.Gen.facts, Cert.RopeIdeal.Gen.facts, Cert.RopeRefIdeal.Gen.facts,
  Cert.RopeT.Gen.facts, Cert.RopeTIdeal.Gen.facts, Cert.RopeTRefIdeal.Gen.facts,
  Cert.RopeC.Gen.facts, Cert.RopeCIdeal.Gen.facts, Cert.RopeCRefIdeal.Gen.facts,
  Cert.KvPrep.Gen.facts, Cert.KvPrepIdeal.Gen.facts, Cert.KvPrepRefIdeal.Gen.facts,
  fun m g _ => Cert.Rglru.Gen.frame m g, fun m g _ => Cert.RglruIdeal.Gen.frame m g, frame_rglru_ref,
  fun m g _ => Cert.Mlp.Gen.frame m g, fun m g _ => Cert.MlpIdeal.Gen.frame m g, frame_mlp_ref,
  fun m g _ => Cert.InProj.Gen.frame m g, fun m g _ => Cert.InProjIdeal.Gen.frame m g, frame_in_ref,
  fun m g _ => Cert.Merge.Gen.frame m g, fun m g _ => Cert.MergeIdeal.Gen.frame m g, frame_merge_ref,
  fun m g _ => Cert.MemAttn.Gen.frame m g, fun m g _ => Cert.MemAttnIdeal.Gen.frame m g, frame_mem_ref,
  fun m g _ => Cert.Norm.Gen.frame m g, fun m g _ => Cert.NormIdeal.Gen.frame m g, frame_norm_ref,
  fun m g _ => Cert.MemKv.Gen.frame m g, fun m g _ => Cert.MemKvIdeal.Gen.frame m g, frame_mem_kv_ref,
  fun m g _ => Cert.CmpK.Gen.frame m g, fun m g _ => Cert.CmpKIdeal.Gen.frame m g, frame_cmp_k_ref,
  fun m g _ => Cert.CmpV.Gen.frame m g, fun m g _ => Cert.CmpVIdeal.Gen.frame m g, frame_cmp_v_ref,
  fun m g _ => Cert.MNorm.Gen.frame m g, fun m g _ => Cert.MNormIdeal.Gen.frame m g, frame_mnorm_ref,
  fun m g _ => Cert.Rope.Gen.frame m g, fun m g _ => Cert.RopeIdeal.Gen.frame m g, frame_rope_ref,
  fun m g _ => Cert.RopeT.Gen.frame m g, fun m g _ => Cert.RopeTIdeal.Gen.frame m g, frame_rope_t_ref,
  fun m g _ => Cert.RopeC.Gen.frame m g, fun m g _ => Cert.RopeCIdeal.Gen.frame m g, frame_rope_c_ref,
  fun m g _ => Cert.KvPrep.Gen.frame m g, fun m g _ => Cert.KvPrepIdeal.Gen.frame m g, frame_kv_prep_ref,
  trivial, algebraic, trivial, algebraic_mlp, trivial, algebraic_in, trivial, algebraic_merge, trivial, algebraic_mem, trivial, algebraic_norm, trivial, algebraic_mem_kv, trivial, algebraic_cmp_k, trivial, algebraic_cmp_v,
  trivial, algebraic_mnorm, trivial, algebraic_rope, trivial, algebraic_rope_t, trivial, algebraic_rope_c, trivial, algebraic_kv_prep⟩

end Cert.Proof

end
